-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_gate_up_finite [hPre_gate_up_finite : Cert.Pre_gate_up_finite.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_gate_up_finite.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))).1 = (fun _ => 1#1)
    ∧ (Cert.Pre_gate_up_finite.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))).2 = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_gate_up_finite [hPre_gate_up_finite : Cert.Pre_gate_up_finite.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_gate_up_finite.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1))).1 = (fun _ => 1#1)
    ∧ (Cert.Pre_gate_up_finite.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1))).2 = (fun _ => 1#1)

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_GwGateUp (m : (ℓ : Loc Cert.GwGateUp.nD Cert.GwGateUp.τ Cert.GwGateUp.sig) → Buf (Elt Bits) ℓ) : Prop :=
  True

def Pre_GwGateUpIdeal (m : (ℓ : Loc Cert.GwGateUpIdeal.nD Cert.GwGateUpIdeal.τ Cert.GwGateUpIdeal.sig) → Buf (Elt Ideal) ℓ) : Prop :=
  True

def Pre_GwGateUpRefIdeal (m : (ℓ : Loc Cert.GwGateUpRefIdeal.nD Cert.GwGateUpRefIdeal.τ Cert.GwGateUpRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.2 = (fun _ => 1#1)

def Pre_Dgu (m : (ℓ : Loc Cert.Dgu.nD Cert.Dgu.τ Cert.Dgu.sig) → Buf (Elt Bits) ℓ) : Prop :=
  True

def Pre_DguIdeal (m : (ℓ : Loc Cert.DguIdeal.nD Cert.DguIdeal.τ Cert.DguIdeal.sig) → Buf (Elt Ideal) ℓ) : Prop :=
  True

def Pre_DguIdeal_dgu_finite [hPre_dgu_finite : Cert.Pre_dgu_finite.Facts] (m : (ℓ : Loc Cert.DguIdeal.nD Cert.DguIdeal.τ Cert.DguIdeal.sig) → Buf (Elt Ideal) ℓ) : Prop :=
  ∀ c : Dev Cert.DguIdeal.nD,
    (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).1 = (fun _ => 1#1)
    ∧ (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).2.1 = (fun _ => 1#1)
    ∧ (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).2.2.1 = (fun _ => 1#1)
    ∧ (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).2.2.2.1 = (fun _ => 1#1)
    ∧ (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).2.2.2.2.1 = (fun _ => 1#1)
    ∧ (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).2.2.2.2.2.1 = (fun _ => 1#1)
    ∧ (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).2.2.2.2.2.2.1 = (fun _ => 1#1)
    ∧ (Cert.Pre_dgu_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2)) (m ((c.tc : Thread Cert.DguIdeal.nD Cert.DguIdeal.τ).loc Cert.DguIdeal.main_arg3)) (m ((c.tc : Thread Cert.DguIdeal.nD Cert.DguIdeal.τ).loc Cert.DguIdeal.main_arg4)) (m ((c.tc : Thread Cert.DguIdeal.nD Cert.DguIdeal.τ).loc Cert.DguIdeal.main_arg5)) (m ((c.tc : Thread Cert.DguIdeal.nD Cert.DguIdeal.τ).loc Cert.DguIdeal.main_arg6)) (m ((c.tc : Thread Cert.DguIdeal.nD Cert.DguIdeal.τ).loc Cert.DguIdeal.main_arg7))).2.2.2.2.2.2.2 = (fun _ => 1#1)

def Pre_DguRefIdeal (m : (ℓ : Loc Cert.DguRefIdeal.nD Cert.DguRefIdeal.τ Cert.DguRefIdeal.sig) → Buf (Elt Ideal) ℓ) : Prop :=
  True

def Pre_DguRefIdeal_dgu_finite [hPre_dgu_finite : Cert.Pre_dgu_finite.Facts] (m : (ℓ : Loc Cert.DguRefIdeal.nD Cert.DguRefIdeal.τ Cert.DguRefIdeal.sig) → Buf (Elt Ideal) ℓ) : Prop :=
  ∀ c : Dev Cert.DguRefIdeal.nD,
    (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).1 = (fun _ => 1#1)
    ∧ (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).2.1 = (fun _ => 1#1)
    ∧ (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).2.2.1 = (fun _ => 1#1)
    ∧ (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).2.2.2.1 = (fun _ => 1#1)
    ∧ (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).2.2.2.2.1 = (fun _ => 1#1)
    ∧ (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).2.2.2.2.2.1 = (fun _ => 1#1)
    ∧ (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).2.2.2.2.2.2.1 = (fun _ => 1#1)
    ∧ (Cert.Pre_dgu_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2)) (m ((c.tc : Thread Cert.DguRefIdeal.nD Cert.DguRefIdeal.τ).loc Cert.DguRefIdeal.main_arg3)) (m ((c.tc : Thread Cert.DguRefIdeal.nD Cert.DguRefIdeal.τ).loc Cert.DguRefIdeal.main_arg4)) (m ((c.tc : Thread Cert.DguRefIdeal.nD Cert.DguRefIdeal.τ).loc Cert.DguRefIdeal.main_arg5)) (m ((c.tc : Thread Cert.DguRefIdeal.nD Cert.DguRefIdeal.τ).loc Cert.DguRefIdeal.main_arg6)) (m ((c.tc : Thread Cert.DguRefIdeal.nD Cert.DguRefIdeal.τ).loc Cert.DguRefIdeal.main_arg7))).2.2.2.2.2.2.2 = (fun _ => 1#1)

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossIdeal_down_loss_finite [hPre_down_loss_finite : Cert.Pre_down_loss_finite.Facts] (m : (ℓ : Loc Cert.DownLossIdeal.nD Cert.DownLossIdeal.τ Cert.DownLossIdeal.sig) → Buf (Elt Ideal) ℓ) : Prop :=
  ∀ c : Dev Cert.DownLossIdeal.nD,
    (Cert.Pre_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).1 = (fun _ => 1#1)
    ∧ (Cert.Pre_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.1 = (fun _ => 1#1)
    ∧ (Cert.Pre_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.1 = (fun _ => 1#1)
    ∧ (Cert.Pre_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.1 = (fun _ => 1#1)
    ∧ (Cert.Pre_down_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.2 = (fun _ => 1#1)

def Pre_DownLossRefIdeal (m : (ℓ : Loc Cert.DownLossRefIdeal.nD Cert.DownLossRefIdeal.τ Cert.DownLossRefIdeal.sig) → Buf (Elt Ideal) ℓ) : Prop :=
  True

def Pre_DownLossRefIdeal_down_loss_finite [hPre_down_loss_finite : Cert.Pre_down_loss_finite.Facts] (m : (ℓ : Loc Cert.DownLossRefIdeal.nD Cert.DownLossRefIdeal.τ Cert.DownLossRefIdeal.sig) → Buf (Elt Ideal) ℓ) : Prop :=
  ∀ c : Dev Cert.DownLossRefIdeal.nD,
    (Cert.Pre_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).1 = (fun _ => 1#1)
    ∧ (Cert.Pre_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.1 = (fun _ => 1#1)
    ∧ (Cert.Pre_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.1 = (fun _ => 1#1)
    ∧ (Cert.Pre_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.1 = (fun _ => 1#1)
    ∧ (Cert.Pre_down_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinIdeal_din_finite [hPre_din_finite : Cert.Pre_din_finite.Facts] (m : (ℓ : Loc Cert.DinIdeal.nD Cert.DinIdeal.τ Cert.DinIdeal.sig) → Buf (Elt Ideal) ℓ) : Prop :=
  ∀ c : Dev Cert.DinIdeal.nD,
    (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.2.2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.2.2.2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.2.2.2.2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5)) (m ((c.tc : Thread Cert.DinIdeal.nD Cert.DinIdeal.τ).loc Cert.DinIdeal.main_arg6)) (m ((c.tc : Thread Cert.DinIdeal.nD Cert.DinIdeal.τ).loc Cert.DinIdeal.main_arg7)) (m ((c.tc : Thread Cert.DinIdeal.nD Cert.DinIdeal.τ).loc Cert.DinIdeal.main_arg8)) (m ((c.tc : Thread Cert.DinIdeal.nD Cert.DinIdeal.τ).loc Cert.DinIdeal.main_arg9)) (m ((c.tc : Thread Cert.DinIdeal.nD Cert.DinIdeal.τ).loc Cert.DinIdeal.main_arg10))).2.2.2.2.2.2.2.2.2.2 = (fun _ => 1#1)

def Pre_DinRefIdeal (m : (ℓ : Loc Cert.DinRefIdeal.nD Cert.DinRefIdeal.τ Cert.DinRefIdeal.sig) → Buf (Elt Ideal) ℓ) : Prop :=
  True

def Pre_DinRefIdeal_din_finite [hPre_din_finite : Cert.Pre_din_finite.Facts] (m : (ℓ : Loc Cert.DinRefIdeal.nD Cert.DinRefIdeal.τ Cert.DinRefIdeal.sig) → Buf (Elt Ideal) ℓ) : Prop :=
  ∀ c : Dev Cert.DinRefIdeal.nD,
    (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.2.2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.2.2.2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.2.2.2.2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5)) (m ((c.tc : Thread Cert.DinRefIdeal.nD Cert.DinRefIdeal.τ).loc Cert.DinRefIdeal.main_arg6)) (m ((c.tc : Thread Cert.DinRefIdeal.nD Cert.DinRefIdeal.τ).loc Cert.DinRefIdeal.main_arg7)) (m ((c.tc : Thread Cert.DinRefIdeal.nD Cert.DinRefIdeal.τ).loc Cert.DinRefIdeal.main_arg8)) (m ((c.tc : Thread Cert.DinRefIdeal.nD Cert.DinRefIdeal.τ).loc Cert.DinRefIdeal.main_arg9)) (m ((c.tc : Thread Cert.DinRefIdeal.nD Cert.DinRefIdeal.τ).loc Cert.DinRefIdeal.main_arg10))).2.2.2.2.2.2.2.2.2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallIdeal_small_finite [hPre_small_finite : Cert.Pre_small_finite.Facts] (m : (ℓ : Loc Cert.SmallIdeal.nD Cert.SmallIdeal.τ Cert.SmallIdeal.sig) → Buf (Elt Ideal) ℓ) : Prop :=
  ∀ c : Dev Cert.SmallIdeal.nD,
    (Cert.Pre_small_finite.fn (F := Ideal) (m ((c.tc : Thread Cert.SmallIdeal.nD Cert.SmallIdeal.τ).loc Cert.SmallIdeal.main_arg0)) (m ((c.tc : Thread Cert.SmallIdeal.nD Cert.SmallIdeal.τ).loc Cert.SmallIdeal.main_arg1)) (m ((c.tc : Thread Cert.SmallIdeal.nD Cert.SmallIdeal.τ).loc Cert.SmallIdeal.main_arg2)) (m ((c.tc : Thread Cert.SmallIdeal.nD Cert.SmallIdeal.τ).loc Cert.SmallIdeal.main_arg3)) (m ((c.tc : Thread Cert.SmallIdeal.nD Cert.SmallIdeal.τ).loc Cert.SmallIdeal.main_arg4)) (m ((c.tc : Thread Cert.SmallIdeal.nD Cert.SmallIdeal.τ).loc Cert.SmallIdeal.main_arg5)) (m ((c.tc : Thread Cert.SmallIdeal.nD Cert.SmallIdeal.τ).loc Cert.SmallIdeal.main_arg6)) (m ((c.tc : Thread Cert.SmallIdeal.nD Cert.SmallIdeal.τ).loc Cert.SmallIdeal.main_arg7)) (m ((c.tc : Thread Cert.SmallIdeal.nD Cert.SmallIdeal.τ).loc Cert.SmallIdeal.main_arg8)) (m ((c.tc : Thread Cert.SmallIdeal.nD Cert.SmallIdeal.τ).loc Cert.SmallIdeal.main_arg9)) (m ((c.tc : Thread Cert.SmallIdeal.nD Cert.SmallIdeal.τ).loc Cert.SmallIdeal.main_arg10)) (m ((c.tc : Thread Cert.SmallIdeal.nD Cert.SmallIdeal.τ).loc Cert.SmallIdeal.main_arg11)) (m ((c.tc : Thread Cert.SmallIdeal.nD Cert.SmallIdeal.τ).loc Cert.SmallIdeal.main_arg12)) (m ((c.tc : Thread Cert.SmallIdeal.nD Cert.SmallIdeal.τ).loc Cert.SmallIdeal.main_arg13)) (m ((c.tc : Thread Cert.SmallIdeal.nD Cert.SmallIdeal.τ).loc Cert.SmallIdeal.main_arg14)) (m ((c.tc : Thread Cert.SmallIdeal.nD Cert.SmallIdeal.τ).loc Cert.SmallIdeal.main_arg15))).1 = (fun _ => 1#1)
    ∧ (Cert.Pre_small_finite.fn (F := Ideal) (m ((c.tc : Thread Cert.SmallIdeal.nD Cert.SmallIdeal.τ).loc Cert.SmallIdeal.main_arg0)) (m ((c.tc : Thread Cert.SmallIdeal.nD Cert.SmallIdeal.τ).loc Cert.SmallIdeal.main_arg1)) (m ((c.tc : Thread Cert.SmallIdeal.nD Cert.SmallIdeal.τ).loc Cert.SmallIdeal.main_arg2)) (m ((c.tc : Thread Cert.SmallIdeal.nD Cert.SmallIdeal.τ).loc Cert.SmallIdeal.main_arg3)) (m ((c.tc : Thread Cert.SmallIdeal.nD Cert.SmallIdeal.τ).loc Cert.SmallIdeal.main_arg4)) (m ((c.tc : Thread Cert.SmallIdeal.nD Cert.SmallIdeal.τ).loc Cert.SmallIdeal.main_arg5)) (m ((c.tc : Thread Cert.SmallIdeal.nD Cert.SmallIdeal.τ).loc Cert.SmallIdeal.main_arg6)) (m ((c.tc : Thread Cert.SmallIdeal.nD Cert.SmallIdeal.τ).loc Cert.SmallIdeal.main_arg7)) (m ((c.tc : Thread Cert.SmallIdeal.nD Cert.SmallIdeal.τ).loc Cert.SmallIdeal.main_arg8)) (m ((c.tc : Thread Cert.SmallIdeal.nD Cert.SmallIdeal.τ).loc Cert.SmallIdeal.main_arg9)) (m ((c.tc : Thread Cert.SmallIdeal.nD Cert.SmallIdeal.τ).loc Cert.SmallIdeal.main_arg10)) (m ((c.tc : Thread Cert.SmallIdeal.nD Cert.SmallIdeal.τ).loc Cert.SmallIdeal.main_arg11)) (m ((c.tc : Thread Cert.SmallIdeal.nD Cert.SmallIdeal.τ).loc Cert.SmallIdeal.main_arg12)) (m ((c.tc : Thread Cert.SmallIdeal.nD Cert.SmallIdeal.τ).loc Cert.SmallIdeal.main_arg13)) (m ((c.tc : Thread Cert.SmallIdeal.nD Cert.SmallIdeal.τ).loc Cert.SmallIdeal.main_arg14)) (m ((c.tc : Thread Cert.SmallIdeal.nD Cert.SmallIdeal.τ).loc Cert.SmallIdeal.main_arg15))).2 = (fun _ => 1#1)

def Pre_SmallRefIdeal (m : (ℓ : Loc Cert.SmallRefIdeal.nD Cert.SmallRefIdeal.τ Cert.SmallRefIdeal.sig) → Buf (Elt Ideal) ℓ) : Prop :=
  True

def Pre_SmallRefIdeal_small_finite [hPre_small_finite : Cert.Pre_small_finite.Facts] (m : (ℓ : Loc Cert.SmallRefIdeal.nD Cert.SmallRefIdeal.τ Cert.SmallRefIdeal.sig) → Buf (Elt Ideal) ℓ) : Prop :=
  ∀ c : Dev Cert.SmallRefIdeal.nD,
    (Cert.Pre_small_finite.fn (F := Ideal) (m ((c.tc : Thread Cert.SmallRefIdeal.nD Cert.SmallRefIdeal.τ).loc Cert.SmallRefIdeal.main_arg0)) (m ((c.tc : Thread Cert.SmallRefIdeal.nD Cert.SmallRefIdeal.τ).loc Cert.SmallRefIdeal.main_arg1)) (m ((c.tc : Thread Cert.SmallRefIdeal.nD Cert.SmallRefIdeal.τ).loc Cert.SmallRefIdeal.main_arg2)) (m ((c.tc : Thread Cert.SmallRefIdeal.nD Cert.SmallRefIdeal.τ).loc Cert.SmallRefIdeal.main_arg3)) (m ((c.tc : Thread Cert.SmallRefIdeal.nD Cert.SmallRefIdeal.τ).loc Cert.SmallRefIdeal.main_arg4)) (m ((c.tc : Thread Cert.SmallRefIdeal.nD Cert.SmallRefIdeal.τ).loc Cert.SmallRefIdeal.main_arg5)) (m ((c.tc : Thread Cert.SmallRefIdeal.nD Cert.SmallRefIdeal.τ).loc Cert.SmallRefIdeal.main_arg6)) (m ((c.tc : Thread Cert.SmallRefIdeal.nD Cert.SmallRefIdeal.τ).loc Cert.SmallRefIdeal.main_arg7)) (m ((c.tc : Thread Cert.SmallRefIdeal.nD Cert.SmallRefIdeal.τ).loc Cert.SmallRefIdeal.main_arg8)) (m ((c.tc : Thread Cert.SmallRefIdeal.nD Cert.SmallRefIdeal.τ).loc Cert.SmallRefIdeal.main_arg9)) (m ((c.tc : Thread Cert.SmallRefIdeal.nD Cert.SmallRefIdeal.τ).loc Cert.SmallRefIdeal.main_arg10)) (m ((c.tc : Thread Cert.SmallRefIdeal.nD Cert.SmallRefIdeal.τ).loc Cert.SmallRefIdeal.main_arg11)) (m ((c.tc : Thread Cert.SmallRefIdeal.nD Cert.SmallRefIdeal.τ).loc Cert.SmallRefIdeal.main_arg12)) (m ((c.tc : Thread Cert.SmallRefIdeal.nD Cert.SmallRefIdeal.τ).loc Cert.SmallRefIdeal.main_arg13)) (m ((c.tc : Thread Cert.SmallRefIdeal.nD Cert.SmallRefIdeal.τ).loc Cert.SmallRefIdeal.main_arg14)) (m ((c.tc : Thread Cert.SmallRefIdeal.nD Cert.SmallRefIdeal.τ).loc Cert.SmallRefIdeal.main_arg15))).1 = (fun _ => 1#1)
    ∧ (Cert.Pre_small_finite.fn (F := Ideal) (m ((c.tc : Thread Cert.SmallRefIdeal.nD Cert.SmallRefIdeal.τ).loc Cert.SmallRefIdeal.main_arg0)) (m ((c.tc : Thread Cert.SmallRefIdeal.nD Cert.SmallRefIdeal.τ).loc Cert.SmallRefIdeal.main_arg1)) (m ((c.tc : Thread Cert.SmallRefIdeal.nD Cert.SmallRefIdeal.τ).loc Cert.SmallRefIdeal.main_arg2)) (m ((c.tc : Thread Cert.SmallRefIdeal.nD Cert.SmallRefIdeal.τ).loc Cert.SmallRefIdeal.main_arg3)) (m ((c.tc : Thread Cert.SmallRefIdeal.nD Cert.SmallRefIdeal.τ).loc Cert.SmallRefIdeal.main_arg4)) (m ((c.tc : Thread Cert.SmallRefIdeal.nD Cert.SmallRefIdeal.τ).loc Cert.SmallRefIdeal.main_arg5)) (m ((c.tc : Thread Cert.SmallRefIdeal.nD Cert.SmallRefIdeal.τ).loc Cert.SmallRefIdeal.main_arg6)) (m ((c.tc : Thread Cert.SmallRefIdeal.nD Cert.SmallRefIdeal.τ).loc Cert.SmallRefIdeal.main_arg7)) (m ((c.tc : Thread Cert.SmallRefIdeal.nD Cert.SmallRefIdeal.τ).loc Cert.SmallRefIdeal.main_arg8)) (m ((c.tc : Thread Cert.SmallRefIdeal.nD Cert.SmallRefIdeal.τ).loc Cert.SmallRefIdeal.main_arg9)) (m ((c.tc : Thread Cert.SmallRefIdeal.nD Cert.SmallRefIdeal.τ).loc Cert.SmallRefIdeal.main_arg10)) (m ((c.tc : Thread Cert.SmallRefIdeal.nD Cert.SmallRefIdeal.τ).loc Cert.SmallRefIdeal.main_arg11)) (m ((c.tc : Thread Cert.SmallRefIdeal.nD Cert.SmallRefIdeal.τ).loc Cert.SmallRefIdeal.main_arg12)) (m ((c.tc : Thread Cert.SmallRefIdeal.nD Cert.SmallRefIdeal.τ).loc Cert.SmallRefIdeal.main_arg13)) (m ((c.tc : Thread Cert.SmallRefIdeal.nD Cert.SmallRefIdeal.τ).loc Cert.SmallRefIdeal.main_arg14)) (m ((c.tc : Thread Cert.SmallRefIdeal.nD Cert.SmallRefIdeal.τ).loc Cert.SmallRefIdeal.main_arg15))).2 = (fun _ => 1#1)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpIdeal_pre_gate_up_finite [hGateUpIdeal : Cert.GateUpIdeal.Facts] [hPre_gate_up_finite : Cert.Pre_gate_up_finite.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_gate_up_finite m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_GateUpRefIdeal_pre_gate_up_finite [hGateUpRefIdeal : Cert.GateUpRefIdeal.Facts] [hPre_gate_up_finite : Cert.Pre_gate_up_finite.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_gate_up_finite m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_GwGateUp [hGwGateUp : Cert.GwGateUp.Facts] : Prop :=
  ∀ (m : (ℓ : Loc Cert.GwGateUp.nD Cert.GwGateUp.τ Cert.GwGateUp.sig) → Buf (Elt Bits) ℓ) (g : Dev Cert.GwGateUp.nD → PrngReg), Pre_GwGateUp m →
    θ_run (Cert.GwGateUp.defs (F := Bits)) (onTc (τ := Cert.GwGateUp.τ) (Cert.GwGateUp.main (F := Bits))) ⟨m, fun _ => 0, g⟩ (fun r => (∀ c : Dev Cert.GwGateUp.nD,
      r.2.mem ((c.tc : Thread Cert.GwGateUp.nD Cert.GwGateUp.τ).loc Cert.GwGateUp.main_arg0) = m ((c.tc : Thread Cert.GwGateUp.nD Cert.GwGateUp.τ).loc Cert.GwGateUp.main_arg0)
      ∧ r.2.mem ((c.tc : Thread Cert.GwGateUp.nD Cert.GwGateUp.τ).loc Cert.GwGateUp.main_arg1) = m ((c.tc : Thread Cert.GwGateUp.nD Cert.GwGateUp.τ).loc Cert.GwGateUp.main_arg1)
      ∧ r.2.mem ((c.tc : Thread Cert.GwGateUp.nD Cert.GwGateUp.τ).loc Cert.GwGateUp.main_arg2) = m ((c.tc : Thread Cert.GwGateUp.nD Cert.GwGateUp.τ).loc Cert.GwGateUp.main_arg2))
      ∧ r.2.sem = fun _ => 0)

def quiescent_GwGateUpIdeal [hGwGateUpIdeal : Cert.GwGateUpIdeal.Facts] : Prop :=
  ∀ (m : (ℓ : Loc Cert.GwGateUpIdeal.nD Cert.GwGateUpIdeal.τ Cert.GwGateUpIdeal.sig) → Buf (Elt Ideal) ℓ) (g : Dev Cert.GwGateUpIdeal.nD → PrngReg), Pre_GwGateUpIdeal m →
    θ_run (Cert.GwGateUpIdeal.defs (F := Ideal)) (onTc (τ := Cert.GwGateUpIdeal.τ) (Cert.GwGateUpIdeal.main (F := Ideal))) ⟨m, fun _ => 0, g⟩ (fun r => (∀ c : Dev Cert.GwGateUpIdeal.nD,
      r.2.mem ((c.tc : Thread Cert.GwGateUpIdeal.nD Cert.GwGateUpIdeal.τ).loc Cert.GwGateUpIdeal.main_arg0) = m ((c.tc : Thread Cert.GwGateUpIdeal.nD Cert.GwGateUpIdeal.τ).loc Cert.GwGateUpIdeal.main_arg0)
      ∧ r.2.mem ((c.tc : Thread Cert.GwGateUpIdeal.nD Cert.GwGateUpIdeal.τ).loc Cert.GwGateUpIdeal.main_arg1) = m ((c.tc : Thread Cert.GwGateUpIdeal.nD Cert.GwGateUpIdeal.τ).loc Cert.GwGateUpIdeal.main_arg1)
      ∧ r.2.mem ((c.tc : Thread Cert.GwGateUpIdeal.nD Cert.GwGateUpIdeal.τ).loc Cert.GwGateUpIdeal.main_arg2) = m ((c.tc : Thread Cert.GwGateUpIdeal.nD Cert.GwGateUpIdeal.τ).loc Cert.GwGateUpIdeal.main_arg2))
      ∧ r.2.sem = fun _ => 0)

def quiescent_GwGateUpRefIdeal [hGwGateUpRefIdeal : Cert.GwGateUpRefIdeal.Facts] : Prop :=
  ∀ (m : (ℓ : Loc Cert.GwGateUpRefIdeal.nD Cert.GwGateUpRefIdeal.τ Cert.GwGateUpRefIdeal.sig) → Buf (Elt Ideal) ℓ) (g : Dev Cert.GwGateUpRefIdeal.nD → PrngReg), Pre_GwGateUpRefIdeal m →
    θ_run (Cert.GwGateUpRefIdeal.defs (F := Ideal)) (onTc (τ := Cert.GwGateUpRefIdeal.τ) (Cert.GwGateUpRefIdeal.main (F := Ideal))) ⟨m, fun _ => 0, g⟩ (fun r => (∀ c : Dev Cert.GwGateUpRefIdeal.nD,
      r.2.mem ((c.tc : Thread Cert.GwGateUpRefIdeal.nD Cert.GwGateUpRefIdeal.τ).loc Cert.GwGateUpRefIdeal.main_arg0) = m ((c.tc : Thread Cert.GwGateUpRefIdeal.nD Cert.GwGateUpRefIdeal.τ).loc Cert.GwGateUpRefIdeal.main_arg0)
      ∧ r.2.mem ((c.tc : Thread Cert.GwGateUpRefIdeal.nD Cert.GwGateUpRefIdeal.τ).loc Cert.GwGateUpRefIdeal.main_arg1) = m ((c.tc : Thread Cert.GwGateUpRefIdeal.nD Cert.GwGateUpRefIdeal.τ).loc Cert.GwGateUpRefIdeal.main_arg1)
      ∧ r.2.mem ((c.tc : Thread Cert.GwGateUpRefIdeal.nD Cert.GwGateUpRefIdeal.τ).loc Cert.GwGateUpRefIdeal.main_arg2) = m ((c.tc : Thread Cert.GwGateUpRefIdeal.nD Cert.GwGateUpRefIdeal.τ).loc Cert.GwGateUpRefIdeal.main_arg2))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dgu [hDgu : Cert.Dgu.Facts] : Prop :=
  ∀ (m : (ℓ : Loc Cert.Dgu.nD Cert.Dgu.τ Cert.Dgu.sig) → Buf (Elt Bits) ℓ) (g : Dev Cert.Dgu.nD → PrngReg), Pre_Dgu m →
    θ_run (Cert.Dgu.defs (F := Bits)) (onTc (τ := Cert.Dgu.τ) (Cert.Dgu.main (F := Bits))) ⟨m, fun _ => 0, g⟩ (fun r => (∀ c : Dev Cert.Dgu.nD,
      r.2.mem ((c.tc : Thread Cert.Dgu.nD Cert.Dgu.τ).loc Cert.Dgu.main_arg0) = m ((c.tc : Thread Cert.Dgu.nD Cert.Dgu.τ).loc Cert.Dgu.main_arg0)
      ∧ r.2.mem ((c.tc : Thread Cert.Dgu.nD Cert.Dgu.τ).loc Cert.Dgu.main_arg1) = m ((c.tc : Thread Cert.Dgu.nD Cert.Dgu.τ).loc Cert.Dgu.main_arg1)
      ∧ r.2.mem ((c.tc : Thread Cert.Dgu.nD Cert.Dgu.τ).loc Cert.Dgu.main_arg2) = m ((c.tc : Thread Cert.Dgu.nD Cert.Dgu.τ).loc Cert.Dgu.main_arg2)
      ∧ r.2.mem ((c.tc : Thread Cert.Dgu.nD Cert.Dgu.τ).loc Cert.Dgu.main_arg3) = m ((c.tc : Thread Cert.Dgu.nD Cert.Dgu.τ).loc Cert.Dgu.main_arg3)
      ∧ r.2.mem ((c.tc : Thread Cert.Dgu.nD Cert.Dgu.τ).loc Cert.Dgu.main_arg4) = m ((c.tc : Thread Cert.Dgu.nD Cert.Dgu.τ).loc Cert.Dgu.main_arg4)
      ∧ r.2.mem ((c.tc : Thread Cert.Dgu.nD Cert.Dgu.τ).loc Cert.Dgu.main_arg5) = m ((c.tc : Thread Cert.Dgu.nD Cert.Dgu.τ).loc Cert.Dgu.main_arg5)
      ∧ r.2.mem ((c.tc : Thread Cert.Dgu.nD Cert.Dgu.τ).loc Cert.Dgu.main_arg6) = m ((c.tc : Thread Cert.Dgu.nD Cert.Dgu.τ).loc Cert.Dgu.main_arg6)
      ∧ r.2.mem ((c.tc : Thread Cert.Dgu.nD Cert.Dgu.τ).loc Cert.Dgu.main_arg7) = m ((c.tc : Thread Cert.Dgu.nD Cert.Dgu.τ).loc Cert.Dgu.main_arg7))
      ∧ r.2.sem = fun _ => 0)

def quiescent_DguIdeal [hDguIdeal : Cert.DguIdeal.Facts] : Prop :=
  ∀ (m : (ℓ : Loc Cert.DguIdeal.nD Cert.DguIdeal.τ Cert.DguIdeal.sig) → Buf (Elt Ideal) ℓ) (g : Dev Cert.DguIdeal.nD → PrngReg), Pre_DguIdeal m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2)
      ∧ r.2.mem ((c.tc : Thread Cert.DguIdeal.nD Cert.DguIdeal.τ).loc Cert.DguIdeal.main_arg3) = m ((c.tc : Thread Cert.DguIdeal.nD Cert.DguIdeal.τ).loc Cert.DguIdeal.main_arg3)
      ∧ r.2.mem ((c.tc : Thread Cert.DguIdeal.nD Cert.DguIdeal.τ).loc Cert.DguIdeal.main_arg4) = m ((c.tc : Thread Cert.DguIdeal.nD Cert.DguIdeal.τ).loc Cert.DguIdeal.main_arg4)
      ∧ r.2.mem ((c.tc : Thread Cert.DguIdeal.nD Cert.DguIdeal.τ).loc Cert.DguIdeal.main_arg5) = m ((c.tc : Thread Cert.DguIdeal.nD Cert.DguIdeal.τ).loc Cert.DguIdeal.main_arg5)
      ∧ r.2.mem ((c.tc : Thread Cert.DguIdeal.nD Cert.DguIdeal.τ).loc Cert.DguIdeal.main_arg6) = m ((c.tc : Thread Cert.DguIdeal.nD Cert.DguIdeal.τ).loc Cert.DguIdeal.main_arg6)
      ∧ r.2.mem ((c.tc : Thread Cert.DguIdeal.nD Cert.DguIdeal.τ).loc Cert.DguIdeal.main_arg7) = m ((c.tc : Thread Cert.DguIdeal.nD Cert.DguIdeal.τ).loc Cert.DguIdeal.main_arg7))
      ∧ r.2.sem = fun _ => 0)

def quiescent_DguIdeal_pre_dgu_finite [hDguIdeal : Cert.DguIdeal.Facts] [hPre_dgu_finite : Cert.Pre_dgu_finite.Facts] : Prop :=
  ∀ (m : (ℓ : Loc Cert.DguIdeal.nD Cert.DguIdeal.τ Cert.DguIdeal.sig) → Buf (Elt Ideal) ℓ) (g : Dev Cert.DguIdeal.nD → PrngReg), Pre_DguIdeal_dgu_finite m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2)
      ∧ r.2.mem ((c.tc : Thread Cert.DguIdeal.nD Cert.DguIdeal.τ).loc Cert.DguIdeal.main_arg3) = m ((c.tc : Thread Cert.DguIdeal.nD Cert.DguIdeal.τ).loc Cert.DguIdeal.main_arg3)
      ∧ r.2.mem ((c.tc : Thread Cert.DguIdeal.nD Cert.DguIdeal.τ).loc Cert.DguIdeal.main_arg4) = m ((c.tc : Thread Cert.DguIdeal.nD Cert.DguIdeal.τ).loc Cert.DguIdeal.main_arg4)
      ∧ r.2.mem ((c.tc : Thread Cert.DguIdeal.nD Cert.DguIdeal.τ).loc Cert.DguIdeal.main_arg5) = m ((c.tc : Thread Cert.DguIdeal.nD Cert.DguIdeal.τ).loc Cert.DguIdeal.main_arg5)
      ∧ r.2.mem ((c.tc : Thread Cert.DguIdeal.nD Cert.DguIdeal.τ).loc Cert.DguIdeal.main_arg6) = m ((c.tc : Thread Cert.DguIdeal.nD Cert.DguIdeal.τ).loc Cert.DguIdeal.main_arg6)
      ∧ r.2.mem ((c.tc : Thread Cert.DguIdeal.nD Cert.DguIdeal.τ).loc Cert.DguIdeal.main_arg7) = m ((c.tc : Thread Cert.DguIdeal.nD Cert.DguIdeal.τ).loc Cert.DguIdeal.main_arg7))
      ∧ r.2.sem = fun _ => 0)

def quiescent_DguRefIdeal [hDguRefIdeal : Cert.DguRefIdeal.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2)
      ∧ r.2.mem ((c.tc : Thread Cert.DguRefIdeal.nD Cert.DguRefIdeal.τ).loc Cert.DguRefIdeal.main_arg3) = m ((c.tc : Thread Cert.DguRefIdeal.nD Cert.DguRefIdeal.τ).loc Cert.DguRefIdeal.main_arg3)
      ∧ r.2.mem ((c.tc : Thread Cert.DguRefIdeal.nD Cert.DguRefIdeal.τ).loc Cert.DguRefIdeal.main_arg4) = m ((c.tc : Thread Cert.DguRefIdeal.nD Cert.DguRefIdeal.τ).loc Cert.DguRefIdeal.main_arg4)
      ∧ r.2.mem ((c.tc : Thread Cert.DguRefIdeal.nD Cert.DguRefIdeal.τ).loc Cert.DguRefIdeal.main_arg5) = m ((c.tc : Thread Cert.DguRefIdeal.nD Cert.DguRefIdeal.τ).loc Cert.DguRefIdeal.main_arg5)
      ∧ r.2.mem ((c.tc : Thread Cert.DguRefIdeal.nD Cert.DguRefIdeal.τ).loc Cert.DguRefIdeal.main_arg6) = m ((c.tc : Thread Cert.DguRefIdeal.nD Cert.DguRefIdeal.τ).loc Cert.DguRefIdeal.main_arg6)
      ∧ r.2.mem ((c.tc : Thread Cert.DguRefIdeal.nD Cert.DguRefIdeal.τ).loc Cert.DguRefIdeal.main_arg7) = m ((c.tc : Thread Cert.DguRefIdeal.nD Cert.DguRefIdeal.τ).loc Cert.DguRefIdeal.main_arg7))
      ∧ r.2.sem = fun _ => 0)

def quiescent_DguRefIdeal_pre_dgu_finite [hDguRefIdeal : Cert.DguRefIdeal.Facts] [hPre_dgu_finite : Cert.Pre_dgu_finite.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal_dgu_finite m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2)
      ∧ r.2.mem ((c.tc : Thread Cert.DguRefIdeal.nD Cert.DguRefIdeal.τ).loc Cert.DguRefIdeal.main_arg3) = m ((c.tc : Thread Cert.DguRefIdeal.nD Cert.DguRefIdeal.τ).loc Cert.DguRefIdeal.main_arg3)
      ∧ r.2.mem ((c.tc : Thread Cert.DguRefIdeal.nD Cert.DguRefIdeal.τ).loc Cert.DguRefIdeal.main_arg4) = m ((c.tc : Thread Cert.DguRefIdeal.nD Cert.DguRefIdeal.τ).loc Cert.DguRefIdeal.main_arg4)
      ∧ r.2.mem ((c.tc : Thread Cert.DguRefIdeal.nD Cert.DguRefIdeal.τ).loc Cert.DguRefIdeal.main_arg5) = m ((c.tc : Thread Cert.DguRefIdeal.nD Cert.DguRefIdeal.τ).loc Cert.DguRefIdeal.main_arg5)
      ∧ r.2.mem ((c.tc : Thread Cert.DguRefIdeal.nD Cert.DguRefIdeal.τ).loc Cert.DguRefIdeal.main_arg6) = m ((c.tc : Thread Cert.DguRefIdeal.nD Cert.DguRefIdeal.τ).loc Cert.DguRefIdeal.main_arg6)
      ∧ r.2.mem ((c.tc : Thread Cert.DguRefIdeal.nD Cert.DguRefIdeal.τ).loc Cert.DguRefIdeal.main_arg7) = m ((c.tc : Thread Cert.DguRefIdeal.nD Cert.DguRefIdeal.τ).loc Cert.DguRefIdeal.main_arg7))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossIdeal_pre_down_loss_finite [hDownLossIdeal : Cert.DownLossIdeal.Facts] [hPre_down_loss_finite : Cert.Pre_down_loss_finite.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal_down_loss_finite m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_DownLossRefIdeal_pre_down_loss_finite [hDownLossRefIdeal : Cert.DownLossRefIdeal.Facts] [hPre_down_loss_finite : Cert.Pre_down_loss_finite.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal_down_loss_finite m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4)
      ∧ r.2.mem ((c.tc : Thread Cert.Din.nD Cert.Din.τ).loc Cert.Din.main_arg5) = m ((c.tc : Thread Cert.Din.nD Cert.Din.τ).loc Cert.Din.main_arg5)
      ∧ r.2.mem ((c.tc : Thread Cert.Din.nD Cert.Din.τ).loc Cert.Din.main_arg6) = m ((c.tc : Thread Cert.Din.nD Cert.Din.τ).loc Cert.Din.main_arg6)
      ∧ r.2.mem ((c.tc : Thread Cert.Din.nD Cert.Din.τ).loc Cert.Din.main_arg7) = m ((c.tc : Thread Cert.Din.nD Cert.Din.τ).loc Cert.Din.main_arg7)
      ∧ r.2.mem ((c.tc : Thread Cert.Din.nD Cert.Din.τ).loc Cert.Din.main_arg8) = m ((c.tc : Thread Cert.Din.nD Cert.Din.τ).loc Cert.Din.main_arg8)
      ∧ r.2.mem ((c.tc : Thread Cert.Din.nD Cert.Din.τ).loc Cert.Din.main_arg9) = m ((c.tc : Thread Cert.Din.nD Cert.Din.τ).loc Cert.Din.main_arg9)
      ∧ r.2.mem ((c.tc : Thread Cert.Din.nD Cert.Din.τ).loc Cert.Din.main_arg10) = m ((c.tc : Thread Cert.Din.nD Cert.Din.τ).loc Cert.Din.main_arg10))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
      ∧ r.2.mem ((c.tc : Thread Cert.DinIdeal.nD Cert.DinIdeal.τ).loc Cert.DinIdeal.main_arg5) = m ((c.tc : Thread Cert.DinIdeal.nD Cert.DinIdeal.τ).loc Cert.DinIdeal.main_arg5)
      ∧ r.2.mem ((c.tc : Thread Cert.DinIdeal.nD Cert.DinIdeal.τ).loc Cert.DinIdeal.main_arg6) = m ((c.tc : Thread Cert.DinIdeal.nD Cert.DinIdeal.τ).loc Cert.DinIdeal.main_arg6)
      ∧ r.2.mem ((c.tc : Thread Cert.DinIdeal.nD Cert.DinIdeal.τ).loc Cert.DinIdeal.main_arg7) = m ((c.tc : Thread Cert.DinIdeal.nD Cert.DinIdeal.τ).loc Cert.DinIdeal.main_arg7)
      ∧ r.2.mem ((c.tc : Thread Cert.DinIdeal.nD Cert.DinIdeal.τ).loc Cert.DinIdeal.main_arg8) = m ((c.tc : Thread Cert.DinIdeal.nD Cert.DinIdeal.τ).loc Cert.DinIdeal.main_arg8)
      ∧ r.2.mem ((c.tc : Thread Cert.DinIdeal.nD Cert.DinIdeal.τ).loc Cert.DinIdeal.main_arg9) = m ((c.tc : Thread Cert.DinIdeal.nD Cert.DinIdeal.τ).loc Cert.DinIdeal.main_arg9)
      ∧ r.2.mem ((c.tc : Thread Cert.DinIdeal.nD Cert.DinIdeal.τ).loc Cert.DinIdeal.main_arg10) = m ((c.tc : Thread Cert.DinIdeal.nD Cert.DinIdeal.τ).loc Cert.DinIdeal.main_arg10))
      ∧ r.2.sem = fun _ => 0)

def quiescent_DinIdeal_pre_din_finite [hDinIdeal : Cert.DinIdeal.Facts] [hPre_din_finite : Cert.Pre_din_finite.Facts] : Prop :=
  ∀ (m : (ℓ : Loc Cert.DinIdeal.nD Cert.DinIdeal.τ Cert.DinIdeal.sig) → Buf (Elt Ideal) ℓ) (g : Dev Cert.DinIdeal.nD → PrngReg), Pre_DinIdeal_din_finite m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
      ∧ r.2.mem ((c.tc : Thread Cert.DinIdeal.nD Cert.DinIdeal.τ).loc Cert.DinIdeal.main_arg5) = m ((c.tc : Thread Cert.DinIdeal.nD Cert.DinIdeal.τ).loc Cert.DinIdeal.main_arg5)
      ∧ r.2.mem ((c.tc : Thread Cert.DinIdeal.nD Cert.DinIdeal.τ).loc Cert.DinIdeal.main_arg6) = m ((c.tc : Thread Cert.DinIdeal.nD Cert.DinIdeal.τ).loc Cert.DinIdeal.main_arg6)
      ∧ r.2.mem ((c.tc : Thread Cert.DinIdeal.nD Cert.DinIdeal.τ).loc Cert.DinIdeal.main_arg7) = m ((c.tc : Thread Cert.DinIdeal.nD Cert.DinIdeal.τ).loc Cert.DinIdeal.main_arg7)
      ∧ r.2.mem ((c.tc : Thread Cert.DinIdeal.nD Cert.DinIdeal.τ).loc Cert.DinIdeal.main_arg8) = m ((c.tc : Thread Cert.DinIdeal.nD Cert.DinIdeal.τ).loc Cert.DinIdeal.main_arg8)
      ∧ r.2.mem ((c.tc : Thread Cert.DinIdeal.nD Cert.DinIdeal.τ).loc Cert.DinIdeal.main_arg9) = m ((c.tc : Thread Cert.DinIdeal.nD Cert.DinIdeal.τ).loc Cert.DinIdeal.main_arg9)
      ∧ r.2.mem ((c.tc : Thread Cert.DinIdeal.nD Cert.DinIdeal.τ).loc Cert.DinIdeal.main_arg10) = m ((c.tc : Thread Cert.DinIdeal.nD Cert.DinIdeal.τ).loc Cert.DinIdeal.main_arg10))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4)
      ∧ r.2.mem ((c.tc : Thread Cert.DinRefIdeal.nD Cert.DinRefIdeal.τ).loc Cert.DinRefIdeal.main_arg5) = m ((c.tc : Thread Cert.DinRefIdeal.nD Cert.DinRefIdeal.τ).loc Cert.DinRefIdeal.main_arg5)
      ∧ r.2.mem ((c.tc : Thread Cert.DinRefIdeal.nD Cert.DinRefIdeal.τ).loc Cert.DinRefIdeal.main_arg6) = m ((c.tc : Thread Cert.DinRefIdeal.nD Cert.DinRefIdeal.τ).loc Cert.DinRefIdeal.main_arg6)
      ∧ r.2.mem ((c.tc : Thread Cert.DinRefIdeal.nD Cert.DinRefIdeal.τ).loc Cert.DinRefIdeal.main_arg7) = m ((c.tc : Thread Cert.DinRefIdeal.nD Cert.DinRefIdeal.τ).loc Cert.DinRefIdeal.main_arg7)
      ∧ r.2.mem ((c.tc : Thread Cert.DinRefIdeal.nD Cert.DinRefIdeal.τ).loc Cert.DinRefIdeal.main_arg8) = m ((c.tc : Thread Cert.DinRefIdeal.nD Cert.DinRefIdeal.τ).loc Cert.DinRefIdeal.main_arg8)
      ∧ r.2.mem ((c.tc : Thread Cert.DinRefIdeal.nD Cert.DinRefIdeal.τ).loc Cert.DinRefIdeal.main_arg9) = m ((c.tc : Thread Cert.DinRefIdeal.nD Cert.DinRefIdeal.τ).loc Cert.DinRefIdeal.main_arg9)
      ∧ r.2.mem ((c.tc : Thread Cert.DinRefIdeal.nD Cert.DinRefIdeal.τ).loc Cert.DinRefIdeal.main_arg10) = m ((c.tc : Thread Cert.DinRefIdeal.nD Cert.DinRefIdeal.τ).loc Cert.DinRefIdeal.main_arg10))
      ∧ r.2.sem = fun _ => 0)

def quiescent_DinRefIdeal_pre_din_finite [hDinRefIdeal : Cert.DinRefIdeal.Facts] [hPre_din_finite : Cert.Pre_din_finite.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal_din_finite m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4)
      ∧ r.2.mem ((c.tc : Thread Cert.DinRefIdeal.nD Cert.DinRefIdeal.τ).loc Cert.DinRefIdeal.main_arg5) = m ((c.tc : Thread Cert.DinRefIdeal.nD Cert.DinRefIdeal.τ).loc Cert.DinRefIdeal.main_arg5)
      ∧ r.2.mem ((c.tc : Thread Cert.DinRefIdeal.nD Cert.DinRefIdeal.τ).loc Cert.DinRefIdeal.main_arg6) = m ((c.tc : Thread Cert.DinRefIdeal.nD Cert.DinRefIdeal.τ).loc Cert.DinRefIdeal.main_arg6)
      ∧ r.2.mem ((c.tc : Thread Cert.DinRefIdeal.nD Cert.DinRefIdeal.τ).loc Cert.DinRefIdeal.main_arg7) = m ((c.tc : Thread Cert.DinRefIdeal.nD Cert.DinRefIdeal.τ).loc Cert.DinRefIdeal.main_arg7)
      ∧ r.2.mem ((c.tc : Thread Cert.DinRefIdeal.nD Cert.DinRefIdeal.τ).loc Cert.DinRefIdeal.main_arg8) = m ((c.tc : Thread Cert.DinRefIdeal.nD Cert.DinRefIdeal.τ).loc Cert.DinRefIdeal.main_arg8)
      ∧ r.2.mem ((c.tc : Thread Cert.DinRefIdeal.nD Cert.DinRefIdeal.τ).loc Cert.DinRefIdeal.main_arg9) = m ((c.tc : Thread Cert.DinRefIdeal.nD Cert.DinRefIdeal.τ).loc Cert.DinRefIdeal.main_arg9)
      ∧ r.2.mem ((c.tc : Thread Cert.DinRefIdeal.nD Cert.DinRefIdeal.τ).loc Cert.DinRefIdeal.main_arg10) = m ((c.tc : Thread Cert.DinRefIdeal.nD Cert.DinRefIdeal.τ).loc Cert.DinRefIdeal.main_arg10))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3)
      ∧ r.2.mem ((c.tc : Thread Cert.AdamGateUp.nD Cert.AdamGateUp.τ).loc Cert.AdamGateUp.main_arg4) = m ((c.tc : Thread Cert.AdamGateUp.nD Cert.AdamGateUp.τ).loc Cert.AdamGateUp.main_arg4)
      ∧ r.2.mem ((c.tc : Thread Cert.AdamGateUp.nD Cert.AdamGateUp.τ).loc Cert.AdamGateUp.main_arg5) = m ((c.tc : Thread Cert.AdamGateUp.nD Cert.AdamGateUp.τ).loc Cert.AdamGateUp.main_arg5))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
      ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4)
      ∧ r.2.mem ((c.tc : Thread Cert.AdamGateUpIdeal.nD Cert.AdamGateUpIdeal.τ).loc Cert.AdamGateUpIdeal.main_arg5) = m ((c.tc : Thread Cert.AdamGateUpIdeal.nD Cert.AdamGateUpIdeal.τ).loc Cert.AdamGateUpIdeal.main_arg5))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3)
      ∧ r.2.mem ((c.tc : Thread Cert.AdamGateUpRefIdeal.nD Cert.AdamGateUpRefIdeal.τ).loc Cert.AdamGateUpRefIdeal.main_arg4) = m ((c.tc : Thread Cert.AdamGateUpRefIdeal.nD Cert.AdamGateUpRefIdeal.τ).loc Cert.AdamGateUpRefIdeal.main_arg4)
      ∧ r.2.mem ((c.tc : Thread Cert.AdamGateUpRefIdeal.nD Cert.AdamGateUpRefIdeal.τ).loc Cert.AdamGateUpRefIdeal.main_arg5) = m ((c.tc : Thread Cert.AdamGateUpRefIdeal.nD Cert.AdamGateUpRefIdeal.τ).loc Cert.AdamGateUpRefIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15))
      ∧ r.2.sem = fun _ => 0)

def quiescent_SmallIdeal_pre_small_finite [hSmallIdeal : Cert.SmallIdeal.Facts] [hPre_small_finite : Cert.Pre_small_finite.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal_small_finite m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15))
      ∧ r.2.sem = fun _ => 0)

def quiescent_SmallRefIdeal_pre_small_finite [hSmallRefIdeal : Cert.SmallRefIdeal.Facts] [hPre_small_finite : Cert.Pre_small_finite.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal_small_finite m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15))
      ∧ r.2.sem = fun _ => 0)

def preserves_GateUp_GateUpIdeal : Prop :=
  True

def algebraic_GateUpIdeal_GateUpRefIdeal_pre_gate_up_finite [hGateUpIdeal : Cert.GateUpIdeal.Facts] [hGateUpRefIdeal : Cert.GateUpRefIdeal.Facts] [hPre_gate_up_finite : Cert.Pre_gate_up_finite.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_gate_up_finite m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)) (v3 : (c : Dev Cert.GateUpIdeal.nD) → Buf (Elt Ideal) ((c.tc : Thread Cert.GateUpIdeal.nD Cert.GateUpIdeal.τ).loc Cert.GateUpIdeal.main_v0_3)) (v4 : (c : Dev Cert.GateUpIdeal.nD) → Buf (Elt Ideal) ((c.tc : Thread Cert.GateUpIdeal.nD Cert.GateUpIdeal.τ).loc Cert.GateUpIdeal.main_v0_4)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_v0_3) = v3 c
          ∧ r.2.mem ((c.tc : Thread Cert.GateUpIdeal.nD Cert.GateUpIdeal.τ).loc Cert.GateUpIdeal.main_v0_4) = v4 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v24) = v0 c
          ∧ r.2.mem ((c.tc : Thread Cert.GateUpRefIdeal.nD Cert.GateUpRefIdeal.τ).loc Cert.GateUpRefIdeal.main_v25) = v1 c
          ∧ r.2.mem ((c.tc : Thread Cert.GateUpRefIdeal.nD Cert.GateUpRefIdeal.τ).loc Cert.GateUpRefIdeal.main_v26) = v2 c
          ∧ r.2.mem ((c.tc : Thread Cert.GateUpRefIdeal.nD Cert.GateUpRefIdeal.τ).loc Cert.GateUpRefIdeal.main_v27) = v3 c
          ∧ r.2.mem ((c.tc : Thread Cert.GateUpRefIdeal.nD Cert.GateUpRefIdeal.τ).loc Cert.GateUpRefIdeal.main_v28) = v4 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v4) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v4) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_GwGateUp_GwGateUpIdeal : Prop :=
  True

def algebraic_GwGateUpIdeal_GwGateUpRefIdeal [hGwGateUpIdeal : Cert.GwGateUpIdeal.Facts] [hGwGateUpRefIdeal : Cert.GwGateUpRefIdeal.Facts] : Prop :=
  ∀ (m : (ℓ : Loc Cert.GwGateUpIdeal.nD Cert.GwGateUpIdeal.τ Cert.GwGateUpIdeal.sig) → Buf (Elt Ideal) ℓ) (g : Dev Cert.GwGateUpIdeal.nD → PrngReg)
    (m' : (ℓ : Loc Cert.GwGateUpRefIdeal.nD Cert.GwGateUpRefIdeal.τ Cert.GwGateUpRefIdeal.sig) → Buf (Elt Ideal) ℓ) (g' : Dev Cert.GwGateUpRefIdeal.nD → PrngReg), Pre_GwGateUpIdeal m →
    (∀ c : Dev Cert.GwGateUpIdeal.nD,
      m' ((c.tc : Thread Cert.GwGateUpRefIdeal.nD Cert.GwGateUpRefIdeal.τ).loc Cert.GwGateUpRefIdeal.main_arg0) = m ((c.tc : Thread Cert.GwGateUpIdeal.nD Cert.GwGateUpIdeal.τ).loc Cert.GwGateUpIdeal.main_arg0)
      ∧ m' ((c.tc : Thread Cert.GwGateUpRefIdeal.nD Cert.GwGateUpRefIdeal.τ).loc Cert.GwGateUpRefIdeal.main_arg1) = m ((c.tc : Thread Cert.GwGateUpIdeal.nD Cert.GwGateUpIdeal.τ).loc Cert.GwGateUpIdeal.main_arg1)
      ∧ m' ((c.tc : Thread Cert.GwGateUpRefIdeal.nD Cert.GwGateUpRefIdeal.τ).loc Cert.GwGateUpRefIdeal.main_arg2) = m ((c.tc : Thread Cert.GwGateUpIdeal.nD Cert.GwGateUpIdeal.τ).loc Cert.GwGateUpIdeal.main_arg2)) →
    ∃ (v0 : (c : Dev Cert.GwGateUpIdeal.nD) → Buf (Elt Ideal) ((c.tc : Thread Cert.GwGateUpIdeal.nD Cert.GwGateUpIdeal.τ).loc Cert.GwGateUpIdeal.main_v3)),
      θ_run (Cert.GwGateUpIdeal.defs (F := Ideal)) (onTc (τ := Cert.GwGateUpIdeal.τ) (Cert.GwGateUpIdeal.main (F := Ideal))) ⟨m, fun _ => 0, g⟩ (fun r => ∀ c : Dev Cert.GwGateUpIdeal.nD,
          r.2.mem ((c.tc : Thread Cert.GwGateUpIdeal.nD Cert.GwGateUpIdeal.τ).loc Cert.GwGateUpIdeal.main_v3) = v0 c
          ∧ r.2.mem ((c.tc : Thread Cert.GwGateUpIdeal.nD Cert.GwGateUpIdeal.τ).loc Cert.GwGateUpIdeal.main_arg0) = m ((c.tc : Thread Cert.GwGateUpIdeal.nD Cert.GwGateUpIdeal.τ).loc Cert.GwGateUpIdeal.main_arg0)
          ∧ r.2.mem ((c.tc : Thread Cert.GwGateUpIdeal.nD Cert.GwGateUpIdeal.τ).loc Cert.GwGateUpIdeal.main_arg1) = m ((c.tc : Thread Cert.GwGateUpIdeal.nD Cert.GwGateUpIdeal.τ).loc Cert.GwGateUpIdeal.main_arg1)
          ∧ r.2.mem ((c.tc : Thread Cert.GwGateUpIdeal.nD Cert.GwGateUpIdeal.τ).loc Cert.GwGateUpIdeal.main_arg2) = m ((c.tc : Thread Cert.GwGateUpIdeal.nD Cert.GwGateUpIdeal.τ).loc Cert.GwGateUpIdeal.main_arg2))
      ∧ θ_run (Cert.GwGateUpRefIdeal.defs (F := Ideal)) (onTc (τ := Cert.GwGateUpRefIdeal.τ) (Cert.GwGateUpRefIdeal.main (F := Ideal))) ⟨m', fun _ => 0, g'⟩ (fun r => ∀ c : Dev Cert.GwGateUpRefIdeal.nD,
          r.2.mem ((c.tc : Thread Cert.GwGateUpRefIdeal.nD Cert.GwGateUpRefIdeal.τ).loc Cert.GwGateUpRefIdeal.main_v8) = v0 c
          ∧ r.2.mem ((c.tc : Thread Cert.GwGateUpRefIdeal.nD Cert.GwGateUpRefIdeal.τ).loc Cert.GwGateUpRefIdeal.main_arg0) = m' ((c.tc : Thread Cert.GwGateUpRefIdeal.nD Cert.GwGateUpRefIdeal.τ).loc Cert.GwGateUpRefIdeal.main_arg0)
          ∧ r.2.mem ((c.tc : Thread Cert.GwGateUpRefIdeal.nD Cert.GwGateUpRefIdeal.τ).loc Cert.GwGateUpRefIdeal.main_arg1) = m' ((c.tc : Thread Cert.GwGateUpRefIdeal.nD Cert.GwGateUpRefIdeal.τ).loc Cert.GwGateUpRefIdeal.main_arg1)
          ∧ r.2.mem ((c.tc : Thread Cert.GwGateUpRefIdeal.nD Cert.GwGateUpRefIdeal.τ).loc Cert.GwGateUpRefIdeal.main_arg2) = m' ((c.tc : Thread Cert.GwGateUpRefIdeal.nD Cert.GwGateUpRefIdeal.τ).loc Cert.GwGateUpRefIdeal.main_arg2))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v1)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v1) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v7) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v16)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v16) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v23) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dgu_DguIdeal : Prop :=
  True

def algebraic_DguIdeal_DguRefIdeal_pre_dgu_finite [hDguIdeal : Cert.DguIdeal.Facts] [hDguRefIdeal : Cert.DguRefIdeal.Facts] [hPre_dgu_finite : Cert.Pre_dgu_finite.Facts] : Prop :=
  ∀ (m : (ℓ : Loc Cert.DguIdeal.nD Cert.DguIdeal.τ Cert.DguIdeal.sig) → Buf (Elt Ideal) ℓ) (g : Dev Cert.DguIdeal.nD → PrngReg)
    (m' : (ℓ : Loc Cert.DguRefIdeal.nD Cert.DguRefIdeal.τ Cert.DguRefIdeal.sig) → Buf (Elt Ideal) ℓ) (g' : Dev Cert.DguRefIdeal.nD → PrngReg), Pre_DguIdeal_dgu_finite m →
    (∀ c : Dev Cert.DguIdeal.nD,
      m' ((c.tc : Thread Cert.DguRefIdeal.nD Cert.DguRefIdeal.τ).loc Cert.DguRefIdeal.main_arg0) = m ((c.tc : Thread Cert.DguIdeal.nD Cert.DguIdeal.τ).loc Cert.DguIdeal.main_arg0)
      ∧ m' ((c.tc : Thread Cert.DguRefIdeal.nD Cert.DguRefIdeal.τ).loc Cert.DguRefIdeal.main_arg1) = m ((c.tc : Thread Cert.DguIdeal.nD Cert.DguIdeal.τ).loc Cert.DguIdeal.main_arg1)
      ∧ m' ((c.tc : Thread Cert.DguRefIdeal.nD Cert.DguRefIdeal.τ).loc Cert.DguRefIdeal.main_arg2) = m ((c.tc : Thread Cert.DguIdeal.nD Cert.DguIdeal.τ).loc Cert.DguIdeal.main_arg2)
      ∧ m' ((c.tc : Thread Cert.DguRefIdeal.nD Cert.DguRefIdeal.τ).loc Cert.DguRefIdeal.main_arg3) = m ((c.tc : Thread Cert.DguIdeal.nD Cert.DguIdeal.τ).loc Cert.DguIdeal.main_arg3)
      ∧ m' ((c.tc : Thread Cert.DguRefIdeal.nD Cert.DguRefIdeal.τ).loc Cert.DguRefIdeal.main_arg4) = m ((c.tc : Thread Cert.DguIdeal.nD Cert.DguIdeal.τ).loc Cert.DguIdeal.main_arg4)
      ∧ m' ((c.tc : Thread Cert.DguRefIdeal.nD Cert.DguRefIdeal.τ).loc Cert.DguRefIdeal.main_arg5) = m ((c.tc : Thread Cert.DguIdeal.nD Cert.DguIdeal.τ).loc Cert.DguIdeal.main_arg5)
      ∧ m' ((c.tc : Thread Cert.DguRefIdeal.nD Cert.DguRefIdeal.τ).loc Cert.DguRefIdeal.main_arg6) = m ((c.tc : Thread Cert.DguIdeal.nD Cert.DguIdeal.τ).loc Cert.DguIdeal.main_arg6)
      ∧ m' ((c.tc : Thread Cert.DguRefIdeal.nD Cert.DguRefIdeal.τ).loc Cert.DguRefIdeal.main_arg7) = m ((c.tc : Thread Cert.DguIdeal.nD Cert.DguIdeal.τ).loc Cert.DguIdeal.main_arg7)) →
    ∃ (v0 : (c : Dev Cert.DguIdeal.nD) → Buf (Elt Ideal) ((c.tc : Thread Cert.DguIdeal.nD Cert.DguIdeal.τ).loc Cert.DguIdeal.main_v3_0)) (v1 : (c : Dev Cert.DguIdeal.nD) → Buf (Elt Ideal) ((c.tc : Thread Cert.DguIdeal.nD Cert.DguIdeal.τ).loc Cert.DguIdeal.main_v3_1)) (v2 : (c : Dev Cert.DguIdeal.nD) → Buf (Elt Ideal) ((c.tc : Thread Cert.DguIdeal.nD Cert.DguIdeal.τ).loc Cert.DguIdeal.main_v3_2)),
      θ_run (Cert.DguIdeal.defs (F := Ideal)) (onTc (τ := Cert.DguIdeal.τ) (Cert.DguIdeal.main (F := Ideal))) ⟨m, fun _ => 0, g⟩ (fun r => ∀ c : Dev Cert.DguIdeal.nD,
          r.2.mem ((c.tc : Thread Cert.DguIdeal.nD Cert.DguIdeal.τ).loc Cert.DguIdeal.main_v3_0) = v0 c
          ∧ r.2.mem ((c.tc : Thread Cert.DguIdeal.nD Cert.DguIdeal.τ).loc Cert.DguIdeal.main_v3_1) = v1 c
          ∧ r.2.mem ((c.tc : Thread Cert.DguIdeal.nD Cert.DguIdeal.τ).loc Cert.DguIdeal.main_v3_2) = v2 c
          ∧ r.2.mem ((c.tc : Thread Cert.DguIdeal.nD Cert.DguIdeal.τ).loc Cert.DguIdeal.main_arg0) = m ((c.tc : Thread Cert.DguIdeal.nD Cert.DguIdeal.τ).loc Cert.DguIdeal.main_arg0)
          ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
          ∧ r.2.mem ((c.tc : Thread Cert.DguIdeal.nD Cert.DguIdeal.τ).loc Cert.DguIdeal.main_arg2) = m ((c.tc : Thread Cert.DguIdeal.nD Cert.DguIdeal.τ).loc Cert.DguIdeal.main_arg2)
          ∧ r.2.mem ((c.tc : Thread Cert.DguIdeal.nD Cert.DguIdeal.τ).loc Cert.DguIdeal.main_arg3) = m ((c.tc : Thread Cert.DguIdeal.nD Cert.DguIdeal.τ).loc Cert.DguIdeal.main_arg3)
          ∧ r.2.mem ((c.tc : Thread Cert.DguIdeal.nD Cert.DguIdeal.τ).loc Cert.DguIdeal.main_arg4) = m ((c.tc : Thread Cert.DguIdeal.nD Cert.DguIdeal.τ).loc Cert.DguIdeal.main_arg4)
          ∧ r.2.mem ((c.tc : Thread Cert.DguIdeal.nD Cert.DguIdeal.τ).loc Cert.DguIdeal.main_arg5) = m ((c.tc : Thread Cert.DguIdeal.nD Cert.DguIdeal.τ).loc Cert.DguIdeal.main_arg5)
          ∧ r.2.mem ((c.tc : Thread Cert.DguIdeal.nD Cert.DguIdeal.τ).loc Cert.DguIdeal.main_arg6) = m ((c.tc : Thread Cert.DguIdeal.nD Cert.DguIdeal.τ).loc Cert.DguIdeal.main_arg6)
          ∧ r.2.mem ((c.tc : Thread Cert.DguIdeal.nD Cert.DguIdeal.τ).loc Cert.DguIdeal.main_arg7) = m ((c.tc : Thread Cert.DguIdeal.nD Cert.DguIdeal.τ).loc Cert.DguIdeal.main_arg7))
      ∧ θ_run (Cert.DguRefIdeal.defs (F := Ideal)) (onTc (τ := Cert.DguRefIdeal.τ) (Cert.DguRefIdeal.main (F := Ideal))) ⟨m', fun _ => 0, g'⟩ (fun r => ∀ c : Dev Cert.DguRefIdeal.nD,
          r.2.mem ((c.tc : Thread Cert.DguRefIdeal.nD Cert.DguRefIdeal.τ).loc Cert.DguRefIdeal.main_v46) = v0 c
          ∧ r.2.mem ((c.tc : Thread Cert.DguRefIdeal.nD Cert.DguRefIdeal.τ).loc Cert.DguRefIdeal.main_v47) = v1 c
          ∧ r.2.mem ((c.tc : Thread Cert.DguRefIdeal.nD Cert.DguRefIdeal.τ).loc Cert.DguRefIdeal.main_v51) = v2 c
          ∧ r.2.mem ((c.tc : Thread Cert.DguRefIdeal.nD Cert.DguRefIdeal.τ).loc Cert.DguRefIdeal.main_arg0) = m' ((c.tc : Thread Cert.DguRefIdeal.nD Cert.DguRefIdeal.τ).loc Cert.DguRefIdeal.main_arg0)
          ∧ r.2.mem ((c.tc : Thread Cert.DguRefIdeal.nD Cert.DguRefIdeal.τ).loc Cert.DguRefIdeal.main_arg1) = m' ((c.tc : Thread Cert.DguRefIdeal.nD Cert.DguRefIdeal.τ).loc Cert.DguRefIdeal.main_arg1)
          ∧ r.2.mem ((c.tc : Thread Cert.DguRefIdeal.nD Cert.DguRefIdeal.τ).loc Cert.DguRefIdeal.main_arg2) = m' ((c.tc : Thread Cert.DguRefIdeal.nD Cert.DguRefIdeal.τ).loc Cert.DguRefIdeal.main_arg2)
          ∧ r.2.mem ((c.tc : Thread Cert.DguRefIdeal.nD Cert.DguRefIdeal.τ).loc Cert.DguRefIdeal.main_arg3) = m' ((c.tc : Thread Cert.DguRefIdeal.nD Cert.DguRefIdeal.τ).loc Cert.DguRefIdeal.main_arg3)
          ∧ r.2.mem ((c.tc : Thread Cert.DguRefIdeal.nD Cert.DguRefIdeal.τ).loc Cert.DguRefIdeal.main_arg4) = m' ((c.tc : Thread Cert.DguRefIdeal.nD Cert.DguRefIdeal.τ).loc Cert.DguRefIdeal.main_arg4)
          ∧ r.2.mem ((c.tc : Thread Cert.DguRefIdeal.nD Cert.DguRefIdeal.τ).loc Cert.DguRefIdeal.main_arg5) = m' ((c.tc : Thread Cert.DguRefIdeal.nD Cert.DguRefIdeal.τ).loc Cert.DguRefIdeal.main_arg5)
          ∧ r.2.mem ((c.tc : Thread Cert.DguRefIdeal.nD Cert.DguRefIdeal.τ).loc Cert.DguRefIdeal.main_arg6) = m' ((c.tc : Thread Cert.DguRefIdeal.nD Cert.DguRefIdeal.τ).loc Cert.DguRefIdeal.main_arg6)
          ∧ r.2.mem ((c.tc : Thread Cert.DguRefIdeal.nD Cert.DguRefIdeal.τ).loc Cert.DguRefIdeal.main_arg7) = m' ((c.tc : Thread Cert.DguRefIdeal.nD Cert.DguRefIdeal.τ).loc Cert.DguRefIdeal.main_arg7))

def preserves_DownLoss_DownLossIdeal : Prop :=
  True

def algebraic_DownLossIdeal_DownLossRefIdeal_pre_down_loss_finite [hDownLossIdeal : Cert.DownLossIdeal.Facts] [hDownLossRefIdeal : Cert.DownLossRefIdeal.Facts] [hPre_down_loss_finite : Cert.Pre_down_loss_finite.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal_down_loss_finite m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v55) = v0 c
          ∧ r.2.mem ((c.tc : Thread Cert.DownLossRefIdeal.nD Cert.DownLossRefIdeal.τ).loc Cert.DownLossRefIdeal.main_v57) = v1 c
          ∧ r.2.mem ((c.tc : Thread Cert.DownLossRefIdeal.nD Cert.DownLossRefIdeal.τ).loc Cert.DownLossRefIdeal.main_v56) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_v19) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Din_DinIdeal : Prop :=
  True

def algebraic_DinIdeal_DinRefIdeal_pre_din_finite [hDinIdeal : Cert.DinIdeal.Facts] [hDinRefIdeal : Cert.DinRefIdeal.Facts] [hPre_din_finite : Cert.Pre_din_finite.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal_din_finite m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)
      ∧ m' ((c.tc : Thread Cert.DinRefIdeal.nD Cert.DinRefIdeal.τ).loc Cert.DinRefIdeal.main_arg5) = m ((c.tc : Thread Cert.DinIdeal.nD Cert.DinIdeal.τ).loc Cert.DinIdeal.main_arg5)
      ∧ m' ((c.tc : Thread Cert.DinRefIdeal.nD Cert.DinRefIdeal.τ).loc Cert.DinRefIdeal.main_arg6) = m ((c.tc : Thread Cert.DinIdeal.nD Cert.DinIdeal.τ).loc Cert.DinIdeal.main_arg6)
      ∧ m' ((c.tc : Thread Cert.DinRefIdeal.nD Cert.DinRefIdeal.τ).loc Cert.DinRefIdeal.main_arg7) = m ((c.tc : Thread Cert.DinIdeal.nD Cert.DinIdeal.τ).loc Cert.DinIdeal.main_arg7)
      ∧ m' ((c.tc : Thread Cert.DinRefIdeal.nD Cert.DinRefIdeal.τ).loc Cert.DinRefIdeal.main_arg8) = m ((c.tc : Thread Cert.DinIdeal.nD Cert.DinIdeal.τ).loc Cert.DinIdeal.main_arg8)
      ∧ m' ((c.tc : Thread Cert.DinRefIdeal.nD Cert.DinRefIdeal.τ).loc Cert.DinRefIdeal.main_arg9) = m ((c.tc : Thread Cert.DinIdeal.nD Cert.DinIdeal.τ).loc Cert.DinIdeal.main_arg9)
      ∧ m' ((c.tc : Thread Cert.DinRefIdeal.nD Cert.DinRefIdeal.τ).loc Cert.DinRefIdeal.main_arg10) = m ((c.tc : Thread Cert.DinIdeal.nD Cert.DinIdeal.τ).loc Cert.DinIdeal.main_arg10)) →
    ∃ (v0 : (c : Dev Cert.DinIdeal.nD) → Buf (Elt Ideal) ((c.tc : Thread Cert.DinIdeal.nD Cert.DinIdeal.τ).loc Cert.DinIdeal.main_v34_0)) (v1 : (c : Dev Cert.DinIdeal.nD) → Buf (Elt Ideal) ((c.tc : Thread Cert.DinIdeal.nD Cert.DinIdeal.τ).loc Cert.DinIdeal.main_v34_1)) (v2 : (c : Dev Cert.DinIdeal.nD) → Buf (Elt Ideal) ((c.tc : Thread Cert.DinIdeal.nD Cert.DinIdeal.τ).loc Cert.DinIdeal.main_v34_2)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v34_0) = v0 c
          ∧ r.2.mem ((c.tc : Thread Cert.DinIdeal.nD Cert.DinIdeal.τ).loc Cert.DinIdeal.main_v34_1) = v1 c
          ∧ r.2.mem ((c.tc : Thread Cert.DinIdeal.nD Cert.DinIdeal.τ).loc Cert.DinIdeal.main_v34_2) = v2 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
          ∧ r.2.mem ((c.tc : Thread Cert.DinIdeal.nD Cert.DinIdeal.τ).loc Cert.DinIdeal.main_arg5) = m ((c.tc : Thread Cert.DinIdeal.nD Cert.DinIdeal.τ).loc Cert.DinIdeal.main_arg5)
          ∧ r.2.mem ((c.tc : Thread Cert.DinIdeal.nD Cert.DinIdeal.τ).loc Cert.DinIdeal.main_arg6) = m ((c.tc : Thread Cert.DinIdeal.nD Cert.DinIdeal.τ).loc Cert.DinIdeal.main_arg6)
          ∧ r.2.mem ((c.tc : Thread Cert.DinIdeal.nD Cert.DinIdeal.τ).loc Cert.DinIdeal.main_arg7) = m ((c.tc : Thread Cert.DinIdeal.nD Cert.DinIdeal.τ).loc Cert.DinIdeal.main_arg7)
          ∧ r.2.mem ((c.tc : Thread Cert.DinIdeal.nD Cert.DinIdeal.τ).loc Cert.DinIdeal.main_arg8) = m ((c.tc : Thread Cert.DinIdeal.nD Cert.DinIdeal.τ).loc Cert.DinIdeal.main_arg8)
          ∧ r.2.mem ((c.tc : Thread Cert.DinIdeal.nD Cert.DinIdeal.τ).loc Cert.DinIdeal.main_arg9) = m ((c.tc : Thread Cert.DinIdeal.nD Cert.DinIdeal.τ).loc Cert.DinIdeal.main_arg9)
          ∧ r.2.mem ((c.tc : Thread Cert.DinIdeal.nD Cert.DinIdeal.τ).loc Cert.DinIdeal.main_arg10) = m ((c.tc : Thread Cert.DinIdeal.nD Cert.DinIdeal.τ).loc Cert.DinIdeal.main_arg10))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v167) = v0 c
          ∧ r.2.mem ((c.tc : Thread Cert.DinRefIdeal.nD Cert.DinRefIdeal.τ).loc Cert.DinRefIdeal.main_v165) = v1 c
          ∧ r.2.mem ((c.tc : Thread Cert.DinRefIdeal.nD Cert.DinRefIdeal.τ).loc Cert.DinRefIdeal.main_v166) = v2 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4)
          ∧ r.2.mem ((c.tc : Thread Cert.DinRefIdeal.nD Cert.DinRefIdeal.τ).loc Cert.DinRefIdeal.main_arg5) = m' ((c.tc : Thread Cert.DinRefIdeal.nD Cert.DinRefIdeal.τ).loc Cert.DinRefIdeal.main_arg5)
          ∧ r.2.mem ((c.tc : Thread Cert.DinRefIdeal.nD Cert.DinRefIdeal.τ).loc Cert.DinRefIdeal.main_arg6) = m' ((c.tc : Thread Cert.DinRefIdeal.nD Cert.DinRefIdeal.τ).loc Cert.DinRefIdeal.main_arg6)
          ∧ r.2.mem ((c.tc : Thread Cert.DinRefIdeal.nD Cert.DinRefIdeal.τ).loc Cert.DinRefIdeal.main_arg7) = m' ((c.tc : Thread Cert.DinRefIdeal.nD Cert.DinRefIdeal.τ).loc Cert.DinRefIdeal.main_arg7)
          ∧ r.2.mem ((c.tc : Thread Cert.DinRefIdeal.nD Cert.DinRefIdeal.τ).loc Cert.DinRefIdeal.main_arg8) = m' ((c.tc : Thread Cert.DinRefIdeal.nD Cert.DinRefIdeal.τ).loc Cert.DinRefIdeal.main_arg8)
          ∧ r.2.mem ((c.tc : Thread Cert.DinRefIdeal.nD Cert.DinRefIdeal.τ).loc Cert.DinRefIdeal.main_arg9) = m' ((c.tc : Thread Cert.DinRefIdeal.nD Cert.DinRefIdeal.τ).loc Cert.DinRefIdeal.main_arg9)
          ∧ r.2.mem ((c.tc : Thread Cert.DinRefIdeal.nD Cert.DinRefIdeal.τ).loc Cert.DinRefIdeal.main_arg10) = m' ((c.tc : Thread Cert.DinRefIdeal.nD Cert.DinRefIdeal.τ).loc Cert.DinRefIdeal.main_arg10))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)) (v3 : (c : Dev Cert.AdamInIdeal.nD) → Buf (Elt Ideal) ((c.tc : Thread Cert.AdamInIdeal.nD Cert.AdamInIdeal.τ).loc Cert.AdamInIdeal.main_v4_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_v4_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v7) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_v18) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)) (v3 : (c : Dev Cert.AdamOutIdeal.nD) → Buf (Elt Ideal) ((c.tc : Thread Cert.AdamOutIdeal.nD Cert.AdamOutIdeal.τ).loc Cert.AdamOutIdeal.main_v4_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_v4_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v7) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)
      ∧ m' ((c.tc : Thread Cert.AdamGateUpRefIdeal.nD Cert.AdamGateUpRefIdeal.τ).loc Cert.AdamGateUpRefIdeal.main_arg4) = m ((c.tc : Thread Cert.AdamGateUpIdeal.nD Cert.AdamGateUpIdeal.τ).loc Cert.AdamGateUpIdeal.main_arg4)
      ∧ m' ((c.tc : Thread Cert.AdamGateUpRefIdeal.nD Cert.AdamGateUpRefIdeal.τ).loc Cert.AdamGateUpRefIdeal.main_arg5) = m ((c.tc : Thread Cert.AdamGateUpIdeal.nD Cert.AdamGateUpIdeal.τ).loc Cert.AdamGateUpIdeal.main_arg5)) →
    ∃ (v0 : (c : Dev Cert.AdamGateUpIdeal.nD) → Buf (Elt Ideal) ((c.tc : Thread Cert.AdamGateUpIdeal.nD Cert.AdamGateUpIdeal.τ).loc Cert.AdamGateUpIdeal.main_v4_0)) (v1 : (c : Dev Cert.AdamGateUpIdeal.nD) → Buf (Elt Ideal) ((c.tc : Thread Cert.AdamGateUpIdeal.nD Cert.AdamGateUpIdeal.τ).loc Cert.AdamGateUpIdeal.main_v4_1)) (v2 : (c : Dev Cert.AdamGateUpIdeal.nD) → Buf (Elt Ideal) ((c.tc : Thread Cert.AdamGateUpIdeal.nD Cert.AdamGateUpIdeal.τ).loc Cert.AdamGateUpIdeal.main_v4_2)) (v3 : (c : Dev Cert.AdamGateUpIdeal.nD) → Buf (Elt Ideal) ((c.tc : Thread Cert.AdamGateUpIdeal.nD Cert.AdamGateUpIdeal.τ).loc Cert.AdamGateUpIdeal.main_v4_3)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v4_0) = v0 c
          ∧ r.2.mem ((c.tc : Thread Cert.AdamGateUpIdeal.nD Cert.AdamGateUpIdeal.τ).loc Cert.AdamGateUpIdeal.main_v4_1) = v1 c
          ∧ r.2.mem ((c.tc : Thread Cert.AdamGateUpIdeal.nD Cert.AdamGateUpIdeal.τ).loc Cert.AdamGateUpIdeal.main_v4_2) = v2 c
          ∧ r.2.mem ((c.tc : Thread Cert.AdamGateUpIdeal.nD Cert.AdamGateUpIdeal.τ).loc Cert.AdamGateUpIdeal.main_v4_3) = v3 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
          ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4)
          ∧ r.2.mem ((c.tc : Thread Cert.AdamGateUpIdeal.nD Cert.AdamGateUpIdeal.τ).loc Cert.AdamGateUpIdeal.main_arg5) = m ((c.tc : Thread Cert.AdamGateUpIdeal.nD Cert.AdamGateUpIdeal.τ).loc Cert.AdamGateUpIdeal.main_arg5))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v7) = v0 c
          ∧ r.2.mem ((c.tc : Thread Cert.AdamGateUpRefIdeal.nD Cert.AdamGateUpRefIdeal.τ).loc Cert.AdamGateUpRefIdeal.main_v31) = v1 c
          ∧ r.2.mem ((c.tc : Thread Cert.AdamGateUpRefIdeal.nD Cert.AdamGateUpRefIdeal.τ).loc Cert.AdamGateUpRefIdeal.main_v12) = v2 c
          ∧ r.2.mem ((c.tc : Thread Cert.AdamGateUpRefIdeal.nD Cert.AdamGateUpRefIdeal.τ).loc Cert.AdamGateUpRefIdeal.main_v18) = v3 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3)
          ∧ r.2.mem ((c.tc : Thread Cert.AdamGateUpRefIdeal.nD Cert.AdamGateUpRefIdeal.τ).loc Cert.AdamGateUpRefIdeal.main_arg4) = m' ((c.tc : Thread Cert.AdamGateUpRefIdeal.nD Cert.AdamGateUpRefIdeal.τ).loc Cert.AdamGateUpRefIdeal.main_arg4)
          ∧ r.2.mem ((c.tc : Thread Cert.AdamGateUpRefIdeal.nD Cert.AdamGateUpRefIdeal.τ).loc Cert.AdamGateUpRefIdeal.main_arg5) = m' ((c.tc : Thread Cert.AdamGateUpRefIdeal.nD Cert.AdamGateUpRefIdeal.τ).loc Cert.AdamGateUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)) (v3 : (c : Dev Cert.AdamDownIdeal.nD) → Buf (Elt Ideal) ((c.tc : Thread Cert.AdamDownIdeal.nD Cert.AdamDownIdeal.τ).loc Cert.AdamDownIdeal.main_v4_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_v4_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v7) = v0 c
          ∧ r.2.mem ((c.tc : Thread Cert.AdamDownRefIdeal.nD Cert.AdamDownRefIdeal.τ).loc Cert.AdamDownRefIdeal.main_v31) = v1 c
          ∧ r.2.mem ((c.tc : Thread Cert.AdamDownRefIdeal.nD Cert.AdamDownRefIdeal.τ).loc Cert.AdamDownRefIdeal.main_v12) = v2 c
          ∧ r.2.mem ((c.tc : Thread Cert.AdamDownRefIdeal.nD Cert.AdamDownRefIdeal.τ).loc Cert.AdamDownRefIdeal.main_v18) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_Small_SmallIdeal : Prop :=
  True

def algebraic_SmallIdeal_SmallRefIdeal_pre_small_finite [hSmallIdeal : Cert.SmallIdeal.Facts] [hSmallRefIdeal : Cert.SmallRefIdeal.Facts] [hPre_small_finite : Cert.Pre_small_finite.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal_small_finite m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)) (v4 : (c : Dev Cert.SmallIdeal.nD) → Buf (Elt Ideal) ((c.tc : Thread Cert.SmallIdeal.nD Cert.SmallIdeal.τ).loc Cert.SmallIdeal.main_v0_4)) (v5 : (c : Dev Cert.SmallIdeal.nD) → Buf (Elt Ideal) ((c.tc : Thread Cert.SmallIdeal.nD Cert.SmallIdeal.τ).loc Cert.SmallIdeal.main_v0_5)) (v6 : (c : Dev Cert.SmallIdeal.nD) → Buf (Elt Ideal) ((c.tc : Thread Cert.SmallIdeal.nD Cert.SmallIdeal.τ).loc Cert.SmallIdeal.main_v0_6)) (v7 : (c : Dev Cert.SmallIdeal.nD) → Buf (Elt Ideal) ((c.tc : Thread Cert.SmallIdeal.nD Cert.SmallIdeal.τ).loc Cert.SmallIdeal.main_v0_7)) (v8 : (c : Dev Cert.SmallIdeal.nD) → Buf (Elt Ideal) ((c.tc : Thread Cert.SmallIdeal.nD Cert.SmallIdeal.τ).loc Cert.SmallIdeal.main_v0_8)) (v9 : (c : Dev Cert.SmallIdeal.nD) → Buf (Elt Ideal) ((c.tc : Thread Cert.SmallIdeal.nD Cert.SmallIdeal.τ).loc Cert.SmallIdeal.main_v0_9)) (v10 : (c : Dev Cert.SmallIdeal.nD) → Buf (Elt Ideal) ((c.tc : Thread Cert.SmallIdeal.nD Cert.SmallIdeal.τ).loc Cert.SmallIdeal.main_v0_10)) (v11 : (c : Dev Cert.SmallIdeal.nD) → Buf (Elt Ideal) ((c.tc : Thread Cert.SmallIdeal.nD Cert.SmallIdeal.τ).loc Cert.SmallIdeal.main_v0_11)) (v12 : (c : Dev Cert.SmallIdeal.nD) → Buf (Elt Ideal) ((c.tc : Thread Cert.SmallIdeal.nD Cert.SmallIdeal.τ).loc Cert.SmallIdeal.main_v0_12)) (v13 : (c : Dev Cert.SmallIdeal.nD) → Buf (Elt Ideal) ((c.tc : Thread Cert.SmallIdeal.nD Cert.SmallIdeal.τ).loc Cert.SmallIdeal.main_v0_13)) (v14 : (c : Dev Cert.SmallIdeal.nD) → Buf (Elt Ideal) ((c.tc : Thread Cert.SmallIdeal.nD Cert.SmallIdeal.τ).loc Cert.SmallIdeal.main_v0_14)) (v15 : (c : Dev Cert.SmallIdeal.nD) → Buf (Elt Ideal) ((c.tc : Thread Cert.SmallIdeal.nD Cert.SmallIdeal.τ).loc Cert.SmallIdeal.main_v0_15)) (v16 : (c : Dev Cert.SmallIdeal.nD) → Buf (Elt Ideal) ((c.tc : Thread Cert.SmallIdeal.nD Cert.SmallIdeal.τ).loc Cert.SmallIdeal.main_v0_16)) (v17 : (c : Dev Cert.SmallIdeal.nD) → Buf (Elt Ideal) ((c.tc : Thread Cert.SmallIdeal.nD Cert.SmallIdeal.τ).loc Cert.SmallIdeal.main_v0_17)) (v18 : (c : Dev Cert.SmallIdeal.nD) → Buf (Elt Ideal) ((c.tc : Thread Cert.SmallIdeal.nD Cert.SmallIdeal.τ).loc Cert.SmallIdeal.main_v0_18)) (v19 : (c : Dev Cert.SmallIdeal.nD) → Buf (Elt Ideal) ((c.tc : Thread Cert.SmallIdeal.nD Cert.SmallIdeal.τ).loc Cert.SmallIdeal.main_v0_19)) (v20 : (c : Dev Cert.SmallIdeal.nD) → Buf (Elt Ideal) ((c.tc : Thread Cert.SmallIdeal.nD Cert.SmallIdeal.τ).loc Cert.SmallIdeal.main_v0_20)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_v0_4) = v4 c
          ∧ r.2.mem ((c.tc : Thread Cert.SmallIdeal.nD Cert.SmallIdeal.τ).loc Cert.SmallIdeal.main_v0_5) = v5 c
          ∧ r.2.mem ((c.tc : Thread Cert.SmallIdeal.nD Cert.SmallIdeal.τ).loc Cert.SmallIdeal.main_v0_6) = v6 c
          ∧ r.2.mem ((c.tc : Thread Cert.SmallIdeal.nD Cert.SmallIdeal.τ).loc Cert.SmallIdeal.main_v0_7) = v7 c
          ∧ r.2.mem ((c.tc : Thread Cert.SmallIdeal.nD Cert.SmallIdeal.τ).loc Cert.SmallIdeal.main_v0_8) = v8 c
          ∧ r.2.mem ((c.tc : Thread Cert.SmallIdeal.nD Cert.SmallIdeal.τ).loc Cert.SmallIdeal.main_v0_9) = v9 c
          ∧ r.2.mem ((c.tc : Thread Cert.SmallIdeal.nD Cert.SmallIdeal.τ).loc Cert.SmallIdeal.main_v0_10) = v10 c
          ∧ r.2.mem ((c.tc : Thread Cert.SmallIdeal.nD Cert.SmallIdeal.τ).loc Cert.SmallIdeal.main_v0_11) = v11 c
          ∧ r.2.mem ((c.tc : Thread Cert.SmallIdeal.nD Cert.SmallIdeal.τ).loc Cert.SmallIdeal.main_v0_12) = v12 c
          ∧ r.2.mem ((c.tc : Thread Cert.SmallIdeal.nD Cert.SmallIdeal.τ).loc Cert.SmallIdeal.main_v0_13) = v13 c
          ∧ r.2.mem ((c.tc : Thread Cert.SmallIdeal.nD Cert.SmallIdeal.τ).loc Cert.SmallIdeal.main_v0_14) = v14 c
          ∧ r.2.mem ((c.tc : Thread Cert.SmallIdeal.nD Cert.SmallIdeal.τ).loc Cert.SmallIdeal.main_v0_15) = v15 c
          ∧ r.2.mem ((c.tc : Thread Cert.SmallIdeal.nD Cert.SmallIdeal.τ).loc Cert.SmallIdeal.main_v0_16) = v16 c
          ∧ r.2.mem ((c.tc : Thread Cert.SmallIdeal.nD Cert.SmallIdeal.τ).loc Cert.SmallIdeal.main_v0_17) = v17 c
          ∧ r.2.mem ((c.tc : Thread Cert.SmallIdeal.nD Cert.SmallIdeal.τ).loc Cert.SmallIdeal.main_v0_18) = v18 c
          ∧ r.2.mem ((c.tc : Thread Cert.SmallIdeal.nD Cert.SmallIdeal.τ).loc Cert.SmallIdeal.main_v0_19) = v19 c
          ∧ r.2.mem ((c.tc : Thread Cert.SmallIdeal.nD Cert.SmallIdeal.τ).loc Cert.SmallIdeal.main_v0_20) = v20 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v48) = v0 c
          ∧ r.2.mem ((c.tc : Thread Cert.SmallRefIdeal.nD Cert.SmallRefIdeal.τ).loc Cert.SmallRefIdeal.main_v44) = v1 c
          ∧ r.2.mem ((c.tc : Thread Cert.SmallRefIdeal.nD Cert.SmallRefIdeal.τ).loc Cert.SmallRefIdeal.main_v72) = v2 c
          ∧ r.2.mem ((c.tc : Thread Cert.SmallRefIdeal.nD Cert.SmallRefIdeal.τ).loc Cert.SmallRefIdeal.main_v53) = v3 c
          ∧ r.2.mem ((c.tc : Thread Cert.SmallRefIdeal.nD Cert.SmallRefIdeal.τ).loc Cert.SmallRefIdeal.main_v59) = v4 c
          ∧ r.2.mem ((c.tc : Thread Cert.SmallRefIdeal.nD Cert.SmallRefIdeal.τ).loc Cert.SmallRefIdeal.main_v45) = v5 c
          ∧ r.2.mem ((c.tc : Thread Cert.SmallRefIdeal.nD Cert.SmallRefIdeal.τ).loc Cert.SmallRefIdeal.main_v96) = v6 c
          ∧ r.2.mem ((c.tc : Thread Cert.SmallRefIdeal.nD Cert.SmallRefIdeal.τ).loc Cert.SmallRefIdeal.main_v77) = v7 c
          ∧ r.2.mem ((c.tc : Thread Cert.SmallRefIdeal.nD Cert.SmallRefIdeal.τ).loc Cert.SmallRefIdeal.main_v83) = v8 c
          ∧ r.2.mem ((c.tc : Thread Cert.SmallRefIdeal.nD Cert.SmallRefIdeal.τ).loc Cert.SmallRefIdeal.main_v46) = v9 c
          ∧ r.2.mem ((c.tc : Thread Cert.SmallRefIdeal.nD Cert.SmallRefIdeal.τ).loc Cert.SmallRefIdeal.main_v120) = v10 c
          ∧ r.2.mem ((c.tc : Thread Cert.SmallRefIdeal.nD Cert.SmallRefIdeal.τ).loc Cert.SmallRefIdeal.main_v101) = v11 c
          ∧ r.2.mem ((c.tc : Thread Cert.SmallRefIdeal.nD Cert.SmallRefIdeal.τ).loc Cert.SmallRefIdeal.main_v107) = v12 c
          ∧ r.2.mem ((c.tc : Thread Cert.SmallRefIdeal.nD Cert.SmallRefIdeal.τ).loc Cert.SmallRefIdeal.main_v43) = v13 c
          ∧ r.2.mem ((c.tc : Thread Cert.SmallRefIdeal.nD Cert.SmallRefIdeal.τ).loc Cert.SmallRefIdeal.main_v144) = v14 c
          ∧ r.2.mem ((c.tc : Thread Cert.SmallRefIdeal.nD Cert.SmallRefIdeal.τ).loc Cert.SmallRefIdeal.main_v125) = v15 c
          ∧ r.2.mem ((c.tc : Thread Cert.SmallRefIdeal.nD Cert.SmallRefIdeal.τ).loc Cert.SmallRefIdeal.main_v131) = v16 c
          ∧ r.2.mem ((c.tc : Thread Cert.SmallRefIdeal.nD Cert.SmallRefIdeal.τ).loc Cert.SmallRefIdeal.main_v47) = v17 c
          ∧ r.2.mem ((c.tc : Thread Cert.SmallRefIdeal.nD Cert.SmallRefIdeal.τ).loc Cert.SmallRefIdeal.main_v168) = v18 c
          ∧ r.2.mem ((c.tc : Thread Cert.SmallRefIdeal.nD Cert.SmallRefIdeal.τ).loc Cert.SmallRefIdeal.main_v149) = v19 c
          ∧ r.2.mem ((c.tc : Thread Cert.SmallRefIdeal.nD Cert.SmallRefIdeal.τ).loc Cert.SmallRefIdeal.main_v155) = v20 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15))

def Claim : Prop :=
  ∃ (hGateUp : Cert.GateUp.Facts) (hGateUpIdeal : Cert.GateUpIdeal.Facts) (hGateUpRefIdeal : Cert.GateUpRefIdeal.Facts) (hGwDown : Cert.GwDown.Facts) (hGwDownIdeal : Cert.GwDownIdeal.Facts) (hGwDownRefIdeal : Cert.GwDownRefIdeal.Facts) (hGwOut : Cert.GwOut.Facts) (hGwOutIdeal : Cert.GwOutIdeal.Facts) (hGwOutRefIdeal : Cert.GwOutRefIdeal.Facts) (hGwGateUp : Cert.GwGateUp.Facts) (hGwGateUpIdeal : Cert.GwGateUpIdeal.Facts) (hGwGateUpRefIdeal : Cert.GwGateUpRefIdeal.Facts) (hGwIn : Cert.GwIn.Facts) (hGwInIdeal : Cert.GwInIdeal.Facts) (hGwInRefIdeal : Cert.GwInRefIdeal.Facts) (hDact : Cert.Dact.Facts) (hDactIdeal : Cert.DactIdeal.Facts) (hDactRefIdeal : Cert.DactRefIdeal.Facts) (hDgu : Cert.Dgu.Facts) (hDguIdeal : Cert.DguIdeal.Facts) (hDguRefIdeal : Cert.DguRefIdeal.Facts) (hDownLoss : Cert.DownLoss.Facts) (hDownLossIdeal : Cert.DownLossIdeal.Facts) (hDownLossRefIdeal : Cert.DownLossRefIdeal.Facts) (hOutProj : Cert.OutProj.Facts) (hOutProjIdeal : Cert.OutProjIdeal.Facts) (hOutProjRefIdeal : Cert.OutProjRefIdeal.Facts) (hDin : Cert.Din.Facts) (hDinIdeal : Cert.DinIdeal.Facts) (hDinRefIdeal : Cert.DinRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGateUp : Cert.AdamGateUp.Facts) (hAdamGateUpIdeal : Cert.AdamGateUpIdeal.Facts) (hAdamGateUpRefIdeal : Cert.AdamGateUpRefIdeal.Facts) (hAdamDown : Cert.AdamDown.Facts) (hAdamDownIdeal : Cert.AdamDownIdeal.Facts) (hAdamDownRefIdeal : Cert.AdamDownRefIdeal.Facts) (hSmall : Cert.Small.Facts) (hSmallIdeal : Cert.SmallIdeal.Facts) (hSmallRefIdeal : Cert.SmallRefIdeal.Facts) (hPre_gate_up_finite : Cert.Pre_gate_up_finite.Facts) (hPre_dact_finite : Cert.Pre_dact_finite.Facts) (hPre_dgu_finite : Cert.Pre_dgu_finite.Facts) (hPre_down_loss_finite : Cert.Pre_down_loss_finite.Facts) (hPre_din_finite : Cert.Pre_din_finite.Facts) (hPre_small_finite : Cert.Pre_small_finite.Facts),
    quiescent_GateUp (hGateUp := hGateUp)
    ∧ quiescent_GateUpIdeal (hGateUpIdeal := hGateUpIdeal)
    ∧ quiescent_GateUpIdeal_pre_gate_up_finite (hGateUpIdeal := hGateUpIdeal) (hPre_gate_up_finite := hPre_gate_up_finite)
    ∧ quiescent_GateUpRefIdeal (hGateUpRefIdeal := hGateUpRefIdeal)
    ∧ quiescent_GateUpRefIdeal_pre_gate_up_finite (hGateUpRefIdeal := hGateUpRefIdeal) (hPre_gate_up_finite := hPre_gate_up_finite)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_GwGateUp (hGwGateUp := hGwGateUp)
    ∧ quiescent_GwGateUpIdeal (hGwGateUpIdeal := hGwGateUpIdeal)
    ∧ quiescent_GwGateUpRefIdeal (hGwGateUpRefIdeal := hGwGateUpRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_Dgu (hDgu := hDgu)
    ∧ quiescent_DguIdeal (hDguIdeal := hDguIdeal)
    ∧ quiescent_DguIdeal_pre_dgu_finite (hDguIdeal := hDguIdeal) (hPre_dgu_finite := hPre_dgu_finite)
    ∧ quiescent_DguRefIdeal (hDguRefIdeal := hDguRefIdeal)
    ∧ quiescent_DguRefIdeal_pre_dgu_finite (hDguRefIdeal := hDguRefIdeal) (hPre_dgu_finite := hPre_dgu_finite)
    ∧ quiescent_DownLoss (hDownLoss := hDownLoss)
    ∧ quiescent_DownLossIdeal (hDownLossIdeal := hDownLossIdeal)
    ∧ quiescent_DownLossIdeal_pre_down_loss_finite (hDownLossIdeal := hDownLossIdeal) (hPre_down_loss_finite := hPre_down_loss_finite)
    ∧ quiescent_DownLossRefIdeal (hDownLossRefIdeal := hDownLossRefIdeal)
    ∧ quiescent_DownLossRefIdeal_pre_down_loss_finite (hDownLossRefIdeal := hDownLossRefIdeal) (hPre_down_loss_finite := hPre_down_loss_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Din (hDin := hDin)
    ∧ quiescent_DinIdeal (hDinIdeal := hDinIdeal)
    ∧ quiescent_DinIdeal_pre_din_finite (hDinIdeal := hDinIdeal) (hPre_din_finite := hPre_din_finite)
    ∧ quiescent_DinRefIdeal (hDinRefIdeal := hDinRefIdeal)
    ∧ quiescent_DinRefIdeal_pre_din_finite (hDinRefIdeal := hDinRefIdeal) (hPre_din_finite := hPre_din_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_Small (hSmall := hSmall)
    ∧ quiescent_SmallIdeal (hSmallIdeal := hSmallIdeal)
    ∧ quiescent_SmallIdeal_pre_small_finite (hSmallIdeal := hSmallIdeal) (hPre_small_finite := hPre_small_finite)
    ∧ quiescent_SmallRefIdeal (hSmallRefIdeal := hSmallRefIdeal)
    ∧ quiescent_SmallRefIdeal_pre_small_finite (hSmallRefIdeal := hSmallRefIdeal) (hPre_small_finite := hPre_small_finite)
    ∧ preserves_GateUp_GateUpIdeal
    ∧ algebraic_GateUpIdeal_GateUpRefIdeal_pre_gate_up_finite (hGateUpIdeal := hGateUpIdeal) (hGateUpRefIdeal := hGateUpRefIdeal) (hPre_gate_up_finite := hPre_gate_up_finite)
    ∧ preserves_GwDown_GwDownIdeal
    ∧ algebraic_GwDownIdeal_GwDownRefIdeal (hGwDownIdeal := hGwDownIdeal) (hGwDownRefIdeal := hGwDownRefIdeal)
    ∧ preserves_GwOut_GwOutIdeal
    ∧ algebraic_GwOutIdeal_GwOutRefIdeal (hGwOutIdeal := hGwOutIdeal) (hGwOutRefIdeal := hGwOutRefIdeal)
    ∧ preserves_GwGateUp_GwGateUpIdeal
    ∧ algebraic_GwGateUpIdeal_GwGateUpRefIdeal (hGwGateUpIdeal := hGwGateUpIdeal) (hGwGateUpRefIdeal := hGwGateUpRefIdeal)
    ∧ preserves_GwIn_GwInIdeal
    ∧ algebraic_GwInIdeal_GwInRefIdeal (hGwInIdeal := hGwInIdeal) (hGwInRefIdeal := hGwInRefIdeal)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_Dgu_DguIdeal
    ∧ algebraic_DguIdeal_DguRefIdeal_pre_dgu_finite (hDguIdeal := hDguIdeal) (hDguRefIdeal := hDguRefIdeal) (hPre_dgu_finite := hPre_dgu_finite)
    ∧ preserves_DownLoss_DownLossIdeal
    ∧ algebraic_DownLossIdeal_DownLossRefIdeal_pre_down_loss_finite (hDownLossIdeal := hDownLossIdeal) (hDownLossRefIdeal := hDownLossRefIdeal) (hPre_down_loss_finite := hPre_down_loss_finite)
    ∧ preserves_OutProj_OutProjIdeal
    ∧ algebraic_OutProjIdeal_OutProjRefIdeal (hOutProjIdeal := hOutProjIdeal) (hOutProjRefIdeal := hOutProjRefIdeal)
    ∧ preserves_Din_DinIdeal
    ∧ algebraic_DinIdeal_DinRefIdeal_pre_din_finite (hDinIdeal := hDinIdeal) (hDinRefIdeal := hDinRefIdeal) (hPre_din_finite := hPre_din_finite)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_Small_SmallIdeal
    ∧ algebraic_SmallIdeal_SmallRefIdeal_pre_small_finite (hSmallIdeal := hSmallIdeal) (hSmallRefIdeal := hSmallRefIdeal) (hPre_small_finite := hPre_small_finite)
-- ==== Pre_dact_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .f32) (main_arg3 : FVec F S8192x2816 .f32) : IVec S8192x1024 1 × IVec S2816x1024 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := Host.absf main_arg2
  let main_cst_1 : FVec F S_ .f32 := constant S_ .f32 0x7F800000#32
  let main_v8 : FVec F S8192x2816 .f32 := broadcastInDim S8192x2816 ![] bcast_S_S8192x2816 main_cst_1
  let main_v9 : IVec S8192x2816 1 := cmpf .olt main_v7 main_v8
  let main_v10 : FVec F S8192x2816 .f32 := Host.absf main_arg3
  let main_cst_2 : FVec F S_ .f32 := constant S_ .f32 0x7F800000#32
  let main_v11 : FVec F S8192x2816 .f32 := broadcastInDim S8192x2816 ![] bcast_S_S8192x2816 main_cst_2
  let main_v12 : IVec S8192x2816 1 := cmpf .olt main_v10 main_v11
  (main_v2, main_v6, main_v9, main_v12)
-- ==== Pre_dgu_finite.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S1024x2816 : S_.BroadcastsInDim S1024x2816 (![] : Fin 0 → Fin S1024x2816.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_arg5 : FVec F S1x1024 .f32) (main_arg6 : FVec F S8192x1024 .f32) (main_arg7 : FVec F S1024x1024 .bf16) (main_v3 : IVec S8192x2816 1) (main_v7 : IVec S8192x2816 1) (main_v11 : IVec S1024x2816 1) (main_v15 : IVec S1024x2816 1) (main_v18 : IVec S8192x1024 1) : IVec S8192x2816 1 × IVec S8192x2816 1 × IVec S1024x2816 1 × IVec S1024x2816 1 × IVec S8192x1024 1 × IVec S1x1024 1 × IVec S8192x1024 1 × IVec S1024x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S8192x1024 .f32 := Host.absf main_arg6
  let main_cst_5 : FVec F S_ .f32 := constant S_ .f32 0x7F800000#32
  let main_v23 : FVec F S8192x1024 .f32 := broadcastInDim S8192x1024 ![] bcast_S_S8192x1024 main_cst_5
  let main_v24 : IVec S8192x1024 1 := cmpf .olt main_v22 main_v23
  let main_v25 : FVec F S1024x1024 .f32 := (extf .f32 · bitsLt_bf16_f32) main_arg7
  let main_v26 : FVec F S1024x1024 .f32 := Host.absf main_v25
  let main_cst_6 : FVec F S_ .f32 := constant S_ .f32 0x7F800000#32
  let main_v27 : FVec F S1024x1024 .f32 := broadcastInDim S1024x1024 ![] bcast_S_S1024x1024 main_cst_6
  let main_v28 : IVec S1024x1024 1 := cmpf .olt main_v26 main_v27
  (main_v3, main_v7, main_v11, main_v15, main_v18, main_v21, main_v24, main_v28)

def fn {F : FTy → Type} [FloatOps F] (main_arg0 : FVec F S8192x2816 .bf16) (main_arg1 : FVec F S8192x2816 .bf16) (main_arg2 : FVec F S1024x2816 .bf16) (main_arg3 : FVec F S1024x2816 .bf16) (main_arg4 : FVec F S8192x1024 .f32) (main_arg5 : FVec F S1x1024 .f32) (main_arg6 : FVec F S8192x1024 .f32) (main_arg7 : FVec F S1024x1024 .bf16) : IVec S8192x2816 1 × IVec S8192x2816 1 × IVec S1024x2816 1 × IVec S1024x2816 1 × IVec S8192x1024 1 × IVec S1x1024 1 × IVec S8192x1024 1 × IVec S1024x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S1024x2816 .f32 := (extf .f32 · bitsLt_bf16_f32) main_arg2
  let main_v9 : FVec F S1024x2816 .f32 := Host.absf main_v8
  let main_cst_1 : FVec F S_ .f32 := constant S_ .f32 0x7F800000#32
  let main_v10 : FVec F S1024x2816 .f32 := broadcastInDim S1024x2816 ![] bcast_S_S1024x2816 main_cst_1
  let main_v11 : IVec S1024x2816 1 := cmpf .olt main_v9 main_v10
  let main_v12 : FVec F S1024x2816 .f32 := (extf .f32 · bitsLt_bf16_f32) main_arg3
  let main_v13 : FVec F S1024x2816 .f32 := Host.absf main_v12
  let main_cst_2 : FVec F S_ .f32 := constant S_ .f32 0x7F800000#32
  let main_v14 : FVec F S1024x2816 .f32 := broadcastInDim S1024x2816 ![] bcast_S_S1024x2816 main_cst_2
  let main_v15 : IVec S1024x2816 1 := cmpf .olt main_v13 main_v14
  let main_v16 : FVec F S8192x1024 .f32 := Host.absf main_arg4
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  fn_part1 (F := F) main_arg5 main_arg6 main_arg7 main_v3 main_v7 main_v11 main_v15 main_v18
-- ==== Pre_din_finite.lean ====
abbrev S8192x512 : Shape := ⟨2, ![8192, 512]⟩
abbrev S1024x3584 : Shape := ⟨2, ![1024, 3584]⟩
abbrev S8192x1024 : Shape := ⟨2, ![8192, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  bitsLt_bf16_f32 : FTy.bits .bf16 < FTy.bits .f32
  bcast_S_S1024x3584 : S_.BroadcastsInDim S1024x3584 (![] : Fin 0 → Fin S1024x3584.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part2 {F : FTy → Type} [FloatOps F] (main_v2 : IVec S8192x512 1) (main_v5 : IVec S8192x512 1) (main_v8 : IVec S8192x512 1) (main_v12 : IVec S8192x512 1) (main_v16 : IVec S8192x512 1) (main_v20 : IVec S8192x512 1) (main_v24 : IVec S8192x512 1) (main_v28 : IVec S1024x3584 1) (main_v31 : IVec S8192x1024 1) (main_v34 : IVec S1x1024 1) (main_v35 : FVec F S8192x1024 .f32) (main_v36 : FVec F S8192x1024 .f32) : IVec S8192x512 1 × IVec S8192x512 1 × IVec S8192x512 1 × IVec S8192x512 1 × IVec S8192x512 1 × IVec S8192x512 1 × IVec S8192x512 1 × IVec S1024x3584 1 × IVec S8192x1024 1 × IVec S1x1024 1 × IVec S8192x1024 1 :=
  let main_v37 : IVec S8192x1024 1 := cmpf .olt main_v35 main_v36
  (main_v2, main_v5, main_v8, main_v12, main_v16, main_v20, main_v24, main_v28, main_v31, main_v34, main_v37)

def fn_part1 {F : FTy → Type} [FloatOps F] (main_arg6 : FVec F S8192x512 .bf16) (main_arg7 : FVec F S1024x3584 .bf16) (main_arg8 : FVec F S8192x1024 .f32) (main_arg9 : FVec F S1x1024 .f32) (main_arg10 : FVec F S8192x1024 .f32) (main_v2 : IVec S8192x512 1) (main_v5 : IVec S8192x512 1) (main_v8 : IVec S8192x512 1) (main_v12 : IVec S8192x512 1) (main_v16 : IVec S8192x512 1) (main_v18 : FVec F S8192x512 .f32) : IVec S8192x512 1 × IVec S8192x512 1 × IVec S8192x512 1 × IVec S8192x512 1 × IVec S8192x512 1 × IVec S8192x512 1 × IVec S8192x512 1 × IVec S1024x3584 1 × IVec S8192x1024 1 × IVec S1x1024 1 × IVec S8192x1024 1 :=
  let main_cst_4 : FVec F S_ .f32 := constant S_ .f32 0x7F800000#32
  let main_v19 : FVec F S8192x512 .f32 := broadcastInDim S8192x512 ![] bcast_S_S8192x512 main_cst_4
  let main_v20 : IVec S8192x512 1 := cmpf .olt main_v18 main_v19
  let main_v21 : FVec F S8192x512 .f32 := (extf .f32 · bitsLt_bf16_f32) main_arg6
  let main_v22 : FVec F S8192x512 .f32 := Host.absf main_v21
  let main_cst_5 : FVec F S_ .f32 := constant S_ .f32 0x7F800000#32
  let main_v23 : FVec F S8192x512 .f32 := broadcastInDim S8192x512 ![] bcast_S_S8192x512 main_cst_5
  let main_v24 : IVec S8192x512 1 := cmpf .olt main_v22 main_v23
  let main_v25 : FVec F S1024x3584 .f32 := (extf .f32 · bitsLt_bf16_f32) main_arg7
  let main_v26 : FVec F S1024x3584 .f32 := Host.absf main_v25
  let main_cst_6 : FVec F S_ .f32 := constant S_ .f32 0x7F800000#32
  let main_v27 : FVec F S1024x3584 .f32 := broadcastInDim S1024x3584 ![] bcast_S_S1024x3584 main_cst_6
  let main_v28 : IVec S1024x3584 1 := cmpf .olt main_v26 main_v27
  let main_v29 : FVec F S8192x1024 .f32 := Host.absf main_arg8
  let main_cst_7 : FVec F S_ .f32 := constant S_ .f32 0x7F800000#32
  let main_v30 : FVec F S8192x1024 .f32 := broadcastInDim S8192x1024 ![] bcast_S_S8192x1024 main_cst_7
  let main_v31 : IVec S8192x1024 1 := cmpf .olt main_v29 main_v30
  let main_v32 : FVec F S1x1024 .f32 := Host.absf main_arg9
  let main_cst_8 : FVec F S_ .f32 := constant S_ .f32 0x7F800000#32
  let main_v33 : FVec F S1x1024 .f32 := broadcastInDim S1x1024 ![] bcast_S_S1x1024 main_cst_8
  let main_v34 : IVec S1x1024 1 := cmpf .olt main_v32 main_v33
  let main_v35 : FVec F S8192x1024 .f32 := Host.absf main_arg10
  let main_cst_9 : FVec F S_ .f32 := constant S_ .f32 0x7F800000#32
  let main_v36 : FVec F S8192x1024 .f32 := broadcastInDim S8192x1024 ![] bcast_S_S8192x1024 main_cst_9
  fn_part2 (F := F) main_v2 main_v5 main_v8 main_v12 main_v16 main_v20 main_v24 main_v28 main_v31 main_v34 main_v35 main_v36

def fn {F : FTy → Type} [FloatOps F] (main_arg0 : FVec F S8192x512 .f32) (main_arg1 : FVec F S8192x512 .f32) (main_arg2 : FVec F S8192x512 .f32) (main_arg3 : FVec F S8192x512 .bf16) (main_arg4 : FVec F S8192x512 .bf16) (main_arg5 : FVec F S8192x512 .bf16) (main_arg6 : FVec F S8192x512 .bf16) (main_arg7 : FVec F S1024x3584 .bf16) (main_arg8 : FVec F S8192x1024 .f32) (main_arg9 : FVec F S1x1024 .f32) (main_arg10 : FVec F S8192x1024 .f32) : IVec S8192x512 1 × IVec S8192x512 1 × IVec S8192x512 1 × IVec S8192x512 1 × IVec S8192x512 1 × IVec S8192x512 1 × IVec S8192x512 1 × IVec S1024x3584 1 × IVec S8192x1024 1 × IVec S1x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := (extf .f32 · bitsLt_bf16_f32) main_arg3
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_v13 : FVec F S8192x512 .f32 := (extf .f32 · bitsLt_bf16_f32) main_arg4
  let main_v14 : FVec F S8192x512 .f32 := Host.absf main_v13
  let main_cst_3 : FVec F S_ .f32 := constant S_ .f32 0x7F800000#32
  let main_v15 : FVec F S8192x512 .f32 := broadcastInDim S8192x512 ![] bcast_S_S8192x512 main_cst_3
  let main_v16 : IVec S8192x512 1 := cmpf .olt main_v14 main_v15
  let main_v17 : FVec F S8192x512 .f32 := (extf .f32 · bitsLt_bf16_f32) main_arg5
  let main_v18 : FVec F S8192x512 .f32 := Host.absf main_v17
  fn_part1 (F := F) main_arg6 main_arg7 main_arg8 main_arg9 main_arg10 main_v2 main_v5 main_v8 main_v12 main_v16 main_v18
-- ==== Pre_down_loss_finite.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2816 .bf16) (main_arg1 : FVec F S2816x1024 .bf16) (main_arg2 : FVec F S8192x1024 .f32) (main_arg3 : FVec F S8192x1024 .f32) (main_arg4 : FVec F S1x1024 .f32) : IVec S8192x2816 1 × IVec S2816x1024 1 × IVec S8192x1024 1 × IVec S8192x1024 1 × IVec S1x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_gate_up_finite.lean ====
abbrev S8192x1024 : Shape := ⟨2, ![8192, 1024]⟩
abbrev S8x1024x704 : Shape := ⟨3, ![8, 1024, 704]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8x1024x704 : S_.BroadcastsInDim S8x1024x704 (![] : Fin 0 → Fin S8x1024x704.rank)

variable [Facts]

def fn {F : FTy → Type} [FloatOps F] (main_arg0 : FVec F S8192x1024 .bf16) (main_arg1 : FVec F S8x1024x704 .bf16) : IVec S8192x1024 1 × IVec S8x1024x704 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8x1024x704 .f32 := (extf .f32 · bitsLt_bf16_f32) main_arg1
  let main_v5 : FVec F S8x1024x704 .f32 := Host.absf main_v4
  let main_cst_0 : FVec F S_ .f32 := constant S_ .f32 0x7F800000#32
  let main_v6 : FVec F S8x1024x704 .f32 := broadcastInDim S8x1024x704 ![] bcast_S_S8x1024x704 main_cst_0
  let main_v7 : IVec S8x1024x704 1 := cmpf .olt main_v5 main_v6
  (main_v3, main_v7)
-- ==== Pre_small_finite.lean ====
abbrev S8x8x1024 : Shape := ⟨3, ![8, 8, 1024]⟩
abbrev S1x1024 : Shape := ⟨2, ![1, 1024]⟩
abbrev S2x512 : Shape := ⟨2, ![2, 512]⟩
abbrev S1x512 : Shape := ⟨2, ![1, 512]⟩
abbrev S_ : Shape := ⟨0, ![]⟩

class Facts : Prop where
  bcast_S_S8x8x1024 : S_.BroadcastsInDim S8x8x1024 (![] : Fin 0 → Fin S8x8x1024.rank)
  bcast_S_S2x512 : S_.BroadcastsInDim S2x512 (![] : Fin 0 → Fin S2x512.rank)

variable [Facts]

def fn {F : FTy → Type} [FloatOps F] (main_arg0 : FVec F S8x8x1024 .f32) (main_arg1 : FVec F S1x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S2x512 .f32) (main_arg11 : FVec F S2x512 .f32) (main_arg12 : FVec F S2x512 .f32) (main_arg13 : FVec F S1x512 .f32) (main_arg14 : FVec F S1x512 .f32) (main_arg15 : FVec F S1x512 .f32) : IVec S8x8x1024 1 × IVec S2x512 1 :=
  let main_v0 : FVec F S8x8x1024 .f32 := Host.absf main_arg0
  let main_cst : FVec F S_ .f32 := constant S_ .f32 0x7F800000#32
  let main_v1 : FVec F S8x8x1024 .f32 := broadcastInDim S8x8x1024 ![] bcast_S_S8x8x1024 main_cst
  let main_v2 : IVec S8x8x1024 1 := cmpf .olt main_v0 main_v1
  let main_v3 : FVec F S2x512 .f32 := Host.absf main_arg10
  let main_cst_0 : FVec F S_ .f32 := constant S_ .f32 0x7F800000#32
  let main_v4 : FVec F S2x512 .f32 := broadcastInDim S2x512 ![] bcast_S_S2x512 main_cst_0
  let main_v5 : IVec S2x512 1 := cmpf .olt main_v3 main_v4
  (main_v2, main_v5)
-- ==== GateUp.lean ====
abbrev S8192x1024 : Shape := ⟨2, ![8192, 1024]⟩
abbrev S8x1024x704 : Shape := ⟨3, ![8, 1024, 704]⟩
abbrev S8192x2816 : Shape := ⟨2, ![8192, 2816]⟩
abbrev S1024x2816 : Shape := ⟨2, ![1024, 2816]⟩
abbrev S512x1024 : Shape := ⟨2, ![512, 1024]⟩
abbrev S2x1024x704 : Shape := ⟨3, ![2, 1024, 704]⟩
abbrev S512x1408 : Shape := ⟨2, ![512, 1408]⟩
abbrev S1024x1408 : Shape := ⟨2, ![1024, 1408]⟩
abbrev S1x1024x704 : Shape := ⟨3, ![1, 1024, 704]⟩
abbrev S1024x704 : Shape := ⟨2, ![1024, 704]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S1024x2816, .bf16⟩
  | .hbm, ⟨6, _⟩ => ⟨S1024x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1024x704, .bf16⟩
  | .local _ .vmem, ⟨3, _⟩ => ⟨S2x1024x704, .bf16⟩
  | .local _ .vmem, ⟨4, _⟩ => ⟨S2x1024x704, .bf16⟩
  | .local _ .vmem, ⟨5, _⟩ => ⟨S2x1024x704, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S8192x1024 : Shape := ⟨2, ![8192, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S1024x2816 : Shape := ⟨2, ![1024, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8x1024x704, .f32⟩
  | .hbm, ⟨3, _⟩ => ⟨S1024x8x704, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1024x2816, .f32⟩
  | .hbm, ⟨28, _⟩ => ⟨S1024x2816, .f32⟩
  | .hbm, ⟨29, _⟩ => ⟨S8192x2816, .bf16⟩
  | .hbm, ⟨30, _⟩ => ⟨S8192x2816, .bf16⟩
  | .hbm, ⟨31, _⟩ => ⟨S8192x2816, .bf16⟩
  | .hbm, ⟨32, _⟩ => ⟨S1024x2816, .bf16⟩
  | .hbm, ⟨33, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== GwDown.lean ====
abbrev S8192x2816 : Shape := ⟨2, ![8192, 2816]⟩
abbrev S8192x1024 : Shape := ⟨2, ![8192, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S2816x512, .f32⟩
  | .local _ .vmem, ⟨5, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwGateUp.lean ====
abbrev S8192x1024 : Shape := ⟨2, ![8192, 1024]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S8x1024x704 : Shape := ⟨3, ![8, 1024, 704]⟩
abbrev S2048x1024 : Shape := ⟨2, ![2048, 1024]⟩
abbrev S1x2048x1408 : Shape := ⟨3, ![1, 2048, 1408]⟩
abbrev S2x1024x704 : Shape := ⟨3, ![2, 1024, 704]⟩
abbrev S1024x1408 : Shape := ⟨2, ![1024, 1408]⟩
abbrev S2048x1408 : Shape := ⟨2, ![2048, 1408]⟩
abbrev S1024x704 : Shape := ⟨2, ![1024, 704]⟩
abbrev S1x1024x704 : Shape := ⟨3, ![1, 1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1x8192x2816, .bf16⟩
  | .hbm, ⟨4, _⟩ => ⟨S1x8192x2816, .bf16⟩
  | .hbm, ⟨5, _⟩ => ⟨S2x8192x2816, .bf16⟩
  | .hbm, ⟨6, _⟩ => ⟨S8x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S2x1024x704, .f32⟩
  | .local _ .vmem, ⟨5, _⟩ => ⟨S2x1024x704, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GwGateUpRefIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GwIn.lean ====
abbrev S8192x1024 : Shape := ⟨2, ![8192, 1024]⟩
abbrev S8192x3584 : Shape := ⟨2, ![8192, 3584]⟩
abbrev S1x8192x3584 : Shape := ⟨3, ![1, 8192, 3584]⟩
abbrev S8x1024x448 : Shape := ⟨3, ![8, 1024, 448]⟩
abbrev S2048x1024 : Shape := ⟨2, ![2048, 1024]⟩
abbrev S1x2048x896 : Shape := ⟨3, ![1, 2048, 896]⟩
abbrev S2x1024x448 : Shape := ⟨3, ![2, 1024, 448]⟩
abbrev S1024x896 : Shape := ⟨2, ![1024, 896]⟩
abbrev S2048x896 : Shape := ⟨2, ![2048, 896]⟩
abbrev S1024x448 : Shape := ⟨2, ![1024, 448]⟩
abbrev S1x1024x448 : Shape := ⟨3, ![1, 1024, 448]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1x8192x3584, .bf16⟩
  | .hbm, ⟨3, _⟩ => ⟨S8x1024x448, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x896, .bf16⟩
  | .local _ .vmem, ⟨3, _⟩ => ⟨S1x2048x896, .bf16⟩
  | .local _ .vmem, ⟨4, _⟩ => ⟨S2x1024x448, .f32⟩
  | .local _ .vmem, ⟨5, _⟩ => ⟨S2x1024x448, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GwInRefIdeal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩
abbrev S1024x8x448 : Shape := ⟨3, ![1024, 8, 448]⟩
abbrev S8x1024x448 : Shape := ⟨3, ![8, 1024, 448]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S_, .f32⟩
  | .hbm, ⟨3, _⟩ => ⟨S1024x3584, .f32⟩
  | .hbm, ⟨4, _⟩ => ⟨S8192x1024, .f32⟩
  | .hbm, ⟨5, _⟩ => ⟨S8192x3584, .f32⟩
  | .hbm, ⟨6, _⟩ => ⟨S8192x3584, .f32⟩
  | .hbm, ⟨7, _⟩ => ⟨S3584x1024, .f32⟩
  | .hbm, ⟨8, _⟩ => ⟨S1024x3584, .f32⟩
  | .hbm, ⟨9, _⟩ => ⟨S1024x8x448, .f32⟩
  | .hbm, ⟨10, _⟩ => ⟨S8x1024x448, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S2x8192x2816 : Shape := ⟨3, ![2, 8192, 2816]⟩
abbrev S256x1024 : Shape := ⟨2, ![256, 1024]⟩
abbrev S256x2816 : Shape := ⟨2, ![256, 2816]⟩
abbrev S2x256x2816 : Shape := ⟨3, ![2, 256, 2816]⟩
abbrev S1x256x2816 : Shape := ⟨3, ![1, 256, 2816]⟩

abbrev nBuf : Space → Nat
  | .hbm => 24
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | .hbm, ⟨23, _⟩ => ⟨S2x8192x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S2x256x2816, .bf16⟩
  | .local _ .vmem, ⟨8, _⟩ => ⟨S2x256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DactRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1x8192x2816, .f32⟩
  | .hbm, ⟨28, _⟩ => ⟨S1x8192x2816, .f32⟩
  | .hbm, ⟨29, _⟩ => ⟨S2x8192x2816, .f32⟩
  | .hbm, ⟨30, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Dgu.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S1024x1024 : Shape := ⟨2, ![1024, 1024]⟩
abbrev S1x8192x2816 : Shape := ⟨3, ![1, 8192, 2816]⟩
abbrev S2x8192x2816 : Shape := ⟨3, ![2, 8192, 2816]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x1024, .bf16⟩
  | .hbm, ⟨8, _⟩ => ⟨S1x8192x2816, .bf16⟩
  | .hbm, ⟨9, _⟩ => ⟨S1x8192x2816, .bf16⟩
  | .hbm, ⟨10, _⟩ => ⟨S2x8192x2816, .bf16⟩
  | .hbm, ⟨11, _⟩ => ⟨S8192x1024, .f32⟩
  | .hbm, ⟨12, _⟩ => ⟨S1x1024, .f32⟩
  | .hbm, ⟨13, _⟩ => ⟨S8192x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S1024x2816, .bf16⟩
  | .local _ .vmem, ⟨3, _⟩ => ⟨S1024x2816, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DguRefIdeal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x1024, .bf16⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x2816, .f32⟩
  | .hbm, ⟨30, _⟩ => ⟨S8192x2816, .f32⟩
  | .hbm, ⟨31, _⟩ => ⟨S1024x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S_, .f32⟩
  | .hbm, ⟨66, _⟩ => ⟨S8192x1024, .f32⟩
  | .hbm, ⟨67, _⟩ => ⟨S1024x1024, .f32⟩
  | .hbm, ⟨68, _⟩ => ⟨S8192x1024, .f32⟩
  | .hbm, ⟨69, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== DownLoss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x128, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownLossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== OutProj.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .bf16⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .bf16⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Din.lean ====
abbrev S8192x512 : Shape := ⟨2, ![8192, 512]⟩
abbrev S1024x3584 : Shape := ⟨2, ![1024, 3584]⟩
abbrev S8192x1024 : Shape := ⟨2, ![8192, 1024]⟩
abbrev S1x1024 : Shape := ⟨2, ![1, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x3584 : Shape := ⟨2, ![8192, 3584]⟩
abbrev S512x512 : Shape := ⟨2, ![512, 512]⟩
abbrev S512x128 : Shape := ⟨2, ![512, 128]⟩
abbrev S512x1024 : Shape := ⟨2, ![512, 1024]⟩
abbrev S512x3584 : Shape := ⟨2, ![512, 3584]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 52
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1024x3584, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S8192, .f32⟩
  | .hbm, ⟨35, _⟩ => ⟨S8192x1, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S1x8192x1x32, .f32⟩
  | .hbm, ⟨42, _⟩ => ⟨S1x8192x4x32, .f32⟩
  | .hbm, ⟨43, _⟩ => ⟨S8192x128, .f32⟩
  | .hbm, ⟨44, _⟩ => ⟨S8192x32, .f32⟩
  | .hbm, ⟨45, _⟩ => ⟨S8192x64, .f32⟩
  | .hbm, ⟨46, _⟩ => ⟨S1x8192x1x64, .f32⟩
  | .hbm, ⟨47, _⟩ => ⟨S1x8192x2x64, .f32⟩
  | .hbm, ⟨48, _⟩ => ⟨S8192x128, .f32⟩
  | .hbm, ⟨49, _⟩ => ⟨S8192x3584, .bf16⟩
  | .hbm, ⟨50, _⟩ => ⟨S8192x1024, .f32⟩
  | .hbm, ⟨51, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1024x3584, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x3584, .bf16⟩
  | .local _ .vmem, ⟨25, _⟩ => ⟨S512x3584, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3584 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== DinRefIdeal.lean ====
abbrev S8192x512 : Shape := ⟨2, ![8192, 512]⟩
abbrev S1024x3584 : Shape := ⟨2, ![1024, 3584]⟩
abbrev S8192x1024 : Shape := ⟨2, ![8192, 1024]⟩
abbrev S1x1024 : Shape := ⟨2, ![1, 1024]⟩
abbrev S_ : Shape := ⟨0, ![]⟩
abbrev S8192x3584 : Shape := ⟨2, ![8192, 3584]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x8x64 : Shape := ⟨3, ![8192, 8, 64]⟩
abbrev S8192x1x32 : Shape := ⟨3, ![8192, 1, 32]⟩
abbrev S8192x8x32 : Shape := ⟨3, ![8192, 8, 32]⟩
abbrev S1024 : Shape := ⟨1, ![1024]⟩

abbrev nBuf : Space → Nat
  | .hbm => 206
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .bf16⟩
  | 4 => ⟨S8192x512, .bf16⟩
  | 5 => ⟨S8192x512, .bf16⟩
  | 6 => ⟨S8192x512, .bf16⟩
  | 7 => ⟨S1024x3584, .bf16⟩
  | 8 => ⟨S8192x1024, .f32⟩
  | 9 => ⟨S1x1024, .f32⟩
  | 10 => ⟨S8192x1024, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S8192x3584, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S8192, .f32⟩
  | 26 => ⟨S8192x1, .f32⟩
  | 27 => ⟨S1x32, .f32⟩
  | 28 => ⟨S8192x32, .f32⟩
  | 29 => ⟨S8192x32, .f32⟩
  | 30 => ⟨S8192x32, .f32⟩
  | 31 => ⟨S8192x32, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S8192, .f32⟩
  | 41 => ⟨S8192x1, .f32⟩
  | 42 => ⟨S1x32, .f32⟩
  | 43 => ⟨S8192x32, .f32⟩
  | 44 => ⟨S8192x32, .f32⟩
  | 45 => ⟨S8192x32, .f32⟩
  | 46 => ⟨S8192x32, .f32⟩
  | 47 => ⟨S8192x512, .f32⟩
  | 48 => ⟨S8192x512, .f32⟩
  | 49 => ⟨S8192x512, .f32⟩
  | 50 => ⟨S8192x8x64, .f32⟩
  | 51 => ⟨S8192x1x32, .f32⟩
  | 52 => ⟨S8192x1x32, .f32⟩
  | 53 => ⟨S8192x8x32, .f32⟩
  | 54 => ⟨S8192x8x32, .f32⟩
  | 55 => ⟨S8192x8x32, .f32⟩
  | 56 => ⟨S8192x8x32, .f32⟩
  | 57 => ⟨S8192x8x32, .f32⟩
  | 58 => ⟨S8192x8x32, .f32⟩
  | 59 => ⟨S8192x8x32, .f32⟩
  | 60 => ⟨S8192x8x32, .f32⟩
  | 61 => ⟨S8192x8x32, .f32⟩
  | 62 => ⟨S8192x8x32, .f32⟩
  | 63 => ⟨S8192x8x32, .f32⟩
  | 64 => ⟨S8192x8x32, .f32⟩
  | 65 => ⟨S8192x8x64, .f32⟩
  | 66 => ⟨S8192x512, .f32⟩
  | 67 => ⟨S_, .f32⟩
  | 68 => ⟨S8192x512, .f32⟩
  | 69 => ⟨S8192x512, .f32⟩
  | 70 => ⟨S8192x8x64, .f32⟩
  | 71 => ⟨S8192x1x32, .f32⟩
  | 72 => ⟨S8192x1x32, .f32⟩
  | 73 => ⟨S8192x8x32, .f32⟩
  | 74 => ⟨S8192x8x32, .f32⟩
  | 75 => ⟨S8192x8x32, .f32⟩
  | 76 => ⟨S8192x8x32, .f32⟩
  | 77 => ⟨S8192x8x32, .f32⟩
  | 78 => ⟨S8192x8x32, .f32⟩
  | 79 => ⟨S8192x8x32, .f32⟩
  | 80 => ⟨S8192x8x32, .f32⟩
  | 81 => ⟨S8192x8x32, .f32⟩
  | 82 => ⟨S8192x8x32, .f32⟩
  | 83 => ⟨S8192x8x32, .f32⟩
  | 84 => ⟨S8192x8x32, .f32⟩
  | 85 => ⟨S8192x8x64, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S_, .f32⟩
  | 92 => ⟨S8192x3584, .f32⟩
  | 93 => ⟨S_, .f32⟩
  | 94 => ⟨S8192x3584, .f32⟩
  | 95 => ⟨S8192x3584, .f32⟩
  | 96 => ⟨S_, .f32⟩
  | 97 => ⟨S8192x3584, .f32⟩
  | 98 => ⟨S8192x3584, .f32⟩
  | 99 => ⟨S_, .f32⟩
  | 100 => ⟨S8192x3584, .f32⟩
  | 101 => ⟨S8192x3584, .f32⟩
  | 102 => ⟨S8192x8x64, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x32, .f32⟩
  | 109 => ⟨S8192x8x32, .f32⟩
  | 110 => ⟨S8192x8x32, .f32⟩
  | 111 => ⟨S8192x8x32, .f32⟩
  | 112 => ⟨S8192x8x32, .f32⟩
  | 113 => ⟨S8192x8x32, .f32⟩
  | 114 => ⟨S8192x8x32, .f32⟩
  | 115 => ⟨S8192x8x32, .f32⟩
  | 116 => ⟨S_, .f32⟩
  | 117 => ⟨S8192x8x64, .f32⟩
  | 118 => ⟨S_, .f32⟩
  | 119 => ⟨S8192x8x64, .f32⟩
  | 120 => ⟨S8192x8x64, .f32⟩
  | 121 => ⟨S8192x512, .f32⟩
  | 122 => ⟨S_, .f32⟩
  | 123 => ⟨S8192x512, .f32⟩
  | 124 => ⟨S8192x512, .f32⟩
  | 125 => ⟨S8192x8x64, .f32⟩
  | 126 => ⟨S8192x8x32, .f32⟩
  | 127 => ⟨S8192x8x32, .f32⟩
  | _ => ⟨S8192x512, .f32⟩

abbrev hbmTy0_1 (i : Nat) : BufTy := match i % 128 with
  | 0 => ⟨S8192x8x32, .f32⟩
  | 1 => ⟨S8192x8x32, .f32⟩
  | 2 => ⟨S8192x8x32, .f32⟩
  | 3 => ⟨S8192x8x32, .f32⟩
  | 4 => ⟨S8192x8x32, .f32⟩
  | 5 => ⟨S8192x8x32, .f32⟩
  | 6 => ⟨S8192x8x32, .f32⟩
  | 7 => ⟨S8192x8x32, .f32⟩
  | 8 => ⟨S8192x8x32, .f32⟩
  | 9 => ⟨S8192x8x32, .f32⟩
  | 10 => ⟨S8192x8x32, .f32⟩
  | 11 => ⟨S_, .f32⟩
  | 12 => ⟨S8192x8x64, .f32⟩
  | 13 => ⟨S_, .f32⟩
  | 14 => ⟨S8192x8x64, .f32⟩
  | 15 => ⟨S8192x8x64, .f32⟩
  | 16 => ⟨S8192x512, .f32⟩
  | 17 => ⟨S_, .f32⟩
  | 18 => ⟨S8192x3584, .f32⟩
  | 19 => ⟨S8192x3584, .f32⟩
  | 20 => ⟨S_, .f32⟩
  | 21 => ⟨S8192x3584, .f32⟩
  | 22 => ⟨S8192x3584, .f32⟩
  | 23 => ⟨S_, .f32⟩
  | 24 => ⟨S8192x3584, .f32⟩
  | 25 => ⟨S8192x3584, .f32⟩
  | 26 => ⟨S1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S1024x3584, .f32⟩
  | 48 => ⟨S8192x3584, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1024, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S1x1024, .f32⟩
  | 77 => ⟨S8192x3584, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_5 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_cst_7 : Ref sig .tc := ⟨.hbm, 96, rfl⟩
abbrev main_v77 : Ref sig .tc := ⟨.hbm, 97, rfl⟩
abbrev main_v78 : Ref sig .tc := ⟨.hbm, 98, rfl⟩
abbrev main_cst_8 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_cst_10 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_11 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_12 : Ref sig .tc := ⟨.hbm, 139, rfl⟩
abbrev main_v115 : Ref sig .tc := ⟨.hbm, 140, rfl⟩
abbrev main_cst_13 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_14 : Ref sig .tc := ⟨.hbm, 145, rfl⟩
abbrev main_v119 : Ref sig .tc := ⟨.hbm, 146, rfl⟩
abbrev main_v120 : Ref sig .tc := ⟨.hbm, 147, rfl⟩
abbrev main_cst_15 : Ref sig .tc := ⟨.hbm, 148, rfl⟩
abbrev main_v121 : Ref sig .tc := ⟨.hbm, 149, rfl⟩
abbrev main_v122 : Ref sig .tc := ⟨.hbm, 150, rfl⟩
abbrev main_cst_16 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_17 : Ref sig .tc := ⟨.hbm, 156, rfl⟩
abbrev main_v127 : Ref sig .tc := ⟨.hbm, 157, rfl⟩
abbrev main_v128 : Ref sig .tc := ⟨.hbm, 158, rfl⟩
abbrev main_cst_18 : Ref sig .tc := ⟨.hbm, 159, rfl⟩
abbrev main_v129 : Ref sig .tc := ⟨.hbm, 160, rfl⟩
abbrev main_v130 : Ref sig .tc := ⟨.hbm, 161, rfl⟩
abbrev main_cst_19 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_20 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_21 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_22 : Ref sig .tc := ⟨.hbm, 184, rfl⟩
abbrev main_v150 : Ref sig .tc := ⟨.hbm, 185, rfl⟩
abbrev main_v151 : Ref sig .tc := ⟨.hbm, 186, rfl⟩
abbrev main_cst_23 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_24 : Ref sig .tc := ⟨.hbm, 194, rfl⟩
abbrev main_v158 : Ref sig .tc := ⟨.hbm, 195, rfl⟩
abbrev main_v159 : Ref sig .tc := ⟨.hbm, 196, rfl⟩
abbrev main_cst_25 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩

abbrev nD : Nat := 1
abbrev τ : Topo := Topo.v7x

variable {F : FTy → Type} [FloatOps F]
-- ==== AdamIn.lean ====
abbrev S8x1024x448 : Shape := ⟨3, ![8, 1024, 448]⟩
abbrev S4x1024x448 : Shape := ⟨3, ![4, 1024, 448]⟩
abbrev S3x1024x448 : Shape := ⟨3, ![3, 1024, 448]⟩
abbrev S1024x448 : Shape := ⟨2, ![1024, 448]⟩
abbrev S_ : Shape := ⟨0, ![]⟩
abbrev S1 : Shape := ⟨1, ![1]⟩
abbrev S2 : Shape := ⟨1, ![2]⟩
abbrev S1x512x448 : Shape := ⟨3, ![1, 512, 448]⟩
abbrev S3x512x448 : Shape := ⟨3, ![3, 512, 448]⟩
abbrev S512x448 : Shape := ⟨2, ![512, 448]⟩

abbrev nBuf : Space → Nat
  | .hbm => 15
  | .vmem => 20
  | .smem => 1
  | _ => 0

abbrev bufTy : (tb : Table) → Fin (tcTables nBuf tb) → BufTy
  | .hbm, ⟨0, _⟩ => ⟨S8x1024x448, .f32⟩
  | .hbm, ⟨1, _⟩ => ⟨S4x1024x448, .f32⟩
  | .hbm, ⟨2, _⟩ => ⟨S3x1024x448, .bf16⟩
  | .hbm, ⟨3, _⟩ => ⟨S1024x448, .f32⟩
  | .hbm, ⟨4, _⟩ => ⟨S1024x448, .f32⟩
  | .hbm, ⟨5, _⟩ => ⟨S1024x448, .f32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S1024x448, .f32⟩
  | .hbm, ⟨12, _⟩ => ⟨S1024x448, .f32⟩
  | .hbm, ⟨13, _⟩ => ⟨S1024x448, .f32⟩
  | .hbm, ⟨14, _⟩ => ⟨S1024x448, .f32⟩
  | .local _ .vmem, ⟨0, _⟩ => ⟨S1x512x448, .f32⟩
  | .local _ .vmem, ⟨1, _⟩ => ⟨S1x512x448, .f32⟩
  | .local _ .vmem, ⟨2, _⟩ => ⟨S1x512x448, .f32⟩
  | .local _ .vmem, ⟨3, _⟩ => ⟨S1x512x448, .f32⟩
  | .local _ .vmem, ⟨4, _⟩ => ⟨S3x512x448, .bf16⟩
  | .local _ .vmem, ⟨5, _⟩ => ⟨S3x512x448, .bf16⟩
  | .local _ .vmem, ⟨6, _⟩ => ⟨S512x448, .f32⟩
  | .local _ .vmem, ⟨7, _⟩ => ⟨S512x448, .f32⟩
  | .local _ .vmem, ⟨8, _⟩ => ⟨S512x448, .f32⟩
  | .local _ .vmem, ⟨9, _⟩ => ⟨S512x448, .f32⟩
  | .local _ .vmem, ⟨10, _⟩ => ⟨S512x448, .f32⟩
  | .local _ .vmem, ⟨11, _⟩ => ⟨S512x448, .f32⟩
  | .local _ .vmem, ⟨12, _⟩ => ⟨S512x448, .f32⟩
  | .local _ .vmem, ⟨13, _⟩ => ⟨S512x448, .f32⟩
  | .local _ .vmem, ⟨14, _⟩ => ⟨S512x448, .f32⟩
  | .local _ .vmem, ⟨15, _⟩ => ⟨S512x448, .f32⟩
  | .local _ .vmem, ⟨16, _⟩ => ⟨S512x448, .f32⟩
  | .local _ .vmem, ⟨17, _⟩ => ⟨S512x448, .f32⟩
  | .local _ .vmem, ⟨18, _⟩ => ⟨S512x448, .f32⟩
  | .local _ .vmem, ⟨19, _⟩ => ⟨S512x448, .f32⟩
  | .local _ .smem, ⟨0, _⟩ => ⟨S2, .i32⟩
  | _, _ => ⟨S8x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x448 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamInIdeal.lean ====
abbrev S8x1024x448 : Shape := ⟨3, ![8, 1024, 448]⟩
abbrev S4x1024x448 : Shape := ⟨3, ![4, 1024, 448]⟩
abbrev S3x1024x448 : Shape := ⟨3, ![3, 1024, 448]⟩
abbrev S1024x448 : Shape := ⟨2, ![1024, 448]⟩
abbrev S_ : Shape := ⟨0, ![]⟩
abbrev S1 : Shape := ⟨1, ![1]⟩
abbrev S2 : Shape := ⟨1, ![2]⟩
abbrev S1x512x448 : Shape := ⟨3, ![1, 512, 448]⟩
abbrev S3x512x448 : Shape := ⟨3, ![3, 512, 448]⟩
abbrev S512x448 : Shape := ⟨2, ![512, 448]⟩

abbrev nBuf : Space → Nat
  | .hbm => 15
  | .vmem => 20
  | .smem => 1
  | _ => 0

abbrev bufTy : (tb : Table) → Fin (tcTables nBuf tb) → BufTy
  | .hbm, ⟨0, _⟩ => ⟨S8x1024x448, .f32⟩
  | .hbm, ⟨1, _⟩ => ⟨S4x1024x448, .f32⟩
  | .hbm, ⟨2, _⟩ => ⟨S3x1024x448, .bf16⟩
  | .hbm, ⟨3, _⟩ => ⟨S1024x448, .f32⟩
  | .hbm, ⟨4, _⟩ => ⟨S1024x448, .f32⟩
  | .hbm, ⟨5, _⟩ => ⟨S1024x448, .f32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S1024x448, .f32⟩
  | .hbm, ⟨12, _⟩ => ⟨S1024x448, .f32⟩
  | .hbm, ⟨13, _⟩ => ⟨S1024x448, .f32⟩
  | .hbm, ⟨14, _⟩ => ⟨S1024x448, .f32⟩
  | .local _ .vmem, ⟨0, _⟩ => ⟨S1x512x448, .f32⟩
  | .local _ .vmem, ⟨1, _⟩ => ⟨S1x512x448, .f32⟩
  | .local _ .vmem, ⟨2, _⟩ => ⟨S1x512x448, .f32⟩
  | .local _ .vmem, ⟨3, _⟩ => ⟨S1x512x448, .f32⟩
  | .local _ .vmem, ⟨4, _⟩ => ⟨S3x512x448, .bf16⟩
  | .local _ .vmem, ⟨5, _⟩ => ⟨S3x512x448, .bf16⟩
  | .local _ .vmem, ⟨6, _⟩ => ⟨S512x448, .f32⟩
  | .local _ .vmem, ⟨7, _⟩ => ⟨S512x448, .f32⟩
  | .local _ .vmem, ⟨8, _⟩ => ⟨S512x448, .f32⟩
  | .local _ .vmem, ⟨9, _⟩ => ⟨S512x448, .f32⟩
  | .local _ .vmem, ⟨10, _⟩ => ⟨S512x448, .f32⟩
  | .local _ .vmem, ⟨11, _⟩ => ⟨S512x448, .f32⟩
  | .local _ .vmem, ⟨12, _⟩ => ⟨S512x448, .f32⟩
  | .local _ .vmem, ⟨13, _⟩ => ⟨S512x448, .f32⟩
  | .local _ .vmem, ⟨14, _⟩ => ⟨S512x448, .f32⟩
  | .local _ .vmem, ⟨15, _⟩ => ⟨S512x448, .f32⟩
  | .local _ .vmem, ⟨16, _⟩ => ⟨S512x448, .f32⟩
  | .local _ .vmem, ⟨17, _⟩ => ⟨S512x448, .f32⟩
  | .local _ .vmem, ⟨18, _⟩ => ⟨S512x448, .f32⟩
  | .local _ .vmem, ⟨19, _⟩ => ⟨S512x448, .f32⟩
  | .local _ .smem, ⟨0, _⟩ => ⟨S2, .i32⟩
  | _, _ => ⟨S8x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x448 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamInRefIdeal.lean ====
abbrev S8x1024x448 : Shape := ⟨3, ![8, 1024, 448]⟩
abbrev S4x1024x448 : Shape := ⟨3, ![4, 1024, 448]⟩
abbrev S3x1024x448 : Shape := ⟨3, ![3, 1024, 448]⟩
abbrev S1024x448 : Shape := ⟨2, ![1024, 448]⟩
abbrev S1x1024x448 : Shape := ⟨3, ![1, 1024, 448]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x448, .f32⟩
  | .hbm, ⟨1, _⟩ => ⟨S4x1024x448, .f32⟩
  | .hbm, ⟨2, _⟩ => ⟨S3x1024x448, .bf16⟩
  | .hbm, ⟨3, _⟩ => ⟨S1024x448, .f32⟩
  | .hbm, ⟨4, _⟩ => ⟨S1024x448, .f32⟩
  | .hbm, ⟨5, _⟩ => ⟨S1024x448, .f32⟩
  | .hbm, ⟨6, _⟩ => ⟨S1x1024x448, .f32⟩
  | .hbm, ⟨7, _⟩ => ⟨S1024x448, .f32⟩
  | .hbm, ⟨8, _⟩ => ⟨S1x1024x448, .f32⟩
  | .hbm, ⟨9, _⟩ => ⟨S1024x448, .f32⟩
  | .hbm, ⟨10, _⟩ => ⟨S1024x448, .f32⟩
  | .hbm, ⟨11, _⟩ => ⟨S3x1024x448, .f32⟩
  | .hbm, ⟨12, _⟩ => ⟨S_, .f32⟩
  | .hbm, ⟨13, _⟩ => ⟨S1024x448, .f32⟩
  | .hbm, ⟨14, _⟩ => ⟨S1024x448, .f32⟩
  | .hbm, ⟨15, _⟩ => ⟨S_, .f32⟩
  | .hbm, ⟨16, _⟩ => ⟨S1024x448, .f32⟩
  | .hbm, ⟨17, _⟩ => ⟨S1024x448, .f32⟩
  | .hbm, ⟨18, _⟩ => ⟨S_, .f32⟩
  | .hbm, ⟨19, _⟩ => ⟨S1024x448, .f32⟩
  | .hbm, ⟨20, _⟩ => ⟨S1024x448, .f32⟩
  | .hbm, ⟨21, _⟩ => ⟨S1024x448, .f32⟩
  | .hbm, ⟨22, _⟩ => ⟨S_, .f32⟩
  | .hbm, ⟨23, _⟩ => ⟨S1024x448, .f32⟩
  | .hbm, ⟨24, _⟩ => ⟨S1024x448, .f32⟩
  | .hbm, ⟨25, _⟩ => ⟨S1024x448, .f32⟩
  | .hbm, ⟨26, _⟩ => ⟨S_, .f32⟩
  | .hbm, ⟨27, _⟩ => ⟨S1024x448, .f32⟩
  | .hbm, ⟨28, _⟩ => ⟨S1024x448, .f32⟩
  | .hbm, ⟨29, _⟩ => ⟨S1024x448, .f32⟩
  | .hbm, ⟨30, _⟩ => ⟨S_, .f32⟩
  | .hbm, ⟨31, _⟩ => ⟨S1024x448, .f32⟩
  | .hbm, ⟨32, _⟩ => ⟨S1024x448, .f32⟩
  | .hbm, ⟨33, _⟩ => ⟨S_, .f32⟩
  | .hbm, ⟨34, _⟩ => ⟨S1024x448, .f32⟩
  | .hbm, ⟨35, _⟩ => ⟨S1024x448, .f32⟩
  | .hbm, ⟨36, _⟩ => ⟨S1024x448, .f32⟩
  | .hbm, ⟨37, _⟩ => ⟨S_, .f32⟩
  | .hbm, ⟨38, _⟩ => ⟨S1024x448, .f32⟩
  | .hbm, ⟨39, _⟩ => ⟨S1024x448, .f32⟩
  | .hbm, ⟨40, _⟩ => ⟨S1024x448, .f32⟩
  | .hbm, ⟨41, _⟩ => ⟨S_, .f32⟩
  | .hbm, ⟨42, _⟩ => ⟨S1024x448, .f32⟩
  | .hbm, ⟨43, _⟩ => ⟨S1024x448, .f32⟩
  | .hbm, ⟨44, _⟩ => ⟨S1024x448, .f32⟩
  | .hbm, ⟨45, _⟩ => ⟨S_, .f32⟩
  | .hbm, ⟨46, _⟩ => ⟨S1024x448, .f32⟩
  | .hbm, ⟨47, _⟩ => ⟨S1024x448, .f32⟩
  | _, _ => ⟨S8x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamOut.lean ====
abbrev S8x128x1024 : Shape := ⟨3, ![8, 128, 1024]⟩
abbrev S4x128x1024 : Shape := ⟨3, ![4, 128, 1024]⟩
abbrev S3x128x1024 : Shape := ⟨3, ![3, 128, 1024]⟩
abbrev S128x1024 : Shape := ⟨2, ![128, 1024]⟩
abbrev S_ : Shape := ⟨0, ![]⟩
abbrev S1 : Shape := ⟨1, ![1]⟩
abbrev S2 : Shape := ⟨1, ![2]⟩
abbrev S1x128x1024 : Shape := ⟨3, ![1, 128, 1024]⟩

abbrev nBuf : Space → Nat
  | .hbm => 15
  | .vmem => 10
  | .smem => 1
  | _ => 0

abbrev bufTy : (tb : Table) → Fin (tcTables nBuf tb) → BufTy
  | .hbm, ⟨0, _⟩ => ⟨S8x128x1024, .f32⟩
  | .hbm, ⟨1, _⟩ => ⟨S4x128x1024, .f32⟩
  | .hbm, ⟨2, _⟩ => ⟨S3x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .local _ .vmem, ⟨0, _⟩ => ⟨S1x128x1024, .f32⟩
  | .local _ .vmem, ⟨1, _⟩ => ⟨S1x128x1024, .f32⟩
  | .local _ .vmem, ⟨2, _⟩ => ⟨S3x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S2, .i32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamOutIdeal.lean ====
abbrev S8x128x1024 : Shape := ⟨3, ![8, 128, 1024]⟩
abbrev S4x128x1024 : Shape := ⟨3, ![4, 128, 1024]⟩
abbrev S3x128x1024 : Shape := ⟨3, ![3, 128, 1024]⟩
abbrev S128x1024 : Shape := ⟨2, ![128, 1024]⟩
abbrev S_ : Shape := ⟨0, ![]⟩
abbrev S1 : Shape := ⟨1, ![1]⟩
abbrev S2 : Shape := ⟨1, ![2]⟩
abbrev S1x128x1024 : Shape := ⟨3, ![1, 128, 1024]⟩

abbrev nBuf : Space → Nat
  | .hbm => 15
  | .vmem => 10
  | .smem => 1
  | _ => 0

abbrev bufTy : (tb : Table) → Fin (tcTables nBuf tb) → BufTy
  | .hbm, ⟨0, _⟩ => ⟨S8x128x1024, .f32⟩
  | .hbm, ⟨1, _⟩ => ⟨S4x128x1024, .f32⟩
  | .hbm, ⟨2, _⟩ => ⟨S3x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .local _ .vmem, ⟨0, _⟩ => ⟨S1x128x1024, .f32⟩
  | .local _ .vmem, ⟨1, _⟩ => ⟨S1x128x1024, .f32⟩
  | .local _ .vmem, ⟨2, _⟩ => ⟨S3x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S2, .i32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamOutRefIdeal.lean ====
abbrev S8x128x1024 : Shape := ⟨3, ![8, 128, 1024]⟩
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S4x128x1024, .f32⟩
  | .hbm, ⟨2, _⟩ => ⟨S3x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S1x128x1024, .f32⟩
  | .hbm, ⟨7, _⟩ => ⟨S128x1024, .f32⟩
  | .hbm, ⟨8, _⟩ => ⟨S1x128x1024, .f32⟩
  | .hbm, ⟨9, _⟩ => ⟨S128x1024, .f32⟩
  | .hbm, ⟨10, _⟩ => ⟨S128x1024, .f32⟩
  | .hbm, ⟨11, _⟩ => ⟨S3x128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamGateUp.lean ====
abbrev S8x1024x704 : Shape := ⟨3, ![8, 1024, 704]⟩
abbrev S4x1024x704 : Shape := ⟨3, ![4, 1024, 704]⟩
abbrev S3x1024x704 : Shape := ⟨3, ![3, 1024, 704]⟩
abbrev S1024x704 : Shape := ⟨2, ![1024, 704]⟩
abbrev S_ : Shape := ⟨0, ![]⟩
abbrev S1 : Shape := ⟨1, ![1]⟩
abbrev S2 : Shape := ⟨1, ![2]⟩
abbrev S1x512x704 : Shape := ⟨3, ![1, 512, 704]⟩
abbrev S3x512x704 : Shape := ⟨3, ![3, 512, 704]⟩
abbrev S512x704 : Shape := ⟨2, ![512, 704]⟩

abbrev nBuf : Space → Nat
  | .hbm => 15
  | .vmem => 20
  | .smem => 1
  | _ => 0

abbrev bufTy : (tb : Table) → Fin (tcTables nBuf tb) → BufTy
  | .hbm, ⟨0, _⟩ => ⟨S8x1024x704, .f32⟩
  | .hbm, ⟨1, _⟩ => ⟨S4x1024x704, .f32⟩
  | .hbm, ⟨2, _⟩ => ⟨S3x1024x704, .bf16⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S1024x704, .f32⟩
  | .local _ .vmem, ⟨0, _⟩ => ⟨S1x512x704, .f32⟩
  | .local _ .vmem, ⟨1, _⟩ => ⟨S1x512x704, .f32⟩
  | .local _ .vmem, ⟨2, _⟩ => ⟨S1x512x704, .f32⟩
  | .local _ .vmem, ⟨3, _⟩ => ⟨S1x512x704, .f32⟩
  | .local _ .vmem, ⟨4, _⟩ => ⟨S3x512x704, .bf16⟩
  | .local _ .vmem, ⟨5, _⟩ => ⟨S3x512x704, .bf16⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | .local _ .vmem, ⟨18, _⟩ => ⟨S512x704, .f32⟩
  | .local _ .vmem, ⟨19, _⟩ => ⟨S512x704, .f32⟩
  | .local _ .smem, ⟨0, _⟩ => ⟨S2, .i32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamGateUpIdeal.lean ====
abbrev S8x1024x704 : Shape := ⟨3, ![8, 1024, 704]⟩
abbrev S4x1024x704 : Shape := ⟨3, ![4, 1024, 704]⟩
abbrev S3x1024x704 : Shape := ⟨3, ![3, 1024, 704]⟩
abbrev S1024x704 : Shape := ⟨2, ![1024, 704]⟩
abbrev S_ : Shape := ⟨0, ![]⟩
abbrev S1 : Shape := ⟨1, ![1]⟩
abbrev S2 : Shape := ⟨1, ![2]⟩
abbrev S1x512x704 : Shape := ⟨3, ![1, 512, 704]⟩
abbrev S3x512x704 : Shape := ⟨3, ![3, 512, 704]⟩
abbrev S512x704 : Shape := ⟨2, ![512, 704]⟩

abbrev nBuf : Space → Nat
  | .hbm => 15
  | .vmem => 20
  | .smem => 1
  | _ => 0

abbrev bufTy : (tb : Table) → Fin (tcTables nBuf tb) → BufTy
  | .hbm, ⟨0, _⟩ => ⟨S8x1024x704, .f32⟩
  | .hbm, ⟨1, _⟩ => ⟨S4x1024x704, .f32⟩
  | .hbm, ⟨2, _⟩ => ⟨S3x1024x704, .bf16⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S1024x704, .f32⟩
  | .local _ .vmem, ⟨0, _⟩ => ⟨S1x512x704, .f32⟩
  | .local _ .vmem, ⟨1, _⟩ => ⟨S1x512x704, .f32⟩
  | .local _ .vmem, ⟨2, _⟩ => ⟨S1x512x704, .f32⟩
  | .local _ .vmem, ⟨3, _⟩ => ⟨S1x512x704, .f32⟩
  | .local _ .vmem, ⟨4, _⟩ => ⟨S3x512x704, .bf16⟩
  | .local _ .vmem, ⟨5, _⟩ => ⟨S3x512x704, .bf16⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | .local _ .vmem, ⟨18, _⟩ => ⟨S512x704, .f32⟩
  | .local _ .vmem, ⟨19, _⟩ => ⟨S512x704, .f32⟩
  | .local _ .smem, ⟨0, _⟩ => ⟨S2, .i32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamGateUpRefIdeal.lean ====
abbrev S8x1024x704 : Shape := ⟨3, ![8, 1024, 704]⟩
abbrev S4x1024x704 : Shape := ⟨3, ![4, 1024, 704]⟩
abbrev S3x1024x704 : Shape := ⟨3, ![3, 1024, 704]⟩
abbrev S1024x704 : Shape := ⟨2, ![1024, 704]⟩
abbrev S1x1024x704 : Shape := ⟨3, ![1, 1024, 704]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S4x1024x704, .f32⟩
  | .hbm, ⟨2, _⟩ => ⟨S3x1024x704, .bf16⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1x1024x704, .f32⟩
  | .hbm, ⟨7, _⟩ => ⟨S1024x704, .f32⟩
  | .hbm, ⟨8, _⟩ => ⟨S1x1024x704, .f32⟩
  | .hbm, ⟨9, _⟩ => ⟨S1024x704, .f32⟩
  | .hbm, ⟨10, _⟩ => ⟨S1024x704, .f32⟩
  | .hbm, ⟨11, _⟩ => ⟨S3x1024x704, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | .hbm, ⟨40, _⟩ => ⟨S1024x704, .f32⟩
  | .hbm, ⟨41, _⟩ => ⟨S_, .f32⟩
  | .hbm, ⟨42, _⟩ => ⟨S1024x704, .f32⟩
  | .hbm, ⟨43, _⟩ => ⟨S1024x704, .f32⟩
  | .hbm, ⟨44, _⟩ => ⟨S1024x704, .f32⟩
  | .hbm, ⟨45, _⟩ => ⟨S_, .f32⟩
  | .hbm, ⟨46, _⟩ => ⟨S1024x704, .f32⟩
  | .hbm, ⟨47, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamDown.lean ====
abbrev S8x352x1024 : Shape := ⟨3, ![8, 352, 1024]⟩
abbrev S4x352x1024 : Shape := ⟨3, ![4, 352, 1024]⟩
abbrev S3x352x1024 : Shape := ⟨3, ![3, 352, 1024]⟩
abbrev S352x1024 : Shape := ⟨2, ![352, 1024]⟩
abbrev S_ : Shape := ⟨0, ![]⟩
abbrev S1 : Shape := ⟨1, ![1]⟩
abbrev S2 : Shape := ⟨1, ![2]⟩
abbrev S1x352x1024 : Shape := ⟨3, ![1, 352, 1024]⟩

abbrev nBuf : Space → Nat
  | .hbm => 15
  | .vmem => 10
  | .smem => 1
  | _ => 0

abbrev bufTy : (tb : Table) → Fin (tcTables nBuf tb) → BufTy
  | .hbm, ⟨0, _⟩ => ⟨S8x352x1024, .f32⟩
  | .hbm, ⟨1, _⟩ => ⟨S4x352x1024, .f32⟩
  | .hbm, ⟨2, _⟩ => ⟨S3x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S352x1024, .f32⟩
  | .local _ .vmem, ⟨0, _⟩ => ⟨S1x352x1024, .f32⟩
  | .local _ .vmem, ⟨1, _⟩ => ⟨S1x352x1024, .f32⟩
  | .local _ .vmem, ⟨2, _⟩ => ⟨S3x352x1024, .bf16⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .smem, ⟨0, _⟩ => ⟨S2, .i32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamDownRefIdeal.lean ====
abbrev S8x352x1024 : Shape := ⟨3, ![8, 352, 1024]⟩
abbrev S4x352x1024 : Shape := ⟨3, ![4, 352, 1024]⟩
abbrev S3x352x1024 : Shape := ⟨3, ![3, 352, 1024]⟩
abbrev S352x1024 : Shape := ⟨2, ![352, 1024]⟩
abbrev S1x352x1024 : Shape := ⟨3, ![1, 352, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S4x352x1024, .f32⟩
  | .hbm, ⟨2, _⟩ => ⟨S3x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S1x352x1024, .f32⟩
  | .hbm, ⟨7, _⟩ => ⟨S352x1024, .f32⟩
  | .hbm, ⟨8, _⟩ => ⟨S1x352x1024, .f32⟩
  | .hbm, ⟨9, _⟩ => ⟨S352x1024, .f32⟩
  | .hbm, ⟨10, _⟩ => ⟨S352x1024, .f32⟩
  | .hbm, ⟨11, _⟩ => ⟨S3x352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S_, .f32⟩
  | .hbm, ⟨46, _⟩ => ⟨S352x1024, .f32⟩
  | .hbm, ⟨47, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Small.lean ====
abbrev S8x8x1024 : Shape := ⟨3, ![8, 8, 1024]⟩
abbrev S1x1024 : Shape := ⟨2, ![1, 1024]⟩
abbrev S2x512 : Shape := ⟨2, ![2, 512]⟩
abbrev S1x512 : Shape := ⟨2, ![1, 512]⟩
abbrev S1x128 : Shape := ⟨2, ![1, 128]⟩
abbrev S1x8x1024 : Shape := ⟨3, ![1, 8, 1024]⟩
abbrev S8x1024 : Shape := ⟨2, ![8, 1024]⟩

abbrev nBuf : Space → Nat
  | .hbm => 37
  | .vmem => 37
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x128, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S2x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S2x512, .f32⟩
  | .local _ .vmem, ⟨11, _⟩ => ⟨S2x512, .f32⟩
  | .local _ .vmem, ⟨12, _⟩ => ⟨S2x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S2x512, .f32⟩
  | .local _ .vmem, ⟨30, _⟩ => ⟨S2x512, .f32⟩
  | .local _ .vmem, ⟨31, _⟩ => ⟨S2x512, .f32⟩
  | .local _ .vmem, ⟨32, _⟩ => ⟨S2x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev main_v0_12 : Ref sig .tc := ⟨.hbm, 28, rfl⟩
abbrev main_v0_13 : Ref sig .tc := ⟨.hbm, 29, rfl⟩
abbrev main_v0_14 : Ref sig .tc := ⟨.hbm, 30, rfl⟩
abbrev main_v0_15 : Ref sig .tc := ⟨.hbm, 31, rfl⟩
abbrev main_v0_16 : Ref sig .tc := ⟨.hbm, 32, rfl⟩
abbrev main_v0_17 : Ref sig .tc := ⟨.hbm, 33, rfl⟩
abbrev main_v0_18 : Ref sig .tc := ⟨.hbm, 34, rfl⟩
abbrev main_v0_19 : Ref sig .tc := ⟨.hbm, 35, rfl⟩
abbrev main_v0_20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
-- ==== SmallRefIdeal.lean ====
abbrev S8x8x1024 : Shape := ⟨3, ![8, 8, 1024]⟩
abbrev S1x1024 : Shape := ⟨2, ![1, 1024]⟩
abbrev S2x512 : Shape := ⟨2, ![2, 512]⟩
abbrev S1x512 : Shape := ⟨2, ![1, 512]⟩
abbrev S_ : Shape := ⟨0, ![]⟩
abbrev S8x1024 : Shape := ⟨2, ![8, 1024]⟩
abbrev S512 : Shape := ⟨1, ![512]⟩
abbrev S1x128 : Shape := ⟨2, ![1, 128]⟩

abbrev nBuf : Space → Nat
  | .hbm => 244
  | .vmem => 0
  | .smem => 0
  | _ => 0

abbrev hbmTy0_0 (i : Nat) : BufTy := match i % 128 with
  | 0 => ⟨S8x8x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S2x512, .f32⟩
  | 11 => ⟨S2x512, .f32⟩
  | 12 => ⟨S2x512, .f32⟩
  | 13 => ⟨S1x512, .f32⟩
  | 14 => ⟨S1x512, .f32⟩
  | 15 => ⟨S1x512, .f32⟩
  | 16 => ⟨S_, .f32⟩
  | 17 => ⟨S8x1024, .f32⟩
  | 18 => ⟨S_, .f32⟩
  | 19 => ⟨S512, .f32⟩
  | 20 => ⟨S1x512, .f32⟩
  | 21 => ⟨S2x512, .f32⟩
  | 22 => ⟨S2x512, .i1⟩
  | 23 => ⟨S2x512, .f32⟩
  | 24 => ⟨S_, .f32⟩
  | 25 => ⟨S512, .f32⟩
  | 26 => ⟨S_, .f32⟩
  | 27 => ⟨S512, .f32⟩
  | 28 => ⟨S512, .f32⟩
  | 29 => ⟨S_, .f32⟩
  | 30 => ⟨S512, .f32⟩
  | 31 => ⟨S512, .i1⟩
  | 32 => ⟨S_, .f32⟩
  | 33 => ⟨S512, .f32⟩
  | 34 => ⟨S512, .i1⟩
  | 35 => ⟨S_, .f32⟩
  | 36 => ⟨S512, .f32⟩
  | 37 => ⟨S_, .f32⟩
  | 38 => ⟨S512, .f32⟩
  | 39 => ⟨S_, .f32⟩
  | 40 => ⟨S512, .f32⟩
  | 41 => ⟨S512, .f32⟩
  | 42 => ⟨S512, .f32⟩
  | 43 => ⟨S1x512, .f32⟩
  | 44 => ⟨S2x512, .f32⟩
  | 45 => ⟨S2x512, .f32⟩
  | 46 => ⟨S2x512, .f32⟩
  | 47 => ⟨S_, .f32⟩
  | 48 => ⟨S512, .f32⟩
  | 49 => ⟨S1x512, .f32⟩
  | 50 => ⟨S2x512, .f32⟩
  | 51 => ⟨S2x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S1x512, .f32⟩
  | 58 => ⟨S_, .f32⟩
  | 59 => ⟨S2x512, .f32⟩
  | 60 => ⟨S2x512, .f32⟩
  | 61 => ⟨S2x512, .f32⟩
  | 62 => ⟨S2x512, .f32⟩
  | 63 => ⟨S_, .f32⟩
  | 64 => ⟨S512, .f32⟩
  | 65 => ⟨S1x512, .f32⟩
  | 66 => ⟨S1x512, .f32⟩
  | 67 => ⟨S2x512, .f32⟩
  | 68 => ⟨S2x512, .f32⟩
  | 69 => ⟨S_, .f32⟩
  | 70 => ⟨S512, .f32⟩
  | 71 => ⟨S2x512, .f32⟩
  | 72 => ⟨S2x512, .f32⟩
  | 73 => ⟨S2x512, .f32⟩
  | 74 => ⟨S1x1024, .f32⟩
  | 75 => ⟨S1x1024, .f32⟩
  | 76 => ⟨S1x1024, .f32⟩
  | 77 => ⟨S1x512, .f32⟩
  | 78 => ⟨S1x128, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x8x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S2x512, .f32⟩
  | 52 => ⟨S2x512, .f32⟩
  | 53 => ⟨S_, .f32⟩
  | 54 => ⟨S2x512, .f32⟩
  | 55 => ⟨S2x512, .f32⟩
  | 56 => ⟨S2x512, .f32⟩
  | 57 => ⟨S_, .f32⟩
  | 58 => ⟨S2x512, .f32⟩
  | 59 => ⟨S2x512, .f32⟩
  | 60 => ⟨S2x512, .f32⟩
  | 61 => ⟨S_, .f32⟩
  | 62 => ⟨S2x512, .f32⟩
  | 63 => ⟨S2x512, .f32⟩
  | 64 => ⟨S2x512, .f32⟩
  | 65 => ⟨S_, .f32⟩
  | 66 => ⟨S2x512, .f32⟩
  | 67 => ⟨S2x512, .f32⟩
  | 68 => ⟨S_, .f32⟩
  | 69 => ⟨S2x512, .f32⟩
  | 70 => ⟨S2x512, .f32⟩
  | 71 => ⟨S2x512, .f32⟩
  | 72 => ⟨S_, .f32⟩
  | 73 => ⟨S2x512, .f32⟩
  | 74 => ⟨S2x512, .f32⟩
  | 75 => ⟨S2x512, .f32⟩
  | 76 => ⟨S_, .f32⟩
  | 77 => ⟨S2x512, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S_, .f32⟩
  | 84 => ⟨S1x512, .f32⟩
  | 85 => ⟨S1x512, .f32⟩
  | 86 => ⟨S_, .f32⟩
  | 87 => ⟨S1x512, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S1x512, .f32⟩
  | 105 => ⟨S_, .f32⟩
  | 106 => ⟨S1x512, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S1x512, .f32⟩
  | 113 => ⟨S_, .f32⟩
  | 114 => ⟨S1x512, .f32⟩
  | 115 => ⟨S1x512, .f32⟩
  | _ => ⟨S8x8x1024, .f32⟩

abbrev hbmTy (i : Nat) : BufTy := match i / 128 with
  | 0 => hbmTy0_0 i
  | 1 => hbmTy0_1 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_cst_7 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_12 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_13 : Ref sig .tc := ⟨.hbm, 79, rfl⟩
abbrev main_v49 : Ref sig .tc := ⟨.hbm, 80, rfl⟩
abbrev main_v50 : Ref sig .tc := ⟨.hbm, 81, rfl⟩
abbrev main_cst_14 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_17 : Ref sig .tc := ⟨.hbm, 94, rfl⟩
abbrev main_v60 : Ref sig .tc := ⟨.hbm, 95, rfl⟩
abbrev main_v61 : Ref sig .tc := ⟨.hbm, 96, rfl⟩
abbrev main_cst_18 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_19 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_20 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_21 : Ref sig .tc := ⟨.hbm, 109, rfl⟩
abbrev main_v71 : Ref sig .tc := ⟨.hbm, 110, rfl⟩
abbrev main_v72 : Ref sig .tc := ⟨.hbm, 111, rfl⟩
abbrev main_cst_22 : Ref sig .tc := ⟨.hbm, 112, rfl⟩
abbrev main_v73 : Ref sig .tc := ⟨.hbm, 113, rfl⟩
abbrev main_v74 : Ref sig .tc := ⟨.hbm, 114, rfl⟩
abbrev main_cst_23 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_24 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_25 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_26 : Ref sig .tc := ⟨.hbm, 127, rfl⟩
abbrev main_v84 : Ref sig .tc := ⟨.hbm, 128, rfl⟩
abbrev main_v85 : Ref sig .tc := ⟨.hbm, 129, rfl⟩
abbrev main_cst_27 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_28 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_29 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_30 : Ref sig .tc := ⟨.hbm, 142, rfl⟩
abbrev main_v95 : Ref sig .tc := ⟨.hbm, 143, rfl⟩
abbrev main_v96 : Ref sig .tc := ⟨.hbm, 144, rfl⟩
abbrev main_cst_31 : Ref sig .tc := ⟨.hbm, 145, rfl⟩
abbrev main_v97 : Ref sig .tc := ⟨.hbm, 146, rfl⟩
abbrev main_v98 : Ref sig .tc := ⟨.hbm, 147, rfl⟩
abbrev main_cst_32 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_33 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_34 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_35 : Ref sig .tc := ⟨.hbm, 160, rfl⟩
abbrev main_v108 : Ref sig .tc := ⟨.hbm, 161, rfl⟩
abbrev main_v109 : Ref sig .tc := ⟨.hbm, 162, rfl⟩
abbrev main_cst_36 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_37 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_38 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_39 : Ref sig .tc := ⟨.hbm, 175, rfl⟩
abbrev main_v119 : Ref sig .tc := ⟨.hbm, 176, rfl⟩
abbrev main_v120 : Ref sig .tc := ⟨.hbm, 177, rfl⟩
abbrev main_cst_40 : Ref sig .tc := ⟨.hbm, 178, rfl⟩
abbrev main_v121 : Ref sig .tc := ⟨.hbm, 179, rfl⟩
abbrev main_v122 : Ref sig .tc := ⟨.hbm, 180, rfl⟩
abbrev main_cst_41 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_42 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_43 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_44 : Ref sig .tc := ⟨.hbm, 193, rfl⟩
abbrev main_v132 : Ref sig .tc := ⟨.hbm, 194, rfl⟩
abbrev main_v133 : Ref sig .tc := ⟨.hbm, 195, rfl⟩
abbrev main_cst_45 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_46 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_47 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_cst_48 : Ref sig .tc := ⟨.hbm, 208, rfl⟩
abbrev main_v143 : Ref sig .tc := ⟨.hbm, 209, rfl⟩
abbrev main_v144 : Ref sig .tc := ⟨.hbm, 210, rfl⟩
abbrev main_cst_49 : Ref sig .tc := ⟨.hbm, 211, rfl⟩
abbrev main_v145 : Ref sig .tc := ⟨.hbm, 212, rfl⟩
abbrev main_v146 : Ref sig .tc := ⟨.hbm, 213, rfl⟩
abbrev main_cst_50 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_51 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_cst_52 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_cst_53 : Ref sig .tc := ⟨.hbm, 226, rfl⟩
abbrev main_v156 : Ref sig .tc := ⟨.hbm, 227, rfl⟩
abbrev main_v157 : Ref sig .tc := ⟨.hbm, 228, rfl⟩
abbrev main_cst_54 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_55 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_cst_56 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_cst_57 : Ref sig .tc := ⟨.hbm, 241, rfl⟩
abbrev main_v167 : Ref sig .tc := ⟨.hbm, 242, rfl⟩
abbrev main_v168 : Ref sig .tc := ⟨.hbm, 243, rfl⟩

abbrev nD : Nat := 1
abbrev τ : Topo := Topo.v7x

variable {F : FTy → Type} [FloatOps F]
-- ==== Proof.GateUpRun.lean ====
/- The run of the gate and up projections' call: what its five output buffers hold after the body at every point of the
   grid, and the frame this gives.

   At the first of every sixteen points the body lays the two column halves of the weights side by side in the last two
   output buffers; at the other fifteen it only reads them. So at every point those two buffers hold the laid-out weights
   of the point's group, and the first three hold the point's products. -/
module

public import proofs.«01_k».proof.Proof.Gen.GateUpIdeal.Frame
public import proofs.«01_k».proof.Proof.Gen.GateUpIdeal.Skeleton
public import Idealize.ShloMosaic.Lib.Claim
public import Idealize.ShloMosaic.Lib.Pipeline.TableIdle
public import Idealize.ShloMosaic.Lib.Pipeline.Value
public import Idealize.ShloMosaic.Lib.ValueIdxCore

@[expose] public section

set_option maxRecDepth 16384

noncomputable section

namespace Step.GateUpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx
open Cert.GateUpIdeal Cert.GateUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The weights laid side by side -/

/-- Two slices of 704 columns laid side by side as one array of 1408 columns. -/
def sideBySide (x : Vec F S2x1024x704 .bf16) : Vec F S1024x1408 .bf16 := fun y =>
  x (ix3 ⟨(y 1).val / 704, by have h : (y 1).val < 1408 := (y 1).isLt; show _ < 2; omega⟩ ⟨(y 0).val, (y 0).isLt⟩
    ⟨(y 1).val % 704, Nat.mod_lt _ (by decide)⟩)

theorem zero2 : (![0, 0] : Fin 2 → ℕ) = fun _ => 0 := by decide

/-- The two stores of the layout: each slice over its half of the columns. -/
abbrev stores (x : Vec F S2x1024x704 .bf16) : List (View.Piece (Elt F) S1024x1408 .bf16) :=
  [⟨Rect.unit ![0, 704] S1024x704.size inb_S1024x1408_S1024x704_0_704,
        k0_pay3 (View.ld x (Rect.unit ![1, 0, 0] S1x1024x704.size inb_S2x1024x704_S1x1024x704_1_0_0))⟩,
      ⟨Rect.unit ![0, 0] S1024x704.size inb_S1024x1408_S1024x704_0_0,
        k0_pay1 (View.ld x (Rect.unit ![0, 0, 0] S1x1024x704.size inb_S2x1024x704_S1x1024x704_0_0_0))⟩]

/-- A slice as a matrix. -/
theorem slice (s : Vec F S1x1024x704 .bf16) (z : S1024x704.Idx) :
    shapeCast S1024x704 s shapeCasts_S1x1024x704_S1024x704 z
      = s (ix3 ⟨0, Nat.one_pos⟩ ⟨(z 0).val, (z 0).isLt⟩ ⟨(z 1).val, (z 1).isLt⟩) :=
  shapeCast_apply s shapeCasts_S1x1024x704_S1024x704 z _ (by
    rw [Shape.rowMajor_val_two, Shape.rowMajor_val_three]
    show (0 * 1024 + (z 0).val) * 704 + (z 1).val = (z 0).val * 704 + (z 1).val
    omega)

/-- Stores of the two slices into the two column halves leave the slices side by side. -/
theorem halves (x : Vec F S2x1024x704 .bf16) :
    View.canon (stores x) = sideBySide x := by
  refine funext fun y => View.canon_apply_of_pieces (Val := Elt F) (e := .bf16) (sideBySide x) _ (fun p hp => ?_) y
    (View.cover_of_tiledL (stores x) S1024x704.size (by sl_kernel_rfl) y)
  simp only [List.mem_cons, List.not_mem_nil, or_false] at hp
  rcases hp with rfl | rfl <;> intro z
  · have h0 : (z 0).val < 1024 := (z 0).isLt
    have h1 : (z 1).val < 704 := (z 1).isLt
    refine (slice (View.ld x (Rect.unit ![1, 0, 0] S1x1024x704.size inb_S2x1024x704_S1x1024x704_1_0_0)) z).trans ?_
    refine congrArg (α := S2x1024x704.Idx) x (funext fun a => Fin.ext ?_)
    match a with
    | ⟨0, _⟩ => show 1 + 1 * 0 = (704 + 1 * (z 1).val) / 704; omega
    | ⟨1, _⟩ => show 0 + 1 * (z 0).val = 0 + 1 * (z 0).val; rfl
    | ⟨2, _⟩ => show 0 + 1 * (z 1).val = (704 + 1 * (z 1).val) % 704; omega
  · have h0 : (z 0).val < 1024 := (z 0).isLt
    have h1 : (z 1).val < 704 := (z 1).isLt
    refine (slice (View.ld x (Rect.unit ![0, 0, 0] S1x1024x704.size inb_S2x1024x704_S1x1024x704_0_0_0)) z).trans ?_
    refine congrArg (α := S2x1024x704.Idx) x (funext fun a => Fin.ext ?_)
    match a with
    | ⟨0, _⟩ => show 0 + 1 * 0 = (0 + 1 * (z 1).val) / 704; omega
    | ⟨1, _⟩ => show 0 + 1 * (z 0).val = 0 + 1 * (z 0).val; rfl
    | ⟨2, _⟩ => show 0 + 1 * (z 1).val = (0 + 1 * (z 1).val) % 704; omega

/-- Every place lies in one of the two halves. -/
theorem halves_cover (x : Vec F S2x1024x704 .bf16) (y : S1024x1408.Idx) : ∃ r ∈ stores x, y ∈ r.1.set :=
  View.cover_of_tiledL (stores x) S1024x704.size (by sl_kernel_rfl) y

/-- What the buffer of the laid-out weights reads as after the two stores. -/
theorem laid (v : View sig .tc .vmem S1024x1408 .bf16) (f : v.ty.Contents (Elt F)) (x : Vec F S2x1024x704 .bf16) :
    v.read (Elt F) (v.writes (Elt F) f
      (stores x)) = sideBySide x :=
  (View.read_writes_eq_canon v f _ (halves_cover x)).trans (halves x)

/-- What a load of the whole buffer reads after the two stores. -/
theorem reloaded (v : View sig .tc .vmem S1024x1408 .bf16) (x : Vec F S2x1024x704 .bf16) :
    v.readCov
      (stores x)
      (Rect.unit ![0, 0] S1024x1408.size inb_S1024x1408_S1024x1408_0_0).toLoadRect = sideBySide x := by
  rw [View.readCov_eq_canon_ld _ _ _ (halves_cover x), halves, View.ld_unit_zero (S := S1024x1408) zero2]

/-- One store of a whole block leaves the block. -/
theorem stored (v : View sig .tc .vmem S512x1408 .bf16) (f : v.ty.Contents (Elt F)) (x : Vec F S512x1408 .bf16) :
    v.read (Elt F) (v.writes (Elt F) f [⟨Rect.unit ![0, 0] S512x1408.size inb_S512x1408_S512x1408_0_0, x⟩]) = x := by
  rw [View.read_writes_eq_canon v f _ (View.cover_of_tiledL _ S512x1408.size (by sl_kernel_rfl))]
  exact View.canon_unit_zero (S := S512x1408) zero2 _ x

/-! ## The branch -/

/-- The layout runs at the first of every sixteen points. -/
theorem lays (t : Fin cfg0.N) : k0_cond1 (grid0.coords t) = 1#1 ↔ t.val % 16 = 0 := by
  have ht : t.val < 32 := Nat.lt_of_lt_of_eq t.isLt N_0
  have e0 : (grid0.coords t 0).val = t.val / 16 % 2 := Pipeline.Grid.coords_val t 0 (by decide) rfl
  have e1 : (grid0.coords t 1).val = t.val / 1 % 16 := Pipeline.Grid.coords_val t 1 (by decide) rfl
  simp only [k0_cond1, e0, e1]
  word_cmp

set_option maxHeartbeats 1000000 in
/-- The body at a point that lays the weights out. -/
theorem first (c : Dev nD) (i : grid0.Coords) (arg2 : Memref sig .tc .vmem S512x1024 .bf16) (harg2 : arg2.IsWhole)
    (arg3 : Memref sig .tc .vmem S2x1024x704 .bf16) (harg3 : arg3.IsWhole)
    (arg4 : Memref sig .tc .vmem S2x1024x704 .bf16) (harg4 : arg4.IsWhole)
    (arg5 : Memref sig .tc .vmem S512x1408 .bf16) (harg5 : arg5.IsWhole)
    (arg6 : Memref sig .tc .vmem S512x1408 .bf16) (harg6 : arg6.IsWhole)
    (arg7 : Memref sig .tc .vmem S512x1408 .bf16) (harg7 : arg7.IsWhole)
    (arg8 : Memref sig .tc .vmem S1024x1408 .bf16) (harg8 : arg8.IsWhole)
    (arg9 : Memref sig .tc .vmem S1024x1408 .bf16) (harg9 : arg9.IsWhole) (hi : k0_cond1 i = 1#1)
    (u : Vec F S512x1024 .bf16) (g h : Vec F S2x1024x704 .bf16) (E : Set ℕ) (K : PUnit → sProp 𝕄) :
    iprop(owns (c : Thread nD τ) arg2 fullShare u ∗ owns (c : Thread nD τ) arg3 fullShare g ∗ owns (c : Thread nD τ) arg4 fullShare h
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare u ∗ owns (c : Thread nD τ) arg3 fullShare g ∗ owns (c : Thread nD τ) arg4 fullShare h
            ∗ owns (c : Thread nD τ) arg5 fullShare (k0_pay9 u (sideBySide g))
            ∗ owns (c : Thread nD τ) arg6 fullShare (k0_pay10 u (sideBySide g) (sideBySide h))
            ∗ owns (c : Thread nD τ) arg7 fullShare (k0_pay11 u (sideBySide g) (sideBySide h))
            ∗ owns (c : Thread nD τ) arg8 fullShare (sideBySide g) ∗ owns (c : Thread nD τ) arg9 fullShare (sideBySide h)) -∗ K ⟨⟩))
      ⊢ wp frame (wpE (defs₀ (F := F)) Variants.none c none) E
          (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2
  sl_exec (disch := first | sl_exact hi)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e0 : View.readAt (Elt F) arg2.view (Rect.unit ![0, 0] S512x1024.size inb_S512x1024_S512x1024_0_0).toLoadRect
      (harg2.unread u) = u := by
    rw [View.readAt_eq_ld, hf0, View.ld_unit_zero (S := S512x1024) zero2]
  have e8 : arg8.view.readCov (first.sl.H6_2 c arg3 harg3 g)
      (Rect.unit ![0, 0] S1024x1408.size inb_S1024x1408_S1024x1408_0_0).toLoadRect = sideBySide g := by
    delta first.sl.H6_2
    simp only [View.readAt_eq_ld, hf1]
    exact reloaded _ g
  have e9 : arg9.view.readCov (first.sl.H7_2 c arg4 harg4 h)
      (Rect.unit ![0, 0] S1024x1408.size inb_S1024x1408_S1024x1408_0_0).toLoadRect = sideBySide h := by
    delta first.sl.H7_2
    simp only [View.readAt_eq_ld, hf2]
    exact reloaded _ h
  isplitl [H3]
  · iexists _; isplitr; swap; · iexact H3
    ipureintro
    rw [stored]; delta first.sl.v4; rw [e0, e8]
  isplitl [H4]
  · iexists _; isplitr; swap; · iexact H4
    ipureintro
    rw [stored]; delta first.sl.v4 first.sl.v7; rw [e0, e8, e9]
  isplitl [H5]
  · iexists _; isplitr; swap; · iexact H5
    ipureintro
    rw [stored]; delta first.sl.v4 first.sl.v7; rw [e0, e8, e9]
  isplitl [H6]
  · iexists _; isplitr; swap; · iexact H6
    ipureintro
    delta first.sl.H6_2
    simp only [View.readAt_eq_ld, hf1]
    exact laid _ _ g
  iexists _; isplitr; swap; · iexact H7
  ipureintro
  delta first.sl.H7_2
  simp only [View.readAt_eq_ld, hf2]
  exact laid _ _ h

set_option maxHeartbeats 1000000 in
/-- The body at a point that finds the weights laid out. -/
theorem later (c : Dev nD) (i : grid0.Coords) (arg2 : Memref sig .tc .vmem S512x1024 .bf16) (harg2 : arg2.IsWhole)
    (arg3 : Memref sig .tc .vmem S2x1024x704 .bf16) (harg3 : arg3.IsWhole)
    (arg4 : Memref sig .tc .vmem S2x1024x704 .bf16) (harg4 : arg4.IsWhole)
    (arg5 : Memref sig .tc .vmem S512x1408 .bf16) (harg5 : arg5.IsWhole)
    (arg6 : Memref sig .tc .vmem S512x1408 .bf16) (harg6 : arg6.IsWhole)
    (arg7 : Memref sig .tc .vmem S512x1408 .bf16) (harg7 : arg7.IsWhole)
    (arg8 : Memref sig .tc .vmem S1024x1408 .bf16) (harg8 : arg8.IsWhole)
    (arg9 : Memref sig .tc .vmem S1024x1408 .bf16) (harg9 : arg9.IsWhole) (hi : ¬ k0_cond1 i = 1#1)
    (u : Vec F S512x1024 .bf16) (g h : Vec F S2x1024x704 .bf16) (wg wu : Vec F S1024x1408 .bf16) (E : Set ℕ)
    (K : PUnit → sProp 𝕄) :
    iprop(owns (c : Thread nD τ) arg2 fullShare u ∗ owns (c : Thread nD τ) arg3 fullShare g ∗ owns (c : Thread nD τ) arg4 fullShare h
        ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare wg
        ∗ owns (c : Thread nD τ) arg9 fullShare wu
        ∗ (iprop(owns (c : Thread nD τ) arg2 fullShare u ∗ owns (c : Thread nD τ) arg3 fullShare g ∗ owns (c : Thread nD τ) arg4 fullShare h
            ∗ owns (c : Thread nD τ) arg5 fullShare (k0_pay9 u wg)
            ∗ owns (c : Thread nD τ) arg6 fullShare (k0_pay10 u wg wu)
            ∗ owns (c : Thread nD τ) arg7 fullShare (k0_pay11 u wg wu)
            ∗ owns (c : Thread nD τ) arg8 fullShare wg ∗ owns (c : Thread nD τ) arg9 fullShare wu) -∗ K ⟨⟩))
      ⊢ wp frame (wpE (defs₀ (F := F)) Variants.none c none) E
          (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2
  obtain rfl := harg8.eq_unread hf6; obtain rfl := harg9.eq_unread hf7
  sl_exec (disch := first | sl_exact hi)
  sl_step
  iapply Hk
  have e0 : View.readAt (Elt F) arg2.view (Rect.unit ![0, 0] S512x1024.size inb_S512x1024_S512x1024_0_0).toLoadRect
      (harg2.unread u) = u := by
    rw [View.readAt_eq_ld, hf0, View.ld_unit_zero (S := S512x1024) zero2]
  have e8 : View.readAt (Elt F) arg8.view (Rect.unit ![0, 0] S1024x1408.size inb_S1024x1408_S1024x1408_0_0).toLoadRect
      (harg8.unread wg) = wg := by
    rw [View.readAt_eq_ld, hf6, View.ld_unit_zero (S := S1024x1408) zero2]
  have e9 : View.readAt (Elt F) arg9.view (Rect.unit ![0, 0] S1024x1408.size inb_S1024x1408_S1024x1408_0_0).toLoadRect
      (harg9.unread wu) = wu := by
    rw [View.readAt_eq_ld, hf7, View.ld_unit_zero (S := S1024x1408) zero2]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [stored, e0, e8]
  isplitl [H4]
  · iexists _; isplitr; swap; · iexact H4
    ipureintro
    rw [stored, e0, e8, e9]
  isplitl [H5]
  · iexists _; isplitr; swap; · iexact H5
    ipureintro
    rw [stored, e0, e8, e9]
  isplitl [H6]
  · iexists _; isplitr; · ipureintro; exact harg8.read_unread _
    iexact H6
  iexists _; isplitr; · ipureintro; exact harg9.read_unread _
  iexact H7

/-! ## What every buffer holds after the body -/

/-- After the body at a point: the inputs their blocks, the first three outputs the point's products, the last two the
    weights of the point's group side by side. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay9 (iblk m c 0 t) (sideBySide (iblk m c 1 t))
    | ⟨4, _⟩ => k0_pay10 (iblk m c 0 t) (sideBySide (iblk m c 1 t)) (sideBySide (iblk m c 2 t))
    | ⟨5, _⟩ => k0_pay11 (iblk m c 0 t) (sideBySide (iblk m c 1 t)) (sideBySide (iblk m c 2 t))
    | ⟨6, _⟩ => sideBySide (iblk m c 1 t)
    | ⟨7, _⟩ => sideBySide (iblk m c 2 t)
  Φ _ := Pipeline.ΦA spec0 c
  q w := Pipeline.shareOf spec0 w
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay9 (iblk m c 0 t) (sideBySide (iblk m c 1 t)) := by dsimp only [dats]
theorem after4 (c : Dev nD) (t : Fin cfg0.N) :
    (dats m 0 c).after 4 t = k0_pay10 (iblk m c 0 t) (sideBySide (iblk m c 1 t)) (sideBySide (iblk m c 2 t)) := by
  dsimp only [dats]
theorem after5 (c : Dev nD) (t : Fin cfg0.N) :
    (dats m 0 c).after 5 t = k0_pay11 (iblk m c 0 t) (sideBySide (iblk m c 1 t)) (sideBySide (iblk m c 2 t)) := by
  dsimp only [dats]
theorem after6 (c : Dev nD) (t : Fin cfg0.N) : (dats m 0 c).after 6 t = sideBySide (iblk m c 1 t) := by dsimp only [dats]
theorem after7 (c : Dev nD) (t : Fin cfg0.N) : (dats m 0 c).after 7 t = sideBySide (iblk m c 2 t) := by dsimp only [dats]

/-- The weights' blocks are the same at all sixteen points of a group. -/
theorem group (t s : Fin cfg0.N) (h : t.val / 16 = s.val / 16) : grid0.coords t 0 = grid0.coords s 0 := by
  refine Fin.ext ?_
  have e (t : Fin cfg0.N) : (grid0.coords t 0).val = t.val / 16 % 2 := Pipeline.Grid.coords_val t 0 (by decide) rfl
  rw [e, e, h]

theorem same1 (c : Dev nD) (t s : Fin cfg0.N) (h : t.val / 16 = s.val / 16) :
    (iblk m c 1 t : Vec F S2x1024x704 .bf16) = iblk m c 1 s := by
  have e : win0_1.index t = win0_1.index s := by
    show cc0_transform_1 (grid0.coords t) = cc0_transform_1 (grid0.coords s)
    unfold cc0_transform_1; rw [group t s h]
  refine funext fun y => congrArg (α := S8x1024x704.Idx) (V m c main_arg1) (funext fun a => Fin.ext ?_)
  show win0_1.index t a * _ + 1 * _ = win0_1.index s a * _ + 1 * _
  rw [e]

theorem same2 (c : Dev nD) (t s : Fin cfg0.N) (h : t.val / 16 = s.val / 16) :
    (iblk m c 2 t : Vec F S2x1024x704 .bf16) = iblk m c 2 s := by
  have e : win0_2.index t = win0_2.index s := by
    show cc0_transform_2 (grid0.coords t) = cc0_transform_2 (grid0.coords s)
    unfold cc0_transform_2; rw [group t s h]
  refine funext fun y => congrArg (α := S8x1024x704.Idx) (V m c main_arg1) (funext fun a => Fin.ext ?_)
  show win0_2.index t a * _ + 1 * _ = win0_2.index s a * _ + 1 * _
  rw [e]

/-! ## What every buffer holds before the body -/

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d

/-- The last two outputs are written at the first point of a group only. -/
theorem idle6 (t : Fin cfg0.N) : cfg0.idle 6 (grid0.coords t) = !(decide (t.val % 16 = 0)) := by
  show (!(k0_cond1 (grid0.coords t) == 1#1)) = _
  rw [show (k0_cond1 (grid0.coords t) == 1#1) = decide (t.val % 16 = 0) from
    Bool.eq_iff_iff.2 (by rw [beq_iff_eq, decide_eq_true_eq]; exact lays t)]

theorem idle7 (t : Fin cfg0.N) : cfg0.idle 7 (grid0.coords t) = !(decide (t.val % 16 = 0)) := idle6 t

/-- Their buffers hold nothing of the group yet exactly at its first point. -/
theorem fresh6 (n : ℕ) (h : n ≤ cfg0.N) : cfg0.fresh 6 n = decide (n % 16 = 0) :=
  cfg0.fresh_tab 6 (fun n => decide (n % 16 = 0)) rfl (fun t => by
    beta_reduce
    rw [idle6, Bool.eq_iff_iff]
    simp only [Bool.or_eq_true, Bool.and_eq_true, Bool.not_eq_true', decide_eq_true_eq, decide_eq_false_iff_not]
    have f : (win0 6).flush t = true ↔ t.val % 16 = 15 := flush0_6 t
    rw [f]
    omega) n h

theorem fresh7 (n : ℕ) (h : n ≤ cfg0.N) : cfg0.fresh 7 n = decide (n % 16 = 0) :=
  cfg0.fresh_tab 7 (fun n => decide (n % 16 = 0)) rfl (fun t => by
    beta_reduce
    rw [idle7, Bool.eq_iff_iff]
    simp only [Bool.or_eq_true, Bool.and_eq_true, Bool.not_eq_true', decide_eq_true_eq, decide_eq_false_iff_not]
    have f : (win0 7).flush t = true ↔ t.val % 16 = 15 := flush0_7 t
    rw [f]
    omega) n h

/-- At the later points of a group they hold the weights the first point laid out. -/
theorem before6 (c : Dev nD) (t : Fin cfg0.N) (h : ¬ t.val % 16 = 0) (d) :
    (dats m 0 c).before 6 t d = sideBySide (iblk m c 1 t) := by
  rw [(dats m 0 c).before_out_traj 6 rfl (fun _ _ => rfl) (fun s hs _ hf => ?_) t.val t rfl d, fresh6 _ t.isLt.le,
    decide_eq_false h, if_neg Bool.false_ne_true, after6, same1 m c _ t (by show (t.val - 1) / 16 = t.val / 16; omega)]
  rw [fresh6 _ s.isLt.le, decide_eq_false_iff_not] at hf
  rw [after6, after6, same1 m c s ⟨s.val - 1, Nat.lt_of_le_of_lt (Nat.sub_le _ _) s.isLt⟩
    (by show s.val / 16 = (s.val - 1) / 16; omega)]

theorem before7 (c : Dev nD) (t : Fin cfg0.N) (h : ¬ t.val % 16 = 0) (d) :
    (dats m 0 c).before 7 t d = sideBySide (iblk m c 2 t) := by
  rw [(dats m 0 c).before_out_traj 7 rfl (fun _ _ => rfl) (fun s hs _ hf => ?_) t.val t rfl d, fresh7 _ t.isLt.le,
    decide_eq_false h, if_neg Bool.false_ne_true, after7, same2 m c _ t (by show (t.val - 1) / 16 = t.val / 16; omega)]
  rw [fresh7 _ s.isLt.le, decide_eq_false_iff_not] at hf
  rw [after7, after7, same2 m c s ⟨s.val - 1, Nat.lt_of_le_of_lt (Nat.sub_le _ _) s.isLt⟩
    (by show s.val / 16 = (s.val - 1) / 16; omega)]

/-! ## The body at a point -/

/-- What the body must leave in a buffer it writes, or that is written back, is what the table says. -/
theorem leaves (c : Dev nD) (w : Fin cfg0.W) (t : Fin cfg0.N)
    (h : cfg0.idle w (grid0.coords t) = false ∨ (cfg0.win w).flush t = true) (X : (cfg0.win w).block.Idx → Elt F (cfg0.win w).elt)
    (hX : X = (dats m 0 c).after w t) :
    (owns (c : Thread nD τ) ((cfg0.win w).stage (cfg0.slots t w)) fullShare X : sProp 𝕄) ⊢ (dats m 0 c).leavesExact w t := by
  subst hX
  unfold Dat.leavesExact
  rcases h with h | h
  · rw [h]
  · cases cfg0.idle w (grid0.coords t) <;> simp only [h] <;> exact .rfl

/-- What it must leave in one it does not touch is what it found. -/
theorem leaves_idle (c : Dev nD) (w : Fin cfg0.W) (t : Fin cfg0.N) (hi : cfg0.idle w (grid0.coords t) = true)
    (hf : (cfg0.win w).flush t = false) (X : (cfg0.win w).block.Idx → Elt F (cfg0.win w).elt)
    (d : (cfg0.win w).block.Idx → Elt F (cfg0.win w).elt) (hX : X = (dats m 0 c).before w t d) :
    (owns (c : Thread nD τ) ((cfg0.win w).stage (cfg0.slots t w)) fullShare X : sProp 𝕄) ⊢ (dats m 0 c).leavesExact w t := by
  subst hX
  unfold Dat.leavesExact
  rw [hi, hf]
  iintro H
  iexists _; iexact H

/-- What the body is called with at a point, -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point. -/
theorem body (c : Dev nD) (t : Fin cfg0.N) :
    given m c t ⊢ wp frame (wpE (defs₀ (F := F)) Variants.none c none) Set.univ (bodyAt0 t) (fun _ => returned m c t) := by
  unfold given returned bodyAt0
  simp only [before0, before1, before2]
  rw [show (dats m 0 c).Φ t.succ = (dats m 0 c).Φ t.castSucc from rfl,
    show (dats m 0 c).owesAt () t.succ = (dats m 0 c).owesAt () t.castSucc from rfl]
  by_cases h0 : t.val % 16 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ ((lays t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iapply (leaves m c 0 t (.inl rfl) _ (after0 m c t).symm); iexact H0
    isplitl [H1]; · iapply (leaves m c 1 t (.inl rfl) _ (after1 m c t).symm); iexact H1
    isplitl [H2]; · iapply (leaves m c 2 t (.inl rfl) _ (after2 m c t).symm); iexact H2
    isplitl [H3]; · iapply (leaves m c 3 t (.inl rfl) _ (after3 m c t).symm); iexact H3
    isplitl [H4]; · iapply (leaves m c 4 t (.inl rfl) _ (after4 m c t).symm); iexact H4
    isplitl [H5]; · iapply (leaves m c 5 t (.inl rfl) _ (after5 m c t).symm); iexact H5
    isplitl [H6]
    · iapply (leaves m c 6 t (.inl (by rw [idle6, decide_eq_true h0]; rfl)) _ (after6 m c t).symm); iexact H6
    iapply (leaves m c 7 t (.inl (by rw [idle7, decide_eq_true h0]; rfl)) _ (after7 m c t).symm); iexact H7
  · simp only [before6 m c t h0, before7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ _ _ (fun h => h0 ((lays t).mp h)) (iblk m c 0 t) (iblk m c 1 t) (iblk m c 2 t)
      (sideBySide (iblk m c 1 t)) (sideBySide (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iapply (leaves m c 0 t (.inl rfl) _ (after0 m c t).symm); iexact H0
    isplitl [H1]; · iapply (leaves m c 1 t (.inl rfl) _ (after1 m c t).symm); iexact H1
    isplitl [H2]; · iapply (leaves m c 2 t (.inl rfl) _ (after2 m c t).symm); iexact H2
    isplitl [H3]; · iapply (leaves m c 3 t (.inl rfl) _ (after3 m c t).symm); iexact H3
    isplitl [H4]; · iapply (leaves m c 4 t (.inl rfl) _ (after4 m c t).symm); iexact H4
    isplitl [H5]; · iapply (leaves m c 5 t (.inl rfl) _ (after5 m c t).symm); iexact H5
    isplitl [H6]
    · cases hf : (cfg0.win 6).flush t
      · iapply (leaves_idle m c 6 t (by rw [idle6, decide_eq_false h0]; rfl) hf _ d6 (before6 m c t h0 d6).symm); iexact H6
      · iapply (leaves m c 6 t (.inr hf) _ (after6 m c t).symm); iexact H6
    cases hf : (cfg0.win 7).flush t
    · iapply (leaves_idle m c 7 t (by rw [idle7, decide_eq_false h0]; rfl) hf _ d7 (before7 m c t h0 d7).symm); iexact H7
    · iapply (leaves m c 7 t (.inr hf) _ (after7 m c t).symm); iexact H7

theorem bodies (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-! ## The run -/

set_option backward.isDefEq.respectTransparency.types false in
/-- Every run of the call ends with every array at what the blocks make of it and every counter at zero. -/
theorem ends : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (bodies m c).loose) (hq := fun _ _ _ => rfl) (howed := fun _ _ => rfl) (V := V m)
    (hmain := hmain m Variants.none) (hA := arrays m) (hΦ := fun _ _ => rfl)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arrays m) ((θ_run defs _ _).mono (fun _ h => h.1) (ends m ρ)))
    ((θ_run defs _ _).mono (fun _ h => h.2) (ends m ρ))

/-- The results and the arguments after the run. -/
theorem run_blocks : θ_run defs (onTc (τ := τ) (main (F := F))) ⟨m, fun _ => 0, ρ⟩ (fun r => ∀ c : Dev nD,
      (∀ w : Fin cfg0.W, r.2.mem ((c.tc : Thread nD τ).loc (Pipeline.arrRef spec0 w)) = (dats m 0 c).arrAt w cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨fun w => (h.1.1 c).1 w, h.2.1 c⟩) (θ_run_and (ends m ρ) (frame m ρ))

end Step.GateUpRun

end
-- ==== Proof.SmallRun.lean ====
/- The run of the call that updates the small parameters: what its twenty-one output buffers hold after the body, and the
   frame this gives.

   The body sums the eight devices' rows, takes from the sum the loss and the five gradients, and puts each gradient
   through the optimiser. There is one point, and every block is a whole array. -/
module

public import proofs.«01_k».proof.Proof.Gen.SmallIdeal.Frame
public import proofs.«01_k».proof.Proof.Gen.SmallIdeal.Skeleton
public import Idealize.ShloMosaic.Lib.Claim
public import Idealize.ShloMosaic.Lib.Pipeline.Value
public import Idealize.ShloMosaic.Lib.Pipeline.ValueKit.Geometry
public import Idealize.ShloMosaic.Lib.ValueIdxCore

@[expose] public section

set_option maxRecDepth 16384

noncomputable section

namespace Step.SmallRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.SmallIdeal Cert.SmallIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The sum of the eight devices' rows, one device added after the other. -/
def total (x : Vec F S8x8x1024 .f32) : FVec F S8x1024 .f32 :=
  k0_pay2
    (View.ld x (Rect.unit ![0, 0, 0] S1x8x1024.size inb_S8x8x1024_S1x8x1024_0_0_0))
    (View.ld x (Rect.unit ![1, 0, 0] S1x8x1024.size inb_S8x8x1024_S1x8x1024_1_0_0))
    (View.ld x (Rect.unit ![2, 0, 0] S1x8x1024.size inb_S8x8x1024_S1x8x1024_2_0_0))
    (View.ld x (Rect.unit ![3, 0, 0] S1x8x1024.size inb_S8x8x1024_S1x8x1024_3_0_0))
    (View.ld x (Rect.unit ![4, 0, 0] S1x8x1024.size inb_S8x8x1024_S1x8x1024_4_0_0))
    (View.ld x (Rect.unit ![5, 0, 0] S1x8x1024.size inb_S8x8x1024_S1x8x1024_5_0_0))
    (View.ld x (Rect.unit ![6, 0, 0] S1x8x1024.size inb_S8x8x1024_S1x8x1024_6_0_0))
    (View.ld x (Rect.unit ![7, 0, 0] S1x8x1024.size inb_S8x8x1024_S1x8x1024_7_0_0))

/-- The row of the sum that holds the loss. -/
def lossRow (x : Vec F S8x8x1024 .f32) : FVec F S1x128 .f32 :=
  extractStridedSlice S1x128 ![4, 0] (total x) slices_S8x1024_o4_0_S1x128

/-- The gradient of the two logits of the recurrence's lower bound. -/
def bound (s : FVec F S8x1024 .f32) (l : Vec F S2x512 .f32) : FVec F S2x512 .f32 :=
  k0_pay8 s (k0_pay4 (View.ld l (Rect.unit ![0, 0] S1x512.size inb_S2x512_S1x512_0_0))
    (View.ld l (Rect.unit ![1, 0] S1x512.size inb_S2x512_S1x512_1_0))) (Scalar.ofBits .f32 0x3F000000#32)

/-- The optimiser's first moment. -/
def mean1 {S : Shape} (m g : FVec F S .f32) : FVec F S .f32 :=
  addf (mulf (broadcast S (Scalar.ofBits .f32 0x3F666666#32)) m) (mulf (broadcast S (Scalar.ofBits .f32 0x3DCCCCCD#32)) g)

/-- The optimiser's second moment. -/
def mean2 {S : Shape} (v g : FVec F S .f32) : FVec F S .f32 :=
  addf (mulf (broadcast S (Scalar.ofBits .f32 0x3F7FBE77#32)) v)
    (mulf (broadcast S (Scalar.ofBits .f32 0x3A83126F#32)) (mulf g g))

/-- The optimiser's update of a weight from its new moments. -/
def step {S : Shape} (w m v : FVec F S .f32) : FVec F S .f32 :=
  mulf (broadcast S (Scalar.ofBits .f32 0xBA83126F#32))
    (addf (divf (divf m (broadcast S (Scalar.ofBits .f32 0x3F26BD02#32)))
        (addf (sqrt (divf v (broadcast S (Scalar.ofBits .f32 0x3C231ACC#32)))) (broadcast S (Scalar.ofBits .f32 0x322BCC77#32))))
      (mulf (broadcast S (Scalar.ofBits .f32 0x3C23D70A#32)) w))

/-! ## Loads and stores of whole buffers -/

theorem zero2 : (![0, 0] : Fin 2 → ℕ) = fun _ => 0 := by decide

/-- A load of a whole buffer reads what the buffer holds. -/
theorem load1x1024 (v : View sig .tc .vmem S1x1024 .f32) (f : v.ty.Contents (Elt F)) :
    v.read (Elt F) f = View.readAt (Elt F) v (Rect.unit ![0, 0] S1x1024.size inb_S1x1024_S1x1024_0_0).toLoadRect f := by
  rw [View.readAt_eq_ld, View.ld_unit_zero (S := S1x1024) zero2]

/-- One store of a whole buffer leaves what was stored. -/
theorem store1x1024 (v : View sig .tc .vmem S1x1024 .f32) (f : v.ty.Contents (Elt F)) (x : Vec F S1x1024 .f32) :
    v.read (Elt F) (v.writes (Elt F) f [⟨Rect.unit ![0, 0] S1x1024.size inb_S1x1024_S1x1024_0_0, x⟩]) = x := by
  rw [View.read_writes_eq_canon v f _ (View.cover_of_tiledL _ S1x1024.size (by sl_kernel_rfl))]
  exact View.canon_unit_zero (S := S1x1024) zero2 _ x

/-- A load of a whole buffer reads what the buffer holds. -/
theorem load2x512 (v : View sig .tc .vmem S2x512 .f32) (f : v.ty.Contents (Elt F)) :
    v.read (Elt F) f = View.readAt (Elt F) v (Rect.unit ![0, 0] S2x512.size inb_S2x512_S2x512_0_0).toLoadRect f := by
  rw [View.readAt_eq_ld, View.ld_unit_zero (S := S2x512) zero2]

/-- One store of a whole buffer leaves what was stored. -/
theorem store2x512 (v : View sig .tc .vmem S2x512 .f32) (f : v.ty.Contents (Elt F)) (x : Vec F S2x512 .f32) :
    v.read (Elt F) (v.writes (Elt F) f [⟨Rect.unit ![0, 0] S2x512.size inb_S2x512_S2x512_0_0, x⟩]) = x := by
  rw [View.read_writes_eq_canon v f _ (View.cover_of_tiledL _ S2x512.size (by sl_kernel_rfl))]
  exact View.canon_unit_zero (S := S2x512) zero2 _ x

/-- A load of a whole buffer reads what the buffer holds. -/
theorem load1x512 (v : View sig .tc .vmem S1x512 .f32) (f : v.ty.Contents (Elt F)) :
    v.read (Elt F) f = View.readAt (Elt F) v (Rect.unit ![0, 0] S1x512.size inb_S1x512_S1x512_0_0).toLoadRect f := by
  rw [View.readAt_eq_ld, View.ld_unit_zero (S := S1x512) zero2]

/-- One store of a whole buffer leaves what was stored. -/
theorem store1x512 (v : View sig .tc .vmem S1x512 .f32) (f : v.ty.Contents (Elt F)) (x : Vec F S1x512 .f32) :
    v.read (Elt F) (v.writes (Elt F) f [⟨Rect.unit ![0, 0] S1x512.size inb_S1x512_S1x512_0_0, x⟩]) = x := by
  rw [View.read_writes_eq_canon v f _ (View.cover_of_tiledL _ S1x512.size (by sl_kernel_rfl))]
  exact View.canon_unit_zero (S := S1x512) zero2 _ x

/-- One store of a whole buffer leaves what was stored. -/
theorem store1x128 (v : View sig .tc .vmem S1x128 .f32) (f : v.ty.Contents (Elt F)) (x : Vec F S1x128 .f32) :
    v.read (Elt F) (v.writes (Elt F) f [⟨Rect.unit ![0, 0] S1x128.size inb_S1x128_S1x128_0_0, x⟩]) = x := by
  rw [View.read_writes_eq_canon v f _ (View.cover_of_tiledL _ S1x128.size (by sl_kernel_rfl))]
  exact View.canon_unit_zero (S := S1x128) zero2 _ x

/-! ## The body -/

set_option maxHeartbeats 4000000 in
/-- The body on its thirty-seven buffers: the inputs stay, and each output ends holding what is stated. -/
theorem body (c : Dev nD) (E : Set ℕ) (arg0 : Memref sig .tc .vmem S8x8x1024 .f32) (harg0 : arg0.IsWhole)
    (arg1 : Memref sig .tc .vmem S1x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S2x512 .f32) (harg10 : arg10.IsWhole)
    (arg11 : Memref sig .tc .vmem S2x512 .f32) (harg11 : arg11.IsWhole)
    (arg12 : Memref sig .tc .vmem S2x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S1x512 .f32) (harg15 : arg15.IsWhole)
    (arg16 : Memref sig .tc .vmem S1x128 .f32) (harg16 : arg16.IsWhole)
    (arg17 : Memref sig .tc .vmem S1x1024 .f32) (harg17 : arg17.IsWhole)
    (arg18 : Memref sig .tc .vmem S1x1024 .f32) (harg18 : arg18.IsWhole)
    (arg19 : Memref sig .tc .vmem S1x1024 .f32) (harg19 : arg19.IsWhole)
    (arg20 : Memref sig .tc .vmem S1x1024 .f32) (harg20 : arg20.IsWhole)
    (arg21 : Memref sig .tc .vmem S1x1024 .f32) (harg21 : arg21.IsWhole)
    (arg22 : Memref sig .tc .vmem S1x1024 .f32) (harg22 : arg22.IsWhole)
    (arg23 : Memref sig .tc .vmem S1x1024 .f32) (harg23 : arg23.IsWhole)
    (arg24 : Memref sig .tc .vmem S1x1024 .f32) (harg24 : arg24.IsWhole)
    (arg25 : Memref sig .tc .vmem S1x1024 .f32) (harg25 : arg25.IsWhole)
    (arg26 : Memref sig .tc .vmem S1x1024 .f32) (harg26 : arg26.IsWhole)
    (arg27 : Memref sig .tc .vmem S1x1024 .f32) (harg27 : arg27.IsWhole)
    (arg28 : Memref sig .tc .vmem S1x1024 .f32) (harg28 : arg28.IsWhole)
    (arg29 : Memref sig .tc .vmem S2x512 .f32) (harg29 : arg29.IsWhole)
    (arg30 : Memref sig .tc .vmem S2x512 .f32) (harg30 : arg30.IsWhole)
    (arg31 : Memref sig .tc .vmem S2x512 .f32) (harg31 : arg31.IsWhole)
    (arg32 : Memref sig .tc .vmem S2x512 .f32) (harg32 : arg32.IsWhole)
    (arg33 : Memref sig .tc .vmem S1x512 .f32) (harg33 : arg33.IsWhole)
    (arg34 : Memref sig .tc .vmem S1x512 .f32) (harg34 : arg34.IsWhole)
    (arg35 : Memref sig .tc .vmem S1x512 .f32) (harg35 : arg35.IsWhole)
    (arg36 : Memref sig .tc .vmem S1x512 .f32) (harg36 : arg36.IsWhole)
    (x0 : Vec F S8x8x1024 .f32) (x1 : Vec F S1x1024 .f32) (x2 : Vec F S1x1024 .f32) (x3 : Vec F S1x1024 .f32)
    (x4 : Vec F S1x1024 .f32) (x5 : Vec F S1x1024 .f32) (x6 : Vec F S1x1024 .f32) (x7 : Vec F S1x1024 .f32)
    (x8 : Vec F S1x1024 .f32) (x9 : Vec F S1x1024 .f32) (x10 : Vec F S2x512 .f32) (x11 : Vec F S2x512 .f32)
    (x12 : Vec F S2x512 .f32) (x13 : Vec F S1x512 .f32) (x14 : Vec F S1x512 .f32) (x15 : Vec F S1x512 .f32)
    (K : PUnit → sProp 𝕄) :
    iprop(owns (c : Thread nD τ) arg0 fullShare x0 ∗ owns (c : Thread nD τ) arg1 fullShare x1 ∗
      owns (c : Thread nD τ) arg2 fullShare x2 ∗ owns (c : Thread nD τ) arg3 fullShare x3 ∗
      owns (c : Thread nD τ) arg4 fullShare x4 ∗ owns (c : Thread nD τ) arg5 fullShare x5 ∗
      owns (c : Thread nD τ) arg6 fullShare x6 ∗ owns (c : Thread nD τ) arg7 fullShare x7 ∗
      owns (c : Thread nD τ) arg8 fullShare x8 ∗ owns (c : Thread nD τ) arg9 fullShare x9 ∗
      owns (c : Thread nD τ) arg10 fullShare x10 ∗ owns (c : Thread nD τ) arg11 fullShare x11 ∗
      owns (c : Thread nD τ) arg12 fullShare x12 ∗ owns (c : Thread nD τ) arg13 fullShare x13 ∗
      owns (c : Thread nD τ) arg14 fullShare x14 ∗ owns (c : Thread nD τ) arg15 fullShare x15 ∗
      (∃ d, owns (c : Thread nD τ) arg16 fullShare d) ∗ (∃ d, owns (c : Thread nD τ) arg17 fullShare d) ∗
      (∃ d, owns (c : Thread nD τ) arg18 fullShare d) ∗ (∃ d, owns (c : Thread nD τ) arg19 fullShare d) ∗
      (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗
      (∃ d, owns (c : Thread nD τ) arg24 fullShare d) ∗ (∃ d, owns (c : Thread nD τ) arg25 fullShare d) ∗
      (∃ d, owns (c : Thread nD τ) arg26 fullShare d) ∗ (∃ d, owns (c : Thread nD τ) arg27 fullShare d) ∗
      (∃ d, owns (c : Thread nD τ) arg28 fullShare d) ∗ (∃ d, owns (c : Thread nD τ) arg29 fullShare d) ∗
      (∃ d, owns (c : Thread nD τ) arg30 fullShare d) ∗ (∃ d, owns (c : Thread nD τ) arg31 fullShare d) ∗
      (∃ d, owns (c : Thread nD τ) arg32 fullShare d) ∗ (∃ d, owns (c : Thread nD τ) arg33 fullShare d) ∗
      (∃ d, owns (c : Thread nD τ) arg34 fullShare d) ∗ (∃ d, owns (c : Thread nD τ) arg35 fullShare d) ∗
      (∃ d, owns (c : Thread nD τ) arg36 fullShare d)
        ∗ (iprop(owns (c : Thread nD τ) arg0 fullShare x0 ∗ owns (c : Thread nD τ) arg1 fullShare x1 ∗
          owns (c : Thread nD τ) arg2 fullShare x2 ∗ owns (c : Thread nD τ) arg3 fullShare x3 ∗
          owns (c : Thread nD τ) arg4 fullShare x4 ∗ owns (c : Thread nD τ) arg5 fullShare x5 ∗
          owns (c : Thread nD τ) arg6 fullShare x6 ∗ owns (c : Thread nD τ) arg7 fullShare x7 ∗
          owns (c : Thread nD τ) arg8 fullShare x8 ∗ owns (c : Thread nD τ) arg9 fullShare x9 ∗
          owns (c : Thread nD τ) arg10 fullShare x10 ∗ owns (c : Thread nD τ) arg11 fullShare x11 ∗
          owns (c : Thread nD τ) arg12 fullShare x12 ∗ owns (c : Thread nD τ) arg13 fullShare x13 ∗
          owns (c : Thread nD τ) arg14 fullShare x14 ∗ owns (c : Thread nD τ) arg15 fullShare x15 ∗
          owns (c : Thread nD τ) arg16 fullShare (lossRow x0) ∗
          owns (c : Thread nD τ) arg17 fullShare (k0_pay5 (total x0)) ∗
          owns (c : Thread nD τ) arg18 fullShare (step x1 (mean1 x2 (k0_pay5 (total x0))) (mean2 x3 (k0_pay5 (total x0)))) ∗
          owns (c : Thread nD τ) arg19 fullShare (mean1 x2 (k0_pay5 (total x0))) ∗
          owns (c : Thread nD τ) arg20 fullShare (mean2 x3 (k0_pay5 (total x0))) ∗
          owns (c : Thread nD τ) arg21 fullShare (k0_pay6 (total x0)) ∗
          owns (c : Thread nD τ) arg22 fullShare (step x4 (mean1 x5 (k0_pay6 (total x0))) (mean2 x6 (k0_pay6 (total x0)))) ∗
          owns (c : Thread nD τ) arg23 fullShare (mean1 x5 (k0_pay6 (total x0))) ∗
          owns (c : Thread nD τ) arg24 fullShare (mean2 x6 (k0_pay6 (total x0))) ∗
          owns (c : Thread nD τ) arg25 fullShare (k0_pay7 (total x0)) ∗
          owns (c : Thread nD τ) arg26 fullShare (step x7 (mean1 x8 (k0_pay7 (total x0))) (mean2 x9 (k0_pay7 (total x0)))) ∗
          owns (c : Thread nD τ) arg27 fullShare (mean1 x8 (k0_pay7 (total x0))) ∗
          owns (c : Thread nD τ) arg28 fullShare (mean2 x9 (k0_pay7 (total x0))) ∗
          owns (c : Thread nD τ) arg29 fullShare (bound (total x0) x10) ∗
          owns (c : Thread nD τ) arg30 fullShare (step x10 (mean1 x11 (bound (total x0) x10)) (mean2 x12 (bound (total x0) x10))) ∗
          owns (c : Thread nD τ) arg31 fullShare (mean1 x11 (bound (total x0) x10)) ∗
          owns (c : Thread nD τ) arg32 fullShare (mean2 x12 (bound (total x0) x10)) ∗
          owns (c : Thread nD τ) arg33 fullShare (k0_pay9 (total x0)) ∗
          owns (c : Thread nD τ) arg34 fullShare (step x13 (mean1 x14 (k0_pay9 (total x0))) (mean2 x15 (k0_pay9 (total x0)))) ∗
          owns (c : Thread nD τ) arg35 fullShare (mean1 x14 (k0_pay9 (total x0))) ∗
          owns (c : Thread nD τ) arg36 fullShare (mean2 x15 (k0_pay9 (total x0)))) -∗ K ⟨⟩))
      ⊢ wp frame (wpE (defs₀ (F := F)) Variants.none c none) E (cc0_small_update arg0 harg0 arg1 harg1 arg2 harg2
          arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19
          arg20 harg20 arg21 harg21 arg22 harg22 arg23 harg23 arg24 harg24 arg25 harg25 arg26 harg26 arg27 harg27
          arg28 harg28 arg29 harg29 arg30 harg30 arg31 harg31 arg32 harg32 arg33 harg33 arg34 harg34 arg35 harg35
          arg36 harg36) K := by
  simp only [cc0_small_update_eq_skeleton]; unfold cc0_small_update_skel
  simp only [k0_part1_eq_skeleton, k0_part2_eq_skeleton, k0_part3_eq_skeleton, k0_part4_eq_skeleton, k0_part5_eq_skeleton,
    k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%d16, %f16, -, H16⟩,
    ⟨%d17, %f17, -, H17⟩, ⟨%d18, %f18, -, H18⟩, ⟨%d19, %f19, -, H19⟩, ⟨%d20, %f20, -, H20⟩, ⟨%d21, %f21, -, H21⟩,
    ⟨%d22, %f22, -, H22⟩, ⟨%d23, %f23, -, H23⟩, ⟨%d24, %f24, -, H24⟩, ⟨%d25, %f25, -, H25⟩, ⟨%d26, %f26, -, H26⟩,
    ⟨%d27, %f27, -, H27⟩, ⟨%d28, %f28, -, H28⟩, ⟨%d29, %f29, -, H29⟩, ⟨%d30, %f30, -, H30⟩, ⟨%d31, %f31, -, H31⟩,
    ⟨%d32, %f32, -, H32⟩, ⟨%d33, %f33, -, H33⟩, ⟨%d34, %f34, -, H34⟩, ⟨%d35, %f35, -, H35⟩, ⟨%d36, %f36, -, H36⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr; swap; · iexact H16
    ipureintro; refine (store1x128 _ _ _).trans ?_; rfl
  isplitl [H17]
  · iexists _; isplitr; swap; · iexact H17
    ipureintro; refine (store1x1024 _ _ _).trans ?_; rfl
  isplitl [H18]
  · iexists _; isplitr; swap; · iexact H18
    ipureintro; refine (store1x1024 _ _ _).trans ?_; rw [load1x1024 arg1.view f1, load1x1024 arg2.view f2, load1x1024 arg3.view f3]; rfl
  isplitl [H19]
  · iexists _; isplitr; swap; · iexact H19
    ipureintro; refine (store1x1024 _ _ _).trans ?_; rw [load1x1024 arg2.view f2]; rfl
  isplitl [H20]
  · iexists _; isplitr; swap; · iexact H20
    ipureintro; refine (store1x1024 _ _ _).trans ?_; rw [load1x1024 arg3.view f3]; rfl
  isplitl [H21]
  · iexists _; isplitr; swap; · iexact H21
    ipureintro; refine (store1x1024 _ _ _).trans ?_; rfl
  isplitl [H22]
  · iexists _; isplitr; swap; · iexact H22
    ipureintro; refine (store1x1024 _ _ _).trans ?_; rw [load1x1024 arg4.view f4, load1x1024 arg5.view f5, load1x1024 arg6.view f6]; rfl
  isplitl [H23]
  · iexists _; isplitr; swap; · iexact H23
    ipureintro; refine (store1x1024 _ _ _).trans ?_; rw [load1x1024 arg5.view f5]; rfl
  isplitl [H24]
  · iexists _; isplitr; swap; · iexact H24
    ipureintro; refine (store1x1024 _ _ _).trans ?_; rw [load1x1024 arg6.view f6]; rfl
  isplitl [H25]
  · iexists _; isplitr; swap; · iexact H25
    ipureintro; refine (store1x1024 _ _ _).trans ?_; rfl
  isplitl [H26]
  · iexists _; isplitr; swap; · iexact H26
    ipureintro; refine (store1x1024 _ _ _).trans ?_; rw [load1x1024 arg7.view f7, load1x1024 arg8.view f8, load1x1024 arg9.view f9]; rfl
  isplitl [H27]
  · iexists _; isplitr; swap; · iexact H27
    ipureintro; refine (store1x1024 _ _ _).trans ?_; rw [load1x1024 arg8.view f8]; rfl
  isplitl [H28]
  · iexists _; isplitr; swap; · iexact H28
    ipureintro; refine (store1x1024 _ _ _).trans ?_; rw [load1x1024 arg9.view f9]; rfl
  isplitl [H29]
  · iexists _; isplitr; swap; · iexact H29
    ipureintro; refine (store2x512 _ _ _).trans ?_; rfl
  isplitl [H30]
  · iexists _; isplitr; swap; · iexact H30
    ipureintro; refine (store2x512 _ _ _).trans ?_
    generalize hg : bound (total (View.read (Elt F) arg0.view f0)) (View.read (Elt F) arg10.view f10) = g
    rw [load2x512 arg10.view f10, load2x512 arg11.view f11, load2x512 arg12.view f12]; subst hg; rfl
  isplitl [H31]
  · iexists _; isplitr; swap; · iexact H31
    ipureintro; refine (store2x512 _ _ _).trans ?_; rw [load2x512 arg11.view f11]; rfl
  isplitl [H32]
  · iexists _; isplitr; swap; · iexact H32
    ipureintro; refine (store2x512 _ _ _).trans ?_; rw [load2x512 arg12.view f12]; rfl
  isplitl [H33]
  · iexists _; isplitr; swap; · iexact H33
    ipureintro; refine (store1x512 _ _ _).trans ?_; rfl
  isplitl [H34]
  · iexists _; isplitr; swap; · iexact H34
    ipureintro; refine (store1x512 _ _ _).trans ?_; rw [load1x512 arg13.view f13, load1x512 arg14.view f14, load1x512 arg15.view f15]; rfl
  isplitl [H35]
  · iexists _; isplitr; swap; · iexact H35
    ipureintro; refine (store1x512 _ _ _).trans ?_; rw [load1x512 arg14.view f14]; rfl
  iexists _; isplitr; swap; · iexact H36
  ipureintro; refine (store1x512 _ _ _).trans ?_; rw [load1x512 arg15.view f15]; rfl

/-! ## What every buffer holds after the body -/

def b0 (c : Dev nD) (t : Fin cfg0.N) : Vec F S8x8x1024 .f32 := iblk m c 0 t
def b1 (c : Dev nD) (t : Fin cfg0.N) : Vec F S1x1024 .f32 := iblk m c 1 t
def b2 (c : Dev nD) (t : Fin cfg0.N) : Vec F S1x1024 .f32 := iblk m c 2 t
def b3 (c : Dev nD) (t : Fin cfg0.N) : Vec F S1x1024 .f32 := iblk m c 3 t
def b4 (c : Dev nD) (t : Fin cfg0.N) : Vec F S1x1024 .f32 := iblk m c 4 t
def b5 (c : Dev nD) (t : Fin cfg0.N) : Vec F S1x1024 .f32 := iblk m c 5 t
def b6 (c : Dev nD) (t : Fin cfg0.N) : Vec F S1x1024 .f32 := iblk m c 6 t
def b7 (c : Dev nD) (t : Fin cfg0.N) : Vec F S1x1024 .f32 := iblk m c 7 t
def b8 (c : Dev nD) (t : Fin cfg0.N) : Vec F S1x1024 .f32 := iblk m c 8 t
def b9 (c : Dev nD) (t : Fin cfg0.N) : Vec F S1x1024 .f32 := iblk m c 9 t
def b10 (c : Dev nD) (t : Fin cfg0.N) : Vec F S2x512 .f32 := iblk m c 10 t
def b11 (c : Dev nD) (t : Fin cfg0.N) : Vec F S2x512 .f32 := iblk m c 11 t
def b12 (c : Dev nD) (t : Fin cfg0.N) : Vec F S2x512 .f32 := iblk m c 12 t
def b13 (c : Dev nD) (t : Fin cfg0.N) : Vec F S1x512 .f32 := iblk m c 13 t
def b14 (c : Dev nD) (t : Fin cfg0.N) : Vec F S1x512 .f32 := iblk m c 14 t
def b15 (c : Dev nD) (t : Fin cfg0.N) : Vec F S1x512 .f32 := iblk m c 15 t

/-- After the body: the inputs their blocks, the outputs the loss and, for each parameter, its gradient, its update and its
    two new moments. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => lossRow (b0 m c t)
    | ⟨17, _⟩ => k0_pay5 (total (b0 m c t))
    | ⟨18, _⟩ => step (b1 m c t) (mean1 (b2 m c t) (k0_pay5 (total (b0 m c t)))) (mean2 (b3 m c t) (k0_pay5 (total (b0 m c t))))
    | ⟨19, _⟩ => mean1 (b2 m c t) (k0_pay5 (total (b0 m c t)))
    | ⟨20, _⟩ => mean2 (b3 m c t) (k0_pay5 (total (b0 m c t)))
    | ⟨21, _⟩ => k0_pay6 (total (b0 m c t))
    | ⟨22, _⟩ => step (b4 m c t) (mean1 (b5 m c t) (k0_pay6 (total (b0 m c t)))) (mean2 (b6 m c t) (k0_pay6 (total (b0 m c t))))
    | ⟨23, _⟩ => mean1 (b5 m c t) (k0_pay6 (total (b0 m c t)))
    | ⟨24, _⟩ => mean2 (b6 m c t) (k0_pay6 (total (b0 m c t)))
    | ⟨25, _⟩ => k0_pay7 (total (b0 m c t))
    | ⟨26, _⟩ => step (b7 m c t) (mean1 (b8 m c t) (k0_pay7 (total (b0 m c t)))) (mean2 (b9 m c t) (k0_pay7 (total (b0 m c t))))
    | ⟨27, _⟩ => mean1 (b8 m c t) (k0_pay7 (total (b0 m c t)))
    | ⟨28, _⟩ => mean2 (b9 m c t) (k0_pay7 (total (b0 m c t)))
    | ⟨29, _⟩ => bound (total (b0 m c t)) (b10 m c t)
    | ⟨30, _⟩ => step (b10 m c t) (mean1 (b11 m c t) (bound (total (b0 m c t)) (b10 m c t))) (mean2 (b12 m c t) (bound (total (b0 m c t)) (b10 m c t)))
    | ⟨31, _⟩ => mean1 (b11 m c t) (bound (total (b0 m c t)) (b10 m c t))
    | ⟨32, _⟩ => mean2 (b12 m c t) (bound (total (b0 m c t)) (b10 m c t))
    | ⟨33, _⟩ => k0_pay9 (total (b0 m c t))
    | ⟨34, _⟩ => step (b13 m c t) (mean1 (b14 m c t) (k0_pay9 (total (b0 m c t)))) (mean2 (b15 m c t) (k0_pay9 (total (b0 m c t))))
    | ⟨35, _⟩ => mean1 (b14 m c t) (k0_pay9 (total (b0 m c t)))
    | ⟨36, _⟩ => mean2 (b15 m c t) (k0_pay9 (total (b0 m c t)))
    | ⟨_ + 37, h⟩ => absurd h (Nat.not_lt.2 (Nat.le_add_left _ _))
  Φ _ := Pipeline.ΦA spec0 c
  q _ := fullShare
  owed _ := 0

theorem arrays (c : Dev nD) (w : Fin cfg0.W) : (dats m 0 c).A w = V m c (Pipeline.arrRef spec0 w) := by
  dsimp only [dats]

theorem before0 (c : Dev nD) (t : Fin cfg0.N) (d) : (dats m 0 c).before 0 t d = b0 m c t :=
  before0_0_of m (dats m 0 c) (arrays m c 0) (fun t => by dsimp only [dats]) t d
theorem before1 (c : Dev nD) (t : Fin cfg0.N) (d) : (dats m 0 c).before 1 t d = b1 m c t :=
  before0_1_of m (dats m 0 c) (arrays m c 1) (fun t => by dsimp only [dats]) t d
theorem before2 (c : Dev nD) (t : Fin cfg0.N) (d) : (dats m 0 c).before 2 t d = b2 m c t :=
  before0_2_of m (dats m 0 c) (arrays m c 2) (fun t => by dsimp only [dats]) t d
theorem before3 (c : Dev nD) (t : Fin cfg0.N) (d) : (dats m 0 c).before 3 t d = b3 m c t :=
  before0_3_of m (dats m 0 c) (arrays m c 3) (fun t => by dsimp only [dats]) t d
theorem before4 (c : Dev nD) (t : Fin cfg0.N) (d) : (dats m 0 c).before 4 t d = b4 m c t :=
  before0_4_of m (dats m 0 c) (arrays m c 4) (fun t => by dsimp only [dats]) t d
theorem before5 (c : Dev nD) (t : Fin cfg0.N) (d) : (dats m 0 c).before 5 t d = b5 m c t :=
  before0_5_of m (dats m 0 c) (arrays m c 5) (fun t => by dsimp only [dats]) t d
theorem before6 (c : Dev nD) (t : Fin cfg0.N) (d) : (dats m 0 c).before 6 t d = b6 m c t :=
  before0_6_of m (dats m 0 c) (arrays m c 6) (fun t => by dsimp only [dats]) t d
theorem before7 (c : Dev nD) (t : Fin cfg0.N) (d) : (dats m 0 c).before 7 t d = b7 m c t :=
  before0_7_of m (dats m 0 c) (arrays m c 7) (fun t => by dsimp only [dats]) t d
theorem before8 (c : Dev nD) (t : Fin cfg0.N) (d) : (dats m 0 c).before 8 t d = b8 m c t :=
  before0_8_of m (dats m 0 c) (arrays m c 8) (fun t => by dsimp only [dats]) t d
theorem before9 (c : Dev nD) (t : Fin cfg0.N) (d) : (dats m 0 c).before 9 t d = b9 m c t :=
  before0_9_of m (dats m 0 c) (arrays m c 9) (fun t => by dsimp only [dats]) t d
theorem before10 (c : Dev nD) (t : Fin cfg0.N) (d) : (dats m 0 c).before 10 t d = b10 m c t :=
  before0_10_of m (dats m 0 c) (arrays m c 10) (fun t => by dsimp only [dats]) t d
theorem before11 (c : Dev nD) (t : Fin cfg0.N) (d) : (dats m 0 c).before 11 t d = b11 m c t :=
  before0_11_of m (dats m 0 c) (arrays m c 11) (fun t => by dsimp only [dats]) t d
theorem before12 (c : Dev nD) (t : Fin cfg0.N) (d) : (dats m 0 c).before 12 t d = b12 m c t :=
  before0_12_of m (dats m 0 c) (arrays m c 12) (fun t => by dsimp only [dats]) t d
theorem before13 (c : Dev nD) (t : Fin cfg0.N) (d) : (dats m 0 c).before 13 t d = b13 m c t :=
  before0_13_of m (dats m 0 c) (arrays m c 13) (fun t => by dsimp only [dats]) t d
theorem before14 (c : Dev nD) (t : Fin cfg0.N) (d) : (dats m 0 c).before 14 t d = b14 m c t :=
  before0_14_of m (dats m 0 c) (arrays m c 14) (fun t => by dsimp only [dats]) t d
theorem before15 (c : Dev nD) (t : Fin cfg0.N) (d) : (dats m 0 c).before 15 t d = b15 m c t :=
  before0_15_of m (dats m 0 c) (arrays m c 15) (fun t => by dsimp only [dats]) t d

/-! ## The body at the point -/

/-- What a buffer the body always writes must end with is what the table says. -/
theorem leaves (c : Dev nD) (w : Fin cfg0.W) (t : Fin cfg0.N)
    (h : cfg0.idle w (grid0.coords t) = false) (X : (cfg0.win w).block.Idx → Elt F (cfg0.win w).elt)
    (hX : X = (dats m 0 c).after w t := by dsimp only [dats]; try rfl) :
    (owns (c : Thread nD τ) ((cfg0.win w).stage (cfg0.slots t w)) fullShare X : sProp 𝕄) ⊢ (dats m 0 c).leavesExact w t := by
  subst hX
  unfold Dat.leavesExact
  rw [h]

/-- A buffer as the body finds it. -/
def found (c : Dev nD) (t : Fin cfg0.N) (w : Fin cfg0.W) : sProp 𝕄 :=
  iprop(∃ d, owns (c : Thread nD τ) ((cfg0.win w).stage (cfg0.slots t w)) fullShare ((dats m 0 c).before w t d))

/-- A buffer as the body leaves it. -/
def left (c : Dev nD) (t : Fin cfg0.N) (w : Fin cfg0.W) : sProp 𝕄 := (dats m 0 c).leavesExact w t

/-- What the body is called with at a point, -/
def given (c : Dev nD) (t : Fin cfg0.N) : sProp 𝕄 :=
  iprop((dats m 0 c).Φ t.castSucc ∗ (dats m 0 c).owesAt () t.castSucc ∗ found m c t 0 ∗ found m c t 1 ∗ found m c t 2 ∗
    found m c t 3 ∗ found m c t 4 ∗ found m c t 5 ∗ found m c t 6 ∗ found m c t 7 ∗ found m c t 8 ∗ found m c t 9 ∗
    found m c t 10 ∗ found m c t 11 ∗ found m c t 12 ∗ found m c t 13 ∗ found m c t 14 ∗ found m c t 15 ∗
    found m c t 16 ∗ found m c t 17 ∗ found m c t 18 ∗ found m c t 19 ∗ found m c t 20 ∗ found m c t 21 ∗
    found m c t 22 ∗ found m c t 23 ∗ found m c t 24 ∗ found m c t 25 ∗ found m c t 26 ∗ found m c t 27 ∗
    found m c t 28 ∗ found m c t 29 ∗ found m c t 30 ∗ found m c t 31 ∗ found m c t 32 ∗ found m c t 33 ∗
    found m c t 34 ∗ found m c t 35 ∗ found m c t 36)

/-- and what it returns. -/
def returned (c : Dev nD) (t : Fin cfg0.N) : sProp 𝕄 :=
  iprop((dats m 0 c).Φ t.succ ∗ (dats m 0 c).owesAt () t.succ ∗ left m c t 0 ∗ left m c t 1 ∗ left m c t 2 ∗
    left m c t 3 ∗ left m c t 4 ∗ left m c t 5 ∗ left m c t 6 ∗ left m c t 7 ∗ left m c t 8 ∗ left m c t 9 ∗
    left m c t 10 ∗ left m c t 11 ∗ left m c t 12 ∗ left m c t 13 ∗ left m c t 14 ∗ left m c t 15 ∗ left m c t 16 ∗
    left m c t 17 ∗ left m c t 18 ∗ left m c t 19 ∗ left m c t 20 ∗ left m c t 21 ∗ left m c t 22 ∗ left m c t 23 ∗
    left m c t 24 ∗ left m c t 25 ∗ left m c t 26 ∗ left m c t 27 ∗ left m c t 28 ∗ left m c t 29 ∗ left m c t 30 ∗
    left m c t 31 ∗ left m c t 32 ∗ left m c t 33 ∗ left m c t 34 ∗ left m c t 35 ∗ left m c t 36)

set_option maxHeartbeats 16000000 in
/-- The body at the point. -/
theorem bodyAt (c : Dev nD) (t : Fin cfg0.N) :
    given m c t ⊢ wp frame (wpE (defs₀ (F := F)) Variants.none c none) Set.univ (bodyAt0 t) (fun _ => returned m c t) := by
  unfold given returned found left bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩,
    ⟨%d18, H18⟩, ⟨%d19, H19⟩, ⟨%d20, H20⟩, ⟨%d21, H21⟩, ⟨%d22, H22⟩, ⟨%d23, H23⟩, ⟨%d24, H24⟩, ⟨%d25, H25⟩,
    ⟨%d26, H26⟩, ⟨%d27, H27⟩, ⟨%d28, H28⟩, ⟨%d29, H29⟩, ⟨%d30, H30⟩, ⟨%d31, H31⟩, ⟨%d32, H32⟩, ⟨%d33, H33⟩,
    ⟨%d34, H34⟩, ⟨%d35, H35⟩, ⟨%d36, H36⟩⟩
  iapply (body c Set.univ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ (b0 m c t) (b1 m c t) (b2 m c t) (b3 m c t) (b4 m c t)
    (b5 m c t) (b6 m c t) (b7 m c t) (b8 m c t) (b9 m c t) (b10 m c t) (b11 m c t) (b12 m c t) (b13 m c t) (b14 m c t)
    (b15 m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, H22, H23,
    H24, H25, H26, H27, H28, H29, H30, H31, H32, H33, H34, H35, H36⟩
  isplitl [HΦ]; · iexact HΦ
  isplitl [Ho]; · iexact Ho
  isplitl [H0]; · iapply (leaves m c 0 t rfl _); iexact H0
  isplitl [H1]; · iapply (leaves m c 1 t rfl _); iexact H1
  isplitl [H2]; · iapply (leaves m c 2 t rfl _); iexact H2
  isplitl [H3]; · iapply (leaves m c 3 t rfl _); iexact H3
  isplitl [H4]; · iapply (leaves m c 4 t rfl _); iexact H4
  isplitl [H5]; · iapply (leaves m c 5 t rfl _); iexact H5
  isplitl [H6]; · iapply (leaves m c 6 t rfl _); iexact H6
  isplitl [H7]; · iapply (leaves m c 7 t rfl _); iexact H7
  isplitl [H8]; · iapply (leaves m c 8 t rfl _); iexact H8
  isplitl [H9]; · iapply (leaves m c 9 t rfl _); iexact H9
  isplitl [H10]; · iapply (leaves m c 10 t rfl _); iexact H10
  isplitl [H11]; · iapply (leaves m c 11 t rfl _); iexact H11
  isplitl [H12]; · iapply (leaves m c 12 t rfl _); iexact H12
  isplitl [H13]; · iapply (leaves m c 13 t rfl _); iexact H13
  isplitl [H14]; · iapply (leaves m c 14 t rfl _); iexact H14
  isplitl [H15]; · iapply (leaves m c 15 t rfl _); iexact H15
  isplitl [H16]; · iapply (leaves m c 16 t rfl _); iexact H16
  isplitl [H17]; · iapply (leaves m c 17 t rfl _); iexact H17
  isplitl [H18]; · iapply (leaves m c 18 t rfl _); iexact H18
  isplitl [H19]; · iapply (leaves m c 19 t rfl _); iexact H19
  isplitl [H20]; · iapply (leaves m c 20 t rfl _); iexact H20
  isplitl [H21]; · iapply (leaves m c 21 t rfl _); iexact H21
  isplitl [H22]; · iapply (leaves m c 22 t rfl _); iexact H22
  isplitl [H23]; · iapply (leaves m c 23 t rfl _); iexact H23
  isplitl [H24]; · iapply (leaves m c 24 t rfl _); iexact H24
  isplitl [H25]; · iapply (leaves m c 25 t rfl _); iexact H25
  isplitl [H26]; · iapply (leaves m c 26 t rfl _); iexact H26
  isplitl [H27]; · iapply (leaves m c 27 t rfl _); iexact H27
  isplitl [H28]; · iapply (leaves m c 28 t rfl _); iexact H28
  isplitl [H29]; · iapply (leaves m c 29 t rfl _); iexact H29
  isplitl [H30]; · iapply (leaves m c 30 t rfl _); iexact H30
  isplitl [H31]; · iapply (leaves m c 31 t rfl _); iexact H31
  isplitl [H32]; · iapply (leaves m c 32 t rfl _); iexact H32
  isplitl [H33]; · iapply (leaves m c 33 t rfl _); iexact H33
  isplitl [H34]; · iapply (leaves m c 34 t rfl _); iexact H34
  isplitl [H35]; · iapply (leaves m c 35 t rfl _); iexact H35
  iapply (leaves m c 36 t rfl _); iexact H36

set_option maxHeartbeats 4000000 in
theorem bodies (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (bodyAt m c t) rfl .rfl fun _ => .rfl

/-! ## The run -/

set_option backward.isDefEq.respectTransparency.types false in
/-- Every run of the call ends with every array at what the blocks make of it and every counter at zero. -/
theorem ends : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (bodies m c).loose) (hshare := fun c => (dats m 0 c).share_full fun _ => rfl) (howed := fun _ _ => rfl) (V := V m)
    (hmain := hmain m Variants.none) (hA := arrays m) (hΦ := fun _ _ => rfl)

/-- The arguments are what they were. -/
def Kept (mem : (ℓ : Loc nD τ sig) → Buf (Elt F) ℓ) (c : Dev nD) : Prop :=
  mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)

/-- The frame: the arguments end as they were, and every counter is at zero. -/
theorem frame : θ_run defs (onTc (τ := τ) (main (F := F))) ⟨m, fun _ => 0, ρ⟩ (fun r => (∀ c : Dev nD, Kept m r.2.mem c) ∧ r.2.sem = fun _ => 0) :=
  θ_run_and (frame_of m ρ (dats m) (arrays m) ((θ_run defs _ _).mono (fun _ h => h.1) (ends m ρ)))
    ((θ_run defs _ _).mono (fun _ h => h.2) (ends m ρ))

/-- The results and the arguments after the run. -/
theorem run_blocks : θ_run defs (onTc (τ := τ) (main (F := F))) ⟨m, fun _ => 0, ρ⟩ (fun r => ∀ c : Dev nD,
      (∀ w : Fin cfg0.W, r.2.mem ((c.tc : Thread nD τ).loc (Pipeline.arrRef spec0 w)) = (dats m 0 c).arrAt w cfg0.N)
      ∧ Kept m r.2.mem c) :=
  (θ_run defs _ _).mono (fun _ h c => ⟨fun w => (h.1.1 c).1 w, h.2.1 c⟩) (θ_run_and (ends m ρ) (frame m ρ))

end Step.SmallRun

end
-- ==== Proof.Same.lean ====
/- The programs printed for machine arithmetic whose runs are proved by hand, against their readings over the extended
   reals: the two texts are one text, so a run stated over any arithmetic of the second is one of the first. -/
module

public import proofs.«01_k».proof.Proof.Gen.GateUp.Frame
public import proofs.«01_k».proof.Proof.GateUpRun
public import proofs.«01_k».proof.Proof.Gen.Small.Frame
public import proofs.«01_k».proof.Proof.SmallRun

@[expose] public section

set_option maxRecDepth 16384

noncomputable section

namespace Step.Same

open Idealize.ShloMosaic Idealize.ShloMosaic.TcCoe Idealize.SL.Sem

variable {F : FTy → Type} [FloatOps F]

namespace GateUp

/-- The two body tables are one. -/
theorem bodies : @Cert.GateUp.defs₀ F _ _ = @Cert.GateUpIdeal.defs₀ F _ _ := by
  unfold Cert.GateUp.defs₀ Cert.GateUpIdeal.defs₀
  refine congrArg Defs.onTc ?_
  funext l x
  match l, x with
  | 0, (t, s) => rfl

/-- The two call tables are one. -/
theorem tables : @Cert.GateUp.defs F _ _ = @Cert.GateUpIdeal.defs F _ _ := congrArg (Pipeline.defs Cert.GateUpIdeal.pcfgs) bodies

open Cert.GateUp in
/-- The frame of the program printed for machine arithmetic. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [tables]
  exact Step.GateUpRun.frame m ρ

end GateUp

namespace Small

set_option maxHeartbeats 4000000 in
/-- The two body tables are one. -/
theorem bodies : @Cert.Small.defs₀ F _ _ = @Cert.SmallIdeal.defs₀ F _ _ := by
  unfold Cert.Small.defs₀ Cert.SmallIdeal.defs₀
  refine congrArg Defs.onTc ?_
  funext l x
  match l, x with
  | 0, (t, s) => rfl

set_option maxHeartbeats 4000000 in
/-- The two call tables are one. -/
theorem tables : @Cert.Small.defs F _ _ = @Cert.SmallIdeal.defs F _ _ := congrArg (Pipeline.defs Cert.SmallIdeal.pcfgs) bodies

set_option maxHeartbeats 4000000 in
open Cert.Small in
/-- The frame of the program printed for machine arithmetic. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD, Step.SmallRun.Kept m r.2.mem c)
      ∧ r.2.sem = fun _ => 0) := by
  rw [tables]
  exact Step.SmallRun.frame m ρ

end Small

end Step.Same

end
-- ==== Proof.Reading.lean ====
/- Reading arrays by natural-number coordinates, and sums cut into blocks of rows.

   A window's block, a matrix product's operand and a reference's operand all read one array at coordinates computed in
   different ways. Reading every array through a total function of natural numbers (`at1`, `at2`, `at3`) makes those
   coordinates arithmetic. -/
module

public import Idealize.ShloMosaic.Lib.Pipeline.Value
public import Idealize.ShloMosaic.Lib.ValueIdx
public import Idealize.ShloMosaic.Lib.IdealHost
public import Idealize.ShloMosaic.PureOps.Ideal.Laws

@[expose] public section

noncomputable section

namespace Step

open Idealize.ShloMosaic Idealize.ShloMosaic.ValueIdx

/-- A vector read at a natural-number coordinate (0 outside it). -/
def at1 {n : ℕ} (A : (⟨1, ![n]⟩ : Shape).Idx → EReal) (i : ℕ) : EReal :=
  if h : i < n then A (ix1 ⟨i, h⟩) else 0

/-- A matrix read at natural-number coordinates (0 outside it). -/
def at2 {n k : ℕ} (A : (⟨2, ![n, k]⟩ : Shape).Idx → EReal) (i j : ℕ) : EReal :=
  if h : i < n ∧ j < k then A (ix2 ⟨i, h.1⟩ ⟨j, h.2⟩) else 0

/-- A rank-three array read at natural-number coordinates (0 outside it). -/
def at3 {n k l : ℕ} (A : (⟨3, ![n, k, l]⟩ : Shape).Idx → EReal) (i j r : ℕ) : EReal :=
  if h : i < n ∧ j < k ∧ r < l then A (ix3 ⟨i, h.1⟩ ⟨j, h.2.1⟩ ⟨r, h.2.2⟩) else 0

theorem eq_at1 {n : ℕ} (A : (⟨1, ![n]⟩ : Shape).Idx → EReal) (x : (⟨1, ![n]⟩ : Shape).Idx) :
    A x = at1 A (x 0).val := by
  have h0 : (x 0).val < n := (x 0).isLt
  unfold at1
  rw [dif_pos h0]
  exact congrArg A (eq_ix1 x)

theorem eq_at2 {n k : ℕ} (A : (⟨2, ![n, k]⟩ : Shape).Idx → EReal) (x : (⟨2, ![n, k]⟩ : Shape).Idx) :
    A x = at2 A (x 0).val (x 1).val := by
  have h0 : (x 0).val < n := (x 0).isLt
  have h1 : (x 1).val < k := (x 1).isLt
  unfold at2
  rw [dif_pos ⟨h0, h1⟩]
  exact congrArg A (eq_ix2 x)

theorem eq_at3 {n k l : ℕ} (A : (⟨3, ![n, k, l]⟩ : Shape).Idx → EReal) (x : (⟨3, ![n, k, l]⟩ : Shape).Idx) :
    A x = at3 A (x 0).val (x 1).val (x 2).val := by
  have h0 : (x 0).val < n := (x 0).isLt
  have h1 : (x 1).val < k := (x 1).isLt
  have h2 : (x 2).val < l := (x 2).isLt
  unfold at3
  rw [dif_pos ⟨h0, h1, h2⟩]
  exact congrArg A (eq_ix3 x)

/-- An array read at an index whose coordinates are known. -/
theorem read1 {n : ℕ} (A : (⟨1, ![n]⟩ : Shape).Idx → EReal) (x : (⟨1, ![n]⟩ : Shape).Idx) {i : ℕ}
    (h0 : (x 0).val = i) : A x = at1 A i := (eq_at1 A x).trans (by rw [h0])

theorem read2 {n k : ℕ} (A : (⟨2, ![n, k]⟩ : Shape).Idx → EReal) (x : (⟨2, ![n, k]⟩ : Shape).Idx) {i j : ℕ}
    (h0 : (x 0).val = i) (h1 : (x 1).val = j) : A x = at2 A i j :=
  (eq_at2 A x).trans (by rw [h0, h1])

theorem read3 {n k l : ℕ} (A : (⟨3, ![n, k, l]⟩ : Shape).Idx → EReal) (x : (⟨3, ![n, k, l]⟩ : Shape).Idx) {i j r : ℕ}
    (h0 : (x 0).val = i) (h1 : (x 1).val = j) (h2 : (x 2).val = r) : A x = at3 A i j r :=
  (eq_at3 A x).trans (by rw [h0, h1, h2])

/-- A sum over `n` blocks of `B` terms each is the sum over all `n * B` terms. -/
theorem sum_blocks_range {M : Type*} [AddCommMonoid M] (B : ℕ) (f : ℕ → M) :
    ∀ n : ℕ, ∑ s ∈ Finset.range n, ∑ r ∈ Finset.range B, f (B * s + r) = ∑ k ∈ Finset.range (B * n), f k
  | 0 => by simp
  | n + 1 => by rw [Finset.sum_range_succ, sum_blocks_range B f n, Nat.mul_succ, Finset.sum_range_add]

/-- The same with the inner and the outer sum over `Fin`. -/
theorem sum_blocks {M : Type*} [AddCommMonoid M] (n B N : ℕ) (h : B * n = N) (f : ℕ → M) :
    ∑ s ∈ Finset.range n, ∑ r : Fin B, f (B * s + r.val) = ∑ k : Fin N, f k.val := by
  subst h
  rw [Fin.sum_univ_eq_sum_range f, ← sum_blocks_range]
  exact Finset.sum_congr rfl fun s _ => Fin.sum_univ_eq_sum_range (fun r => f (B * s + r)) B

/-! ## Matrix products read at an index -/

/-- The dimension record of `lhsᵀ · rhs`: both operands contracted over their rows. -/
abbrev tnDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The dimension record of `lhs · rhsᵀ`: both operands contracted over their columns. -/
abbrev ntDims (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- The dimension record of `lhs · rhs`. -/
abbrev nnDims (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- `lhsᵀ · rhs` into zero, read at an index: the sum over the rows of both operands. -/
theorem matmul_tn {K M N : ℕ} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (j : (⟨2, ![M, N]⟩ : Shape).Idx) :
    matmul (tnDims K M N wf) prec l r (constant ⟨2, ![M, N]⟩ .f32 0x00000000#32) j
      = ∑ k : Fin K, at2 l k.val (j 0).val * at2 r k.val (j 1).val := by
  show FloatOps.matmul _ _ _ _ _ _ = _
  rw [Ideal.matmul_constant_zero_apply, ← Equiv.sum_comp (contrEquiv1 (tnDims K M N wf) K rfl rfl).symm]
  refine Finset.sum_congr rfl fun k _ => ?_
  have hk := contrEquiv1_symm_val (tnDims K M N wf) K rfl rfl k
  exact congrArg₂ (· * ·) (read2 l _ hk rfl) (read2 r _ hk rfl)

/-- `lhs · rhsᵀ` into zero, read at an index: the sum over the columns of both operands. -/
theorem matmul_nt {M K N : ℕ} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (j : (⟨2, ![M, N]⟩ : Shape).Idx) :
    matmul (ntDims M K N wf) prec l r (constant ⟨2, ![M, N]⟩ .f32 0x00000000#32) j
      = ∑ k : Fin K, at2 l (j 0).val k.val * at2 r (j 1).val k.val := by
  show FloatOps.matmul _ _ _ _ _ _ = _
  rw [Ideal.matmul_constant_zero_apply, ← Equiv.sum_comp (contrEquiv1 (ntDims M K N wf) K rfl rfl).symm]
  refine Finset.sum_congr rfl fun k _ => ?_
  have hk := contrEquiv1_symm_val (ntDims M K N wf) K rfl rfl k
  exact congrArg₂ (· * ·) (read2 l _ rfl hk) (read2 r _ rfl hk)

/-- `lhs · rhs` into zero, read at an index. -/
theorem matmul_nn {M K N : ℕ} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (j : (⟨2, ![M, N]⟩ : Shape).Idx) :
    matmul (nnDims M K N wf) prec l r (constant ⟨2, ![M, N]⟩ .f32 0x00000000#32) j
      = ∑ k : Fin K, at2 l (j 0).val k.val * at2 r k.val (j 1).val := by
  show FloatOps.matmul _ _ _ _ _ _ = _
  rw [Ideal.matmul_constant_zero_apply, ← Equiv.sum_comp (contrEquiv1 (nnDims M K N wf) K rfl rfl).symm]
  refine Finset.sum_congr rfl fun k _ => ?_
  have hk := contrEquiv1_symm_val (nnDims M K N wf) K rfl rfl k
  exact congrArg₂ (· * ·) (read2 l _ rfl hk) (read2 r _ hk rfl)

/-- Reading part of a buffer after one store of the whole of it reads that part of what was stored. -/
theorem readCov_part {Val : EltTy → Type} [∀ e, Nonempty (Val e)] {sig : RefSig} {κ : Kind} {sp : Space} {S : Shape}
    {e : EltTy} (v : View sig κ sp S e) {off : Fin S.rank → ℕ} (h : off = fun _ => 0)
    (inb : ∀ a, off a + S.size a ≤ S.size a) (w : S.Idx → Val e) (r : Rect S) :
    v.readCov (Val := Val) [⟨Rect.unit off S.size inb, w⟩] r.toLoadRect = View.ld w r := by
  refine (View.readCov_eq_canon_ld v _ r fun y => ⟨_, List.mem_singleton_self _, View.mem_set_unit_zero h inb y⟩).trans ?_
  rw [View.canon_unit_zero h]

end Step

end
-- ==== Proof.Finite.lean ====
/- Values that are real numbers, and the operations that keep them so.

   Over the extended reals a product does not distribute over a sum at the infinities. Where a call's result and its
   reference's differ by such a step, the operands are asked to be finite (`IsReal`), and the step is taken in the reals. -/
module

public import Idealize.ShloMosaic.Lib.ValueIdx
public import Idealize.ShloMosaic.Lib.IdealHost
public import Idealize.ShloMosaic.PureOps.Ideal.Laws
public import proofs.«01_k».proof.Proof.Reading

@[expose] public section

noncomputable section

namespace Step

open Idealize.ShloMosaic Idealize.ShloMosaic.ValueIdx

/-- The value is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem isReal_sum {ι : Type*} (s : Finset ι) (f : ι → EReal) (h : ∀ i ∈ s, IsReal (f i)) : IsReal (∑ i ∈ s, f i) := by
  classical
  induction s using Finset.induction_on with
  | empty => exact isReal_zero
  | insert a t ha ih =>
    rw [Finset.sum_insert ha]
    exact (h a (Finset.mem_insert_self a t)).add (ih fun i hi => h i (Finset.mem_insert_of_mem hi))

/-- A matrix of reals, read anywhere. -/
theorem isReal_at2 {n k : ℕ} (A : (⟨2, ![n, k]⟩ : Shape).Idx → EReal) (h : ∀ i, IsReal (A i)) (i j : ℕ) : IsReal (at2 A i j) := by
  unfold at2
  split
  · exact h _
  · exact isReal_zero

/-- A division by a real that is not zero is the reals'. -/
theorem div_coe (r : ℝ) {s : ℝ} (hs : s ≠ 0) : Ideal.div (r : EReal) (s : EReal) = ((r / s : ℝ) : EReal) := by
  unfold Ideal.div
  rw [if_neg (by exact_mod_cast hs), ← EReal.coe_inv, ← EReal.coe_mul, div_eq_mul_inv]

/-- The logistic function as it is written out: `1 / (1 + exp (-x))`. -/
def sigmoid (x : EReal) : EReal := Ideal.div 1 (1 + Ideal.exp (-x))

theorem isReal_sigmoid {x : EReal} (hx : IsReal x) : IsReal (sigmoid x) := by
  obtain ⟨r, rfl⟩ := hx
  refine ⟨1 / (1 + Real.exp (-r)), ?_⟩
  have e : (1 : EReal) + Ideal.exp (-(r : EReal)) = ((1 + Real.exp (-r) : ℝ) : EReal) := by
    rw [← EReal.coe_neg]
    show ((1 : ℝ) : EReal) + ((Real.exp (-r) : ℝ) : EReal) = _
    rw [← EReal.coe_add]
  unfold sigmoid
  rw [e, ← EReal.coe_one, div_coe]
  exact (by positivity : (0 : ℝ) < 1 + Real.exp (-r)).ne'

/-- The reals' comparison `|x| < ∞` says that `x` is a real number. -/
theorem isReal_of_abs_lt {x : EReal} (h : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at h
  induction x with
  | coe r => exact ⟨r, rfl⟩
  | top => simp [Ideal.cmp] at h
  | bot => simp [Ideal.cmp] at h

/-- An array whose finiteness test is all ones holds reals. -/
theorem isReal_of_ones {S : Shape} (hb : (⟨0, ![]⟩ : Shape).BroadcastsInDim S ![]) (A : FVec Ideal S .f32)
    (h : cmpf .olt (Host.absf A) (broadcastInDim S ![] hb (constant ⟨0, ![]⟩ .f32 0x7F800000#32)) = fun _ => 1#1) (x : S.Idx) :
    IsReal (A x) := isReal_of_abs_lt (congrFun h x)

end Step

end
-- ==== Proof.Norm.lean ====
/- Root-mean-square normalisation of the rows of a matrix, and its gradient.

   The kernels read a block of rows, sum a row's squares with a reduction and spread the result over the row with a
   broadcast; the references do the same on whole arrays. Both are read here at an index, as sums over a row. -/
module

public import Idealize.ShloMosaic.Lib.Pipeline.Value
public import Idealize.ShloMosaic.Lib.ValueIdx
public import Idealize.ShloMosaic.Lib.IdealHost
public import Idealize.ShloMosaic.PureOps.Ideal.Laws
public import proofs.«01_k».proof.Proof.Reading
public import proofs.«01_k».proof.Proof.Finite

@[expose] public section

noncomputable section

namespace Step

open Idealize.ShloMosaic Idealize.ShloMosaic.ValueIdx

/-! ## Reductions and broadcasts read at an index -/

/-- The sum of every row, kept as a column. -/
theorem rowSum {T n : ℕ} (v : FVec Ideal ⟨2, ![T, n]⟩ .f32) (acc : BitVec (FTy.bits .f32))
    (hr : (⟨2, ![T, n]⟩ : Shape).Reduces [1] ⟨1, ![T]⟩) (hφ : FKind.Formats .f32) (hacc : acc = FKind.add.neutral .f32 hφ)
    (hs : (⟨1, ![T]⟩ : Shape).ShapeCasts ⟨2, ![T, 1]⟩) (y : (⟨2, ![T, 1]⟩ : Shape).Idx) :
    shapeCast ⟨2, ![T, 1]⟩ (multiReduction .add [1] ⟨1, ![T]⟩ v acc hr hφ hacc) hs y = ∑ k : Fin n, at2 v (y 0).val k.val := by
  have h1 : (y 1).val < 1 := (y 1).isLt
  refine (shapeCast_apply _ hs y (ix1 (y 0)) ?_).trans ?_
  · rw [Shape.rowMajor_val_two]
    show _ = (y 0).val * 1 + (y 1).val
    refine (Shape.rowMajor_val_one _).trans ?_
    show (y 0).val = _
    omega
  · refine (Ideal.multiReduction_add_single v acc hr hφ hacc _).trans ?_
    exact Finset.sum_congr rfl fun k _ => read2 v _ rfl rfl

/-- The sum of every column, kept as a row. -/
theorem colSum {T n : ℕ} (v : FVec Ideal ⟨2, ![T, n]⟩ .f32) (acc : BitVec (FTy.bits .f32))
    (hr : (⟨2, ![T, n]⟩ : Shape).Reduces [0] ⟨1, ![n]⟩) (hφ : FKind.Formats .f32) (hacc : acc = FKind.add.neutral .f32 hφ)
    (hs : (⟨1, ![n]⟩ : Shape).ShapeCasts ⟨2, ![1, n]⟩) (y : (⟨2, ![1, n]⟩ : Shape).Idx) :
    shapeCast ⟨2, ![1, n]⟩ (multiReduction .add [0] ⟨1, ![n]⟩ v acc hr hφ hacc) hs y = ∑ k : Fin T, at2 v k.val (y 1).val := by
  have h0 : (y 0).val < 1 := (y 0).isLt
  refine (shapeCast_apply _ hs y (ix1 (y 1)) ?_).trans ?_
  · rw [Shape.rowMajor_val_two]
    show _ = (y 0).val * n + (y 1).val
    refine (Shape.rowMajor_val_one _).trans ?_
    show (y 1).val = _
    have : (y 0).val = 0 := by omega
    rw [this, Nat.zero_mul, Nat.zero_add]
  · refine (Ideal.multiReduction_add_single v acc hr hφ hacc _).trans ?_
    exact Finset.sum_congr rfl fun k _ => read2 v _ rfl rfl

/-- A column spread over the rows of a matrix. -/
theorem spreadCol {T n : ℕ} (hT : T ≠ 1) {φ : FTy} (v : FVec Ideal ⟨2, ![T, 1]⟩ φ) (h : (⟨2, ![T, 1]⟩ : Shape).Broadcasts ⟨2, ![T, n]⟩)
    (y : (⟨2, ![T, n]⟩ : Shape).Idx) : broadcastTo ⟨2, ![T, n]⟩ v h y = v (ix2 (y 0) 0) := by
  refine broadcastTo_apply v h y _ fun a => ?_
  match a with
  | ⟨0, _⟩ => exact (if_neg hT).symm
  | ⟨1, _⟩ => rfl

/-- A row spread over the columns of a matrix. -/
theorem spreadRow {T n : ℕ} (hn : n ≠ 1) {φ : FTy} (v : FVec Ideal ⟨2, ![1, n]⟩ φ) (h : (⟨2, ![1, n]⟩ : Shape).Broadcasts ⟨2, ![T, n]⟩)
    (y : (⟨2, ![T, n]⟩ : Shape).Idx) : broadcastTo ⟨2, ![T, n]⟩ v h y = at2 v 0 (y 1).val := by
  refine (broadcastTo_apply v h y (ix2 0 (y 1)) fun a => ?_).trans (read2 v _ rfl rfl)
  match a with
  | ⟨0, _⟩ => rfl
  | ⟨1, _⟩ => exact (if_neg hn).symm

/-- A matrix that is a function of the coordinates, read at coordinates inside it. -/
theorem at2_of {n k : ℕ} (A : (⟨2, ![n, k]⟩ : Shape).Idx → EReal) (f : ℕ → ℕ → EReal) (h : ∀ y, A y = f (y 0).val (y 1).val)
    {i j : ℕ} (hi : i < n) (hj : j < k) : at2 A i j = f i j := by
  unfold at2
  rw [dif_pos ⟨hi, hj⟩]
  exact h _

/-- Two matrices side by side. -/
theorem concatCols {T a b n : ℕ} (hn : a + b = n) (x : (⟨2, ![T, a]⟩ : Shape).Idx → EReal) (y : (⟨2, ![T, b]⟩ : Shape).Idx → EReal)
    (h : Shape.Concatenates [(⟨2, ![T, a]⟩ : Shape), ⟨2, ![T, b]⟩] ⟨2, ![T, n]⟩ 1) (i : (⟨2, ![T, n]⟩ : Shape).Idx) :
    concatenate ⟨2, ![T, n]⟩ 1 [⟨⟨2, ![T, a]⟩, x⟩, ⟨⟨2, ![T, b]⟩, y⟩] h i
      = if (i 1).val < a then at2 x (i 0).val (i 1).val else at2 y (i 0).val ((i 1).val - a) := by
  have h1 : (i 1).val < n := (i 1).isLt
  split
  · rename_i hl
    refine (concatenate_pair_apply_left (s₁ := ⟨2, ![T, a]⟩) (s₂ := ⟨2, ![T, b]⟩) 1 x y h i rfl (ix2 (i 0) ⟨(i 1).val, hl⟩) (fun c => ?_)).trans
      (read2 x _ rfl rfl)
    match c with
    | ⟨0, _⟩ => rfl
    | ⟨1, _⟩ => rfl
  · rename_i hl
    refine (concatenate_pair_apply_right (s₁ := ⟨2, ![T, a]⟩) (s₂ := ⟨2, ![T, b]⟩) 1 x y h i rfl rfl
      (ix2 (i 0) ⟨(i 1).val - a, by omega⟩) (fun c hc => ?_) ?_).trans (read2 y _ rfl rfl)
    · match c with
      | ⟨0, _⟩ => rfl
      | ⟨1, _⟩ => exact absurd rfl hc
    · show (i 1).val - a + a = (i 1).val
      omega

/-! ## The scale of a row -/

/-- The number of entries of a row, as the programs write it. -/
def width : EReal := Ideal.ofBits .f32 0x44800000#32
/-- The small number added to a row's mean square. -/
def eps : EReal := Ideal.ofBits .f32 0x358637BD#32
/-- Minus one half. -/
def negHalf : EReal := Ideal.ofBits .f32 0xBF000000#32

/-- A 32-bit pattern of an ordinary number, by its sign, its significand and its exponent. -/
theorem ofBits_normal (b : BitVec 32) (sg : ℝ) (fr ex : ℕ) (hs : (if (b.extractLsb' 31 1 == 1#1) = true then (-1 : ℝ) else 1) = sg)
    (hf : (b.extractLsb' 0 23).toNat = fr) (hx : (b.extractLsb' 23 8).toNat = ex) (h0 : ex ≠ 0) (h1 : ex ≠ 255) :
    Ideal.ofBits .f32 b = ((sg * (2 ^ 23 + fr : ℕ) * (2 : ℝ) ^ ((ex : ℤ) - 127 - 23) : ℝ) : EReal) := by
  subst hs hf hx
  show Ideal.ieee 8 23 b = _
  unfold Ideal.ieee
  simp only [if_neg h0]
  rw [if_neg (by simpa using h1)]
  norm_num

theorem width_eq : width = ((1024 : ℝ) : EReal) := by
  unfold width
  rw [ofBits_normal _ 1 0 137 (if_neg (by decide)) (by decide) (by decide) (by decide) (by decide)]
  congr 1
  norm_num

theorem negHalf_eq : negHalf = ((-(1 / 2) : ℝ) : EReal) := by
  unfold negHalf
  rw [ofBits_normal _ (-1) 0 126 (if_pos (by decide)) (by decide) (by decide) (by decide) (by decide)]
  congr 1
  norm_num [zpow_neg]

theorem eps_pos : ∃ e : ℝ, 0 < e ∧ eps = (e : EReal) := by
  refine ⟨_, ?_, ofBits_normal _ 1 407485 107 (if_neg (by decide)) (by decide) (by decide) (by decide) (by decide)⟩
  positivity

/-- A row's mean square plus the small number. -/
def meanSq (n : ℕ) (h : ℕ → ℕ → EReal) (i : ℕ) : EReal := Ideal.div (∑ k : Fin n, h i k.val * h i k.val) width + eps
/-- The scale of a row: one over the root of its mean square. -/
def rscale (n : ℕ) (h : ℕ → ℕ → EReal) (i : ℕ) : EReal := Ideal.rsqrt (meanSq n h i)
/-- An entry of the normalised row. -/
def unit (n : ℕ) (h : ℕ → ℕ → EReal) (i j : ℕ) : EReal := h i j * rscale n h i

theorem meanSq_congr {n : ℕ} {h g : ℕ → ℕ → EReal} {i l : ℕ} (e : ∀ k, k < n → h i k = g l k) : meanSq n h i = meanSq n g l := by
  unfold meanSq
  exact congrArg (fun s => Ideal.div s width + eps) (Finset.sum_congr rfl fun k _ => by rw [e k.val k.isLt])

theorem rscale_congr {n : ℕ} {h g : ℕ → ℕ → EReal} {i l : ℕ} (e : ∀ k, k < n → h i k = g l k) : rscale n h i = rscale n g l :=
  congrArg Ideal.rsqrt (meanSq_congr e)

theorem unit_congr {n : ℕ} {h g : ℕ → ℕ → EReal} {i l j : ℕ} (e : ∀ k, k < n → h i k = g l k) (hj : j < n) :
    unit n h i j = unit n g l j := by
  unfold unit; rw [e j hj, rscale_congr e]

/-- The scale of the rows of a block, as the kernels compute it. -/
theorem scaleCol {T n : ℕ} (v : FVec Ideal ⟨2, ![T, n]⟩ .f32) (acc : BitVec (FTy.bits .f32))
    (hr : (⟨2, ![T, n]⟩ : Shape).Reduces [1] ⟨1, ![T]⟩) (hφ : FKind.Formats .f32) (hacc : acc = FKind.add.neutral .f32 hφ)
    (hs : (⟨1, ![T]⟩ : Shape).ShapeCasts ⟨2, ![T, 1]⟩) (y : (⟨2, ![T, 1]⟩ : Shape).Idx) :
    rsqrt (addf (divf (shapeCast ⟨2, ![T, 1]⟩ (multiReduction .add [1] ⟨1, ![T]⟩ (mulf v v) acc hr hφ hacc) hs)
      (broadcast ⟨2, ![T, 1]⟩ (Scalar.ofBits .f32 0x44800000#32))) (broadcast ⟨2, ![T, 1]⟩ (Scalar.ofBits .f32 0x358637BD#32))) y
      = rscale n (at2 v) (y 0).val := by
  show Ideal.rsqrt (Ideal.div (shapeCast ⟨2, ![T, 1]⟩ (multiReduction .add [1] ⟨1, ![T]⟩ (mulf v v) acc hr hφ hacc) hs y) _ + _) = _
  rw [rowSum]
  refine congrArg (fun s => Ideal.rsqrt (Ideal.div s width + eps)) (Finset.sum_congr rfl fun k _ => ?_)
  exact at2_of (mulf v v) (fun i j => at2 v i j * at2 v i j) (fun y => congrArg₂ (· * ·) (eq_at2 v y) (eq_at2 v y)) (y 0).isLt k.isLt

/-! ## The gradient through the normalisation -/

/-- The kernels' gradient at row `i`, column `j`: `d` the cotangent arriving beside the normalisation, `t` the cotangent
    of the normalised row, `h` the row. -/
def back (n : ℕ) (d t h : ℕ → ℕ → EReal) (i j : ℕ) : EReal :=
  d i j + rscale n h i * (t i j - unit n h i j * Ideal.div (∑ k : Fin n, t i k.val * unit n h i k.val) width)

/-- The same without a cotangent beside the normalisation. -/
def backOnly (n : ℕ) (t h : ℕ → ℕ → EReal) (i j : ℕ) : EReal :=
  rscale n h i * (t i j - unit n h i j * Ideal.div (∑ k : Fin n, t i k.val * unit n h i k.val) width)

/-- The references' factor of the row itself in the gradient. -/
def slope (n : ℕ) (t h : ℕ → ℕ → EReal) (i : ℕ) : EReal :=
  Ideal.div ((∑ k : Fin n, h i k.val * t i k.val) * (negHalf * Ideal.div (rscale n h i) (meanSq n h i))) width

theorem backOnly_congr {n : ℕ} {t h t' h' : ℕ → ℕ → EReal} {i l j : ℕ} (et : ∀ k, k < n → t i k = t' l k)
    (eh : ∀ k, k < n → h i k = h' l k) (hj : j < n) : backOnly n t h i j = backOnly n t' h' l j := by
  unfold backOnly
  rw [rscale_congr eh, et j hj, unit_congr eh hj]
  exact congrArg (fun s => rscale n h' l * (t' l j - unit n h' l j * Ideal.div s width))
    (Finset.sum_congr rfl fun k _ => by rw [et k.val k.isLt, unit_congr eh k.isLt])

theorem back_congr {n : ℕ} {d t h d' t' h' : ℕ → ℕ → EReal} {i l j : ℕ} (ed : d i j = d' l j) (et : ∀ k, k < n → t i k = t' l k)
    (eh : ∀ k, k < n → h i k = h' l k) (hj : j < n) : back n d t h i j = back n d' t' h' l j := by
  show d i j + backOnly n t h i j = d' l j + backOnly n t' h' l j
  rw [ed, backOnly_congr et eh hj]

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The mean square of a row of reals is a positive real. -/
theorem meanSq_pos {n : ℕ} {h : ℕ → ℕ → EReal} {i : ℕ} (hh : ∀ k, IsReal (h i k)) : ∃ a : ℝ, 0 < a ∧ meanSq n h i = (a : EReal) := by
  choose x hx using hh
  obtain ⟨e, he, hE⟩ := eps_pos
  refine ⟨(∑ k : Fin n, x k.val * x k.val) / 1024 + e, ?_, ?_⟩
  · have : 0 ≤ ∑ k : Fin n, x k.val * x k.val := Finset.sum_nonneg fun k _ => mul_self_nonneg _
    positivity
  · unfold meanSq
    have : ∑ k : Fin n, h i k.val * h i k.val = ((∑ k : Fin n, x k.val * x k.val : ℝ) : EReal) := by
      rw [← coe_sum]
      exact Finset.sum_congr rfl fun k _ => by rw [hx, EReal.coe_mul]
    rw [this, hE, width_eq, div_coe _ (by norm_num), EReal.coe_add]

theorem rsqrt_coe {a : ℝ} (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg h.le.not_gt, if_neg h.ne']

theorem isReal_rscale {n : ℕ} {h : ℕ → ℕ → EReal} {i : ℕ} (hh : ∀ k, IsReal (h i k)) : IsReal (rscale n h i) := by
  obtain ⟨a, ha, e⟩ := meanSq_pos (n := n) hh
  unfold rscale
  rw [e, rsqrt_coe ha]
  exact isReal_coe _

/-- The kernels' gradient is the references': the two terms in which the mean square depends on the row are one. -/
theorem backOnly_eq {n : ℕ} {t h : ℕ → ℕ → EReal} {i j : ℕ} (ht : ∀ k, IsReal (t i k)) (hh : ∀ k, IsReal (h i k)) :
    t i j * rscale n h i + h i j * slope n t h i + slope n t h i * h i j = backOnly n t h i j := by
  obtain ⟨a, ha, ea⟩ := meanSq_pos (n := n) hh
  choose x hx using hh
  choose y hy using ht
  have hr : rscale n h i = (((Real.sqrt a)⁻¹ : ℝ) : EReal) := by unfold rscale; rw [ea, rsqrt_coe ha]
  have h1 : ∑ k : Fin n, h i k.val * t i k.val = ((∑ k : Fin n, x k.val * y k.val : ℝ) : EReal) := by
    rw [← coe_sum]
    exact Finset.sum_congr rfl fun k _ => by rw [hx, hy, EReal.coe_mul]
  have h2 : ∑ k : Fin n, t i k.val * unit n h i k.val = ((∑ k : Fin n, y k.val * (x k.val * (Real.sqrt a)⁻¹) : ℝ) : EReal) := by
    rw [← coe_sum]
    exact Finset.sum_congr rfl fun k _ => by unfold unit; rw [hx, hy, hr, EReal.coe_mul, EReal.coe_mul]
  have h3 : ∑ k : Fin n, y k.val * (x k.val * (Real.sqrt a)⁻¹) = (∑ k : Fin n, x k.val * y k.val) * (Real.sqrt a)⁻¹ := by
    rw [Finset.sum_mul]
    exact Finset.sum_congr rfl fun k _ => by ring
  unfold backOnly slope
  rw [h1, h2, h3]
  unfold unit
  rw [hr, ea, width_eq, negHalf_eq, hx, hy]
  generalize (∑ k : Fin n, x k.val * y k.val) = S
  rw [div_coe _ ha.ne', ← EReal.coe_mul (-(1 / 2)), ← EReal.coe_mul S, div_coe _ (by norm_num), div_coe _ (by norm_num)]
  simp only [← EReal.coe_mul, ← EReal.coe_add, ← EReal.coe_sub]
  congr 1
  have hs : Real.sqrt a * Real.sqrt a = a := Real.mul_self_sqrt ha.le
  have hp : Real.sqrt a ≠ 0 := (Real.sqrt_pos.mpr ha).ne'
  generalize Real.sqrt a = s at hs hp ⊢
  subst hs
  field_simp
  ring

/-- The same with the cotangent beside the normalisation first, as the references add them. -/
theorem back_eq {n : ℕ} {d t h : ℕ → ℕ → EReal} {i j : ℕ} (ht : ∀ k, IsReal (t i k)) (hh : ∀ k, IsReal (h i k)) :
    d i j + t i j * rscale n h i + h i j * slope n t h i + slope n t h i * h i j = back n d t h i j := by
  show _ = d i j + backOnly n t h i j
  rw [← backOnly_eq ht hh]
  simp only [add_assoc]

end Step

end
-- ==== Proof.Logistic.lean ====
/- The logistic function written as a hyperbolic tangent: over the reals it is the one written as a quotient. -/
module

public import proofs.«01_k».proof.Proof.Finite
public import proofs.«01_k».proof.Proof.Norm
public import Idealize.ShloMosaic.PureOps.Ideal.Laws

@[expose] public section

noncomputable section

namespace Step

open Idealize.ShloMosaic Idealize.ShloMosaic.ValueIdx

/-- One half, as it is printed. -/
abbrev half : EReal := Ideal.ofBits .f32 0x3F000000#32

/-- The logistic function as the call writes it. -/
def logistic (g : EReal) : EReal := half * Ideal.tanh (half * g) + half

theorem half_eq : half = ((1 / 2 : ℝ) : EReal) := by
  unfold half
  rw [ofBits_normal _ 1 0 126 (if_neg (by decide)) (by decide) (by decide) (by decide) (by decide)]
  congr 1
  norm_num [zpow_neg]

/-- The hyperbolic tangent of half the argument gives the logistic function. -/
theorem tanh_half (r : ℝ) : 1 / 2 * Real.tanh (1 / 2 * r) + 1 / 2 = 1 / (1 + Real.exp (-r)) := by
  have e : Real.exp (-r) = Real.exp (-(1 / 2 * r)) * Real.exp (-(1 / 2 * r)) := by
    rw [← Real.exp_add]; congr 1; ring
  have h : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have s : a + b ≠ 0 := (add_pos p q).ne'
  have u : 1 + b * b ≠ 0 := by positivity
  field_simp
  nlinarith [h]

theorem logistic_eq {g : EReal} (hg : IsReal g) : logistic g = sigmoid g := by
  obtain ⟨r, rfl⟩ := hg
  have e : (1 : EReal) + Ideal.exp (-(r : EReal)) = ((1 + Real.exp (-r) : ℝ) : EReal) := by
    rw [← EReal.coe_neg]
    show ((1 : ℝ) : EReal) + ((Real.exp (-r) : ℝ) : EReal) = _
    rw [← EReal.coe_add]
  unfold logistic sigmoid
  rw [half_eq, e, ← EReal.coe_one, div_coe _ (by positivity : (0 : ℝ) < 1 + Real.exp (-r)).ne', ← EReal.coe_mul,
    Ideal.tanh_coe, ← EReal.coe_mul, ← EReal.coe_add, tanh_half]

end Step

end
-- ==== Proof.GateUpValue.lean ====
/- The value of the call `GateUp`: the gate and up projections, with the gated product and what its gradient needs.

   The weights come as eight slices of 704 columns, the first four the gate's and the last four the up projection's. The
   call takes two slices of each at a time, lays them side by side, and multiplies blocks of 512 rows by them. It writes
   the logistic function as a hyperbolic tangent; the reference writes it as a quotient. Over finite values they are one. -/
module

public import proofs.«01_k».proof.Defs
public import proofs.«01_k».proof.Proof.GateUpRun
public import proofs.«01_k».proof.Proof.Gen.GateUpRefIdeal.Run
public import proofs.«01_k».proof.Proof.Gen.GateUpRefIdeal.Read
public import proofs.«01_k».proof.Proof.Gen.Pre_gate_up_finite
public import Idealize.ShloMosaic.Lib.Pipeline.ValueKit.Geometry
public import proofs.«01_k».proof.Proof.Reading
public import proofs.«01_k».proof.Proof.Finite
public import proofs.«01_k».proof.Proof.Norm
public import proofs.«01_k».proof.Proof.Logistic

@[expose] public section

noncomputable section

namespace Step.GateUp

open Idealize.ShloMosaic Idealize.ShloMosaic.ValueIdx Step

abbrev ArrU := (⟨2, ![8192, 1024]⟩ : Shape).Idx → EReal
abbrev ArrW := (⟨3, ![8, 1024, 704]⟩ : Shape).Idx → EReal

/-- Column `j` of the eight slices laid side by side. -/
def column (w : ArrW) (k j : ℕ) : EReal := at3 w (j / 704) k (j % 704)

/-- The product of the rows with the slices laid side by side. -/
def projected (u : ArrU) (w : ArrW) (r j : ℕ) : EReal := ∑ k : Fin 1024, at2 u r k.val * column w k.val j

/-- `silu(gate)`, `up · silu'(gate)` and `silu(gate) · up` as the call writes them. -/
def silu (g : EReal) : EReal := g * logistic g
def upDsilu (g u : EReal) : EReal := u * (logistic g + silu g * (Ideal.ofBits .f32 0x3F800000#32 - logistic g))
def act (g u : EReal) : EReal := silu g * u

/-- The derivative's two terms, gathered as the call gathers them. -/
theorem upDsilu_eq {g u : EReal} (hg : IsReal g) (hu : IsReal u) :
    u * sigmoid g + g * u * (sigmoid g * (1 - sigmoid g)) = upDsilu g u := by
  unfold upDsilu silu
  rw [logistic_eq hg, Ideal.ofBits_one_f32]
  obtain ⟨s, hs⟩ := isReal_sigmoid hg
  obtain ⟨g, rfl⟩ := hg
  obtain ⟨u, rfl⟩ := hu
  rw [hs, ← EReal.coe_one]
  simp only [← EReal.coe_mul, ← EReal.coe_sub, ← EReal.coe_add]
  exact congrArg _ (by ring)

theorem isReal_at3 {n k l : ℕ} (A : (⟨3, ![n, k, l]⟩ : Shape).Idx → EReal) (h : ∀ i, IsReal (A i)) (i j r : ℕ) :
    IsReal (at3 A i j r) := by
  unfold at3
  split
  · exact h _
  · exact isReal_zero

theorem isReal_projected (u : ArrU) (w : ArrW) (hu : ∀ i, IsReal (u i)) (hw : ∀ i, IsReal (w i)) (r j : ℕ) :
    IsReal (projected u w r j) :=
  isReal_sum _ _ fun k _ => (isReal_at2 u hu _ _).mul (isReal_at3 w hw _ _ _)

end Step.GateUp

namespace Cert.GateUpIdeal.Sum

open Cert.GateUpIdeal Cert.GateUpIdeal.Gen Idealize.ShloMosaic Idealize.ShloMosaic.TcCoe Idealize.ShloMosaic.ValueIdx Step
open Step.GateUp Step.GateUpRun

variable (m : (ℓ : Loc nD τ sig) → Buf (Elt Ideal) ℓ)

/-- The rows and the slices, as the call is given them. -/
abbrev rows (c : Dev nD) : ArrU := m ((c.tc : Thread nD τ).loc main_arg0)
abbrev slices (c : Dev nD) : ArrW := m ((c.tc : Thread nD τ).loc main_arg1)

/-! ## Which block each point sees -/

theorem index0 : ∀ t : Fin cfg0.N, win0_0.index t (0 : Fin 2) = t.val % 16 ∧ win0_0.index t (1 : Fin 2) = 0 :=
  (by decide +kernel : ∀ t : Fin grid0.N, _)
theorem index1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem index2 : ∀ t : Fin cfg0.N, win0_2.index t (0 : Fin 3) = 2 + t.val / 16 ∧ win0_2.index t (1 : Fin 3) = 0 ∧ win0_2.index t (2 : Fin 3) = 0 :=
  (by decide +kernel : ∀ t : Fin grid0.N, _)
theorem index3 : ∀ t : Fin cfg0.N, win0_3.index t (0 : Fin 2) = t.val % 16 ∧ win0_3.index t (1 : Fin 2) = t.val / 16 :=
  (by decide +kernel : ∀ t : Fin grid0.N, _)
theorem index4 : ∀ t : Fin cfg0.N, win0_4.index t (0 : Fin 2) = t.val % 16 ∧ win0_4.index t (1 : Fin 2) = t.val / 16 :=
  (by decide +kernel : ∀ t : Fin grid0.N, _)
theorem index5 : ∀ t : Fin cfg0.N, win0_5.index t (0 : Fin 2) = t.val % 16 ∧ win0_5.index t (1 : Fin 2) = t.val / 16 :=
  (by decide +kernel : ∀ t : Fin grid0.N, _)
theorem index6 : ∀ t : Fin cfg0.N, win0_6.index t (0 : Fin 2) = 0 ∧ win0_6.index t (1 : Fin 2) = t.val / 16 :=
  (by decide +kernel : ∀ t : Fin grid0.N, _)
theorem index7 : ∀ t : Fin cfg0.N, win0_7.index t (0 : Fin 2) = 0 ∧ win0_7.index t (1 : Fin 2) = t.val / 16 :=
  (by decide +kernel : ∀ t : Fin grid0.N, _)

theorem block0 (c : Dev nD) (t : Fin cfg0.N) (y : S512x1024.Idx) :
    (iblk m c 0 t : Vec Ideal S512x1024 .bf16) y = at2 (rows m c) (512 * (t.val % 16) + (y 0).val) (y 1).val := by
  obtain ⟨e0, e1⟩ := index0 t
  refine read2 (n := 8192) (k := 1024) (rows m c) _ ?_ ?_
  · show win0_0.index t 0 * 512 + 1 * (y 0).val = _
    rw [e0]; omega
  · show win0_0.index t 1 * 1024 + 1 * (y 1).val = _
    rw [e1]; omega

/-- A point's slices of the gate, side by side. -/
theorem gateBlock (c : Dev nD) (t : Fin cfg0.N) (y : S1024x1408.Idx) :
    sideBySide (F := Ideal) (iblk m c 1 t) y = column (slices m c) (y 0).val (1408 * (t.val / 16) + (y 1).val) := by
  have h1 : (y 1).val < 1408 := (y 1).isLt
  obtain ⟨e0, e1, e2⟩ := index1 t
  refine read3 (n := 8) (k := 1024) (l := 704) (slices m c) _ ?_ ?_ ?_
  · show win0_1.index t 0 * 2 + 1 * ((y 1).val / 704) = _
    rw [e0]; omega
  · show win0_1.index t 1 * 1024 + 1 * (y 0).val = _
    rw [e1]; omega
  · show win0_1.index t 2 * 704 + 1 * ((y 1).val % 704) = _
    rw [e2]; omega

/-- A point's slices of the up projection, side by side. -/
theorem upBlock (c : Dev nD) (t : Fin cfg0.N) (y : S1024x1408.Idx) :
    sideBySide (F := Ideal) (iblk m c 2 t) y = column (slices m c) (y 0).val (2816 + (1408 * (t.val / 16) + (y 1).val)) := by
  have h1 : (y 1).val < 1408 := (y 1).isLt
  obtain ⟨e0, e1, e2⟩ := index2 t
  refine read3 (n := 8) (k := 1024) (l := 704) (slices m c) _ ?_ ?_ ?_
  · show win0_2.index t 0 * 2 + 1 * ((y 1).val / 704) = _
    rw [e0]; omega
  · show win0_2.index t 1 * 1024 + 1 * (y 0).val = _
    rw [e1]; omega
  · show win0_2.index t 2 * 704 + 1 * ((y 1).val % 704) = _
    rw [e2]; omega

/-! ## A point's products -/

/-- The gate and the up projection, at a row and a column. -/
abbrev gate (c : Dev nD) (r j : ℕ) : EReal := projected (rows m c) (slices m c) r j
abbrev up (c : Dev nD) (r j : ℕ) : EReal := projected (rows m c) (slices m c) r (2816 + j)

section Point

variable (c : Dev nD) (t : Fin cfg0.N) (y : S512x1408.Idx)

/-- The row and the column of the arrays an index of a point's block is. -/
abbrev row : ℕ := 512 * (t.val % 16) + (y 0).val
abbrev col : ℕ := 1408 * (t.val / 16) + (y 1).val

theorem pay5 : k0_pay5 (F := Ideal) (iblk m c 0 t) (sideBySide (iblk m c 1 t)) y = gate m c (row t y) (col t y) := by
  have h0 : (y 0).val < 512 := (y 0).isLt
  have h1 : (y 1).val < 1408 := (y 1).isLt
  unfold k0_pay5
  simp only [shapeCast_self]
  refine (matmul_nn (M := 512) (K := 1024) (N := 1408) _ none _ _ y).trans (Finset.sum_congr rfl fun k _ => ?_)
  refine congrArg₂ (· * ·) ?_ ?_
  · conv_lhs => unfold at2
    rw [dif_pos ⟨h0, k.isLt⟩]
    exact block0 m c t _
  · conv_lhs => unfold at2
    rw [dif_pos ⟨k.isLt, h1⟩]
    exact gateBlock m c t _

theorem pay6 : k0_pay6 (F := Ideal) (iblk m c 0 t) (sideBySide (iblk m c 2 t)) y = up m c (row t y) (col t y) := by
  have h0 : (y 0).val < 512 := (y 0).isLt
  have h1 : (y 1).val < 1408 := (y 1).isLt
  unfold k0_pay6
  simp only [shapeCast_self]
  refine (matmul_nn (M := 512) (K := 1024) (N := 1408) _ none _ _ y).trans (Finset.sum_congr rfl fun k _ => ?_)
  refine congrArg₂ (· * ·) ?_ ?_
  · conv_lhs => unfold at2
    rw [dif_pos ⟨h0, k.isLt⟩]
    exact block0 m c t _
  · conv_lhs => unfold at2
    rw [dif_pos ⟨k.isLt, h1⟩]
    exact upBlock m c t _

theorem pay7 : k0_pay7 (F := Ideal) (iblk m c 0 t) (sideBySide (iblk m c 1 t)) y = logistic (gate m c (row t y) (col t y)) := by
  unfold k0_pay7
  show half * Ideal.tanh (half * k0_pay5 (F := Ideal) _ _ y) + half = _
  rw [pay5]; rfl

theorem pay8 : k0_pay8 (F := Ideal) (iblk m c 0 t) (sideBySide (iblk m c 1 t)) y = silu (gate m c (row t y) (col t y)) := by
  unfold k0_pay8
  show k0_pay5 (F := Ideal) _ _ y * k0_pay7 (F := Ideal) _ _ y = _
  rw [pay5, pay7]; rfl

theorem staged3 : k0_pay9 (F := Ideal) (iblk m c 0 t) (sideBySide (iblk m c 1 t)) y = silu (gate m c (row t y) (col t y)) :=
  pay8 m c t y

theorem staged4 : k0_pay10 (F := Ideal) (iblk m c 0 t) (sideBySide (iblk m c 1 t)) (sideBySide (iblk m c 2 t)) y
    = upDsilu (gate m c (row t y) (col t y)) (up m c (row t y) (col t y)) := by
  unfold k0_pay10
  show k0_pay6 (F := Ideal) _ _ y * (k0_pay7 (F := Ideal) _ _ y
    + k0_pay8 (F := Ideal) _ _ y * (Ideal.ofBits .f32 0x3F800000#32 - k0_pay7 (F := Ideal) _ _ y)) = _
  rw [pay6, pay7, pay8]; rfl

theorem staged5 : k0_pay11 (F := Ideal) (iblk m c 0 t) (sideBySide (iblk m c 1 t)) (sideBySide (iblk m c 2 t)) y
    = act (gate m c (row t y) (col t y)) (up m c (row t y) (col t y)) := by
  unfold k0_pay11
  show k0_pay8 (F := Ideal) _ _ y * k0_pay6 (F := Ideal) _ _ y = _
  rw [pay6, pay8]; rfl

end Point

/-! ## The results -/

abbrev result3 (c : Dev nD) : S8192x2816.Idx → EReal := fun i => silu (gate m c (i 0).val (i 1).val)
abbrev result4 (c : Dev nD) : S8192x2816.Idx → EReal := fun i => upDsilu (gate m c (i 0).val (i 1).val) (up m c (i 0).val (i 1).val)
abbrev result5 (c : Dev nD) : S8192x2816.Idx → EReal := fun i => act (gate m c (i 0).val (i 1).val) (up m c (i 0).val (i 1).val)
abbrev result6 (c : Dev nD) : S1024x2816.Idx → EReal := fun i => column (slices m c) (i 0).val (i 1).val
abbrev result7 (c : Dev nD) : S1024x2816.Idx → EReal := fun i => column (slices m c) (i 0).val (2816 + (i 1).val)

theorem final3 (c : Dev nD) : (dats m 0 c).arrAt 3 cfg0.N = result3 m c := by
  refine (dats m 0 c).arrAt_eq_of_cover 3 (result3 m c) (fun t _ => ?_)
    ((by decide +kernel : (cfg0.win 3).Covers).cover _ (Memref.isWhole_whole _))
  show (cfg0.win 3).cut (grid0.coords t) ((dats m 0 c).after 3 t) = _
  rw [after3]
  obtain ⟨e0, e1⟩ := index3 t
  funext y
  refine (staged3 m c t y).trans ?_
  have r0 : win0_3.index t (0 : Fin 2) * 512 + 1 * (y 0).val = row t y := by rw [e0]; show _ = 512 * (t.val % 16) + (y 0).val; omega
  have r1 : win0_3.index t (1 : Fin 2) * 1408 + 1 * (y 1).val = col t y := by rw [e1]; show _ = 1408 * (t.val / 16) + (y 1).val; omega
  rw [← r0, ← r1]
  rfl

theorem final4 (c : Dev nD) : (dats m 0 c).arrAt 4 cfg0.N = result4 m c := by
  refine (dats m 0 c).arrAt_eq_of_cover 4 (result4 m c) (fun t _ => ?_)
    ((by decide +kernel : (cfg0.win 4).Covers).cover _ (Memref.isWhole_whole _))
  show (cfg0.win 4).cut (grid0.coords t) ((dats m 0 c).after 4 t) = _
  rw [after4]
  obtain ⟨e0, e1⟩ := index4 t
  funext y
  refine (staged4 m c t y).trans ?_
  have r0 : win0_4.index t (0 : Fin 2) * 512 + 1 * (y 0).val = row t y := by rw [e0]; show _ = 512 * (t.val % 16) + (y 0).val; omega
  have r1 : win0_4.index t (1 : Fin 2) * 1408 + 1 * (y 1).val = col t y := by rw [e1]; show _ = 1408 * (t.val / 16) + (y 1).val; omega
  rw [← r0, ← r1]
  rfl

theorem final5 (c : Dev nD) : (dats m 0 c).arrAt 5 cfg0.N = result5 m c := by
  refine (dats m 0 c).arrAt_eq_of_cover 5 (result5 m c) (fun t _ => ?_)
    ((by decide +kernel : (cfg0.win 5).Covers).cover _ (Memref.isWhole_whole _))
  show (cfg0.win 5).cut (grid0.coords t) ((dats m 0 c).after 5 t) = _
  rw [after5]
  obtain ⟨e0, e1⟩ := index5 t
  funext y
  refine (staged5 m c t y).trans ?_
  have r0 : win0_5.index t (0 : Fin 2) * 512 + 1 * (y 0).val = row t y := by rw [e0]; show _ = 512 * (t.val % 16) + (y 0).val; omega
  have r1 : win0_5.index t (1 : Fin 2) * 1408 + 1 * (y 1).val = col t y := by rw [e1]; show _ = 1408 * (t.val / 16) + (y 1).val; omega
  rw [← r0, ← r1]
  rfl

theorem final6 (c : Dev nD) : (dats m 0 c).arrAt 6 cfg0.N = result6 m c := by
  refine (dats m 0 c).arrAt_eq_of_cover 6 (result6 m c) (fun t _ => ?_)
    ((by decide +kernel : (cfg0.win 6).Covers).cover _ (Memref.isWhole_whole _))
  show (cfg0.win 6).cut (grid0.coords t) ((dats m 0 c).after 6 t) = _
  rw [after6]
  obtain ⟨e0, e1⟩ := index6 t
  funext y
  refine (gateBlock m c t y).trans ?_
  have r0 : win0_6.index t (0 : Fin 2) * 1024 + 1 * (y 0).val = (y 0).val := by rw [e0]; omega
  have r1 : win0_6.index t (1 : Fin 2) * 1408 + 1 * (y 1).val = 1408 * (t.val / 16) + (y 1).val := by rw [e1]; omega
  rw [← r1]
  conv_lhs => rw [← r0]
  rfl

theorem final7 (c : Dev nD) : (dats m 0 c).arrAt 7 cfg0.N = result7 m c := by
  refine (dats m 0 c).arrAt_eq_of_cover 7 (result7 m c) (fun t _ => ?_)
    ((by decide +kernel : (cfg0.win 7).Covers).cover _ (Memref.isWhole_whole _))
  show (cfg0.win 7).cut (grid0.coords t) ((dats m 0 c).after 7 t) = _
  rw [after7]
  obtain ⟨e0, e1⟩ := index7 t
  funext y
  refine (upBlock m c t y).trans ?_
  have r0 : win0_7.index t (0 : Fin 2) * 1024 + 1 * (y 0).val = (y 0).val := by rw [e0]; omega
  have r1 : win0_7.index t (1 : Fin 2) * 1408 + 1 * (y 1).val = 1408 * (t.val / 16) + (y 1).val := by rw [e1]; omega
  rw [← r1]
  conv_lhs => rw [← r0]
  rfl

end Cert.GateUpIdeal.Sum

namespace Cert.GateUpRefIdeal.Sum

open Cert.GateUpRefIdeal Cert.GateUpRefIdeal.Read Idealize.ShloMosaic Idealize.ShloMosaic.ValueIdx Step Step.GateUp

/-- The reference's weights: the slices side by side. -/
theorem weights (x1 : ArrW) (i : S1024x5632.Idx) : val_main_v2 (F := Ideal) x1 i = column x1 (i 0).val (i 1).val := by
  have h0 : (i 0).val < 1024 := (i 0).isLt
  have h1 : (i 1).val < 5632 := (i 1).isLt
  rw [val_main_v2_apply, val_main_v1_apply, val_main_v0_apply]
  refine read3 (n := 8) (k := 1024) (l := 704) x1 _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

theorem product (x0 : ArrU) (x1 : ArrW) (i : S8192x5632.Idx) :
    val_main_v4 (F := Ideal) x0 x1 i = projected x0 x1 (i 0).val (i 1).val := by
  rw [val_main_v4_apply]
  refine Finset.sum_congr rfl fun k _ => congrArg₂ (· * ·) ?_ ?_
  · rw [val_main_v3_apply]
    exact read2 (n := 8192) (k := 1024) x0 _ rfl rfl
  · exact weights x1 _

theorem gateRef (x0 : ArrU) (x1 : ArrW) (i : S8192x2816.Idx) :
    val_main_v5 (F := Ideal) x0 x1 i = projected x0 x1 (i 0).val (i 1).val := by
  rw [val_main_v5_apply, product]

theorem upRef (x0 : ArrU) (x1 : ArrW) (i : S8192x2816.Idx) :
    val_main_v6 (F := Ideal) x0 x1 i = projected x0 x1 (i 0).val (2816 + (i 1).val) := by
  rw [val_main_v6_apply, product]

theorem logisticRef (x0 : ArrU) (x1 : ArrW) (i : S8192x2816.Idx) :
    val_main_v12 (F := Ideal) x0 x1 i = sigmoid (projected x0 x1 (i 0).val (i 1).val) := by
  rw [val_main_v12_apply, val_main_v11_apply, val_main_v10_apply, val_main_v9_apply, val_main_v8_apply, val_main_v7_apply,
    val_main_cst_apply, val_main_cst_0_apply, gateRef]
  show Ideal.div (Ideal.ofBits .f32 0x3F800000#32) (Ideal.ofBits .f32 0x3F800000#32 + Ideal.exp (-_)) = _
  rw [Ideal.ofBits_one_f32]
  rfl

section Finite

variable (x0 : ArrU) (x1 : ArrW) (f0 : ∀ i, IsReal (x0 i)) (f1 : ∀ i, IsReal (x1 i)) (i : S8192x2816.Idx)
include f0 f1

theorem siluRef : val_main_v16 (F := Ideal) x0 x1 i = silu (projected x0 x1 (i 0).val (i 1).val) := by
  rw [val_main_v16_apply, logisticRef, gateRef, ← logistic_eq (isReal_projected x0 x1 f0 f1 _ _)]
  rfl

theorem upDsiluRef : val_main_v20 (F := Ideal) x0 x1 i
    = upDsilu (projected x0 x1 (i 0).val (i 1).val) (projected x0 x1 (i 0).val (2816 + (i 1).val)) := by
  rw [val_main_v20_apply, val_main_v19_apply, val_main_v18_apply, val_main_v17_apply, val_main_v15_apply, val_main_v14_apply,
    val_main_v13_apply, val_main_cst_1_apply, logisticRef, gateRef, upRef]
  show _ * _ + _ * _ * (_ * (Ideal.ofBits .f32 0x3F800000#32 - _)) = _
  rw [Ideal.ofBits_one_f32]
  exact upDsilu_eq (isReal_projected x0 x1 f0 f1 _ _) (isReal_projected x0 x1 f0 f1 _ _)

theorem actRef : val_main_v21 (F := Ideal) x0 x1 i
    = act (projected x0 x1 (i 0).val (i 1).val) (projected x0 x1 (i 0).val (2816 + (i 1).val)) := by
  rw [val_main_v21_apply, siluRef x0 x1 f0 f1, upRef]
  rfl

end Finite

theorem gateWeights (x1 : ArrW) (i : S1024x2816.Idx) : val_main_v22 (F := Ideal) x1 i = column x1 (i 0).val (i 1).val := by
  rw [val_main_v22_apply, weights]

theorem upWeights (x1 : ArrW) (i : S1024x2816.Idx) : val_main_v23 (F := Ideal) x1 i = column x1 (i 0).val (2816 + (i 1).val) := by
  rw [val_main_v23_apply, weights]

end Cert.GateUpRefIdeal.Sum

namespace Cert.Proof

open Idealize.ShloMosaic Idealize.SL.Sem Step

/-- The call's five results are the reference's, over the extended reals and finite operands. -/
theorem algebraic_GateUp [Cert.GateUpIdeal.Facts] [Cert.GateUpRefIdeal.Facts] [Cert.Pre_gate_up_finite.Facts] :
    algebraic_GateUpIdeal_GateUpRefIdeal_pre_gate_up_finite := by
  intro m ρ m' ρ' hpre hagree
  refine ⟨fun c => Cert.GateUpIdeal.Sum.result3 m c, fun c => Cert.GateUpIdeal.Sum.result4 m c, fun c => Cert.GateUpIdeal.Sum.result5 m c,
    fun c => Cert.GateUpIdeal.Sum.result6 m c, fun c => Cert.GateUpIdeal.Sum.result7 m c,
    (θ_run Cert.GateUpIdeal.defs _ _).mono (fun _ h c => ⟨((h c).1 3).trans (Cert.GateUpIdeal.Sum.final3 m c),
        ((h c).1 4).trans (Cert.GateUpIdeal.Sum.final4 m c), ((h c).1 5).trans (Cert.GateUpIdeal.Sum.final5 m c),
        ((h c).1 6).trans (Cert.GateUpIdeal.Sum.final6 m c), ((h c).1 7).trans (Cert.GateUpIdeal.Sum.final7 m c), (h c).2⟩)
      (Step.GateUpRun.run_blocks (F := Ideal) m ρ), ?_⟩
  refine (θ_run Cert.GateUpRefIdeal.defs _ _).mono (fun _ h c => ⟨?_, ?_, ?_, ?_, ?_, (h c).2.2.2.2.2⟩)
    (Cert.GateUpRefIdeal.Value.run (F := Ideal) m' ρ')
  all_goals
    obtain ⟨a0, a1⟩ := hagree c
    obtain ⟨p0, p1⟩ := hpre c
  · refine ((h c).1.trans (Cert.GateUpRefIdeal.Read.val_main_v24_eq ..)).trans ?_
    rw [a0, a1]
    funext i
    exact Cert.GateUpRefIdeal.Sum.siluRef _ _ (isReal_of_ones _ _ p0) (isReal_of_ones _ _ p1) i
  · refine ((h c).2.1.trans (Cert.GateUpRefIdeal.Read.val_main_v25_eq ..)).trans ?_
    rw [a0, a1]
    funext i
    exact Cert.GateUpRefIdeal.Sum.upDsiluRef _ _ (isReal_of_ones _ _ p0) (isReal_of_ones _ _ p1) i
  · refine ((h c).2.2.1.trans (Cert.GateUpRefIdeal.Read.val_main_v26_eq ..)).trans ?_
    rw [a0, a1]
    funext i
    exact Cert.GateUpRefIdeal.Sum.actRef _ _ (isReal_of_ones _ _ p0) (isReal_of_ones _ _ p1) i
  · refine ((h c).2.2.2.1.trans (Cert.GateUpRefIdeal.Read.val_main_v27_eq ..)).trans ?_
    rw [a1]
    funext i
    exact Cert.GateUpRefIdeal.Sum.gateWeights _ i
  · refine ((h c).2.2.2.2.1.trans (Cert.GateUpRefIdeal.Read.val_main_v28_eq ..)).trans ?_
    rw [a1]
    funext i
    exact Cert.GateUpRefIdeal.Sum.upWeights _ i

end Cert.Proof

end
-- ==== Proof.GwDownValue.lean ====
/- The value of the call `GwDown`: the gradient of a product's weight, `aᵀ · d` summed over all 8192 rows.

   The call walks the rows in four blocks of 2048, adding each block's product into the staged output; the reference
   takes one product over all rows. Over the extended reals the two are one sum, cut differently. -/
module

public import proofs.«01_k».proof.Defs
public import proofs.«01_k».proof.Proof.Gen.GwDownIdeal.Value
public import proofs.«01_k».proof.Proof.Gen.GwDownRefIdeal.Read
public import proofs.«01_k».proof.Proof.Reading

@[expose] public section

noncomputable section

namespace Cert.GwDownIdeal.Sum

open Cert.GwDownIdeal Cert.GwDownIdeal.Gen Idealize.ShloMosaic Idealize.ShloMosaic.TcCoe Idealize.ShloMosaic.ValueIdx Step

variable (m : (ℓ : Loc nD τ sig) → Buf (Elt Ideal) ℓ)

/-- The left factor of the product, read by row and column. -/
abbrev lhs (c : Dev nD) : ℕ → ℕ → EReal := at2 (n := 8192) (k := 2816) (m ((c.tc : Thread nD τ).loc main_arg0))
/-- The cotangent, read by row and column. -/
abbrev rhs (c : Dev nD) : ℕ → ℕ → EReal := at2 (n := 8192) (k := 1024) (m ((c.tc : Thread nD τ).loc main_arg1))

theorem index0 : ∀ t : Fin cfg0.N, win0_0.index t (0 : Fin 2) = t.val % 4 ∧ win0_0.index t (1 : Fin 2) = 0 :=
  (by decide +kernel : ∀ t : Fin grid0.N, _)
theorem index1 : ∀ t : Fin cfg0.N, win0_1.index t (0 : Fin 2) = t.val % 4 ∧ win0_1.index t (1 : Fin 2) = t.val / 4 :=
  (by decide +kernel : ∀ t : Fin grid0.N, _)

/-- The left factor's block at a grid point: 2048 of its rows. -/
theorem block0 (c : Dev nD) (t : Fin cfg0.N) (y : S2048x2816.Idx) :
    (iblk m c 0 t : Vec Ideal S2048x2816 .bf16) y = lhs m c (2048 * (t.val % 4) + (y 0).val) (y 1).val := by
  obtain ⟨e0, e1⟩ := index0 t
  refine read2 (n := 8192) (k := 2816) (m ((c.tc : Thread nD τ).loc main_arg0)) _ ?_ ?_
  · show win0_0.index t 0 * 2048 + 1 * (y 0).val = _
    rw [e0]; omega
  · show win0_0.index t 1 * 2816 + 1 * (y 1).val = _
    rw [e1]; omega

/-- The cotangent's block at a grid point: the same 2048 rows, 512 of its columns. -/
theorem block1 (c : Dev nD) (t : Fin cfg0.N) (y : S2048x512.Idx) :
    (iblk m c 1 t : Vec Ideal S2048x512 .f32) y
      = rhs m c (2048 * (t.val % 4) + (y 0).val) (512 * (t.val / 4) + (y 1).val) := by
  obtain ⟨e0, e1⟩ := index1 t
  refine read2 (n := 8192) (k := 1024) (m ((c.tc : Thread nD τ).loc main_arg1)) _ ?_ ?_
  · show win0_1.index t 0 * 2048 + 1 * (y 0).val = _
    rw [e0]; omega
  · show win0_1.index t 1 * 512 + 1 * (y 1).val = _
    rw [e1]; omega

/-- What one grid point adds at `y` of the staged output. -/
def term (c : Dev nD) (n : ℕ) (y : S2816x512.Idx) : EReal :=
  ∑ r : Fin 2048, lhs m c (2048 * (n % 4) + r.val) (y 0).val
    * rhs m c (2048 * (n % 4) + r.val) (512 * (n / 4) + (y 1).val)

/-- One block's product, added into what the buffer held. -/
theorem payload (v3 : Vec Ideal S2048x2816 .bf16) (v4 : Vec Ideal S2816x512 .f32) (v6 : Vec Ideal S2048x512 .f32)
    (y : S2816x512.Idx) :
    k0_pay2 v3 v4 v6 y = v4 y + ∑ r : Fin 2048, at2 (n := 2048) (k := 2816) v3 r.val (y 0).val
      * at2 (n := 2048) (k := 512) v6 r.val (y 1).val := by
  unfold k0_pay2
  simp only [shapeCast_self]
  rw [addf_apply]
  refine congrArg (v4 y + ·) ?_
  exact matmul_tn (K := 2048) (M := 2816) (N := 512) _ none v3 v6 y

theorem step_apply (c : Dev nD) (n : ℕ) (h : n < cfg0.N) (acc : Vec Ideal S2816x512 .f32) (y : S2816x512.Idx) :
    k0_pay2 (iblk m c 0 ⟨n, h⟩) acc (iblk m c 1 ⟨n, h⟩) y = acc y + term m c n y := by
  rw [payload]
  refine congrArg (acc y + ·) (Finset.sum_congr rfl fun r _ => ?_)
  have h0 : (y 0).val < 2816 := (y 0).isLt
  have h1 : (y 1).val < 512 := (y 1).isLt
  refine congrArg₂ (· * ·) ?_ ?_
  · unfold at2
    rw [dif_pos ⟨r.isLt, h0⟩]
    exact block0 m c ⟨n, h⟩ _
  · unfold at2
    rw [dif_pos ⟨r.isLt, h1⟩]
    exact block1 m c ⟨n, h⟩ _

/-- The call's result at an index: the whole sum over the rows. -/
theorem result (c : Dev nD) (i : S2816x1024.Idx) :
    (Value.G2 m c : S2816x1024.Idx → EReal) i = ∑ k : Fin 8192, lhs m c k.val (i 0).val * rhs m c k.val (i 1).val := by
  have h0 : (i 0).val < 2816 := (i 0).isLt
  have h1 : (i 1).val < 1024 := (i 1).isLt
  have hN : cfg0.N = 8 := N_0
  have hrun : Value.run2Of i = (i 1).val / 512 := by
    show 2 * ((i 0).val / 2816 - 0) + 1 * ((i 1).val / 512 - 0) = _
    omega
  have hlt : 4 * Value.run2Of i + 3 < cfg0.N := by omega
  show Value.G2 m c i = _
  unfold Value.G2
  rw [dif_pos hlt]
  refine (Pipeline.accAt_add_apply (ι := S2816x512.Idx) (β := EReal) (Value.reset2 m c) (Value.step2 m c) (fun _ => (0 : EReal)) (term m c) (4 * Value.run2Of i) 3
    (fun h y => (step_apply m c _ h _ y).trans (by
      rw [show (k0_pay1 (F := Ideal)) y = 0 from Ideal.ofBits_zero_f32]))
    (fun n h acc y _ _ => step_apply m c n h acc y) 3 le_rfl hlt (Value.loc2Of i)).trans ?_
  rw [zero_add, ← sum_blocks 4 2048 8192 rfl fun k => lhs m c k (i 0).val * rhs m c k (i 1).val]
  refine Finset.sum_congr rfl fun s hs => ?_
  have hs4 : s < 4 := Finset.mem_range.mp hs
  unfold term
  have e0 : (Value.loc2Of i 0).val = (i 0).val := show (i 0).val % 2816 = _ by omega
  have e1 : 512 * ((4 * Value.run2Of i + s) / 4) + (Value.loc2Of i 1).val = (i 1).val := by
    show 512 * ((4 * Value.run2Of i + s) / 4) + (i 1).val % 512 = _
    omega
  rw [e0, e1, show (4 * Value.run2Of i + s) % 4 = s by omega]

end Cert.GwDownIdeal.Sum

namespace Cert.GwDownRefIdeal.Sum

open Cert.GwDownRefIdeal Cert.GwDownRefIdeal.Read Idealize.ShloMosaic Step

/-- The reference's result at an index: the same sum. -/
theorem result (x0 : S8192x2816.Idx → EReal) (x1 : S8192x1024.Idx → EReal) (i : S2816x1024.Idx) :
    val_main_v4 (F := Ideal) x0 x1 i = ∑ k : Fin 8192, at2 (n := 8192) (k := 2816) x0 k.val (i 0).val
      * at2 (n := 8192) (k := 1024) x1 k.val (i 1).val := by
  rw [val_main_v4_apply, val_main_v3_apply]
  refine Finset.sum_congr rfl fun k _ => ?_
  rw [mul_comm]
  exact congrArg₂ (· * ·) (read2 x0 _ rfl rfl) (read2 x1 _ rfl rfl)

end Cert.GwDownRefIdeal.Sum

namespace Cert.Proof

open Idealize.ShloMosaic Idealize.SL.Sem

/-- The call's result is the reference's, over the extended reals. -/
theorem algebraic_GwDown [Cert.GwDownIdeal.Facts] [Cert.GwDownRefIdeal.Facts] : algebraic_GwDownIdeal_GwDownRefIdeal := by
  intro m ρ m' ρ' _ hagree
  refine ⟨_, Cert.GwDownIdeal.Value.run (F := Ideal) m ρ, ?_⟩
  refine (θ_run Cert.GwDownRefIdeal.defs _ _).mono (fun _ h c => ⟨?_, (h c).2⟩)
    (Cert.GwDownRefIdeal.Value.run (F := Ideal) m' ρ')
  refine ((h c).1.trans (Cert.GwDownRefIdeal.Read.val_main_v4_eq ..)).trans ?_
  rw [(hagree c).1, (hagree c).2]
  funext i
  exact (Cert.GwDownRefIdeal.Sum.result _ _ i).trans (Cert.GwDownIdeal.Sum.result m c i).symm

end Cert.Proof

end
-- ==== Proof.GwOutValue.lean ====
/- The value of the call `GwOut`: the gradient of a product's weight, `aᵀ · d` summed over all 8192 rows.

   The call walks the rows in four blocks of 2048, adding each block's product into the staged output; the reference
   takes one product over all rows. Over the extended reals the two are one sum, cut differently. -/
module

public import proofs.«01_k».proof.Defs
public import proofs.«01_k».proof.Proof.Gen.GwOutIdeal.Value
public import proofs.«01_k».proof.Proof.Gen.GwOutRefIdeal.Read
public import proofs.«01_k».proof.Proof.Reading

@[expose] public section

noncomputable section

namespace Cert.GwOutIdeal.Sum

open Cert.GwOutIdeal Cert.GwOutIdeal.Gen Idealize.ShloMosaic Idealize.ShloMosaic.TcCoe Idealize.ShloMosaic.ValueIdx Step

variable (m : (ℓ : Loc nD τ sig) → Buf (Elt Ideal) ℓ)

/-- The left factor of the product, read by row and column. -/
abbrev lhs (c : Dev nD) : ℕ → ℕ → EReal := at2 (n := 8192) (k := 1024) (m ((c.tc : Thread nD τ).loc main_arg0))
/-- The cotangent, read by row and column. -/
abbrev rhs (c : Dev nD) : ℕ → ℕ → EReal := at2 (n := 8192) (k := 1024) (m ((c.tc : Thread nD τ).loc main_arg1))

theorem index0 : ∀ t : Fin cfg0.N, win0_0.index t (0 : Fin 2) = t.val % 4 ∧ win0_0.index t (1 : Fin 2) = 0 :=
  (by decide +kernel : ∀ t : Fin grid0.N, _)
theorem index1 : ∀ t : Fin cfg0.N, win0_1.index t (0 : Fin 2) = t.val % 4 ∧ win0_1.index t (1 : Fin 2) = t.val / 4 :=
  (by decide +kernel : ∀ t : Fin grid0.N, _)

/-- The left factor's block at a grid point: 2048 of its rows. -/
theorem block0 (c : Dev nD) (t : Fin cfg0.N) (y : S2048x1024.Idx) :
    (iblk m c 0 t : Vec Ideal S2048x1024 .bf16) y = lhs m c (2048 * (t.val % 4) + (y 0).val) (y 1).val := by
  obtain ⟨e0, e1⟩ := index0 t
  refine read2 (n := 8192) (k := 1024) (m ((c.tc : Thread nD τ).loc main_arg0)) _ ?_ ?_
  · show win0_0.index t 0 * 2048 + 1 * (y 0).val = _
    rw [e0]; omega
  · show win0_0.index t 1 * 1024 + 1 * (y 1).val = _
    rw [e1]; omega

/-- The cotangent's block at a grid point: the same 2048 rows, 1024 of its columns. -/
theorem block1 (c : Dev nD) (t : Fin cfg0.N) (y : S2048x1024.Idx) :
    (iblk m c 1 t : Vec Ideal S2048x1024 .f32) y
      = rhs m c (2048 * (t.val % 4) + (y 0).val) (1024 * (t.val / 4) + (y 1).val) := by
  obtain ⟨e0, e1⟩ := index1 t
  refine read2 (n := 8192) (k := 1024) (m ((c.tc : Thread nD τ).loc main_arg1)) _ ?_ ?_
  · show win0_1.index t 0 * 2048 + 1 * (y 0).val = _
    rw [e0]; omega
  · show win0_1.index t 1 * 1024 + 1 * (y 1).val = _
    rw [e1]; omega

/-- What one grid point adds at `y` of the staged output. -/
def term (c : Dev nD) (n : ℕ) (y : S1024x1024.Idx) : EReal :=
  ∑ r : Fin 2048, lhs m c (2048 * (n % 4) + r.val) (y 0).val
    * rhs m c (2048 * (n % 4) + r.val) (1024 * (n / 4) + (y 1).val)

/-- One block's product, added into what the buffer held. -/
theorem payload (v3 : Vec Ideal S2048x1024 .bf16) (v4 : Vec Ideal S1024x1024 .f32) (v6 : Vec Ideal S2048x1024 .f32)
    (y : S1024x1024.Idx) :
    k0_pay2 v3 v4 v6 y = v4 y + ∑ r : Fin 2048, at2 (n := 2048) (k := 1024) v3 r.val (y 0).val
      * at2 (n := 2048) (k := 1024) v6 r.val (y 1).val := by
  unfold k0_pay2
  simp only [shapeCast_self]
  rw [addf_apply]
  refine congrArg (v4 y + ·) ?_
  exact matmul_tn (K := 2048) (M := 1024) (N := 1024) _ none v3 v6 y

theorem step_apply (c : Dev nD) (n : ℕ) (h : n < cfg0.N) (acc : Vec Ideal S1024x1024 .f32) (y : S1024x1024.Idx) :
    k0_pay2 (iblk m c 0 ⟨n, h⟩) acc (iblk m c 1 ⟨n, h⟩) y = acc y + term m c n y := by
  rw [payload]
  refine congrArg (acc y + ·) (Finset.sum_congr rfl fun r _ => ?_)
  have h0 : (y 0).val < 1024 := (y 0).isLt
  have h1 : (y 1).val < 1024 := (y 1).isLt
  refine congrArg₂ (· * ·) ?_ ?_
  · unfold at2
    rw [dif_pos ⟨r.isLt, h0⟩]
    exact block0 m c ⟨n, h⟩ _
  · unfold at2
    rw [dif_pos ⟨r.isLt, h1⟩]
    exact block1 m c ⟨n, h⟩ _

/-- The call's result at an index: the whole sum over the rows. -/
theorem result (c : Dev nD) (i : S1024x1024.Idx) :
    (Value.G2 m c : S1024x1024.Idx → EReal) i = ∑ k : Fin 8192, lhs m c k.val (i 0).val * rhs m c k.val (i 1).val := by
  have h0 : (i 0).val < 1024 := (i 0).isLt
  have h1 : (i 1).val < 1024 := (i 1).isLt
  have hN : cfg0.N = 4 := N_0
  have hrun : Value.run2Of i = (i 1).val / 1024 := by
    show 1 * ((i 0).val / 1024 - 0) + 1 * ((i 1).val / 1024 - 0) = _
    omega
  have hlt : 4 * Value.run2Of i + 3 < cfg0.N := by omega
  show Value.G2 m c i = _
  unfold Value.G2
  rw [dif_pos hlt]
  refine (Pipeline.accAt_add_apply (ι := S1024x1024.Idx) (β := EReal) (Value.reset2 m c) (Value.step2 m c) (fun _ => (0 : EReal)) (term m c) (4 * Value.run2Of i) 3
    (fun h y => (step_apply m c _ h _ y).trans (by
      rw [show (k0_pay1 (F := Ideal)) y = 0 from Ideal.ofBits_zero_f32]))
    (fun n h acc y _ _ => step_apply m c n h acc y) 3 le_rfl hlt (Value.loc2Of i)).trans ?_
  rw [zero_add, ← sum_blocks 4 2048 8192 rfl fun k => lhs m c k (i 0).val * rhs m c k (i 1).val]
  refine Finset.sum_congr rfl fun s hs => ?_
  have hs4 : s < 4 := Finset.mem_range.mp hs
  unfold term
  have e0 : (Value.loc2Of i 0).val = (i 0).val := show (i 0).val % 1024 = _ by omega
  have e1 : 1024 * ((4 * Value.run2Of i + s) / 4) + (Value.loc2Of i 1).val = (i 1).val := by
    show 1024 * ((4 * Value.run2Of i + s) / 4) + (i 1).val % 1024 = _
    omega
  rw [e0, e1, show (4 * Value.run2Of i + s) % 4 = s by omega]

end Cert.GwOutIdeal.Sum

namespace Cert.GwOutRefIdeal.Sum

open Cert.GwOutRefIdeal Cert.GwOutRefIdeal.Read Idealize.ShloMosaic Step

/-- The reference's result at an index: the same sum. -/
theorem result (x0 : S8192x1024.Idx → EReal) (x1 : S8192x1024.Idx → EReal) (i : S1024x1024.Idx) :
    val_main_v4 (F := Ideal) x0 x1 i = ∑ k : Fin 8192, at2 (n := 8192) (k := 1024) x0 k.val (i 0).val
      * at2 (n := 8192) (k := 1024) x1 k.val (i 1).val := by
  rw [val_main_v4_apply, val_main_v3_apply]
  refine Finset.sum_congr rfl fun k _ => ?_
  rw [mul_comm]
  exact congrArg₂ (· * ·) (read2 x0 _ rfl rfl) (read2 x1 _ rfl rfl)

end Cert.GwOutRefIdeal.Sum

namespace Cert.Proof

open Idealize.ShloMosaic Idealize.SL.Sem

/-- The call's result is the reference's, over the extended reals. -/
theorem algebraic_GwOut [Cert.GwOutIdeal.Facts] [Cert.GwOutRefIdeal.Facts] : algebraic_GwOutIdeal_GwOutRefIdeal := by
  intro m ρ m' ρ' _ hagree
  refine ⟨_, Cert.GwOutIdeal.Value.run (F := Ideal) m ρ, ?_⟩
  refine (θ_run Cert.GwOutRefIdeal.defs _ _).mono (fun _ h c => ⟨?_, (h c).2⟩)
    (Cert.GwOutRefIdeal.Value.run (F := Ideal) m' ρ')
  refine ((h c).1.trans (Cert.GwOutRefIdeal.Read.val_main_v4_eq ..)).trans ?_
  rw [(hagree c).1, (hagree c).2]
  funext i
  exact (Cert.GwOutRefIdeal.Sum.result _ _ i).trans (Cert.GwOutIdeal.Sum.result m c i).symm

end Cert.Proof

end
-- ==== Proof.GwGateUpValue.lean ====
/- The value of the call `GwGateUp`: the gradient of a product's weight over all 8192 rows, laid out by the device that will
   own each slice of its columns.

   The call keeps a running sum in a scratch buffer over four blocks of 2048 rows, and at the last block writes the two
   halves of the buffer's columns as the slices of two owners. The reference takes one product over all rows and cuts
   its columns in eight. Over the extended reals the two are one sum. -/
module

public import proofs.«01_k».proof.Defs
public import proofs.«01_k».proof.Proof.Gen.GwGateUpIdeal.Value
public import proofs.«01_k».proof.Proof.Gen.GwGateUpRefIdeal.Read
public import proofs.«01_k».proof.Proof.Reading

@[expose] public section

noncomputable section

namespace Cert.GwGateUpIdeal.Sum

open Cert.GwGateUpIdeal Cert.GwGateUpIdeal.Gen Idealize.ShloMosaic Idealize.ShloMosaic.TcCoe Idealize.ShloMosaic.ValueIdx Step

variable (m : (ℓ : Loc nD τ sig) → Buf (Elt Ideal) ℓ)

/-- The left factor of the product, read by row and column. -/
abbrev lhs (c : Dev nD) : ℕ → ℕ → EReal := at2 (n := 8192) (k := 1024) (m ((c.tc : Thread nD τ).loc main_arg0))
/-- The cotangents of the two halves side by side, read by row and column. -/
abbrev rhs (c : Dev nD) : ℕ → ℕ → EReal := fun r n =>
  if n < 2816 then at2 (n := 8192) (k := 2816) (m ((c.tc : Thread nD τ).loc main_arg1)) r n
  else at2 (n := 8192) (k := 2816) (m ((c.tc : Thread nD τ).loc main_arg2)) r (n - 2816)

/-- The call's second operand is the two cotangents stacked. -/
theorem operand1 (c : Dev nD) : V m c main_v2 = concatenate S2x8192x2816 0
    [⟨S1x8192x2816, broadcastInDim S1x8192x2816 ![1, 2] bcast_S8192x2816_S1x8192x2816_1_2 (m ((c.tc : Thread nD τ).loc main_arg1))⟩,
     ⟨S1x8192x2816, broadcastInDim S1x8192x2816 ![1, 2] bcast_S8192x2816_S1x8192x2816_1_2 (m ((c.tc : Thread nD τ).loc main_arg2))⟩]
    concatenates_S1x8192x2816_S1x8192x2816_S2x8192x2816_d0 := by
  unfold V hostOps0
  after_results <;> rfl

/-- One of the two, under its leading axis of one. -/
theorem layer (x : Vec Ideal S8192x2816 .bf16) (j : S1x8192x2816.Idx) :
    broadcastInDim S1x8192x2816 ![1, 2] bcast_S8192x2816_S1x8192x2816_1_2 x j
      = at2 (n := 8192) (k := 2816) x (j 1).val (j 2).val := by
  refine (broadcastInDim_apply _ _ _ _ (ix2 (j 1) (j 2)) fun a => ?_).trans (read2 (n := 8192) (k := 2816) x _ rfl rfl)
  match a with
  | ⟨0, _⟩ => rfl
  | ⟨1, _⟩ => rfl

theorem index0 : ∀ t : Fin cfg0.N, win0_0.index t (0 : Fin 2) = t.val % 4 ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = t.val % 4
    ∧ win0_1.index t (2 : Fin 3) = t.val / 4 % 2 :=
  (by decide +kernel : ∀ t : Fin grid0.N, _)

/-- The left factor's block at a grid point: 2048 of its rows. -/
theorem block0 (c : Dev nD) (t : Fin cfg0.N) (y : S2048x1024.Idx) :
    (iblk m c 0 t : Vec Ideal S2048x1024 .bf16) y = lhs m c (2048 * (t.val % 4) + (y 0).val) (y 1).val := by
  obtain ⟨e0, e1⟩ := index0 t
  refine (congrFun (V_main_arg0 m c) _).trans
    (read2 (n := 8192) (k := 1024) (m ((c.tc : Thread nD τ).loc main_arg0)) _ ?_ ?_)
  · show win0_0.index t 0 * 2048 + 1 * (y 0).val = _
    rw [e0]; omega
  · show win0_0.index t 1 * 1024 + 1 * (y 1).val = _
    rw [e1]; omega

/-- The cotangents' block at a grid point: the same 2048 rows, 1408 columns of one of the two. -/
theorem block1 (c : Dev nD) (t : Fin cfg0.N) (y : S1x2048x1408.Idx) :
    (iblk m c 1 t : Vec Ideal S1x2048x1408 .bf16) y
      = rhs m c (2048 * (t.val % 4) + (y 1).val) (1408 * (t.val / 4) + (y 2).val) := by
  obtain ⟨e0, e1, e2⟩ := index1 t
  have hN : t.val < 16 := lt_of_lt_of_eq t.isLt N_0
  have h0 : (y 0).val < 1 := (y 0).isLt
  have h1 : (y 1).val < 2048 := (y 1).isLt
  have h2 : (y 2).val < 1408 := (y 2).isLt
  refine (congrFun (operand1 m c) _).trans ?_
  have g0 : win0_1.index t 0 * 1 + 1 * (y 0).val = t.val / 8 := by rw [e0]; omega
  have g1 : win0_1.index t 1 * 2048 + 1 * (y 1).val = 2048 * (t.val % 4) + (y 1).val := by rw [e1]; omega
  have g2 : win0_1.index t 2 * 1408 + 1 * (y 2).val = 1408 * (t.val / 4 % 2) + (y 2).val := by rw [e2]; omega
  by_cases hh : t.val / 8 = 0
  · refine (concatenate_pair_apply_left (s₁ := S1x8192x2816) (s₂ := S1x8192x2816) (0 : Fin S2x8192x2816.rank) _ _ _ _ rfl (ix3 (0 : Fin 1) ⟨2048 * (t.val % 4) + (y 1).val, by omega⟩
      ⟨1408 * (t.val / 4 % 2) + (y 2).val, by omega⟩) fun a => ?_).trans ?_
    · match a with
      | ⟨0, _⟩ => show 0 = win0_1.index t 0 * 1 + 1 * (y 0).val; omega
      | ⟨1, _⟩ => exact g1.symm
      | ⟨2, _⟩ => exact g2.symm
    · rw [layer]
      unfold rhs
      rw [if_pos (by omega), show 1408 * (t.val / 4) + (y 2).val = 1408 * (t.val / 4 % 2) + (y 2).val by omega]
  · refine (concatenate_pair_apply_right (s₁ := S1x8192x2816) (s₂ := S1x8192x2816) (0 : Fin S2x8192x2816.rank) _ _ _ _ rfl rfl (ix3 (0 : Fin 1) ⟨2048 * (t.val % 4) + (y 1).val, by omega⟩
      ⟨1408 * (t.val / 4 % 2) + (y 2).val, by omega⟩) (fun a ha => ?_) ?_).trans ?_
    · match a with
      | ⟨0, _⟩ => exact absurd rfl ha
      | ⟨1, _⟩ => exact g1.symm
      | ⟨2, _⟩ => exact g2.symm
    · show 0 + 1 = win0_1.index t 0 * 1 + 1 * (y 0).val
      omega
    · rw [layer]
      unfold rhs
      rw [if_neg (by omega), show 1408 * (t.val / 4) + (y 2).val - 2816 = 1408 * (t.val / 4 % 2) + (y 2).val by omega]

/-- What one grid point adds at `y` of the scratch buffer. -/
def term (c : Dev nD) (n : ℕ) (y : S1024x1408.Idx) : EReal :=
  ∑ r : Fin 2048, lhs m c (2048 * (n % 4) + r.val) (y 0).val
    * rhs m c (2048 * (n % 4) + r.val) (1408 * (n / 4) + (y 1).val)

/-- One block's product, added into what the buffer held. -/
theorem payload (v3 : Vec Ideal S1024x1408 .f32) (v4 : Vec Ideal S2048x1024 .bf16) (v5 : Vec Ideal S1x2048x1408 .bf16)
    (y : S1024x1408.Idx) :
    k0_pay2 v3 v4 v5 y = v3 y + ∑ r : Fin 2048, at2 (n := 2048) (k := 1024) v4 r.val (y 0).val
      * at3 (n := 1) (k := 2048) (l := 1408) v5 0 r.val (y 1).val := by
  have h1 : (y 1).val < 1408 := (y 1).isLt
  unfold k0_pay2
  simp only [shapeCast_self]
  rw [addf_apply]
  refine congrArg (v3 y + ·) ?_
  refine (matmul_tn (K := 2048) (M := 1024) (N := 1408) _ none v4 _ y).trans (Finset.sum_congr rfl fun r _ => ?_)
  refine congrArg (at2 (n := 2048) (k := 1024) v4 r.val (y 0).val * ·) ?_
  unfold at2
  rw [dif_pos ⟨r.isLt, h1⟩, shapeCast_apply _ _ _ (ix3 (0 : Fin 1) r ⟨(y 1).val, h1⟩)
    (by rw [Shape.rowMajor_val_three, Shape.rowMajor_val_two]
        show (0 * 2048 + r.val) * 1408 + (y 1).val = r.val * 1408 + (y 1).val
        omega)]
  exact read3 v5 _ rfl rfl rfl

theorem step_apply (c : Dev nD) (n : ℕ) (h : n < cfg0.N) (acc : Vec Ideal S1024x1408 .f32) (y : S1024x1408.Idx) :
    k0_pay2 acc (iblk m c 0 ⟨n, h⟩) (iblk m c 1 ⟨n, h⟩) y = acc y + term m c n y := by
  rw [payload]
  refine congrArg (acc y + ·) (Finset.sum_congr rfl fun r _ => ?_)
  have h0 : (y 0).val < 1024 := (y 0).isLt
  have h1 : (y 1).val < 1408 := (y 1).isLt
  refine congrArg₂ (· * ·) ?_ ?_
  · unfold at2
    rw [dif_pos ⟨r.isLt, h0⟩]
    exact block0 m c ⟨n, h⟩ _
  · unfold at3
    rw [dif_pos ⟨Nat.one_pos, r.isLt, h1⟩]
    exact block1 m c ⟨n, h⟩ _

theorem zero2 : (![0, 0] : Fin 2 → ℕ) = fun _ => 0 := by decide
theorem zero3 : (![0, 0, 0] : Fin 3 → ℕ) = fun _ => 0 := by decide

section Scratch
variable (c : Dev nD) (i : grid0.Coords) (arg2 : Memref sig .tc .vmem S2048x1024 .bf16) (harg2 : arg2.IsWhole)
  (arg3 : Memref sig .tc .vmem S1x2048x1408 .bf16) (harg3 : arg3.IsWhole) (arg4 : Memref sig .tc .vmem S2x1024x704 .f32) (harg4 : arg4.IsWhole)
  (arg5 : Memref sig .tc .vmem S1024x1408 .f32) (harg5 : arg5.IsWhole) (x0 : Vec Ideal S2048x1024 .bf16) (x1 : Vec Ideal S1x2048x1408 .bf16)

/-- The first of a run of four points leaves its own product in the scratch buffer. -/
theorem scratch_A (hc0 : cond0_0 i) (hc1 : ¬cond0_1 i) :
    sout0_A_0 (F := Ideal) c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S1024x1408) zero2, View.readCov_unit_zero (S := S1024x1408) _ zero2]
  simp only [View.readAt_eq_ld, harg2.read_unread, harg3.read_unread, View.ld_unit_zero (S := S2048x1024) zero2,
    View.ld_unit_zero (S := S1x2048x1408) zero3, View.ld_unit_zero (S := S1024x1408) zero2]

/-- A point in the middle of a run adds its product to what the scratch buffer held. -/
theorem scratch_B (hc0 : ¬cond0_0 i) (hc1 : ¬cond0_1 i) (xs0 : Vec Ideal S1024x1408 .f32) :
    sout0_B_0 (F := Ideal) c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg5.read_unread, View.ld_unit_zero (S := S2048x1024) zero2,
    View.ld_unit_zero (S := S1x2048x1408) zero3, View.ld_unit_zero (S := S1024x1408) zero2]

/-- So does the last point of a run, … -/
theorem scratch_C (hc0 : ¬cond0_0 i) (hc1 : cond0_1 i) (xs0 : Vec Ideal S1024x1408 .f32) :
    sout0_C_0 (F := Ideal) c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  try sl_unfold_words
  rw [View.canon_unit_zero zero2]
  simp only [View.readAt_eq_ld, harg2.read_unread, harg3.read_unread, harg5.read_unread, View.ld_unit_zero (S := S2048x1024) zero2,
    View.ld_unit_zero (S := S1x2048x1408) zero3, View.ld_unit_zero (S := S1024x1408) zero2]

/-- The two stores of a run's last point, over the buffer they copy out. -/
def copies (P : Vec Ideal S1024x1408 .f32) : List (View.Piece (Elt Ideal) S2x1024x704 .f32) :=
  [⟨Rect.unit ![1, 0, 0] S1x1024x704.size inb_S2x1024x704_S1x1024x704_1_0_0,
      k0_pay4 (View.ld P (Rect.unit ![0, 704] S1024x704.size inb_S1024x1408_S1024x704_0_704))⟩,
    ⟨Rect.unit ![0, 0, 0] S1x1024x704.size inb_S2x1024x704_S1x1024x704_0_0_0,
      k0_pay3 (View.ld P (Rect.unit ![0, 0] S1024x704.size inb_S1024x1408_S1024x704_0_0))⟩]

omit c i arg2 harg2 arg3 harg3 arg4 harg4 arg5 harg5 x0 x1 in
/-- Each store holds the buffer read at the column its own place in the block names. -/
theorem copies_apply (P : Vec Ideal S1024x1408 .f32) : ∀ p ∈ copies P, ∀ x : p.1.shape.Idx,
    p.2 x = (fun y : S2x1024x704.Idx => (at2 (n := 1024) (k := 1408) P (y 1).val (704 * (y 0).val + (y 2).val) : EReal)) (p.1.emb x) := by
  intro p hp
  unfold copies at hp
  rcases List.mem_cons.mp hp with rfl | hp
  · intro x
    have h0 : (x 0).val < 1 := (x 0).isLt
    show shapeCast S1x1024x704 (View.ld P (Rect.unit ![0, 704] S1024x704.size _)) _ x = _
    refine (shapeCast_apply (s := S1024x704) (t := S1x1024x704) _ shapeCasts_S1024x704_S1x1024x704 x (ix2 (x 1) (x 2)) ?_).trans ?_
    · rw [Shape.rowMajor_val_three, Shape.rowMajor_val_two]
      show (x 1).val * 704 + (x 2).val = ((x 0).val * 1024 + (x 1).val) * 704 + (x 2).val
      omega
    · refine read2 (n := 1024) (k := 1408) P _ ?_ ?_
      · show 0 + 1 * (x 1).val = 0 + 1 * (x 1).val; rfl
      · show 704 + 1 * (x 2).val = 704 * (1 + 1 * (x 0).val) + (0 + 1 * (x 2).val)
        omega
  · obtain rfl := List.mem_singleton.mp hp
    intro x
    have h0 : (x 0).val < 1 := (x 0).isLt
    show shapeCast S1x1024x704 (View.ld P (Rect.unit ![0, 0] S1024x704.size _)) _ x = _
    refine (shapeCast_apply (s := S1024x704) (t := S1x1024x704) _ shapeCasts_S1024x704_S1x1024x704 x (ix2 (x 1) (x 2)) ?_).trans ?_
    · rw [Shape.rowMajor_val_three, Shape.rowMajor_val_two]
      show (x 1).val * 704 + (x 2).val = ((x 0).val * 1024 + (x 1).val) * 704 + (x 2).val
      omega
    · refine read2 (n := 1024) (k := 1408) P _ ?_ ?_
      · show 0 + 1 * (x 1).val = 0 + 1 * (x 1).val; rfl
      · show 0 + 1 * (x 2).val = 704 * (0 + 1 * (x 0).val) + (0 + 1 * (x 2).val)
        omega

theorem stores_C (hc0 : ¬cond0_0 i) (hc1 : cond0_1 i) (xs0 : Vec Ideal S1024x1408 .f32) :
    (kernelRun0_C (F := Ideal) c i arg2 harg2 arg3 harg3 arg4 harg4 arg5 harg5 hc0 hc1 x0 x1 xs0).1 = copies (k0_pay2 xs0 x0 x1) := by
  unfold kernelRun0_C copies
  dsimp only
  try sl_unfold_words
  simp only [View.readAt_eq_ld, harg2.read_unread, harg3.read_unread, harg5.read_unread, View.ld_unit_zero (S := S2048x1024) zero2,
    View.ld_unit_zero (S := S1x2048x1408) zero3, View.ld_unit_zero (S := S1024x1408) zero2]
  rw [readCov_part _ zero2, readCov_part _ zero2]

/-- … which then copies the buffer out, the first half of its columns before the second. -/
theorem staged_C (hc0 : ¬cond0_0 i) (hc1 : cond0_1 i) (xs0 : Vec Ideal S1024x1408 .f32) (y : S2x1024x704.Idx) :
    out0_C_2 (F := Ideal) c i arg2 harg2 arg3 harg3 arg4 harg4 arg5 harg5 hc0 hc1 x0 x1 xs0 y
      = at2 (n := 1024) (k := 1408) (k0_pay2 xs0 x0 x1) (y 1).val (704 * (y 0).val + (y 2).val) := by
  unfold out0_C_2
  have hcov := cover0_C_2 (F := Ideal) c i arg2 harg2 arg3 harg3 arg4 harg4 arg5 harg5 hc0 hc1 x0 x1 xs0
  rw [View.read_writes_eq_canon _ _ _ hcov, stores_C]
  rw [stores_C] at hcov
  exact View.canon_apply_of_pieces (fun y : S2x1024x704.Idx =>
    (at2 (n := 1024) (k := 1408) (k0_pay2 xs0 x0 x1) (y 1).val (704 * (y 0).val + (y 2).val) : EReal)) _ (copies_apply _) y (hcov y)

end Scratch

/-- What a point leaves in the scratch buffer, over what it held: the product added, from zero at a run's first point. -/
theorem scratch_step (c : Dev nD) (n : ℕ) (h : n < cfg0.N) (acc : Vec Ideal S1024x1408 .f32) (y : S1024x1408.Idx) :
    Value.scAt0_0 m c n h acc y = (if n % 4 = 0 then 0 else acc y) + term m c n y := by
  unfold Value.scAt0_0
  by_cases h0 : n % 4 = 0
  · have h1 : ¬ n % 4 = 3 := by omega
    rw [dif_pos h0, dif_neg h1, if_pos h0, scratch_A, step_apply m c n h]
    rw [show (k0_pay1 (F := Ideal)) y = 0 by unfold k0_pay1; simp only [shapeCast_self]; exact Ideal.ofBits_zero_f32]
  · rw [dif_neg h0, if_neg h0]
    by_cases h1 : n % 4 = 3
    · rw [dif_pos h1, scratch_C, step_apply m c n h]
    · rw [dif_neg h1, scratch_B, step_apply m c n h]

/-- After the `j`-th point of run `q` the scratch buffer holds the products of the run so far. -/
theorem scratch_run (c : Dev nD) (t : Fin cfg0.N) (y : S1024x1408.Idx) :
    (outsAt0 m c t.val t.isLt).2 y = ∑ s ∈ Finset.range (t.val % 4 + 1), term m c (4 * (t.val / 4) + s) y := by
  rw [Value.soutsAt0_0_eq]
  refine (Pipeline.accAt_add_apply (ι := S1024x1408.Idx) (β := EReal) _ (Value.scAt0_0 m c) (fun _ => (0 : EReal)) (term m c)
    (4 * (t.val / 4)) 3 (fun h y => ?_) (fun n h acc y hn hn' => ?_) (t.val % 4) (by omega) _ y).trans (zero_add _)
  · exact (scratch_step m c _ h _ y).trans (by rw [if_pos (by omega)])
  · exact (scratch_step m c n h acc y).trans (by rw [if_neg (by omega)])

/-- The call's result at an index: owner, row of the weight, column in the owner's slice. -/
theorem result (c : Dev nD) (i : S8x1024x704.Idx) :
    (Value.G2 m c : S8x1024x704.Idx → EReal) i
      = ∑ k : Fin 8192, lhs m c k.val (i 1).val * rhs m c k.val (704 * (i 0).val + (i 2).val) := by
  have h0 : (i 0).val < 8 := (i 0).isLt
  have h1 : (i 1).val < 1024 := (i 1).isLt
  have h2 : (i 2).val < 704 := (i 2).isLt
  have hN : cfg0.N = 16 := N_0
  have hrun : Value.run2Of i = (i 0).val / 2 := by
    show 1 * ((i 0).val / 2 - 0) + 1 * ((i 1).val / 1024 - 0) + 1 * ((i 2).val / 704 - 0) = _
    omega
  have hpt : Value.pt2Of i = 4 * ((i 0).val / 2) + 3 := by
    show 4 * Value.run2Of i + 3 = _
    rw [hrun]
  have hlt : Value.pt2Of i < cfg0.N := by omega
  show Value.G2 m c i = _
  unfold Value.G2
  rw [dif_pos hlt, ← Value.outsAt0_sweep m c _ hlt]
  have t0 : ¬ (⟨Value.pt2Of i, hlt⟩ : Fin cfg0.N).val % 4 = 0 := by show ¬ Value.pt2Of i % 4 = 0; omega
  have t1 : (⟨Value.pt2Of i, hlt⟩ : Fin cfg0.N).val % 4 = 3 := by show Value.pt2Of i % 4 = 3; omega
  have hC := outsAt0_C m c ⟨Value.pt2Of i, hlt⟩ t0 t1
  have hS := scratch_run m c ⟨Value.pt2Of i, hlt⟩ (ix2 ⟨(i 1).val, h1⟩ ⟨704 * ((i 0).val % 2) + (i 2).val, by omega⟩)
  rw [hC] at hS ⊢
  dsimp only at hS ⊢
  rw [scratch_C] at hS
  rw [staged_C]
  refine (read2 (n := 1024) (k := 1408) _ _ ?_ ?_).symm.trans (hS.trans ?_)
  · show (i 1).val = (i 1).val % 1024
    omega
  · show 704 * ((i 0).val % 2) + (i 2).val = 704 * ((i 0).val % 2) + (i 2).val % 704
    omega
  have r0 : Value.pt2Of i % 4 + 1 = 4 := by omega
  have r1 : Value.pt2Of i / 4 = (i 0).val / 2 := by omega
  rw [r0, r1, ← sum_blocks 4 2048 8192 rfl fun k => lhs m c k (i 1).val * rhs m c k (704 * (i 0).val + (i 2).val)]
  refine Finset.sum_congr rfl fun s hs => ?_
  have hs4 : s < 4 := Finset.mem_range.mp hs
  unfold term
  have e1 : 1408 * ((4 * ((i 0).val / 2) + s) / 4) + (704 * ((i 0).val % 2) + (i 2).val) = 704 * (i 0).val + (i 2).val := by omega
  show ∑ r : Fin 2048, lhs m c (2048 * ((4 * ((i 0).val / 2) + s) % 4) + r.val) (i 1).val
    * rhs m c (2048 * ((4 * ((i 0).val / 2) + s) % 4) + r.val) (1408 * ((4 * ((i 0).val / 2) + s) / 4) + (704 * ((i 0).val % 2) + (i 2).val)) = _
  rw [e1, show (4 * ((i 0).val / 2) + s) % 4 = s by omega]

end Cert.GwGateUpIdeal.Sum

namespace Cert.GwGateUpRefIdeal.Sum

open Cert.GwGateUpRefIdeal Cert.GwGateUpRefIdeal.Read Idealize.ShloMosaic Idealize.ShloMosaic.ValueIdx Step

/-- The two cotangents side by side, read at an index. -/
theorem sides (x1 x2 : S8192x2816.Idx → EReal) (j : S8192x5632.Idx) (r n : ℕ) (hr : (j 0).val = r) (hn : (j 1).val = n) :
    val_main_v1 (F := Ideal) x1 x2 j = if n < 2816 then at2 (n := 8192) (k := 2816) x1 r n
      else at2 (n := 8192) (k := 2816) x2 r (n - 2816) := by
  subst hr hn
  have h1 : (j 1).val < 5632 := (j 1).isLt
  rw [val_main_v1_apply]
  refine (congrFun (rfl : (val_main_v0 (F := Ideal) x1 x2) = _) j).trans ?_
  split
  · rename_i h
    refine (concatenate_pair_apply_left (s₁ := S8192x2816) (s₂ := S8192x2816) (1 : Fin S8192x5632.rank) x1 x2 _ j rfl (ix2 (j 0) ⟨(j 1).val, h⟩) fun a => ?_).trans
      (read2 (n := 8192) (k := 2816) x1 _ rfl rfl)
    match a with
    | ⟨0, _⟩ => rfl
    | ⟨1, _⟩ => rfl
  · rename_i h
    refine (concatenate_pair_apply_right (s₁ := S8192x2816) (s₂ := S8192x2816) (1 : Fin S8192x5632.rank) x1 x2 _ j rfl rfl (ix2 (j 0) ⟨(j 1).val - 2816, by omega⟩) (fun a ha => ?_)
      ?_).trans (read2 (n := 8192) (k := 2816) x2 _ rfl rfl)
    · match a with
      | ⟨0, _⟩ => rfl
      | ⟨1, _⟩ => exact absurd rfl ha
    · show (j 1).val - 2816 + 2816 = (j 1).val
      omega

/-- The reference's result at an index: the same sum. -/
theorem result (x0 : S8192x1024.Idx → EReal) (x1 x2 : S8192x2816.Idx → EReal) (i : S8x1024x704.Idx) :
    val_main_v8 (F := Ideal) x0 x1 x2 i = ∑ k : Fin 8192, at2 (n := 8192) (k := 1024) x0 k.val (i 1).val
      * (if 704 * (i 0).val + (i 2).val < 2816 then at2 (n := 8192) (k := 2816) x1 k.val (704 * (i 0).val + (i 2).val)
        else at2 (n := 8192) (k := 2816) x2 k.val (704 * (i 0).val + (i 2).val - 2816)) := by
  have h0 : (i 0).val < 8 := (i 0).isLt
  have h1 : (i 1).val < 1024 := (i 1).isLt
  have h2 : (i 2).val < 704 := (i 2).isLt
  rw [val_main_v8_apply, val_main_v7_apply, val_main_v6_apply, val_main_v5_apply]
  refine Finset.sum_congr rfl fun k _ => ?_
  rw [mul_comm]
  refine congrArg₂ (· * ·) (read2 (n := 8192) (k := 1024) x0 _ rfl ?_) (sides x1 x2 _ _ _ rfl ?_)
  · show (((i 1).val * 8 + (i 0).val) * 704 + (i 2).val) / 5632 = (i 1).val
    omega
  · show (((i 1).val * 8 + (i 0).val) * 704 + (i 2).val) % 5632 = _
    omega

end Cert.GwGateUpRefIdeal.Sum

namespace Cert.Proof

open Idealize.ShloMosaic Idealize.SL.Sem

/-- The call's result is the reference's, over the extended reals. -/
theorem algebraic_GwGateUp [Cert.GwGateUpIdeal.Facts] [Cert.GwGateUpRefIdeal.Facts] : algebraic_GwGateUpIdeal_GwGateUpRefIdeal := by
  intro m ρ m' ρ' _ hagree
  refine ⟨_, Cert.GwGateUpIdeal.Value.run (F := Ideal) m ρ, ?_⟩
  refine (θ_run Cert.GwGateUpRefIdeal.defs _ _).mono (fun _ h c => ⟨?_, (h c).2⟩)
    (Cert.GwGateUpRefIdeal.Value.run (F := Ideal) m' ρ')
  refine ((h c).1.trans (Cert.GwGateUpRefIdeal.Read.val_main_v8_eq ..)).trans ?_
  rw [(hagree c).1, (hagree c).2.1, (hagree c).2.2]
  funext i
  exact (Cert.GwGateUpRefIdeal.Sum.result _ _ _ i).trans (Cert.GwGateUpIdeal.Sum.result m c i).symm

end Cert.Proof

end
-- ==== Proof.GwInValue.lean ====
/- The value of the call `GwIn`: the gradient of a product's weight over all 8192 rows, laid out by the device that will
   own each slice of its columns.

   The call keeps a running sum in a scratch buffer over four blocks of 2048 rows, and at the last block writes the two
   halves of the buffer's columns as the slices of two owners. The reference takes one product over all rows and cuts
   its columns in eight. Over the extended reals the two are one sum. -/
module

public import proofs.«01_k».proof.Defs
public import proofs.«01_k».proof.Proof.Gen.GwInIdeal.Value
public import proofs.«01_k».proof.Proof.Gen.GwInRefIdeal.Read
public import proofs.«01_k».proof.Proof.Reading

@[expose] public section

noncomputable section

namespace Cert.GwInIdeal.Sum

open Cert.GwInIdeal Cert.GwInIdeal.Gen Idealize.ShloMosaic Idealize.ShloMosaic.TcCoe Idealize.ShloMosaic.ValueIdx Step

variable (m : (ℓ : Loc nD τ sig) → Buf (Elt Ideal) ℓ)

/-- The left factor of the product, read by row and column. -/
abbrev lhs (c : Dev nD) : ℕ → ℕ → EReal := at2 (n := 8192) (k := 1024) (m ((c.tc : Thread nD τ).loc main_arg0))
/-- The cotangent, read by row and column. -/
abbrev rhs (c : Dev nD) : ℕ → ℕ → EReal := at2 (n := 8192) (k := 3584) (m ((c.tc : Thread nD τ).loc main_arg1))

/-- The call's second operand is the cotangent under a leading axis of one. -/
theorem operand1 (c : Dev nD) : V m c main_v0 = broadcastInDim S1x8192x3584 ![1, 2] bcast_S8192x3584_S1x8192x3584_1_2
    (m ((c.tc : Thread nD τ).loc main_arg1)) := by
  unfold V hostOps0
  after_results <;> rfl

theorem index0 : ∀ t : Fin cfg0.N, win0_0.index t (0 : Fin 2) = t.val % 4 ∧ win0_0.index t (1 : Fin 2) = 0 :=
  (by decide +kernel : ∀ t : Fin grid0.N, _)
theorem index1 : ∀ t : Fin cfg0.N, win0_1.index t (0 : Fin 3) = 0 ∧ win0_1.index t (1 : Fin 3) = t.val % 4
    ∧ win0_1.index t (2 : Fin 3) = t.val / 4 :=
  (by decide +kernel : ∀ t : Fin grid0.N, _)

/-- The left factor's block at a grid point: 2048 of its rows. -/
theorem block0 (c : Dev nD) (t : Fin cfg0.N) (y : S2048x1024.Idx) :
    (iblk m c 0 t : Vec Ideal S2048x1024 .bf16) y = lhs m c (2048 * (t.val % 4) + (y 0).val) (y 1).val := by
  obtain ⟨e0, e1⟩ := index0 t
  refine (congrFun (V_main_arg0 m c) _).trans
    (read2 (n := 8192) (k := 1024) (m ((c.tc : Thread nD τ).loc main_arg0)) _ ?_ ?_)
  · show win0_0.index t 0 * 2048 + 1 * (y 0).val = _
    rw [e0]; omega
  · show win0_0.index t 1 * 1024 + 1 * (y 1).val = _
    rw [e1]; omega

/-- The cotangent's block at a grid point: the same 2048 rows, 896 of its columns. -/
theorem block1 (c : Dev nD) (t : Fin cfg0.N) (y : S1x2048x896.Idx) :
    (iblk m c 1 t : Vec Ideal S1x2048x896 .bf16) y
      = rhs m c (2048 * (t.val % 4) + (y 1).val) (896 * (t.val / 4) + (y 2).val) := by
  obtain ⟨e0, e1, e2⟩ := index1 t
  have hN : t.val < 16 := lt_of_lt_of_eq t.isLt N_0
  have h1 : (y 1).val < 2048 := (y 1).isLt
  have h2 : (y 2).val < 896 := (y 2).isLt
  refine (congrFun (operand1 m c) _).trans ?_
  refine (broadcastInDim_apply _ _ _ _ (ix2 ⟨2048 * (t.val % 4) + (y 1).val, by omega⟩
    ⟨896 * (t.val / 4) + (y 2).val, by omega⟩) fun a => ?_).trans (read2 (n := 8192) (k := 3584) _ _ rfl rfl)
  match a with
  | ⟨0, _⟩ =>
    show 2048 * (t.val % 4) + (y 1).val = win0_1.index t 1 * 2048 + 1 * (y 1).val
    rw [e1]; omega
  | ⟨1, _⟩ =>
    show 896 * (t.val / 4) + (y 2).val = win0_1.index t 2 * 896 + 1 * (y 2).val
    rw [e2]; omega

/-- What one grid point adds at `y` of the scratch buffer. -/
def term (c : Dev nD) (n : ℕ) (y : S1024x896.Idx) : EReal :=
  ∑ r : Fin 2048, lhs m c (2048 * (n % 4) + r.val) (y 0).val
    * rhs m c (2048 * (n % 4) + r.val) (896 * (n / 4) + (y 1).val)

/-- One block's product, added into what the buffer held. -/
theorem payload (v3 : Vec Ideal S1024x896 .f32) (v4 : Vec Ideal S2048x1024 .bf16) (v5 : Vec Ideal S1x2048x896 .bf16)
    (y : S1024x896.Idx) :
    k0_pay2 v3 v4 v5 y = v3 y + ∑ r : Fin 2048, at2 (n := 2048) (k := 1024) v4 r.val (y 0).val
      * at3 (n := 1) (k := 2048) (l := 896) v5 0 r.val (y 1).val := by
  have h1 : (y 1).val < 896 := (y 1).isLt
  unfold k0_pay2
  simp only [shapeCast_self]
  rw [addf_apply]
  refine congrArg (v3 y + ·) ?_
  refine (matmul_tn (K := 2048) (M := 1024) (N := 896) _ none v4 _ y).trans (Finset.sum_congr rfl fun r _ => ?_)
  refine congrArg (at2 (n := 2048) (k := 1024) v4 r.val (y 0).val * ·) ?_
  unfold at2
  rw [dif_pos ⟨r.isLt, h1⟩, shapeCast_apply _ _ _ (ix3 (0 : Fin 1) r ⟨(y 1).val, h1⟩)
    (by rw [Shape.rowMajor_val_three, Shape.rowMajor_val_two]
        show (0 * 2048 + r.val) * 896 + (y 1).val = r.val * 896 + (y 1).val
        omega)]
  exact read3 v5 _ rfl rfl rfl

theorem step_apply (c : Dev nD) (n : ℕ) (h : n < cfg0.N) (acc : Vec Ideal S1024x896 .f32) (y : S1024x896.Idx) :
    k0_pay2 acc (iblk m c 0 ⟨n, h⟩) (iblk m c 1 ⟨n, h⟩) y = acc y + term m c n y := by
  rw [payload]
  refine congrArg (acc y + ·) (Finset.sum_congr rfl fun r _ => ?_)
  have h0 : (y 0).val < 1024 := (y 0).isLt
  have h1 : (y 1).val < 896 := (y 1).isLt
  refine congrArg₂ (· * ·) ?_ ?_
  · unfold at2
    rw [dif_pos ⟨r.isLt, h0⟩]
    exact block0 m c ⟨n, h⟩ _
  · unfold at3
    rw [dif_pos ⟨Nat.one_pos, r.isLt, h1⟩]
    exact block1 m c ⟨n, h⟩ _

theorem zero2 : (![0, 0] : Fin 2 → ℕ) = fun _ => 0 := by decide
theorem zero3 : (![0, 0, 0] : Fin 3 → ℕ) = fun _ => 0 := by decide

section Scratch
variable (c : Dev nD) (i : grid0.Coords) (arg2 : Memref sig .tc .vmem S2048x1024 .bf16) (harg2 : arg2.IsWhole)
  (arg3 : Memref sig .tc .vmem S1x2048x896 .bf16) (harg3 : arg3.IsWhole) (arg4 : Memref sig .tc .vmem S2x1024x448 .f32) (harg4 : arg4.IsWhole)
  (arg5 : Memref sig .tc .vmem S1024x896 .f32) (harg5 : arg5.IsWhole) (x0 : Vec Ideal S2048x1024 .bf16) (x1 : Vec Ideal S1x2048x896 .bf16)

/-- The first of a run of four points leaves its own product in the scratch buffer. -/
theorem scratch_A (hc0 : cond0_0 i) (hc1 : ¬cond0_1 i) :
    sout0_A_0 (F := Ideal) c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S1024x896) zero2, View.readCov_unit_zero (S := S1024x896) _ zero2]
  simp only [View.readAt_eq_ld, harg2.read_unread, harg3.read_unread, View.ld_unit_zero (S := S2048x1024) zero2,
    View.ld_unit_zero (S := S1x2048x896) zero3, View.ld_unit_zero (S := S1024x896) zero2]

/-- A point in the middle of a run adds its product to what the scratch buffer held. -/
theorem scratch_B (hc0 : ¬cond0_0 i) (hc1 : ¬cond0_1 i) (xs0 : Vec Ideal S1024x896 .f32) :
    sout0_B_0 (F := Ideal) c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg5.read_unread, View.ld_unit_zero (S := S2048x1024) zero2,
    View.ld_unit_zero (S := S1x2048x896) zero3, View.ld_unit_zero (S := S1024x896) zero2]

/-- So does the last point of a run, … -/
theorem scratch_C (hc0 : ¬cond0_0 i) (hc1 : cond0_1 i) (xs0 : Vec Ideal S1024x896 .f32) :
    sout0_C_0 (F := Ideal) c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  try sl_unfold_words
  rw [View.canon_unit_zero zero2]
  simp only [View.readAt_eq_ld, harg2.read_unread, harg3.read_unread, harg5.read_unread, View.ld_unit_zero (S := S2048x1024) zero2,
    View.ld_unit_zero (S := S1x2048x896) zero3, View.ld_unit_zero (S := S1024x896) zero2]

/-- The two stores of a run's last point, over the buffer they copy out. -/
def copies (P : Vec Ideal S1024x896 .f32) : List (View.Piece (Elt Ideal) S2x1024x448 .f32) :=
  [⟨Rect.unit ![1, 0, 0] S1x1024x448.size inb_S2x1024x448_S1x1024x448_1_0_0,
      k0_pay4 (View.ld P (Rect.unit ![0, 448] S1024x448.size inb_S1024x896_S1024x448_0_448))⟩,
    ⟨Rect.unit ![0, 0, 0] S1x1024x448.size inb_S2x1024x448_S1x1024x448_0_0_0,
      k0_pay3 (View.ld P (Rect.unit ![0, 0] S1024x448.size inb_S1024x896_S1024x448_0_0))⟩]

omit c i arg2 harg2 arg3 harg3 arg4 harg4 arg5 harg5 x0 x1 in
/-- Each store holds the buffer read at the column its own place in the block names. -/
theorem copies_apply (P : Vec Ideal S1024x896 .f32) : ∀ p ∈ copies P, ∀ x : p.1.shape.Idx,
    p.2 x = (fun y : S2x1024x448.Idx => (at2 (n := 1024) (k := 896) P (y 1).val (448 * (y 0).val + (y 2).val) : EReal)) (p.1.emb x) := by
  intro p hp
  unfold copies at hp
  rcases List.mem_cons.mp hp with rfl | hp
  · intro x
    have h0 : (x 0).val < 1 := (x 0).isLt
    show shapeCast S1x1024x448 (View.ld P (Rect.unit ![0, 448] S1024x448.size _)) _ x = _
    refine (shapeCast_apply (s := S1024x448) (t := S1x1024x448) _ shapeCasts_S1024x448_S1x1024x448 x (ix2 (x 1) (x 2)) ?_).trans ?_
    · rw [Shape.rowMajor_val_three, Shape.rowMajor_val_two]
      show (x 1).val * 448 + (x 2).val = ((x 0).val * 1024 + (x 1).val) * 448 + (x 2).val
      omega
    · refine read2 (n := 1024) (k := 896) P _ ?_ ?_
      · show 0 + 1 * (x 1).val = 0 + 1 * (x 1).val; rfl
      · show 448 + 1 * (x 2).val = 448 * (1 + 1 * (x 0).val) + (0 + 1 * (x 2).val)
        omega
  · obtain rfl := List.mem_singleton.mp hp
    intro x
    have h0 : (x 0).val < 1 := (x 0).isLt
    show shapeCast S1x1024x448 (View.ld P (Rect.unit ![0, 0] S1024x448.size _)) _ x = _
    refine (shapeCast_apply (s := S1024x448) (t := S1x1024x448) _ shapeCasts_S1024x448_S1x1024x448 x (ix2 (x 1) (x 2)) ?_).trans ?_
    · rw [Shape.rowMajor_val_three, Shape.rowMajor_val_two]
      show (x 1).val * 448 + (x 2).val = ((x 0).val * 1024 + (x 1).val) * 448 + (x 2).val
      omega
    · refine read2 (n := 1024) (k := 896) P _ ?_ ?_
      · show 0 + 1 * (x 1).val = 0 + 1 * (x 1).val; rfl
      · show 0 + 1 * (x 2).val = 448 * (0 + 1 * (x 0).val) + (0 + 1 * (x 2).val)
        omega

theorem stores_C (hc0 : ¬cond0_0 i) (hc1 : cond0_1 i) (xs0 : Vec Ideal S1024x896 .f32) :
    (kernelRun0_C (F := Ideal) c i arg2 harg2 arg3 harg3 arg4 harg4 arg5 harg5 hc0 hc1 x0 x1 xs0).1 = copies (k0_pay2 xs0 x0 x1) := by
  unfold kernelRun0_C copies
  dsimp only
  try sl_unfold_words
  simp only [View.readAt_eq_ld, harg2.read_unread, harg3.read_unread, harg5.read_unread, View.ld_unit_zero (S := S2048x1024) zero2,
    View.ld_unit_zero (S := S1x2048x896) zero3, View.ld_unit_zero (S := S1024x896) zero2]
  rw [readCov_part _ zero2, readCov_part _ zero2]

/-- … which then copies the buffer out, the first half of its columns before the second. -/
theorem staged_C (hc0 : ¬cond0_0 i) (hc1 : cond0_1 i) (xs0 : Vec Ideal S1024x896 .f32) (y : S2x1024x448.Idx) :
    out0_C_2 (F := Ideal) c i arg2 harg2 arg3 harg3 arg4 harg4 arg5 harg5 hc0 hc1 x0 x1 xs0 y
      = at2 (n := 1024) (k := 896) (k0_pay2 xs0 x0 x1) (y 1).val (448 * (y 0).val + (y 2).val) := by
  unfold out0_C_2
  have hcov := cover0_C_2 (F := Ideal) c i arg2 harg2 arg3 harg3 arg4 harg4 arg5 harg5 hc0 hc1 x0 x1 xs0
  rw [View.read_writes_eq_canon _ _ _ hcov, stores_C]
  rw [stores_C] at hcov
  exact View.canon_apply_of_pieces (fun y : S2x1024x448.Idx =>
    (at2 (n := 1024) (k := 896) (k0_pay2 xs0 x0 x1) (y 1).val (448 * (y 0).val + (y 2).val) : EReal)) _ (copies_apply _) y (hcov y)

end Scratch

/-- What a point leaves in the scratch buffer, over what it held: the product added, from zero at a run's first point. -/
theorem scratch_step (c : Dev nD) (n : ℕ) (h : n < cfg0.N) (acc : Vec Ideal S1024x896 .f32) (y : S1024x896.Idx) :
    Value.scAt0_0 m c n h acc y = (if n % 4 = 0 then 0 else acc y) + term m c n y := by
  unfold Value.scAt0_0
  by_cases h0 : n % 4 = 0
  · have h1 : ¬ n % 4 = 3 := by omega
    rw [dif_pos h0, dif_neg h1, if_pos h0, scratch_A, step_apply m c n h]
    rw [show (k0_pay1 (F := Ideal)) y = 0 by unfold k0_pay1; simp only [shapeCast_self]; exact Ideal.ofBits_zero_f32]
  · rw [dif_neg h0, if_neg h0]
    by_cases h1 : n % 4 = 3
    · rw [dif_pos h1, scratch_C, step_apply m c n h]
    · rw [dif_neg h1, scratch_B, step_apply m c n h]

/-- After the `j`-th point of run `q` the scratch buffer holds the products of the run so far. -/
theorem scratch_run (c : Dev nD) (t : Fin cfg0.N) (y : S1024x896.Idx) :
    (outsAt0 m c t.val t.isLt).2 y = ∑ s ∈ Finset.range (t.val % 4 + 1), term m c (4 * (t.val / 4) + s) y := by
  rw [Value.soutsAt0_0_eq]
  refine (Pipeline.accAt_add_apply (ι := S1024x896.Idx) (β := EReal) _ (Value.scAt0_0 m c) (fun _ => (0 : EReal)) (term m c)
    (4 * (t.val / 4)) 3 (fun h y => ?_) (fun n h acc y hn hn' => ?_) (t.val % 4) (by omega) _ y).trans (zero_add _)
  · exact (scratch_step m c _ h _ y).trans (by rw [if_pos (by omega)])
  · exact (scratch_step m c n h acc y).trans (by rw [if_neg (by omega)])

/-- The call's result at an index: owner, row of the weight, column in the owner's slice. -/
theorem result (c : Dev nD) (i : S8x1024x448.Idx) :
    (Value.G2 m c : S8x1024x448.Idx → EReal) i
      = ∑ k : Fin 8192, lhs m c k.val (i 1).val * rhs m c k.val (448 * (i 0).val + (i 2).val) := by
  have h0 : (i 0).val < 8 := (i 0).isLt
  have h1 : (i 1).val < 1024 := (i 1).isLt
  have h2 : (i 2).val < 448 := (i 2).isLt
  have hN : cfg0.N = 16 := N_0
  have hrun : Value.run2Of i = (i 0).val / 2 := by
    show 1 * ((i 0).val / 2 - 0) + 1 * ((i 1).val / 1024 - 0) + 1 * ((i 2).val / 448 - 0) = _
    omega
  have hpt : Value.pt2Of i = 4 * ((i 0).val / 2) + 3 := by
    show 4 * Value.run2Of i + 3 = _
    rw [hrun]
  have hlt : Value.pt2Of i < cfg0.N := by omega
  show Value.G2 m c i = _
  unfold Value.G2
  rw [dif_pos hlt, ← Value.outsAt0_sweep m c _ hlt]
  have t0 : ¬ (⟨Value.pt2Of i, hlt⟩ : Fin cfg0.N).val % 4 = 0 := by show ¬ Value.pt2Of i % 4 = 0; omega
  have t1 : (⟨Value.pt2Of i, hlt⟩ : Fin cfg0.N).val % 4 = 3 := by show Value.pt2Of i % 4 = 3; omega
  have hC := outsAt0_C m c ⟨Value.pt2Of i, hlt⟩ t0 t1
  have hS := scratch_run m c ⟨Value.pt2Of i, hlt⟩ (ix2 ⟨(i 1).val, h1⟩ ⟨448 * ((i 0).val % 2) + (i 2).val, by omega⟩)
  rw [hC] at hS ⊢
  dsimp only at hS ⊢
  rw [scratch_C] at hS
  rw [staged_C]
  refine (read2 (n := 1024) (k := 896) _ _ ?_ ?_).symm.trans (hS.trans ?_)
  · show (i 1).val = (i 1).val % 1024
    omega
  · show 448 * ((i 0).val % 2) + (i 2).val = 448 * ((i 0).val % 2) + (i 2).val % 448
    omega
  have r0 : Value.pt2Of i % 4 + 1 = 4 := by omega
  have r1 : Value.pt2Of i / 4 = (i 0).val / 2 := by omega
  rw [r0, r1, ← sum_blocks 4 2048 8192 rfl fun k => lhs m c k (i 1).val * rhs m c k (448 * (i 0).val + (i 2).val)]
  refine Finset.sum_congr rfl fun s hs => ?_
  have hs4 : s < 4 := Finset.mem_range.mp hs
  unfold term
  have e1 : 896 * ((4 * ((i 0).val / 2) + s) / 4) + (448 * ((i 0).val % 2) + (i 2).val) = 448 * (i 0).val + (i 2).val := by omega
  show ∑ r : Fin 2048, lhs m c (2048 * ((4 * ((i 0).val / 2) + s) % 4) + r.val) (i 1).val
    * rhs m c (2048 * ((4 * ((i 0).val / 2) + s) % 4) + r.val) (896 * ((4 * ((i 0).val / 2) + s) / 4) + (448 * ((i 0).val % 2) + (i 2).val)) = _
  rw [e1, show (4 * ((i 0).val / 2) + s) % 4 = s by omega]

end Cert.GwInIdeal.Sum

namespace Cert.GwInRefIdeal.Sum

open Cert.GwInRefIdeal Cert.GwInRefIdeal.Read Idealize.ShloMosaic Step

/-- The reference's result at an index: the same sum. -/
theorem result (x0 : S8192x1024.Idx → EReal) (x1 : S8192x3584.Idx → EReal) (i : S8x1024x448.Idx) :
    val_main_v7 (F := Ideal) x0 x1 i = ∑ k : Fin 8192, at2 (n := 8192) (k := 1024) x0 k.val (i 1).val
      * at2 (n := 8192) (k := 3584) x1 k.val (448 * (i 0).val + (i 2).val) := by
  have h0 : (i 0).val < 8 := (i 0).isLt
  have h1 : (i 1).val < 1024 := (i 1).isLt
  have h2 : (i 2).val < 448 := (i 2).isLt
  rw [val_main_v7_apply, val_main_v6_apply, val_main_v5_apply, val_main_v4_apply]
  refine Finset.sum_congr rfl fun k _ => ?_
  rw [mul_comm]
  refine congrArg₂ (· * ·) (read2 (n := 8192) (k := 1024) x0 _ rfl ?_) (read2 (n := 8192) (k := 3584) x1 _ rfl ?_)
  · show (((i 1).val * 8 + (i 0).val) * 448 + (i 2).val) / 3584 = (i 1).val
    omega
  · show (((i 1).val * 8 + (i 0).val) * 448 + (i 2).val) % 3584 = _
    omega

end Cert.GwInRefIdeal.Sum

namespace Cert.Proof

open Idealize.ShloMosaic Idealize.SL.Sem

/-- The call's result is the reference's, over the extended reals. -/
theorem algebraic_GwIn [Cert.GwInIdeal.Facts] [Cert.GwInRefIdeal.Facts] : algebraic_GwInIdeal_GwInRefIdeal := by
  intro m ρ m' ρ' _ hagree
  refine ⟨_, Cert.GwInIdeal.Value.run (F := Ideal) m ρ, ?_⟩
  refine (θ_run Cert.GwInRefIdeal.defs _ _).mono (fun _ h c => ⟨?_, (h c).2⟩)
    (Cert.GwInRefIdeal.Value.run (F := Ideal) m' ρ')
  refine ((h c).1.trans (Cert.GwInRefIdeal.Read.val_main_v7_eq ..)).trans ?_
  rw [(hagree c).1, (hagree c).2]
  funext i
  exact (Cert.GwInRefIdeal.Sum.result _ _ i).trans (Cert.GwInIdeal.Sum.result m c i).symm

end Cert.Proof

end
-- ==== Proof.DactValue.lean ====
/- The value of the call `Dact`: the gradient of the gated product `silu(gate) · up`, taken back through the down
   projection to the two halves.

   The call is given `silu(gate)` and the derivative `up · silu'(gate)`, both formed from `gate` and `up` before it, and
   multiplies each by the cotangent of the product, block of 256 rows by block. The reference differentiates the product
   itself, with the cotangent inside the two terms of `silu'`. Over finite values they are one. -/
module

public import proofs.«01_k».proof.Defs
public import proofs.«01_k».proof.Proof.Gen.DactIdeal.Value
public import proofs.«01_k».proof.Proof.Gen.DactRefIdeal.Run
public import proofs.«01_k».proof.Proof.Gen.DactRefIdeal.Read
public import proofs.«01_k».proof.Proof.Gen.Pre_dact_finite
public import Idealize.ShloMosaic.Lib.Pipeline.ValueKit.Geometry
public import proofs.«01_k».proof.Proof.Reading
public import proofs.«01_k».proof.Proof.Finite

@[expose] public section

noncomputable section

namespace Step.Gated

open Idealize.ShloMosaic Idealize.ShloMosaic.ValueIdx Step

/-- The cotangent of the gated product at a row and a column: a row of `dh2` against a row of the weight. -/
def dprod (dh : (⟨2, ![8192, 1024]⟩ : Shape).Idx → EReal) (w : (⟨2, ![2816, 1024]⟩ : Shape).Idx → EReal) (r j : ℕ) : EReal :=
  ∑ k : Fin 1024, at2 dh r k.val * at2 w j k.val

/-- `silu(gate)`. -/
def silu (g : EReal) : EReal := g * sigmoid g
/-- `up · silu'(gate)`, as it is formed before the call. -/
def upDsilu (g u : EReal) : EReal := u * sigmoid g + g * u * (sigmoid g * (1 - sigmoid g))

/-- Distributing the cotangent over the two terms of `silu'`. -/
theorem dgate_eq {d g u : EReal} (hd : IsReal d) (hg : IsReal g) (hu : IsReal u) :
    d * u * sigmoid g + g * (d * u) * (sigmoid g * (1 - sigmoid g)) = d * upDsilu g u := by
  unfold upDsilu
  obtain ⟨s, hs⟩ := isReal_sigmoid hg
  obtain ⟨d, rfl⟩ := hd
  obtain ⟨g, rfl⟩ := hg
  obtain ⟨u, rfl⟩ := hu
  rw [hs, ← EReal.coe_one]
  simp only [← EReal.coe_mul, ← EReal.coe_sub, ← EReal.coe_add]
  exact congrArg _ (by ring)

end Step.Gated

namespace Cert.DactIdeal.Sum

open Cert.DactIdeal Cert.DactIdeal.Gen Idealize.ShloMosaic Idealize.ShloMosaic.TcCoe Idealize.ShloMosaic.ValueIdx Step Step.Gated

variable (m : (ℓ : Loc nD τ sig) → Buf (Elt Ideal) ℓ)

/-- The cotangent of the second residual, the down projection's weight, and the two halves. -/
abbrev dh (c : Dev nD) : S8192x1024.Idx → EReal := m ((c.tc : Thread nD τ).loc main_arg0)
abbrev wd (c : Dev nD) : S2816x1024.Idx → EReal := m ((c.tc : Thread nD τ).loc main_arg1)
abbrev gate (c : Dev nD) : S8192x2816.Idx → EReal := m ((c.tc : Thread nD τ).loc main_arg2)
abbrev up (c : Dev nD) : S8192x2816.Idx → EReal := m ((c.tc : Thread nD τ).loc main_arg3)

/-- The call's third operand is `silu(gate)`. -/
theorem operand2 (c : Dev nD) : V m c main_v10 = fun x : S8192x2816.Idx => (silu (gate m c x) : EReal) := by
  refine Eq.trans (b := mulf (gate m c) (Host.divf (F := Ideal) (φ := .f32) (broadcastInDim S8192x2816 ![] bcast_S_S8192x2816 (constant S_ .f32 0x3F800000#32))
    (addf (broadcastInDim S8192x2816 ![] bcast_S_S8192x2816 (constant S_ .f32 0x3F800000#32)) (Host.exp (Host.negf (F := Ideal) (φ := .f32) (gate m c)))))) ?_ ?_
  · unfold V hostOps0
    after_results <;> rfl
  · funext x
    show gate m c x * Ideal.div (Ideal.ofBits .f32 0x3F800000#32) (Ideal.ofBits .f32 0x3F800000#32 + Ideal.exp (-gate m c x)) = _
    rw [Ideal.ofBits_one_f32]
    rfl

/-- The call's fourth operand is `up · silu'(gate)`. -/
theorem operand3 (c : Dev nD) : V m c main_v15 = fun x : S8192x2816.Idx => (upDsilu (gate m c x) (up m c x) : EReal) := by
  let one : FVec Ideal S8192x2816 .f32 := broadcastInDim S8192x2816 ![] bcast_S_S8192x2816 (constant S_ .f32 0x3F800000#32)
  let s : FVec Ideal S8192x2816 .f32 := Host.divf (F := Ideal) (φ := .f32) one (addf one (Host.exp (Host.negf (F := Ideal) (φ := .f32) (gate m c))))
  refine Eq.trans (b := addf (F := Ideal) (φ := .f32) (mulf (up m c) s) (mulf (mulf (gate m c) (up m c)) (mulf s (subf one s)))) ?_ ?_
  · unfold V hostOps0
    after_results <;> rfl
  · funext x
    have hs : s x = sigmoid (gate m c x) := by
      show Ideal.div (Ideal.ofBits .f32 0x3F800000#32) (Ideal.ofBits .f32 0x3F800000#32 + Ideal.exp (-gate m c x)) = _
      rw [Ideal.ofBits_one_f32]
      rfl
    show up m c x * s x + gate m c x * up m c x * (s x * (Ideal.ofBits .f32 0x3F800000#32 - s x)) = _
    rw [hs, Ideal.ofBits_one_f32]
    rfl

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 3) = 0 ∧ win0_4.index t (1 : Fin 3) = t.val ∧ win0_4.index t (2 : Fin 3) = 0 :=
  (by decide +kernel : ∀ t : Fin grid0.N, _)

/-- The blocks of a grid point: 256 rows of each operand but the weight, which comes whole. -/
theorem block0 (c : Dev nD) (t : Fin cfg0.N) (y : S256x1024.Idx) :
    (iblk m c 0 t : Vec Ideal S256x1024 .f32) y = at2 (n := 8192) (k := 1024) (dh m c) (256 * t.val + (y 0).val) (y 1).val := by
  obtain ⟨e0, e1⟩ := index0 t
  refine (congrFun (V_main_arg0 m c) _).trans (read2 (n := 8192) (k := 1024) (dh m c) _ ?_ ?_)
  · show win0_0.index t 0 * 256 + 1 * (y 0).val = _
    rw [e0]; omega
  · show win0_0.index t 1 * 1024 + 1 * (y 1).val = _
    rw [e1]; omega

theorem block1 (c : Dev nD) (t : Fin cfg0.N) (y : S2816x1024.Idx) :
    (iblk m c 1 t : Vec Ideal S2816x1024 .bf16) y = at2 (n := 2816) (k := 1024) (wd m c) (y 0).val (y 1).val := by
  obtain ⟨e0, e1⟩ := index1 t
  refine (congrFun (V_main_arg1 m c) _).trans (read2 (n := 2816) (k := 1024) (wd m c) _ ?_ ?_)
  · show win0_1.index t 0 * 2816 + 1 * (y 0).val = _
    rw [e0]; omega
  · show win0_1.index t 1 * 1024 + 1 * (y 1).val = _
    rw [e1]; omega

theorem block2 (c : Dev nD) (t : Fin cfg0.N) (y : S256x2816.Idx) :
    (iblk m c 2 t : Vec Ideal S256x2816 .bf16) y
      = silu (at2 (n := 8192) (k := 2816) (gate m c) (256 * t.val + (y 0).val) (y 1).val) := by
  obtain ⟨e0, e1⟩ := index2 t
  refine (congrFun (operand2 m c) _).trans (congrArg silu (read2 (n := 8192) (k := 2816) (gate m c) _ ?_ ?_))
  · show win0_2.index t 0 * 256 + 1 * (y 0).val = _
    rw [e0]; omega
  · show win0_2.index t 1 * 2816 + 1 * (y 1).val = _
    rw [e1]; omega

theorem block3 (c : Dev nD) (t : Fin cfg0.N) (y : S256x2816.Idx) :
    (iblk m c 3 t : Vec Ideal S256x2816 .bf16) y
      = upDsilu (at2 (n := 8192) (k := 2816) (gate m c) (256 * t.val + (y 0).val) (y 1).val)
        (at2 (n := 8192) (k := 2816) (up m c) (256 * t.val + (y 0).val) (y 1).val) := by
  obtain ⟨e0, e1⟩ := index3 t
  have r0 : win0_3.index t (0 : Fin 2) * 256 + 1 * (y 0).val = 256 * t.val + (y 0).val := by omega
  have r1 : win0_3.index t (1 : Fin 2) * 2816 + 1 * (y 1).val = (y 1).val := by omega
  exact (congrFun (operand3 m c) _).trans (congrArg₂ upDsilu (read2 (n := 8192) (k := 2816) (gate m c) _ r0 r1)
    (read2 (n := 8192) (k := 2816) (up m c) _ r0 r1))

/-- The product of a point's rows with the weight's, read at an index. -/
theorem product (c : Dev nD) (t : Fin cfg0.N) (y : S256x2816.Idx) :
    k0_pay1 (F := Ideal) (iblk m c 0 t) (iblk m c 1 t) y = dprod (dh m c) (wd m c) (256 * t.val + (y 0).val) (y 1).val := by
  have h0 : (y 0).val < 256 := (y 0).isLt
  have h1 : (y 1).val < 2816 := (y 1).isLt
  unfold k0_pay1 dprod
  refine (matmul_nt (M := 256) (K := 1024) (N := 2816) _ none _ _ y).trans (Finset.sum_congr rfl fun k _ => ?_)
  refine congrArg₂ (· * ·) ?_ ?_
  · conv_lhs => unfold at2
    rw [dif_pos ⟨h0, k.isLt⟩]
    exact block0 m c t _
  · conv_lhs => unfold at2
    rw [dif_pos ⟨h1, k.isLt⟩]
    exact block1 m c t _

/-- The call's result: the cotangent of the product times `up · silu'(gate)`, then times `silu(gate)`. -/
def G (c : Dev nD) (h r j : ℕ) : EReal :=
  dprod (dh m c) (wd m c) r j * if h = 0
    then upDsilu (at2 (n := 8192) (k := 2816) (gate m c) r j) (at2 (n := 8192) (k := 2816) (up m c) r j)
    else silu (at2 (n := 8192) (k := 2816) (gate m c) r j)

theorem zero2 : (![0, 0] : Fin 2 → ℕ) = fun _ => 0 := by decide

/-- What one point writes back, read at an index of its block. -/
theorem staged (c : Dev nD) (t : Fin cfg0.N) (y : S2x256x2816.Idx) :
    out0_4 (F := Ideal) (iblk m c 0 t) (iblk m c 1 t) (iblk m c 2 t) (iblk m c 3 t) y
      = G m c (y 0).val (256 * t.val + (y 1).val) (y 2).val := by
  unfold out0_4
  rw [View.ld_unit_zero (S := S256x1024) zero2, View.ld_unit_zero (S := S2816x1024) zero2]
  simp only [View.ld_unit_zero (S := S256x2816) zero2]
  refine View.canon_apply_of_pieces (Val := Elt Ideal) (e := .bf16) (fun y : S2x256x2816.Idx => (G m c (y 0).val (256 * t.val + (y 1).val) (y 2).val : EReal))
    _ (fun p hp => ?_) y (cover0_4 _ _ y)
  simp only [List.mem_cons, List.not_mem_nil, or_false] at hp
  rcases hp with rfl | rfl <;> intro x
  · have h1 : (x 1).val < 256 := (x 1).isLt
    have h2 : (x 2).val < 2816 := (x 2).isLt
    show k0_pay3 (F := Ideal) _ _ _ x = G m c (0 + 1 * (x 0).val) (256 * t.val + (0 + 1 * (x 1).val)) (0 + 1 * (x 2).val)
    have h0 : (x 0).val < 1 := (x 0).isLt
    unfold k0_pay3
    simp only [shapeCast_self]
    show shapeCast _ _ _ x = _
    rw [shapeCast_apply _ _ _ (ix2 ⟨(x 1).val, h1⟩ ⟨(x 2).val, h2⟩) (by
      rw [Shape.rowMajor_val_two, Shape.rowMajor_val_three]
      show (x 1).val * 2816 + (x 2).val = ((x 0).val * 256 + (x 1).val) * 2816 + (x 2).val
      omega)]
    show k0_pay1 (F := Ideal) _ _ _ * (iblk m c 3 t : Vec Ideal S256x2816 .bf16) _ = _
    rw [product, block3]
    unfold G
    rw [if_pos (by omega)]
    simp only [Nat.zero_add, Nat.one_mul]
  · have h1 : (x 1).val < 256 := (x 1).isLt
    have h2 : (x 2).val < 2816 := (x 2).isLt
    have h0 : (x 0).val < 1 := (x 0).isLt
    show k0_pay2 (F := Ideal) _ _ _ x = G m c (1 + 1 * (x 0).val) (256 * t.val + (0 + 1 * (x 1).val)) (0 + 1 * (x 2).val)
    unfold k0_pay2
    simp only [shapeCast_self]
    show shapeCast _ _ _ x = _
    rw [shapeCast_apply _ _ _ (ix2 ⟨(x 1).val, h1⟩ ⟨(x 2).val, h2⟩) (by
      rw [Shape.rowMajor_val_two, Shape.rowMajor_val_three]
      show (x 1).val * 2816 + (x 2).val = ((x 0).val * 256 + (x 1).val) * 2816 + (x 2).val
      omega)]
    show k0_pay1 (F := Ideal) _ _ _ * (iblk m c 2 t : Vec Ideal S256x2816 .bf16) _ = _
    rw [product, block2]
    unfold G
    rw [if_neg (by omega)]
    simp only [Nat.zero_add, Nat.one_mul]

/-- The call's result as one array. -/
def result (c : Dev nD) : S2x8192x2816.Idx → EReal := fun i => G m c (i 0).val (i 1).val (i 2).val

/-- After the run the result's array is `result`. -/
theorem final (c : Dev nD) : (dats m 0 c).arrAt 4 cfg0.N = result m c := by
  refine (dats m 0 c).arrAt_eq_of_cover 4 (result m c) (fun t _ => ?_)
    ((by decide +kernel : (cfg0.win 4).Covers).cover _ (Memref.isWhole_whole _))
  rw [Value.flushed4]
  obtain ⟨e0, e1, e2⟩ := index4 t
  funext y
  refine (staged m c t y).trans ?_
  show _ = G m c (win0_4.index t (0 : Fin 3) * 2 + 1 * (y 0).val) (win0_4.index t (1 : Fin 3) * 256 + 1 * (y 1).val)
    (win0_4.index t (2 : Fin 3) * 2816 + 1 * (y 2).val)
  rw [e0, e1, e2]
  refine congrArg₂ (fun a b => a b) (congrArg₂ (G m c) ?_ ?_) ?_ <;> omega

end Cert.DactIdeal.Sum

namespace Cert.DactRefIdeal.Sum

open Cert.DactRefIdeal Cert.DactRefIdeal.Read Idealize.ShloMosaic Idealize.ShloMosaic.ValueIdx Step Step.Gated

/-- The reference's logistic function, as it is written out. -/
theorem logistic (x2 : S8192x2816.Idx → EReal) (i : S8192x2816.Idx) : val_main_v5 (F := Ideal) x2 i = sigmoid (x2 i) := by
  rw [val_main_v5_apply, val_main_v4_apply, val_main_v3_apply, val_main_v2_apply, val_main_v1_apply, val_main_v0_apply,
    val_main_cst_apply, val_main_cst_0_apply]
  show Ideal.div (Ideal.ofBits .f32 0x3F800000#32) (Ideal.ofBits .f32 0x3F800000#32 + Ideal.exp (-(x2 i))) = _
  rw [Ideal.ofBits_one_f32]
  rfl

/-- The reference's cotangent of the gated product. -/
theorem product (x0 : S8192x1024.Idx → EReal) (x1 : S2816x1024.Idx → EReal) (i : S8192x2816.Idx) :
    val_main_v13 (F := Ideal) x0 x1 i = dprod x0 x1 (i 0).val (i 1).val := by
  rw [val_main_v13_apply]
  exact Finset.sum_congr rfl fun k _ => congrArg₂ (· * ·) (read2 x0 _ rfl rfl) (read2 x1 _ rfl rfl)

/-- The reference's two halves, at an index. -/
theorem dgate (x0 : S8192x1024.Idx → EReal) (x1 : S2816x1024.Idx → EReal) (x2 x3 : S8192x2816.Idx → EReal) (i : S8192x2816.Idx) :
    val_main_v19 (F := Ideal) x0 x1 x2 x3 i
      = dprod x0 x1 (i 0).val (i 1).val * x3 i * sigmoid (x2 i)
        + x2 i * (dprod x0 x1 (i 0).val (i 1).val * x3 i) * (sigmoid (x2 i) * (1 - sigmoid (x2 i))) := by
  rw [val_main_v19_apply, val_main_v18_apply, val_main_v17_apply, val_main_v16_apply, val_main_v15_apply, val_main_v8_apply,
    val_main_v7_apply, val_main_v6_apply, val_main_cst_1_apply, product, logistic]
  show _ + _ * (_ * (Ideal.ofBits .f32 0x3F800000#32 - _)) = _
  rw [Ideal.ofBits_one_f32]
  rfl

theorem dup (x0 : S8192x1024.Idx → EReal) (x1 : S2816x1024.Idx → EReal) (x2 : S8192x2816.Idx → EReal) (i : S8192x2816.Idx) :
    val_main_v14 (F := Ideal) x0 x1 x2 i = silu (x2 i) * dprod x0 x1 (i 0).val (i 1).val := by
  rw [val_main_v14_apply, val_main_v9_apply, product, logistic]
  rfl

/-- The reference's result where its operands are finite. -/
theorem result (x0 : S8192x1024.Idx → EReal) (x1 : S2816x1024.Idx → EReal) (x2 x3 : S8192x2816.Idx → EReal)
    (f0 : ∀ i, IsReal (x0 i)) (f1 : ∀ i, IsReal (x1 i)) (f2 : ∀ i, IsReal (x2 i)) (f3 : ∀ i, IsReal (x3 i))
    (i : S2x8192x2816.Idx) :
    val_main_v23 (F := Ideal) x0 x1 x2 x3 i = dprod x0 x1 (i 1).val (i 2).val * if (i 0).val = 0
      then upDsilu (at2 (n := 8192) (k := 2816) x2 (i 1).val (i 2).val) (at2 (n := 8192) (k := 2816) x3 (i 1).val (i 2).val)
      else silu (at2 (n := 8192) (k := 2816) x2 (i 1).val (i 2).val) := by
  have h0 : (i 0).val < 2 := (i 0).isLt
  have hd : ∀ j : S8192x2816.Idx, IsReal (dprod x0 x1 (j 0).val (j 1).val) := fun j => isReal_sum _ _ fun k _ =>
    (isReal_at2 x0 f0 _ _).mul (isReal_at2 x1 f1 _ _)
  rw [val_main_v23_apply]
  show val_main_v22 (F := Ideal) x0 x1 x2 x3 i = _
  unfold val_main_v22
  by_cases hz : (i 0).val = 0
  · rw [if_pos hz]
    rw [concatenate_pair_apply_left (s₁ := S1x8192x2816) (s₂ := S1x8192x2816) 0 _ _ _ i rfl (ix3 (0 : Fin 1) ⟨(i 1).val, (i 1).isLt⟩ ⟨(i 2).val, (i 2).isLt⟩) (fun b => by
      match b with
      | ⟨0, _⟩ => exact hz.symm
      | ⟨1, _⟩ => rfl
      | ⟨2, _⟩ => rfl)]
    rw [val_main_v20_apply, dgate, dgate_eq (hd _) (f2 _) (f3 _)]
    exact congrArg₂ (· * ·) rfl (congrArg₂ upDsilu (read2 x2 _ rfl rfl) (read2 x3 _ rfl rfl))
  · rw [if_neg hz]
    rw [concatenate_pair_apply_right (s₁ := S1x8192x2816) (s₂ := S1x8192x2816) 0 _ _ _ i rfl rfl (ix3 (0 : Fin 1) ⟨(i 1).val, (i 1).isLt⟩ ⟨(i 2).val, (i 2).isLt⟩) (fun b hb => by
      match b with
      | ⟨0, _⟩ => exact absurd rfl hb
      | ⟨1, _⟩ => rfl
      | ⟨2, _⟩ => rfl) (show 0 + 1 = (i 0).val by omega)]
    rw [val_main_v21_apply, dup, mul_comm]
    exact congrArg₂ (· * ·) rfl (congrArg silu (read2 x2 _ rfl rfl))

end Cert.DactRefIdeal.Sum

namespace Cert.Proof

open Idealize.ShloMosaic Idealize.SL.Sem Step

/-- The call's result is the reference's, over the extended reals and finite operands. -/
theorem algebraic_Dact [Cert.DactIdeal.Facts] [Cert.DactRefIdeal.Facts] [Cert.Pre_dact_finite.Facts] :
    algebraic_DactIdeal_DactRefIdeal_pre_dact_finite := by
  intro m ρ m' ρ' hpre hagree
  refine ⟨fun c => Cert.DactIdeal.Sum.result m c, (θ_run Cert.DactIdeal.defs _ _).mono
    (fun _ h c => ⟨(h c).1.trans (Cert.DactIdeal.Sum.final m c), (h c).2⟩) (Cert.DactIdeal.Value.run_blocks (F := Ideal) m ρ), ?_⟩
  refine (θ_run Cert.DactRefIdeal.defs _ _).mono (fun _ h c => ⟨?_, (h c).2⟩)
    (Cert.DactRefIdeal.Value.run (F := Ideal) m' ρ')
  refine ((h c).1.trans (Cert.DactRefIdeal.Read.val_main_v23_eq ..)).trans ?_
  rw [(hagree c).1, (hagree c).2.1, (hagree c).2.2.1, (hagree c).2.2.2]
  obtain ⟨p0, p1, p2, p3⟩ := hpre c
  funext i
  exact Cert.DactRefIdeal.Sum.result _ _ _ _ (isReal_of_ones _ _ p0) (isReal_of_ones _ _ p1) (isReal_of_ones _ _ p2)
    (isReal_of_ones _ _ p3) i

end Cert.Proof

end
-- ==== Proof.DguValue.lean ====
/- The value of the call `Dgu`: the gradient of the second normalisation, taken back from the two halves of the gated
   product to the residual, to the normalisation's weight, and through the output projection to the mixers.

   Blocks of 256 rows; the weight's gradient is summed over the blocks in one row the grid points share. -/
module

public import proofs.«01_k».proof.Defs
public import proofs.«01_k».proof.Proof.Gen.DguIdeal.Value
public import proofs.«01_k».proof.Proof.Gen.DguRefIdeal.Run
public import proofs.«01_k».proof.Proof.Gen.DguRefIdeal.Read
public import proofs.«01_k».proof.Proof.Gen.Pre_dgu_finite
public import Idealize.ShloMosaic.Lib.Pipeline.ValueKit.Geometry
public import Idealize.ShloMosaic.Lib.Pipeline.ValueKit.Acc
public import proofs.«01_k».proof.Proof.Reading
public import proofs.«01_k».proof.Proof.Norm

@[expose] public section

noncomputable section

namespace Step.Gu

open Idealize.ShloMosaic Idealize.ShloMosaic.ValueIdx Step

/-- The cotangent of the normalised rows: the two halves' cotangents against the two halves of the weight. -/
def du (dg dp : (⟨2, ![8192, 2816]⟩ : Shape).Idx → EReal) (wg wu : (⟨2, ![1024, 2816]⟩ : Shape).Idx → EReal) (i j : ℕ) : EReal :=
  (∑ k : Fin 2816, at2 dg i k.val * at2 wg j k.val) + ∑ k : Fin 2816, at2 dp i k.val * at2 wu j k.val

/-- The same times the normalisation's weight. -/
def tw (dg dp : (⟨2, ![8192, 2816]⟩ : Shape).Idx → EReal) (wg wu : (⟨2, ![1024, 2816]⟩ : Shape).Idx → EReal)
    (w2 : (⟨2, ![1, 1024]⟩ : Shape).Idx → EReal) (i j : ℕ) : EReal := du dg dp wg wu i j * at2 w2 0 j

/-- The residual's cotangent. -/
def dh1 (dg dp : (⟨2, ![8192, 2816]⟩ : Shape).Idx → EReal) (wg wu : (⟨2, ![1024, 2816]⟩ : Shape).Idx → EReal)
    (h : (⟨2, ![8192, 1024]⟩ : Shape).Idx → EReal) (w2 : (⟨2, ![1, 1024]⟩ : Shape).Idx → EReal)
    (dh2 : (⟨2, ![8192, 1024]⟩ : Shape).Idx → EReal) (i j : ℕ) : EReal :=
  back 1024 (at2 dh2) (tw dg dp wg wu w2) (at2 h) i j

/-- One row's part of the gradient of the normalisation's weight. -/
def part (dg dp : (⟨2, ![8192, 2816]⟩ : Shape).Idx → EReal) (wg wu : (⟨2, ![1024, 2816]⟩ : Shape).Idx → EReal)
    (h : (⟨2, ![8192, 1024]⟩ : Shape).Idx → EReal) (r j : ℕ) : EReal := du dg dp wg wu r j * unit 1024 (at2 h) r j

/-- The mixers' cotangent. -/
def dmix (dg dp : (⟨2, ![8192, 2816]⟩ : Shape).Idx → EReal) (wg wu : (⟨2, ![1024, 2816]⟩ : Shape).Idx → EReal)
    (h : (⟨2, ![8192, 1024]⟩ : Shape).Idx → EReal) (w2 : (⟨2, ![1, 1024]⟩ : Shape).Idx → EReal)
    (dh2 : (⟨2, ![8192, 1024]⟩ : Shape).Idx → EReal) (wo : (⟨2, ![1024, 1024]⟩ : Shape).Idx → EReal) (i j : ℕ) : EReal :=
  ∑ k : Fin 1024, dh1 dg dp wg wu h w2 dh2 i k.val * at2 wo j k.val

end Step.Gu

namespace Cert.DguIdeal.Sum

open Cert.DguIdeal Cert.DguIdeal.Gen Idealize.ShloMosaic Idealize.ShloMosaic.TcCoe Idealize.ShloMosaic.ValueIdx Step Step.Gu

variable (m : (ℓ : Loc nD τ sig) → Buf (Elt Ideal) ℓ)

abbrev dg (c : Dev nD) : S8192x2816.Idx → EReal := m ((c.tc : Thread nD τ).loc main_arg0)
abbrev dp (c : Dev nD) : S8192x2816.Idx → EReal := m ((c.tc : Thread nD τ).loc main_arg1)
abbrev wg (c : Dev nD) : S1024x2816.Idx → EReal := m ((c.tc : Thread nD τ).loc main_arg2)
abbrev wu (c : Dev nD) : S1024x2816.Idx → EReal := m ((c.tc : Thread nD τ).loc main_arg3)
abbrev h (c : Dev nD) : S8192x1024.Idx → EReal := m ((c.tc : Thread nD τ).loc main_arg4)
abbrev w2 (c : Dev nD) : S1x1024.Idx → EReal := m ((c.tc : Thread nD τ).loc main_arg5)
abbrev dh (c : Dev nD) : S8192x1024.Idx → EReal := m ((c.tc : Thread nD τ).loc main_arg6)
abbrev wo (c : Dev nD) : S1024x1024.Idx → EReal := m ((c.tc : Thread nD τ).loc main_arg7)

/-- The call's first operand is the two halves' cotangents, one on the other. -/
theorem operand0 (c : Dev nD) (z : S2x8192x2816.Idx) : (V m c main_v2 : S2x8192x2816.Idx → EReal) z
    = if (z 0).val = 0 then at2 (n := 8192) (k := 2816) (dg m c) (z 1).val (z 2).val
      else at2 (n := 8192) (k := 2816) (dp m c) (z 1).val (z 2).val := by
  have hz : (z 0).val < 2 := (z 0).isLt
  have e : V m c main_v2 = concatenate S2x8192x2816 0 [⟨S1x8192x2816, broadcastInDim S1x8192x2816 ![1, 2] bcast_S8192x2816_S1x8192x2816_1_2 (dg m c)⟩,
      ⟨S1x8192x2816, broadcastInDim S1x8192x2816 ![1, 2] bcast_S8192x2816_S1x8192x2816_1_2 (dp m c)⟩] concatenates_S1x8192x2816_S1x8192x2816_S2x8192x2816_d0 := by
    unfold V hostOps0
    after_results <;> rfl
  rw [e]
  have rd : ∀ (A : S8192x2816.Idx → EReal) (x : S1x8192x2816.Idx),
      broadcastInDim S1x8192x2816 ![1, 2] bcast_S8192x2816_S1x8192x2816_1_2 A x = at2 (n := 8192) (k := 2816) A (x 1).val (x 2).val := fun A x =>
    (broadcastInDim_apply (s := S8192x2816) (t := S1x8192x2816) _ _ A x (ix2 ⟨(x 1).val, (x 1).isLt⟩ ⟨(x 2).val, (x 2).isLt⟩) (fun a => by
      match a with
      | ⟨0, _⟩ => exact (if_neg (show ¬(8192 = 1) by decide)).symm
      | ⟨1, _⟩ => exact (if_neg (show ¬(2816 = 1) by decide)).symm)).trans (read2 A _ rfl rfl)
  by_cases h0 : (z 0).val = 0
  · rw [if_pos h0, concatenate_pair_apply_left (s₁ := S1x8192x2816) (s₂ := S1x8192x2816) 0 _ _ _ z rfl (ix3 (0 : Fin 1) ⟨(z 1).val, (z 1).isLt⟩ ⟨(z 2).val, (z 2).isLt⟩) (fun b => by
      match b with
      | ⟨0, _⟩ => exact h0.symm
      | ⟨1, _⟩ => rfl
      | ⟨2, _⟩ => rfl), rd]
  · rw [if_neg h0, concatenate_pair_apply_right (s₁ := S1x8192x2816) (s₂ := S1x8192x2816) 0 _ _ _ z rfl rfl (ix3 (0 : Fin 1) ⟨(z 1).val, (z 1).isLt⟩ ⟨(z 2).val, (z 2).isLt⟩) (fun b hb => by
      match b with
      | ⟨0, _⟩ => exact absurd rfl hb
      | ⟨1, _⟩ => rfl
      | ⟨2, _⟩ => rfl) (show 0 + 1 = (z 0).val by omega), rd]

theorem index0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)

/-- The blocks of a grid point: 256 rows of the activations' operands; the weights come whole. -/
theorem block0 (c : Dev nD) (t : Fin cfg0.N) (y : S2x256x2816.Idx) :
    (iblk m c 0 t : Vec Ideal S2x256x2816 .bf16) y
      = if (y 0).val = 0 then at2 (n := 8192) (k := 2816) (dg m c) (256 * t.val + (y 1).val) (y 2).val
        else at2 (n := 8192) (k := 2816) (dp m c) (256 * t.val + (y 1).val) (y 2).val := by
  obtain ⟨e0, e1, e2⟩ := index0 t
  refine (operand0 m c _).trans ?_
  have r0 : win0_0.index t (0 : Fin 3) * 2 + 1 * (y 0).val = (y 0).val := by omega
  have r1 : win0_0.index t (1 : Fin 3) * 256 + 1 * (y 1).val = 256 * t.val + (y 1).val := by omega
  have r2 : win0_0.index t (2 : Fin 3) * 2816 + 1 * (y 2).val = (y 2).val := by omega
  show (if win0_0.index t (0 : Fin 3) * 2 + 1 * (y 0).val = 0
    then at2 (n := 8192) (k := 2816) (dg m c) (win0_0.index t (1 : Fin 3) * 256 + 1 * (y 1).val) (win0_0.index t (2 : Fin 3) * 2816 + 1 * (y 2).val)
    else at2 (n := 8192) (k := 2816) (dp m c) (win0_0.index t (1 : Fin 3) * 256 + 1 * (y 1).val) (win0_0.index t (2 : Fin 3) * 2816 + 1 * (y 2).val)) = _
  simp only [r0, r1, r2]

theorem block1 (c : Dev nD) (t : Fin cfg0.N) (y : S1024x2816.Idx) :
    (iblk m c 1 t : Vec Ideal S1024x2816 .bf16) y = at2 (n := 1024) (k := 2816) (wg m c) ((y 0).val) (y 1).val := by
  obtain ⟨e0, e1⟩ := index1 t
  refine (congrFun (V_main_arg2 m c) _).trans (read2 (n := 1024) (k := 2816) (wg m c) _ ?_ ?_)
  · show win0_1.index t 0 * 1024 + 1 * (y 0).val = _
    rw [e0]; omega
  · show win0_1.index t 1 * 2816 + 1 * (y 1).val = _
    rw [e1]; omega

theorem block2 (c : Dev nD) (t : Fin cfg0.N) (y : S1024x2816.Idx) :
    (iblk m c 2 t : Vec Ideal S1024x2816 .bf16) y = at2 (n := 1024) (k := 2816) (wu m c) ((y 0).val) (y 1).val := by
  obtain ⟨e0, e1⟩ := index2 t
  refine (congrFun (V_main_arg3 m c) _).trans (read2 (n := 1024) (k := 2816) (wu m c) _ ?_ ?_)
  · show win0_2.index t 0 * 1024 + 1 * (y 0).val = _
    rw [e0]; omega
  · show win0_2.index t 1 * 2816 + 1 * (y 1).val = _
    rw [e1]; omega

theorem block3 (c : Dev nD) (t : Fin cfg0.N) (y : S256x1024.Idx) :
    (iblk m c 3 t : Vec Ideal S256x1024 .f32) y = at2 (n := 8192) (k := 1024) (h m c) (256 * t.val + (y 0).val) (y 1).val := by
  obtain ⟨e0, e1⟩ := index3 t
  refine (congrFun (V_main_arg4 m c) _).trans (read2 (n := 8192) (k := 1024) (h m c) _ ?_ ?_)
  · show win0_3.index t 0 * 256 + 1 * (y 0).val = _
    rw [e0]; omega
  · show win0_3.index t 1 * 1024 + 1 * (y 1).val = _
    rw [e1]; omega

theorem block4 (c : Dev nD) (t : Fin cfg0.N) (y : S1x1024.Idx) :
    (iblk m c 4 t : Vec Ideal S1x1024 .f32) y = at2 (n := 1) (k := 1024) (w2 m c) ((y 0).val) (y 1).val := by
  obtain ⟨e0, e1⟩ := index4 t
  refine (congrFun (V_main_arg5 m c) _).trans (read2 (n := 1) (k := 1024) (w2 m c) _ ?_ ?_)
  · show win0_4.index t 0 * 1 + 1 * (y 0).val = _
    rw [e0]; omega
  · show win0_4.index t 1 * 1024 + 1 * (y 1).val = _
    rw [e1]; omega

theorem block5 (c : Dev nD) (t : Fin cfg0.N) (y : S256x1024.Idx) :
    (iblk m c 5 t : Vec Ideal S256x1024 .f32) y = at2 (n := 8192) (k := 1024) (dh m c) (256 * t.val + (y 0).val) (y 1).val := by
  obtain ⟨e0, e1⟩ := index5 t
  refine (congrFun (V_main_arg6 m c) _).trans (read2 (n := 8192) (k := 1024) (dh m c) _ ?_ ?_)
  · show win0_5.index t 0 * 256 + 1 * (y 0).val = _
    rw [e0]; omega
  · show win0_5.index t 1 * 1024 + 1 * (y 1).val = _
    rw [e1]; omega

theorem block6 (c : Dev nD) (t : Fin cfg0.N) (y : S1024x1024.Idx) :
    (iblk m c 6 t : Vec Ideal S1024x1024 .bf16) y = at2 (n := 1024) (k := 1024) (wo m c) ((y 0).val) (y 1).val := by
  obtain ⟨e0, e1⟩ := index6 t
  refine (congrFun (V_main_arg7 m c) _).trans (read2 (n := 1024) (k := 1024) (wo m c) _ ?_ ?_)
  · show win0_6.index t 0 * 1024 + 1 * (y 0).val = _
    rw [e0]; omega
  · show win0_6.index t 1 * 1024 + 1 * (y 1).val = _
    rw [e1]; omega

/-- The block of stacked cotangents, one half at a time. -/
theorem block0_left (c : Dev nD) (t : Fin cfg0.N) (y : S2x256x2816.Idx) (hy : (y 0).val = 0) :
    (iblk m c 0 t : Vec Ideal S2x256x2816 .bf16) y = at2 (n := 8192) (k := 2816) (dg m c) (256 * t.val + (y 1).val) (y 2).val :=
  (block0 m c t y).trans (if_pos hy)

theorem block0_right (c : Dev nD) (t : Fin cfg0.N) (y : S2x256x2816.Idx) (hy : ¬(y 0).val = 0) :
    (iblk m c 0 t : Vec Ideal S2x256x2816 .bf16) y = at2 (n := 8192) (k := 2816) (dp m c) (256 * t.val + (y 1).val) (y 2).val :=
  (block0 m c t y).trans (if_neg hy)

theorem zero2 : (![0, 0] : Fin 2 → ℕ) = fun _ => 0 := by decide

/-- The two halves of a block of stacked cotangents. -/
abbrev half0 (v : Vec Ideal S2x256x2816 .bf16) : Vec Ideal S1x256x2816 .bf16 :=
  View.ld v (Rect.unit ![0, 0, 0] ![1, 256, 2816] inb_S2x256x2816_S1x256x2816_0_0_0)
abbrev half1 (v : Vec Ideal S2x256x2816 .bf16) : Vec Ideal S1x256x2816 .bf16 :=
  View.ld v (Rect.unit ![1, 0, 0] ![1, 256, 2816] inb_S2x256x2816_S1x256x2816_1_0_0)

section Point
variable (c : Dev nD) (i : grid0.Coords) (arg1 : Memref sig .tc .vmem S2x256x2816 .bf16) (harg1 : arg1.IsWhole)
  (arg2 : Memref sig .tc .vmem S1024x2816 .bf16) (harg2 : arg2.IsWhole)
  (arg3 : Memref sig .tc .vmem S1024x2816 .bf16) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S256x1024 .f32) (harg6 : arg6.IsWhole)
  (arg7 : Memref sig .tc .vmem S1024x1024 .bf16) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S256x1024 .f32) (harg10 : arg10.IsWhole)
  (x0 : Vec Ideal S2x256x2816 .bf16) (x1 x2 : Vec Ideal S1024x2816 .bf16) (x3 : Vec Ideal S256x1024 .f32) (x4 : Vec Ideal S1x1024 .f32)
  (x5 : Vec Ideal S256x1024 .f32) (x6 : Vec Ideal S1024x1024 .bf16)

/-- A point leaves in the residual's block the residual's cotangent, … -/
theorem out_A_7 (hc0 : cond0_0 i) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6
      = k0_pay1 (k0_pay4 (half0 x0) x1 (half1 x0) x2) (k0_pay5 x3) (k0_pay6 x3) x5 x4 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1024x2816) zero2, View.ld_unit_zero (S := S256x1024) zero2, View.ld_unit_zero (S := S1x1024) zero2,
    View.ld_unit_zero (S := S1024x1024) zero2]

/-- … in the shared row the row's sum so far and its own part, … -/
theorem out_A_8 (hc0 : cond0_0 i) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6
      = k0_pay7 (half0 x0) x1 (half1 x0) x2 x3 (k0_pay3 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  try sl_unfold_words
  rw [View.canon_cons_unit_zero (S := S1x1024) zero2, View.readCov_unit_zero (S := S1x1024) _ zero2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1024x2816) zero2, View.ld_unit_zero (S := S256x1024) zero2, View.ld_unit_zero (S := S1x1024) zero2,
    View.ld_unit_zero (S := S1024x1024) zero2]

/-- … and in the mixers' block the mixers' cotangent. -/
theorem out_A_9 (hc0 : cond0_0 i) :
    out0_A_9 (F := Ideal) c i arg1 harg1 arg2 harg2 arg3 harg3 arg4 harg4 arg5 harg5 arg6 harg6 arg7 harg7 arg8 harg8 arg9 harg9 arg10 harg10 hc0 x0 x1 x2 x3 x4 x5 x6
      = k0_pay2 (k0_pay4 (half0 x0) x1 (half1 x0) x2) (k0_pay5 x3) (k0_pay6 x3) x5 x4 x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1024x2816) zero2, View.ld_unit_zero (S := S256x1024) zero2, View.ld_unit_zero (S := S1x1024) zero2,
    View.ld_unit_zero (S := S1024x1024) zero2]

theorem out_B_7 (hc0 : ¬cond0_0 i) (xo8 : Vec Ideal S1x1024 .f32) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xo8
      = k0_pay1 (k0_pay4 (half0 x0) x1 (half1 x0) x2) (k0_pay5 x3) (k0_pay6 x3) x5 x4 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xo8)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1024x2816) zero2, View.ld_unit_zero (S := S256x1024) zero2, View.ld_unit_zero (S := S1x1024) zero2,
    View.ld_unit_zero (S := S1024x1024) zero2]

theorem out_B_8 (hc0 : ¬cond0_0 i) (xo8 : Vec Ideal S1x1024 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 xo8
      = k0_pay7 (half0 x0) x1 (half1 x0) x2 x3 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo8)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1024x2816) zero2, View.ld_unit_zero (S := S256x1024) zero2, View.ld_unit_zero (S := S1x1024) zero2,
    View.ld_unit_zero (S := S1024x1024) zero2]

theorem out_B_9 (hc0 : ¬cond0_0 i) (xo8 : Vec Ideal S1x1024 .f32) :
    out0_B_9 (F := Ideal) c i arg1 harg1 arg2 harg2 arg3 harg3 arg4 harg4 arg5 harg5 arg6 harg6 arg7 harg7 arg8 harg8 arg9 harg9 arg10 harg10 hc0 x0 x1 x2 x3 x4 x5 x6 xo8
      = k0_pay2 (k0_pay4 (half0 x0) x1 (half1 x0) x2) (k0_pay5 x3) (k0_pay6 x3) x5 x4 x6 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 xo8)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1024x2816) zero2, View.ld_unit_zero (S := S256x1024) zero2, View.ld_unit_zero (S := S1x1024) zero2,
    View.ld_unit_zero (S := S1024x1024) zero2]

end Point

/-- The values of a grid point, read at an index of its block. -/
theorem half0_apply (c : Dev nD) (t : Fin cfg0.N) (y : S256x2816.Idx) :
    shapeCast S256x2816 (half0 (iblk m c 0 t)) shapeCasts_S1x256x2816_S256x2816 y
      = at2 (n := 8192) (k := 2816) (dg m c) (256 * t.val + (y 0).val) (y 1).val := by
  refine (shapeCast_apply (s := S1x256x2816) (t := S256x2816) _ _ y (ix3 (0 : Fin 1) ⟨(y 0).val, (y 0).isLt⟩ ⟨(y 1).val, (y 1).isLt⟩) ?_).trans ?_
  · rw [Shape.rowMajor_val_three, Shape.rowMajor_val_two]
    show (0 * 256 + (y 0).val) * 2816 + (y 1).val = (y 0).val * 2816 + (y 1).val
    omega
  · refine (block0_left m c t _ (show 0 + 1 * 0 = 0 from rfl)).trans ?_
    show at2 (n := 8192) (k := 2816) (dg m c) (256 * t.val + (0 + 1 * (y 0).val)) (0 + 1 * (y 1).val) = _
    rw [Nat.one_mul, Nat.one_mul, Nat.zero_add, Nat.zero_add]

theorem half1_apply (c : Dev nD) (t : Fin cfg0.N) (y : S256x2816.Idx) :
    shapeCast S256x2816 (half1 (iblk m c 0 t)) shapeCasts_S1x256x2816_S256x2816 y
      = at2 (n := 8192) (k := 2816) (dp m c) (256 * t.val + (y 0).val) (y 1).val := by
  refine (shapeCast_apply (s := S1x256x2816) (t := S256x2816) _ _ y (ix3 (0 : Fin 1) ⟨(y 0).val, (y 0).isLt⟩ ⟨(y 1).val, (y 1).isLt⟩) ?_).trans ?_
  · rw [Shape.rowMajor_val_three, Shape.rowMajor_val_two]
    show (0 * 256 + (y 0).val) * 2816 + (y 1).val = (y 0).val * 2816 + (y 1).val
    omega
  · refine (block0_right m c t _ (show ¬(1 + 1 * 0 = 0) by decide)).trans ?_
    show at2 (n := 8192) (k := 2816) (dp m c) (256 * t.val + (0 + 1 * (y 0).val)) (0 + 1 * (y 1).val) = _
    rw [Nat.one_mul, Nat.one_mul, Nat.zero_add, Nat.zero_add]

theorem duBlock (c : Dev nD) (t : Fin cfg0.N) (y : S256x1024.Idx) :
    k0_pay4 (F := Ideal) (half0 (iblk m c 0 t)) (iblk m c 1 t) (half1 (iblk m c 0 t)) (iblk m c 2 t) y
      = du (dg m c) (dp m c) (wg m c) (wu m c) (256 * t.val + (y 0).val) (y 1).val := by
  have h0 : (y 0).val < 256 := (y 0).isLt
  have h1 : (y 1).val < 1024 := (y 1).isLt
  unfold k0_pay4 du
  refine congrArg₂ (· + ·) ?_ ?_
  · refine (matmul_nt (M := 256) (K := 2816) (N := 1024) _ none _ _ y).trans (Finset.sum_congr rfl fun k _ => congrArg₂ (· * ·) ?_ ?_)
    · exact at2_of _ (fun i j => at2 (n := 8192) (k := 2816) (dg m c) (256 * t.val + i) j) (half0_apply m c t) h0 k.isLt
    · exact at2_of _ (fun i j => at2 (n := 1024) (k := 2816) (wg m c) i j) (block1 m c t) h1 k.isLt
  · refine (matmul_nt (M := 256) (K := 2816) (N := 1024) _ none _ _ y).trans (Finset.sum_congr rfl fun k _ => congrArg₂ (· * ·) ?_ ?_)
    · exact at2_of _ (fun i j => at2 (n := 8192) (k := 2816) (dp m c) (256 * t.val + i) j) (half1_apply m c t) h0 k.isLt
    · exact at2_of _ (fun i j => at2 (n := 1024) (k := 2816) (wu m c) i j) (block2 m c t) h1 k.isLt

theorem scaleBlock (c : Dev nD) (t : Fin cfg0.N) (y : S256x1.Idx) :
    k0_pay5 (F := Ideal) (iblk m c 3 t) y = rscale 1024 (at2 (n := 8192) (k := 1024) (h m c)) (256 * t.val + (y 0).val) := by
  unfold k0_pay5
  refine (scaleCol (T := 256) (n := 1024) _ _ _ _ _ _ y).trans ?_
  exact rscale_congr fun k hk => at2_of _ (fun i j => at2 (n := 8192) (k := 1024) (h m c) (256 * t.val + i) j) (block3 m c t) (y 0).isLt hk

theorem unitBlock (c : Dev nD) (t : Fin cfg0.N) (y : S256x1024.Idx) :
    k0_pay6 (F := Ideal) (iblk m c 3 t) y = unit 1024 (at2 (n := 8192) (k := 1024) (h m c)) (256 * t.val + (y 0).val) (y 1).val := by
  unfold k0_pay6 unit
  refine congrArg₂ (· * ·) (block3 m c t y) ?_
  exact (spreadCol (T := 256) (n := 1024) (by decide) _ _ y).trans (scaleBlock m c t _)

theorem w2Block (c : Dev nD) (t : Fin cfg0.N) (y : S256x1024.Idx) :
    broadcastTo S256x1024 (iblk m c 4 t : Vec Ideal S1x1024 .f32) broadcasts_S1x1024_S256x1024 y = at2 (n := 1) (k := 1024) (w2 m c) 0 (y 1).val :=
  (spreadRow (φ := .f32) (T := 256) (n := 1024) (by decide) _ _ y).trans
    (at2_of _ (fun i j => at2 (n := 1) (k := 1024) (w2 m c) i j) (block4 m c t) (by decide) (y 1).isLt)

theorem dh1Block (c : Dev nD) (t : Fin cfg0.N) (y : S256x1024.Idx) :
    k0_pay1 (F := Ideal) (k0_pay4 (half0 (iblk m c 0 t)) (iblk m c 1 t) (half1 (iblk m c 0 t)) (iblk m c 2 t)) (k0_pay5 (iblk m c 3 t))
        (k0_pay6 (iblk m c 3 t)) (iblk m c 5 t) (iblk m c 4 t) y
      = dh1 (dg m c) (dp m c) (wg m c) (wu m c) (h m c) (w2 m c) (dh m c) (256 * t.val + (y 0).val) (y 1).val := by
  have h0 : (y 0).val < 256 := (y 0).isLt
  have tB : ∀ z : S256x1024.Idx, mulf (F := Ideal) (φ := .f32) (k0_pay4 (half0 (iblk m c 0 t)) (iblk m c 1 t) (half1 (iblk m c 0 t)) (iblk m c 2 t))
      (broadcastTo S256x1024 (iblk m c 4 t : Vec Ideal S1x1024 .f32) broadcasts_S1x1024_S256x1024) z
        = tw (dg m c) (dp m c) (wg m c) (wu m c) (w2 m c) (256 * t.val + (z 0).val) (z 1).val := fun z =>
    congrArg₂ (· * ·) (duBlock m c t z) (w2Block m c t z)
  unfold k0_pay1 dh1 back
  refine congrArg₂ (· + ·) (block5 m c t y) (congrArg₂ (· * ·) ?_ (congrArg₂ (· - ·) (tB y) (congrArg₂ (· * ·) (unitBlock m c t y) ?_)))
  · exact (spreadCol (T := 256) (n := 1024) (by decide) _ _ y).trans (scaleBlock m c t _)
  · refine (spreadCol (T := 256) (n := 1024) (by decide) _ _ y).trans ?_
    refine congrArg (fun s => Ideal.div s width) ((rowSum (T := 256) (n := 1024) _ _ _ _ _ _ _).trans (Finset.sum_congr rfl fun k _ => ?_))
    exact at2_of _ (fun i j => tw (dg m c) (dp m c) (wg m c) (wu m c) (w2 m c) (256 * t.val + i) j
      * unit 1024 (at2 (n := 8192) (k := 1024) (h m c)) (256 * t.val + i) j)
      (fun z => congrArg₂ (· * ·) (tB z) (unitBlock m c t z)) h0 k.isLt

theorem dmixBlock (c : Dev nD) (t : Fin cfg0.N) (y : S256x1024.Idx) :
    k0_pay2 (F := Ideal) (k0_pay4 (half0 (iblk m c 0 t)) (iblk m c 1 t) (half1 (iblk m c 0 t)) (iblk m c 2 t)) (k0_pay5 (iblk m c 3 t))
        (k0_pay6 (iblk m c 3 t)) (iblk m c 5 t) (iblk m c 4 t) (iblk m c 6 t) y
      = dmix (dg m c) (dp m c) (wg m c) (wu m c) (h m c) (w2 m c) (dh m c) (wo m c) (256 * t.val + (y 0).val) (y 1).val := by
  unfold k0_pay2 dmix
  refine (matmul_nt (M := 256) (K := 1024) (N := 1024) _ none _ _ y).trans (Finset.sum_congr rfl fun k _ => congrArg₂ (· * ·) ?_ ?_)
  · exact at2_of _ (fun i j => dh1 (dg m c) (dp m c) (wg m c) (wu m c) (h m c) (w2 m c) (dh m c) (256 * t.val + i) j) (dh1Block m c t) (y 0).isLt k.isLt
  · exact at2_of _ (fun i j => at2 (n := 1024) (k := 1024) (wo m c) i j) (block6 m c t) (y 1).isLt k.isLt

/-- What a point adds to the shared row. -/
def term (c : Dev nD) (s j : ℕ) : EReal := ∑ r : Fin 256, part (dg m c) (dp m c) (wg m c) (wu m c) (h m c) (256 * s + r.val) j

theorem partBlock (c : Dev nD) (t : Fin cfg0.N) (acc : Vec Ideal S1x1024 .f32) (y : S1x1024.Idx) :
    k0_pay7 (F := Ideal) (half0 (iblk m c 0 t)) (iblk m c 1 t) (half1 (iblk m c 0 t)) (iblk m c 2 t) (iblk m c 3 t) acc y
      = acc y + term m c t.val (y 1).val := by
  unfold k0_pay7
  simp only [shapeCast_self]
  refine congrArg (acc y + ·) ((colSum (T := 256) (n := 1024) _ _ _ _ _ _ y).trans (Finset.sum_congr rfl fun r _ => ?_))
  exact at2_of _ (fun i j => part (dg m c) (dp m c) (wg m c) (wu m c) (h m c) (256 * t.val + i) j)
    (fun z => congrArg₂ (· * ·) (duBlock m c t z) (unitBlock m c t z)) r.isLt (y 1).isLt

theorem zeroRow (y : S1x1024.Idx) : (k0_pay3 (F := Ideal)) y = 0 := Ideal.ofBits_zero_f32

/-- The shared row after a point: the parts of the points so far. -/
theorem shared (c : Dev nD) : ∀ (n : ℕ) (hn : n < cfg0.N) (y : S1x1024.Idx),
    (outsAt0 m c n hn).2.1 y = ∑ s ∈ Finset.range (n + 1), term m c s (y 1).val
  | 0, hn, y => by
    have e := outsAt0_A m c ⟨0, hn⟩ rfl
    dsimp only at e
    rw [e]
    dsimp only
    rw [out_A_8, partBlock, zeroRow, zero_add]
    simp
  | n + 1, hn, y => by
    have hN : cfg0.N = 32 := N_0
    have e := outsAt0_B m c ⟨n + 1, hn⟩ (by show ¬(n + 1) % 32 = 0; omega)
    dsimp only at e
    rw [e]
    dsimp only
    rw [out_B_8, partBlock, Finset.sum_range_succ]
    exact congrArg (· + _) (shared c n _ y)

/-- The call's three results, each one array. -/
def result7 (c : Dev nD) : S8192x1024.Idx → EReal := fun i =>
  dh1 (dg m c) (dp m c) (wg m c) (wu m c) (h m c) (w2 m c) (dh m c) (i 0).val (i 1).val
def total (c : Dev nD) (j : ℕ) : EReal := ∑ r : Fin 8192, part (dg m c) (dp m c) (wg m c) (wu m c) (h m c) r.val j
def result8 (c : Dev nD) : S1x1024.Idx → EReal := fun i => total m c (i 1).val
def result9 (c : Dev nD) : S8192x1024.Idx → EReal := fun i =>
  dmix (dg m c) (dp m c) (wg m c) (wu m c) (h m c) (w2 m c) (dh m c) (wo m c) (i 0).val (i 1).val

theorem staged7 (c : Dev nD) (t : Fin cfg0.N) (y : S256x1024.Idx) : (outsAt0 m c t.val t.isLt).1 y
    = dh1 (dg m c) (dp m c) (wg m c) (wu m c) (h m c) (w2 m c) (dh m c) (256 * t.val + (y 0).val) (y 1).val := by
  by_cases h0 : t.val % 32 = 0
  · rw [outsAt0_A m c t h0]
    dsimp only
    rw [out_A_7]
    exact dh1Block m c t y
  · rw [outsAt0_B m c t h0]
    dsimp only
    rw [out_B_7]
    exact dh1Block m c t y

theorem staged9 (c : Dev nD) (t : Fin cfg0.N) (y : S256x1024.Idx) : (outsAt0 m c t.val t.isLt).2.2 y
    = dmix (dg m c) (dp m c) (wg m c) (wu m c) (h m c) (w2 m c) (dh m c) (wo m c) (256 * t.val + (y 0).val) (y 1).val := by
  by_cases h0 : t.val % 32 = 0
  · rw [outsAt0_A m c t h0]
    dsimp only
    rw [out_A_9]
    exact dmixBlock m c t y
  · rw [outsAt0_B m c t h0]
    dsimp only
    rw [out_B_9]
    exact dmixBlock m c t y

/-- After the run the three arrays are these. -/
theorem final7 (c : Dev nD) : (dats m 0 c).arrAt 7 cfg0.N = result7 m c := by
  refine (dats m 0 c).arrAt_eq_of_cover 7 (result7 m c) (fun t _ => ?_)
    ((by decide +kernel : (cfg0.win 7).Covers).cover _ (Memref.isWhole_whole _))
  rw [Value.flushed7]
  obtain ⟨e0, e1⟩ := index7 t
  funext y
  refine (staged7 m c t y).trans ?_
  show _ = dh1 (dg m c) (dp m c) (wg m c) (wu m c) (h m c) (w2 m c) (dh m c) (win0_7.index t (0 : Fin 2) * 256 + 1 * (y 0).val) (win0_7.index t (1 : Fin 2) * 1024 + 1 * (y 1).val)
  rw [e0, e1]
  refine congrArg₂ _ ?_ ?_ <;> omega

theorem readRow (t : Fin cfg0.N) (f : ℕ → EReal) (y : ((cfg0.win 8).xblock (grid0.coords t)).Idx) :
    View.read (Elt Ideal) ((cfg0.win 8).blk t).view (fun i : S1x1024.Idx => f (i 1).val) y = f (y 1).val := by
  obtain ⟨e0, e1⟩ := index8 t
  show f (win0_8.index t (1 : Fin 2) * 1024 + 1 * (y 1).val) = _
  rw [e1]
  exact congrArg f (by omega)

theorem final8 (c : Dev nD) : (dats m 0 c).arrAt 8 cfg0.N = result8 m c := by
  refine (dats m 0 c).arrAt_eq_of_cover 8 (result8 m c) (fun t hf => ?_)
    ((by decide +kernel : (cfg0.win 8).Covers).cover _ (Memref.isWhole_whole _))
  rw [Value.flushed8]
  have ht : t.val = 31 := (by decide +kernel : ∀ t : Fin cfg0.N, (cfg0.win 8).flush t = true → t.val = 31) t hf
  funext y
  refine (shared m c t.val t.isLt y).trans (Eq.trans ?_ (readRow t (total m c) y).symm)
  rw [ht]
  exact sum_blocks 32 256 8192 rfl fun r => part (dg m c) (dp m c) (wg m c) (wu m c) (h m c) r (y 1).val

theorem final9 (c : Dev nD) : (dats m 0 c).arrAt 9 cfg0.N = result9 m c := by
  refine (dats m 0 c).arrAt_eq_of_cover 9 (result9 m c) (fun t _ => ?_)
    ((by decide +kernel : (cfg0.win 9).Covers).cover _ (Memref.isWhole_whole _))
  rw [Value.flushed9]
  obtain ⟨e0, e1⟩ := index9 t
  funext y
  refine (staged9 m c t y).trans ?_
  show _ = dmix (dg m c) (dp m c) (wg m c) (wu m c) (h m c) (w2 m c) (dh m c) (wo m c) (win0_9.index t (0 : Fin 2) * 256 + 1 * (y 0).val) (win0_9.index t (1 : Fin 2) * 1024 + 1 * (y 1).val)
  rw [e0, e1]
  refine congrArg₂ _ ?_ ?_ <;> omega

end Cert.DguIdeal.Sum

namespace Cert.DguRefIdeal.Sum

open Cert.DguRefIdeal Cert.DguRefIdeal.Read Idealize.ShloMosaic Idealize.ShloMosaic.ValueIdx Step Step.Gu

variable (x0 x1 : S8192x2816.Idx → EReal) (x2 x3 : S1024x2816.Idx → EReal) (x4 : S8192x1024.Idx → EReal) (x5 : S1x1024.Idx → EReal)
  (x6 : S8192x1024.Idx → EReal) (x7 : S1024x1024.Idx → EReal)

/-- The reference's values, each read at an index. -/
theorem duRef (i : S8192x1024.Idx) : val_main_v25 (F := Ideal) x0 x1 x2 x3 i = du x0 x1 x2 x3 (i 0).val (i 1).val := by
  rw [val_main_v25_apply, val_main_v23_apply, val_main_v24_apply]
  refine (add_comm _ _).trans (congrArg₂ (· + ·) (Finset.sum_congr rfl fun k _ => congrArg₂ (· * ·) ?_ ?_)
    (Finset.sum_congr rfl fun k _ => congrArg₂ (· * ·) ?_ ?_))
  · exact read2 x0 _ rfl rfl
  · exact read2 x2 _ rfl rfl
  · exact read2 x1 _ rfl rfl
  · exact read2 x3 _ rfl rfl

theorem meanRef (i : S8192x1.Idx) : val_main_v7 (F := Ideal) x4 i = meanSq 1024 (at2 (n := 8192) (k := 1024) x4) (i 0).val := by
  rw [val_main_v7_apply, val_main_v6_apply, val_main_v5_apply, val_main_v4_apply, val_main_v3_apply, val_main_v2_apply,
    val_main_cst_apply, val_main_cst_0_apply, val_main_cst_1_apply]
  show Ideal.div (Ideal.ofBits .f32 0x00000000#32 + ∑ k : Fin 1024, _) width + eps = _
  rw [Ideal.ofBits_zero_f32, zero_add]
  refine congrArg (fun s => Ideal.div s width + eps) (Finset.sum_congr rfl fun k _ => ?_)
  exact congrArg₂ (· * ·) (read2 x4 _ rfl rfl) (read2 x4 _ rfl rfl)

theorem scaleRef (i : S8192x1.Idx) : val_main_v8 (F := Ideal) x4 i = rscale 1024 (at2 (n := 8192) (k := 1024) x4) (i 0).val := by
  rw [val_main_v8_apply]
  exact congrArg Ideal.rsqrt (meanRef x4 i)

theorem twRef (i : S8192x1024.Idx) : val_main_v30 (F := Ideal) x0 x1 x2 x3 x5 i = tw x0 x1 x2 x3 x5 (i 0).val (i 1).val := by
  rw [val_main_v30_apply, val_main_v29_apply, val_main_v14_apply, val_main_v0_apply, duRef]
  exact congrArg₂ (· * ·) rfl (read2 x5 _ rfl (Nat.mod_eq_of_lt (i 1).isLt))

theorem unitRef (i : S8192x1024.Idx) : val_main_v13 (F := Ideal) x4 i = unit 1024 (at2 (n := 8192) (k := 1024) x4) (i 0).val (i 1).val := by
  rw [val_main_v13_apply, val_main_v12_apply, scaleRef]
  exact congrArg₂ (· * ·) (eq_at2 x4 i) rfl

theorem slopeRef (i : S8192.Idx) : val_main_v41 (F := Ideal) x0 x1 x2 x3 x4 x5 i
    = Step.slope 1024 (tw x0 x1 x2 x3 x5) (at2 (n := 8192) (k := 1024) x4) (i 0).val := by
  have h0 : (i 0).val < 8192 := (i 0).isLt
  rw [val_main_v41_apply, val_main_cst_7_apply]
  show Ideal.ofBits .f32 0x00000000#32 + _ = _
  rw [Ideal.ofBits_zero_f32, zero_add, Fin.sum_univ_one, val_main_v40_apply, val_main_v39_apply, val_main_cst_6_apply, val_main_v38_apply,
    val_main_v34_apply, val_main_v33_apply, val_main_cst_5_apply, val_main_v11_apply, val_main_v10_apply, val_main_cst_2_apply,
    val_main_v9_apply, scaleRef, meanRef]
  show Ideal.div ((Ideal.ofBits .f32 0x00000000#32 + ∑ k : Fin 1024, _) * (negHalf * Ideal.div (rscale 1024 _ _) (meanSq 1024 _ _))) width = _
  rw [Ideal.ofBits_zero_f32, zero_add]
  unfold Step.slope
  refine congrArg (fun s => Ideal.div (s * _) width) (Finset.sum_congr rfl fun k _ => ?_)
  rw [val_main_v32_apply, twRef]
  have e : (idx_main_v33 (idx_main_v34 (idx_main_v41 i 0)) k 0).val = (i 0).val := by
    show (i 0).val * 1 + 0 = _
    omega
  rw [e]
  exact congrArg₂ (· * ·) (read2 x4 _ e rfl) rfl

theorem dh1Ref (f0 : ∀ i, IsReal (x0 i)) (f1 : ∀ i, IsReal (x1 i)) (f2 : ∀ i, IsReal (x2 i)) (f3 : ∀ i, IsReal (x3 i))
    (f4 : ∀ i, IsReal (x4 i)) (f5 : ∀ i, IsReal (x5 i)) (i : S8192x1024.Idx) :
    val_main_v46 (F := Ideal) x0 x1 x2 x3 x4 x5 x6 i = dh1 x0 x1 x2 x3 x4 x5 x6 (i 0).val (i 1).val := by
  rw [val_main_v46_apply, val_main_v45_apply, val_main_v44_apply, val_main_v43_apply, val_main_v42_apply, val_main_v37_apply,
    val_main_v36_apply, val_main_v35_apply, slopeRef, scaleRef, twRef]
  have ht : ∀ k, IsReal (tw x0 x1 x2 x3 x5 (i 0).val k) := fun k =>
    ((isReal_sum _ _ fun l _ => (isReal_at2 x0 f0 _ _).mul (isReal_at2 x2 f2 _ _)).add
      (isReal_sum _ _ fun l _ => (isReal_at2 x1 f1 _ _).mul (isReal_at2 x3 f3 _ _))).mul (isReal_at2 x5 f5 _ _)
  refine Eq.trans ?_ (back_eq (n := 1024) (d := at2 (n := 8192) (k := 1024) x6) (j := (i 1).val) ht fun k => isReal_at2 x4 f4 (i 0).val k)
  rw [← eq_at2 x6 i, ← eq_at2 x4 i]
  rfl

theorem gwRef (i : S1x1024.Idx) : val_main_v47 (F := Ideal) x0 x1 x2 x3 x4 i = ∑ r : Fin 8192, part x0 x1 x2 x3 x4 r.val (i 1).val := by
  rw [val_main_v47_apply, val_main_v31_apply, val_main_cst_4_apply]
  show Ideal.ofBits .f32 0x00000000#32 + _ = _
  rw [Ideal.ofBits_zero_f32, zero_add, Fin.sum_univ_one, val_main_v28_apply, val_main_v27_apply, val_main_cst_3_apply]
  show Ideal.ofBits .f32 0x00000000#32 + _ = _
  rw [Ideal.ofBits_zero_f32, zero_add]
  refine Finset.sum_congr rfl fun r _ => ?_
  rw [val_main_v26_apply, duRef, unitRef]
  have e : (idx_main_v27 (idx_main_v28 (idx_main_v31 (idx_main_v47 i) 0)) r 1).val = (i 1).val := by
    show 0 * 1024 + (i 1).val = _
    omega
  rw [e]
  exact mul_comm (unit 1024 (at2 x4) r.val (i 1).val) (du x0 x1 x2 x3 r.val (i 1).val)

theorem dmixRef (f0 : ∀ i, IsReal (x0 i)) (f1 : ∀ i, IsReal (x1 i)) (f2 : ∀ i, IsReal (x2 i)) (f3 : ∀ i, IsReal (x3 i))
    (f4 : ∀ i, IsReal (x4 i)) (f5 : ∀ i, IsReal (x5 i)) (i : S8192x1024.Idx) :
    val_main_v51 (F := Ideal) x0 x1 x2 x3 x4 x5 x6 x7 i = dmix x0 x1 x2 x3 x4 x5 x6 x7 (i 0).val (i 1).val := by
  rw [val_main_v51_apply]
  refine Finset.sum_congr rfl fun k _ => congrArg₂ (· * ·) ?_ ?_
  · exact dh1Ref x0 x1 x2 x3 x4 x5 x6 f0 f1 f2 f3 f4 f5 _
  · rw [val_main_v49_apply]
    exact read2 x7 _ rfl rfl

end Cert.DguRefIdeal.Sum

namespace Cert.Proof

open Idealize.ShloMosaic Idealize.SL.Sem Step

/-- The call's results are the reference's, over the extended reals and finite operands. -/
theorem algebraic_Dgu [Cert.DguIdeal.Facts] [Cert.DguRefIdeal.Facts] [Cert.Pre_dgu_finite.Facts] :
    algebraic_DguIdeal_DguRefIdeal_pre_dgu_finite := by
  intro m ρ m' ρ' hpre hagree
  refine ⟨fun c => Cert.DguIdeal.Sum.result7 m c, fun c => Cert.DguIdeal.Sum.result8 m c, fun c => Cert.DguIdeal.Sum.result9 m c,
    (θ_run Cert.DguIdeal.defs _ _).mono
      (fun _ h c => ⟨(h c).1.trans (Cert.DguIdeal.Sum.final7 m c), (h c).2.1.trans (Cert.DguIdeal.Sum.final8 m c),
        (h c).2.2.1.trans (Cert.DguIdeal.Sum.final9 m c), (h c).2.2.2⟩) (Cert.DguIdeal.Value.run_blocks (F := Ideal) m ρ), ?_⟩
  refine (θ_run Cert.DguRefIdeal.defs _ _).mono (fun _ h c => ⟨?_, ?_, ?_, (h c).2.2.2⟩)
    (Cert.DguRefIdeal.Value.run (F := Ideal) m' ρ')
  · refine ((h c).1.trans (Cert.DguRefIdeal.Read.val_main_v46_eq ..)).trans ?_
    obtain ⟨a0, a1, a2, a3, a4, a5, a6, a7⟩ := hagree c
    obtain ⟨p0, p1, p2, p3, p4, p5, p6, p7⟩ := hpre c
    rw [a0, a1, a2, a3, a4, a5, a6]
    funext i
    exact Cert.DguRefIdeal.Sum.dh1Ref _ _ _ _ _ _ _ (isReal_of_ones _ _ p0) (isReal_of_ones _ _ p1) (isReal_of_ones _ _ p2)
      (isReal_of_ones _ _ p3) (isReal_of_ones _ _ p4) (isReal_of_ones _ _ p5) i
  · refine ((h c).2.1.trans (Cert.DguRefIdeal.Read.val_main_v47_eq ..)).trans ?_
    obtain ⟨a0, a1, a2, a3, a4, a5, a6, a7⟩ := hagree c
    rw [a0, a1, a2, a3, a4]
    funext i
    exact Cert.DguRefIdeal.Sum.gwRef _ _ _ _ _ i
  · refine ((h c).2.2.1.trans (Cert.DguRefIdeal.Read.val_main_v51_eq ..)).trans ?_
    obtain ⟨a0, a1, a2, a3, a4, a5, a6, a7⟩ := hagree c
    obtain ⟨p0, p1, p2, p3, p4, p5, p6, p7⟩ := hpre c
    rw [a0, a1, a2, a3, a4, a5, a6, a7]
    funext i
    exact Cert.DguRefIdeal.Sum.dmixRef _ _ _ _ _ _ _ _ (isReal_of_ones _ _ p0) (isReal_of_ones _ _ p1) (isReal_of_ones _ _ p2)
      (isReal_of_ones _ _ p3) (isReal_of_ones _ _ p4) (isReal_of_ones _ _ p5) i

end Cert.Proof

end
-- ==== Proof.DownLossValue.lean ====
/- The value of the call `DownLoss`: the down projection added to the residual, the last normalisation, the squared
   error against the targets, and the error's gradient taken back through that normalisation.

   Blocks of 512 rows; the loss and the normalisation weight's gradient are summed over the blocks in rows the grid points
   share. -/
module

public import proofs.«01_k».proof.Defs
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Gen.Pre_down_loss_finite
public import Idealize.ShloMosaic.Lib.Pipeline.ValueKit.Geometry
public import Idealize.ShloMosaic.Lib.Pipeline.ValueKit.Acc
public import proofs.«01_k».proof.Proof.Reading
public import proofs.«01_k».proof.Proof.Norm

@[expose] public section

noncomputable section

namespace Step.Down

open Idealize.ShloMosaic Idealize.ShloMosaic.ValueIdx Step

/-- The residual after the down projection. -/
def hh (act : (⟨2, ![8192, 2816]⟩ : Shape).Idx → EReal) (wd : (⟨2, ![2816, 1024]⟩ : Shape).Idx → EReal) (h1 : (⟨2, ![8192, 1024]⟩ : Shape).Idx → EReal) (i j : ℕ) : EReal :=
  at2 h1 i j + ∑ k : Fin 2816, at2 act i k.val * at2 wd k.val j

/-- The error of the normalised row against the targets. -/
def err (act : (⟨2, ![8192, 2816]⟩ : Shape).Idx → EReal) (wd : (⟨2, ![2816, 1024]⟩ : Shape).Idx → EReal) (h1 : (⟨2, ![8192, 1024]⟩ : Shape).Idx → EReal)
    (tgt : (⟨2, ![8192, 1024]⟩ : Shape).Idx → EReal) (w3 : (⟨2, ![1, 1024]⟩ : Shape).Idx → EReal) (i j : ℕ) : EReal :=
  unit 1024 (hh act wd h1) i j * at2 w3 0 j - at2 tgt i j

/-- One part in 1024, and one in 2048. -/
def part1024 : EReal := Ideal.ofBits .f32 0x3A800000#32
def part2048 : EReal := Ideal.ofBits .f32 0x3A000000#32

/-- The loss's gradient at the error. -/
def ct (act : (⟨2, ![8192, 2816]⟩ : Shape).Idx → EReal) (wd : (⟨2, ![2816, 1024]⟩ : Shape).Idx → EReal) (h1 : (⟨2, ![8192, 1024]⟩ : Shape).Idx → EReal)
    (tgt : (⟨2, ![8192, 1024]⟩ : Shape).Idx → EReal) (w3 : (⟨2, ![1, 1024]⟩ : Shape).Idx → EReal) (i j : ℕ) : EReal := err act wd h1 tgt w3 i j * part1024

/-- The same times the normalisation's weight. -/
def tw (act : (⟨2, ![8192, 2816]⟩ : Shape).Idx → EReal) (wd : (⟨2, ![2816, 1024]⟩ : Shape).Idx → EReal) (h1 : (⟨2, ![8192, 1024]⟩ : Shape).Idx → EReal)
    (tgt : (⟨2, ![8192, 1024]⟩ : Shape).Idx → EReal) (w3 : (⟨2, ![1, 1024]⟩ : Shape).Idx → EReal) (i j : ℕ) : EReal := ct act wd h1 tgt w3 i j * at2 w3 0 j

/-- The residual's cotangent. -/
def dh2 (act : (⟨2, ![8192, 2816]⟩ : Shape).Idx → EReal) (wd : (⟨2, ![2816, 1024]⟩ : Shape).Idx → EReal) (h1 : (⟨2, ![8192, 1024]⟩ : Shape).Idx → EReal)
    (tgt : (⟨2, ![8192, 1024]⟩ : Shape).Idx → EReal) (w3 : (⟨2, ![1, 1024]⟩ : Shape).Idx → EReal) (i j : ℕ) : EReal := backOnly 1024 (tw act wd h1 tgt w3) (hh act wd h1) i j

/-- One row's part of the gradient of the normalisation's weight. -/
def part (act : (⟨2, ![8192, 2816]⟩ : Shape).Idx → EReal) (wd : (⟨2, ![2816, 1024]⟩ : Shape).Idx → EReal) (h1 : (⟨2, ![8192, 1024]⟩ : Shape).Idx → EReal)
    (tgt : (⟨2, ![8192, 1024]⟩ : Shape).Idx → EReal) (w3 : (⟨2, ![1, 1024]⟩ : Shape).Idx → EReal) (r j : ℕ) : EReal := ct act wd h1 tgt w3 r j * unit 1024 (hh act wd h1) r j

/-- One row's squared error. -/
def sq (act : (⟨2, ![8192, 2816]⟩ : Shape).Idx → EReal) (wd : (⟨2, ![2816, 1024]⟩ : Shape).Idx → EReal) (h1 : (⟨2, ![8192, 1024]⟩ : Shape).Idx → EReal)
    (tgt : (⟨2, ![8192, 1024]⟩ : Shape).Idx → EReal) (w3 : (⟨2, ![1, 1024]⟩ : Shape).Idx → EReal) (r : ℕ) : EReal := ∑ k : Fin 1024, err act wd h1 tgt w3 r k.val * err act wd h1 tgt w3 r k.val

theorem part1024_eq : part1024 = ((1 / 1024 : ℝ) : EReal) := by
  unfold part1024
  rw [ofBits_normal _ 1 0 117 (if_neg (by decide)) (by decide) (by decide) (by decide) (by decide)]
  congr 1
  norm_num [zpow_neg]

theorem part2048_eq : part2048 = ((1 / 2048 : ℝ) : EReal) := by
  unfold part2048
  rw [ofBits_normal _ 1 0 116 (if_neg (by decide)) (by decide) (by decide) (by decide) (by decide)]
  congr 1
  norm_num [zpow_neg]

theorem half_eq : Ideal.ofBits .f32 0x3F000000#32 = ((1 / 2 : ℝ) : EReal) := by
  rw [ofBits_normal _ 1 0 126 (if_neg (by decide)) (by decide) (by decide) (by decide) (by decide)]
  congr 1
  norm_num [zpow_neg]

theorem two_eq : Ideal.ofBits .f32 0x40000000#32 = ((2 : ℝ) : EReal) := by
  rw [ofBits_normal _ 1 0 128 (if_neg (by decide)) (by decide) (by decide) (by decide) (by decide)]
  congr 1
  norm_num

/-- Half the mean's gradient of twice the error is the error's part. -/
theorem ct_eq {e : EReal} (he : IsReal e) :
    Ideal.div (Ideal.ofBits .f32 0x3F000000#32 * Ideal.ofBits .f32 0x3F800000#32) width * (Ideal.ofBits .f32 0x40000000#32 * e) = e * part1024 := by
  obtain ⟨x, rfl⟩ := he
  rw [half_eq, Ideal.ofBits_one_f32, two_eq, part1024_eq, width_eq, mul_one, div_coe _ (by norm_num)]
  simp only [← EReal.coe_mul]
  congr 1
  ring

/-- Half the total of the rows' mean squares is the total of the blocks' parts of the squares. -/
theorem loss_eq {f : ℕ → EReal} (hf : ∀ r, IsReal (f r)) :
    Ideal.ofBits .f32 0x3F000000#32 * (∑ r : Fin 8192, Ideal.div (f r.val) width)
      = ∑ s ∈ Finset.range 16, part2048 * ∑ r : Fin 512, f (512 * s + r.val) := by
  choose x hx using hf
  have e1 : ∀ s : ℕ, part2048 * ∑ r : Fin 512, f (512 * s + r.val) = ∑ r : Fin 512, (((1 / 2048) * x (512 * s + r.val) : ℝ) : EReal) := fun s => by
    rw [coe_sum, ← Finset.mul_sum, EReal.coe_mul, ← coe_sum, part2048_eq]
    exact congrArg _ (Finset.sum_congr rfl fun r _ => hx _)
  rw [Finset.sum_congr rfl fun s _ => e1 s, sum_blocks 16 512 8192 rfl fun r => (((1 / 2048) * x r : ℝ) : EReal)]
  have e2 : ∀ r : Fin 8192, Ideal.div (f r.val) width = ((x r.val / 1024 : ℝ) : EReal) := fun r => by
    rw [hx, width_eq, div_coe _ (by norm_num)]
  rw [Finset.sum_congr rfl fun r _ => e2 r, coe_sum, coe_sum, half_eq, ← EReal.coe_mul, Finset.mul_sum]
  exact congrArg _ (Finset.sum_congr rfl fun r _ => by ring)

/-- A matrix's entries all together, one row after the other. -/
theorem sum_idx2 {n k : ℕ} (v : (⟨2, ![n, k]⟩ : Shape).Idx → EReal) : ∑ i, v i = ∑ r : Fin n, ∑ j : Fin k, at2 v r.val j.val := by
  let e : (⟨2, ![n, k]⟩ : Shape).Idx ≃ Fin n × Fin k :=
    ⟨fun y => (y 0, y 1), fun p => ix2 p.1 p.2, fun y => (eq_ix2 y).symm, fun _ => rfl⟩
  rw [← Equiv.sum_comp e.symm, Fintype.sum_prod_type]
  exact Finset.sum_congr rfl fun r _ => Finset.sum_congr rfl fun j _ => eq_at2 v _

end Step.Down

namespace Cert.DownLossIdeal.Sum

open Cert.DownLossIdeal Cert.DownLossIdeal.Gen Idealize.ShloMosaic Idealize.ShloMosaic.TcCoe Idealize.ShloMosaic.ValueIdx Step Step.Down

variable (m : (ℓ : Loc nD τ sig) → Buf (Elt Ideal) ℓ)

abbrev act (c : Dev nD) : S8192x2816.Idx → EReal := m ((c.tc : Thread nD τ).loc main_arg0)
abbrev wd (c : Dev nD) : S2816x1024.Idx → EReal := m ((c.tc : Thread nD τ).loc main_arg1)
abbrev h1 (c : Dev nD) : S8192x1024.Idx → EReal := m ((c.tc : Thread nD τ).loc main_arg2)
abbrev tgt (c : Dev nD) : S8192x1024.Idx → EReal := m ((c.tc : Thread nD τ).loc main_arg3)
abbrev w3 (c : Dev nD) : S1x1024.Idx → EReal := m ((c.tc : Thread nD τ).loc main_arg4)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)

/-- The blocks of a grid point: 512 rows of the activations' operands; the weights come whole. -/
theorem block0 (c : Dev nD) (t : Fin cfg0.N) (y : S512x2816.Idx) :
    (iblk m c 0 t : Vec Ideal S512x2816 .bf16) y = at2 (n := 8192) (k := 2816) (act m c) (512 * t.val + (y 0).val) (y 1).val := by
  obtain ⟨e0, e1⟩ := index0 t
  refine (congrFun (V_main_arg0 m c) _).trans (read2 (n := 8192) (k := 2816) (act m c) _ ?_ ?_)
  · show win0_0.index t 0 * 512 + 1 * (y 0).val = _
    rw [e0]; omega
  · show win0_0.index t 1 * 2816 + 1 * (y 1).val = _
    rw [e1]; omega

theorem block1 (c : Dev nD) (t : Fin cfg0.N) (y : S2816x1024.Idx) :
    (iblk m c 1 t : Vec Ideal S2816x1024 .bf16) y = at2 (n := 2816) (k := 1024) (wd m c) ((y 0).val) (y 1).val := by
  obtain ⟨e0, e1⟩ := index1 t
  refine (congrFun (V_main_arg1 m c) _).trans (read2 (n := 2816) (k := 1024) (wd m c) _ ?_ ?_)
  · show win0_1.index t 0 * 2816 + 1 * (y 0).val = _
    rw [e0]; omega
  · show win0_1.index t 1 * 1024 + 1 * (y 1).val = _
    rw [e1]; omega

theorem block2 (c : Dev nD) (t : Fin cfg0.N) (y : S512x1024.Idx) :
    (iblk m c 2 t : Vec Ideal S512x1024 .f32) y = at2 (n := 8192) (k := 1024) (h1 m c) (512 * t.val + (y 0).val) (y 1).val := by
  obtain ⟨e0, e1⟩ := index2 t
  refine (congrFun (V_main_arg2 m c) _).trans (read2 (n := 8192) (k := 1024) (h1 m c) _ ?_ ?_)
  · show win0_2.index t 0 * 512 + 1 * (y 0).val = _
    rw [e0]; omega
  · show win0_2.index t 1 * 1024 + 1 * (y 1).val = _
    rw [e1]; omega

theorem block3 (c : Dev nD) (t : Fin cfg0.N) (y : S512x1024.Idx) :
    (iblk m c 3 t : Vec Ideal S512x1024 .f32) y = at2 (n := 8192) (k := 1024) (tgt m c) (512 * t.val + (y 0).val) (y 1).val := by
  obtain ⟨e0, e1⟩ := index3 t
  refine (congrFun (V_main_arg3 m c) _).trans (read2 (n := 8192) (k := 1024) (tgt m c) _ ?_ ?_)
  · show win0_3.index t 0 * 512 + 1 * (y 0).val = _
    rw [e0]; omega
  · show win0_3.index t 1 * 1024 + 1 * (y 1).val = _
    rw [e1]; omega

theorem block4 (c : Dev nD) (t : Fin cfg0.N) (y : S1x1024.Idx) :
    (iblk m c 4 t : Vec Ideal S1x1024 .f32) y = at2 (n := 1) (k := 1024) (w3 m c) ((y 0).val) (y 1).val := by
  obtain ⟨e0, e1⟩ := index4 t
  refine (congrFun (V_main_arg4 m c) _).trans (read2 (n := 1) (k := 1024) (w3 m c) _ ?_ ?_)
  · show win0_4.index t 0 * 1 + 1 * (y 0).val = _
    rw [e0]; omega
  · show win0_4.index t 1 * 1024 + 1 * (y 1).val = _
    rw [e1]; omega

theorem zero2 : (![0, 0] : Fin 2 → ℕ) = fun _ => 0 := by decide

/-- The error's factor in its gradient, as the body writes it. -/
abbrev cstA : EReal := Scalar.ofBits (F := Ideal) .f32 0x3A800000#32

section Point
variable (c : Dev nD) (i : grid0.Coords) (arg1 : Memref sig .tc .vmem S512x2816 .bf16) (harg1 : arg1.IsWhole)
  (arg2 : Memref sig .tc .vmem S2816x1024 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S1x128 .f32) (harg7 : arg7.IsWhole)
  (arg8 : Memref sig .tc .vmem S1x1024 .f32) (harg8 : arg8.IsWhole)

  (x0 : Vec Ideal S512x2816 .bf16) (x1 : Vec Ideal S2816x1024 .bf16) (x2 x3 : Vec Ideal S512x1024 .f32) (x4 : Vec Ideal S1x1024 .f32)

/-- A point leaves in the residual's block the residual's cotangent, … -/
theorem out_A_5 (hc0 : cond0_0 i) :
    out0_A_5 (F := Ideal) c i arg1 harg1 arg2 harg2 arg3 harg3 arg4 harg4 arg5 harg5 arg6 harg6 arg7 harg7 arg8 harg8 hc0 x0 x1 x2 x3 x4
      = k0_pay3 (k0_pay7 x2 x0 x1) (k0_pay8 x2 x0 x1) x4 (k0_pay9 x2 x0 x1 x4 x3) cstA := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread,
    View.ld_unit_zero (S := S512x2816) zero2, View.ld_unit_zero (S := S2816x1024) zero2, View.ld_unit_zero (S := S512x1024) zero2,
    View.ld_unit_zero (S := S1x1024) zero2, View.ld_unit_zero (S := S1x128) zero2]

/-- … in the loss's row the loss so far and its own part, … -/
theorem out_A_6 (hc0 : cond0_0 i) :
    out0_A_6 (F := Ideal) c i arg1 harg1 arg2 harg2 arg3 harg3 arg4 harg4 arg5 harg5 arg6 harg6 arg7 harg7 arg8 harg8 hc0 x0 x1 x2 x3 x4
      = k0_pay10 x2 x0 x1 x4 x3 (k0_pay4 (F := Ideal)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x128) zero2, View.readCov_unit_zero (S := S1x128) _ zero2]
  simp only [View.readAt_eq_ld, harg1.read_unread, harg2.read_unread, harg3.read_unread, harg4.read_unread, harg5.read_unread, harg6.read_unread, harg7.read_unread, harg8.read_unread,
    View.ld_unit_zero (S := S512x2816) zero2, View.ld_unit_zero (S := S2816x1024) zero2, View.ld_unit_zero (S := S512x1024) zero2,
    View.ld_unit_zero (S := S1x1024) zero2, View.ld_unit_zero (S := S1x128) zero2]

/-- … and in the weight's row the gradient so far and its own part. -/
theorem out_A_7 (hc0 : cond0_0 i) :
    out0_A_7 (F := Ideal) c i arg1 harg1 arg2 harg2 arg3 harg3 arg4 harg4 arg5 harg5 arg6 harg6 arg7 harg7 arg8 harg8 hc0 x0 x1 x2 x3 x4
      = k0_pay2 (k0_pay8 x2 x0 x1) (k0_pay9 x2 x0 x1 x4 x3) cstA (k0_pay5 (F := Ideal)) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x1024) zero2, View.readCov_unit_zero (S := S1x1024) _ zero2]
  simp only [View.readAt_eq_ld, harg1.read_unread, harg2.read_unread, harg3.read_unread, harg4.read_unread, harg5.read_unread, harg6.read_unread, harg7.read_unread, harg8.read_unread,
    View.ld_unit_zero (S := S512x2816) zero2, View.ld_unit_zero (S := S2816x1024) zero2, View.ld_unit_zero (S := S512x1024) zero2,
    View.ld_unit_zero (S := S1x1024) zero2, View.ld_unit_zero (S := S1x128) zero2]

theorem out_B_5 (hc0 : ¬cond0_0 i) (xo6 : Vec Ideal S1x128 .f32) (xo7 : Vec Ideal S1x1024 .f32) :
    out0_B_5 (F := Ideal) c i arg1 harg1 arg2 harg2 arg3 harg3 arg4 harg4 arg5 harg5 arg6 harg6 arg7 harg7 arg8 harg8 hc0 x0 x1 x2 x3 x4 xo6 xo7
      = k0_pay3 (k0_pay7 x2 x0 x1) (k0_pay8 x2 x0 x1) x4 (k0_pay9 x2 x0 x1 x4 x3) cstA := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread,
    View.ld_unit_zero (S := S512x2816) zero2, View.ld_unit_zero (S := S2816x1024) zero2, View.ld_unit_zero (S := S512x1024) zero2,
    View.ld_unit_zero (S := S1x1024) zero2, View.ld_unit_zero (S := S1x128) zero2]

theorem out_B_6 (hc0 : ¬cond0_0 i) (xo6 : Vec Ideal S1x128 .f32) (xo7 : Vec Ideal S1x1024 .f32) :
    out0_B_6 (F := Ideal) c i arg1 harg1 arg2 harg2 arg3 harg3 arg4 harg4 arg5 harg5 arg6 harg6 arg7 harg7 arg8 harg8 hc0 x0 x1 x2 x3 x4 xo6 xo7
      = k0_pay10 x2 x0 x1 x4 x3 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread,
    View.ld_unit_zero (S := S512x2816) zero2, View.ld_unit_zero (S := S2816x1024) zero2, View.ld_unit_zero (S := S512x1024) zero2,
    View.ld_unit_zero (S := S1x1024) zero2, View.ld_unit_zero (S := S1x128) zero2]

theorem out_B_7 (hc0 : ¬cond0_0 i) (xo6 : Vec Ideal S1x128 .f32) (xo7 : Vec Ideal S1x1024 .f32) :
    out0_B_7 (F := Ideal) c i arg1 harg1 arg2 harg2 arg3 harg3 arg4 harg4 arg5 harg5 arg6 harg6 arg7 harg7 arg8 harg8 hc0 x0 x1 x2 x3 x4 xo6 xo7
      = k0_pay2 (k0_pay8 x2 x0 x1) (k0_pay9 x2 x0 x1 x4 x3) cstA xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread,
    View.ld_unit_zero (S := S512x2816) zero2, View.ld_unit_zero (S := S2816x1024) zero2, View.ld_unit_zero (S := S512x1024) zero2,
    View.ld_unit_zero (S := S1x1024) zero2, View.ld_unit_zero (S := S1x128) zero2]

end Point

/-- The values of a grid point, read at an index of its block. -/
theorem hhBlock (c : Dev nD) (t : Fin cfg0.N) (y : S512x1024.Idx) :
    k0_pay6 (F := Ideal) (iblk m c 2 t) (iblk m c 0 t) (iblk m c 1 t) y = hh (act m c) (wd m c) (h1 m c) (512 * t.val + (y 0).val) (y 1).val := by
  have h0 : (y 0).val < 512 := (y 0).isLt
  have h1' : (y 1).val < 1024 := (y 1).isLt
  unfold k0_pay6 hh
  refine congrArg₂ (· + ·) (block2 m c t y) ?_
  refine (matmul_nn (M := 512) (K := 2816) (N := 1024) _ none _ _ y).trans (Finset.sum_congr rfl fun k _ => congrArg₂ (· * ·) ?_ ?_)
  · exact at2_of _ (fun i j => at2 (n := 8192) (k := 2816) (act m c) (512 * t.val + i) j) (block0 m c t) h0 k.isLt
  · exact at2_of _ (fun i j => at2 (n := 2816) (k := 1024) (wd m c) i j) (block1 m c t) k.isLt h1'

theorem scaleBlock (c : Dev nD) (t : Fin cfg0.N) (y : S512x1.Idx) :
    k0_pay7 (F := Ideal) (iblk m c 2 t) (iblk m c 0 t) (iblk m c 1 t) y = rscale 1024 (hh (act m c) (wd m c) (h1 m c)) (512 * t.val + (y 0).val) := by
  unfold k0_pay7
  refine (scaleCol (T := 512) (n := 1024) _ _ _ _ _ _ y).trans ?_
  exact rscale_congr fun k hk => at2_of _ (fun i j => hh (act m c) (wd m c) (h1 m c) (512 * t.val + i) j) (hhBlock m c t) (y 0).isLt hk

theorem unitBlock (c : Dev nD) (t : Fin cfg0.N) (y : S512x1024.Idx) :
    k0_pay8 (F := Ideal) (iblk m c 2 t) (iblk m c 0 t) (iblk m c 1 t) y = unit 1024 (hh (act m c) (wd m c) (h1 m c)) (512 * t.val + (y 0).val) (y 1).val := by
  unfold k0_pay8 unit
  exact congrArg₂ (· * ·) (hhBlock m c t y) ((spreadCol (T := 512) (n := 1024) (by decide) _ _ y).trans (scaleBlock m c t _))

theorem w3Block (c : Dev nD) (t : Fin cfg0.N) (y : S512x1024.Idx) :
    broadcastTo S512x1024 (iblk m c 4 t : Vec Ideal S1x1024 .f32) broadcasts_S1x1024_S512x1024 y = at2 (n := 1) (k := 1024) (w3 m c) 0 (y 1).val :=
  (spreadRow (φ := .f32) (T := 512) (n := 1024) (by decide) _ _ y).trans
    (at2_of _ (fun i j => at2 (n := 1) (k := 1024) (w3 m c) i j) (block4 m c t) (by decide) (y 1).isLt)

theorem errBlock (c : Dev nD) (t : Fin cfg0.N) (y : S512x1024.Idx) :
    k0_pay9 (F := Ideal) (iblk m c 2 t) (iblk m c 0 t) (iblk m c 1 t) (iblk m c 4 t) (iblk m c 3 t) y = err (act m c) (wd m c) (h1 m c) (tgt m c) (w3 m c) (512 * t.val + (y 0).val) (y 1).val := by
  unfold k0_pay9 err
  exact congrArg₂ (· - ·) (congrArg₂ (· * ·) (unitBlock m c t y) (w3Block m c t y)) (block3 m c t y)

theorem ctBlock (c : Dev nD) (t : Fin cfg0.N) (y : S512x1024.Idx) :
    k0_pay1 (F := Ideal) (k0_pay9 (iblk m c 2 t) (iblk m c 0 t) (iblk m c 1 t) (iblk m c 4 t) (iblk m c 3 t)) cstA y = ct (act m c) (wd m c) (h1 m c) (tgt m c) (w3 m c) (512 * t.val + (y 0).val) (y 1).val :=
  congrArg (· * part1024) (errBlock m c t y)

theorem dh2Block (c : Dev nD) (t : Fin cfg0.N) (y : S512x1024.Idx) :
    k0_pay3 (F := Ideal) (k0_pay7 (iblk m c 2 t) (iblk m c 0 t) (iblk m c 1 t)) (k0_pay8 (iblk m c 2 t) (iblk m c 0 t) (iblk m c 1 t)) (iblk m c 4 t) (k0_pay9 (iblk m c 2 t) (iblk m c 0 t) (iblk m c 1 t) (iblk m c 4 t) (iblk m c 3 t)) cstA y
      = dh2 (act m c) (wd m c) (h1 m c) (tgt m c) (w3 m c) (512 * t.val + (y 0).val) (y 1).val := by
  have h0 : (y 0).val < 512 := (y 0).isLt
  have tB : ∀ z : S512x1024.Idx, mulf (F := Ideal) (φ := .f32) (k0_pay1 (k0_pay9 (iblk m c 2 t) (iblk m c 0 t) (iblk m c 1 t) (iblk m c 4 t) (iblk m c 3 t)) cstA)
      (broadcastTo S512x1024 (iblk m c 4 t : Vec Ideal S1x1024 .f32) broadcasts_S1x1024_S512x1024) z
        = tw (act m c) (wd m c) (h1 m c) (tgt m c) (w3 m c) (512 * t.val + (z 0).val) (z 1).val := fun z =>
    congrArg₂ (· * ·) (ctBlock m c t z) (w3Block m c t z)
  unfold k0_pay3 dh2 backOnly
  refine congrArg₂ (· * ·) ?_ (congrArg₂ (· - ·) (tB y) (congrArg₂ (· * ·) (unitBlock m c t y) ?_))
  · exact (spreadCol (T := 512) (n := 1024) (by decide) _ _ y).trans (scaleBlock m c t _)
  · refine (spreadCol (T := 512) (n := 1024) (by decide) _ _ y).trans ?_
    refine congrArg (fun s => Ideal.div s width) ((rowSum (T := 512) (n := 1024) _ _ _ _ _ _ _).trans (Finset.sum_congr rfl fun k _ => ?_))
    exact at2_of _ (fun i j => tw (act m c) (wd m c) (h1 m c) (tgt m c) (w3 m c) (512 * t.val + i) j * unit 1024 (hh (act m c) (wd m c) (h1 m c)) (512 * t.val + i) j)
      (fun z => congrArg₂ (· * ·) (tB z) (unitBlock m c t z)) h0 k.isLt

/-- What a point adds to the loss's row and to the weight's. -/
def lossTerm (c : Dev nD) (s : ℕ) : EReal := part2048 * ∑ r : Fin 512, sq (act m c) (wd m c) (h1 m c) (tgt m c) (w3 m c) (512 * s + r.val)
def term (c : Dev nD) (s j : ℕ) : EReal := ∑ r : Fin 512, part (act m c) (wd m c) (h1 m c) (tgt m c) (w3 m c) (512 * s + r.val) j

theorem lossBlock (c : Dev nD) (t : Fin cfg0.N) (acc : Vec Ideal S1x128 .f32) (y : S1x128.Idx) :
    k0_pay10 (F := Ideal) (iblk m c 2 t) (iblk m c 0 t) (iblk m c 1 t) (iblk m c 4 t) (iblk m c 3 t) acc y = acc y + lossTerm m c t.val := by
  unfold k0_pay10
  simp only [shapeCast_self]
  refine congrArg (acc y + ·) (congrArg (part2048 * ·) ?_)
  refine (Ideal.multiReduction_add_total (φ := .f32) _ 0x00000000#32 reduces_S1x512x1024_S1 (fun b => by match b with | ⟨0, _⟩ => rfl) (.inl rfl) rfl _).trans ?_
  refine (Equiv.sum_comp (Shape.reshapeEquiv shapeCasts_S512x1024_S1x512x1024) _).trans ((sum_idx2 (n := 512) (k := 1024) _).trans ?_)
  refine Finset.sum_congr rfl fun r _ => Finset.sum_congr rfl fun j _ => ?_
  exact at2_of _ (fun i j => err (act m c) (wd m c) (h1 m c) (tgt m c) (w3 m c) (512 * t.val + i) j * err (act m c) (wd m c) (h1 m c) (tgt m c) (w3 m c) (512 * t.val + i) j)
    (fun z => congrArg₂ (· * ·) (errBlock m c t z) (errBlock m c t z)) r.isLt j.isLt

theorem partBlock (c : Dev nD) (t : Fin cfg0.N) (acc : Vec Ideal S1x1024 .f32) (y : S1x1024.Idx) :
    k0_pay2 (F := Ideal) (k0_pay8 (iblk m c 2 t) (iblk m c 0 t) (iblk m c 1 t)) (k0_pay9 (iblk m c 2 t) (iblk m c 0 t) (iblk m c 1 t) (iblk m c 4 t) (iblk m c 3 t)) cstA acc y = acc y + term m c t.val (y 1).val := by
  unfold k0_pay2
  simp only [shapeCast_self]
  refine congrArg (acc y + ·) ((colSum (T := 512) (n := 1024) _ _ _ _ _ _ y).trans (Finset.sum_congr rfl fun r _ => ?_))
  exact at2_of _ (fun i j => part (act m c) (wd m c) (h1 m c) (tgt m c) (w3 m c) (512 * t.val + i) j)
    (fun z => congrArg₂ (· * ·) (ctBlock m c t z) (unitBlock m c t z)) r.isLt (y 1).isLt

theorem zeroLoss (y : S1x128.Idx) : (k0_pay4 (F := Ideal)) y = 0 := Ideal.ofBits_zero_f32
theorem zeroRow (y : S1x1024.Idx) : (k0_pay5 (F := Ideal)) y = 0 := Ideal.ofBits_zero_f32

/-- The shared rows after a point: the parts of the points so far. -/
theorem shared6 (c : Dev nD) : ∀ (n : ℕ) (hn : n < cfg0.N) (y : S1x128.Idx),
    (outsAt0 m c n hn).2.1 y = ∑ s ∈ Finset.range (n + 1), lossTerm m c s
  | 0, hn, y => by
    have e := outsAt0_A m c ⟨0, hn⟩ rfl
    dsimp only at e
    rw [e]
    dsimp only
    rw [out_A_6, lossBlock, zeroLoss, zero_add]
    simp
  | n + 1, hn, y => by
    have hN : cfg0.N = 16 := N_0
    have e := outsAt0_B m c ⟨n + 1, hn⟩ (by show ¬(n + 1) % 16 = 0; omega)
    dsimp only at e
    rw [e]
    dsimp only
    rw [out_B_6, lossBlock, Finset.sum_range_succ]
    exact congrArg (· + _) (shared6 c n _ y)

theorem shared7 (c : Dev nD) : ∀ (n : ℕ) (hn : n < cfg0.N) (y : S1x1024.Idx),
    (outsAt0 m c n hn).2.2 y = ∑ s ∈ Finset.range (n + 1), term m c s (y 1).val
  | 0, hn, y => by
    have e := outsAt0_A m c ⟨0, hn⟩ rfl
    dsimp only at e
    rw [e]
    dsimp only
    rw [out_A_7, partBlock, zeroRow, zero_add]
    simp
  | n + 1, hn, y => by
    have hN : cfg0.N = 16 := N_0
    have e := outsAt0_B m c ⟨n + 1, hn⟩ (by show ¬(n + 1) % 16 = 0; omega)
    dsimp only at e
    rw [e]
    dsimp only
    rw [out_B_7, partBlock, Finset.sum_range_succ]
    exact congrArg (· + _) (shared7 c n _ y)

/-- The call's three results, each one array. -/
def result5 (c : Dev nD) : S8192x1024.Idx → EReal := fun i => dh2 (act m c) (wd m c) (h1 m c) (tgt m c) (w3 m c) (i 0).val (i 1).val
def lossTotal (c : Dev nD) : EReal := ∑ s ∈ Finset.range 16, lossTerm m c s
def result6 (c : Dev nD) : S1x128.Idx → EReal := fun _ => lossTotal m c
def total (c : Dev nD) (j : ℕ) : EReal := ∑ r : Fin 8192, part (act m c) (wd m c) (h1 m c) (tgt m c) (w3 m c) r.val j
def result7 (c : Dev nD) : S1x1024.Idx → EReal := fun i => total m c (i 1).val

theorem staged5 (c : Dev nD) (t : Fin cfg0.N) (y : S512x1024.Idx) : (outsAt0 m c t.val t.isLt).1 y
    = dh2 (act m c) (wd m c) (h1 m c) (tgt m c) (w3 m c) (512 * t.val + (y 0).val) (y 1).val := by
  by_cases h0 : t.val % 16 = 0
  · rw [outsAt0_A m c t h0]
    dsimp only
    rw [out_A_5]
    exact dh2Block m c t y
  · rw [outsAt0_B m c t h0]
    dsimp only
    rw [out_B_5]
    exact dh2Block m c t y

/-- After the run the three arrays are these. -/
theorem final5 (c : Dev nD) : (dats m 0 c).arrAt 5 cfg0.N = result5 m c := by
  refine (dats m 0 c).arrAt_eq_of_cover 5 (result5 m c) (fun t _ => ?_)
    ((by decide +kernel : (cfg0.win 5).Covers).cover _ (Memref.isWhole_whole _))
  rw [Value.flushed5]
  obtain ⟨e0, e1⟩ := index5 t
  funext y
  refine (staged5 m c t y).trans ?_
  show _ = dh2 (act m c) (wd m c) (h1 m c) (tgt m c) (w3 m c) (win0_5.index t (0 : Fin 2) * 512 + 1 * (y 0).val) (win0_5.index t (1 : Fin 2) * 1024 + 1 * (y 1).val)
  rw [e0, e1]
  refine congrArg₂ _ ?_ ?_ <;> omega

theorem readRow6 (t : Fin cfg0.N) (f : ℕ → EReal) (y : ((cfg0.win 6).xblock (grid0.coords t)).Idx) :
    View.read (Elt Ideal) ((cfg0.win 6).blk t).view (fun i : S1x128.Idx => f (i 1).val) y = f (y 1).val := by
  obtain ⟨e0, e1⟩ := index6 t
  show f (win0_6.index t (1 : Fin 2) * 128 + 1 * (y 1).val) = _
  rw [e1]
  exact congrArg f (by omega)

theorem readRow7 (t : Fin cfg0.N) (f : ℕ → EReal) (y : ((cfg0.win 7).xblock (grid0.coords t)).Idx) :
    View.read (Elt Ideal) ((cfg0.win 7).blk t).view (fun i : S1x1024.Idx => f (i 1).val) y = f (y 1).val := by
  obtain ⟨e0, e1⟩ := index7 t
  show f (win0_7.index t (1 : Fin 2) * 1024 + 1 * (y 1).val) = _
  rw [e1]
  exact congrArg f (by omega)

theorem final6 (c : Dev nD) : (dats m 0 c).arrAt 6 cfg0.N = result6 m c := by
  refine (dats m 0 c).arrAt_eq_of_cover 6 (result6 m c) (fun t hf => ?_)
    ((by decide +kernel : (cfg0.win 6).Covers).cover _ (Memref.isWhole_whole _))
  rw [Value.flushed6]
  have ht : t.val = 15 := (by decide +kernel : ∀ t : Fin cfg0.N, (cfg0.win 6).flush t = true → t.val = 15) t hf
  funext y
  refine (shared6 m c t.val t.isLt y).trans (Eq.trans ?_ (readRow6 t (fun _ => lossTotal m c) y).symm)
  rw [ht]
  rfl

theorem final7 (c : Dev nD) : (dats m 0 c).arrAt 7 cfg0.N = result7 m c := by
  refine (dats m 0 c).arrAt_eq_of_cover 7 (result7 m c) (fun t hf => ?_)
    ((by decide +kernel : (cfg0.win 7).Covers).cover _ (Memref.isWhole_whole _))
  rw [Value.flushed7]
  have ht : t.val = 15 := (by decide +kernel : ∀ t : Fin cfg0.N, (cfg0.win 7).flush t = true → t.val = 15) t hf
  funext y
  refine (shared7 m c t.val t.isLt y).trans (Eq.trans ?_ (readRow7 t (total m c) y).symm)
  rw [ht]
  exact sum_blocks 16 512 8192 rfl fun r => part (act m c) (wd m c) (h1 m c) (tgt m c) (w3 m c) r (y 1).val

end Cert.DownLossIdeal.Sum

namespace Cert.DownLossRefIdeal.Sum

open Cert.DownLossRefIdeal Cert.DownLossRefIdeal.Read Idealize.ShloMosaic Idealize.ShloMosaic.ValueIdx Step Step.Down

variable (x0 : S8192x2816.Idx → EReal) (x1 : S2816x1024.Idx → EReal) (x2 x3 : S8192x1024.Idx → EReal) (x4 : S1x1024.Idx → EReal)

/-- The reference's values, each read at an index. -/
theorem hhRef (i : S8192x1024.Idx) : val_main_v3 (F := Ideal) x0 x1 x2 i = hh x0 x1 x2 (i 0).val (i 1).val := by
  rw [val_main_v3_apply, val_main_v2_apply]
  refine congrArg₂ (· + ·) (eq_at2 x2 i) (Finset.sum_congr rfl fun k _ => congrArg₂ (· * ·) ?_ ?_)
  · exact read2 x0 _ rfl rfl
  · exact read2 x1 _ rfl rfl

theorem meanRef (i : S8192x1.Idx) : val_main_v11 (F := Ideal) x0 x1 x2 i = meanSq 1024 (hh x0 x1 x2) (i 0).val := by
  rw [val_main_v11_apply, val_main_v10_apply, val_main_v9_apply, val_main_v8_apply, val_main_v7_apply, val_main_v6_apply,
    val_main_cst_apply, val_main_cst_0_apply, val_main_cst_1_apply]
  show Ideal.div (Ideal.ofBits .f32 0x00000000#32 + ∑ k : Fin 1024, _) width + eps = _
  rw [Ideal.ofBits_zero_f32, zero_add]
  refine congrArg (fun s => Ideal.div s width + eps) (Finset.sum_congr rfl fun k _ => ?_)
  rw [val_main_v5_apply]
  exact congrArg₂ (· * ·) (hhRef x0 x1 x2 _) (hhRef x0 x1 x2 _)

theorem scaleRef (i : S8192x1.Idx) : val_main_v12 (F := Ideal) x0 x1 x2 i = rscale 1024 (hh x0 x1 x2) (i 0).val := by
  rw [val_main_v12_apply]
  exact congrArg Ideal.rsqrt (meanRef x0 x1 x2 i)

theorem unitRef (i : S8192x1024.Idx) : val_main_v17 (F := Ideal) x0 x1 x2 i = unit 1024 (hh x0 x1 x2) (i 0).val (i 1).val := by
  rw [val_main_v17_apply, val_main_v16_apply, scaleRef, hhRef]
  rfl

theorem w3Ref (i : S1x1024.Idx) : val_main_v18 (F := Ideal) x4 i = at2 (n := 1) (k := 1024) x4 0 (i 1).val := by
  rw [val_main_v18_apply, val_main_v4_apply]
  exact read2 x4 _ rfl (Nat.mod_eq_of_lt (i 1).isLt)

theorem errRef (i : S8192x1024.Idx) : val_main_v21 (F := Ideal) x0 x1 x2 x3 x4 i = err x0 x1 x2 x3 x4 (i 0).val (i 1).val := by
  rw [val_main_v21_apply, val_main_v20_apply, val_main_v19_apply, unitRef, w3Ref]
  exact congrArg₂ (· - ·) rfl (eq_at2 x3 i)

section Real
variable (f0 : ∀ i, IsReal (x0 i)) (f1 : ∀ i, IsReal (x1 i)) (f2 : ∀ i, IsReal (x2 i)) (f3 : ∀ i, IsReal (x3 i)) (f4 : ∀ i, IsReal (x4 i))
include f0 f1 f2

theorem isReal_hh (i j : ℕ) : IsReal (hh x0 x1 x2 i j) :=
  (isReal_at2 x2 f2 _ _).add (isReal_sum _ _ fun k _ => (isReal_at2 x0 f0 _ _).mul (isReal_at2 x1 f1 _ _))

include f3 f4

theorem isReal_err (i j : ℕ) : IsReal (err x0 x1 x2 x3 x4 i j) :=
  (((isReal_hh x0 x1 x2 f0 f1 f2 _ _).mul (isReal_rscale fun k => isReal_hh x0 x1 x2 f0 f1 f2 _ k)).mul (isReal_at2 x4 f4 _ _)).sub
    (isReal_at2 x3 f3 _ _)

theorem isReal_ct (i j : ℕ) : IsReal (ct x0 x1 x2 x3 x4 i j) :=
  (isReal_err x0 x1 x2 x3 x4 f0 f1 f2 f3 f4 i j).mul (by rw [part1024_eq]; exact isReal_coe _)

theorem ctRef (i : S8192x1024.Idx) : val_main_v35 (F := Ideal) x0 x1 x2 x3 x4 i = ct x0 x1 x2 x3 x4 (i 0).val (i 1).val := by
  rw [val_main_v35_apply, val_main_v34_apply, val_main_v33_apply, val_main_v32_apply, val_main_v31_apply, val_main_v30_apply,
    val_main_v24_apply, val_main_v23_apply, val_main_cst_8_apply, val_main_cst_9_apply, val_main_cst_10_apply, val_main_cst_3_apply, errRef]
  exact ct_eq (isReal_err x0 x1 x2 x3 x4 f0 f1 f2 f3 f4 _ _)

theorem twRef (i : S8192x1024.Idx) : val_main_v40 (F := Ideal) x0 x1 x2 x3 x4 i = tw x0 x1 x2 x3 x4 (i 0).val (i 1).val := by
  rw [val_main_v40_apply, val_main_v39_apply, ctRef x0 x1 x2 x3 x4 f0 f1 f2 f3 f4, w3Ref]
  rfl

theorem slopeRef (i : S8192.Idx) : val_main_v50 (F := Ideal) x0 x1 x2 x3 x4 i = Step.slope 1024 (tw x0 x1 x2 x3 x4) (hh x0 x1 x2) (i 0).val := by
  rw [val_main_v50_apply, val_main_cst_15_apply]
  show Ideal.ofBits .f32 0x00000000#32 + _ = _
  rw [Ideal.ofBits_zero_f32, zero_add, Fin.sum_univ_one, val_main_v49_apply, val_main_v48_apply, val_main_cst_14_apply, val_main_v47_apply,
    val_main_v44_apply, val_main_v43_apply, val_main_cst_13_apply, val_main_v15_apply, val_main_v14_apply, val_main_cst_2_apply,
    val_main_v13_apply, scaleRef, meanRef]
  show Ideal.div ((Ideal.ofBits .f32 0x00000000#32 + ∑ k : Fin 1024, _) * (negHalf * Ideal.div (rscale 1024 _ _) (meanSq 1024 _ _))) width = _
  rw [Ideal.ofBits_zero_f32, zero_add]
  unfold Step.slope
  refine congrArg (fun s => Ideal.div (s * _) width) (Finset.sum_congr rfl fun k _ => ?_)
  rw [val_main_v42_apply, twRef x0 x1 x2 x3 x4 f0 f1 f2 f3 f4, hhRef]
  have e : (idx_main_v43 (idx_main_v44 (idx_main_v50 i 0)) k 0).val = (i 0).val := by
    show (i 0).val * 1 + 0 = _
    omega
  rw [e]
  rfl

theorem dh2Ref (i : S8192x1024.Idx) : val_main_v55 (F := Ideal) x0 x1 x2 x3 x4 i = dh2 x0 x1 x2 x3 x4 (i 0).val (i 1).val := by
  rw [val_main_v55_apply, val_main_v54_apply, val_main_v53_apply, val_main_v52_apply, val_main_v51_apply, val_main_v46_apply,
    val_main_v45_apply, slopeRef x0 x1 x2 x3 x4 f0 f1 f2 f3 f4, scaleRef, twRef x0 x1 x2 x3 x4 f0 f1 f2 f3 f4, hhRef]
  exact backOnly_eq (n := 1024) (j := (i 1).val)
    (fun k => (isReal_ct x0 x1 x2 x3 x4 f0 f1 f2 f3 f4 (i 0).val k).mul (isReal_at2 x4 f4 _ _)) fun k => isReal_hh x0 x1 x2 f0 f1 f2 (i 0).val k

theorem gwRef (i : S1x1024.Idx) : val_main_v56 (F := Ideal) x0 x1 x2 x3 x4 i = ∑ r : Fin 8192, part x0 x1 x2 x3 x4 r.val (i 1).val := by
  rw [val_main_v56_apply, val_main_v41_apply, val_main_cst_12_apply]
  show Ideal.ofBits .f32 0x00000000#32 + _ = _
  rw [Ideal.ofBits_zero_f32, zero_add, Fin.sum_univ_one, val_main_v38_apply, val_main_v37_apply, val_main_cst_11_apply]
  show Ideal.ofBits .f32 0x00000000#32 + _ = _
  rw [Ideal.ofBits_zero_f32, zero_add]
  refine Finset.sum_congr rfl fun r _ => ?_
  rw [val_main_v36_apply, ctRef x0 x1 x2 x3 x4 f0 f1 f2 f3 f4, unitRef]
  have e : (idx_main_v37 (idx_main_v38 (idx_main_v41 (idx_main_v56 i) 0)) r 1).val = (i 1).val := by
    show 0 * 1024 + (i 1).val = _
    omega
  rw [e]
  exact mul_comm (unit 1024 (hh x0 x1 x2) r.val (i 1).val) (ct x0 x1 x2 x3 x4 r.val (i 1).val)

theorem lossRef (i : S1x128.Idx) : val_main_v57 (F := Ideal) x0 x1 x2 x3 x4 i
    = ∑ s ∈ Finset.range 16, part2048 * ∑ r : Fin 512, sq x0 x1 x2 x3 x4 (512 * s + r.val) := by
  refine Eq.trans ?_ (loss_eq (f := sq x0 x1 x2 x3 x4) fun r => isReal_sum _ _ fun k _ =>
    (isReal_err x0 x1 x2 x3 x4 f0 f1 f2 f3 f4 r k.val).mul (isReal_err x0 x1 x2 x3 x4 f0 f1 f2 f3 f4 r k.val))
  rw [val_main_v57_apply, val_main_v29_apply, val_main_cst_7_apply, val_main_v28_apply, val_main_cst_6_apply]
  show Ideal.ofBits .f32 0x3F000000#32 * (Ideal.ofBits .f32 0x00000000#32 + _) = _
  rw [Ideal.ofBits_zero_f32, zero_add]
  refine congrArg (Ideal.ofBits .f32 0x3F000000#32 * ·) ?_
  let e : S8192.Idx ≃ Fin 8192 := ⟨fun y => y 0, fun p => ix1 p, fun y => (eq_ix1 y).symm, fun _ => rfl⟩
  rw [← Equiv.sum_comp e.symm]
  refine Finset.sum_congr rfl fun r _ => ?_
  rw [val_main_v27_apply, val_main_v26_apply, val_main_cst_5_apply, val_main_v25_apply, val_main_cst_4_apply]
  show Ideal.div (Ideal.ofBits .f32 0x00000000#32 + ∑ k : Fin 1024, _) width = _
  rw [Ideal.ofBits_zero_f32, zero_add]
  refine congrArg (fun s => Ideal.div s width) (Finset.sum_congr rfl fun k _ => ?_)
  rw [val_main_v22_apply, errRef]
  rfl

end Real

end Cert.DownLossRefIdeal.Sum

namespace Cert.Proof

open Idealize.ShloMosaic Idealize.SL.Sem Step

/-- The call's results are the reference's, over the extended reals and finite operands. -/
theorem algebraic_DownLoss [Cert.DownLossIdeal.Facts] [Cert.DownLossRefIdeal.Facts] [Cert.Pre_down_loss_finite.Facts] :
    algebraic_DownLossIdeal_DownLossRefIdeal_pre_down_loss_finite := by
  intro m ρ m' ρ' hpre hagree
  refine ⟨fun c => Cert.DownLossIdeal.Sum.result5 m c, fun c => Cert.DownLossIdeal.Sum.result6 m c, fun c => Cert.DownLossIdeal.Sum.result7 m c,
    (θ_run Cert.DownLossIdeal.defs _ _).mono
      (fun _ h c => ⟨(h c).1.trans (Cert.DownLossIdeal.Sum.final5 m c), (h c).2.1.trans (Cert.DownLossIdeal.Sum.final6 m c),
        (h c).2.2.1.trans (Cert.DownLossIdeal.Sum.final7 m c), (h c).2.2.2⟩) (Cert.DownLossIdeal.Value.run_blocks (F := Ideal) m ρ), ?_⟩
  refine (θ_run Cert.DownLossRefIdeal.defs _ _).mono (fun _ h c => ⟨?_, ?_, ?_, (h c).2.2.2⟩)
    (Cert.DownLossRefIdeal.Value.run (F := Ideal) m' ρ')
  · refine ((h c).1.trans (Cert.DownLossRefIdeal.Read.val_main_v55_eq ..)).trans ?_
    obtain ⟨a0, a1, a2, a3, a4⟩ := hagree c
    obtain ⟨p0, p1, p2, p3, p4⟩ := hpre c
    rw [a0, a1, a2, a3, a4]
    funext i
    exact Cert.DownLossRefIdeal.Sum.dh2Ref _ _ _ _ _ (isReal_of_ones _ _ p0) (isReal_of_ones _ _ p1) (isReal_of_ones _ _ p2)
      (isReal_of_ones _ _ p3) (isReal_of_ones _ _ p4) i
  · refine ((h c).2.1.trans (Cert.DownLossRefIdeal.Read.val_main_v57_eq ..)).trans ?_
    obtain ⟨a0, a1, a2, a3, a4⟩ := hagree c
    obtain ⟨p0, p1, p2, p3, p4⟩ := hpre c
    rw [a0, a1, a2, a3, a4]
    funext i
    exact Cert.DownLossRefIdeal.Sum.lossRef _ _ _ _ _ (isReal_of_ones _ _ p0) (isReal_of_ones _ _ p1) (isReal_of_ones _ _ p2)
      (isReal_of_ones _ _ p3) (isReal_of_ones _ _ p4) i
  · refine ((h c).2.2.1.trans (Cert.DownLossRefIdeal.Read.val_main_v56_eq ..)).trans ?_
    obtain ⟨a0, a1, a2, a3, a4⟩ := hagree c
    obtain ⟨p0, p1, p2, p3, p4⟩ := hpre c
    rw [a0, a1, a2, a3, a4]
    funext i
    exact Cert.DownLossRefIdeal.Sum.gwRef _ _ _ _ _ (isReal_of_ones _ _ p0) (isReal_of_ones _ _ p1) (isReal_of_ones _ _ p2)
      (isReal_of_ones _ _ p3) (isReal_of_ones _ _ p4) i

end Cert.Proof

end
-- ==== Proof.OutProjValue.lean ====
/- The value of the call `OutProj`: the two mixers' outputs side by side, the output projection added to the residual, and
   the second normalisation.

   Blocks of 512 rows; a row of every result depends on that row of the operands only. -/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit.Geometry
public import proofs.«01_k».proof.Proof.Reading
public import proofs.«01_k».proof.Proof.Norm

@[expose] public section

noncomputable section

namespace Step.Out

open Idealize.ShloMosaic Idealize.ShloMosaic.ValueIdx Step

/-- The two mixers' outputs side by side. -/
def mixed (ya yb : (⟨2, ![8192, 512]⟩ : Shape).Idx → EReal) (i j : ℕ) : EReal :=
  if j < 512 then at2 ya i j else at2 yb i (j - 512)

/-- The residual after the mixers. -/
def h1 (x : (⟨2, ![8192, 1024]⟩ : Shape).Idx → EReal) (ya yb : (⟨2, ![8192, 512]⟩ : Shape).Idx → EReal)
    (w : (⟨2, ![1024, 1024]⟩ : Shape).Idx → EReal) (i j : ℕ) : EReal :=
  at2 x i j + ∑ k : Fin 1024, mixed ya yb i k.val * at2 w k.val j

/-- The second normalisation of it. -/
def u2 (x : (⟨2, ![8192, 1024]⟩ : Shape).Idx → EReal) (ya yb : (⟨2, ![8192, 512]⟩ : Shape).Idx → EReal)
    (w : (⟨2, ![1024, 1024]⟩ : Shape).Idx → EReal) (w2 : (⟨2, ![1, 1024]⟩ : Shape).Idx → EReal) (i j : ℕ) : EReal :=
  unit 1024 (h1 x ya yb w) i j * at2 w2 0 j

end Step.Out

namespace Cert.OutProjIdeal.Sum

open Cert.OutProjIdeal Cert.OutProjIdeal.Gen Idealize.ShloMosaic Idealize.ShloMosaic.TcCoe Idealize.ShloMosaic.ValueIdx Step Step.Out

variable (m : (ℓ : Loc nD τ sig) → Buf (Elt Ideal) ℓ)

abbrev x (c : Dev nD) : S8192x1024.Idx → EReal := m ((c.tc : Thread nD τ).loc main_arg0)
abbrev ya (c : Dev nD) : S8192x512.Idx → EReal := m ((c.tc : Thread nD τ).loc main_arg1)
abbrev yb (c : Dev nD) : S8192x512.Idx → EReal := m ((c.tc : Thread nD τ).loc main_arg2)
abbrev w (c : Dev nD) : S1024x1024.Idx → EReal := m ((c.tc : Thread nD τ).loc main_arg3)
abbrev w2 (c : Dev nD) : S1x1024.Idx → EReal := m ((c.tc : Thread nD τ).loc main_arg4)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

/-- The blocks of a grid point: 512 rows of the residual and of the two halves; the weights come whole. -/
theorem block0 (c : Dev nD) (t : Fin cfg0.N) (y : S512x1024.Idx) :
    (iblk m c 0 t : Vec Ideal S512x1024 .f32) y = at2 (n := 8192) (k := 1024) (x m c) (512 * t.val + (y 0).val) (y 1).val := by
  obtain ⟨e0, e1⟩ := index0 t
  refine (congrFun (V_main_arg0 m c) _).trans (read2 (n := 8192) (k := 1024) (x m c) _ ?_ ?_)
  · show win0_0.index t 0 * 512 + 1 * (y 0).val = _
    rw [e0]; omega
  · show win0_0.index t 1 * 1024 + 1 * (y 1).val = _
    rw [e1]; omega

theorem block1 (c : Dev nD) (t : Fin cfg0.N) (y : S512x512.Idx) :
    (iblk m c 1 t : Vec Ideal S512x512 .f32) y = at2 (n := 8192) (k := 512) (ya m c) (512 * t.val + (y 0).val) (y 1).val := by
  obtain ⟨e0, e1⟩ := index1 t
  refine (congrFun (V_main_arg1 m c) _).trans (read2 (n := 8192) (k := 512) (ya m c) _ ?_ ?_)
  · show win0_1.index t 0 * 512 + 1 * (y 0).val = _
    rw [e0]; omega
  · show win0_1.index t 1 * 512 + 1 * (y 1).val = _
    rw [e1]; omega

theorem block2 (c : Dev nD) (t : Fin cfg0.N) (y : S512x512.Idx) :
    (iblk m c 2 t : Vec Ideal S512x512 .f32) y = at2 (n := 8192) (k := 512) (yb m c) (512 * t.val + (y 0).val) (y 1).val := by
  obtain ⟨e0, e1⟩ := index2 t
  refine (congrFun (V_main_arg2 m c) _).trans (read2 (n := 8192) (k := 512) (yb m c) _ ?_ ?_)
  · show win0_2.index t 0 * 512 + 1 * (y 0).val = _
    rw [e0]; omega
  · show win0_2.index t 1 * 512 + 1 * (y 1).val = _
    rw [e1]; omega

theorem block3 (c : Dev nD) (t : Fin cfg0.N) (y : S1024x1024.Idx) :
    (iblk m c 3 t : Vec Ideal S1024x1024 .bf16) y = at2 (n := 1024) (k := 1024) (w m c) (y 0).val (y 1).val := by
  obtain ⟨e0, e1⟩ := index3 t
  refine (congrFun (V_main_arg3 m c) _).trans (read2 (n := 1024) (k := 1024) (w m c) _ ?_ ?_)
  · show win0_3.index t 0 * 1024 + 1 * (y 0).val = _
    rw [e0]; omega
  · show win0_3.index t 1 * 1024 + 1 * (y 1).val = _
    rw [e1]; omega

theorem block4 (c : Dev nD) (t : Fin cfg0.N) (y : S1x1024.Idx) :
    (iblk m c 4 t : Vec Ideal S1x1024 .f32) y = at2 (n := 1) (k := 1024) (w2 m c) (y 0).val (y 1).val := by
  obtain ⟨e0, e1⟩ := index4 t
  refine (congrFun (V_main_arg4 m c) _).trans (read2 (n := 1) (k := 1024) (w2 m c) _ ?_ ?_)
  · show win0_4.index t 0 * 1 + 1 * (y 0).val = _
    rw [e0]; omega
  · show win0_4.index t 1 * 1024 + 1 * (y 1).val = _
    rw [e1]; omega

theorem zero2 : (![0, 0] : Fin 2 → ℕ) = fun _ => 0 := by decide

/-- The three values of a grid point, read at an index of its block. -/
theorem mixedBlock (c : Dev nD) (t : Fin cfg0.N) (y : S512x1024.Idx) :
    k0_pay1 (F := Ideal) (iblk m c 1 t) (iblk m c 2 t) y = mixed (ya m c) (yb m c) (512 * t.val + (y 0).val) (y 1).val := by
  have h0 : (y 0).val < 512 := (y 0).isLt
  have h1 : (y 1).val < 1024 := (y 1).isLt
  refine (concatCols (T := 512) (a := 512) (b := 512) (n := 1024) rfl (iblk m c 1 t) (iblk m c 2 t) concatenates_S512x512_S512x512_S512x1024_d1 y).trans ?_
  unfold mixed
  split
  · rename_i hl
    exact at2_of (iblk m c 1 t) (fun i j => at2 (n := 8192) (k := 512) (ya m c) (512 * t.val + i) j) (block1 m c t) h0 hl
  · rename_i hl
    exact at2_of (iblk m c 2 t) (fun i j => at2 (n := 8192) (k := 512) (yb m c) (512 * t.val + i) j) (block2 m c t) h0 (by omega)

theorem h1Block (c : Dev nD) (t : Fin cfg0.N) (y : S512x1024.Idx) :
    k0_pay2 (F := Ideal) (iblk m c 1 t) (iblk m c 2 t) (iblk m c 0 t) (iblk m c 3 t) y
      = h1 (x m c) (ya m c) (yb m c) (w m c) (512 * t.val + (y 0).val) (y 1).val := by
  unfold k0_pay2 h1
  refine congrArg₂ (· + ·) (block0 m c t y) ?_
  refine (matmul_nn (M := 512) (K := 1024) (N := 1024) _ none _ _ y).trans (Finset.sum_congr rfl fun k _ => congrArg₂ (· * ·) ?_ ?_)
  · exact at2_of _ (fun i j => mixed (ya m c) (yb m c) (512 * t.val + i) j) (mixedBlock m c t) (y 0).isLt k.isLt
  · exact at2_of _ (fun i j => at2 (n := 1024) (k := 1024) (w m c) i j) (block3 m c t) k.isLt (y 1).isLt

theorem u2Block (c : Dev nD) (t : Fin cfg0.N) (y : S512x1024.Idx) :
    k0_pay3 (F := Ideal) (iblk m c 1 t) (iblk m c 2 t) (iblk m c 0 t) (iblk m c 3 t) (iblk m c 4 t) y
      = u2 (x m c) (ya m c) (yb m c) (w m c) (w2 m c) (512 * t.val + (y 0).val) (y 1).val := by
  have h0 : (y 0).val < 512 := (y 0).isLt
  unfold k0_pay3 u2
  refine congrArg₂ (· * ·) (congrArg₂ (· * ·) (h1Block m c t y) ?_) ?_
  · refine (spreadCol (T := 512) (n := 1024) (by decide) _ _ y).trans ((scaleCol (T := 512) (n := 1024) _ _ _ _ _ _ _).trans ?_)
    exact rscale_congr fun k hk => at2_of _ (fun i j => h1 (x m c) (ya m c) (yb m c) (w m c) (512 * t.val + i) j) (h1Block m c t) h0 hk
  · refine (spreadRow (T := 512) (n := 1024) (by decide) _ _ y).trans ?_
    exact at2_of _ (fun i j => at2 (n := 1) (k := 1024) (w2 m c) i j) (block4 m c t) (by decide) (y 1).isLt

/-- The call's three results, each one array. -/
def result5 (c : Dev nD) : S8192x1024.Idx → EReal := fun i => h1 (x m c) (ya m c) (yb m c) (w m c) (i 0).val (i 1).val
def result6 (c : Dev nD) : S8192x1024.Idx → EReal := fun i => u2 (x m c) (ya m c) (yb m c) (w m c) (w2 m c) (i 0).val (i 1).val
def result7 (c : Dev nD) : S8192x1024.Idx → EReal := fun i => mixed (ya m c) (yb m c) (i 0).val (i 1).val

/-- After the run the three arrays are these. -/
theorem final5 (c : Dev nD) : (dats m 0 c).arrAt 5 cfg0.N = result5 m c := by
  refine (dats m 0 c).arrAt_eq_of_cover 5 (result5 m c) (fun t _ => ?_)
    ((by decide +kernel : (cfg0.win 5).Covers).cover _ (Memref.isWhole_whole _))
  rw [Value.flushed5]
  obtain ⟨e0, e1⟩ := index5 t
  funext y
  unfold out0_5
  rw [View.canon_unit_zero zero2, View.ld_unit_zero (S := S512x1024) zero2, View.ld_unit_zero (S := S1024x1024) zero2]
  simp only [View.ld_unit_zero (S := S512x512) zero2]
  refine (h1Block m c t y).trans ?_
  show _ = h1 (x m c) (ya m c) (yb m c) (w m c) (win0_5.index t (0 : Fin 2) * 512 + 1 * (y 0).val) (win0_5.index t (1 : Fin 2) * 1024 + 1 * (y 1).val)
  rw [e0, e1]
  refine congrArg₂ _ ?_ ?_ <;> omega

theorem final6 (c : Dev nD) : (dats m 0 c).arrAt 6 cfg0.N = result6 m c := by
  refine (dats m 0 c).arrAt_eq_of_cover 6 (result6 m c) (fun t _ => ?_)
    ((by decide +kernel : (cfg0.win 6).Covers).cover _ (Memref.isWhole_whole _))
  rw [Value.flushed6]
  obtain ⟨e0, e1⟩ := index6 t
  funext y
  unfold out0_6
  rw [View.canon_unit_zero zero2, View.ld_unit_zero (S := S512x1024) zero2, View.ld_unit_zero (S := S1024x1024) zero2,
    View.ld_unit_zero (S := S1x1024) zero2]
  simp only [View.ld_unit_zero (S := S512x512) zero2]
  refine (u2Block m c t y).trans ?_
  show _ = u2 (x m c) (ya m c) (yb m c) (w m c) (w2 m c) (win0_6.index t (0 : Fin 2) * 512 + 1 * (y 0).val) (win0_6.index t (1 : Fin 2) * 1024 + 1 * (y 1).val)
  rw [e0, e1]
  refine congrArg₂ _ ?_ ?_ <;> omega

theorem final7 (c : Dev nD) : (dats m 0 c).arrAt 7 cfg0.N = result7 m c := by
  refine (dats m 0 c).arrAt_eq_of_cover 7 (result7 m c) (fun t _ => ?_)
    ((by decide +kernel : (cfg0.win 7).Covers).cover _ (Memref.isWhole_whole _))
  rw [Value.flushed7]
  obtain ⟨e0, e1⟩ := index7 t
  funext y
  unfold out0_7
  rw [View.canon_unit_zero zero2]
  simp only [View.ld_unit_zero (S := S512x512) zero2]
  refine (mixedBlock m c t y).trans ?_
  show _ = mixed (ya m c) (yb m c) (win0_7.index t (0 : Fin 2) * 512 + 1 * (y 0).val) (win0_7.index t (1 : Fin 2) * 1024 + 1 * (y 1).val)
  rw [e0, e1]
  refine congrArg₂ _ ?_ ?_ <;> omega

end Cert.OutProjIdeal.Sum

namespace Cert.OutProjRefIdeal.Sum

open Cert.OutProjRefIdeal Cert.OutProjRefIdeal.Read Idealize.ShloMosaic Idealize.ShloMosaic.ValueIdx Step Step.Out

variable (x0 : S8192x1024.Idx → EReal) (x1 x2 : S8192x512.Idx → EReal) (x3 : S1024x1024.Idx → EReal) (x4 : S1x1024.Idx → EReal)

/-- The reference's values, each read at an index. -/
theorem mixedRef (i : S8192x1024.Idx) : val_main_v0 (F := Ideal) x1 x2 i = mixed x1 x2 (i 0).val (i 1).val :=
  concatCols (T := 8192) (a := 512) (b := 512) (n := 1024) rfl x1 x2 _ i

theorem h1Ref (i : S8192x1024.Idx) : val_main_v3 (F := Ideal) x0 x1 x2 x3 i = h1 x0 x1 x2 x3 (i 0).val (i 1).val := by
  rw [val_main_v3_apply, val_main_v2_apply]
  refine congrArg₂ (· + ·) (eq_at2 x0 i) (Finset.sum_congr rfl fun k _ => congrArg₂ (· * ·) ?_ ?_)
  · exact mixedRef x1 x2 _
  · rw [val_main_v1_apply]
    exact read2 x3 _ rfl rfl

theorem scaleRef (i : S8192x1.Idx) : val_main_v12 (F := Ideal) x0 x1 x2 x3 i = rscale 1024 (h1 x0 x1 x2 x3) (i 0).val := by
  rw [val_main_v12_apply, val_main_v11_apply, val_main_v10_apply, val_main_v9_apply, val_main_v8_apply, val_main_v7_apply,
    val_main_v6_apply, val_main_cst_apply, val_main_cst_0_apply, val_main_cst_1_apply]
  show Ideal.rsqrt (Ideal.div (Ideal.ofBits .f32 0x00000000#32 + ∑ k : Fin 1024, _) width + eps) = _
  rw [Ideal.ofBits_zero_f32, zero_add]
  refine congrArg (fun s => Ideal.rsqrt (Ideal.div s width + eps)) (Finset.sum_congr rfl fun k _ => ?_)
  rw [val_main_v5_apply]
  exact congrArg₂ (· * ·) (h1Ref x0 x1 x2 x3 _) (h1Ref x0 x1 x2 x3 _)

theorem u2Ref (i : S8192x1024.Idx) : val_main_v18 (F := Ideal) x0 x1 x2 x3 x4 i = u2 x0 x1 x2 x3 x4 (i 0).val (i 1).val := by
  rw [val_main_v18_apply, val_main_v17_apply, val_main_v16_apply, val_main_v15_apply, val_main_v14_apply, val_main_v13_apply,
    val_main_v4_apply, h1Ref, scaleRef]
  exact congrArg₂ (· * ·) rfl (read2 x4 _ rfl (Nat.mod_eq_of_lt (i 1).isLt))

end Cert.OutProjRefIdeal.Sum

namespace Cert.Proof

open Idealize.ShloMosaic Idealize.SL.Sem Step

/-- The call's results are the reference's, over the extended reals. -/
theorem algebraic_OutProj [Cert.OutProjIdeal.Facts] [Cert.OutProjRefIdeal.Facts] : algebraic_OutProjIdeal_OutProjRefIdeal := by
  intro m ρ m' ρ' _ hagree
  refine ⟨fun c => Cert.OutProjIdeal.Sum.result5 m c, fun c => Cert.OutProjIdeal.Sum.result6 m c, fun c => Cert.OutProjIdeal.Sum.result7 m c,
    (θ_run Cert.OutProjIdeal.defs _ _).mono
      (fun _ h c => ⟨(h c).1.trans (Cert.OutProjIdeal.Sum.final5 m c), (h c).2.1.trans (Cert.OutProjIdeal.Sum.final6 m c),
        (h c).2.2.1.trans (Cert.OutProjIdeal.Sum.final7 m c), (h c).2.2.2⟩) (Cert.OutProjIdeal.Value.run_blocks (F := Ideal) m ρ), ?_⟩
  refine (θ_run Cert.OutProjRefIdeal.defs _ _).mono (fun _ h c => ⟨?_, ?_, ?_, (h c).2.2.2⟩)
    (Cert.OutProjRefIdeal.Value.run (F := Ideal) m' ρ')
  · refine ((h c).1.trans (Cert.OutProjRefIdeal.Read.val_main_v3_eq ..)).trans ?_
    rw [(hagree c).1, (hagree c).2.1, (hagree c).2.2.1, (hagree c).2.2.2.1]
    funext i
    exact Cert.OutProjRefIdeal.Sum.h1Ref _ _ _ _ i
  · refine ((h c).2.1.trans (Cert.OutProjRefIdeal.Read.val_main_v18_eq ..)).trans ?_
    rw [(hagree c).1, (hagree c).2.1, (hagree c).2.2.1, (hagree c).2.2.2.1, (hagree c).2.2.2.2]
    funext i
    exact Cert.OutProjRefIdeal.Sum.u2Ref _ _ _ _ _ i
  · refine ((h c).2.2.1.trans (Cert.OutProjRefIdeal.Read.val_main_v19_eq ..)).trans ?_
    rw [(hagree c).2.1, (hagree c).2.2.1]
    funext i
    rw [Cert.OutProjRefIdeal.Read.val_main_v19_apply]
    exact Cert.OutProjRefIdeal.Sum.mixedRef _ _ i

end Cert.Proof

end
-- ==== Proof.Rotary.lean ====
/- The rotary embedding: its table of angles, and the operations the calls build it with, each read at an index.

   A row of 512 columns is eight heads of 64. Position `i` turns columns `d` and `d + 32` of every head by the angle
   `i · 10000^(−d/32)`. The calls keep the tables 128 columns wide, repeat them four times, and reach the other column of a
   pair by rotating the whole row by 32 columns one way or the other. -/
module

public import Idealize.ShloMosaic.Lib.Pipeline.Value
public import Idealize.ShloMosaic.Lib.KernelVsHost
public import proofs.«01_k».proof.Proof.Reading
public import proofs.«01_k».proof.Proof.Finite
public import proofs.«01_k».proof.Proof.Norm

@[expose] public section

noncomputable section

namespace Step.Rotary

open Idealize.ShloMosaic Idealize.ShloMosaic.ValueIdx Step

/-! ## The angles -/

/-- The angle of position `i` in the pair `d`. -/
def angle (i d : ℕ) : EReal :=
  (((BitVec.ofNat 32 i).toInt : ℝ) : EReal)
    * Ideal.pow (Ideal.ofBits .f32 0x461C4000#32)
      (Ideal.div (-(((BitVec.ofNat 32 d).toInt : ℝ) : EReal)) (Ideal.ofBits .f32 0x42000000#32))

/-- Its cosine and sine. -/
def cosine (i d : ℕ) : EReal := Ideal.cos (angle i d)
def sine (i d : ℕ) : EReal := Ideal.sin (angle i d)

theorem isReal_angle (i d : ℕ) : IsReal (angle i d) := by
  have h1 : Ideal.ofBits .f32 0x42000000#32 = ((32 : ℝ) : EReal) := by
    rw [ofBits_normal _ 1 0 132 (if_neg (by decide)) (by decide) (by decide) (by decide) (by decide)]
    congr 1
    norm_num
  have h2 : ∃ r : ℝ, Ideal.ofBits .f32 0x461C4000#32 = (r : EReal) :=
    ⟨_, ofBits_normal _ 1 1851392 140 (if_neg (by decide)) (by decide) (by decide) (by decide) (by decide)⟩
  obtain ⟨r, hr⟩ := h2
  unfold angle
  rw [h1, hr, ← EReal.coe_neg, div_coe _ (by norm_num : (32 : ℝ) ≠ 0)]
  exact (isReal_coe _).mul ⟨_, rfl⟩

theorem isReal_cosine (i d : ℕ) : IsReal (cosine i d) := by
  obtain ⟨r, hr⟩ := isReal_angle i d
  exact ⟨Real.cos r, by unfold cosine; rw [hr]; rfl⟩

theorem isReal_sine (i d : ℕ) : IsReal (sine i d) := by
  obtain ⟨r, hr⟩ := isReal_angle i d
  exact ⟨Real.sin r, by unfold sine; rw [hr]; rfl⟩

/-- The turned row of the embedding, and the row turned back. -/
def turn (v : ℕ → ℕ → EReal) (i j : ℕ) : EReal :=
  if j % 64 < 32 then v i j * cosine i (j % 32) - v i (j + 32) * sine i (j % 32)
  else v i j * cosine i (j % 32) + v i (j - 32) * sine i (j % 32)
def turnBack (v : ℕ → ℕ → EReal) (i j : ℕ) : EReal :=
  if j % 64 < 32 then v i j * cosine i (j % 32) + v i (j + 32) * sine i (j % 32)
  else v i j * cosine i (j % 32) - v i (j - 32) * sine i (j % 32)

/-- The signed sine of a column of a head: negative in the first half. -/
def signedSine (i d : ℕ) : EReal := if d < 32 then -sine i d else sine i (d - 32)

/-- The other column of a column's pair, as a row rotated by 32 reaches it. -/
def partner (j : ℕ) : ℕ := if j % 64 < 32 then (j + 32) % 512 else (j + 480) % 512

theorem turnBack_eq (v : ℕ → ℕ → EReal) (i : ℕ) {j : ℕ} (hj : j < 512) :
    v i j * cosine i (j % 128 % 32) - signedSine i (j % 128 % 64) * v i (partner j) = turnBack v i j := by
  have e1 : j % 128 % 32 = j % 32 := by omega
  have e2 : j % 128 % 64 = j % 64 := by omega
  rw [e1, e2]
  unfold signedSine partner turnBack
  by_cases h : j % 64 < 32
  · have a : (j + 32) % 512 = j + 32 := by omega
    have b : j % 64 = j % 32 := by omega
    rw [if_pos h, if_pos h, if_pos h, a, b, sub_eq_add_neg, EReal.neg_mul, neg_neg, mul_comm (sine _ _)]
  · have a : (j + 480) % 512 = j - 32 := by omega
    have b : j % 64 - 32 = j % 32 := by omega
    rw [if_neg h, if_neg h, if_neg h, a, b, mul_comm (sine _ _)]

theorem turn_eq (v : ℕ → ℕ → EReal) (i : ℕ) {j : ℕ} (hj : j < 512) :
    v i j * cosine i (j % 128 % 32) + signedSine i (j % 128 % 64) * v i (partner j) = turn v i j := by
  have e1 : j % 128 % 32 = j % 32 := by omega
  have e2 : j % 128 % 64 = j % 64 := by omega
  rw [e1, e2]
  unfold signedSine partner turn
  by_cases h : j % 64 < 32
  · have a : (j + 32) % 512 = j + 32 := by omega
    have b : j % 64 = j % 32 := by omega
    rw [if_pos h, if_pos h, if_pos h, a, b, EReal.neg_mul, ← sub_eq_add_neg, mul_comm (sine _ _)]
  · have a : (j + 480) % 512 = j - 32 := by omega
    have b : j % 64 - 32 = j % 32 := by omega
    rw [if_neg h, if_neg h, if_neg h, a, b, mul_comm (sine _ _)]

/-- Turning a row back commutes with a nonnegative scale. -/
theorem turnBack_scale (v : ℕ → ℕ → EReal) {c : ℝ} (hc : 0 ≤ c) (i j : ℕ) :
    turnBack v i j * (c : EReal) = turnBack (fun i j => v i j * (c : EReal)) i j := by
  have d : ∀ x y : EReal, (x + y) * (c : EReal) = x * (c : EReal) + y * (c : EReal) := fun x y =>
    EReal.right_distrib_of_nonneg_of_ne_top (by exact_mod_cast hc) (EReal.coe_ne_top c) x y
  unfold turnBack
  split
  · rw [d, mul_right_comm (v i j), mul_right_comm (v i (j + 32))]
  · rw [sub_eq_add_neg, sub_eq_add_neg, d, EReal.neg_mul, mul_right_comm (v i j), mul_right_comm (v i (j - 32))]

theorem turnBack_congr {v w : ℕ → ℕ → EReal} {i l j : ℕ} (hc : i = l) (hj : j < 512) (e : ∀ k, k < 512 → v i k = w l k) :
    turnBack v i j = turnBack w l j := by
  subst hc
  unfold turnBack
  split
  · rw [e j hj, e (j + 32) (by omega)]
  · rw [e j hj, e (j - 32) (by omega)]

theorem isReal_turnBack {v : ℕ → ℕ → EReal} (h : ∀ i j, IsReal (v i j)) (i j : ℕ) : IsReal (turnBack v i j) := by
  unfold turnBack
  split
  · exact ((h _ _).mul (isReal_cosine _ _)).add ((h _ _).mul (isReal_sine _ _))
  · exact ((h _ _).mul (isReal_cosine _ _)).sub ((h _ _).mul (isReal_sine _ _))

/-! ## The calls' operations -/

/-- A table of 32 columns repeated four times. -/
theorem table4 (A : (⟨2, ![8192, 32]⟩ : Shape).Idx → EReal) (h1 : (⟨2, ![8192, 32]⟩ : Shape).ShapeCasts ⟨4, ![1, 8192, 1, 32]⟩)
    (h2 : (⟨4, ![1, 8192, 1, 32]⟩ : Shape).BroadcastsInDim ⟨4, ![1, 8192, 4, 32]⟩ ![0, 1, 2, 3])
    (h3 : (⟨4, ![1, 8192, 4, 32]⟩ : Shape).ShapeCasts ⟨2, ![8192, 128]⟩) (z : (⟨2, ![8192, 128]⟩ : Shape).Idx) :
    shapeCast ⟨2, ![8192, 128]⟩ (broadcastInDim ⟨4, ![1, 8192, 4, 32]⟩ ![0, 1, 2, 3] h2 (shapeCast ⟨4, ![1, 8192, 1, 32]⟩ A h1)) h3 z
      = at2 A (z 0).val ((z 1).val % 32) := by
  have hz0 : (z 0).val < 8192 := (z 0).isLt
  have hz1 : (z 1).val < 128 := (z 1).isLt
  refine (shapeCast_apply _ h3 z (ix4 (0 : Fin 1) ⟨(z 0).val, hz0⟩ ⟨(z 1).val / 32, by omega⟩ ⟨(z 1).val % 32, by omega⟩) ?_).trans ?_
  · rw [Shape.rowMajor_val_four, Shape.rowMajor_val_two]
    show ((0 * 8192 + (z 0).val) * 4 + (z 1).val / 32) * 32 + (z 1).val % 32 = (z 0).val * 128 + (z 1).val
    omega
  refine (broadcastInDim_apply _ h2 _ _ (ix4 (0 : Fin 1) ⟨(z 0).val, hz0⟩ (0 : Fin 1) ⟨(z 1).val % 32, by omega⟩) (fun a => ?_)).trans ?_
  · match a with
    | ⟨0, _⟩ => rfl
    | ⟨1, _⟩ => exact (if_neg (show ¬(8192 = 1) by decide)).symm
    | ⟨2, _⟩ => rfl
    | ⟨3, _⟩ => exact (if_neg (show ¬(32 = 1) by decide)).symm
  refine (shapeCast_apply _ h1 _ (ix2 ⟨(z 0).val, hz0⟩ ⟨(z 1).val % 32, by omega⟩) ?_).trans (read2 A _ rfl rfl)
  rw [Shape.rowMajor_val_four, Shape.rowMajor_val_two]
  show (z 0).val * 32 + (z 1).val % 32 = ((0 * 8192 + (z 0).val) * 1 + 0) * 32 + (z 1).val % 32
  omega

/-- A table of 64 columns repeated twice. -/
theorem table2 (A : (⟨2, ![8192, 64]⟩ : Shape).Idx → EReal) (h1 : (⟨2, ![8192, 64]⟩ : Shape).ShapeCasts ⟨4, ![1, 8192, 1, 64]⟩)
    (h2 : (⟨4, ![1, 8192, 1, 64]⟩ : Shape).BroadcastsInDim ⟨4, ![1, 8192, 2, 64]⟩ ![0, 1, 2, 3])
    (h3 : (⟨4, ![1, 8192, 2, 64]⟩ : Shape).ShapeCasts ⟨2, ![8192, 128]⟩) (z : (⟨2, ![8192, 128]⟩ : Shape).Idx) :
    shapeCast ⟨2, ![8192, 128]⟩ (broadcastInDim ⟨4, ![1, 8192, 2, 64]⟩ ![0, 1, 2, 3] h2 (shapeCast ⟨4, ![1, 8192, 1, 64]⟩ A h1)) h3 z
      = at2 A (z 0).val ((z 1).val % 64) := by
  have hz0 : (z 0).val < 8192 := (z 0).isLt
  have hz1 : (z 1).val < 128 := (z 1).isLt
  refine (shapeCast_apply _ h3 z (ix4 (0 : Fin 1) ⟨(z 0).val, hz0⟩ ⟨(z 1).val / 64, by omega⟩ ⟨(z 1).val % 64, by omega⟩) ?_).trans ?_
  · rw [Shape.rowMajor_val_four, Shape.rowMajor_val_two]
    show ((0 * 8192 + (z 0).val) * 2 + (z 1).val / 64) * 64 + (z 1).val % 64 = (z 0).val * 128 + (z 1).val
    omega
  refine (broadcastInDim_apply _ h2 _ _ (ix4 (0 : Fin 1) ⟨(z 0).val, hz0⟩ (0 : Fin 1) ⟨(z 1).val % 64, by omega⟩) (fun a => ?_)).trans ?_
  · match a with
    | ⟨0, _⟩ => rfl
    | ⟨1, _⟩ => exact (if_neg (show ¬(8192 = 1) by decide)).symm
    | ⟨2, _⟩ => rfl
    | ⟨3, _⟩ => exact (if_neg (show ¬(64 = 1) by decide)).symm
  refine (shapeCast_apply _ h1 _ (ix2 ⟨(z 0).val, hz0⟩ ⟨(z 1).val % 64, by omega⟩) ?_).trans (read2 A _ rfl rfl)
  rw [Shape.rowMajor_val_four, Shape.rowMajor_val_two]
  show (z 0).val * 64 + (z 1).val % 64 = ((0 * 8192 + (z 0).val) * 1 + 0) * 64 + (z 1).val % 64
  omega

/-- A block of 128 columns set side by side four times. -/
theorem repeated {T : ℕ} (x : (⟨2, ![T, 128]⟩ : Shape).Idx → EReal)
    (h : Shape.Concatenates [(⟨2, ![T, 128]⟩ : Shape), ⟨2, ![T, 128]⟩, ⟨2, ![T, 128]⟩, ⟨2, ![T, 128]⟩] ⟨2, ![T, 512]⟩ 1)
    (y : (⟨2, ![T, 512]⟩ : Shape).Idx) :
    concatenate ⟨2, ![T, 512]⟩ 1 [⟨⟨2, ![T, 128]⟩, x⟩, ⟨⟨2, ![T, 128]⟩, x⟩, ⟨⟨2, ![T, 128]⟩, x⟩, ⟨⟨2, ![T, 128]⟩, x⟩] h y
      = at2 x (y 0).val ((y 1).val % 128) := by
  have h1 : (y 1).val < 512 := (y 1).isLt
  refine (concatenate_ofFn_apply (t := ⟨2, ![T, 512]⟩) (s₁ := ⟨2, ![T, 128]⟩) 1 (N := 4) (fun _ => x) h rfl 128 rfl y
    ⟨(y 1).val / 128, by omega⟩ rfl (ix2 (y 0) ⟨(y 1).val % 128, by omega⟩) rfl (fun b hb => ?_)).trans (read2 x _ rfl rfl)
  match b with
  | ⟨0, _⟩ => rfl
  | ⟨1, _⟩ => exact absurd rfl hb

/-- The bit that says a column is in the first half of its head. -/
def firstHalf (l : ℕ) : BitVec 1 :=
  let n := Scalar.select (Scalar.cmpi .eq 64#32 0#32) 1#32 64#32
  let r := IntOp.remsi .vector (BitVec.ofNat 32 l) n
  IntOp.cmpi .slt
    (if IntOp.andi (IntOp.xori (IntOp.cmpi .slt r 0#32) (Scalar.cmpi .slt n 0#32)) (IntOp.cmpi .ne r 0#32) = 1 then IntOp.addi r n else r) 32#32

theorem firstHalf_eq : ∀ l : Fin 512, firstHalf l.val = if l.val % 64 < 32 then 1 else 0 := by decide +kernel

/-- A row rotated by an amount. -/
theorem rotated {T : ℕ} (v : (⟨2, ![T, 512]⟩ : Shape).Idx → EReal) (h : (⟨2, ![T, 512]⟩ : Shape).Rotates 1 none)
    (s : BitVec 32) (n : ℕ) (hn : n < 512) (hs : s.toNat = 512 - n) (hp : 0 < n) (y : (⟨2, ![T, 512]⟩ : Shape).Idx) :
    dynamicRotate 1 s none v h y = at2 v (y 0).val (((y 1).val + n) % 512) := by
  have h1 : (y 1).val < 512 := (y 1).isLt
  refine (dynamicRotate_apply (1 : Fin 2) s v h y (ix2 (y 0) ⟨((y 1).val + n) % 512, by omega⟩) (fun b => ?_)).trans (read2 v _ rfl rfl)
  match b with
  | ⟨0, _⟩ => rfl
  | ⟨1, _⟩ =>
    show ((y 1).val + n) % 512 = ((y 1).val + 512 - s.toNat % 512) % 512
    rw [hs]
    omega

/-- The other column of each pair: the row rotated one way in the heads' first halves, the other way in the second. -/
theorem partners {T : ℕ} (v : (⟨2, ![T, 512]⟩ : Shape).Idx → EReal) (h : (⟨2, ![T, 512]⟩ : Shape).Rotates 1 none)
    (y : (⟨2, ![T, 512]⟩ : Shape).Idx) :
    (if firstHalf (y 1).val = 1 then dynamicRotate 1 480#32 none v h y else dynamicRotate 1 32#32 none v h y)
      = at2 v (y 0).val (partner (y 1).val) := by
  have h1 : (y 1).val < 512 := (y 1).isLt
  rw [firstHalf_eq ⟨(y 1).val, h1⟩]
  unfold partner
  by_cases c : (y 1).val % 64 < 32
  · rw [if_pos c, if_pos c, if_pos rfl]
    exact rotated v h 480#32 32 (by decide) (by decide) (by decide) y
  · rw [if_neg c, if_neg c, if_neg (by decide)]
    exact rotated v h 32#32 480 (by decide) (by decide) (by decide) y

/-! ## Padding -/

/-- A matrix set at a column offset of a wider one of zeros. -/
theorem padCols {n k N lo hi : ℕ} (x : (⟨2, ![n, k]⟩ : Shape).Idx → EReal) {u : Shape} (v : u.Idx → EReal)
    (h : (⟨2, ![n, k]⟩ : Shape).Pads ![0, lo] ![0, hi] ![0, 0] ⟨2, ![n, N]⟩) (hu : 0 < u.numel) (hv : ∀ i, v i = 0)
    (y : (⟨2, ![n, N]⟩ : Shape).Idx) :
    pad ⟨2, ![n, N]⟩ ![0, lo] ![0, hi] ![0, 0] x v h hu y
      = if lo ≤ (y 1).val ∧ (y 1).val < lo + k then at2 x (y 0).val ((y 1).val - lo) else 0 := by
  split
  · rename_i c
    refine (pad_apply_of_inside _ _ _ x v h hu y (ix2 ⟨(y 0).val, (y 0).isLt⟩ ⟨(y 1).val - lo, by omega⟩) (fun a => ?_)).trans (read2 x _ rfl rfl)
    match a with
    | ⟨0, _⟩ => show (y 0).val = 0 + (y 0).val * (0 + 1); omega
    | ⟨1, _⟩ => show (y 1).val = lo + ((y 1).val - lo) * (0 + 1); omega
  · rename_i c
    refine (pad_apply_of_not_inside _ _ _ x v h hu y (1 : Fin 2) ?_).trans (hv _)
    show ¬(lo ≤ (y 1).val ∧ ((y 1).val - lo) % (0 + 1) = 0 ∧ ((y 1).val - lo) / (0 + 1) < k)
    rintro ⟨a, -, b⟩
    rw [Nat.zero_add, Nat.div_one] at b
    exact c ⟨a, by omega⟩

/-- The same, of a half of every head. -/
theorem padHalf {lo hi : ℕ} (x : (⟨3, ![8192, 8, 32]⟩ : Shape).Idx → EReal) {u : Shape} (v : u.Idx → EReal)
    (h : (⟨3, ![8192, 8, 32]⟩ : Shape).Pads ![0, 0, lo] ![0, 0, hi] ![0, 0, 0] ⟨3, ![8192, 8, 64]⟩) (hu : 0 < u.numel) (hv : ∀ i, v i = 0)
    (y : (⟨3, ![8192, 8, 64]⟩ : Shape).Idx) :
    pad ⟨3, ![8192, 8, 64]⟩ ![0, 0, lo] ![0, 0, hi] ![0, 0, 0] x v h hu y
      = if lo ≤ (y 2).val ∧ (y 2).val < lo + 32 then at3 x (y 0).val (y 1).val ((y 2).val - lo) else 0 := by
  split
  · rename_i c
    refine (pad_apply_of_inside _ _ _ x v h hu y
      (ix3 ⟨(y 0).val, (y 0).isLt⟩ ⟨(y 1).val, (y 1).isLt⟩ ⟨(y 2).val - lo, by omega⟩) (fun a => ?_)).trans (read3 x _ rfl rfl rfl)
    match a with
    | ⟨0, _⟩ => show (y 0).val = 0 + (y 0).val * (0 + 1); omega
    | ⟨1, _⟩ => show (y 1).val = 0 + (y 1).val * (0 + 1); omega
    | ⟨2, _⟩ => show (y 2).val = lo + ((y 2).val - lo) * (0 + 1); omega
  · rename_i c
    refine (pad_apply_of_not_inside _ _ _ x v h hu y (2 : Fin 3) ?_).trans (hv _)
    show ¬(lo ≤ (y 2).val ∧ ((y 2).val - lo) % (0 + 1) = 0 ∧ ((y 2).val - lo) / (0 + 1) < 32)
    rintro ⟨a, -, b⟩
    rw [Nat.zero_add, Nat.div_one] at b
    exact c ⟨a, by omega⟩

end Step.Rotary

end
-- ==== Proof.DinValue.lean ====
/- The value of the call `Din`: the gradient of the first normalisation, taken back from the seven branches of the input
   projection: the queries and keys turned back by their rotary angles, the values, and the recurrence's four inputs.

   Blocks of 512 rows; the weight's gradient is summed over the blocks in one row the grid points share. -/
module

public import proofs.«01_k».proof.Defs
public import proofs.«01_k».proof.Proof.Gen.DinIdeal.Value
public import proofs.«01_k».proof.Proof.Gen.DinRefIdeal.Run
public import proofs.«01_k».proof.Proof.Gen.DinRefIdeal.Read
public import proofs.«01_k».proof.Proof.Gen.Pre_din_finite
public import Idealize.ShloMosaic.Lib.Pipeline.ValueKit.Geometry
public import Idealize.ShloMosaic.Lib.Pipeline.ValueKit.Acc
public import Idealize.ShloMosaic.Lib.IdealHost
public import proofs.«01_k».proof.Proof.Reading
public import proofs.«01_k».proof.Proof.Norm
public import proofs.«01_k».proof.Proof.Rotary

@[expose] public section

noncomputable section

namespace Step.In

open Idealize.ShloMosaic Idealize.ShloMosaic.ValueIdx Step Step.Rotary

/-- The cotangents of the input projection's seven branches. -/
structure Branches where
  q : ℕ → ℕ → EReal
  k : ℕ → ℕ → EReal
  v : ℕ → ℕ → EReal
  hq : ℕ → ℕ → EReal
  hf : ℕ → ℕ → EReal
  hi : ℕ → ℕ → EReal
  hg : ℕ → ℕ → EReal

/-- The scale of the queries. -/
def eighth : EReal := Ideal.ofBits .f32 0x3E000000#32

theorem eighth_eq : eighth = ((1 / 8 : ℝ) : EReal) := by
  unfold eighth
  rw [ofBits_normal _ 1 0 124 (if_neg (by decide)) (by decide) (by decide) (by decide) (by decide)]
  congr 1
  norm_num [zpow_neg]

/-- The cotangent of the projection's branch `n`: queries and keys turned back, the queries scaled. -/
def piece (B : Branches) : ℕ → ℕ → ℕ → EReal
  | 0, i, j => turnBack B.q i j * eighth
  | 1, i, j => turnBack B.k i j
  | 2, i, j => B.v i j
  | 3, i, j => B.hq i j
  | 4, i, j => B.hf i j
  | 5, i, j => B.hi i j
  | _, i, j => B.hg i j

/-- The cotangent of the projection, its branches side by side. -/
def dproj (B : Branches) (i j : ℕ) : EReal := piece B (j / 512) i (j % 512)

theorem dproj_at (B : Branches) (n i : ℕ) {j : ℕ} (hj : j < 512) : dproj B i (512 * n + j) = piece B n i j := by
  unfold dproj
  rw [show (512 * n + j) / 512 = n by omega, show (512 * n + j) % 512 = j by omega]

/-- The cotangent of the normalised rows. -/
def du (B : Branches) (w : ℕ → ℕ → EReal) (i j : ℕ) : EReal := ∑ k : Fin 3584, dproj B i k.val * w j k.val

theorem du_blocks (B : Branches) (w : ℕ → ℕ → EReal) (i j : ℕ) :
    du B w i j = ∑ s ∈ Finset.range 7, ∑ r : Fin 512, piece B s i r.val * w j (512 * s + r.val) := by
  refine (sum_blocks 7 512 3584 rfl fun k => dproj B i k * w j k).symm.trans ?_
  exact Finset.sum_congr rfl fun s _ => Finset.sum_congr rfl fun r _ => congrArg (· * _) (dproj_at B s i r.isLt)

/-- The same times the normalisation's weight. -/
def tw (B : Branches) (w w1 : ℕ → ℕ → EReal) (i j : ℕ) : EReal := du B w i j * w1 0 j

/-- The gradient of the step's input. -/
def gx (B : Branches) (w x w1 d : ℕ → ℕ → EReal) (i j : ℕ) : EReal := back 1024 d (tw B w w1) x i j

/-- One row's part of the gradient of the normalisation's weight. -/
def part (B : Branches) (w x : ℕ → ℕ → EReal) (r j : ℕ) : EReal := du B w r j * unit 1024 x r j

end Step.In

namespace Cert.DinIdeal.Sum

open Cert.DinIdeal Cert.DinIdeal.Gen Idealize.ShloMosaic Idealize.ShloMosaic.TcCoe Idealize.ShloMosaic.ValueIdx Step Step.Rotary Step.In

variable (m : (ℓ : Loc nD τ sig) → Buf (Elt Ideal) ℓ)

abbrev dq (c : Dev nD) : S8192x512.Idx → EReal := m ((c.tc : Thread nD τ).loc main_arg0)
abbrev dk (c : Dev nD) : S8192x512.Idx → EReal := m ((c.tc : Thread nD τ).loc main_arg1)
abbrev dv (c : Dev nD) : S8192x512.Idx → EReal := m ((c.tc : Thread nD τ).loc main_arg2)
abbrev hq (c : Dev nD) : S8192x512.Idx → EReal := m ((c.tc : Thread nD τ).loc main_arg3)
abbrev hf (c : Dev nD) : S8192x512.Idx → EReal := m ((c.tc : Thread nD τ).loc main_arg4)
abbrev hi (c : Dev nD) : S8192x512.Idx → EReal := m ((c.tc : Thread nD τ).loc main_arg5)
abbrev hg (c : Dev nD) : S8192x512.Idx → EReal := m ((c.tc : Thread nD τ).loc main_arg6)
abbrev win (c : Dev nD) : S1024x3584.Idx → EReal := m ((c.tc : Thread nD τ).loc main_arg7)
abbrev x (c : Dev nD) : S8192x1024.Idx → EReal := m ((c.tc : Thread nD τ).loc main_arg8)
abbrev w1 (c : Dev nD) : S1x1024.Idx → EReal := m ((c.tc : Thread nD τ).loc main_arg9)
abbrev dh1 (c : Dev nD) : S8192x1024.Idx → EReal := m ((c.tc : Thread nD τ).loc main_arg10)
/-- The operands as tables of two indices. -/
abbrev br (c : Dev nD) : Branches where
  q := at2 (n := 8192) (k := 512) (dq m c)
  k := at2 (n := 8192) (k := 512) (dk m c)
  v := at2 (n := 8192) (k := 512) (dv m c)
  hq := at2 (n := 8192) (k := 512) (hq m c)
  hf := at2 (n := 8192) (k := 512) (hf m c)
  hi := at2 (n := 8192) (k := 512) (hi m c)
  hg := at2 (n := 8192) (k := 512) (hg m c)
abbrev winT (c : Dev nD) : ℕ → ℕ → EReal := at2 (n := 1024) (k := 3584) (win m c)
abbrev xT (c : Dev nD) : ℕ → ℕ → EReal := at2 (n := 8192) (k := 1024) (x m c)
abbrev w1T (c : Dev nD) : ℕ → ℕ → EReal := at2 (n := 1) (k := 1024) (w1 m c)
abbrev dh1T (c : Dev nD) : ℕ → ℕ → EReal := at2 (n := 8192) (k := 1024) (dh1 m c)

/-! ## The rotary tables -/

/-- The angles as the call's host lines compute them. -/
def angles : S8192x32.Idx → EReal :=
  mulf (F := Ideal) (φ := .f32) (broadcastInDim S8192x32 ![0, 1] bcast_S8192x1_S8192x32_0_1 (broadcastInDim S8192x1 ![0] bcast_S8192_S8192x1_0 (sitofp (F := Ideal) .f32 (iotaInDim S8192 32 0))))
    (broadcastInDim S8192x32 ![0, 1] bcast_S1x32_S8192x32_0_1 (broadcastInDim S1x32 ![1] bcast_S32_S1x32_1
      (Host.powf (F := Ideal) (φ := .f32) (broadcastInDim S32 ![] bcast_S_S32 (constant (F := Ideal) S_ .f32 0x461C4000#32))
        (Host.divf (F := Ideal) (φ := .f32) (Host.negf (F := Ideal) (φ := .f32) (sitofp (F := Ideal) .f32 (iotaInDim S32 32 0)))
          (broadcastInDim S32 ![] bcast_S_S32 (constant (F := Ideal) S_ .f32 0x42000000#32))))))

theorem angles_apply (z : S8192x32.Idx) : angles z = angle (z 0).val (z 1).val := by
  unfold angles angle
  refine congrArg₂ (· * ·) ?_ ?_
  · refine (broadcastInDim_apply (s := S8192x1) (t := S8192x32) _ _ _ z (ix2 ⟨(z 0).val, (z 0).isLt⟩ (0 : Fin 1)) (fun a => by
      match a with
      | ⟨0, _⟩ => exact (if_neg (show ¬(8192 = 1) by decide)).symm
      | ⟨1, _⟩ => rfl)).trans ?_
    refine (broadcastInDim_apply (s := S8192) (t := S8192x1) _ _ _ _ (ix1 ⟨(z 0).val, (z 0).isLt⟩) (fun a => by
      match a with
      | ⟨0, _⟩ => exact (if_neg (show ¬(8192 = 1) by decide)).symm)).trans ?_
    rfl
  · refine (broadcastInDim_apply (s := S1x32) (t := S8192x32) _ _ _ z (ix2 (0 : Fin 1) ⟨(z 1).val, (z 1).isLt⟩) (fun a => by
      match a with
      | ⟨0, _⟩ => rfl
      | ⟨1, _⟩ => exact (if_neg (show ¬(32 = 1) by decide)).symm)).trans ?_
    refine (broadcastInDim_apply (s := S32) (t := S1x32) _ _ _ _ (ix1 ⟨(z 1).val, (z 1).isLt⟩) (fun a => by
      match a with
      | ⟨0, _⟩ => exact (if_neg (show ¬(32 = 1) by decide)).symm)).trans ?_
    rfl

/-- The call's table of cosines, and its table of signed sines. -/
theorem operand7 (c : Dev nD) (z : S8192x128.Idx) : (V m c main_v28 : S8192x128.Idx → EReal) z = cosine (z 0).val ((z 1).val % 32) := by
  have hz1 : (z 1).val < 128 := (z 1).isLt
  have e : V m c main_v28 = shapeCast S8192x128 (broadcastInDim S1x8192x4x32 ![0, 1, 2, 3] bcast_S1x8192x1x32_S1x8192x4x32_0_1_2_3
      (shapeCast S1x8192x1x32 (Host.cos (F := Ideal) (φ := .f32) angles) shapeCasts_S8192x32_S1x8192x1x32)) shapeCasts_S1x8192x4x32_S8192x128 := by
    unfold V hostOps0
    after_results <;> rfl
  rw [e]
  refine (table4 _ _ _ _ z).trans ?_
  exact at2_of (n := 8192) (k := 32) _ (fun i j => cosine i j) (fun y => congrArg Ideal.cos (angles_apply y)) (z 0).isLt (Nat.mod_lt _ (by decide))

theorem operand8 (c : Dev nD) (z : S8192x128.Idx) : (V m c main_v33 : S8192x128.Idx → EReal) z = signedSine (z 0).val ((z 1).val % 64) := by
  have e : V m c main_v33 = shapeCast S8192x128 (broadcastInDim S1x8192x2x64 ![0, 1, 2, 3] bcast_S1x8192x1x64_S1x8192x2x64_0_1_2_3
      (shapeCast S1x8192x1x64 (concatenate S8192x64 1 [⟨S8192x32, Host.negf (F := Ideal) (φ := .f32) (Host.sin (F := Ideal) (φ := .f32) angles)⟩,
        ⟨S8192x32, Host.sin (F := Ideal) (φ := .f32) angles⟩] concatenates_S8192x32_S8192x32_S8192x64_d1) shapeCasts_S8192x64_S1x8192x1x64)) shapeCasts_S1x8192x2x64_S8192x128 := by
    unfold V hostOps0
    after_results <;> rfl
  rw [e]
  refine (table2 _ _ _ _ z).trans ?_
  refine at2_of (n := 8192) (k := 64) _ (fun i j => signedSine i j) (fun y => ?_) (z 0).isLt (Nat.mod_lt _ (by decide))
  have hy : (y 1).val < 64 := (y 1).isLt
  refine (concatCols (T := 8192) (a := 32) (b := 32) (n := 64) rfl _ _ _ y).trans ?_
  unfold signedSine
  by_cases h : (y 1).val < 32
  · rw [if_pos h, if_pos h]
    exact at2_of (n := 8192) (k := 32) _ (fun i j => -sine i j) (fun y => congrArg (fun a => -Ideal.sin a) (angles_apply y)) (y 0).isLt h
  · rw [if_neg h, if_neg h]
    exact at2_of (n := 8192) (k := 32) _ (fun i j => sine i j) (fun y => congrArg Ideal.sin (angles_apply y)) (y 0).isLt (by omega)

/-! ## The blocks of a grid point: 512 rows; the projection and the normalisation's weight come whole. -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index14 : ∀ t : Fin cfg0.N, win0_14.index t (0 : Fin 2) = t.val ∧ win0_14.index t (1 : Fin 2) = 0 :=
  (by decide +kernel : ∀ t : Fin grid0.N, _)
theorem index15 : ∀ t : Fin cfg0.N, win0_15.index t (0 : Fin 2) = 0 ∧ win0_15.index t (1 : Fin 2) = 0 :=
  (by decide +kernel : ∀ t : Fin grid0.N, _)

theorem block0 (c : Dev nD) (t : Fin cfg0.N) (y : S512x512.Idx) :
    (iblk m c 0 t : Vec Ideal S512x512 .f32) y = at2 (n := 8192) (k := 512) (dq m c) (512 * t.val + (y 0).val) (y 1).val := by
  obtain ⟨e0, e1⟩ := index0 t
  refine (congrFun (V_main_arg0 m c) _).trans (read2 (n := 8192) (k := 512) (dq m c) _ ?_ ?_)
  · show win0_0.index t 0 * 512 + 1 * (y 0).val = _
    rw [e0]; omega
  · show win0_0.index t 1 * 512 + 1 * (y 1).val = _
    rw [e1]; omega

theorem block1 (c : Dev nD) (t : Fin cfg0.N) (y : S512x512.Idx) :
    (iblk m c 1 t : Vec Ideal S512x512 .f32) y = at2 (n := 8192) (k := 512) (dk m c) (512 * t.val + (y 0).val) (y 1).val := by
  obtain ⟨e0, e1⟩ := index1 t
  refine (congrFun (V_main_arg1 m c) _).trans (read2 (n := 8192) (k := 512) (dk m c) _ ?_ ?_)
  · show win0_1.index t 0 * 512 + 1 * (y 0).val = _
    rw [e0]; omega
  · show win0_1.index t 1 * 512 + 1 * (y 1).val = _
    rw [e1]; omega

theorem block2 (c : Dev nD) (t : Fin cfg0.N) (y : S512x512.Idx) :
    (iblk m c 2 t : Vec Ideal S512x512 .f32) y = at2 (n := 8192) (k := 512) (dv m c) (512 * t.val + (y 0).val) (y 1).val := by
  obtain ⟨e0, e1⟩ := index2 t
  refine (congrFun (V_main_arg2 m c) _).trans (read2 (n := 8192) (k := 512) (dv m c) _ ?_ ?_)
  · show win0_2.index t 0 * 512 + 1 * (y 0).val = _
    rw [e0]; omega
  · show win0_2.index t 1 * 512 + 1 * (y 1).val = _
    rw [e1]; omega

theorem block3 (c : Dev nD) (t : Fin cfg0.N) (y : S512x512.Idx) :
    (iblk m c 3 t : Vec Ideal S512x512 .bf16) y = at2 (n := 8192) (k := 512) (hq m c) (512 * t.val + (y 0).val) (y 1).val := by
  obtain ⟨e0, e1⟩ := index3 t
  refine (congrFun (V_main_arg3 m c) _).trans (read2 (n := 8192) (k := 512) (hq m c) _ ?_ ?_)
  · show win0_3.index t 0 * 512 + 1 * (y 0).val = _
    rw [e0]; omega
  · show win0_3.index t 1 * 512 + 1 * (y 1).val = _
    rw [e1]; omega

theorem block4 (c : Dev nD) (t : Fin cfg0.N) (y : S512x512.Idx) :
    (iblk m c 4 t : Vec Ideal S512x512 .bf16) y = at2 (n := 8192) (k := 512) (hf m c) (512 * t.val + (y 0).val) (y 1).val := by
  obtain ⟨e0, e1⟩ := index4 t
  refine (congrFun (V_main_arg4 m c) _).trans (read2 (n := 8192) (k := 512) (hf m c) _ ?_ ?_)
  · show win0_4.index t 0 * 512 + 1 * (y 0).val = _
    rw [e0]; omega
  · show win0_4.index t 1 * 512 + 1 * (y 1).val = _
    rw [e1]; omega

theorem block5 (c : Dev nD) (t : Fin cfg0.N) (y : S512x512.Idx) :
    (iblk m c 5 t : Vec Ideal S512x512 .bf16) y = at2 (n := 8192) (k := 512) (hi m c) (512 * t.val + (y 0).val) (y 1).val := by
  obtain ⟨e0, e1⟩ := index5 t
  refine (congrFun (V_main_arg5 m c) _).trans (read2 (n := 8192) (k := 512) (hi m c) _ ?_ ?_)
  · show win0_5.index t 0 * 512 + 1 * (y 0).val = _
    rw [e0]; omega
  · show win0_5.index t 1 * 512 + 1 * (y 1).val = _
    rw [e1]; omega

theorem block6 (c : Dev nD) (t : Fin cfg0.N) (y : S512x512.Idx) :
    (iblk m c 6 t : Vec Ideal S512x512 .bf16) y = at2 (n := 8192) (k := 512) (hg m c) (512 * t.val + (y 0).val) (y 1).val := by
  obtain ⟨e0, e1⟩ := index6 t
  refine (congrFun (V_main_arg6 m c) _).trans (read2 (n := 8192) (k := 512) (hg m c) _ ?_ ?_)
  · show win0_6.index t 0 * 512 + 1 * (y 0).val = _
    rw [e0]; omega
  · show win0_6.index t 1 * 512 + 1 * (y 1).val = _
    rw [e1]; omega

theorem block7 (c : Dev nD) (t : Fin cfg0.N) (y : S512x128.Idx) :
    (iblk m c 7 t : Vec Ideal S512x128 .f32) y = cosine (512 * t.val + (y 0).val) ((y 1).val % 32) := by
  obtain ⟨e0, e1⟩ := index7 t
  refine (operand7 m c _).trans ?_
  show cosine (win0_7.index t (0 : Fin 2) * 512 + 1 * (y 0).val) ((win0_7.index t (1 : Fin 2) * 128 + 1 * (y 1).val) % 32) = _
  rw [e0, e1]
  refine congrArg₂ _ ?_ ?_ <;> omega

theorem block8 (c : Dev nD) (t : Fin cfg0.N) (y : S512x128.Idx) :
    (iblk m c 8 t : Vec Ideal S512x128 .f32) y = signedSine (512 * t.val + (y 0).val) ((y 1).val % 64) := by
  obtain ⟨e0, e1⟩ := index8 t
  refine (operand8 m c _).trans ?_
  show signedSine (win0_8.index t (0 : Fin 2) * 512 + 1 * (y 0).val) ((win0_8.index t (1 : Fin 2) * 128 + 1 * (y 1).val) % 64) = _
  rw [e0, e1]
  refine congrArg₂ _ ?_ ?_ <;> omega

theorem block9 (c : Dev nD) (t : Fin cfg0.N) (y : S1024x3584.Idx) :
    (iblk m c 9 t : Vec Ideal S1024x3584 .bf16) y = at2 (n := 1024) (k := 3584) (win m c) ((y 0).val) (y 1).val := by
  obtain ⟨e0, e1⟩ := index9 t
  refine (congrFun (V_main_arg7 m c) _).trans (read2 (n := 1024) (k := 3584) (win m c) _ ?_ ?_)
  · show win0_9.index t 0 * 1024 + 1 * (y 0).val = _
    rw [e0]; omega
  · show win0_9.index t 1 * 3584 + 1 * (y 1).val = _
    rw [e1]; omega

theorem block10 (c : Dev nD) (t : Fin cfg0.N) (y : S512x1024.Idx) :
    (iblk m c 10 t : Vec Ideal S512x1024 .f32) y = at2 (n := 8192) (k := 1024) (x m c) (512 * t.val + (y 0).val) (y 1).val := by
  obtain ⟨e0, e1⟩ := index10 t
  refine (congrFun (V_main_arg8 m c) _).trans (read2 (n := 8192) (k := 1024) (x m c) _ ?_ ?_)
  · show win0_10.index t 0 * 512 + 1 * (y 0).val = _
    rw [e0]; omega
  · show win0_10.index t 1 * 1024 + 1 * (y 1).val = _
    rw [e1]; omega

theorem block11 (c : Dev nD) (t : Fin cfg0.N) (y : S1x1024.Idx) :
    (iblk m c 11 t : Vec Ideal S1x1024 .f32) y = at2 (n := 1) (k := 1024) (w1 m c) ((y 0).val) (y 1).val := by
  obtain ⟨e0, e1⟩ := index11 t
  refine (congrFun (V_main_arg9 m c) _).trans (read2 (n := 1) (k := 1024) (w1 m c) _ ?_ ?_)
  · show win0_11.index t 0 * 1 + 1 * (y 0).val = _
    rw [e0]; omega
  · show win0_11.index t 1 * 1024 + 1 * (y 1).val = _
    rw [e1]; omega

theorem block12 (c : Dev nD) (t : Fin cfg0.N) (y : S512x1024.Idx) :
    (iblk m c 12 t : Vec Ideal S512x1024 .f32) y = at2 (n := 8192) (k := 1024) (dh1 m c) (512 * t.val + (y 0).val) (y 1).val := by
  obtain ⟨e0, e1⟩ := index12 t
  refine (congrFun (V_main_arg10 m c) _).trans (read2 (n := 8192) (k := 1024) (dh1 m c) _ ?_ ?_)
  · show win0_12.index t 0 * 512 + 1 * (y 0).val = _
    rw [e0]; omega
  · show win0_12.index t 1 * 1024 + 1 * (y 1).val = _
    rw [e1]; omega

theorem zero2 : (![0, 0] : Fin 2 → ℕ) = fun _ => 0 := by decide

/-- The seven slices of the projection's weight, by its columns. -/
abbrev slice0 (v : Vec Ideal S1024x3584 .bf16) : Vec Ideal S1024x512 .bf16 :=
  View.ld v (Rect.unit ![0, 0] S1024x512.size inb_S1024x3584_S1024x512_0_0)
abbrev slice1 (v : Vec Ideal S1024x3584 .bf16) : Vec Ideal S1024x512 .bf16 :=
  View.ld v (Rect.unit ![0, 512] S1024x512.size inb_S1024x3584_S1024x512_0_512)
abbrev slice2 (v : Vec Ideal S1024x3584 .bf16) : Vec Ideal S1024x512 .bf16 :=
  View.ld v (Rect.unit ![0, 1024] S1024x512.size inb_S1024x3584_S1024x512_0_1024)
abbrev slice3 (v : Vec Ideal S1024x3584 .bf16) : Vec Ideal S1024x512 .bf16 :=
  View.ld v (Rect.unit ![0, 1536] S1024x512.size inb_S1024x3584_S1024x512_0_1536)
abbrev slice4 (v : Vec Ideal S1024x3584 .bf16) : Vec Ideal S1024x512 .bf16 :=
  View.ld v (Rect.unit ![0, 2048] S1024x512.size inb_S1024x3584_S1024x512_0_2048)
abbrev slice5 (v : Vec Ideal S1024x3584 .bf16) : Vec Ideal S1024x512 .bf16 :=
  View.ld v (Rect.unit ![0, 2560] S1024x512.size inb_S1024x3584_S1024x512_0_2560)
abbrev slice6 (v : Vec Ideal S1024x3584 .bf16) : Vec Ideal S1024x512 .bf16 :=
  View.ld v (Rect.unit ![0, 3072] S1024x512.size inb_S1024x3584_S1024x512_0_3072)

section Point
variable (c : Dev nD) (i : grid0.Coords) (arg1 : Memref sig .tc .vmem S512x512 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S1024x3584 .bf16) (harg10 : arg10.IsWhole)
  (arg11 : Memref sig .tc .vmem S512x1024 .f32) (harg11 : arg11.IsWhole)
  (arg12 : Memref sig .tc .vmem S1x1024 .f32) (harg12 : arg12.IsWhole)
  (arg13 : Memref sig .tc .vmem S512x1024 .f32) (harg13 : arg13.IsWhole)
  (arg14 : Memref sig .tc .vmem S512x3584 .bf16) (harg14 : arg14.IsWhole)
  (arg15 : Memref sig .tc .vmem S512x1024 .f32) (harg15 : arg15.IsWhole)
  (arg16 : Memref sig .tc .vmem S1x1024 .f32) (harg16 : arg16.IsWhole)
  (x0 x1 x2 : Vec Ideal S512x512 .f32) (x3 x4 x5 x6 : Vec Ideal S512x512 .bf16) (x7 x8 : Vec Ideal S512x128 .f32)
  (x9 : Vec Ideal S1024x3584 .bf16) (x10 : Vec Ideal S512x1024 .f32) (x11 : Vec Ideal S1x1024 .f32) (x12 : Vec Ideal S512x1024 .f32)

/-- A point leaves in the projection's block the seven branches' cotangents, each in its own columns, … -/
theorem out_A_13 (hc0 : cond0_0 i) (G : ℕ → ℕ → EReal)
    (h0 : ∀ x : S512x512.Idx, (k0_pay4 x7 x8 x0 : S512x512.Idx → EReal) x = G (x 0).val (0 + (x 1).val))
    (h1 : ∀ x : S512x512.Idx, (k0_pay5 (k0_pay2 x7) (k0_pay3 x8) x1 : S512x512.Idx → EReal) x = G (x 0).val (512 + (x 1).val))
    (h2 : ∀ x : S512x512.Idx, (k0_pay6 x2 : S512x512.Idx → EReal) x = G (x 0).val (1024 + (x 1).val))
    (h3 : ∀ x : S512x512.Idx, (x3 : S512x512.Idx → EReal) x = G (x 0).val (1536 + (x 1).val))
    (h4 : ∀ x : S512x512.Idx, (x4 : S512x512.Idx → EReal) x = G (x 0).val (2048 + (x 1).val))
    (h5 : ∀ x : S512x512.Idx, (x5 : S512x512.Idx → EReal) x = G (x 0).val (2560 + (x 1).val))
    (h6 : ∀ x : S512x512.Idx, (x6 : S512x512.Idx → EReal) x = G (x 0).val (3072 + (x 1).val)) (y : S512x3584.Idx) :
    (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 : S512x3584.Idx → EReal) y = G (y 0).val (y 1).val := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  refine View.canon_apply_of_pieces (Val := Elt Ideal) (e := .bf16) (fun y : S512x3584.Idx => (G (y 0).val (y 1).val : EReal)) _ ?_ y
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 y)
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x512) zero2, View.ld_unit_zero (S := S512x128) zero2, View.ld_unit_zero (S := S512x1024) zero2,
    View.ld_unit_zero (S := S1x1024) zero2]
  intro p hp
  simp only [List.mem_cons, List.not_mem_nil, or_false] at hp
  rcases hp with rfl | rfl | rfl | rfl | rfl | rfl | rfl <;> intro z
  · show (x6 : S512x512.Idx → EReal) z = G (0 + 1 * (z 0).val) (3072 + 1 * (z 1).val)
    rw [Nat.zero_add, Nat.one_mul, Nat.one_mul]
    exact h6 z
  · show (x5 : S512x512.Idx → EReal) z = G (0 + 1 * (z 0).val) (2560 + 1 * (z 1).val)
    rw [Nat.zero_add, Nat.one_mul, Nat.one_mul]
    exact h5 z
  · show (x4 : S512x512.Idx → EReal) z = G (0 + 1 * (z 0).val) (2048 + 1 * (z 1).val)
    rw [Nat.zero_add, Nat.one_mul, Nat.one_mul]
    exact h4 z
  · show (x3 : S512x512.Idx → EReal) z = G (0 + 1 * (z 0).val) (1536 + 1 * (z 1).val)
    rw [Nat.zero_add, Nat.one_mul, Nat.one_mul]
    exact h3 z
  · show (k0_pay6 x2 : S512x512.Idx → EReal) z = G (0 + 1 * (z 0).val) (1024 + 1 * (z 1).val)
    rw [Nat.zero_add, Nat.one_mul, Nat.one_mul]
    exact h2 z
  · show (k0_pay5 (k0_pay2 x7) (k0_pay3 x8) x1 : S512x512.Idx → EReal) z = G (0 + 1 * (z 0).val) (512 + 1 * (z 1).val)
    rw [Nat.zero_add, Nat.one_mul, Nat.one_mul]
    exact h1 z
  · show (k0_pay4 x7 x8 x0 : S512x512.Idx → EReal) z = G (0 + 1 * (z 0).val) (0 + 1 * (z 1).val)
    rw [Nat.zero_add, Nat.one_mul, Nat.one_mul]
    exact h0 z

/-- … in the input's block the input's gradient, … -/
theorem out_A_14 (hc0 : cond0_0 i) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12
      = k0_pay13 x6 (k0_pay8 (k0_pay4 x7 x8 x0) (k0_pay5 (k0_pay2 x7) (k0_pay3 x8) x1) (k0_pay6 x2) x3 x4 x5 (k0_pay7 (F := Ideal)) (slice0 x9) (slice1 x9) (slice2 x9) (slice3 x9) (slice4 x9) (slice5 x9)) (slice6 x9) x10 x12 x11 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x512) zero2, View.ld_unit_zero (S := S512x128) zero2, View.ld_unit_zero (S := S512x1024) zero2,
    View.ld_unit_zero (S := S1x1024) zero2]

/-- … and in the shared row the row's sum so far and its own part. -/
theorem out_A_15 (hc0 : cond0_0 i) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12
      = k0_pay12 x6 (k0_pay8 (k0_pay4 x7 x8 x0) (k0_pay5 (k0_pay2 x7) (k0_pay3 x8) x1) (k0_pay6 x2) x3 x4 x5 (k0_pay7 (F := Ideal)) (slice0 x9) (slice1 x9) (slice2 x9) (slice3 x9) (slice4 x9) (slice5 x9)) (slice6 x9) x10 (k0_pay1 (F := Ideal)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  try sl_unfold_words
  rw [View.canon_cons_unit_zero (S := S1x1024) zero2, View.readCov_unit_zero (S := S1x1024) _ zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x512) zero2, View.ld_unit_zero (S := S512x128) zero2, View.ld_unit_zero (S := S512x1024) zero2,
    View.ld_unit_zero (S := S1x1024) zero2]

theorem out_B_13 (hc0 : ¬cond0_0 i) (xo15 : Vec Ideal S1x1024 .f32) (G : ℕ → ℕ → EReal)
    (h0 : ∀ x : S512x512.Idx, (k0_pay4 x7 x8 x0 : S512x512.Idx → EReal) x = G (x 0).val (0 + (x 1).val))
    (h1 : ∀ x : S512x512.Idx, (k0_pay5 (k0_pay2 x7) (k0_pay3 x8) x1 : S512x512.Idx → EReal) x = G (x 0).val (512 + (x 1).val))
    (h2 : ∀ x : S512x512.Idx, (k0_pay6 x2 : S512x512.Idx → EReal) x = G (x 0).val (1024 + (x 1).val))
    (h3 : ∀ x : S512x512.Idx, (x3 : S512x512.Idx → EReal) x = G (x 0).val (1536 + (x 1).val))
    (h4 : ∀ x : S512x512.Idx, (x4 : S512x512.Idx → EReal) x = G (x 0).val (2048 + (x 1).val))
    (h5 : ∀ x : S512x512.Idx, (x5 : S512x512.Idx → EReal) x = G (x 0).val (2560 + (x 1).val))
    (h6 : ∀ x : S512x512.Idx, (x6 : S512x512.Idx → EReal) x = G (x 0).val (3072 + (x 1).val)) (y : S512x3584.Idx) :
    (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo15 : S512x3584.Idx → EReal) y = G (y 0).val (y 1).val := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo15)]
  refine View.canon_apply_of_pieces (Val := Elt Ideal) (e := .bf16) (fun y : S512x3584.Idx => (G (y 0).val (y 1).val : EReal)) _ ?_ y
    (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo15 y)
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x512) zero2, View.ld_unit_zero (S := S512x128) zero2, View.ld_unit_zero (S := S512x1024) zero2,
    View.ld_unit_zero (S := S1x1024) zero2]
  intro p hp
  simp only [List.mem_cons, List.not_mem_nil, or_false] at hp
  rcases hp with rfl | rfl | rfl | rfl | rfl | rfl | rfl <;> intro z
  · show (x6 : S512x512.Idx → EReal) z = G (0 + 1 * (z 0).val) (3072 + 1 * (z 1).val)
    rw [Nat.zero_add, Nat.one_mul, Nat.one_mul]
    exact h6 z
  · show (x5 : S512x512.Idx → EReal) z = G (0 + 1 * (z 0).val) (2560 + 1 * (z 1).val)
    rw [Nat.zero_add, Nat.one_mul, Nat.one_mul]
    exact h5 z
  · show (x4 : S512x512.Idx → EReal) z = G (0 + 1 * (z 0).val) (2048 + 1 * (z 1).val)
    rw [Nat.zero_add, Nat.one_mul, Nat.one_mul]
    exact h4 z
  · show (x3 : S512x512.Idx → EReal) z = G (0 + 1 * (z 0).val) (1536 + 1 * (z 1).val)
    rw [Nat.zero_add, Nat.one_mul, Nat.one_mul]
    exact h3 z
  · show (k0_pay6 x2 : S512x512.Idx → EReal) z = G (0 + 1 * (z 0).val) (1024 + 1 * (z 1).val)
    rw [Nat.zero_add, Nat.one_mul, Nat.one_mul]
    exact h2 z
  · show (k0_pay5 (k0_pay2 x7) (k0_pay3 x8) x1 : S512x512.Idx → EReal) z = G (0 + 1 * (z 0).val) (512 + 1 * (z 1).val)
    rw [Nat.zero_add, Nat.one_mul, Nat.one_mul]
    exact h1 z
  · show (k0_pay4 x7 x8 x0 : S512x512.Idx → EReal) z = G (0 + 1 * (z 0).val) (0 + 1 * (z 1).val)
    rw [Nat.zero_add, Nat.one_mul, Nat.one_mul]
    exact h0 z

theorem out_B_14 (hc0 : ¬cond0_0 i) (xo15 : Vec Ideal S1x1024 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo15
      = k0_pay13 x6 (k0_pay8 (k0_pay4 x7 x8 x0) (k0_pay5 (k0_pay2 x7) (k0_pay3 x8) x1) (k0_pay6 x2) x3 x4 x5 (k0_pay7 (F := Ideal)) (slice0 x9) (slice1 x9) (slice2 x9) (slice3 x9) (slice4 x9) (slice5 x9)) (slice6 x9) x10 x12 x11 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo15)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x512) zero2, View.ld_unit_zero (S := S512x128) zero2, View.ld_unit_zero (S := S512x1024) zero2,
    View.ld_unit_zero (S := S1x1024) zero2]

theorem out_B_15 (hc0 : ¬cond0_0 i) (xo15 : Vec Ideal S1x1024 .f32) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo15
      = k0_pay12 x6 (k0_pay8 (k0_pay4 x7 x8 x0) (k0_pay5 (k0_pay2 x7) (k0_pay3 x8) x1) (k0_pay6 x2) x3 x4 x5 (k0_pay7 (F := Ideal)) (slice0 x9) (slice1 x9) (slice2 x9) (slice3 x9) (slice4 x9) (slice5 x9)) (slice6 x9) x10 xo15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo15)]
  unfold kernelRun0_B
  dsimp only
  try sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x512) zero2, View.ld_unit_zero (S := S512x128) zero2, View.ld_unit_zero (S := S512x1024) zero2,
    View.ld_unit_zero (S := S1x1024) zero2]

end Point

/-! ## The values of a grid point, read at an index of its block -/

/-- The repeated tables. -/
theorem cosBlock (c : Dev nD) (t : Fin cfg0.N) (y : S512x512.Idx) :
    k0_pay2 (F := Ideal) (iblk m c 7 t) y = cosine (512 * t.val + (y 0).val) ((y 1).val % 128 % 32) := by
  unfold k0_pay2
  simp only [shapeCast_self]
  refine (repeated (T := 512) _ _ y).trans ?_
  exact at2_of (n := 512) (k := 128) _ (fun i j => cosine (512 * t.val + i) (j % 32)) (block7 m c t) (y 0).isLt (Nat.mod_lt _ (by decide))

theorem sineBlock (c : Dev nD) (t : Fin cfg0.N) (y : S512x512.Idx) :
    k0_pay3 (F := Ideal) (iblk m c 8 t) y = signedSine (512 * t.val + (y 0).val) ((y 1).val % 128 % 64) := by
  unfold k0_pay3
  simp only [shapeCast_self]
  refine (repeated (T := 512) _ _ y).trans ?_
  exact at2_of (n := 512) (k := 128) _ (fun i j => signedSine (512 * t.val + i) (j % 64)) (block8 m c t) (y 0).isLt (Nat.mod_lt _ (by decide))

/-- A block of rows turned back. -/
theorem turned (c : Dev nD) (t : Fin cfg0.N) (x : Vec Ideal S512x512 .f32) (A : ℕ → ℕ → EReal)
    (hx : ∀ y : S512x512.Idx, x y = A (512 * t.val + (y 0).val) (y 1).val) (y : S512x512.Idx) :
    (k0_pay5 (F := Ideal) (k0_pay2 (iblk m c 7 t)) (k0_pay3 (iblk m c 8 t)) x : S512x512.Idx → EReal) y
      = turnBack A (512 * t.val + (y 0).val) (y 1).val := by
  have h1 : (y 1).val < 512 := (y 1).isLt
  have hp : partner (y 1).val < 512 := by unfold partner; split <;> omega
  refine Eq.trans ?_ (turnBack_eq A (512 * t.val + (y 0).val) h1)
  unfold k0_pay5
  refine congrArg₂ (fun a b : EReal => a - b) (congrArg₂ (· * ·) (hx y) (cosBlock m c t y)) (congrArg₂ (· * ·) (sineBlock m c t y) ?_)
  show (if firstHalf (0 * 512 + (y 1).val) = 1 then dynamicRotate 1 480#32 none x _ y else dynamicRotate 1 32#32 none x _ y) = _
  rw [show 0 * 512 + (y 1).val = (y 1).val by omega]
  refine (partners (T := 512) x _ y).trans ?_
  exact at2_of (n := 512) (k := 512) x (fun i j => A (512 * t.val + i) j) hx (y 0).isLt hp

theorem turnedScaled (c : Dev nD) (t : Fin cfg0.N) (y : S512x512.Idx) :
    (k0_pay4 (F := Ideal) (iblk m c 7 t) (iblk m c 8 t) (iblk m c 0 t) : S512x512.Idx → EReal) y
      = piece (br m c) 0 (512 * t.val + (y 0).val) (y 1).val :=
  congrArg (· * eighth) (turned m c t (iblk m c 0 t) (at2 (n := 8192) (k := 512) (dq m c)) (block0 m c t) y)

/-- A slice of the projection's weight. -/
theorem slice0_apply (c : Dev nD) (t : Fin cfg0.N) (z : S1024x512.Idx) :
    slice0 (iblk m c 9 t) z = winT m c (z 0).val (512 * 0 + (z 1).val) := by
  refine (block9 m c t _).trans ?_
  show winT m c (0 + 1 * (z 0).val) (0 + 1 * (z 1).val) = _
  rw [Nat.zero_add, Nat.one_mul, Nat.one_mul]

theorem slice1_apply (c : Dev nD) (t : Fin cfg0.N) (z : S1024x512.Idx) :
    slice1 (iblk m c 9 t) z = winT m c (z 0).val (512 * 1 + (z 1).val) := by
  refine (block9 m c t _).trans ?_
  show winT m c (0 + 1 * (z 0).val) (512 + 1 * (z 1).val) = _
  rw [Nat.zero_add, Nat.one_mul, Nat.one_mul]

theorem slice2_apply (c : Dev nD) (t : Fin cfg0.N) (z : S1024x512.Idx) :
    slice2 (iblk m c 9 t) z = winT m c (z 0).val (512 * 2 + (z 1).val) := by
  refine (block9 m c t _).trans ?_
  show winT m c (0 + 1 * (z 0).val) (1024 + 1 * (z 1).val) = _
  rw [Nat.zero_add, Nat.one_mul, Nat.one_mul]

theorem slice3_apply (c : Dev nD) (t : Fin cfg0.N) (z : S1024x512.Idx) :
    slice3 (iblk m c 9 t) z = winT m c (z 0).val (512 * 3 + (z 1).val) := by
  refine (block9 m c t _).trans ?_
  show winT m c (0 + 1 * (z 0).val) (1536 + 1 * (z 1).val) = _
  rw [Nat.zero_add, Nat.one_mul, Nat.one_mul]

theorem slice4_apply (c : Dev nD) (t : Fin cfg0.N) (z : S1024x512.Idx) :
    slice4 (iblk m c 9 t) z = winT m c (z 0).val (512 * 4 + (z 1).val) := by
  refine (block9 m c t _).trans ?_
  show winT m c (0 + 1 * (z 0).val) (2048 + 1 * (z 1).val) = _
  rw [Nat.zero_add, Nat.one_mul, Nat.one_mul]

theorem slice5_apply (c : Dev nD) (t : Fin cfg0.N) (z : S1024x512.Idx) :
    slice5 (iblk m c 9 t) z = winT m c (z 0).val (512 * 5 + (z 1).val) := by
  refine (block9 m c t _).trans ?_
  show winT m c (0 + 1 * (z 0).val) (2560 + 1 * (z 1).val) = _
  rw [Nat.zero_add, Nat.one_mul, Nat.one_mul]

theorem slice6_apply (c : Dev nD) (t : Fin cfg0.N) (z : S1024x512.Idx) :
    slice6 (iblk m c 9 t) z = winT m c (z 0).val (512 * 6 + (z 1).val) := by
  refine (block9 m c t _).trans ?_
  show winT m c (0 + 1 * (z 0).val) (3072 + 1 * (z 1).val) = _
  rw [Nat.zero_add, Nat.one_mul, Nat.one_mul]

/-- One branch's part of the normalised rows' cotangent. -/
theorem branchPart {φ : FTy} (wf : DotDims.WF ⟨2, ![512, 512]⟩ ⟨2, ![1024, 512]⟩ ⟨2, ![512, 1024]⟩ [1] [1] [0] [0] [] [])
    (B : Branches) (w : ℕ → ℕ → EReal) (t n : ℕ) (l : FVec Ideal ⟨2, ![512, 512]⟩ φ) (r : FVec Ideal ⟨2, ![1024, 512]⟩ .bf16)
    (hl : ∀ y : S512x512.Idx, (l : S512x512.Idx → EReal) y = piece B n (512 * t + (y 0).val) (y 1).val)
    (hr : ∀ z : S1024x512.Idx, (r : S1024x512.Idx → EReal) z = w (z 0).val (512 * n + (z 1).val)) (y : S512x1024.Idx) :
    matmul (ntDims 512 512 1024 wf) none l r (constant ⟨2, ![512, 1024]⟩ .f32 0x00000000#32) y
      = ∑ k : Fin 512, piece B n (512 * t + (y 0).val) k.val * w (y 1).val (512 * n + k.val) := by
  refine (matmul_nt (M := 512) (K := 512) (N := 1024) _ none _ _ y).trans (Finset.sum_congr rfl fun k _ => congrArg₂ (· * ·) ?_ ?_)
  · exact at2_of (n := 512) (k := 512) l (fun i j => piece B n (512 * t + i) j) hl (y 0).isLt k.isLt
  · exact at2_of (n := 1024) (k := 512) r (fun i j => w i (512 * n + j)) hr (y 1).isLt k.isLt

/-- The cotangent of a block of normalised rows. -/
abbrev duVec (c : Dev nD) (t : Fin cfg0.N) : FVec Ideal S512x1024 .f32 :=
  k0_pay9 (F := Ideal) (iblk m c 6 t) (k0_pay8 (k0_pay4 (iblk m c 7 t) (iblk m c 8 t) (iblk m c 0 t)) (k0_pay5 (k0_pay2 (iblk m c 7 t)) (k0_pay3 (iblk m c 8 t)) (iblk m c 1 t)) (k0_pay6 (iblk m c 2 t)) (iblk m c 3 t) (iblk m c 4 t) (iblk m c 5 t) (k0_pay7 (F := Ideal)) (slice0 (iblk m c 9 t)) (slice1 (iblk m c 9 t)) (slice2 (iblk m c 9 t)) (slice3 (iblk m c 9 t)) (slice4 (iblk m c 9 t)) (slice5 (iblk m c 9 t))) (slice6 (iblk m c 9 t))

theorem duBlock (c : Dev nD) (t : Fin cfg0.N) (y : S512x1024.Idx) :
    duVec m c t y = du (br m c) (winT m c) (512 * t.val + (y 0).val) (y 1).val := by
  rw [du_blocks]
  simp only [Finset.sum_range_succ, Finset.sum_range_zero]
  unfold duVec k0_pay9 k0_pay8
  refine congrArg₂ (· + ·) (congrArg₂ (· + ·) (congrArg₂ (· + ·) (congrArg₂ (· + ·) (congrArg₂ (· + ·) (congrArg₂ (· + ·)
    (congrArg₂ (· + ·) Ideal.ofBits_zero_f32 ?_) ?_) ?_) ?_) ?_) ?_) ?_
  · exact branchPart _ (br m c) (winT m c) t.val 0 _ _ (turnedScaled m c t) (slice0_apply m c t) y
  · exact branchPart _ (br m c) (winT m c) t.val 1 _ _ (turned m c t (iblk m c 1 t) (at2 (n := 8192) (k := 512) (dk m c)) (block1 m c t)) (slice1_apply m c t) y
  · exact branchPart _ (br m c) (winT m c) t.val 2 _ _ (block2 m c t) (slice2_apply m c t) y
  · exact branchPart _ (br m c) (winT m c) t.val 3 _ _ (block3 m c t) (slice3_apply m c t) y
  · exact branchPart _ (br m c) (winT m c) t.val 4 _ _ (block4 m c t) (slice4_apply m c t) y
  · exact branchPart _ (br m c) (winT m c) t.val 5 _ _ (block5 m c t) (slice5_apply m c t) y
  · exact branchPart _ (br m c) (winT m c) t.val 6 _ _ (block6 m c t) (slice6_apply m c t) y

theorem scaleBlock (c : Dev nD) (t : Fin cfg0.N) (y : S512x1.Idx) :
    k0_pay10 (F := Ideal) (iblk m c 10 t) y = rscale 1024 (xT m c) (512 * t.val + (y 0).val) := by
  unfold k0_pay10
  refine (scaleCol (T := 512) (n := 1024) _ _ _ _ _ _ y).trans ?_
  exact rscale_congr fun k hk => at2_of (n := 512) (k := 1024) _ (fun i j => xT m c (512 * t.val + i) j) (block10 m c t) (y 0).isLt hk

theorem unitBlock (c : Dev nD) (t : Fin cfg0.N) (y : S512x1024.Idx) :
    k0_pay11 (F := Ideal) (iblk m c 10 t) y = unit 1024 (xT m c) (512 * t.val + (y 0).val) (y 1).val := by
  unfold k0_pay11 unit
  refine congrArg₂ (· * ·) (block10 m c t y) ?_
  exact (spreadCol (T := 512) (n := 1024) (by decide) _ _ y).trans (scaleBlock m c t _)

theorem w1Block (c : Dev nD) (t : Fin cfg0.N) (y : S512x1024.Idx) :
    broadcastTo S512x1024 (iblk m c 11 t : Vec Ideal S1x1024 .f32) broadcasts_S1x1024_S512x1024 y = w1T m c 0 (y 1).val :=
  (spreadRow (φ := .f32) (T := 512) (n := 1024) (by decide) _ _ y).trans
    (at2_of (n := 1) (k := 1024) _ (fun i j => w1T m c i j) (block11 m c t) (by decide) (y 1).isLt)

/-- The rows of a block of the input's gradient. -/
theorem gxBlock (c : Dev nD) (t : Fin cfg0.N) (y : S512x1024.Idx) :
    k0_pay13 (F := Ideal) (iblk m c 6 t) (k0_pay8 (k0_pay4 (iblk m c 7 t) (iblk m c 8 t) (iblk m c 0 t)) (k0_pay5 (k0_pay2 (iblk m c 7 t)) (k0_pay3 (iblk m c 8 t)) (iblk m c 1 t)) (k0_pay6 (iblk m c 2 t)) (iblk m c 3 t) (iblk m c 4 t) (iblk m c 5 t) (k0_pay7 (F := Ideal)) (slice0 (iblk m c 9 t)) (slice1 (iblk m c 9 t)) (slice2 (iblk m c 9 t)) (slice3 (iblk m c 9 t)) (slice4 (iblk m c 9 t)) (slice5 (iblk m c 9 t))) (slice6 (iblk m c 9 t)) (iblk m c 10 t) (iblk m c 12 t) (iblk m c 11 t) y
      = gx (br m c) (winT m c) (xT m c) (w1T m c) (dh1T m c) (512 * t.val + (y 0).val) (y 1).val := by
  have h0 : (y 0).val < 512 := (y 0).isLt
  have tB : ∀ z : S512x1024.Idx, mulf (F := Ideal) (φ := .f32) (duVec m c t)
      (broadcastTo S512x1024 (iblk m c 11 t : Vec Ideal S1x1024 .f32) broadcasts_S1x1024_S512x1024) z
        = tw (br m c) (winT m c) (w1T m c) (512 * t.val + (z 0).val) (z 1).val := fun z =>
    congrArg₂ (· * ·) (duBlock m c t z) (w1Block m c t z)
  unfold k0_pay13 gx back
  refine congrArg₂ (· + ·) (block12 m c t y) (congrArg₂ (· * ·) ?_ (congrArg₂ (fun a b : EReal => a - b) (tB y) (congrArg₂ (· * ·) (unitBlock m c t y) ?_)))
  · exact (spreadCol (T := 512) (n := 1024) (by decide) _ _ y).trans (scaleBlock m c t _)
  · refine (spreadCol (T := 512) (n := 1024) (by decide) _ _ y).trans ?_
    refine congrArg (fun s => Ideal.div s width) ((rowSum (T := 512) (n := 1024) _ _ _ _ _ _ _).trans (Finset.sum_congr rfl fun k _ => ?_))
    exact at2_of (n := 512) (k := 1024) _ (fun i j => tw (br m c) (winT m c) (w1T m c) (512 * t.val + i) j * unit 1024 (xT m c) (512 * t.val + i) j)
      (fun z => congrArg₂ (· * ·) (tB z) (unitBlock m c t z)) h0 k.isLt

/-- What a point adds to the shared row. -/
def term (c : Dev nD) (s j : ℕ) : EReal := ∑ r : Fin 512, part (br m c) (winT m c) (xT m c) (512 * s + r.val) j

theorem partBlock (c : Dev nD) (t : Fin cfg0.N) (acc : Vec Ideal S1x1024 .f32) (y : S1x1024.Idx) :
    k0_pay12 (F := Ideal) (iblk m c 6 t) (k0_pay8 (k0_pay4 (iblk m c 7 t) (iblk m c 8 t) (iblk m c 0 t)) (k0_pay5 (k0_pay2 (iblk m c 7 t)) (k0_pay3 (iblk m c 8 t)) (iblk m c 1 t)) (k0_pay6 (iblk m c 2 t)) (iblk m c 3 t) (iblk m c 4 t) (iblk m c 5 t) (k0_pay7 (F := Ideal)) (slice0 (iblk m c 9 t)) (slice1 (iblk m c 9 t)) (slice2 (iblk m c 9 t)) (slice3 (iblk m c 9 t)) (slice4 (iblk m c 9 t)) (slice5 (iblk m c 9 t))) (slice6 (iblk m c 9 t)) (iblk m c 10 t) acc y
      = acc y + term m c t.val (y 1).val := by
  unfold k0_pay12
  simp only [shapeCast_self]
  refine congrArg (acc y + ·) ((colSum (T := 512) (n := 1024) _ _ _ _ _ _ y).trans (Finset.sum_congr rfl fun r _ => ?_))
  exact at2_of (n := 512) (k := 1024) _ (fun i j => part (br m c) (winT m c) (xT m c) (512 * t.val + i) j)
    (fun z => congrArg₂ (· * ·) (duBlock m c t z) (unitBlock m c t z)) r.isLt (y 1).isLt

theorem zeroRow (y : S1x1024.Idx) : (k0_pay1 (F := Ideal)) y = 0 := Ideal.ofBits_zero_f32

/-- The shared row after a point: the parts of the points so far. -/
theorem shared (c : Dev nD) : ∀ (n : ℕ) (hn : n < cfg0.N) (y : S1x1024.Idx),
    (outsAt0 m c n hn).2.2 y = ∑ s ∈ Finset.range (n + 1), term m c s (y 1).val
  | 0, hn, y => by
    have e := outsAt0_A m c ⟨0, hn⟩ rfl
    dsimp only at e
    rw [e]
    dsimp only
    rw [out_A_15, partBlock, zeroRow, zero_add]
    simp
  | n + 1, hn, y => by
    have hN : cfg0.N = 16 := N_0
    have e := outsAt0_B m c ⟨n + 1, hn⟩ (by show ¬(n + 1) % 16 = 0; omega)
    dsimp only at e
    rw [e]
    dsimp only
    rw [out_B_15, partBlock, Finset.sum_range_succ]
    exact congrArg (· + _) (shared c n _ y)

/-- The call's three results, each one array. -/
def result13 (c : Dev nD) : S8192x3584.Idx → EReal := fun i => dproj (br m c) (i 0).val (i 1).val
def result14 (c : Dev nD) : S8192x1024.Idx → EReal := fun i =>
  gx (br m c) (winT m c) (xT m c) (w1T m c) (dh1T m c) (i 0).val (i 1).val
def total (c : Dev nD) (j : ℕ) : EReal := ∑ r : Fin 8192, part (br m c) (winT m c) (xT m c) r.val j
def result15 (c : Dev nD) : S1x1024.Idx → EReal := fun i => total m c (i 1).val

/-- A branch in its columns. -/
theorem branchCols (c : Dev nD) (t : Fin cfg0.N) (n : ℕ) (l : S512x512.Idx → EReal)
    (hl : ∀ y : S512x512.Idx, l y = piece (br m c) n (512 * t.val + (y 0).val) (y 1).val) (y : S512x512.Idx) :
    l y = dproj (br m c) (512 * t.val + (y 0).val) (512 * n + (y 1).val) :=
  (hl y).trans (dproj_at (br m c) n _ (y 1).isLt).symm

theorem staged13 (c : Dev nD) (t : Fin cfg0.N) (y : S512x3584.Idx) : ((outsAt0 m c t.val t.isLt).1 : S512x3584.Idx → EReal) y
    = dproj (br m c) (512 * t.val + (y 0).val) (y 1).val := by
  by_cases h0 : t.val % 16 = 0
  · rw [outsAt0_A m c t h0]
    dsimp only
    refine out_A_13 (G := fun i j => dproj (br m c) (512 * t.val + i) j) _ _ _ _ _ _ _ _ _ _ _ _ _ _ _ _ _ _ _ _ _ _ _ _ _ _ _ _ _ _ _ _ _ _ _ _ _ _ _ _ _ _ _ _ _ _ _ _
      (branchCols m c t 0 _ (turnedScaled m c t))
      (branchCols m c t 1 _ (turned m c t (iblk m c 1 t) (at2 (n := 8192) (k := 512) (dk m c)) (block1 m c t)))
      (branchCols m c t 2 _ (block2 m c t))
      (branchCols m c t 3 _ (block3 m c t))
      (branchCols m c t 4 _ (block4 m c t))
      (branchCols m c t 5 _ (block5 m c t))
      (branchCols m c t 6 _ (block6 m c t)) y
  · rw [outsAt0_B m c t h0]
    dsimp only
    refine out_B_13 (G := fun i j => dproj (br m c) (512 * t.val + i) j) _ _ _ _ _ _ _ _ _ _ _ _ _ _ _ _ _ _ _ _ _ _ _ _ _ _ _ _ _ _ _ _ _ _ _ _ _ _ _ _ _ _ _ _ _ _ _ _ _
      (branchCols m c t 0 _ (turnedScaled m c t))
      (branchCols m c t 1 _ (turned m c t (iblk m c 1 t) (at2 (n := 8192) (k := 512) (dk m c)) (block1 m c t)))
      (branchCols m c t 2 _ (block2 m c t))
      (branchCols m c t 3 _ (block3 m c t))
      (branchCols m c t 4 _ (block4 m c t))
      (branchCols m c t 5 _ (block5 m c t))
      (branchCols m c t 6 _ (block6 m c t)) y

theorem staged14 (c : Dev nD) (t : Fin cfg0.N) (y : S512x1024.Idx) : (outsAt0 m c t.val t.isLt).2.1 y
    = gx (br m c) (winT m c) (xT m c) (w1T m c) (dh1T m c) (512 * t.val + (y 0).val) (y 1).val := by
  by_cases h0 : t.val % 16 = 0
  · rw [outsAt0_A m c t h0]
    dsimp only
    rw [out_A_14]
    exact gxBlock m c t y
  · rw [outsAt0_B m c t h0]
    dsimp only
    rw [out_B_14]
    exact gxBlock m c t y

/-- After the run the three arrays are these. -/
theorem final13 (c : Dev nD) : (dats m 0 c).arrAt 13 cfg0.N = result13 m c := by
  refine (dats m 0 c).arrAt_eq_of_cover 13 (result13 m c) (fun t _ => ?_)
    ((by decide +kernel : (cfg0.win 13).Covers).cover _ (Memref.isWhole_whole _))
  rw [Value.flushed13]
  obtain ⟨e0, e1⟩ := index13 t
  funext y
  refine (staged13 m c t y).trans ?_
  show _ = dproj (br m c) (win0_13.index t (0 : Fin 2) * 512 + 1 * (y 0).val) (win0_13.index t (1 : Fin 2) * 3584 + 1 * (y 1).val)
  rw [e0, e1]
  refine congrArg₂ _ ?_ ?_ <;> omega

theorem final14 (c : Dev nD) : (dats m 0 c).arrAt 14 cfg0.N = result14 m c := by
  refine (dats m 0 c).arrAt_eq_of_cover 14 (result14 m c) (fun t _ => ?_)
    ((by decide +kernel : (cfg0.win 14).Covers).cover _ (Memref.isWhole_whole _))
  rw [Value.flushed14]
  obtain ⟨e0, e1⟩ := index14 t
  funext y
  refine (staged14 m c t y).trans ?_
  show _ = gx (br m c) (winT m c) (xT m c) (w1T m c) (dh1T m c) (win0_14.index t (0 : Fin 2) * 512 + 1 * (y 0).val) (win0_14.index t (1 : Fin 2) * 1024 + 1 * (y 1).val)
  rw [e0, e1]
  refine congrArg₂ _ ?_ ?_ <;> omega

theorem readRow (t : Fin cfg0.N) (f : ℕ → EReal) (y : ((cfg0.win 15).xblock (grid0.coords t)).Idx) :
    View.read (Elt Ideal) ((cfg0.win 15).blk t).view (fun i : S1x1024.Idx => f (i 1).val) y = f (y 1).val := by
  obtain ⟨e0, e1⟩ := index15 t
  show f (win0_15.index t (1 : Fin 2) * 1024 + 1 * (y 1).val) = _
  rw [e1]
  exact congrArg f (by omega)

theorem final15 (c : Dev nD) : (dats m 0 c).arrAt 15 cfg0.N = result15 m c := by
  refine (dats m 0 c).arrAt_eq_of_cover 15 (result15 m c) (fun t hf => ?_)
    ((by decide +kernel : (cfg0.win 15).Covers).cover _ (Memref.isWhole_whole _))
  rw [Value.flushed15]
  have ht : t.val = 15 := (by decide +kernel : ∀ t : Fin cfg0.N, (cfg0.win 15).flush t = true → t.val = 15) t hf
  funext y
  refine (shared m c t.val t.isLt y).trans (Eq.trans ?_ (readRow t (total m c) y).symm)
  rw [ht]
  exact sum_blocks 16 512 8192 rfl fun r => part (br m c) (winT m c) (xT m c) r (y 1).val

end Cert.DinIdeal.Sum

namespace Cert.DinRefIdeal.Sum

open Cert.DinRefIdeal Cert.DinRefIdeal.Gen Cert.DinRefIdeal.Read Idealize.ShloMosaic Idealize.ShloMosaic.ValueIdx Step Step.Rotary Step.In

variable (x0 x1 x2 : S8192x512.Idx → EReal) (x3 x4 x5 x6 : S8192x512.Idx → EReal) (x7 : S1024x3584.Idx → EReal)
  (x8 : S8192x1024.Idx → EReal) (x9 : S1x1024.Idx → EReal) (x10 : S8192x1024.Idx → EReal)

theorem at3_of {n k l : ℕ} (A : (⟨3, ![n, k, l]⟩ : Shape).Idx → EReal) (f : ℕ → ℕ → ℕ → EReal) (h : ∀ y, A y = f (y 0).val (y 1).val (y 2).val)
    {i j r : ℕ} (hi : i < n) (hj : j < k) (hr : r < l) : at3 A i j r = f i j r := by
  unfold at3
  rw [dif_pos ⟨hi, hj, hr⟩]
  exact h _

/-- The reference's tables of cosines and sines. -/
theorem cosRef (i : S8192x32.Idx) : val_main_v17 (F := Ideal) i = cosine (i 0).val (i 1).val := by
  rw [val_main_v17_apply, val_main_v16_apply, val_main_v14_apply, val_main_v12_apply, val_main_v15_apply, val_main_v13_apply,
    val_main_v10_apply, val_main_v9_apply, val_main_cst_1_apply, val_main_v8_apply, val_main_v6_apply, val_main_v7_apply, val_main_cst_0_apply]
  rfl

theorem sineRef (i : S8192x32.Idx) : val_main_v30 (F := Ideal) i = sine (i 0).val (i 1).val := by
  rw [val_main_v30_apply, val_main_v29_apply, val_main_v27_apply, val_main_v25_apply, val_main_v28_apply, val_main_v26_apply,
    val_main_v23_apply, val_main_v22_apply, val_main_cst_3_apply, val_main_v21_apply, val_main_v19_apply, val_main_v20_apply, val_main_cst_2_apply]
  rfl

/-- The keys: the two halves of a head, and the row turned back. -/
theorem kRef (z : S8192x8x64.Idx) : val_main_v81 (F := Ideal) x1 z = (at2 (n := 8192) (k := 512) x1) (z 0).val (64 * (z 1).val + (z 2).val) := by
  have h1 : (z 1).val < 8 := (z 1).isLt
  have h2 : (z 2).val < 64 := (z 2).isLt
  rw [val_main_v81_apply]
  exact read2 x1 _ (by show (((z 0).val * 8 + (z 1).val) * 64 + (z 2).val) / 512 = _; omega) (by show (((z 0).val * 8 + (z 1).val) * 64 + (z 2).val) % 512 = _; omega)

theorem kUpRef (z : S8192x8x32.Idx) : val_main_v91 (F := Ideal) x1 z
    = (at2 (n := 8192) (k := 512) x1) (z 0).val (64 * (z 1).val + (32 + (z 2).val)) * cosine (z 0).val (z 2).val - (at2 (n := 8192) (k := 512) x1) (z 0).val (64 * (z 1).val + (z 2).val) * sine (z 0).val (z 2).val := by
  rw [val_main_v91_apply, val_main_v87_apply, val_main_v90_apply, val_main_v88_apply, val_main_v83_apply, val_main_v82_apply, val_main_v86_apply, val_main_v89_apply,
    val_main_v54_apply, val_main_v55_apply, cosRef, sineRef, kRef, kRef, sub_eq_add_neg, ← EReal.neg_mul]
  rfl

theorem kDownRef (z : S8192x8x32.Idx) : val_main_v94 (F := Ideal) x1 z
    = (at2 (n := 8192) (k := 512) x1) (z 0).val (64 * (z 1).val + (z 2).val) * cosine (z 0).val (z 2).val + (at2 (n := 8192) (k := 512) x1) (z 0).val (64 * (z 1).val + (32 + (z 2).val)) * sine (z 0).val (z 2).val := by
  rw [val_main_v94_apply, val_main_v85_apply, val_main_v93_apply, val_main_v83_apply, val_main_v82_apply, val_main_v84_apply, val_main_v92_apply,
    val_main_v54_apply, val_main_v55_apply, cosRef, sineRef, kRef, kRef]
  exact add_comm _ _

theorem kBackRef (i : S8192x512.Idx) : val_main_v98 (F := Ideal) x1 i = turnBack (at2 (n := 8192) (k := 512) x1) (i 0).val (i 1).val := by
  have h0 : (i 0).val < 8192 := (i 0).isLt
  have h1 : (i 1).val < 512 := (i 1).isLt
  rw [val_main_v98_apply, val_main_v97_apply]
  have e0 : (idx_main_v98 i 0).val = (i 0).val := by
    show ((i 0).val * 512 + (i 1).val) / 512 = _; omega
  have e1 : (idx_main_v98 i 1).val = (i 1).val / 64 := by
    show ((i 0).val * 512 + (i 1).val) / 64 % 8 = _; omega
  have e2 : (idx_main_v98 i 2).val = (i 1).val % 64 := by
    show ((i 0).val * 512 + (i 1).val) % 64 = _; omega
  have p1 := padHalf (val_main_v91 (F := Ideal) x1) (val_main_cst_9 (F := Ideal)) pads_S8192x8x32_S8192x8x64_000_000_3200 h_S_
    (fun _ => Ideal.ofBits_zero_f32) (idx_main_v98 i)
  have p2 := padHalf (val_main_v94 (F := Ideal) x1) (val_main_cst_10 (F := Ideal)) pads_S8192x8x32_S8192x8x64_000_000_0320 h_S_
    (fun _ => Ideal.ofBits_zero_f32) (idx_main_v98 i)
  rw [e0, e1, e2] at p1 p2
  refine (congrArg₂ (fun a b : EReal => a + b) p1 p2).trans ?_
  dsimp only
  unfold turnBack
  by_cases h : (i 1).val % 64 < 32
  · rw [if_neg (by omega), if_pos (by omega), if_pos h, zero_add]
    refine (at3_of (n := 8192) (k := 8) (l := 32) _ (fun a b d => (at2 (n := 8192) (k := 512) x1) a (64 * b + d) * cosine a d + (at2 (n := 8192) (k := 512) x1) a (64 * b + (32 + d)) * sine a d)
      (kDownRef x1) h0 (by omega) (by omega)).trans ?_
    dsimp only
    rw [show 64 * ((i 1).val / 64) + ((i 1).val % 64 - 0) = (i 1).val by omega,
      show 64 * ((i 1).val / 64) + (32 + ((i 1).val % 64 - 0)) = (i 1).val + 32 by omega, show (i 1).val % 64 - 0 = (i 1).val % 32 by omega]
  · rw [if_pos (by omega), if_neg (by omega), if_neg h, add_zero]
    refine (at3_of (n := 8192) (k := 8) (l := 32) _ (fun a b d => (at2 (n := 8192) (k := 512) x1) a (64 * b + (32 + d)) * cosine a d - (at2 (n := 8192) (k := 512) x1) a (64 * b + d) * sine a d)
      (kUpRef x1) h0 (by omega) (by omega)).trans ?_
    dsimp only
    rw [show 64 * ((i 1).val / 64) + ((i 1).val % 64 - 32) = (i 1).val - 32 by omega,
      show 64 * ((i 1).val / 64) + (32 + ((i 1).val % 64 - 32)) = (i 1).val by omega, show (i 1).val % 64 - 32 = (i 1).val % 32 by omega]

/-- The queries: the two halves of a head, and the row turned back. -/
theorem qRef (z : S8192x8x64.Idx) : val_main_v101 (F := Ideal) x0 z = (fun i j => at2 (n := 8192) (k := 512) x0 i j * eighth) (z 0).val (64 * (z 1).val + (z 2).val) := by
  have h1 : (z 1).val < 8 := (z 1).isLt
  have h2 : (z 2).val < 64 := (z 2).isLt
  rw [val_main_v101_apply, val_main_v100_apply, val_main_v99_apply, val_main_cst_11_apply]
  exact congrArg (· * eighth) (read2 x0 _ (by show (((z 0).val * 8 + (z 1).val) * 64 + (z 2).val) / 512 = _; omega)
    (by show (((z 0).val * 8 + (z 1).val) * 64 + (z 2).val) % 512 = _; omega))

theorem qUpRef (z : S8192x8x32.Idx) : val_main_v111 (F := Ideal) x0 z
    = (fun i j => at2 (n := 8192) (k := 512) x0 i j * eighth) (z 0).val (64 * (z 1).val + (32 + (z 2).val)) * cosine (z 0).val (z 2).val - (fun i j => at2 (n := 8192) (k := 512) x0 i j * eighth) (z 0).val (64 * (z 1).val + (z 2).val) * sine (z 0).val (z 2).val := by
  rw [val_main_v111_apply, val_main_v107_apply, val_main_v110_apply, val_main_v108_apply, val_main_v103_apply, val_main_v102_apply, val_main_v106_apply, val_main_v109_apply,
    val_main_v35_apply, val_main_v36_apply, cosRef, sineRef, qRef, qRef, sub_eq_add_neg, ← EReal.neg_mul]
  rfl

theorem qDownRef (z : S8192x8x32.Idx) : val_main_v114 (F := Ideal) x0 z
    = (fun i j => at2 (n := 8192) (k := 512) x0 i j * eighth) (z 0).val (64 * (z 1).val + (z 2).val) * cosine (z 0).val (z 2).val + (fun i j => at2 (n := 8192) (k := 512) x0 i j * eighth) (z 0).val (64 * (z 1).val + (32 + (z 2).val)) * sine (z 0).val (z 2).val := by
  rw [val_main_v114_apply, val_main_v105_apply, val_main_v113_apply, val_main_v103_apply, val_main_v102_apply, val_main_v104_apply, val_main_v112_apply,
    val_main_v35_apply, val_main_v36_apply, cosRef, sineRef, qRef, qRef]
  exact add_comm _ _

theorem qBackRef (i : S8192x512.Idx) : val_main_v118 (F := Ideal) x0 i = turnBack (fun i j => at2 (n := 8192) (k := 512) x0 i j * eighth) (i 0).val (i 1).val := by
  have h0 : (i 0).val < 8192 := (i 0).isLt
  have h1 : (i 1).val < 512 := (i 1).isLt
  rw [val_main_v118_apply, val_main_v117_apply]
  have e0 : (idx_main_v118 i 0).val = (i 0).val := by
    show ((i 0).val * 512 + (i 1).val) / 512 = _; omega
  have e1 : (idx_main_v118 i 1).val = (i 1).val / 64 := by
    show ((i 0).val * 512 + (i 1).val) / 64 % 8 = _; omega
  have e2 : (idx_main_v118 i 2).val = (i 1).val % 64 := by
    show ((i 0).val * 512 + (i 1).val) % 64 = _; omega
  have p1 := padHalf (val_main_v111 (F := Ideal) x0) (val_main_cst_12 (F := Ideal)) pads_S8192x8x32_S8192x8x64_000_000_3200 h_S_
    (fun _ => Ideal.ofBits_zero_f32) (idx_main_v118 i)
  have p2 := padHalf (val_main_v114 (F := Ideal) x0) (val_main_cst_13 (F := Ideal)) pads_S8192x8x32_S8192x8x64_000_000_0320 h_S_
    (fun _ => Ideal.ofBits_zero_f32) (idx_main_v118 i)
  rw [e0, e1, e2] at p1 p2
  refine (congrArg₂ (fun a b : EReal => a + b) p1 p2).trans ?_
  dsimp only
  unfold turnBack
  by_cases h : (i 1).val % 64 < 32
  · rw [if_neg (by omega), if_pos (by omega), if_pos h, zero_add]
    refine (at3_of (n := 8192) (k := 8) (l := 32) _ (fun a b d => (fun i j => at2 (n := 8192) (k := 512) x0 i j * eighth) a (64 * b + d) * cosine a d + (fun i j => at2 (n := 8192) (k := 512) x0 i j * eighth) a (64 * b + (32 + d)) * sine a d)
      (qDownRef x0) h0 (by omega) (by omega)).trans ?_
    dsimp only
    rw [show 64 * ((i 1).val / 64) + ((i 1).val % 64 - 0) = (i 1).val by omega,
      show 64 * ((i 1).val / 64) + (32 + ((i 1).val % 64 - 0)) = (i 1).val + 32 by omega, show (i 1).val % 64 - 0 = (i 1).val % 32 by omega]
  · rw [if_pos (by omega), if_neg (by omega), if_neg h, add_zero]
    refine (at3_of (n := 8192) (k := 8) (l := 32) _ (fun a b d => (fun i j => at2 (n := 8192) (k := 512) x0 i j * eighth) a (64 * b + (32 + d)) * cosine a d - (fun i j => at2 (n := 8192) (k := 512) x0 i j * eighth) a (64 * b + d) * sine a d)
      (qUpRef x0) h0 (by omega) (by omega)).trans ?_
    dsimp only
    rw [show 64 * ((i 1).val / 64) + ((i 1).val % 64 - 32) = (i 1).val - 32 by omega,
      show 64 * ((i 1).val / 64) + (32 + ((i 1).val % 64 - 32)) = (i 1).val by omega, show (i 1).val % 64 - 32 = (i 1).val % 32 by omega]

/-- The operands' branches. -/
abbrev branches : Branches where
  q := at2 (n := 8192) (k := 512) x0
  k := at2 (n := 8192) (k := 512) x1
  v := at2 (n := 8192) (k := 512) x2
  hq := at2 (n := 8192) (k := 512) x3
  hf := at2 (n := 8192) (k := 512) x4
  hi := at2 (n := 8192) (k := 512) x5
  hg := at2 (n := 8192) (k := 512) x6

/-- The reference's cotangent of the projection: the branches, each padded to the whole width, added up. -/
theorem dprojRef (i : S8192x3584.Idx) : val_main_v124 (F := Ideal) x0 x1 x2 x3 x4 x5 x6 i = dproj (branches x0 x1 x2 x3 x4 x5 x6) (i 0).val (i 1).val := by
  have h0 : (i 0).val < 8192 := (i 0).isLt
  have h1 : (i 1).val < 3584 := (i 1).isLt
  rw [val_main_v124_apply, val_main_v122_apply, val_main_v120_apply, val_main_v80_apply, val_main_v78_apply, val_main_v76_apply]
  have p6 := padCols (val_main_v3 (F := Ideal) x6) (val_main_cst_5 (F := Ideal)) pads_S8192x512_S8192x3584_000_307200 h_S_ (fun _ => Ideal.ofBits_zero_f32) i
  have p5 := padCols (val_main_v2 (F := Ideal) x5) (val_main_cst_6 (F := Ideal)) pads_S8192x512_S8192x3584_000_25605120 h_S_ (fun _ => Ideal.ofBits_zero_f32) i
  have p4 := padCols (val_main_v1 (F := Ideal) x4) (val_main_cst_7 (F := Ideal)) pads_S8192x512_S8192x3584_000_204810240 h_S_ (fun _ => Ideal.ofBits_zero_f32) i
  have p3 := padCols (val_main_v0 (F := Ideal) x3) (val_main_cst_8 (F := Ideal)) pads_S8192x512_S8192x3584_000_153615360 h_S_ (fun _ => Ideal.ofBits_zero_f32) i
  have p2 := padCols (x2) (val_main_cst_14 (F := Ideal)) pads_S8192x512_S8192x3584_000_102420480 h_S_ (fun _ => Ideal.ofBits_zero_f32) i
  have p1 := padCols (val_main_v98 (F := Ideal) x1) (val_main_cst_15 (F := Ideal)) pads_S8192x512_S8192x3584_000_51225600 h_S_ (fun _ => Ideal.ofBits_zero_f32) i
  have p0 := padCols (val_main_v118 (F := Ideal) x0) (val_main_cst_16 (F := Ideal)) pads_S8192x512_S8192x3584_000_030720 h_S_ (fun _ => Ideal.ofBits_zero_f32) i
  refine (congrArg₂ (· + ·) (congrArg₂ (· + ·) (congrArg₂ (· + ·) (congrArg₂ (· + ·) (congrArg₂ (· + ·) (congrArg₂ (fun a b : EReal => a + b) p6 p5) p4) p3) p2) p1) p0).trans ?_
  dsimp only
  unfold dproj
  obtain h | h | h | h | h | h | h : (i 1).val / 512 = 0 ∨ (i 1).val / 512 = 1 ∨ (i 1).val / 512 = 2 ∨ (i 1).val / 512 = 3 ∨ (i 1).val / 512 = 4
    ∨ (i 1).val / 512 = 5 ∨ (i 1).val / 512 = 6 := by omega
  · rw [h, if_neg (by omega), if_neg (by omega), if_neg (by omega), if_neg (by omega), if_neg (by omega), if_neg (by omega), if_pos (by omega)]
    simp only [zero_add, add_zero]
    rw [show (i 1).val - 0 = (i 1).val % 512 by omega]
    refine (at2_of (n := 8192) (k := 512) _ _ (qBackRef x0) h0 (Nat.mod_lt _ (by decide))).trans ?_
    show turnBack (fun i j => at2 (n := 8192) (k := 512) x0 i j * eighth) _ _ = turnBack (at2 (n := 8192) (k := 512) x0) _ _ * eighth
    rw [eighth_eq]
    exact (turnBack_scale _ (by norm_num) _ _).symm
  · rw [h, if_neg (by omega), if_neg (by omega), if_neg (by omega), if_neg (by omega), if_neg (by omega), if_pos (by omega), if_neg (by omega)]
    simp only [zero_add, add_zero]
    rw [show (i 1).val - 512 = (i 1).val % 512 by omega]
    exact at2_of (n := 8192) (k := 512) _ _ (kBackRef x1) h0 (Nat.mod_lt _ (by decide))
  · rw [h, if_neg (by omega), if_neg (by omega), if_neg (by omega), if_neg (by omega), if_pos (by omega), if_neg (by omega), if_neg (by omega)]
    simp only [zero_add, add_zero]
    rw [show (i 1).val - 1024 = (i 1).val % 512 by omega]
    rfl
  · rw [h, if_neg (by omega), if_neg (by omega), if_neg (by omega), if_pos (by omega), if_neg (by omega), if_neg (by omega), if_neg (by omega)]
    simp only [zero_add, add_zero]
    rw [show (i 1).val - 1536 = (i 1).val % 512 by omega]
    rfl
  · rw [h, if_neg (by omega), if_neg (by omega), if_pos (by omega), if_neg (by omega), if_neg (by omega), if_neg (by omega), if_neg (by omega)]
    simp only [zero_add, add_zero]
    rw [show (i 1).val - 2048 = (i 1).val % 512 by omega]
    rfl
  · rw [h, if_neg (by omega), if_pos (by omega), if_neg (by omega), if_neg (by omega), if_neg (by omega), if_neg (by omega), if_neg (by omega)]
    simp only [zero_add, add_zero]
    rw [show (i 1).val - 2560 = (i 1).val % 512 by omega]
    rfl
  · rw [h, if_pos (by omega), if_neg (by omega), if_neg (by omega), if_neg (by omega), if_neg (by omega), if_neg (by omega), if_neg (by omega)]
    simp only [zero_add, add_zero]
    rw [show (i 1).val - 3072 = (i 1).val % 512 by omega]
    rfl

theorem duRef (i : S8192x1024.Idx) : val_main_v144 (F := Ideal) x0 x1 x2 x3 x4 x5 x6 x7 i = du (branches x0 x1 x2 x3 x4 x5 x6) (at2 (n := 1024) (k := 3584) x7) (i 0).val (i 1).val := by
  rw [val_main_v144_apply]
  refine Finset.sum_congr rfl fun k _ => congrArg₂ (· * ·) ?_ ?_
  · exact dprojRef x0 x1 x2 x3 x4 x5 x6 _
  · rw [val_main_v142_apply]
    exact read2 x7 _ rfl rfl

theorem meanRef (i : S8192x1.Idx) : val_main_v132 (F := Ideal) x8 i = meanSq 1024 (at2 (n := 8192) (k := 1024) x8) (i 0).val := by
  rw [val_main_v132_apply, val_main_v131_apply, val_main_v130_apply, val_main_v129_apply, val_main_v128_apply, val_main_v127_apply,
    val_main_cst_17_apply, val_main_cst_18_apply, val_main_cst_19_apply]
  show Ideal.div (Ideal.ofBits .f32 0x00000000#32 + ∑ k : Fin 1024, _) width + eps = _
  rw [Ideal.ofBits_zero_f32, zero_add]
  refine congrArg (fun s => Ideal.div s width + eps) (Finset.sum_congr rfl fun k _ => ?_)
  exact congrArg₂ (· * ·) (read2 x8 _ rfl rfl) (read2 x8 _ rfl rfl)

theorem scaleRef (i : S8192x1.Idx) : val_main_v133 (F := Ideal) x8 i = rscale 1024 (at2 (n := 8192) (k := 1024) x8) (i 0).val := by
  rw [val_main_v133_apply]
  exact congrArg Ideal.rsqrt (meanRef x8 i)

theorem twRef (i : S8192x1024.Idx) : val_main_v149 (F := Ideal) x0 x1 x2 x3 x4 x5 x6 x7 x9 i
    = tw (branches x0 x1 x2 x3 x4 x5 x6) (at2 (n := 1024) (k := 3584) x7) (at2 (n := 1) (k := 1024) x9) (i 0).val (i 1).val := by
  rw [val_main_v149_apply, val_main_v148_apply, val_main_v139_apply, val_main_v125_apply, duRef]
  exact congrArg₂ (· * ·) rfl (read2 x9 _ rfl (Nat.mod_eq_of_lt (i 1).isLt))

theorem unitRef (i : S8192x1024.Idx) : val_main_v138 (F := Ideal) x8 i = unit 1024 (at2 (n := 8192) (k := 1024) x8) (i 0).val (i 1).val := by
  rw [val_main_v138_apply, val_main_v137_apply, scaleRef]
  exact congrArg₂ (· * ·) (eq_at2 x8 i) rfl

theorem slopeRef (i : S8192.Idx) : val_main_v160 (F := Ideal) x0 x1 x2 x3 x4 x5 x6 x7 x8 x9 i
    = Step.slope 1024 (tw (branches x0 x1 x2 x3 x4 x5 x6) (at2 (n := 1024) (k := 3584) x7) (at2 (n := 1) (k := 1024) x9)) (at2 (n := 8192) (k := 1024) x8) (i 0).val := by
  have h0 : (i 0).val < 8192 := (i 0).isLt
  rw [val_main_v160_apply, val_main_cst_25_apply]
  show Ideal.ofBits .f32 0x00000000#32 + _ = _
  rw [Ideal.ofBits_zero_f32, zero_add, Fin.sum_univ_one, val_main_v159_apply, val_main_v158_apply, val_main_cst_24_apply, val_main_v157_apply,
    val_main_v153_apply, val_main_v152_apply, val_main_cst_23_apply, val_main_v136_apply, val_main_v135_apply, val_main_cst_20_apply,
    val_main_v134_apply, scaleRef, meanRef]
  show Ideal.div ((Ideal.ofBits .f32 0x00000000#32 + ∑ k : Fin 1024, _) * (negHalf * Ideal.div (rscale 1024 _ _) (meanSq 1024 _ _))) width = _
  rw [Ideal.ofBits_zero_f32, zero_add]
  unfold Step.slope
  refine congrArg (fun s => Ideal.div (s * _) width) (Finset.sum_congr rfl fun k _ => ?_)
  rw [val_main_v151_apply, twRef]
  have e : (idx_main_v152 (idx_main_v153 (idx_main_v160 i 0)) k 0).val = (i 0).val := by
    show (i 0).val * 1 + 0 = _
    omega
  rw [e]
  exact congrArg₂ (· * ·) (read2 x8 _ e rfl) rfl

theorem gxRef (f0 : ∀ i, IsReal (x0 i)) (f1 : ∀ i, IsReal (x1 i)) (f2 : ∀ i, IsReal (x2 i)) (f3 : ∀ i, IsReal (x3 i)) (f4 : ∀ i, IsReal (x4 i)) (f5 : ∀ i, IsReal (x5 i)) (f6 : ∀ i, IsReal (x6 i)) (f7 : ∀ i, IsReal (x7 i)) (f8 : ∀ i, IsReal (x8 i)) (f9 : ∀ i, IsReal (x9 i)) (i : S8192x1024.Idx) :
    val_main_v165 (F := Ideal) x0 x1 x2 x3 x4 x5 x6 x7 x8 x9 x10 i
      = gx (branches x0 x1 x2 x3 x4 x5 x6) (at2 (n := 1024) (k := 3584) x7) (at2 (n := 8192) (k := 1024) x8) (at2 (n := 1) (k := 1024) x9)
        (at2 (n := 8192) (k := 1024) x10) (i 0).val (i 1).val := by
  rw [val_main_v165_apply, val_main_v164_apply, val_main_v163_apply, val_main_v162_apply, val_main_v161_apply, val_main_v156_apply,
    val_main_v155_apply, val_main_v154_apply, slopeRef, scaleRef, twRef]
  have hp : ∀ n r j, IsReal (piece (branches x0 x1 x2 x3 x4 x5 x6) n r j) := fun n r j => by
    match n with
    | 0 => exact (isReal_turnBack (isReal_at2 x0 f0) r j).mul (by rw [eighth_eq]; exact isReal_coe _)
    | 1 => exact isReal_turnBack (isReal_at2 x1 f1) r j
    | 2 => exact isReal_at2 x2 f2 r j
    | 3 => exact isReal_at2 x3 f3 r j
    | 4 => exact isReal_at2 x4 f4 r j
    | 5 => exact isReal_at2 x5 f5 r j
    | _ + 6 => exact isReal_at2 x6 f6 r j
  have ht : ∀ k, IsReal (tw (branches x0 x1 x2 x3 x4 x5 x6) (at2 (n := 1024) (k := 3584) x7) (at2 (n := 1) (k := 1024) x9) (i 0).val k) := fun k =>
    (isReal_sum _ _ fun l _ => (hp _ _ _).mul (isReal_at2 x7 f7 _ _)).mul (isReal_at2 x9 f9 _ _)
  refine Eq.trans ?_ (back_eq (n := 1024) (d := at2 (n := 8192) (k := 1024) x10) (j := (i 1).val) ht fun k => isReal_at2 x8 f8 (i 0).val k)
  rw [← eq_at2 x10 i, ← eq_at2 x8 i]
  rfl

theorem gwRef (i : S1x1024.Idx) : val_main_v166 (F := Ideal) x0 x1 x2 x3 x4 x5 x6 x7 x8 i
    = ∑ r : Fin 8192, part (branches x0 x1 x2 x3 x4 x5 x6) (at2 (n := 1024) (k := 3584) x7) (at2 (n := 8192) (k := 1024) x8) r.val (i 1).val := by
  rw [val_main_v166_apply, val_main_v150_apply, val_main_cst_22_apply]
  show Ideal.ofBits .f32 0x00000000#32 + _ = _
  rw [Ideal.ofBits_zero_f32, zero_add, Fin.sum_univ_one, val_main_v147_apply, val_main_v146_apply, val_main_cst_21_apply]
  show Ideal.ofBits .f32 0x00000000#32 + _ = _
  rw [Ideal.ofBits_zero_f32, zero_add]
  refine Finset.sum_congr rfl fun r _ => ?_
  rw [val_main_v145_apply, duRef, unitRef]
  have e : (idx_main_v146 (idx_main_v147 (idx_main_v150 (idx_main_v166 i) 0)) r 1).val = (i 1).val := by
    show 0 * 1024 + (i 1).val = _
    omega
  rw [e]
  exact mul_comm (unit 1024 (at2 x8) r.val (i 1).val) (du (branches x0 x1 x2 x3 x4 x5 x6) (at2 (n := 1024) (k := 3584) x7) r.val (i 1).val)

end Cert.DinRefIdeal.Sum

namespace Cert.Proof

open Idealize.ShloMosaic Idealize.SL.Sem Step

/-- The call's results are the reference's, over the extended reals and finite operands. -/
theorem algebraic_Din [Cert.DinIdeal.Facts] [Cert.DinRefIdeal.Facts] [Cert.Pre_din_finite.Facts] :
    algebraic_DinIdeal_DinRefIdeal_pre_din_finite := by
  intro m ρ m' ρ' hpre hagree
  refine ⟨fun c => Cert.DinIdeal.Sum.result13 m c, fun c => Cert.DinIdeal.Sum.result14 m c, fun c => Cert.DinIdeal.Sum.result15 m c,
    (θ_run Cert.DinIdeal.defs _ _).mono
      (fun _ h c => ⟨(h c).1.trans (Cert.DinIdeal.Sum.final13 m c), (h c).2.1.trans (Cert.DinIdeal.Sum.final14 m c),
        (h c).2.2.1.trans (Cert.DinIdeal.Sum.final15 m c), (h c).2.2.2⟩) (Cert.DinIdeal.Value.run_blocks (F := Ideal) m ρ), ?_⟩
  refine (θ_run Cert.DinRefIdeal.defs _ _).mono (fun _ h c => ⟨?_, ?_, ?_, (h c).2.2.2⟩)
    (Cert.DinRefIdeal.Value.run (F := Ideal) m' ρ')
  · refine ((h c).1.trans (Cert.DinRefIdeal.Read.val_main_v167_eq ..)).trans ?_
    obtain ⟨a0, a1, a2, a3, a4, a5, a6, a7, a8, a9, a10⟩ := hagree c
    show Cert.DinRefIdeal.Read.val_main_v167 (F := Ideal) (m' ((c.tc : Thread Cert.DinRefIdeal.nD Cert.DinRefIdeal.τ).loc Cert.DinRefIdeal.main_arg0)) (m' ((c.tc : Thread Cert.DinRefIdeal.nD Cert.DinRefIdeal.τ).loc Cert.DinRefIdeal.main_arg1)) (m' ((c.tc : Thread Cert.DinRefIdeal.nD Cert.DinRefIdeal.τ).loc Cert.DinRefIdeal.main_arg2)) (m' ((c.tc : Thread Cert.DinRefIdeal.nD Cert.DinRefIdeal.τ).loc Cert.DinRefIdeal.main_arg3)) (m' ((c.tc : Thread Cert.DinRefIdeal.nD Cert.DinRefIdeal.τ).loc Cert.DinRefIdeal.main_arg4)) (m' ((c.tc : Thread Cert.DinRefIdeal.nD Cert.DinRefIdeal.τ).loc Cert.DinRefIdeal.main_arg5)) (m' ((c.tc : Thread Cert.DinRefIdeal.nD Cert.DinRefIdeal.τ).loc Cert.DinRefIdeal.main_arg6)) = _
    rw [a0, a1, a2, a3, a4, a5, a6]
    funext i
    exact Cert.DinRefIdeal.Sum.dprojRef _ _ _ _ _ _ _ i
  · refine ((h c).2.1.trans (Cert.DinRefIdeal.Read.val_main_v165_eq ..)).trans ?_
    obtain ⟨a0, a1, a2, a3, a4, a5, a6, a7, a8, a9, a10⟩ := hagree c
    obtain ⟨p0, p1, p2, p3, p4, p5, p6, p7, p8, p9, p10⟩ := hpre c
    show Cert.DinRefIdeal.Read.val_main_v165 (F := Ideal) (m' ((c.tc : Thread Cert.DinRefIdeal.nD Cert.DinRefIdeal.τ).loc Cert.DinRefIdeal.main_arg0)) (m' ((c.tc : Thread Cert.DinRefIdeal.nD Cert.DinRefIdeal.τ).loc Cert.DinRefIdeal.main_arg1)) (m' ((c.tc : Thread Cert.DinRefIdeal.nD Cert.DinRefIdeal.τ).loc Cert.DinRefIdeal.main_arg2)) (m' ((c.tc : Thread Cert.DinRefIdeal.nD Cert.DinRefIdeal.τ).loc Cert.DinRefIdeal.main_arg3)) (m' ((c.tc : Thread Cert.DinRefIdeal.nD Cert.DinRefIdeal.τ).loc Cert.DinRefIdeal.main_arg4)) (m' ((c.tc : Thread Cert.DinRefIdeal.nD Cert.DinRefIdeal.τ).loc Cert.DinRefIdeal.main_arg5)) (m' ((c.tc : Thread Cert.DinRefIdeal.nD Cert.DinRefIdeal.τ).loc Cert.DinRefIdeal.main_arg6)) (m' ((c.tc : Thread Cert.DinRefIdeal.nD Cert.DinRefIdeal.τ).loc Cert.DinRefIdeal.main_arg7)) (m' ((c.tc : Thread Cert.DinRefIdeal.nD Cert.DinRefIdeal.τ).loc Cert.DinRefIdeal.main_arg8)) (m' ((c.tc : Thread Cert.DinRefIdeal.nD Cert.DinRefIdeal.τ).loc Cert.DinRefIdeal.main_arg9)) (m' ((c.tc : Thread Cert.DinRefIdeal.nD Cert.DinRefIdeal.τ).loc Cert.DinRefIdeal.main_arg10)) = _
    rw [a0, a1, a2, a3, a4, a5, a6, a7, a8, a9, a10]
    funext i
    exact Cert.DinRefIdeal.Sum.gxRef _ _ _ _ _ _ _ _ _ _ _ (isReal_of_ones _ _ p0) (isReal_of_ones _ _ p1) (isReal_of_ones _ _ p2) (isReal_of_ones _ _ p3) (isReal_of_ones _ _ p4) (isReal_of_ones _ _ p5) (isReal_of_ones _ _ p6) (isReal_of_ones _ _ p7) (isReal_of_ones _ _ p8) (isReal_of_ones _ _ p9) i
  · refine ((h c).2.2.1.trans (Cert.DinRefIdeal.Read.val_main_v166_eq ..)).trans ?_
    obtain ⟨a0, a1, a2, a3, a4, a5, a6, a7, a8, a9, a10⟩ := hagree c
    show Cert.DinRefIdeal.Read.val_main_v166 (F := Ideal) (m' ((c.tc : Thread Cert.DinRefIdeal.nD Cert.DinRefIdeal.τ).loc Cert.DinRefIdeal.main_arg0)) (m' ((c.tc : Thread Cert.DinRefIdeal.nD Cert.DinRefIdeal.τ).loc Cert.DinRefIdeal.main_arg1)) (m' ((c.tc : Thread Cert.DinRefIdeal.nD Cert.DinRefIdeal.τ).loc Cert.DinRefIdeal.main_arg2)) (m' ((c.tc : Thread Cert.DinRefIdeal.nD Cert.DinRefIdeal.τ).loc Cert.DinRefIdeal.main_arg3)) (m' ((c.tc : Thread Cert.DinRefIdeal.nD Cert.DinRefIdeal.τ).loc Cert.DinRefIdeal.main_arg4)) (m' ((c.tc : Thread Cert.DinRefIdeal.nD Cert.DinRefIdeal.τ).loc Cert.DinRefIdeal.main_arg5)) (m' ((c.tc : Thread Cert.DinRefIdeal.nD Cert.DinRefIdeal.τ).loc Cert.DinRefIdeal.main_arg6)) (m' ((c.tc : Thread Cert.DinRefIdeal.nD Cert.DinRefIdeal.τ).loc Cert.DinRefIdeal.main_arg7)) (m' ((c.tc : Thread Cert.DinRefIdeal.nD Cert.DinRefIdeal.τ).loc Cert.DinRefIdeal.main_arg8)) = _
    rw [a0, a1, a2, a3, a4, a5, a6, a7, a8]
    funext i
    exact Cert.DinRefIdeal.Sum.gwRef _ _ _ _ _ _ _ _ _ i

end Cert.Proof

end
-- ==== Proof.Adam.lean ====
/- The optimiser's step on one element, and the reading of a shard's block.

   The gradient of an element is this device's, plus the one received from its pair, plus the three pieces received from
   the owners' group; the moments and the update follow from it. -/
module

public import Idealize.ShloMosaic.Lib.Pipeline.Value
public import Idealize.ShloMosaic.Lib.IdealHost
public import proofs.«01_k».proof.Proof.Reading

@[expose] public section

noncomputable section

namespace Step.Adam

open Idealize.ShloMosaic Step

/-- The gradient of an element: the two whole ones and the three pieces. -/
def grad {a b r k : ℕ} (g : (⟨3, ![a, r, k]⟩ : Shape).Idx → EReal) (h : (⟨3, ![b, r, k]⟩ : Shape).Idx → EReal)
    (p : (⟨3, ![3, r, k]⟩ : Shape).Idx → EReal) (i j : ℕ) : EReal :=
  at3 g 0 i j + at3 h 0 i j + ∑ s : Fin 3, at3 p s.val i j

/-- The first moment: nine tenths of the old one and a tenth of the gradient (each as the 32-bit number the program has). -/
def first (m g : EReal) : EReal := Ideal.ofBits .f32 0x3F666666#32 * m + Ideal.ofBits .f32 0x3DCCCCCD#32 * g

/-- The second moment: 0.999 of the old one and 0.001 of the gradient's square. -/
def second (v g : EReal) : EReal := Ideal.ofBits .f32 0x3F7FBE77#32 * v + Ideal.ofBits .f32 0x3A83126F#32 * (g * g)

/-- The update of a weight from the new moments: both corrected for the tenth step, and a hundredth of the weight as decay. -/
def delta (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The index of a one-sheet array under an index of the sheet. -/
def sheet {a b : ℕ} (y : (⟨2, ![a, b]⟩ : Shape).Idx) : (⟨3, ![1, a, b]⟩ : Shape).Idx :=
  fun | ⟨0, _⟩ => (⟨0, Nat.one_pos⟩ : Fin 1) | ⟨1, _⟩ => y 0 | ⟨2, _⟩ => y 1

/-- A one-sheet array without its leading axis. -/
theorem drop {a b : ℕ} {α : Type} (x : (⟨3, ![1, a, b]⟩ : Shape).Idx → α)
    (h : Shape.ShapeCasts ⟨3, ![1, a, b]⟩ ⟨2, ![a, b]⟩) (y : (⟨2, ![a, b]⟩ : Shape).Idx) :
    shapeCast ⟨2, ![a, b]⟩ x h y = x (sheet y) := by
  refine shapeCast_apply x h y (sheet y) ?_
  rw [Shape.rowMajor_val_three, Shape.rowMajor_val_two]
  show (0 * _ + (y 0).val) * _ + (y 1).val = _
  rw [Nat.zero_mul, Nat.zero_add]
  rfl

/-- The gradient with the pieces added one after the other. -/
theorem grad_eq {a b r k : ℕ} (g : (⟨3, ![a, r, k]⟩ : Shape).Idx → EReal) (h : (⟨3, ![b, r, k]⟩ : Shape).Idx → EReal)
    (p : (⟨3, ![3, r, k]⟩ : Shape).Idx → EReal) (i j : ℕ) :
    at3 g 0 i j + at3 h 0 i j + at3 p 0 i j + at3 p 1 i j + at3 p 2 i j = grad g h p i j := by
  unfold grad
  rw [Fin.sum_univ_three, ← add_assoc, ← add_assoc]
  rfl

end Step.Adam

end
-- ==== Proof.AdamInValue.lean ====
/- The value of the call `AdamIn`: the optimiser's step on this device's shard of the input projection's weight.

   Blocks of 512 rows of the shard. The call is handed the positions of the device's sheets in a table of two numbers, both
   zero here; nothing is asked of the arguments. -/
module

public import proofs.«01_k».proof.Defs
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamInRefIdeal.Read
public import Idealize.ShloMosaic.Lib.Pipeline.ValueKit.Geometry
public import proofs.«01_k».proof.Proof.Reading
public import proofs.«01_k».proof.Proof.Adam

@[expose] public section

set_option maxRecDepth 16384

noncomputable section

namespace Cert.AdamIn.Table

open Cert.AdamIn Cert.AdamIn.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamIn.Table

namespace Cert.AdamInIdeal.Table

open Cert.AdamInIdeal Cert.AdamInIdeal.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamInIdeal.Table

namespace Cert.AdamInIdeal.Sum

open Cert.AdamInIdeal Cert.AdamInIdeal.Gen Cert.AdamInIdeal.Table Idealize.ShloMosaic Idealize.ShloMosaic.TcCoe Idealize.ShloMosaic.Tactic Idealize.SL Idealize.SL.Sem Idealize.ShloMosaic.Rounds Idealize.ShloMosaic.Pipeline Step Step.Adam
  Idealize.ShloMosaic.ValueIdx

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

section
variable (c : Dev nD) (i : grid0.Coords) (arg2 : Memref sig .tc .vmem S1x512x448 .f32) (harg2 : arg2.IsWhole) (arg3 : Memref sig .tc .vmem S1x512x448 .f32) (harg3 : arg3.IsWhole) (arg4 : Memref sig .tc .vmem S3x512x448 .bf16) (harg4 : arg4.IsWhole) (arg5 : Memref sig .tc .vmem S512x448 .f32) (harg5 : arg5.IsWhole) (arg6 : Memref sig .tc .vmem S512x448 .f32) (harg6 : arg6.IsWhole) (arg7 : Memref sig .tc .vmem S512x448 .f32) (harg7 : arg7.IsWhole) (arg8 : Memref sig .tc .vmem S512x448 .f32) (harg8 : arg8.IsWhole) (arg9 : Memref sig .tc .vmem S512x448 .f32) (harg9 : arg9.IsWhole) (arg10 : Memref sig .tc .vmem S512x448 .f32) (harg10 : arg10.IsWhole) (arg11 : Memref sig .tc .vmem S512x448 .f32) (harg11 : arg11.IsWhole)
  (x0 : Vec Ideal S1x512x448 .f32) (x1 : Vec Ideal S1x512x448 .f32) (x2 : Vec Ideal S3x512x448 .bf16) (x3 x4 x5 : Vec Ideal S512x448 .f32) (xt0 : TbBuf0 (F := Ideal) c tbM0_0)

/-- What a point leaves of the gradient. -/
theorem out_6 : (out0_A_6 (F := Ideal) c i arg2 harg2 arg3 harg3 arg4 harg4 arg5 harg5 arg6 harg6 arg7 harg7 arg8 harg8 arg9 harg9 arg10 harg10 arg11 harg11 x0 x1 x2 x3 x4 x5 xt0 : S512x448.Idx → EReal)
    = k0_pay3 (F := Ideal) x0 x1 (View.ld x2 (Rect.unit (s := S3x512x448) ![0, 0, 0] S1x512x448.size inb_S3x512x448_S1x512x448_0_0_0)) (View.ld x2 (Rect.unit (s := S3x512x448) ![1, 0, 0] S1x512x448.size inb_S3x512x448_S1x512x448_1_0_0)) (View.ld x2 (Rect.unit (s := S3x512x448) ![2, 0, 0] S1x512x448.size inb_S3x512x448_S1x512x448_2_0_0)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x448) zero2, View.ld_unit_zero (S := S1x512x448) zero3]

/-- What a point leaves of the update. -/
theorem out_7 : (out0_A_7 (F := Ideal) c i arg2 harg2 arg3 harg3 arg4 harg4 arg5 harg5 arg6 harg6 arg7 harg7 arg8 harg8 arg9 harg9 arg10 harg10 arg11 harg11 x0 x1 x2 x3 x4 x5 xt0 : S512x448.Idx → EReal)
    = k0_pay2 (F := Ideal) x3 (k0_pay4 (F := Ideal) x0 x1 (View.ld x2 (Rect.unit (s := S3x512x448) ![0, 0, 0] S1x512x448.size inb_S3x512x448_S1x512x448_0_0_0)) (View.ld x2 (Rect.unit (s := S3x512x448) ![1, 0, 0] S1x512x448.size inb_S3x512x448_S1x512x448_1_0_0)) (View.ld x2 (Rect.unit (s := S3x512x448) ![2, 0, 0] S1x512x448.size inb_S3x512x448_S1x512x448_2_0_0)) x4) (k0_pay5 (F := Ideal) x5) (k0_pay6 (F := Ideal) x0 x1 (View.ld x2 (Rect.unit (s := S3x512x448) ![0, 0, 0] S1x512x448.size inb_S3x512x448_S1x512x448_0_0_0)) (View.ld x2 (Rect.unit (s := S3x512x448) ![1, 0, 0] S1x512x448.size inb_S3x512x448_S1x512x448_1_0_0)) (View.ld x2 (Rect.unit (s := S3x512x448) ![2, 0, 0] S1x512x448.size inb_S3x512x448_S1x512x448_2_0_0))) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x448) zero2, View.ld_unit_zero (S := S1x512x448) zero3]

/-- What a point leaves of the first moment. -/
theorem out_8 : (out0_A_8 (F := Ideal) c i arg2 harg2 arg3 harg3 arg4 harg4 arg5 harg5 arg6 harg6 arg7 harg7 arg8 harg8 arg9 harg9 arg10 harg10 arg11 harg11 x0 x1 x2 x3 x4 x5 xt0 : S512x448.Idx → EReal)
    = k0_pay4 (F := Ideal) x0 x1 (View.ld x2 (Rect.unit (s := S3x512x448) ![0, 0, 0] S1x512x448.size inb_S3x512x448_S1x512x448_0_0_0)) (View.ld x2 (Rect.unit (s := S3x512x448) ![1, 0, 0] S1x512x448.size inb_S3x512x448_S1x512x448_1_0_0)) (View.ld x2 (Rect.unit (s := S3x512x448) ![2, 0, 0] S1x512x448.size inb_S3x512x448_S1x512x448_2_0_0)) x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x448) zero2, View.ld_unit_zero (S := S1x512x448) zero3]

/-- What a point leaves of the second moment. -/
theorem out_9 : (out0_A_9 (F := Ideal) c i arg2 harg2 arg3 harg3 arg4 harg4 arg5 harg5 arg6 harg6 arg7 harg7 arg8 harg8 arg9 harg9 arg10 harg10 arg11 harg11 x0 x1 x2 x3 x4 x5 xt0 : S512x448.Idx → EReal)
    = k0_pay1 (F := Ideal) (k0_pay5 (F := Ideal) x5) (k0_pay6 (F := Ideal) x0 x1 (View.ld x2 (Rect.unit (s := S3x512x448) ![0, 0, 0] S1x512x448.size inb_S3x512x448_S1x512x448_0_0_0)) (View.ld x2 (Rect.unit (s := S3x512x448) ![1, 0, 0] S1x512x448.size inb_S3x512x448_S1x512x448_1_0_0)) (View.ld x2 (Rect.unit (s := S3x512x448) ![2, 0, 0] S1x512x448.size inb_S3x512x448_S1x512x448_2_0_0))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x448) zero2, View.ld_unit_zero (S := S1x512x448) zero3]

end

/-- The payloads, each read at an element of the block. -/
theorem pay3_apply (v0 v2 : Vec Ideal S1x512x448 .f32) (v5 v9 v13 : Vec Ideal S1x512x448 .bf16) (y : S512x448.Idx) :
    (k0_pay3 (F := Ideal) v0 v2 v5 v9 v13 : S512x448.Idx → EReal) y
      = (v0 : S1x512x448.Idx → EReal) (sheet y) + (v2 : S1x512x448.Idx → EReal) (sheet y) + (v5 : S1x512x448.Idx → EReal) (sheet y)
        + (v9 : S1x512x448.Idx → EReal) (sheet y) + (v13 : S1x512x448.Idx → EReal) (sheet y) := by
  unfold k0_pay3
  refine congrArg₂ (· + ·) (congrArg₂ (· + ·) (congrArg₂ (· + ·) (congrArg₂ (· + ·) ?_ ?_) ?_) ?_) ?_
  all_goals exact drop (a := 512) (b := 448) _ _ y

theorem pay4_apply (v0 v2 : Vec Ideal S1x512x448 .f32) (v5 v9 v13 : Vec Ideal S1x512x448 .bf16) (v19 : Vec Ideal S512x448 .f32) (y : S512x448.Idx) :
    (k0_pay4 (F := Ideal) v0 v2 v5 v9 v13 v19 : S512x448.Idx → EReal) y
      = first ((v19 : S512x448.Idx → EReal) y) ((k0_pay3 (F := Ideal) v0 v2 v5 v9 v13 : S512x448.Idx → EReal) y) := rfl

theorem pay1_apply (v0 v2 : Vec Ideal S1x512x448 .f32) (v5 v9 v13 : Vec Ideal S1x512x448 .bf16) (v20 : Vec Ideal S512x448 .f32) (y : S512x448.Idx) :
    (k0_pay1 (F := Ideal) (k0_pay5 (F := Ideal) v20) (k0_pay6 (F := Ideal) v0 v2 v5 v9 v13) : S512x448.Idx → EReal) y
      = second ((v20 : S512x448.Idx → EReal) y) ((k0_pay3 (F := Ideal) v0 v2 v5 v9 v13 : S512x448.Idx → EReal) y) := rfl

theorem pay2_apply (v18 : Vec Ideal S512x448 .f32) (v25 v27 v30 : FVec Ideal S512x448 .f32) (y : S512x448.Idx) :
    (k0_pay2 (F := Ideal) v18 v25 v27 v30 : S512x448.Idx → EReal) y
      = delta ((v18 : S512x448.Idx → EReal) y) ((v25 : S512x448.Idx → EReal) y) ((k0_pay1 (F := Ideal) v27 v30 : S512x448.Idx → EReal) y) := rfl

variable (m : (ℓ : Loc nD τ sig) → Buf (Elt Ideal) ℓ) (ρ : Dev nD → PrngReg)

/-- The call's arguments. -/
def g (c : Dev nD) : S8x1024x448.Idx → EReal := m ((c.tc : Thread nD τ).loc main_arg0)
def got (c : Dev nD) : S4x1024x448.Idx → EReal := m ((c.tc : Thread nD τ).loc main_arg1)
def pieces (c : Dev nD) : S3x1024x448.Idx → EReal := m ((c.tc : Thread nD τ).loc main_arg2)
def w (c : Dev nD) : S1024x448.Idx → EReal := m ((c.tc : Thread nD τ).loc main_arg3)
def m1 (c : Dev nD) : S1024x448.Idx → EReal := m ((c.tc : Thread nD τ).loc main_arg4)
def m2 (c : Dev nD) : S1024x448.Idx → EReal := m ((c.tc : Thread nD τ).loc main_arg5)

/-- The operands' blocks at a point. -/
def b0 (c : Dev nD) (t : Fin (cfgM m (ok m)).N) : Vec Ideal S1x512x448 .f32 := iblk m (ok m) c 0 t
def b1 (c : Dev nD) (t : Fin (cfgM m (ok m)).N) : Vec Ideal S1x512x448 .f32 := iblk m (ok m) c 1 t
def b2 (c : Dev nD) (t : Fin (cfgM m (ok m)).N) : Vec Ideal S3x512x448 .bf16 := iblk m (ok m) c 2 t
def b3 (c : Dev nD) (t : Fin (cfgM m (ok m)).N) : Vec Ideal S512x448 .f32 := iblk m (ok m) c 3 t
def b4 (c : Dev nD) (t : Fin (cfgM m (ok m)).N) : Vec Ideal S512x448 .f32 := iblk m (ok m) c 4 t
def b5 (c : Dev nD) (t : Fin (cfgM m (ok m)).N) : Vec Ideal S512x448 .f32 := iblk m (ok m) c 5 t

/-- The number of a point of the grid is the block of rows it works on. -/
theorem coord : ∀ t : Fin grid0.N, (BitVec.ofNat 32 (grid0.coords t 0).val).toNat = t.val := by decide +kernel

theorem index0 (t : Fin (cfgM m (ok m)).N) : ((cfgM m (ok m)).win 0).index t = ![0, t.val, 0] :=
  (at0 m (grid0.coords t)).trans (by rw [coord])
theorem index1 (t : Fin (cfgM m (ok m)).N) : ((cfgM m (ok m)).win 1).index t = ![0, t.val, 0] :=
  (at1 m (grid0.coords t)).trans (by rw [coord])
theorem index2 (t : Fin (cfgM m (ok m)).N) : ((cfgM m (ok m)).win 2).index t = ![0, t.val, 0] := by
  show ![_, (BitVec.ofNat 32 (grid0.coords t 0).val).toNat, _] = _
  rw [coord]; rfl
theorem index3 (t : Fin (cfgM m (ok m)).N) : ((cfgM m (ok m)).win 3).index t = ![t.val, 0] := by
  show ![(BitVec.ofNat 32 (grid0.coords t 0).val).toNat, _] = _
  rw [coord]; rfl
theorem index4 (t : Fin (cfgM m (ok m)).N) : ((cfgM m (ok m)).win 4).index t = ![t.val, 0] := by
  show ![(BitVec.ofNat 32 (grid0.coords t 0).val).toNat, _] = _
  rw [coord]; rfl
theorem index5 (t : Fin (cfgM m (ok m)).N) : ((cfgM m (ok m)).win 5).index t = ![t.val, 0] := by
  show ![(BitVec.ofNat 32 (grid0.coords t 0).val).toNat, _] = _
  rw [coord]; rfl
theorem index6 (t : Fin (cfgM m (ok m)).N) : ((cfgM m (ok m)).win 6).index t = ![t.val, 0] := by
  show ![(BitVec.ofNat 32 (grid0.coords t 0).val).toNat, _] = _
  rw [coord]; rfl
theorem index7 (t : Fin (cfgM m (ok m)).N) : ((cfgM m (ok m)).win 7).index t = ![t.val, 0] := by
  show ![(BitVec.ofNat 32 (grid0.coords t 0).val).toNat, _] = _
  rw [coord]; rfl
theorem index8 (t : Fin (cfgM m (ok m)).N) : ((cfgM m (ok m)).win 8).index t = ![t.val, 0] := by
  show ![(BitVec.ofNat 32 (grid0.coords t 0).val).toNat, _] = _
  rw [coord]; rfl
theorem index9 (t : Fin (cfgM m (ok m)).N) : ((cfgM m (ok m)).win 9).index t = ![t.val, 0] := by
  show ![(BitVec.ofNat 32 (grid0.coords t 0).val).toNat, _] = _
  rw [coord]; rfl

/-- Each of them read at an element. -/
theorem block0 (c : Dev nD) (t : Fin (cfgM m (ok m)).N) (y : S512x448.Idx) :
    (b0 m c t : S1x512x448.Idx → EReal) (sheet y) = at3 (n := 8) (k := 1024) (l := 448) (g m c) 0 (512 * t.val + (y 0).val) (y 1).val := by
  refine (congrFun (V_main_arg0 m c) _).trans (read3 (n := 8) (k := 1024) (l := 448) (g m c) _ ?_ ?_ ?_)
  · show ((cfgM m (ok m)).win 0).index t (0 : Fin 3) * 1 + 1 * 0 = _; rw [index0]; rfl
  · show ((cfgM m (ok m)).win 0).index t (1 : Fin 3) * 512 + 1 * (y 0).val = _; rw [index0]; show t.val * _ + _ = _; omega
  · show ((cfgM m (ok m)).win 0).index t (2 : Fin 3) * 448 + 1 * (y 1).val = _; rw [index0]; show 0 * _ + _ = _; omega
theorem block1 (c : Dev nD) (t : Fin (cfgM m (ok m)).N) (y : S512x448.Idx) :
    (b1 m c t : S1x512x448.Idx → EReal) (sheet y) = at3 (n := 4) (k := 1024) (l := 448) (got m c) 0 (512 * t.val + (y 0).val) (y 1).val := by
  refine (congrFun (V_main_arg1 m c) _).trans (read3 (n := 4) (k := 1024) (l := 448) (got m c) _ ?_ ?_ ?_)
  · show ((cfgM m (ok m)).win 1).index t (0 : Fin 3) * 1 + 1 * 0 = _; rw [index1]; rfl
  · show ((cfgM m (ok m)).win 1).index t (1 : Fin 3) * 512 + 1 * (y 0).val = _; rw [index1]; show t.val * _ + _ = _; omega
  · show ((cfgM m (ok m)).win 1).index t (2 : Fin 3) * 448 + 1 * (y 1).val = _; rw [index1]; show 0 * _ + _ = _; omega
theorem piece0 (c : Dev nD) (t : Fin (cfgM m (ok m)).N) (y : S512x448.Idx) :
    (View.ld (b2 m c t) (Rect.unit (s := S3x512x448) ![0, 0, 0] S1x512x448.size inb_S3x512x448_S1x512x448_0_0_0) : S1x512x448.Idx → EReal) (sheet y)
      = at3 (n := 3) (k := 1024) (l := 448) (pieces m c) 0 (512 * t.val + (y 0).val) (y 1).val := by
  refine (congrFun (V_main_arg2 m c) _).trans (read3 (n := 3) (k := 1024) (l := 448) (pieces m c) _ ?_ ?_ ?_)
  · show ((cfgM m (ok m)).win 2).index t (0 : Fin 3) * 3 + 1 * (0 + 1 * 0) = _; rw [index2]; rfl
  · show ((cfgM m (ok m)).win 2).index t (1 : Fin 3) * 512 + 1 * (0 + 1 * (y 0).val) = _; rw [index2]; show t.val * _ + _ = _; omega
  · show ((cfgM m (ok m)).win 2).index t (2 : Fin 3) * 448 + 1 * (0 + 1 * (y 1).val) = _; rw [index2]; show 0 * _ + _ = _; omega
theorem piece1 (c : Dev nD) (t : Fin (cfgM m (ok m)).N) (y : S512x448.Idx) :
    (View.ld (b2 m c t) (Rect.unit (s := S3x512x448) ![1, 0, 0] S1x512x448.size inb_S3x512x448_S1x512x448_1_0_0) : S1x512x448.Idx → EReal) (sheet y)
      = at3 (n := 3) (k := 1024) (l := 448) (pieces m c) 1 (512 * t.val + (y 0).val) (y 1).val := by
  refine (congrFun (V_main_arg2 m c) _).trans (read3 (n := 3) (k := 1024) (l := 448) (pieces m c) _ ?_ ?_ ?_)
  · show ((cfgM m (ok m)).win 2).index t (0 : Fin 3) * 3 + 1 * (1 + 1 * 0) = _; rw [index2]; rfl
  · show ((cfgM m (ok m)).win 2).index t (1 : Fin 3) * 512 + 1 * (0 + 1 * (y 0).val) = _; rw [index2]; show t.val * _ + _ = _; omega
  · show ((cfgM m (ok m)).win 2).index t (2 : Fin 3) * 448 + 1 * (0 + 1 * (y 1).val) = _; rw [index2]; show 0 * _ + _ = _; omega
theorem piece2 (c : Dev nD) (t : Fin (cfgM m (ok m)).N) (y : S512x448.Idx) :
    (View.ld (b2 m c t) (Rect.unit (s := S3x512x448) ![2, 0, 0] S1x512x448.size inb_S3x512x448_S1x512x448_2_0_0) : S1x512x448.Idx → EReal) (sheet y)
      = at3 (n := 3) (k := 1024) (l := 448) (pieces m c) 2 (512 * t.val + (y 0).val) (y 1).val := by
  refine (congrFun (V_main_arg2 m c) _).trans (read3 (n := 3) (k := 1024) (l := 448) (pieces m c) _ ?_ ?_ ?_)
  · show ((cfgM m (ok m)).win 2).index t (0 : Fin 3) * 3 + 1 * (2 + 1 * 0) = _; rw [index2]; rfl
  · show ((cfgM m (ok m)).win 2).index t (1 : Fin 3) * 512 + 1 * (0 + 1 * (y 0).val) = _; rw [index2]; show t.val * _ + _ = _; omega
  · show ((cfgM m (ok m)).win 2).index t (2 : Fin 3) * 448 + 1 * (0 + 1 * (y 1).val) = _; rw [index2]; show 0 * _ + _ = _; omega

theorem block3 (c : Dev nD) (t : Fin (cfgM m (ok m)).N) (y : S512x448.Idx) :
    (b3 m c t : S512x448.Idx → EReal) y = at2 (n := 1024) (k := 448) (w m c) (512 * t.val + (y 0).val) (y 1).val := by
  refine (congrFun (V_main_arg3 m c) _).trans (read2 (n := 1024) (k := 448) (w m c) _ ?_ ?_)
  · show ((cfgM m (ok m)).win 3).index t (0 : Fin 2) * 512 + 1 * (y 0).val = _; rw [index3]; show t.val * _ + _ = _; omega
  · show ((cfgM m (ok m)).win 3).index t (1 : Fin 2) * 448 + 1 * (y 1).val = _; rw [index3]; show 0 * _ + _ = _; omega
theorem block4 (c : Dev nD) (t : Fin (cfgM m (ok m)).N) (y : S512x448.Idx) :
    (b4 m c t : S512x448.Idx → EReal) y = at2 (n := 1024) (k := 448) (m1 m c) (512 * t.val + (y 0).val) (y 1).val := by
  refine (congrFun (V_main_arg4 m c) _).trans (read2 (n := 1024) (k := 448) (m1 m c) _ ?_ ?_)
  · show ((cfgM m (ok m)).win 4).index t (0 : Fin 2) * 512 + 1 * (y 0).val = _; rw [index4]; show t.val * _ + _ = _; omega
  · show ((cfgM m (ok m)).win 4).index t (1 : Fin 2) * 448 + 1 * (y 1).val = _; rw [index4]; show 0 * _ + _ = _; omega
theorem block5 (c : Dev nD) (t : Fin (cfgM m (ok m)).N) (y : S512x448.Idx) :
    (b5 m c t : S512x448.Idx → EReal) y = at2 (n := 1024) (k := 448) (m2 m c) (512 * t.val + (y 0).val) (y 1).val := by
  refine (congrFun (V_main_arg5 m c) _).trans (read2 (n := 1024) (k := 448) (m2 m c) _ ?_ ?_)
  · show ((cfgM m (ok m)).win 5).index t (0 : Fin 2) * 512 + 1 * (y 0).val = _; rw [index5]; show t.val * _ + _ = _; omega
  · show ((cfgM m (ok m)).win 5).index t (1 : Fin 2) * 448 + 1 * (y 1).val = _; rw [index5]; show 0 * _ + _ = _; omega

/-- The gradient's block. -/
theorem gradBlock (c : Dev nD) (t : Fin (cfgM m (ok m)).N) (y : S512x448.Idx) :
    (k0_pay3 (F := Ideal) (b0 m c t) (b1 m c t) (View.ld (b2 m c t) (Rect.unit (s := S3x512x448) ![0, 0, 0] S1x512x448.size inb_S3x512x448_S1x512x448_0_0_0)) (View.ld (b2 m c t) (Rect.unit (s := S3x512x448) ![1, 0, 0] S1x512x448.size inb_S3x512x448_S1x512x448_1_0_0)) (View.ld (b2 m c t) (Rect.unit (s := S3x512x448) ![2, 0, 0] S1x512x448.size inb_S3x512x448_S1x512x448_2_0_0)) : S512x448.Idx → EReal) y
      = grad (g m c) (got m c) (pieces m c) (512 * t.val + (y 0).val) (y 1).val := by
  refine (pay3_apply _ _ _ _ _ y).trans ?_
  rw [block0, block1]
  refine Eq.trans (congrArg₂ (· + ·) (congrArg₂ (· + ·) (congrArg₂ (· + ·) rfl ?_) ?_) ?_) (grad_eq (g m c) (got m c) (pieces m c) _ _)
  · exact piece0 m c t y
  · exact piece1 m c t y
  · exact piece2 m c t y

/-- The call's four results, each one array. -/
def result6 (c : Dev nD) : S1024x448.Idx → EReal := fun i => grad (g m c) (got m c) (pieces m c) (i 0).val (i 1).val
def result8 (c : Dev nD) : S1024x448.Idx → EReal := fun i => first (at2 (n := 1024) (k := 448) (m1 m c) (i 0).val (i 1).val) (grad (g m c) (got m c) (pieces m c) (i 0).val (i 1).val)
def result9 (c : Dev nD) : S1024x448.Idx → EReal := fun i => second (at2 (n := 1024) (k := 448) (m2 m c) (i 0).val (i 1).val) (grad (g m c) (got m c) (pieces m c) (i 0).val (i 1).val)
def result7 (c : Dev nD) : S1024x448.Idx → EReal := fun i => delta (at2 (n := 1024) (k := 448) (w m c) (i 0).val (i 1).val)
  (first (at2 (n := 1024) (k := 448) (m1 m c) (i 0).val (i 1).val) (grad (g m c) (got m c) (pieces m c) (i 0).val (i 1).val))
  (second (at2 (n := 1024) (k := 448) (m2 m c) (i 0).val (i 1).val) (grad (g m c) (got m c) (pieces m c) (i 0).val (i 1).val))

/-- What a point leaves, at an element of the block. -/
theorem staged6 (c : Dev nD) (t : Fin (cfgM m (ok m)).N) (y : S512x448.Idx) : ((outsAt0 m (ok m) c t).1 : S512x448.Idx → EReal) y
    = grad (g m c) (got m c) (pieces m c) (512 * t.val + (y 0).val) (y 1).val := by
  unfold outsAt0
  dsimp only
  exact (congrFun (out_6 _ _ _ _ _ _ _ _ _ _ _ _ _ _ _ _ _ _ _ _ _ _ _ _ _ _ _ _ _) y).trans (gradBlock m c t y)
theorem staged8 (c : Dev nD) (t : Fin (cfgM m (ok m)).N) (y : S512x448.Idx) : ((outsAt0 m (ok m) c t).2.2.1 : S512x448.Idx → EReal) y
    = first (at2 (n := 1024) (k := 448) (m1 m c) (512 * t.val + (y 0).val) (y 1).val)
      (grad (g m c) (got m c) (pieces m c) (512 * t.val + (y 0).val) (y 1).val) := by
  unfold outsAt0
  dsimp only
  exact (congrFun (out_8 _ _ _ _ _ _ _ _ _ _ _ _ _ _ _ _ _ _ _ _ _ _ _ _ _ _ _ _ _) y).trans ((pay4_apply (b0 m c t) (b1 m c t) _ _ _ (b4 m c t) y).trans
    (congrArg₂ first (block4 m c t y) (gradBlock m c t y)))
theorem staged9 (c : Dev nD) (t : Fin (cfgM m (ok m)).N) (y : S512x448.Idx) : ((outsAt0 m (ok m) c t).2.2.2 : S512x448.Idx → EReal) y
    = second (at2 (n := 1024) (k := 448) (m2 m c) (512 * t.val + (y 0).val) (y 1).val)
      (grad (g m c) (got m c) (pieces m c) (512 * t.val + (y 0).val) (y 1).val) := by
  unfold outsAt0
  dsimp only
  exact (congrFun (out_9 _ _ _ _ _ _ _ _ _ _ _ _ _ _ _ _ _ _ _ _ _ _ _ _ _ _ _ _ _) y).trans ((pay1_apply (b0 m c t) (b1 m c t) _ _ _ (b5 m c t) y).trans
    (congrArg₂ second (block5 m c t y) (gradBlock m c t y)))
theorem staged7 (c : Dev nD) (t : Fin (cfgM m (ok m)).N) (y : S512x448.Idx) : ((outsAt0 m (ok m) c t).2.1 : S512x448.Idx → EReal) y
    = delta (at2 (n := 1024) (k := 448) (w m c) (512 * t.val + (y 0).val) (y 1).val)
      (first (at2 (n := 1024) (k := 448) (m1 m c) (512 * t.val + (y 0).val) (y 1).val)
        (grad (g m c) (got m c) (pieces m c) (512 * t.val + (y 0).val) (y 1).val))
      (second (at2 (n := 1024) (k := 448) (m2 m c) (512 * t.val + (y 0).val) (y 1).val)
        (grad (g m c) (got m c) (pieces m c) (512 * t.val + (y 0).val) (y 1).val)) := by
  unfold outsAt0
  dsimp only
  refine (congrFun (out_7 _ _ _ _ _ _ _ _ _ _ _ _ _ _ _ _ _ _ _ _ _ _ _ _ _ _ _ _ _) y).trans ((pay2_apply (b3 m c t) _ _ _ y).trans ?_)
  refine congr (congrArg₂ delta (block3 m c t y) ((pay4_apply (b0 m c t) (b1 m c t) _ _ _ (b4 m c t) y).trans
    (congrArg₂ first (block4 m c t y) (gradBlock m c t y)))) ?_
  exact (pay1_apply (b0 m c t) (b1 m c t) _ _ _ (b5 m c t) y).trans (congrArg₂ second (block5 m c t y) (gradBlock m c t y))

/-- The gradient's array after the run. -/
theorem covers6 : ((cfgM m (ok m)).win 6).Covers :=
  ⟨(by decide : ∀ a : Fin 2, 0 < S512x448.size a), fun β => ⟨(⟨(β (0 : Fin 2)).val, lt_of_lt_of_eq (β (0 : Fin 2)).isLt
    (show (1024 + 512 - 1) / 512 = grid0.N by decide)⟩ : Fin grid0.N), flush0_6 _ _, fun a => ⟨by
    rw [index6]
    match a with
    | ⟨0, _⟩ => rfl
    | ⟨1, _⟩ => exact (Nat.lt_one_iff.mp (lt_of_lt_of_eq (β (1 : Fin 2)).isLt (show (448 + 448 - 1) / 448 = 1 by decide))).symm, .inl rfl⟩⟩⟩
theorem flushed6 (c : Dev nD) (t : Fin (cfgM m (ok m)).N) :
    (dats m (ok m) 0 c).flushed 6 t = ((cfgM m (ok m)).win 6).cut (grid0.coords t) (outsAt0 m (ok m) c t).1 := by
  show ((cfgM m (ok m)).win 6).cut (grid0.coords t) ((dats m (ok m) 0 c).after 6 t) = _
  rw [after0_6]
theorem written6 (c : Dev nD) (t : Fin (cfgM m (ok m)).N) :
    (dats m (ok m) 0 c).flushed 6 t = (((cfgM m (ok m)).win 6).blk t).view.read (Elt Ideal) (result6 m c) := by
  rw [flushed6]
  funext y
  refine (staged6 m c t y).trans ?_
  have e0 : ((cfgM m (ok m)).win 6).index t (0 : Fin 2) * 512 + 1 * (y (0 : Fin 2)).val = 512 * t.val + (y (0 : Fin 2)).val := by
    rw [index6, Nat.one_mul]; exact congrArg (· + _) (Nat.mul_comm t.val 512)
  have e1 : ((cfgM m (ok m)).win 6).index t (1 : Fin 2) * 448 + 1 * (y (1 : Fin 2)).val = (y (1 : Fin 2)).val := by
    rw [index6, Nat.one_mul]; exact (congrArg (· + _) (Nat.zero_mul 448)).trans (Nat.zero_add _)
  rw [← e0]
  conv_lhs => rw [← e1]
  rfl
theorem final6 (c : Dev nD) : (dats m (ok m) 0 c).arrAt 6 (cfgM m (ok m)).N = result6 m c :=
  (dats m (ok m) 0 c).arrAt_eq_of_cover 6 (result6 m c) (fun t _ => written6 m c t)
    (Pipeline.Window.Covers.cover _ (covers6 m) (Memref.isWhole_whole _))

/-- The update's array after the run. -/
theorem covers7 : ((cfgM m (ok m)).win 7).Covers :=
  ⟨(by decide : ∀ a : Fin 2, 0 < S512x448.size a), fun β => ⟨(⟨(β (0 : Fin 2)).val, lt_of_lt_of_eq (β (0 : Fin 2)).isLt
    (show (1024 + 512 - 1) / 512 = grid0.N by decide)⟩ : Fin grid0.N), flush0_7 _ _, fun a => ⟨by
    rw [index7]
    match a with
    | ⟨0, _⟩ => rfl
    | ⟨1, _⟩ => exact (Nat.lt_one_iff.mp (lt_of_lt_of_eq (β (1 : Fin 2)).isLt (show (448 + 448 - 1) / 448 = 1 by decide))).symm, .inl rfl⟩⟩⟩
theorem flushed7 (c : Dev nD) (t : Fin (cfgM m (ok m)).N) :
    (dats m (ok m) 0 c).flushed 7 t = ((cfgM m (ok m)).win 7).cut (grid0.coords t) (outsAt0 m (ok m) c t).2.1 := by
  show ((cfgM m (ok m)).win 7).cut (grid0.coords t) ((dats m (ok m) 0 c).after 7 t) = _
  rw [after0_7]
theorem written7 (c : Dev nD) (t : Fin (cfgM m (ok m)).N) :
    (dats m (ok m) 0 c).flushed 7 t = (((cfgM m (ok m)).win 7).blk t).view.read (Elt Ideal) (result7 m c) := by
  rw [flushed7]
  funext y
  refine (staged7 m c t y).trans ?_
  have e0 : ((cfgM m (ok m)).win 7).index t (0 : Fin 2) * 512 + 1 * (y (0 : Fin 2)).val = 512 * t.val + (y (0 : Fin 2)).val := by
    rw [index7, Nat.one_mul]; exact congrArg (· + _) (Nat.mul_comm t.val 512)
  have e1 : ((cfgM m (ok m)).win 7).index t (1 : Fin 2) * 448 + 1 * (y (1 : Fin 2)).val = (y (1 : Fin 2)).val := by
    rw [index7, Nat.one_mul]; exact (congrArg (· + _) (Nat.zero_mul 448)).trans (Nat.zero_add _)
  rw [← e0]
  conv_lhs => rw [← e1]
  rfl
theorem final7 (c : Dev nD) : (dats m (ok m) 0 c).arrAt 7 (cfgM m (ok m)).N = result7 m c :=
  (dats m (ok m) 0 c).arrAt_eq_of_cover 7 (result7 m c) (fun t _ => written7 m c t)
    (Pipeline.Window.Covers.cover _ (covers7 m) (Memref.isWhole_whole _))

/-- The first moment's array after the run. -/
theorem covers8 : ((cfgM m (ok m)).win 8).Covers :=
  ⟨(by decide : ∀ a : Fin 2, 0 < S512x448.size a), fun β => ⟨(⟨(β (0 : Fin 2)).val, lt_of_lt_of_eq (β (0 : Fin 2)).isLt
    (show (1024 + 512 - 1) / 512 = grid0.N by decide)⟩ : Fin grid0.N), flush0_8 _ _, fun a => ⟨by
    rw [index8]
    match a with
    | ⟨0, _⟩ => rfl
    | ⟨1, _⟩ => exact (Nat.lt_one_iff.mp (lt_of_lt_of_eq (β (1 : Fin 2)).isLt (show (448 + 448 - 1) / 448 = 1 by decide))).symm, .inl rfl⟩⟩⟩
theorem flushed8 (c : Dev nD) (t : Fin (cfgM m (ok m)).N) :
    (dats m (ok m) 0 c).flushed 8 t = ((cfgM m (ok m)).win 8).cut (grid0.coords t) (outsAt0 m (ok m) c t).2.2.1 := by
  show ((cfgM m (ok m)).win 8).cut (grid0.coords t) ((dats m (ok m) 0 c).after 8 t) = _
  rw [after0_8]
theorem written8 (c : Dev nD) (t : Fin (cfgM m (ok m)).N) :
    (dats m (ok m) 0 c).flushed 8 t = (((cfgM m (ok m)).win 8).blk t).view.read (Elt Ideal) (result8 m c) := by
  rw [flushed8]
  funext y
  refine (staged8 m c t y).trans ?_
  have e0 : ((cfgM m (ok m)).win 8).index t (0 : Fin 2) * 512 + 1 * (y (0 : Fin 2)).val = 512 * t.val + (y (0 : Fin 2)).val := by
    rw [index8, Nat.one_mul]; exact congrArg (· + _) (Nat.mul_comm t.val 512)
  have e1 : ((cfgM m (ok m)).win 8).index t (1 : Fin 2) * 448 + 1 * (y (1 : Fin 2)).val = (y (1 : Fin 2)).val := by
    rw [index8, Nat.one_mul]; exact (congrArg (· + _) (Nat.zero_mul 448)).trans (Nat.zero_add _)
  rw [← e0]
  conv_lhs => rw [← e1]
  rfl
theorem final8 (c : Dev nD) : (dats m (ok m) 0 c).arrAt 8 (cfgM m (ok m)).N = result8 m c :=
  (dats m (ok m) 0 c).arrAt_eq_of_cover 8 (result8 m c) (fun t _ => written8 m c t)
    (Pipeline.Window.Covers.cover _ (covers8 m) (Memref.isWhole_whole _))

/-- The second moment's array after the run. -/
theorem covers9 : ((cfgM m (ok m)).win 9).Covers :=
  ⟨(by decide : ∀ a : Fin 2, 0 < S512x448.size a), fun β => ⟨(⟨(β (0 : Fin 2)).val, lt_of_lt_of_eq (β (0 : Fin 2)).isLt
    (show (1024 + 512 - 1) / 512 = grid0.N by decide)⟩ : Fin grid0.N), flush0_9 _ _, fun a => ⟨by
    rw [index9]
    match a with
    | ⟨0, _⟩ => rfl
    | ⟨1, _⟩ => exact (Nat.lt_one_iff.mp (lt_of_lt_of_eq (β (1 : Fin 2)).isLt (show (448 + 448 - 1) / 448 = 1 by decide))).symm, .inl rfl⟩⟩⟩
theorem flushed9 (c : Dev nD) (t : Fin (cfgM m (ok m)).N) :
    (dats m (ok m) 0 c).flushed 9 t = ((cfgM m (ok m)).win 9).cut (grid0.coords t) (outsAt0 m (ok m) c t).2.2.2 := by
  show ((cfgM m (ok m)).win 9).cut (grid0.coords t) ((dats m (ok m) 0 c).after 9 t) = _
  rw [after0_9]
theorem written9 (c : Dev nD) (t : Fin (cfgM m (ok m)).N) :
    (dats m (ok m) 0 c).flushed 9 t = (((cfgM m (ok m)).win 9).blk t).view.read (Elt Ideal) (result9 m c) := by
  rw [flushed9]
  funext y
  refine (staged9 m c t y).trans ?_
  have e0 : ((cfgM m (ok m)).win 9).index t (0 : Fin 2) * 512 + 1 * (y (0 : Fin 2)).val = 512 * t.val + (y (0 : Fin 2)).val := by
    rw [index9, Nat.one_mul]; exact congrArg (· + _) (Nat.mul_comm t.val 512)
  have e1 : ((cfgM m (ok m)).win 9).index t (1 : Fin 2) * 448 + 1 * (y (1 : Fin 2)).val = (y (1 : Fin 2)).val := by
    rw [index9, Nat.one_mul]; exact (congrArg (· + _) (Nat.zero_mul 448)).trans (Nat.zero_add _)
  rw [← e0]
  conv_lhs => rw [← e1]
  rfl
theorem final9 (c : Dev nD) : (dats m (ok m) 0 c).arrAt 9 (cfgM m (ok m)).N = result9 m c :=
  (dats m (ok m) 0 c).arrAt_eq_of_cover 9 (result9 m c) (fun t _ => written9 m c t)
    (Pipeline.Window.Covers.cover _ (covers9 m) (Memref.isWhole_whole _))

/-- The results and the arguments after the run. -/
theorem run_blocks : θ_run defs (onTc (τ := τ) (main (F := Ideal))) ⟨m, fun _ => 0, ρ⟩ (fun r => ∀ c : Dev nD,
      (∀ k : Fin 10, r.2.mem ((c.tc : Thread nD τ).loc (Pipeline.arrRef spec0 k)) = (dats m (ok m) 0 c).arrAt k (cfgM m (ok m)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun k => (h.1.1 c).1 k, h.2 c⟩)
    (θ_run_and (run_main_quiescent m ρ (ok m)) (unchanged m ρ (ok m)))

end Cert.AdamInIdeal.Sum

namespace Cert.AdamInRefIdeal.Sum

open Cert.AdamInRefIdeal Cert.AdamInRefIdeal.Read Idealize.ShloMosaic Idealize.ShloMosaic.ValueIdx Step Step.Adam

variable (x0 : S8x1024x448.Idx → EReal) (x1 : S4x1024x448.Idx → EReal) (x2 : S3x1024x448.Idx → EReal) (x3 x4 x5 : S1024x448.Idx → EReal)

/-- The reference's four results, each read at an index. -/
theorem gradRef (i : S1024x448.Idx) : val_main_v7 (F := Ideal) x0 x1 x2 i = grad x0 x1 x2 (i 0).val (i 1).val := by
  have h0 : (i 0).val < 1024 := (i 0).isLt
  have h1 : (i 1).val < 448 := (i 1).isLt
  rw [val_main_v7_apply, val_main_v4_apply, val_main_v1_apply, val_main_v0_apply, val_main_v3_apply, val_main_v2_apply, val_main_v6_apply,
    val_main_cst_apply]
  refine congrArg₂ (· + ·) (congrArg₂ (· + ·) (read3 (n := 8) (k := 1024) (l := 448) x0 _ ?_ ?_ ?_) (read3 (n := 4) (k := 1024) (l := 448) x1 _ ?_ ?_ ?_)) ?_
  · rfl
  · show ((i 0).val * 448 + (i 1).val) / 448 % 1024 = _; omega
  · show ((i 0).val * 448 + (i 1).val) % 448 = _; omega
  · rfl
  · show ((i 0).val * 448 + (i 1).val) / 448 % 1024 = _; omega
  · show ((i 0).val * 448 + (i 1).val) % 448 = _; omega
  · show Ideal.ofBits .f32 0x00000000#32 + _ = _
    rw [Ideal.ofBits_zero_f32, zero_add]
    refine Finset.sum_congr rfl fun s _ => ?_
    rw [val_main_v5_apply]
    exact read3 (n := 3) (k := 1024) (l := 448) x2 _ rfl rfl rfl

theorem firstRef (i : S1024x448.Idx) : val_main_v12 (F := Ideal) x0 x1 x2 x4 i
    = first (at2 (n := 1024) (k := 448) x4 (i 0).val (i 1).val) (grad x0 x1 x2 (i 0).val (i 1).val) := by
  rw [← gradRef, ← eq_at2 (n := 1024) (k := 448) x4 i]
  rw [val_main_v12_apply, val_main_v11_apply, val_main_v10_apply, val_main_v9_apply, val_main_v8_apply, val_main_cst_0_apply, val_main_cst_1_apply]
  rfl

theorem secondRef (i : S1024x448.Idx) : val_main_v18 (F := Ideal) x0 x1 x2 x5 i
    = second (at2 (n := 1024) (k := 448) x5 (i 0).val (i 1).val) (grad x0 x1 x2 (i 0).val (i 1).val) := by
  rw [← gradRef, ← eq_at2 (n := 1024) (k := 448) x5 i]
  rw [val_main_v18_apply, val_main_v17_apply, val_main_v16_apply, val_main_v15_apply, val_main_v14_apply, val_main_v13_apply, val_main_cst_2_apply, val_main_cst_3_apply]
  rfl

theorem deltaRef (i : S1024x448.Idx) : val_main_v31 (F := Ideal) x0 x1 x2 x3 x4 x5 i
    = delta (at2 (n := 1024) (k := 448) x3 (i 0).val (i 1).val)
      (first (at2 (n := 1024) (k := 448) x4 (i 0).val (i 1).val) (grad x0 x1 x2 (i 0).val (i 1).val))
      (second (at2 (n := 1024) (k := 448) x5 (i 0).val (i 1).val) (grad x0 x1 x2 (i 0).val (i 1).val)) := by
  rw [← firstRef, ← secondRef, ← eq_at2 (n := 1024) (k := 448) x3 i]
  rw [val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_cst_4_apply, val_main_cst_5_apply, val_main_cst_6_apply, val_main_cst_7_apply, val_main_cst_8_apply]
  rfl

end Cert.AdamInRefIdeal.Sum

namespace Cert.Proof

open Idealize.ShloMosaic Idealize.SL.Sem Step

/-- The call's four results are the reference's, over the extended reals. -/
theorem algebraic_AdamIn [Cert.AdamInIdeal.Facts] [Cert.AdamInRefIdeal.Facts] : algebraic_AdamInIdeal_AdamInRefIdeal := by
  intro m ρ m' ρ' _ hagree
  refine ⟨fun c => Cert.AdamInIdeal.Sum.result6 m c, fun c => Cert.AdamInIdeal.Sum.result7 m c, fun c => Cert.AdamInIdeal.Sum.result8 m c,
    fun c => Cert.AdamInIdeal.Sum.result9 m c,
    (θ_run Cert.AdamInIdeal.defs _ _).mono
      (fun _ h c => ⟨((h c).1 6).trans (Cert.AdamInIdeal.Sum.final6 m c), ((h c).1 7).trans (Cert.AdamInIdeal.Sum.final7 m c),
        ((h c).1 8).trans (Cert.AdamInIdeal.Sum.final8 m c), ((h c).1 9).trans (Cert.AdamInIdeal.Sum.final9 m c), (h c).2⟩)
      (Cert.AdamInIdeal.Sum.run_blocks m ρ), ?_⟩
  refine (θ_run Cert.AdamInRefIdeal.defs _ _).mono (fun _ h c => ⟨?_, ?_, ?_, ?_, (h c).2.2.2.2⟩)
    (Cert.AdamInRefIdeal.Value.run (F := Ideal) m' ρ')
  all_goals obtain ⟨a0, a1, a2, a3, a4, a5⟩ := hagree c
  · refine ((h c).1.trans (Cert.AdamInRefIdeal.Read.val_main_v7_eq ..)).trans ?_
    rw [a0, a1, a2]
    funext i
    exact Cert.AdamInRefIdeal.Sum.gradRef _ _ _ i
  · refine ((h c).2.1.trans (Cert.AdamInRefIdeal.Read.val_main_v31_eq ..)).trans ?_
    rw [a0, a1, a2, a3, a4, a5]
    funext i
    exact Cert.AdamInRefIdeal.Sum.deltaRef _ _ _ _ _ _ i
  · refine ((h c).2.2.1.trans (Cert.AdamInRefIdeal.Read.val_main_v12_eq ..)).trans ?_
    rw [a0, a1, a2, a4]
    funext i
    exact Cert.AdamInRefIdeal.Sum.firstRef _ _ _ _ i
  · refine ((h c).2.2.2.1.trans (Cert.AdamInRefIdeal.Read.val_main_v18_eq ..)).trans ?_
    rw [a0, a1, a2, a5]
    funext i
    exact Cert.AdamInRefIdeal.Sum.secondRef _ _ _ _ i

end Cert.Proof

end
-- ==== Proof.AdamOutValue.lean ====
/- The value of the call `AdamOut`: the optimiser's step on this device's shard of the output projection's weight.

   Blocks of 128 rows of the shard. The call is handed the positions of the device's sheets in a table of two numbers, both
   zero here; nothing is asked of the arguments. -/
module

public import proofs.«01_k».proof.Defs
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamOutRefIdeal.Read
public import Idealize.ShloMosaic.Lib.Pipeline.ValueKit.Geometry
public import proofs.«01_k».proof.Proof.Reading
public import proofs.«01_k».proof.Proof.Adam

@[expose] public section

set_option maxRecDepth 16384

noncomputable section

namespace Cert.AdamOut.Table

open Cert.AdamOut Cert.AdamOut.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamOut.Table

namespace Cert.AdamOutIdeal.Table

open Cert.AdamOutIdeal Cert.AdamOutIdeal.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamOutIdeal.Table

namespace Cert.AdamOutIdeal.Sum

open Cert.AdamOutIdeal Cert.AdamOutIdeal.Gen Cert.AdamOutIdeal.Table Idealize.ShloMosaic Idealize.ShloMosaic.TcCoe Idealize.ShloMosaic.Tactic Idealize.SL Idealize.SL.Sem Idealize.ShloMosaic.Rounds Idealize.ShloMosaic.Pipeline Step Step.Adam
  Idealize.ShloMosaic.ValueIdx

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

section
variable (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S3x128x1024 .bf16) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole)
  (x0 : Vec Ideal S1x128x1024 .f32) (x1 : Vec Ideal S1x128x1024 .f32) (x2 : Vec Ideal S3x128x1024 .bf16) (x3 x4 x5 : Vec Ideal S128x1024 .f32) (xt0 : TbBuf0 (F := Ideal) c tbM0_0)

/-- What a point leaves of the gradient. -/
theorem out_6 : (out0_A_6 (F := Ideal) c i arg2 harg2 arg3 harg3 arg4 harg4 arg5 harg5 arg6 harg6 arg7 harg7 arg8 harg8 arg9 harg9 arg10 harg10 arg11 harg11 x0 x1 x2 x3 x4 x5 xt0 : S128x1024.Idx → EReal)
    = k0_pay3 (F := Ideal) x0 x1 (View.ld x2 (Rect.unit (s := S3x128x1024) ![0, 0, 0] S1x128x1024.size inb_S3x128x1024_S1x128x1024_0_0_0)) (View.ld x2 (Rect.unit (s := S3x128x1024) ![1, 0, 0] S1x128x1024.size inb_S3x128x1024_S1x128x1024_1_0_0)) (View.ld x2 (Rect.unit (s := S3x128x1024) ![2, 0, 0] S1x128x1024.size inb_S3x128x1024_S1x128x1024_2_0_0)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x1024) zero2, View.ld_unit_zero (S := S1x128x1024) zero3]

/-- What a point leaves of the update. -/
theorem out_7 : (out0_A_7 (F := Ideal) c i arg2 harg2 arg3 harg3 arg4 harg4 arg5 harg5 arg6 harg6 arg7 harg7 arg8 harg8 arg9 harg9 arg10 harg10 arg11 harg11 x0 x1 x2 x3 x4 x5 xt0 : S128x1024.Idx → EReal)
    = k0_pay2 (F := Ideal) x3 (k0_pay4 (F := Ideal) x0 x1 (View.ld x2 (Rect.unit (s := S3x128x1024) ![0, 0, 0] S1x128x1024.size inb_S3x128x1024_S1x128x1024_0_0_0)) (View.ld x2 (Rect.unit (s := S3x128x1024) ![1, 0, 0] S1x128x1024.size inb_S3x128x1024_S1x128x1024_1_0_0)) (View.ld x2 (Rect.unit (s := S3x128x1024) ![2, 0, 0] S1x128x1024.size inb_S3x128x1024_S1x128x1024_2_0_0)) x4) (k0_pay5 (F := Ideal) x5) (k0_pay6 (F := Ideal) x0 x1 (View.ld x2 (Rect.unit (s := S3x128x1024) ![0, 0, 0] S1x128x1024.size inb_S3x128x1024_S1x128x1024_0_0_0)) (View.ld x2 (Rect.unit (s := S3x128x1024) ![1, 0, 0] S1x128x1024.size inb_S3x128x1024_S1x128x1024_1_0_0)) (View.ld x2 (Rect.unit (s := S3x128x1024) ![2, 0, 0] S1x128x1024.size inb_S3x128x1024_S1x128x1024_2_0_0))) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x1024) zero2, View.ld_unit_zero (S := S1x128x1024) zero3]

/-- What a point leaves of the first moment. -/
theorem out_8 : (out0_A_8 (F := Ideal) c i arg2 harg2 arg3 harg3 arg4 harg4 arg5 harg5 arg6 harg6 arg7 harg7 arg8 harg8 arg9 harg9 arg10 harg10 arg11 harg11 x0 x1 x2 x3 x4 x5 xt0 : S128x1024.Idx → EReal)
    = k0_pay4 (F := Ideal) x0 x1 (View.ld x2 (Rect.unit (s := S3x128x1024) ![0, 0, 0] S1x128x1024.size inb_S3x128x1024_S1x128x1024_0_0_0)) (View.ld x2 (Rect.unit (s := S3x128x1024) ![1, 0, 0] S1x128x1024.size inb_S3x128x1024_S1x128x1024_1_0_0)) (View.ld x2 (Rect.unit (s := S3x128x1024) ![2, 0, 0] S1x128x1024.size inb_S3x128x1024_S1x128x1024_2_0_0)) x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x1024) zero2, View.ld_unit_zero (S := S1x128x1024) zero3]

/-- What a point leaves of the second moment. -/
theorem out_9 : (out0_A_9 (F := Ideal) c i arg2 harg2 arg3 harg3 arg4 harg4 arg5 harg5 arg6 harg6 arg7 harg7 arg8 harg8 arg9 harg9 arg10 harg10 arg11 harg11 x0 x1 x2 x3 x4 x5 xt0 : S128x1024.Idx → EReal)
    = k0_pay1 (F := Ideal) (k0_pay5 (F := Ideal) x5) (k0_pay6 (F := Ideal) x0 x1 (View.ld x2 (Rect.unit (s := S3x128x1024) ![0, 0, 0] S1x128x1024.size inb_S3x128x1024_S1x128x1024_0_0_0)) (View.ld x2 (Rect.unit (s := S3x128x1024) ![1, 0, 0] S1x128x1024.size inb_S3x128x1024_S1x128x1024_1_0_0)) (View.ld x2 (Rect.unit (s := S3x128x1024) ![2, 0, 0] S1x128x1024.size inb_S3x128x1024_S1x128x1024_2_0_0))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x1024) zero2, View.ld_unit_zero (S := S1x128x1024) zero3]

end

/-- The payloads, each read at an element of the block. -/
theorem pay3_apply (v0 v2 : Vec Ideal S1x128x1024 .f32) (v5 v9 v13 : Vec Ideal S1x128x1024 .bf16) (y : S128x1024.Idx) :
    (k0_pay3 (F := Ideal) v0 v2 v5 v9 v13 : S128x1024.Idx → EReal) y
      = (v0 : S1x128x1024.Idx → EReal) (sheet y) + (v2 : S1x128x1024.Idx → EReal) (sheet y) + (v5 : S1x128x1024.Idx → EReal) (sheet y)
        + (v9 : S1x128x1024.Idx → EReal) (sheet y) + (v13 : S1x128x1024.Idx → EReal) (sheet y) := by
  unfold k0_pay3
  refine congrArg₂ (· + ·) (congrArg₂ (· + ·) (congrArg₂ (· + ·) (congrArg₂ (· + ·) ?_ ?_) ?_) ?_) ?_
  all_goals exact drop (a := 128) (b := 1024) _ _ y

theorem pay4_apply (v0 v2 : Vec Ideal S1x128x1024 .f32) (v5 v9 v13 : Vec Ideal S1x128x1024 .bf16) (v19 : Vec Ideal S128x1024 .f32) (y : S128x1024.Idx) :
    (k0_pay4 (F := Ideal) v0 v2 v5 v9 v13 v19 : S128x1024.Idx → EReal) y
      = first ((v19 : S128x1024.Idx → EReal) y) ((k0_pay3 (F := Ideal) v0 v2 v5 v9 v13 : S128x1024.Idx → EReal) y) := rfl

theorem pay1_apply (v0 v2 : Vec Ideal S1x128x1024 .f32) (v5 v9 v13 : Vec Ideal S1x128x1024 .bf16) (v20 : Vec Ideal S128x1024 .f32) (y : S128x1024.Idx) :
    (k0_pay1 (F := Ideal) (k0_pay5 (F := Ideal) v20) (k0_pay6 (F := Ideal) v0 v2 v5 v9 v13) : S128x1024.Idx → EReal) y
      = second ((v20 : S128x1024.Idx → EReal) y) ((k0_pay3 (F := Ideal) v0 v2 v5 v9 v13 : S128x1024.Idx → EReal) y) := rfl

theorem pay2_apply (v18 : Vec Ideal S128x1024 .f32) (v25 v27 v30 : FVec Ideal S128x1024 .f32) (y : S128x1024.Idx) :
    (k0_pay2 (F := Ideal) v18 v25 v27 v30 : S128x1024.Idx → EReal) y
      = delta ((v18 : S128x1024.Idx → EReal) y) ((v25 : S128x1024.Idx → EReal) y) ((k0_pay1 (F := Ideal) v27 v30 : S128x1024.Idx → EReal) y) := rfl

variable (m : (ℓ : Loc nD τ sig) → Buf (Elt Ideal) ℓ) (ρ : Dev nD → PrngReg)

/-- The call's arguments. -/
def g (c : Dev nD) : S8x128x1024.Idx → EReal := m ((c.tc : Thread nD τ).loc main_arg0)
def got (c : Dev nD) : S4x128x1024.Idx → EReal := m ((c.tc : Thread nD τ).loc main_arg1)
def pieces (c : Dev nD) : S3x128x1024.Idx → EReal := m ((c.tc : Thread nD τ).loc main_arg2)
def w (c : Dev nD) : S128x1024.Idx → EReal := m ((c.tc : Thread nD τ).loc main_arg3)
def m1 (c : Dev nD) : S128x1024.Idx → EReal := m ((c.tc : Thread nD τ).loc main_arg4)
def m2 (c : Dev nD) : S128x1024.Idx → EReal := m ((c.tc : Thread nD τ).loc main_arg5)

/-- The operands' blocks at a point. -/
def b0 (c : Dev nD) (t : Fin (cfgM m (ok m)).N) : Vec Ideal S1x128x1024 .f32 := iblk m (ok m) c 0 t
def b1 (c : Dev nD) (t : Fin (cfgM m (ok m)).N) : Vec Ideal S1x128x1024 .f32 := iblk m (ok m) c 1 t
def b2 (c : Dev nD) (t : Fin (cfgM m (ok m)).N) : Vec Ideal S3x128x1024 .bf16 := iblk m (ok m) c 2 t
def b3 (c : Dev nD) (t : Fin (cfgM m (ok m)).N) : Vec Ideal S128x1024 .f32 := iblk m (ok m) c 3 t
def b4 (c : Dev nD) (t : Fin (cfgM m (ok m)).N) : Vec Ideal S128x1024 .f32 := iblk m (ok m) c 4 t
def b5 (c : Dev nD) (t : Fin (cfgM m (ok m)).N) : Vec Ideal S128x1024 .f32 := iblk m (ok m) c 5 t

/-- The number of a point of the grid is the block of rows it works on. -/
theorem coord : ∀ t : Fin grid0.N, (BitVec.ofNat 32 (grid0.coords t 0).val).toNat = t.val := by decide +kernel

theorem index0 (t : Fin (cfgM m (ok m)).N) : ((cfgM m (ok m)).win 0).index t = ![0, t.val, 0] :=
  (at0 m (grid0.coords t)).trans (by rw [coord])
theorem index1 (t : Fin (cfgM m (ok m)).N) : ((cfgM m (ok m)).win 1).index t = ![0, t.val, 0] :=
  (at1 m (grid0.coords t)).trans (by rw [coord])
theorem index2 (t : Fin (cfgM m (ok m)).N) : ((cfgM m (ok m)).win 2).index t = ![0, t.val, 0] := by
  show ![_, (BitVec.ofNat 32 (grid0.coords t 0).val).toNat, _] = _
  rw [coord]; rfl
theorem index3 (t : Fin (cfgM m (ok m)).N) : ((cfgM m (ok m)).win 3).index t = ![t.val, 0] := by
  show ![(BitVec.ofNat 32 (grid0.coords t 0).val).toNat, _] = _
  rw [coord]; rfl
theorem index4 (t : Fin (cfgM m (ok m)).N) : ((cfgM m (ok m)).win 4).index t = ![t.val, 0] := by
  show ![(BitVec.ofNat 32 (grid0.coords t 0).val).toNat, _] = _
  rw [coord]; rfl
theorem index5 (t : Fin (cfgM m (ok m)).N) : ((cfgM m (ok m)).win 5).index t = ![t.val, 0] := by
  show ![(BitVec.ofNat 32 (grid0.coords t 0).val).toNat, _] = _
  rw [coord]; rfl
theorem index6 (t : Fin (cfgM m (ok m)).N) : ((cfgM m (ok m)).win 6).index t = ![t.val, 0] := by
  show ![(BitVec.ofNat 32 (grid0.coords t 0).val).toNat, _] = _
  rw [coord]; rfl
theorem index7 (t : Fin (cfgM m (ok m)).N) : ((cfgM m (ok m)).win 7).index t = ![t.val, 0] := by
  show ![(BitVec.ofNat 32 (grid0.coords t 0).val).toNat, _] = _
  rw [coord]; rfl
theorem index8 (t : Fin (cfgM m (ok m)).N) : ((cfgM m (ok m)).win 8).index t = ![t.val, 0] := by
  show ![(BitVec.ofNat 32 (grid0.coords t 0).val).toNat, _] = _
  rw [coord]; rfl
theorem index9 (t : Fin (cfgM m (ok m)).N) : ((cfgM m (ok m)).win 9).index t = ![t.val, 0] := by
  show ![(BitVec.ofNat 32 (grid0.coords t 0).val).toNat, _] = _
  rw [coord]; rfl

/-- Each of them read at an element. -/
theorem block0 (c : Dev nD) (t : Fin (cfgM m (ok m)).N) (y : S128x1024.Idx) :
    (b0 m c t : S1x128x1024.Idx → EReal) (sheet y) = at3 (n := 8) (k := 128) (l := 1024) (g m c) 0 (128 * t.val + (y 0).val) (y 1).val := by
  refine (congrFun (V_main_arg0 m c) _).trans (read3 (n := 8) (k := 128) (l := 1024) (g m c) _ ?_ ?_ ?_)
  · show ((cfgM m (ok m)).win 0).index t (0 : Fin 3) * 1 + 1 * 0 = _; rw [index0]; rfl
  · show ((cfgM m (ok m)).win 0).index t (1 : Fin 3) * 128 + 1 * (y 0).val = _; rw [index0]; show t.val * _ + _ = _; omega
  · show ((cfgM m (ok m)).win 0).index t (2 : Fin 3) * 1024 + 1 * (y 1).val = _; rw [index0]; show 0 * _ + _ = _; omega
theorem block1 (c : Dev nD) (t : Fin (cfgM m (ok m)).N) (y : S128x1024.Idx) :
    (b1 m c t : S1x128x1024.Idx → EReal) (sheet y) = at3 (n := 4) (k := 128) (l := 1024) (got m c) 0 (128 * t.val + (y 0).val) (y 1).val := by
  refine (congrFun (V_main_arg1 m c) _).trans (read3 (n := 4) (k := 128) (l := 1024) (got m c) _ ?_ ?_ ?_)
  · show ((cfgM m (ok m)).win 1).index t (0 : Fin 3) * 1 + 1 * 0 = _; rw [index1]; rfl
  · show ((cfgM m (ok m)).win 1).index t (1 : Fin 3) * 128 + 1 * (y 0).val = _; rw [index1]; show t.val * _ + _ = _; omega
  · show ((cfgM m (ok m)).win 1).index t (2 : Fin 3) * 1024 + 1 * (y 1).val = _; rw [index1]; show 0 * _ + _ = _; omega
theorem piece0 (c : Dev nD) (t : Fin (cfgM m (ok m)).N) (y : S128x1024.Idx) :
    (View.ld (b2 m c t) (Rect.unit (s := S3x128x1024) ![0, 0, 0] S1x128x1024.size inb_S3x128x1024_S1x128x1024_0_0_0) : S1x128x1024.Idx → EReal) (sheet y)
      = at3 (n := 3) (k := 128) (l := 1024) (pieces m c) 0 (128 * t.val + (y 0).val) (y 1).val := by
  refine (congrFun (V_main_arg2 m c) _).trans (read3 (n := 3) (k := 128) (l := 1024) (pieces m c) _ ?_ ?_ ?_)
  · show ((cfgM m (ok m)).win 2).index t (0 : Fin 3) * 3 + 1 * (0 + 1 * 0) = _; rw [index2]; rfl
  · show ((cfgM m (ok m)).win 2).index t (1 : Fin 3) * 128 + 1 * (0 + 1 * (y 0).val) = _; rw [index2]; show t.val * _ + _ = _; omega
  · show ((cfgM m (ok m)).win 2).index t (2 : Fin 3) * 1024 + 1 * (0 + 1 * (y 1).val) = _; rw [index2]; show 0 * _ + _ = _; omega
theorem piece1 (c : Dev nD) (t : Fin (cfgM m (ok m)).N) (y : S128x1024.Idx) :
    (View.ld (b2 m c t) (Rect.unit (s := S3x128x1024) ![1, 0, 0] S1x128x1024.size inb_S3x128x1024_S1x128x1024_1_0_0) : S1x128x1024.Idx → EReal) (sheet y)
      = at3 (n := 3) (k := 128) (l := 1024) (pieces m c) 1 (128 * t.val + (y 0).val) (y 1).val := by
  refine (congrFun (V_main_arg2 m c) _).trans (read3 (n := 3) (k := 128) (l := 1024) (pieces m c) _ ?_ ?_ ?_)
  · show ((cfgM m (ok m)).win 2).index t (0 : Fin 3) * 3 + 1 * (1 + 1 * 0) = _; rw [index2]; rfl
  · show ((cfgM m (ok m)).win 2).index t (1 : Fin 3) * 128 + 1 * (0 + 1 * (y 0).val) = _; rw [index2]; show t.val * _ + _ = _; omega
  · show ((cfgM m (ok m)).win 2).index t (2 : Fin 3) * 1024 + 1 * (0 + 1 * (y 1).val) = _; rw [index2]; show 0 * _ + _ = _; omega
theorem piece2 (c : Dev nD) (t : Fin (cfgM m (ok m)).N) (y : S128x1024.Idx) :
    (View.ld (b2 m c t) (Rect.unit (s := S3x128x1024) ![2, 0, 0] S1x128x1024.size inb_S3x128x1024_S1x128x1024_2_0_0) : S1x128x1024.Idx → EReal) (sheet y)
      = at3 (n := 3) (k := 128) (l := 1024) (pieces m c) 2 (128 * t.val + (y 0).val) (y 1).val := by
  refine (congrFun (V_main_arg2 m c) _).trans (read3 (n := 3) (k := 128) (l := 1024) (pieces m c) _ ?_ ?_ ?_)
  · show ((cfgM m (ok m)).win 2).index t (0 : Fin 3) * 3 + 1 * (2 + 1 * 0) = _; rw [index2]; rfl
  · show ((cfgM m (ok m)).win 2).index t (1 : Fin 3) * 128 + 1 * (0 + 1 * (y 0).val) = _; rw [index2]; show t.val * _ + _ = _; omega
  · show ((cfgM m (ok m)).win 2).index t (2 : Fin 3) * 1024 + 1 * (0 + 1 * (y 1).val) = _; rw [index2]; show 0 * _ + _ = _; omega

theorem block3 (c : Dev nD) (t : Fin (cfgM m (ok m)).N) (y : S128x1024.Idx) :
    (b3 m c t : S128x1024.Idx → EReal) y = at2 (n := 128) (k := 1024) (w m c) (128 * t.val + (y 0).val) (y 1).val := by
  refine (congrFun (V_main_arg3 m c) _).trans (read2 (n := 128) (k := 1024) (w m c) _ ?_ ?_)
  · show ((cfgM m (ok m)).win 3).index t (0 : Fin 2) * 128 + 1 * (y 0).val = _; rw [index3]; show t.val * _ + _ = _; omega
  · show ((cfgM m (ok m)).win 3).index t (1 : Fin 2) * 1024 + 1 * (y 1).val = _; rw [index3]; show 0 * _ + _ = _; omega
theorem block4 (c : Dev nD) (t : Fin (cfgM m (ok m)).N) (y : S128x1024.Idx) :
    (b4 m c t : S128x1024.Idx → EReal) y = at2 (n := 128) (k := 1024) (m1 m c) (128 * t.val + (y 0).val) (y 1).val := by
  refine (congrFun (V_main_arg4 m c) _).trans (read2 (n := 128) (k := 1024) (m1 m c) _ ?_ ?_)
  · show ((cfgM m (ok m)).win 4).index t (0 : Fin 2) * 128 + 1 * (y 0).val = _; rw [index4]; show t.val * _ + _ = _; omega
  · show ((cfgM m (ok m)).win 4).index t (1 : Fin 2) * 1024 + 1 * (y 1).val = _; rw [index4]; show 0 * _ + _ = _; omega
theorem block5 (c : Dev nD) (t : Fin (cfgM m (ok m)).N) (y : S128x1024.Idx) :
    (b5 m c t : S128x1024.Idx → EReal) y = at2 (n := 128) (k := 1024) (m2 m c) (128 * t.val + (y 0).val) (y 1).val := by
  refine (congrFun (V_main_arg5 m c) _).trans (read2 (n := 128) (k := 1024) (m2 m c) _ ?_ ?_)
  · show ((cfgM m (ok m)).win 5).index t (0 : Fin 2) * 128 + 1 * (y 0).val = _; rw [index5]; show t.val * _ + _ = _; omega
  · show ((cfgM m (ok m)).win 5).index t (1 : Fin 2) * 1024 + 1 * (y 1).val = _; rw [index5]; show 0 * _ + _ = _; omega

/-- The gradient's block. -/
theorem gradBlock (c : Dev nD) (t : Fin (cfgM m (ok m)).N) (y : S128x1024.Idx) :
    (k0_pay3 (F := Ideal) (b0 m c t) (b1 m c t) (View.ld (b2 m c t) (Rect.unit (s := S3x128x1024) ![0, 0, 0] S1x128x1024.size inb_S3x128x1024_S1x128x1024_0_0_0)) (View.ld (b2 m c t) (Rect.unit (s := S3x128x1024) ![1, 0, 0] S1x128x1024.size inb_S3x128x1024_S1x128x1024_1_0_0)) (View.ld (b2 m c t) (Rect.unit (s := S3x128x1024) ![2, 0, 0] S1x128x1024.size inb_S3x128x1024_S1x128x1024_2_0_0)) : S128x1024.Idx → EReal) y
      = grad (g m c) (got m c) (pieces m c) (128 * t.val + (y 0).val) (y 1).val := by
  refine (pay3_apply _ _ _ _ _ y).trans ?_
  rw [block0, block1]
  refine Eq.trans (congrArg₂ (· + ·) (congrArg₂ (· + ·) (congrArg₂ (· + ·) rfl ?_) ?_) ?_) (grad_eq (g m c) (got m c) (pieces m c) _ _)
  · exact piece0 m c t y
  · exact piece1 m c t y
  · exact piece2 m c t y

/-- The call's four results, each one array. -/
def result6 (c : Dev nD) : S128x1024.Idx → EReal := fun i => grad (g m c) (got m c) (pieces m c) (i 0).val (i 1).val
def result8 (c : Dev nD) : S128x1024.Idx → EReal := fun i => first (at2 (n := 128) (k := 1024) (m1 m c) (i 0).val (i 1).val) (grad (g m c) (got m c) (pieces m c) (i 0).val (i 1).val)
def result9 (c : Dev nD) : S128x1024.Idx → EReal := fun i => second (at2 (n := 128) (k := 1024) (m2 m c) (i 0).val (i 1).val) (grad (g m c) (got m c) (pieces m c) (i 0).val (i 1).val)
def result7 (c : Dev nD) : S128x1024.Idx → EReal := fun i => delta (at2 (n := 128) (k := 1024) (w m c) (i 0).val (i 1).val)
  (first (at2 (n := 128) (k := 1024) (m1 m c) (i 0).val (i 1).val) (grad (g m c) (got m c) (pieces m c) (i 0).val (i 1).val))
  (second (at2 (n := 128) (k := 1024) (m2 m c) (i 0).val (i 1).val) (grad (g m c) (got m c) (pieces m c) (i 0).val (i 1).val))

/-- What a point leaves, at an element of the block. -/
theorem staged6 (c : Dev nD) (t : Fin (cfgM m (ok m)).N) (y : S128x1024.Idx) : ((outsAt0 m (ok m) c t).1 : S128x1024.Idx → EReal) y
    = grad (g m c) (got m c) (pieces m c) (128 * t.val + (y 0).val) (y 1).val := by
  unfold outsAt0
  dsimp only
  exact (congrFun (out_6 _ _ _ _ _ _ _ _ _ _ _ _ _ _ _ _ _ _ _ _ _ _ _ _ _ _ _ _ _) y).trans (gradBlock m c t y)
theorem staged8 (c : Dev nD) (t : Fin (cfgM m (ok m)).N) (y : S128x1024.Idx) : ((outsAt0 m (ok m) c t).2.2.1 : S128x1024.Idx → EReal) y
    = first (at2 (n := 128) (k := 1024) (m1 m c) (128 * t.val + (y 0).val) (y 1).val)
      (grad (g m c) (got m c) (pieces m c) (128 * t.val + (y 0).val) (y 1).val) := by
  unfold outsAt0
  dsimp only
  exact (congrFun (out_8 _ _ _ _ _ _ _ _ _ _ _ _ _ _ _ _ _ _ _ _ _ _ _ _ _ _ _ _ _) y).trans ((pay4_apply (b0 m c t) (b1 m c t) _ _ _ (b4 m c t) y).trans
    (congrArg₂ first (block4 m c t y) (gradBlock m c t y)))
theorem staged9 (c : Dev nD) (t : Fin (cfgM m (ok m)).N) (y : S128x1024.Idx) : ((outsAt0 m (ok m) c t).2.2.2 : S128x1024.Idx → EReal) y
    = second (at2 (n := 128) (k := 1024) (m2 m c) (128 * t.val + (y 0).val) (y 1).val)
      (grad (g m c) (got m c) (pieces m c) (128 * t.val + (y 0).val) (y 1).val) := by
  unfold outsAt0
  dsimp only
  exact (congrFun (out_9 _ _ _ _ _ _ _ _ _ _ _ _ _ _ _ _ _ _ _ _ _ _ _ _ _ _ _ _ _) y).trans ((pay1_apply (b0 m c t) (b1 m c t) _ _ _ (b5 m c t) y).trans
    (congrArg₂ second (block5 m c t y) (gradBlock m c t y)))
theorem staged7 (c : Dev nD) (t : Fin (cfgM m (ok m)).N) (y : S128x1024.Idx) : ((outsAt0 m (ok m) c t).2.1 : S128x1024.Idx → EReal) y
    = delta (at2 (n := 128) (k := 1024) (w m c) (128 * t.val + (y 0).val) (y 1).val)
      (first (at2 (n := 128) (k := 1024) (m1 m c) (128 * t.val + (y 0).val) (y 1).val)
        (grad (g m c) (got m c) (pieces m c) (128 * t.val + (y 0).val) (y 1).val))
      (second (at2 (n := 128) (k := 1024) (m2 m c) (128 * t.val + (y 0).val) (y 1).val)
        (grad (g m c) (got m c) (pieces m c) (128 * t.val + (y 0).val) (y 1).val)) := by
  unfold outsAt0
  dsimp only
  refine (congrFun (out_7 _ _ _ _ _ _ _ _ _ _ _ _ _ _ _ _ _ _ _ _ _ _ _ _ _ _ _ _ _) y).trans ((pay2_apply (b3 m c t) _ _ _ y).trans ?_)
  refine congr (congrArg₂ delta (block3 m c t y) ((pay4_apply (b0 m c t) (b1 m c t) _ _ _ (b4 m c t) y).trans
    (congrArg₂ first (block4 m c t y) (gradBlock m c t y)))) ?_
  exact (pay1_apply (b0 m c t) (b1 m c t) _ _ _ (b5 m c t) y).trans (congrArg₂ second (block5 m c t y) (gradBlock m c t y))

/-- The gradient's array after the run. -/
theorem covers6 : ((cfgM m (ok m)).win 6).Covers :=
  ⟨(by decide : ∀ a : Fin 2, 0 < S128x1024.size a), fun β => ⟨(⟨(β (0 : Fin 2)).val, lt_of_lt_of_eq (β (0 : Fin 2)).isLt
    (show (128 + 128 - 1) / 128 = grid0.N by decide)⟩ : Fin grid0.N), flush0_6 _ _, fun a => ⟨by
    rw [index6]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed6 (c : Dev nD) (t : Fin (cfgM m (ok m)).N) :
    (dats m (ok m) 0 c).flushed 6 t = ((cfgM m (ok m)).win 6).cut (grid0.coords t) (outsAt0 m (ok m) c t).1 := by
  show ((cfgM m (ok m)).win 6).cut (grid0.coords t) ((dats m (ok m) 0 c).after 6 t) = _
  rw [after0_6]
theorem written6 (c : Dev nD) (t : Fin (cfgM m (ok m)).N) :
    (dats m (ok m) 0 c).flushed 6 t = (((cfgM m (ok m)).win 6).blk t).view.read (Elt Ideal) (result6 m c) := by
  rw [flushed6]
  funext y
  refine (staged6 m c t y).trans ?_
  have e0 : ((cfgM m (ok m)).win 6).index t (0 : Fin 2) * 128 + 1 * (y (0 : Fin 2)).val = 128 * t.val + (y (0 : Fin 2)).val := by
    rw [index6, Nat.one_mul]; exact congrArg (· + _) (Nat.mul_comm t.val 128)
  have e1 : ((cfgM m (ok m)).win 6).index t (1 : Fin 2) * 1024 + 1 * (y (1 : Fin 2)).val = (y (1 : Fin 2)).val := by
    rw [index6, Nat.one_mul]; exact (congrArg (· + _) (Nat.zero_mul 1024)).trans (Nat.zero_add _)
  rw [← e0]
  conv_lhs => rw [← e1]
  rfl
theorem final6 (c : Dev nD) : (dats m (ok m) 0 c).arrAt 6 (cfgM m (ok m)).N = result6 m c :=
  (dats m (ok m) 0 c).arrAt_eq_of_cover 6 (result6 m c) (fun t _ => written6 m c t)
    (Pipeline.Window.Covers.cover _ (covers6 m) (Memref.isWhole_whole _))

/-- The update's array after the run. -/
theorem covers7 : ((cfgM m (ok m)).win 7).Covers :=
  ⟨(by decide : ∀ a : Fin 2, 0 < S128x1024.size a), fun β => ⟨(⟨(β (0 : Fin 2)).val, lt_of_lt_of_eq (β (0 : Fin 2)).isLt
    (show (128 + 128 - 1) / 128 = grid0.N by decide)⟩ : Fin grid0.N), flush0_7 _ _, fun a => ⟨by
    rw [index7]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed7 (c : Dev nD) (t : Fin (cfgM m (ok m)).N) :
    (dats m (ok m) 0 c).flushed 7 t = ((cfgM m (ok m)).win 7).cut (grid0.coords t) (outsAt0 m (ok m) c t).2.1 := by
  show ((cfgM m (ok m)).win 7).cut (grid0.coords t) ((dats m (ok m) 0 c).after 7 t) = _
  rw [after0_7]
theorem written7 (c : Dev nD) (t : Fin (cfgM m (ok m)).N) :
    (dats m (ok m) 0 c).flushed 7 t = (((cfgM m (ok m)).win 7).blk t).view.read (Elt Ideal) (result7 m c) := by
  rw [flushed7]
  funext y
  refine (staged7 m c t y).trans ?_
  have e0 : ((cfgM m (ok m)).win 7).index t (0 : Fin 2) * 128 + 1 * (y (0 : Fin 2)).val = 128 * t.val + (y (0 : Fin 2)).val := by
    rw [index7, Nat.one_mul]; exact congrArg (· + _) (Nat.mul_comm t.val 128)
  have e1 : ((cfgM m (ok m)).win 7).index t (1 : Fin 2) * 1024 + 1 * (y (1 : Fin 2)).val = (y (1 : Fin 2)).val := by
    rw [index7, Nat.one_mul]; exact (congrArg (· + _) (Nat.zero_mul 1024)).trans (Nat.zero_add _)
  rw [← e0]
  conv_lhs => rw [← e1]
  rfl
theorem final7 (c : Dev nD) : (dats m (ok m) 0 c).arrAt 7 (cfgM m (ok m)).N = result7 m c :=
  (dats m (ok m) 0 c).arrAt_eq_of_cover 7 (result7 m c) (fun t _ => written7 m c t)
    (Pipeline.Window.Covers.cover _ (covers7 m) (Memref.isWhole_whole _))

/-- The first moment's array after the run. -/
theorem covers8 : ((cfgM m (ok m)).win 8).Covers :=
  ⟨(by decide : ∀ a : Fin 2, 0 < S128x1024.size a), fun β => ⟨(⟨(β (0 : Fin 2)).val, lt_of_lt_of_eq (β (0 : Fin 2)).isLt
    (show (128 + 128 - 1) / 128 = grid0.N by decide)⟩ : Fin grid0.N), flush0_8 _ _, fun a => ⟨by
    rw [index8]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed8 (c : Dev nD) (t : Fin (cfgM m (ok m)).N) :
    (dats m (ok m) 0 c).flushed 8 t = ((cfgM m (ok m)).win 8).cut (grid0.coords t) (outsAt0 m (ok m) c t).2.2.1 := by
  show ((cfgM m (ok m)).win 8).cut (grid0.coords t) ((dats m (ok m) 0 c).after 8 t) = _
  rw [after0_8]
theorem written8 (c : Dev nD) (t : Fin (cfgM m (ok m)).N) :
    (dats m (ok m) 0 c).flushed 8 t = (((cfgM m (ok m)).win 8).blk t).view.read (Elt Ideal) (result8 m c) := by
  rw [flushed8]
  funext y
  refine (staged8 m c t y).trans ?_
  have e0 : ((cfgM m (ok m)).win 8).index t (0 : Fin 2) * 128 + 1 * (y (0 : Fin 2)).val = 128 * t.val + (y (0 : Fin 2)).val := by
    rw [index8, Nat.one_mul]; exact congrArg (· + _) (Nat.mul_comm t.val 128)
  have e1 : ((cfgM m (ok m)).win 8).index t (1 : Fin 2) * 1024 + 1 * (y (1 : Fin 2)).val = (y (1 : Fin 2)).val := by
    rw [index8, Nat.one_mul]; exact (congrArg (· + _) (Nat.zero_mul 1024)).trans (Nat.zero_add _)
  rw [← e0]
  conv_lhs => rw [← e1]
  rfl
theorem final8 (c : Dev nD) : (dats m (ok m) 0 c).arrAt 8 (cfgM m (ok m)).N = result8 m c :=
  (dats m (ok m) 0 c).arrAt_eq_of_cover 8 (result8 m c) (fun t _ => written8 m c t)
    (Pipeline.Window.Covers.cover _ (covers8 m) (Memref.isWhole_whole _))

/-- The second moment's array after the run. -/
theorem covers9 : ((cfgM m (ok m)).win 9).Covers :=
  ⟨(by decide : ∀ a : Fin 2, 0 < S128x1024.size a), fun β => ⟨(⟨(β (0 : Fin 2)).val, lt_of_lt_of_eq (β (0 : Fin 2)).isLt
    (show (128 + 128 - 1) / 128 = grid0.N by decide)⟩ : Fin grid0.N), flush0_9 _ _, fun a => ⟨by
    rw [index9]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed9 (c : Dev nD) (t : Fin (cfgM m (ok m)).N) :
    (dats m (ok m) 0 c).flushed 9 t = ((cfgM m (ok m)).win 9).cut (grid0.coords t) (outsAt0 m (ok m) c t).2.2.2 := by
  show ((cfgM m (ok m)).win 9).cut (grid0.coords t) ((dats m (ok m) 0 c).after 9 t) = _
  rw [after0_9]
theorem written9 (c : Dev nD) (t : Fin (cfgM m (ok m)).N) :
    (dats m (ok m) 0 c).flushed 9 t = (((cfgM m (ok m)).win 9).blk t).view.read (Elt Ideal) (result9 m c) := by
  rw [flushed9]
  funext y
  refine (staged9 m c t y).trans ?_
  have e0 : ((cfgM m (ok m)).win 9).index t (0 : Fin 2) * 128 + 1 * (y (0 : Fin 2)).val = 128 * t.val + (y (0 : Fin 2)).val := by
    rw [index9, Nat.one_mul]; exact congrArg (· + _) (Nat.mul_comm t.val 128)
  have e1 : ((cfgM m (ok m)).win 9).index t (1 : Fin 2) * 1024 + 1 * (y (1 : Fin 2)).val = (y (1 : Fin 2)).val := by
    rw [index9, Nat.one_mul]; exact (congrArg (· + _) (Nat.zero_mul 1024)).trans (Nat.zero_add _)
  rw [← e0]
  conv_lhs => rw [← e1]
  rfl
theorem final9 (c : Dev nD) : (dats m (ok m) 0 c).arrAt 9 (cfgM m (ok m)).N = result9 m c :=
  (dats m (ok m) 0 c).arrAt_eq_of_cover 9 (result9 m c) (fun t _ => written9 m c t)
    (Pipeline.Window.Covers.cover _ (covers9 m) (Memref.isWhole_whole _))

/-- The results and the arguments after the run. -/
theorem run_blocks : θ_run defs (onTc (τ := τ) (main (F := Ideal))) ⟨m, fun _ => 0, ρ⟩ (fun r => ∀ c : Dev nD,
      (∀ k : Fin 10, r.2.mem ((c.tc : Thread nD τ).loc (Pipeline.arrRef spec0 k)) = (dats m (ok m) 0 c).arrAt k (cfgM m (ok m)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun k => (h.1.1 c).1 k, h.2 c⟩)
    (θ_run_and (run_main_quiescent m ρ (ok m)) (unchanged m ρ (ok m)))

end Cert.AdamOutIdeal.Sum

namespace Cert.AdamOutRefIdeal.Sum

open Cert.AdamOutRefIdeal Cert.AdamOutRefIdeal.Read Idealize.ShloMosaic Idealize.ShloMosaic.ValueIdx Step Step.Adam

variable (x0 : S8x128x1024.Idx → EReal) (x1 : S4x128x1024.Idx → EReal) (x2 : S3x128x1024.Idx → EReal) (x3 x4 x5 : S128x1024.Idx → EReal)

/-- The reference's four results, each read at an index. -/
theorem gradRef (i : S128x1024.Idx) : val_main_v7 (F := Ideal) x0 x1 x2 i = grad x0 x1 x2 (i 0).val (i 1).val := by
  have h0 : (i 0).val < 128 := (i 0).isLt
  have h1 : (i 1).val < 1024 := (i 1).isLt
  rw [val_main_v7_apply, val_main_v4_apply, val_main_v1_apply, val_main_v0_apply, val_main_v3_apply, val_main_v2_apply, val_main_v6_apply,
    val_main_cst_apply]
  refine congrArg₂ (· + ·) (congrArg₂ (· + ·) (read3 (n := 8) (k := 128) (l := 1024) x0 _ ?_ ?_ ?_) (read3 (n := 4) (k := 128) (l := 1024) x1 _ ?_ ?_ ?_)) ?_
  · rfl
  · show ((i 0).val * 1024 + (i 1).val) / 1024 % 128 = _; omega
  · show ((i 0).val * 1024 + (i 1).val) % 1024 = _; omega
  · rfl
  · show ((i 0).val * 1024 + (i 1).val) / 1024 % 128 = _; omega
  · show ((i 0).val * 1024 + (i 1).val) % 1024 = _; omega
  · show Ideal.ofBits .f32 0x00000000#32 + _ = _
    rw [Ideal.ofBits_zero_f32, zero_add]
    refine Finset.sum_congr rfl fun s _ => ?_
    rw [val_main_v5_apply]
    exact read3 (n := 3) (k := 128) (l := 1024) x2 _ rfl rfl rfl

theorem firstRef (i : S128x1024.Idx) : val_main_v12 (F := Ideal) x0 x1 x2 x4 i
    = first (at2 (n := 128) (k := 1024) x4 (i 0).val (i 1).val) (grad x0 x1 x2 (i 0).val (i 1).val) := by
  rw [← gradRef, ← eq_at2 (n := 128) (k := 1024) x4 i]
  rw [val_main_v12_apply, val_main_v11_apply, val_main_v10_apply, val_main_v9_apply, val_main_v8_apply, val_main_cst_0_apply, val_main_cst_1_apply]
  rfl

theorem secondRef (i : S128x1024.Idx) : val_main_v18 (F := Ideal) x0 x1 x2 x5 i
    = second (at2 (n := 128) (k := 1024) x5 (i 0).val (i 1).val) (grad x0 x1 x2 (i 0).val (i 1).val) := by
  rw [← gradRef, ← eq_at2 (n := 128) (k := 1024) x5 i]
  rw [val_main_v18_apply, val_main_v17_apply, val_main_v16_apply, val_main_v15_apply, val_main_v14_apply, val_main_v13_apply, val_main_cst_2_apply, val_main_cst_3_apply]
  rfl

theorem deltaRef (i : S128x1024.Idx) : val_main_v31 (F := Ideal) x0 x1 x2 x3 x4 x5 i
    = delta (at2 (n := 128) (k := 1024) x3 (i 0).val (i 1).val)
      (first (at2 (n := 128) (k := 1024) x4 (i 0).val (i 1).val) (grad x0 x1 x2 (i 0).val (i 1).val))
      (second (at2 (n := 128) (k := 1024) x5 (i 0).val (i 1).val) (grad x0 x1 x2 (i 0).val (i 1).val)) := by
  rw [← firstRef, ← secondRef, ← eq_at2 (n := 128) (k := 1024) x3 i]
  rw [val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_cst_4_apply, val_main_cst_5_apply, val_main_cst_6_apply, val_main_cst_7_apply, val_main_cst_8_apply]
  rfl

end Cert.AdamOutRefIdeal.Sum

namespace Cert.Proof

open Idealize.ShloMosaic Idealize.SL.Sem Step

/-- The call's four results are the reference's, over the extended reals. -/
theorem algebraic_AdamOut [Cert.AdamOutIdeal.Facts] [Cert.AdamOutRefIdeal.Facts] : algebraic_AdamOutIdeal_AdamOutRefIdeal := by
  intro m ρ m' ρ' _ hagree
  refine ⟨fun c => Cert.AdamOutIdeal.Sum.result6 m c, fun c => Cert.AdamOutIdeal.Sum.result7 m c, fun c => Cert.AdamOutIdeal.Sum.result8 m c,
    fun c => Cert.AdamOutIdeal.Sum.result9 m c,
    (θ_run Cert.AdamOutIdeal.defs _ _).mono
      (fun _ h c => ⟨((h c).1 6).trans (Cert.AdamOutIdeal.Sum.final6 m c), ((h c).1 7).trans (Cert.AdamOutIdeal.Sum.final7 m c),
        ((h c).1 8).trans (Cert.AdamOutIdeal.Sum.final8 m c), ((h c).1 9).trans (Cert.AdamOutIdeal.Sum.final9 m c), (h c).2⟩)
      (Cert.AdamOutIdeal.Sum.run_blocks m ρ), ?_⟩
  refine (θ_run Cert.AdamOutRefIdeal.defs _ _).mono (fun _ h c => ⟨?_, ?_, ?_, ?_, (h c).2.2.2.2⟩)
    (Cert.AdamOutRefIdeal.Value.run (F := Ideal) m' ρ')
  all_goals obtain ⟨a0, a1, a2, a3, a4, a5⟩ := hagree c
  · refine ((h c).1.trans (Cert.AdamOutRefIdeal.Read.val_main_v7_eq ..)).trans ?_
    rw [a0, a1, a2]
    funext i
    exact Cert.AdamOutRefIdeal.Sum.gradRef _ _ _ i
  · refine ((h c).2.1.trans (Cert.AdamOutRefIdeal.Read.val_main_v31_eq ..)).trans ?_
    rw [a0, a1, a2, a3, a4, a5]
    funext i
    exact Cert.AdamOutRefIdeal.Sum.deltaRef _ _ _ _ _ _ i
  · refine ((h c).2.2.1.trans (Cert.AdamOutRefIdeal.Read.val_main_v12_eq ..)).trans ?_
    rw [a0, a1, a2, a4]
    funext i
    exact Cert.AdamOutRefIdeal.Sum.firstRef _ _ _ _ i
  · refine ((h c).2.2.2.1.trans (Cert.AdamOutRefIdeal.Read.val_main_v18_eq ..)).trans ?_
    rw [a0, a1, a2, a5]
    funext i
    exact Cert.AdamOutRefIdeal.Sum.secondRef _ _ _ _ i

end Cert.Proof

end
-- ==== Proof.AdamGateUpValue.lean ====
/- The value of the call `AdamGateUp`: the optimiser's step on this device's shard of the gate and up weight.

   Blocks of 512 rows of the shard. The call is handed the positions of the device's sheets in a table of two numbers, both
   zero here; nothing is asked of the arguments. -/
module

public import proofs.«01_k».proof.Defs
public import proofs.«01_k».proof.Proof.Gen.AdamGateUp.Frame
public import proofs.«01_k».proof.Proof.Gen.AdamGateUpIdeal.Frame
public import proofs.«01_k».proof.Proof.Gen.AdamGateUpRefIdeal.Run
public import proofs.«01_k».proof.Proof.Gen.AdamGateUpRefIdeal.Read
public import Idealize.ShloMosaic.Lib.Pipeline.ValueKit.Geometry
public import proofs.«01_k».proof.Proof.Reading
public import proofs.«01_k».proof.Proof.Adam

@[expose] public section

set_option maxRecDepth 16384

noncomputable section

namespace Cert.AdamGateUp.Table

open Cert.AdamGateUp Cert.AdamGateUp.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamGateUp.Table

namespace Cert.AdamGateUpIdeal.Table

open Cert.AdamGateUpIdeal Cert.AdamGateUpIdeal.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamGateUpIdeal.Table

namespace Cert.AdamGateUpIdeal.Sum

open Cert.AdamGateUpIdeal Cert.AdamGateUpIdeal.Gen Cert.AdamGateUpIdeal.Table Idealize.ShloMosaic Idealize.ShloMosaic.TcCoe Idealize.ShloMosaic.Tactic Idealize.SL Idealize.SL.Sem Idealize.ShloMosaic.Rounds Idealize.ShloMosaic.Pipeline Step Step.Adam
  Idealize.ShloMosaic.ValueIdx

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

section
variable (c : Dev nD) (i : grid0.Coords) (arg2 : Memref sig .tc .vmem S1x512x704 .f32) (harg2 : arg2.IsWhole) (arg3 : Memref sig .tc .vmem S1x512x704 .f32) (harg3 : arg3.IsWhole) (arg4 : Memref sig .tc .vmem S3x512x704 .bf16) (harg4 : arg4.IsWhole) (arg5 : Memref sig .tc .vmem S512x704 .f32) (harg5 : arg5.IsWhole) (arg6 : Memref sig .tc .vmem S512x704 .f32) (harg6 : arg6.IsWhole) (arg7 : Memref sig .tc .vmem S512x704 .f32) (harg7 : arg7.IsWhole) (arg8 : Memref sig .tc .vmem S512x704 .f32) (harg8 : arg8.IsWhole) (arg9 : Memref sig .tc .vmem S512x704 .f32) (harg9 : arg9.IsWhole) (arg10 : Memref sig .tc .vmem S512x704 .f32) (harg10 : arg10.IsWhole) (arg11 : Memref sig .tc .vmem S512x704 .f32) (harg11 : arg11.IsWhole)
  (x0 : Vec Ideal S1x512x704 .f32) (x1 : Vec Ideal S1x512x704 .f32) (x2 : Vec Ideal S3x512x704 .bf16) (x3 x4 x5 : Vec Ideal S512x704 .f32) (xt0 : TbBuf0 (F := Ideal) c tbM0_0)

/-- What a point leaves of the gradient. -/
theorem out_6 : (out0_A_6 (F := Ideal) c i arg2 harg2 arg3 harg3 arg4 harg4 arg5 harg5 arg6 harg6 arg7 harg7 arg8 harg8 arg9 harg9 arg10 harg10 arg11 harg11 x0 x1 x2 x3 x4 x5 xt0 : S512x704.Idx → EReal)
    = k0_pay3 (F := Ideal) x0 x1 (View.ld x2 (Rect.unit (s := S3x512x704) ![0, 0, 0] S1x512x704.size inb_S3x512x704_S1x512x704_0_0_0)) (View.ld x2 (Rect.unit (s := S3x512x704) ![1, 0, 0] S1x512x704.size inb_S3x512x704_S1x512x704_1_0_0)) (View.ld x2 (Rect.unit (s := S3x512x704) ![2, 0, 0] S1x512x704.size inb_S3x512x704_S1x512x704_2_0_0)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x704) zero2, View.ld_unit_zero (S := S1x512x704) zero3]

/-- What a point leaves of the update. -/
theorem out_7 : (out0_A_7 (F := Ideal) c i arg2 harg2 arg3 harg3 arg4 harg4 arg5 harg5 arg6 harg6 arg7 harg7 arg8 harg8 arg9 harg9 arg10 harg10 arg11 harg11 x0 x1 x2 x3 x4 x5 xt0 : S512x704.Idx → EReal)
    = k0_pay2 (F := Ideal) x3 (k0_pay4 (F := Ideal) x0 x1 (View.ld x2 (Rect.unit (s := S3x512x704) ![0, 0, 0] S1x512x704.size inb_S3x512x704_S1x512x704_0_0_0)) (View.ld x2 (Rect.unit (s := S3x512x704) ![1, 0, 0] S1x512x704.size inb_S3x512x704_S1x512x704_1_0_0)) (View.ld x2 (Rect.unit (s := S3x512x704) ![2, 0, 0] S1x512x704.size inb_S3x512x704_S1x512x704_2_0_0)) x4) (k0_pay5 (F := Ideal) x5) (k0_pay6 (F := Ideal) x0 x1 (View.ld x2 (Rect.unit (s := S3x512x704) ![0, 0, 0] S1x512x704.size inb_S3x512x704_S1x512x704_0_0_0)) (View.ld x2 (Rect.unit (s := S3x512x704) ![1, 0, 0] S1x512x704.size inb_S3x512x704_S1x512x704_1_0_0)) (View.ld x2 (Rect.unit (s := S3x512x704) ![2, 0, 0] S1x512x704.size inb_S3x512x704_S1x512x704_2_0_0))) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x704) zero2, View.ld_unit_zero (S := S1x512x704) zero3]

/-- What a point leaves of the first moment. -/
theorem out_8 : (out0_A_8 (F := Ideal) c i arg2 harg2 arg3 harg3 arg4 harg4 arg5 harg5 arg6 harg6 arg7 harg7 arg8 harg8 arg9 harg9 arg10 harg10 arg11 harg11 x0 x1 x2 x3 x4 x5 xt0 : S512x704.Idx → EReal)
    = k0_pay4 (F := Ideal) x0 x1 (View.ld x2 (Rect.unit (s := S3x512x704) ![0, 0, 0] S1x512x704.size inb_S3x512x704_S1x512x704_0_0_0)) (View.ld x2 (Rect.unit (s := S3x512x704) ![1, 0, 0] S1x512x704.size inb_S3x512x704_S1x512x704_1_0_0)) (View.ld x2 (Rect.unit (s := S3x512x704) ![2, 0, 0] S1x512x704.size inb_S3x512x704_S1x512x704_2_0_0)) x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x704) zero2, View.ld_unit_zero (S := S1x512x704) zero3]

/-- What a point leaves of the second moment. -/
theorem out_9 : (out0_A_9 (F := Ideal) c i arg2 harg2 arg3 harg3 arg4 harg4 arg5 harg5 arg6 harg6 arg7 harg7 arg8 harg8 arg9 harg9 arg10 harg10 arg11 harg11 x0 x1 x2 x3 x4 x5 xt0 : S512x704.Idx → EReal)
    = k0_pay1 (F := Ideal) (k0_pay5 (F := Ideal) x5) (k0_pay6 (F := Ideal) x0 x1 (View.ld x2 (Rect.unit (s := S3x512x704) ![0, 0, 0] S1x512x704.size inb_S3x512x704_S1x512x704_0_0_0)) (View.ld x2 (Rect.unit (s := S3x512x704) ![1, 0, 0] S1x512x704.size inb_S3x512x704_S1x512x704_1_0_0)) (View.ld x2 (Rect.unit (s := S3x512x704) ![2, 0, 0] S1x512x704.size inb_S3x512x704_S1x512x704_2_0_0))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x704) zero2, View.ld_unit_zero (S := S1x512x704) zero3]

end

/-- The payloads, each read at an element of the block. -/
theorem pay3_apply (v0 v2 : Vec Ideal S1x512x704 .f32) (v5 v9 v13 : Vec Ideal S1x512x704 .bf16) (y : S512x704.Idx) :
    (k0_pay3 (F := Ideal) v0 v2 v5 v9 v13 : S512x704.Idx → EReal) y
      = (v0 : S1x512x704.Idx → EReal) (sheet y) + (v2 : S1x512x704.Idx → EReal) (sheet y) + (v5 : S1x512x704.Idx → EReal) (sheet y)
        + (v9 : S1x512x704.Idx → EReal) (sheet y) + (v13 : S1x512x704.Idx → EReal) (sheet y) := by
  unfold k0_pay3
  refine congrArg₂ (· + ·) (congrArg₂ (· + ·) (congrArg₂ (· + ·) (congrArg₂ (· + ·) ?_ ?_) ?_) ?_) ?_
  all_goals exact drop (a := 512) (b := 704) _ _ y

theorem pay4_apply (v0 v2 : Vec Ideal S1x512x704 .f32) (v5 v9 v13 : Vec Ideal S1x512x704 .bf16) (v19 : Vec Ideal S512x704 .f32) (y : S512x704.Idx) :
    (k0_pay4 (F := Ideal) v0 v2 v5 v9 v13 v19 : S512x704.Idx → EReal) y
      = first ((v19 : S512x704.Idx → EReal) y) ((k0_pay3 (F := Ideal) v0 v2 v5 v9 v13 : S512x704.Idx → EReal) y) := rfl

theorem pay1_apply (v0 v2 : Vec Ideal S1x512x704 .f32) (v5 v9 v13 : Vec Ideal S1x512x704 .bf16) (v20 : Vec Ideal S512x704 .f32) (y : S512x704.Idx) :
    (k0_pay1 (F := Ideal) (k0_pay5 (F := Ideal) v20) (k0_pay6 (F := Ideal) v0 v2 v5 v9 v13) : S512x704.Idx → EReal) y
      = second ((v20 : S512x704.Idx → EReal) y) ((k0_pay3 (F := Ideal) v0 v2 v5 v9 v13 : S512x704.Idx → EReal) y) := rfl

theorem pay2_apply (v18 : Vec Ideal S512x704 .f32) (v25 v27 v30 : FVec Ideal S512x704 .f32) (y : S512x704.Idx) :
    (k0_pay2 (F := Ideal) v18 v25 v27 v30 : S512x704.Idx → EReal) y
      = delta ((v18 : S512x704.Idx → EReal) y) ((v25 : S512x704.Idx → EReal) y) ((k0_pay1 (F := Ideal) v27 v30 : S512x704.Idx → EReal) y) := rfl

variable (m : (ℓ : Loc nD τ sig) → Buf (Elt Ideal) ℓ) (ρ : Dev nD → PrngReg)

/-- The call's arguments. -/
def g (c : Dev nD) : S8x1024x704.Idx → EReal := m ((c.tc : Thread nD τ).loc main_arg0)
def got (c : Dev nD) : S4x1024x704.Idx → EReal := m ((c.tc : Thread nD τ).loc main_arg1)
def pieces (c : Dev nD) : S3x1024x704.Idx → EReal := m ((c.tc : Thread nD τ).loc main_arg2)
def w (c : Dev nD) : S1024x704.Idx → EReal := m ((c.tc : Thread nD τ).loc main_arg3)
def m1 (c : Dev nD) : S1024x704.Idx → EReal := m ((c.tc : Thread nD τ).loc main_arg4)
def m2 (c : Dev nD) : S1024x704.Idx → EReal := m ((c.tc : Thread nD τ).loc main_arg5)

/-- The operands' blocks at a point. -/
def b0 (c : Dev nD) (t : Fin (cfgM m (ok m)).N) : Vec Ideal S1x512x704 .f32 := iblk m (ok m) c 0 t
def b1 (c : Dev nD) (t : Fin (cfgM m (ok m)).N) : Vec Ideal S1x512x704 .f32 := iblk m (ok m) c 1 t
def b2 (c : Dev nD) (t : Fin (cfgM m (ok m)).N) : Vec Ideal S3x512x704 .bf16 := iblk m (ok m) c 2 t
def b3 (c : Dev nD) (t : Fin (cfgM m (ok m)).N) : Vec Ideal S512x704 .f32 := iblk m (ok m) c 3 t
def b4 (c : Dev nD) (t : Fin (cfgM m (ok m)).N) : Vec Ideal S512x704 .f32 := iblk m (ok m) c 4 t
def b5 (c : Dev nD) (t : Fin (cfgM m (ok m)).N) : Vec Ideal S512x704 .f32 := iblk m (ok m) c 5 t

/-- The number of a point of the grid is the block of rows it works on. -/
theorem coord : ∀ t : Fin grid0.N, (BitVec.ofNat 32 (grid0.coords t 0).val).toNat = t.val := by decide +kernel

theorem index0 (t : Fin (cfgM m (ok m)).N) : ((cfgM m (ok m)).win 0).index t = ![0, t.val, 0] :=
  (at0 m (grid0.coords t)).trans (by rw [coord])
theorem index1 (t : Fin (cfgM m (ok m)).N) : ((cfgM m (ok m)).win 1).index t = ![0, t.val, 0] :=
  (at1 m (grid0.coords t)).trans (by rw [coord])
theorem index2 (t : Fin (cfgM m (ok m)).N) : ((cfgM m (ok m)).win 2).index t = ![0, t.val, 0] := by
  show ![_, (BitVec.ofNat 32 (grid0.coords t 0).val).toNat, _] = _
  rw [coord]; rfl
theorem index3 (t : Fin (cfgM m (ok m)).N) : ((cfgM m (ok m)).win 3).index t = ![t.val, 0] := by
  show ![(BitVec.ofNat 32 (grid0.coords t 0).val).toNat, _] = _
  rw [coord]; rfl
theorem index4 (t : Fin (cfgM m (ok m)).N) : ((cfgM m (ok m)).win 4).index t = ![t.val, 0] := by
  show ![(BitVec.ofNat 32 (grid0.coords t 0).val).toNat, _] = _
  rw [coord]; rfl
theorem index5 (t : Fin (cfgM m (ok m)).N) : ((cfgM m (ok m)).win 5).index t = ![t.val, 0] := by
  show ![(BitVec.ofNat 32 (grid0.coords t 0).val).toNat, _] = _
  rw [coord]; rfl
theorem index6 (t : Fin (cfgM m (ok m)).N) : ((cfgM m (ok m)).win 6).index t = ![t.val, 0] := by
  show ![(BitVec.ofNat 32 (grid0.coords t 0).val).toNat, _] = _
  rw [coord]; rfl
theorem index7 (t : Fin (cfgM m (ok m)).N) : ((cfgM m (ok m)).win 7).index t = ![t.val, 0] := by
  show ![(BitVec.ofNat 32 (grid0.coords t 0).val).toNat, _] = _
  rw [coord]; rfl
theorem index8 (t : Fin (cfgM m (ok m)).N) : ((cfgM m (ok m)).win 8).index t = ![t.val, 0] := by
  show ![(BitVec.ofNat 32 (grid0.coords t 0).val).toNat, _] = _
  rw [coord]; rfl
theorem index9 (t : Fin (cfgM m (ok m)).N) : ((cfgM m (ok m)).win 9).index t = ![t.val, 0] := by
  show ![(BitVec.ofNat 32 (grid0.coords t 0).val).toNat, _] = _
  rw [coord]; rfl

/-- Each of them read at an element. -/
theorem block0 (c : Dev nD) (t : Fin (cfgM m (ok m)).N) (y : S512x704.Idx) :
    (b0 m c t : S1x512x704.Idx → EReal) (sheet y) = at3 (n := 8) (k := 1024) (l := 704) (g m c) 0 (512 * t.val + (y 0).val) (y 1).val := by
  refine (congrFun (V_main_arg0 m c) _).trans (read3 (n := 8) (k := 1024) (l := 704) (g m c) _ ?_ ?_ ?_)
  · show ((cfgM m (ok m)).win 0).index t (0 : Fin 3) * 1 + 1 * 0 = _; rw [index0]; rfl
  · show ((cfgM m (ok m)).win 0).index t (1 : Fin 3) * 512 + 1 * (y 0).val = _; rw [index0]; show t.val * _ + _ = _; omega
  · show ((cfgM m (ok m)).win 0).index t (2 : Fin 3) * 704 + 1 * (y 1).val = _; rw [index0]; show 0 * _ + _ = _; omega
theorem block1 (c : Dev nD) (t : Fin (cfgM m (ok m)).N) (y : S512x704.Idx) :
    (b1 m c t : S1x512x704.Idx → EReal) (sheet y) = at3 (n := 4) (k := 1024) (l := 704) (got m c) 0 (512 * t.val + (y 0).val) (y 1).val := by
  refine (congrFun (V_main_arg1 m c) _).trans (read3 (n := 4) (k := 1024) (l := 704) (got m c) _ ?_ ?_ ?_)
  · show ((cfgM m (ok m)).win 1).index t (0 : Fin 3) * 1 + 1 * 0 = _; rw [index1]; rfl
  · show ((cfgM m (ok m)).win 1).index t (1 : Fin 3) * 512 + 1 * (y 0).val = _; rw [index1]; show t.val * _ + _ = _; omega
  · show ((cfgM m (ok m)).win 1).index t (2 : Fin 3) * 704 + 1 * (y 1).val = _; rw [index1]; show 0 * _ + _ = _; omega
theorem piece0 (c : Dev nD) (t : Fin (cfgM m (ok m)).N) (y : S512x704.Idx) :
    (View.ld (b2 m c t) (Rect.unit (s := S3x512x704) ![0, 0, 0] S1x512x704.size inb_S3x512x704_S1x512x704_0_0_0) : S1x512x704.Idx → EReal) (sheet y)
      = at3 (n := 3) (k := 1024) (l := 704) (pieces m c) 0 (512 * t.val + (y 0).val) (y 1).val := by
  refine (congrFun (V_main_arg2 m c) _).trans (read3 (n := 3) (k := 1024) (l := 704) (pieces m c) _ ?_ ?_ ?_)
  · show ((cfgM m (ok m)).win 2).index t (0 : Fin 3) * 3 + 1 * (0 + 1 * 0) = _; rw [index2]; rfl
  · show ((cfgM m (ok m)).win 2).index t (1 : Fin 3) * 512 + 1 * (0 + 1 * (y 0).val) = _; rw [index2]; show t.val * _ + _ = _; omega
  · show ((cfgM m (ok m)).win 2).index t (2 : Fin 3) * 704 + 1 * (0 + 1 * (y 1).val) = _; rw [index2]; show 0 * _ + _ = _; omega
theorem piece1 (c : Dev nD) (t : Fin (cfgM m (ok m)).N) (y : S512x704.Idx) :
    (View.ld (b2 m c t) (Rect.unit (s := S3x512x704) ![1, 0, 0] S1x512x704.size inb_S3x512x704_S1x512x704_1_0_0) : S1x512x704.Idx → EReal) (sheet y)
      = at3 (n := 3) (k := 1024) (l := 704) (pieces m c) 1 (512 * t.val + (y 0).val) (y 1).val := by
  refine (congrFun (V_main_arg2 m c) _).trans (read3 (n := 3) (k := 1024) (l := 704) (pieces m c) _ ?_ ?_ ?_)
  · show ((cfgM m (ok m)).win 2).index t (0 : Fin 3) * 3 + 1 * (1 + 1 * 0) = _; rw [index2]; rfl
  · show ((cfgM m (ok m)).win 2).index t (1 : Fin 3) * 512 + 1 * (0 + 1 * (y 0).val) = _; rw [index2]; show t.val * _ + _ = _; omega
  · show ((cfgM m (ok m)).win 2).index t (2 : Fin 3) * 704 + 1 * (0 + 1 * (y 1).val) = _; rw [index2]; show 0 * _ + _ = _; omega
theorem piece2 (c : Dev nD) (t : Fin (cfgM m (ok m)).N) (y : S512x704.Idx) :
    (View.ld (b2 m c t) (Rect.unit (s := S3x512x704) ![2, 0, 0] S1x512x704.size inb_S3x512x704_S1x512x704_2_0_0) : S1x512x704.Idx → EReal) (sheet y)
      = at3 (n := 3) (k := 1024) (l := 704) (pieces m c) 2 (512 * t.val + (y 0).val) (y 1).val := by
  refine (congrFun (V_main_arg2 m c) _).trans (read3 (n := 3) (k := 1024) (l := 704) (pieces m c) _ ?_ ?_ ?_)
  · show ((cfgM m (ok m)).win 2).index t (0 : Fin 3) * 3 + 1 * (2 + 1 * 0) = _; rw [index2]; rfl
  · show ((cfgM m (ok m)).win 2).index t (1 : Fin 3) * 512 + 1 * (0 + 1 * (y 0).val) = _; rw [index2]; show t.val * _ + _ = _; omega
  · show ((cfgM m (ok m)).win 2).index t (2 : Fin 3) * 704 + 1 * (0 + 1 * (y 1).val) = _; rw [index2]; show 0 * _ + _ = _; omega

theorem block3 (c : Dev nD) (t : Fin (cfgM m (ok m)).N) (y : S512x704.Idx) :
    (b3 m c t : S512x704.Idx → EReal) y = at2 (n := 1024) (k := 704) (w m c) (512 * t.val + (y 0).val) (y 1).val := by
  refine (congrFun (V_main_arg3 m c) _).trans (read2 (n := 1024) (k := 704) (w m c) _ ?_ ?_)
  · show ((cfgM m (ok m)).win 3).index t (0 : Fin 2) * 512 + 1 * (y 0).val = _; rw [index3]; show t.val * _ + _ = _; omega
  · show ((cfgM m (ok m)).win 3).index t (1 : Fin 2) * 704 + 1 * (y 1).val = _; rw [index3]; show 0 * _ + _ = _; omega
theorem block4 (c : Dev nD) (t : Fin (cfgM m (ok m)).N) (y : S512x704.Idx) :
    (b4 m c t : S512x704.Idx → EReal) y = at2 (n := 1024) (k := 704) (m1 m c) (512 * t.val + (y 0).val) (y 1).val := by
  refine (congrFun (V_main_arg4 m c) _).trans (read2 (n := 1024) (k := 704) (m1 m c) _ ?_ ?_)
  · show ((cfgM m (ok m)).win 4).index t (0 : Fin 2) * 512 + 1 * (y 0).val = _; rw [index4]; show t.val * _ + _ = _; omega
  · show ((cfgM m (ok m)).win 4).index t (1 : Fin 2) * 704 + 1 * (y 1).val = _; rw [index4]; show 0 * _ + _ = _; omega
theorem block5 (c : Dev nD) (t : Fin (cfgM m (ok m)).N) (y : S512x704.Idx) :
    (b5 m c t : S512x704.Idx → EReal) y = at2 (n := 1024) (k := 704) (m2 m c) (512 * t.val + (y 0).val) (y 1).val := by
  refine (congrFun (V_main_arg5 m c) _).trans (read2 (n := 1024) (k := 704) (m2 m c) _ ?_ ?_)
  · show ((cfgM m (ok m)).win 5).index t (0 : Fin 2) * 512 + 1 * (y 0).val = _; rw [index5]; show t.val * _ + _ = _; omega
  · show ((cfgM m (ok m)).win 5).index t (1 : Fin 2) * 704 + 1 * (y 1).val = _; rw [index5]; show 0 * _ + _ = _; omega

/-- The gradient's block. -/
theorem gradBlock (c : Dev nD) (t : Fin (cfgM m (ok m)).N) (y : S512x704.Idx) :
    (k0_pay3 (F := Ideal) (b0 m c t) (b1 m c t) (View.ld (b2 m c t) (Rect.unit (s := S3x512x704) ![0, 0, 0] S1x512x704.size inb_S3x512x704_S1x512x704_0_0_0)) (View.ld (b2 m c t) (Rect.unit (s := S3x512x704) ![1, 0, 0] S1x512x704.size inb_S3x512x704_S1x512x704_1_0_0)) (View.ld (b2 m c t) (Rect.unit (s := S3x512x704) ![2, 0, 0] S1x512x704.size inb_S3x512x704_S1x512x704_2_0_0)) : S512x704.Idx → EReal) y
      = grad (g m c) (got m c) (pieces m c) (512 * t.val + (y 0).val) (y 1).val := by
  refine (pay3_apply _ _ _ _ _ y).trans ?_
  rw [block0, block1]
  refine Eq.trans (congrArg₂ (· + ·) (congrArg₂ (· + ·) (congrArg₂ (· + ·) rfl ?_) ?_) ?_) (grad_eq (g m c) (got m c) (pieces m c) _ _)
  · exact piece0 m c t y
  · exact piece1 m c t y
  · exact piece2 m c t y

/-- The call's four results, each one array. -/
def result6 (c : Dev nD) : S1024x704.Idx → EReal := fun i => grad (g m c) (got m c) (pieces m c) (i 0).val (i 1).val
def result8 (c : Dev nD) : S1024x704.Idx → EReal := fun i => first (at2 (n := 1024) (k := 704) (m1 m c) (i 0).val (i 1).val) (grad (g m c) (got m c) (pieces m c) (i 0).val (i 1).val)
def result9 (c : Dev nD) : S1024x704.Idx → EReal := fun i => second (at2 (n := 1024) (k := 704) (m2 m c) (i 0).val (i 1).val) (grad (g m c) (got m c) (pieces m c) (i 0).val (i 1).val)
def result7 (c : Dev nD) : S1024x704.Idx → EReal := fun i => delta (at2 (n := 1024) (k := 704) (w m c) (i 0).val (i 1).val)
  (first (at2 (n := 1024) (k := 704) (m1 m c) (i 0).val (i 1).val) (grad (g m c) (got m c) (pieces m c) (i 0).val (i 1).val))
  (second (at2 (n := 1024) (k := 704) (m2 m c) (i 0).val (i 1).val) (grad (g m c) (got m c) (pieces m c) (i 0).val (i 1).val))

/-- What a point leaves, at an element of the block. -/
theorem staged6 (c : Dev nD) (t : Fin (cfgM m (ok m)).N) (y : S512x704.Idx) : ((outsAt0 m (ok m) c t).1 : S512x704.Idx → EReal) y
    = grad (g m c) (got m c) (pieces m c) (512 * t.val + (y 0).val) (y 1).val := by
  unfold outsAt0
  dsimp only
  exact (congrFun (out_6 _ _ _ _ _ _ _ _ _ _ _ _ _ _ _ _ _ _ _ _ _ _ _ _ _ _ _ _ _) y).trans (gradBlock m c t y)
theorem staged8 (c : Dev nD) (t : Fin (cfgM m (ok m)).N) (y : S512x704.Idx) : ((outsAt0 m (ok m) c t).2.2.1 : S512x704.Idx → EReal) y
    = first (at2 (n := 1024) (k := 704) (m1 m c) (512 * t.val + (y 0).val) (y 1).val)
      (grad (g m c) (got m c) (pieces m c) (512 * t.val + (y 0).val) (y 1).val) := by
  unfold outsAt0
  dsimp only
  exact (congrFun (out_8 _ _ _ _ _ _ _ _ _ _ _ _ _ _ _ _ _ _ _ _ _ _ _ _ _ _ _ _ _) y).trans ((pay4_apply (b0 m c t) (b1 m c t) _ _ _ (b4 m c t) y).trans
    (congrArg₂ first (block4 m c t y) (gradBlock m c t y)))
theorem staged9 (c : Dev nD) (t : Fin (cfgM m (ok m)).N) (y : S512x704.Idx) : ((outsAt0 m (ok m) c t).2.2.2 : S512x704.Idx → EReal) y
    = second (at2 (n := 1024) (k := 704) (m2 m c) (512 * t.val + (y 0).val) (y 1).val)
      (grad (g m c) (got m c) (pieces m c) (512 * t.val + (y 0).val) (y 1).val) := by
  unfold outsAt0
  dsimp only
  exact (congrFun (out_9 _ _ _ _ _ _ _ _ _ _ _ _ _ _ _ _ _ _ _ _ _ _ _ _ _ _ _ _ _) y).trans ((pay1_apply (b0 m c t) (b1 m c t) _ _ _ (b5 m c t) y).trans
    (congrArg₂ second (block5 m c t y) (gradBlock m c t y)))
theorem staged7 (c : Dev nD) (t : Fin (cfgM m (ok m)).N) (y : S512x704.Idx) : ((outsAt0 m (ok m) c t).2.1 : S512x704.Idx → EReal) y
    = delta (at2 (n := 1024) (k := 704) (w m c) (512 * t.val + (y 0).val) (y 1).val)
      (first (at2 (n := 1024) (k := 704) (m1 m c) (512 * t.val + (y 0).val) (y 1).val)
        (grad (g m c) (got m c) (pieces m c) (512 * t.val + (y 0).val) (y 1).val))
      (second (at2 (n := 1024) (k := 704) (m2 m c) (512 * t.val + (y 0).val) (y 1).val)
        (grad (g m c) (got m c) (pieces m c) (512 * t.val + (y 0).val) (y 1).val)) := by
  unfold outsAt0
  dsimp only
  refine (congrFun (out_7 _ _ _ _ _ _ _ _ _ _ _ _ _ _ _ _ _ _ _ _ _ _ _ _ _ _ _ _ _) y).trans ((pay2_apply (b3 m c t) _ _ _ y).trans ?_)
  refine congr (congrArg₂ delta (block3 m c t y) ((pay4_apply (b0 m c t) (b1 m c t) _ _ _ (b4 m c t) y).trans
    (congrArg₂ first (block4 m c t y) (gradBlock m c t y)))) ?_
  exact (pay1_apply (b0 m c t) (b1 m c t) _ _ _ (b5 m c t) y).trans (congrArg₂ second (block5 m c t y) (gradBlock m c t y))

/-- The gradient's array after the run. -/
theorem covers6 : ((cfgM m (ok m)).win 6).Covers :=
  ⟨(by decide : ∀ a : Fin 2, 0 < S512x704.size a), fun β => ⟨(⟨(β (0 : Fin 2)).val, lt_of_lt_of_eq (β (0 : Fin 2)).isLt
    (show (1024 + 512 - 1) / 512 = grid0.N by decide)⟩ : Fin grid0.N), flush0_6 _ _, fun a => ⟨by
    rw [index6]
    match a with
    | ⟨0, _⟩ => rfl
    | ⟨1, _⟩ => exact (Nat.lt_one_iff.mp (lt_of_lt_of_eq (β (1 : Fin 2)).isLt (show (704 + 704 - 1) / 704 = 1 by decide))).symm, .inl rfl⟩⟩⟩
theorem flushed6 (c : Dev nD) (t : Fin (cfgM m (ok m)).N) :
    (dats m (ok m) 0 c).flushed 6 t = ((cfgM m (ok m)).win 6).cut (grid0.coords t) (outsAt0 m (ok m) c t).1 := by
  show ((cfgM m (ok m)).win 6).cut (grid0.coords t) ((dats m (ok m) 0 c).after 6 t) = _
  rw [after0_6]
theorem written6 (c : Dev nD) (t : Fin (cfgM m (ok m)).N) :
    (dats m (ok m) 0 c).flushed 6 t = (((cfgM m (ok m)).win 6).blk t).view.read (Elt Ideal) (result6 m c) := by
  rw [flushed6]
  funext y
  refine (staged6 m c t y).trans ?_
  have e0 : ((cfgM m (ok m)).win 6).index t (0 : Fin 2) * 512 + 1 * (y (0 : Fin 2)).val = 512 * t.val + (y (0 : Fin 2)).val := by
    rw [index6, Nat.one_mul]; exact congrArg (· + _) (Nat.mul_comm t.val 512)
  have e1 : ((cfgM m (ok m)).win 6).index t (1 : Fin 2) * 704 + 1 * (y (1 : Fin 2)).val = (y (1 : Fin 2)).val := by
    rw [index6, Nat.one_mul]; exact (congrArg (· + _) (Nat.zero_mul 704)).trans (Nat.zero_add _)
  rw [← e0]
  conv_lhs => rw [← e1]
  rfl
theorem final6 (c : Dev nD) : (dats m (ok m) 0 c).arrAt 6 (cfgM m (ok m)).N = result6 m c :=
  (dats m (ok m) 0 c).arrAt_eq_of_cover 6 (result6 m c) (fun t _ => written6 m c t)
    (Pipeline.Window.Covers.cover _ (covers6 m) (Memref.isWhole_whole _))

/-- The update's array after the run. -/
theorem covers7 : ((cfgM m (ok m)).win 7).Covers :=
  ⟨(by decide : ∀ a : Fin 2, 0 < S512x704.size a), fun β => ⟨(⟨(β (0 : Fin 2)).val, lt_of_lt_of_eq (β (0 : Fin 2)).isLt
    (show (1024 + 512 - 1) / 512 = grid0.N by decide)⟩ : Fin grid0.N), flush0_7 _ _, fun a => ⟨by
    rw [index7]
    match a with
    | ⟨0, _⟩ => rfl
    | ⟨1, _⟩ => exact (Nat.lt_one_iff.mp (lt_of_lt_of_eq (β (1 : Fin 2)).isLt (show (704 + 704 - 1) / 704 = 1 by decide))).symm, .inl rfl⟩⟩⟩
theorem flushed7 (c : Dev nD) (t : Fin (cfgM m (ok m)).N) :
    (dats m (ok m) 0 c).flushed 7 t = ((cfgM m (ok m)).win 7).cut (grid0.coords t) (outsAt0 m (ok m) c t).2.1 := by
  show ((cfgM m (ok m)).win 7).cut (grid0.coords t) ((dats m (ok m) 0 c).after 7 t) = _
  rw [after0_7]
theorem written7 (c : Dev nD) (t : Fin (cfgM m (ok m)).N) :
    (dats m (ok m) 0 c).flushed 7 t = (((cfgM m (ok m)).win 7).blk t).view.read (Elt Ideal) (result7 m c) := by
  rw [flushed7]
  funext y
  refine (staged7 m c t y).trans ?_
  have e0 : ((cfgM m (ok m)).win 7).index t (0 : Fin 2) * 512 + 1 * (y (0 : Fin 2)).val = 512 * t.val + (y (0 : Fin 2)).val := by
    rw [index7, Nat.one_mul]; exact congrArg (· + _) (Nat.mul_comm t.val 512)
  have e1 : ((cfgM m (ok m)).win 7).index t (1 : Fin 2) * 704 + 1 * (y (1 : Fin 2)).val = (y (1 : Fin 2)).val := by
    rw [index7, Nat.one_mul]; exact (congrArg (· + _) (Nat.zero_mul 704)).trans (Nat.zero_add _)
  rw [← e0]
  conv_lhs => rw [← e1]
  rfl
theorem final7 (c : Dev nD) : (dats m (ok m) 0 c).arrAt 7 (cfgM m (ok m)).N = result7 m c :=
  (dats m (ok m) 0 c).arrAt_eq_of_cover 7 (result7 m c) (fun t _ => written7 m c t)
    (Pipeline.Window.Covers.cover _ (covers7 m) (Memref.isWhole_whole _))

/-- The first moment's array after the run. -/
theorem covers8 : ((cfgM m (ok m)).win 8).Covers :=
  ⟨(by decide : ∀ a : Fin 2, 0 < S512x704.size a), fun β => ⟨(⟨(β (0 : Fin 2)).val, lt_of_lt_of_eq (β (0 : Fin 2)).isLt
    (show (1024 + 512 - 1) / 512 = grid0.N by decide)⟩ : Fin grid0.N), flush0_8 _ _, fun a => ⟨by
    rw [index8]
    match a with
    | ⟨0, _⟩ => rfl
    | ⟨1, _⟩ => exact (Nat.lt_one_iff.mp (lt_of_lt_of_eq (β (1 : Fin 2)).isLt (show (704 + 704 - 1) / 704 = 1 by decide))).symm, .inl rfl⟩⟩⟩
theorem flushed8 (c : Dev nD) (t : Fin (cfgM m (ok m)).N) :
    (dats m (ok m) 0 c).flushed 8 t = ((cfgM m (ok m)).win 8).cut (grid0.coords t) (outsAt0 m (ok m) c t).2.2.1 := by
  show ((cfgM m (ok m)).win 8).cut (grid0.coords t) ((dats m (ok m) 0 c).after 8 t) = _
  rw [after0_8]
theorem written8 (c : Dev nD) (t : Fin (cfgM m (ok m)).N) :
    (dats m (ok m) 0 c).flushed 8 t = (((cfgM m (ok m)).win 8).blk t).view.read (Elt Ideal) (result8 m c) := by
  rw [flushed8]
  funext y
  refine (staged8 m c t y).trans ?_
  have e0 : ((cfgM m (ok m)).win 8).index t (0 : Fin 2) * 512 + 1 * (y (0 : Fin 2)).val = 512 * t.val + (y (0 : Fin 2)).val := by
    rw [index8, Nat.one_mul]; exact congrArg (· + _) (Nat.mul_comm t.val 512)
  have e1 : ((cfgM m (ok m)).win 8).index t (1 : Fin 2) * 704 + 1 * (y (1 : Fin 2)).val = (y (1 : Fin 2)).val := by
    rw [index8, Nat.one_mul]; exact (congrArg (· + _) (Nat.zero_mul 704)).trans (Nat.zero_add _)
  rw [← e0]
  conv_lhs => rw [← e1]
  rfl
theorem final8 (c : Dev nD) : (dats m (ok m) 0 c).arrAt 8 (cfgM m (ok m)).N = result8 m c :=
  (dats m (ok m) 0 c).arrAt_eq_of_cover 8 (result8 m c) (fun t _ => written8 m c t)
    (Pipeline.Window.Covers.cover _ (covers8 m) (Memref.isWhole_whole _))

/-- The second moment's array after the run. -/
theorem covers9 : ((cfgM m (ok m)).win 9).Covers :=
  ⟨(by decide : ∀ a : Fin 2, 0 < S512x704.size a), fun β => ⟨(⟨(β (0 : Fin 2)).val, lt_of_lt_of_eq (β (0 : Fin 2)).isLt
    (show (1024 + 512 - 1) / 512 = grid0.N by decide)⟩ : Fin grid0.N), flush0_9 _ _, fun a => ⟨by
    rw [index9]
    match a with
    | ⟨0, _⟩ => rfl
    | ⟨1, _⟩ => exact (Nat.lt_one_iff.mp (lt_of_lt_of_eq (β (1 : Fin 2)).isLt (show (704 + 704 - 1) / 704 = 1 by decide))).symm, .inl rfl⟩⟩⟩
theorem flushed9 (c : Dev nD) (t : Fin (cfgM m (ok m)).N) :
    (dats m (ok m) 0 c).flushed 9 t = ((cfgM m (ok m)).win 9).cut (grid0.coords t) (outsAt0 m (ok m) c t).2.2.2 := by
  show ((cfgM m (ok m)).win 9).cut (grid0.coords t) ((dats m (ok m) 0 c).after 9 t) = _
  rw [after0_9]
theorem written9 (c : Dev nD) (t : Fin (cfgM m (ok m)).N) :
    (dats m (ok m) 0 c).flushed 9 t = (((cfgM m (ok m)).win 9).blk t).view.read (Elt Ideal) (result9 m c) := by
  rw [flushed9]
  funext y
  refine (staged9 m c t y).trans ?_
  have e0 : ((cfgM m (ok m)).win 9).index t (0 : Fin 2) * 512 + 1 * (y (0 : Fin 2)).val = 512 * t.val + (y (0 : Fin 2)).val := by
    rw [index9, Nat.one_mul]; exact congrArg (· + _) (Nat.mul_comm t.val 512)
  have e1 : ((cfgM m (ok m)).win 9).index t (1 : Fin 2) * 704 + 1 * (y (1 : Fin 2)).val = (y (1 : Fin 2)).val := by
    rw [index9, Nat.one_mul]; exact (congrArg (· + _) (Nat.zero_mul 704)).trans (Nat.zero_add _)
  rw [← e0]
  conv_lhs => rw [← e1]
  rfl
theorem final9 (c : Dev nD) : (dats m (ok m) 0 c).arrAt 9 (cfgM m (ok m)).N = result9 m c :=
  (dats m (ok m) 0 c).arrAt_eq_of_cover 9 (result9 m c) (fun t _ => written9 m c t)
    (Pipeline.Window.Covers.cover _ (covers9 m) (Memref.isWhole_whole _))

/-- The results and the arguments after the run. -/
theorem run_blocks : θ_run defs (onTc (τ := τ) (main (F := Ideal))) ⟨m, fun _ => 0, ρ⟩ (fun r => ∀ c : Dev nD,
      (∀ k : Fin 10, r.2.mem ((c.tc : Thread nD τ).loc (Pipeline.arrRef spec0 k)) = (dats m (ok m) 0 c).arrAt k (cfgM m (ok m)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun k => (h.1.1 c).1 k, h.2 c⟩)
    (θ_run_and (run_main_quiescent m ρ (ok m)) (unchanged m ρ (ok m)))

end Cert.AdamGateUpIdeal.Sum

namespace Cert.AdamGateUpRefIdeal.Sum

open Cert.AdamGateUpRefIdeal Cert.AdamGateUpRefIdeal.Read Idealize.ShloMosaic Idealize.ShloMosaic.ValueIdx Step Step.Adam

variable (x0 : S8x1024x704.Idx → EReal) (x1 : S4x1024x704.Idx → EReal) (x2 : S3x1024x704.Idx → EReal) (x3 x4 x5 : S1024x704.Idx → EReal)

/-- The reference's four results, each read at an index. -/
theorem gradRef (i : S1024x704.Idx) : val_main_v7 (F := Ideal) x0 x1 x2 i = grad x0 x1 x2 (i 0).val (i 1).val := by
  have h0 : (i 0).val < 1024 := (i 0).isLt
  have h1 : (i 1).val < 704 := (i 1).isLt
  rw [val_main_v7_apply, val_main_v4_apply, val_main_v1_apply, val_main_v0_apply, val_main_v3_apply, val_main_v2_apply, val_main_v6_apply,
    val_main_cst_apply]
  refine congrArg₂ (· + ·) (congrArg₂ (· + ·) (read3 (n := 8) (k := 1024) (l := 704) x0 _ ?_ ?_ ?_) (read3 (n := 4) (k := 1024) (l := 704) x1 _ ?_ ?_ ?_)) ?_
  · rfl
  · show ((i 0).val * 704 + (i 1).val) / 704 % 1024 = _; omega
  · show ((i 0).val * 704 + (i 1).val) % 704 = _; omega
  · rfl
  · show ((i 0).val * 704 + (i 1).val) / 704 % 1024 = _; omega
  · show ((i 0).val * 704 + (i 1).val) % 704 = _; omega
  · show Ideal.ofBits .f32 0x00000000#32 + _ = _
    rw [Ideal.ofBits_zero_f32, zero_add]
    refine Finset.sum_congr rfl fun s _ => ?_
    rw [val_main_v5_apply]
    exact read3 (n := 3) (k := 1024) (l := 704) x2 _ rfl rfl rfl

theorem firstRef (i : S1024x704.Idx) : val_main_v12 (F := Ideal) x0 x1 x2 x4 i
    = first (at2 (n := 1024) (k := 704) x4 (i 0).val (i 1).val) (grad x0 x1 x2 (i 0).val (i 1).val) := by
  rw [← gradRef, ← eq_at2 (n := 1024) (k := 704) x4 i]
  rw [val_main_v12_apply, val_main_v11_apply, val_main_v10_apply, val_main_v9_apply, val_main_v8_apply, val_main_cst_0_apply, val_main_cst_1_apply]
  rfl

theorem secondRef (i : S1024x704.Idx) : val_main_v18 (F := Ideal) x0 x1 x2 x5 i
    = second (at2 (n := 1024) (k := 704) x5 (i 0).val (i 1).val) (grad x0 x1 x2 (i 0).val (i 1).val) := by
  rw [← gradRef, ← eq_at2 (n := 1024) (k := 704) x5 i]
  rw [val_main_v18_apply, val_main_v17_apply, val_main_v16_apply, val_main_v15_apply, val_main_v14_apply, val_main_v13_apply, val_main_cst_2_apply, val_main_cst_3_apply]
  rfl

theorem deltaRef (i : S1024x704.Idx) : val_main_v31 (F := Ideal) x0 x1 x2 x3 x4 x5 i
    = delta (at2 (n := 1024) (k := 704) x3 (i 0).val (i 1).val)
      (first (at2 (n := 1024) (k := 704) x4 (i 0).val (i 1).val) (grad x0 x1 x2 (i 0).val (i 1).val))
      (second (at2 (n := 1024) (k := 704) x5 (i 0).val (i 1).val) (grad x0 x1 x2 (i 0).val (i 1).val)) := by
  rw [← firstRef, ← secondRef, ← eq_at2 (n := 1024) (k := 704) x3 i]
  rw [val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_cst_4_apply, val_main_cst_5_apply, val_main_cst_6_apply, val_main_cst_7_apply, val_main_cst_8_apply]
  rfl

end Cert.AdamGateUpRefIdeal.Sum

namespace Cert.Proof

open Idealize.ShloMosaic Idealize.SL.Sem Step

/-- The call's four results are the reference's, over the extended reals. -/
theorem algebraic_AdamGateUp [Cert.AdamGateUpIdeal.Facts] [Cert.AdamGateUpRefIdeal.Facts] : algebraic_AdamGateUpIdeal_AdamGateUpRefIdeal := by
  intro m ρ m' ρ' _ hagree
  refine ⟨fun c => Cert.AdamGateUpIdeal.Sum.result6 m c, fun c => Cert.AdamGateUpIdeal.Sum.result7 m c, fun c => Cert.AdamGateUpIdeal.Sum.result8 m c,
    fun c => Cert.AdamGateUpIdeal.Sum.result9 m c,
    (θ_run Cert.AdamGateUpIdeal.defs _ _).mono
      (fun _ h c => ⟨((h c).1 6).trans (Cert.AdamGateUpIdeal.Sum.final6 m c), ((h c).1 7).trans (Cert.AdamGateUpIdeal.Sum.final7 m c),
        ((h c).1 8).trans (Cert.AdamGateUpIdeal.Sum.final8 m c), ((h c).1 9).trans (Cert.AdamGateUpIdeal.Sum.final9 m c), (h c).2⟩)
      (Cert.AdamGateUpIdeal.Sum.run_blocks m ρ), ?_⟩
  refine (θ_run Cert.AdamGateUpRefIdeal.defs _ _).mono (fun _ h c => ⟨?_, ?_, ?_, ?_, (h c).2.2.2.2⟩)
    (Cert.AdamGateUpRefIdeal.Value.run (F := Ideal) m' ρ')
  all_goals obtain ⟨a0, a1, a2, a3, a4, a5⟩ := hagree c
  · refine ((h c).1.trans (Cert.AdamGateUpRefIdeal.Read.val_main_v7_eq ..)).trans ?_
    rw [a0, a1, a2]
    funext i
    exact Cert.AdamGateUpRefIdeal.Sum.gradRef _ _ _ i
  · refine ((h c).2.1.trans (Cert.AdamGateUpRefIdeal.Read.val_main_v31_eq ..)).trans ?_
    rw [a0, a1, a2, a3, a4, a5]
    funext i
    exact Cert.AdamGateUpRefIdeal.Sum.deltaRef _ _ _ _ _ _ i
  · refine ((h c).2.2.1.trans (Cert.AdamGateUpRefIdeal.Read.val_main_v12_eq ..)).trans ?_
    rw [a0, a1, a2, a4]
    funext i
    exact Cert.AdamGateUpRefIdeal.Sum.firstRef _ _ _ _ i
  · refine ((h c).2.2.2.1.trans (Cert.AdamGateUpRefIdeal.Read.val_main_v18_eq ..)).trans ?_
    rw [a0, a1, a2, a5]
    funext i
    exact Cert.AdamGateUpRefIdeal.Sum.secondRef _ _ _ _ i

end Cert.Proof

end
-- ==== Proof.AdamDownValue.lean ====
/- The value of the call `AdamDown`: the optimiser's step on this device's shard of the down weight.

   Blocks of 352 rows of the shard. The call is handed the positions of the device's sheets in a table of two numbers, both
   zero here; nothing is asked of the arguments. -/
module

public import proofs.«01_k».proof.Defs
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.AdamDownRefIdeal.Read
public import Idealize.ShloMosaic.Lib.Pipeline.ValueKit.Geometry
public import proofs.«01_k».proof.Proof.Reading
public import proofs.«01_k».proof.Proof.Adam

@[expose] public section

set_option maxRecDepth 16384

noncomputable section

namespace Cert.AdamDown.Table

open Cert.AdamDown Cert.AdamDown.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamDown.Table

namespace Cert.AdamDownIdeal.Table

open Cert.AdamDownIdeal Cert.AdamDownIdeal.Gen Idealize.ShloMosaic Idealize.ShloMosaic.TcCoe Idealize.ShloMosaic.ValueIdx

variable {F : FTy → Type} [FloatOps F] (m : (ℓ : Loc nD τ sig) → Buf (Elt F) ℓ)

/-- The two positions the call is handed: one after the other. -/
theorem positions : (V m 0 main_v3 : S2.Idx → BitVec 32) = concatenate S2 0 [⟨S1, broadcastInDim S1 ![] bcast_S_S1 (constantI S_ 32 0#32)⟩,
    ⟨S1, broadcastInDim S1 ![] bcast_S_S1 (constantI S_ 32 0#32)⟩] concatenates_S1_S1_S2_d0 := by
  unfold V hostOps0
  after_results <;> rfl

/-- Both are zero. -/
theorem word (y : S2.Idx) : (V m 0 main_v3 : S2.Idx → BitVec 32) y = 0#32 := by
  rw [positions]
  have hy : (y 0).val < 2 := (y 0).isLt
  by_cases h : (y 0).val = 0
  · exact concatenate_pair_apply_left (0 : Fin S2.rank) _ _ concatenates_S1_S1_S2_d0 y rfl (ix1 (0 : Fin 1)) fun b => by
      obtain rfl : b = (0 : Fin 1) := Subsingleton.elim _ _
      exact h.symm
  · refine concatenate_pair_apply_right (0 : Fin S2.rank) _ _ concatenates_S1_S1_S2_d0 y rfl rfl (ix1 (0 : Fin 1)) (fun b hb => ?_) ?_
    · exact absurd (Subsingleton.elim (α := Fin 1) _ _) hb
    · show 0 + 1 = (y 0).val
      omega

/-- So the first two windows take sheet 0 of their arrays, … -/
theorem at0 (i : grid0.Coords) : cc0_transform_0 inb_S2_S1_0 numel1_S1 (tbl m) i = ![0, (BitVec.ofNat 32 (i 0).val).toNat, 0] := by
  unfold cc0_transform_0
  exact congrArg (fun v : BitVec 32 => ![v.toNat, (BitVec.ofNat 32 (i 0).val).toNat, 0]) (word m _)

theorem at1 (i : grid0.Coords) : cc0_transform_1 inb_S2_S1_1 numel1_S1 (tbl m) i = ![0, (BitVec.ofNat 32 (i 0).val).toNat, 0] := by
  unfold cc0_transform_1
  exact congrArg (fun v : BitVec 32 => ![v.toNat, (BitVec.ofNat 32 (i 0).val).toNat, 0]) (word m _)

/-- … which are inside them. -/
theorem ok : Ok m := by
  refine ⟨fun i => ⟨?_, .inl rfl⟩, fun i => ⟨?_, .inl rfl⟩⟩
  · rw [at0]
    revert i
    decide +kernel
  · rw [at1]
    revert i
    decide +kernel

end Cert.AdamDownIdeal.Table

namespace Cert.AdamDownIdeal.Sum

open Cert.AdamDownIdeal Cert.AdamDownIdeal.Gen Cert.AdamDownIdeal.Table Idealize.ShloMosaic Idealize.ShloMosaic.TcCoe Idealize.ShloMosaic.Tactic Idealize.SL Idealize.SL.Sem Idealize.ShloMosaic.Rounds Idealize.ShloMosaic.Pipeline Step Step.Adam
  Idealize.ShloMosaic.ValueIdx

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

section
variable (c : Dev nD) (i : grid0.Coords) (arg2 : Memref sig .tc .vmem S1x352x1024 .f32) (harg2 : arg2.IsWhole) (arg3 : Memref sig .tc .vmem S1x352x1024 .f32) (harg3 : arg3.IsWhole) (arg4 : Memref sig .tc .vmem S3x352x1024 .bf16) (harg4 : arg4.IsWhole) (arg5 : Memref sig .tc .vmem S352x1024 .f32) (harg5 : arg5.IsWhole) (arg6 : Memref sig .tc .vmem S352x1024 .f32) (harg6 : arg6.IsWhole) (arg7 : Memref sig .tc .vmem S352x1024 .f32) (harg7 : arg7.IsWhole) (arg8 : Memref sig .tc .vmem S352x1024 .f32) (harg8 : arg8.IsWhole) (arg9 : Memref sig .tc .vmem S352x1024 .f32) (harg9 : arg9.IsWhole) (arg10 : Memref sig .tc .vmem S352x1024 .f32) (harg10 : arg10.IsWhole) (arg11 : Memref sig .tc .vmem S352x1024 .f32) (harg11 : arg11.IsWhole)
  (x0 : Vec Ideal S1x352x1024 .f32) (x1 : Vec Ideal S1x352x1024 .f32) (x2 : Vec Ideal S3x352x1024 .bf16) (x3 x4 x5 : Vec Ideal S352x1024 .f32) (xt0 : TbBuf0 (F := Ideal) c tbM0_0)

/-- What a point leaves of the gradient. -/
theorem out_6 : (out0_A_6 (F := Ideal) c i arg2 harg2 arg3 harg3 arg4 harg4 arg5 harg5 arg6 harg6 arg7 harg7 arg8 harg8 arg9 harg9 arg10 harg10 arg11 harg11 x0 x1 x2 x3 x4 x5 xt0 : S352x1024.Idx → EReal)
    = k0_pay3 (F := Ideal) x0 x1 (View.ld x2 (Rect.unit (s := S3x352x1024) ![0, 0, 0] S1x352x1024.size inb_S3x352x1024_S1x352x1024_0_0_0)) (View.ld x2 (Rect.unit (s := S3x352x1024) ![1, 0, 0] S1x352x1024.size inb_S3x352x1024_S1x352x1024_1_0_0)) (View.ld x2 (Rect.unit (s := S3x352x1024) ![2, 0, 0] S1x352x1024.size inb_S3x352x1024_S1x352x1024_2_0_0)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S352x1024) zero2, View.ld_unit_zero (S := S1x352x1024) zero3]

/-- What a point leaves of the update. -/
theorem out_7 : (out0_A_7 (F := Ideal) c i arg2 harg2 arg3 harg3 arg4 harg4 arg5 harg5 arg6 harg6 arg7 harg7 arg8 harg8 arg9 harg9 arg10 harg10 arg11 harg11 x0 x1 x2 x3 x4 x5 xt0 : S352x1024.Idx → EReal)
    = k0_pay2 (F := Ideal) x3 (k0_pay4 (F := Ideal) x0 x1 (View.ld x2 (Rect.unit (s := S3x352x1024) ![0, 0, 0] S1x352x1024.size inb_S3x352x1024_S1x352x1024_0_0_0)) (View.ld x2 (Rect.unit (s := S3x352x1024) ![1, 0, 0] S1x352x1024.size inb_S3x352x1024_S1x352x1024_1_0_0)) (View.ld x2 (Rect.unit (s := S3x352x1024) ![2, 0, 0] S1x352x1024.size inb_S3x352x1024_S1x352x1024_2_0_0)) x4) (k0_pay5 (F := Ideal) x5) (k0_pay6 (F := Ideal) x0 x1 (View.ld x2 (Rect.unit (s := S3x352x1024) ![0, 0, 0] S1x352x1024.size inb_S3x352x1024_S1x352x1024_0_0_0)) (View.ld x2 (Rect.unit (s := S3x352x1024) ![1, 0, 0] S1x352x1024.size inb_S3x352x1024_S1x352x1024_1_0_0)) (View.ld x2 (Rect.unit (s := S3x352x1024) ![2, 0, 0] S1x352x1024.size inb_S3x352x1024_S1x352x1024_2_0_0))) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S352x1024) zero2, View.ld_unit_zero (S := S1x352x1024) zero3]

/-- What a point leaves of the first moment. -/
theorem out_8 : (out0_A_8 (F := Ideal) c i arg2 harg2 arg3 harg3 arg4 harg4 arg5 harg5 arg6 harg6 arg7 harg7 arg8 harg8 arg9 harg9 arg10 harg10 arg11 harg11 x0 x1 x2 x3 x4 x5 xt0 : S352x1024.Idx → EReal)
    = k0_pay4 (F := Ideal) x0 x1 (View.ld x2 (Rect.unit (s := S3x352x1024) ![0, 0, 0] S1x352x1024.size inb_S3x352x1024_S1x352x1024_0_0_0)) (View.ld x2 (Rect.unit (s := S3x352x1024) ![1, 0, 0] S1x352x1024.size inb_S3x352x1024_S1x352x1024_1_0_0)) (View.ld x2 (Rect.unit (s := S3x352x1024) ![2, 0, 0] S1x352x1024.size inb_S3x352x1024_S1x352x1024_2_0_0)) x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S352x1024) zero2, View.ld_unit_zero (S := S1x352x1024) zero3]

/-- What a point leaves of the second moment. -/
theorem out_9 : (out0_A_9 (F := Ideal) c i arg2 harg2 arg3 harg3 arg4 harg4 arg5 harg5 arg6 harg6 arg7 harg7 arg8 harg8 arg9 harg9 arg10 harg10 arg11 harg11 x0 x1 x2 x3 x4 x5 xt0 : S352x1024.Idx → EReal)
    = k0_pay1 (F := Ideal) (k0_pay5 (F := Ideal) x5) (k0_pay6 (F := Ideal) x0 x1 (View.ld x2 (Rect.unit (s := S3x352x1024) ![0, 0, 0] S1x352x1024.size inb_S3x352x1024_S1x352x1024_0_0_0)) (View.ld x2 (Rect.unit (s := S3x352x1024) ![1, 0, 0] S1x352x1024.size inb_S3x352x1024_S1x352x1024_1_0_0)) (View.ld x2 (Rect.unit (s := S3x352x1024) ![2, 0, 0] S1x352x1024.size inb_S3x352x1024_S1x352x1024_2_0_0))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 xt0)]
  unfold kernelRun0_A
  dsimp only
  try sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S352x1024) zero2, View.ld_unit_zero (S := S1x352x1024) zero3]

end

/-- The payloads, each read at an element of the block. -/
theorem pay3_apply (v0 v2 : Vec Ideal S1x352x1024 .f32) (v5 v9 v13 : Vec Ideal S1x352x1024 .bf16) (y : S352x1024.Idx) :
    (k0_pay3 (F := Ideal) v0 v2 v5 v9 v13 : S352x1024.Idx → EReal) y
      = (v0 : S1x352x1024.Idx → EReal) (sheet y) + (v2 : S1x352x1024.Idx → EReal) (sheet y) + (v5 : S1x352x1024.Idx → EReal) (sheet y)
        + (v9 : S1x352x1024.Idx → EReal) (sheet y) + (v13 : S1x352x1024.Idx → EReal) (sheet y) := by
  unfold k0_pay3
  refine congrArg₂ (· + ·) (congrArg₂ (· + ·) (congrArg₂ (· + ·) (congrArg₂ (· + ·) ?_ ?_) ?_) ?_) ?_
  all_goals exact drop (a := 352) (b := 1024) _ _ y

theorem pay4_apply (v0 v2 : Vec Ideal S1x352x1024 .f32) (v5 v9 v13 : Vec Ideal S1x352x1024 .bf16) (v19 : Vec Ideal S352x1024 .f32) (y : S352x1024.Idx) :
    (k0_pay4 (F := Ideal) v0 v2 v5 v9 v13 v19 : S352x1024.Idx → EReal) y
      = first ((v19 : S352x1024.Idx → EReal) y) ((k0_pay3 (F := Ideal) v0 v2 v5 v9 v13 : S352x1024.Idx → EReal) y) := rfl

theorem pay1_apply (v0 v2 : Vec Ideal S1x352x1024 .f32) (v5 v9 v13 : Vec Ideal S1x352x1024 .bf16) (v20 : Vec Ideal S352x1024 .f32) (y : S352x1024.Idx) :
    (k0_pay1 (F := Ideal) (k0_pay5 (F := Ideal) v20) (k0_pay6 (F := Ideal) v0 v2 v5 v9 v13) : S352x1024.Idx → EReal) y
      = second ((v20 : S352x1024.Idx → EReal) y) ((k0_pay3 (F := Ideal) v0 v2 v5 v9 v13 : S352x1024.Idx → EReal) y) := rfl

theorem pay2_apply (v18 : Vec Ideal S352x1024 .f32) (v25 v27 v30 : FVec Ideal S352x1024 .f32) (y : S352x1024.Idx) :
    (k0_pay2 (F := Ideal) v18 v25 v27 v30 : S352x1024.Idx → EReal) y
      = delta ((v18 : S352x1024.Idx → EReal) y) ((v25 : S352x1024.Idx → EReal) y) ((k0_pay1 (F := Ideal) v27 v30 : S352x1024.Idx → EReal) y) := rfl

variable (m : (ℓ : Loc nD τ sig) → Buf (Elt Ideal) ℓ) (ρ : Dev nD → PrngReg)

/-- The call's arguments. -/
def g (c : Dev nD) : S8x352x1024.Idx → EReal := m ((c.tc : Thread nD τ).loc main_arg0)
def got (c : Dev nD) : S4x352x1024.Idx → EReal := m ((c.tc : Thread nD τ).loc main_arg1)
def pieces (c : Dev nD) : S3x352x1024.Idx → EReal := m ((c.tc : Thread nD τ).loc main_arg2)
def w (c : Dev nD) : S352x1024.Idx → EReal := m ((c.tc : Thread nD τ).loc main_arg3)
def m1 (c : Dev nD) : S352x1024.Idx → EReal := m ((c.tc : Thread nD τ).loc main_arg4)
def m2 (c : Dev nD) : S352x1024.Idx → EReal := m ((c.tc : Thread nD τ).loc main_arg5)

/-- The operands' blocks at a point. -/
def b0 (c : Dev nD) (t : Fin (cfgM m (ok m)).N) : Vec Ideal S1x352x1024 .f32 := iblk m (ok m) c 0 t
def b1 (c : Dev nD) (t : Fin (cfgM m (ok m)).N) : Vec Ideal S1x352x1024 .f32 := iblk m (ok m) c 1 t
def b2 (c : Dev nD) (t : Fin (cfgM m (ok m)).N) : Vec Ideal S3x352x1024 .bf16 := iblk m (ok m) c 2 t
def b3 (c : Dev nD) (t : Fin (cfgM m (ok m)).N) : Vec Ideal S352x1024 .f32 := iblk m (ok m) c 3 t
def b4 (c : Dev nD) (t : Fin (cfgM m (ok m)).N) : Vec Ideal S352x1024 .f32 := iblk m (ok m) c 4 t
def b5 (c : Dev nD) (t : Fin (cfgM m (ok m)).N) : Vec Ideal S352x1024 .f32 := iblk m (ok m) c 5 t

/-- The number of a point of the grid is the block of rows it works on. -/
theorem coord : ∀ t : Fin grid0.N, (BitVec.ofNat 32 (grid0.coords t 0).val).toNat = t.val := by decide +kernel

theorem index0 (t : Fin (cfgM m (ok m)).N) : ((cfgM m (ok m)).win 0).index t = ![0, t.val, 0] :=
  (at0 m (grid0.coords t)).trans (by rw [coord])
theorem index1 (t : Fin (cfgM m (ok m)).N) : ((cfgM m (ok m)).win 1).index t = ![0, t.val, 0] :=
  (at1 m (grid0.coords t)).trans (by rw [coord])
theorem index2 (t : Fin (cfgM m (ok m)).N) : ((cfgM m (ok m)).win 2).index t = ![0, t.val, 0] := by
  show ![_, (BitVec.ofNat 32 (grid0.coords t 0).val).toNat, _] = _
  rw [coord]; rfl
theorem index3 (t : Fin (cfgM m (ok m)).N) : ((cfgM m (ok m)).win 3).index t = ![t.val, 0] := by
  show ![(BitVec.ofNat 32 (grid0.coords t 0).val).toNat, _] = _
  rw [coord]; rfl
theorem index4 (t : Fin (cfgM m (ok m)).N) : ((cfgM m (ok m)).win 4).index t = ![t.val, 0] := by
  show ![(BitVec.ofNat 32 (grid0.coords t 0).val).toNat, _] = _
  rw [coord]; rfl
theorem index5 (t : Fin (cfgM m (ok m)).N) : ((cfgM m (ok m)).win 5).index t = ![t.val, 0] := by
  show ![(BitVec.ofNat 32 (grid0.coords t 0).val).toNat, _] = _
  rw [coord]; rfl
theorem index6 (t : Fin (cfgM m (ok m)).N) : ((cfgM m (ok m)).win 6).index t = ![t.val, 0] := by
  show ![(BitVec.ofNat 32 (grid0.coords t 0).val).toNat, _] = _
  rw [coord]; rfl
theorem index7 (t : Fin (cfgM m (ok m)).N) : ((cfgM m (ok m)).win 7).index t = ![t.val, 0] := by
  show ![(BitVec.ofNat 32 (grid0.coords t 0).val).toNat, _] = _
  rw [coord]; rfl
theorem index8 (t : Fin (cfgM m (ok m)).N) : ((cfgM m (ok m)).win 8).index t = ![t.val, 0] := by
  show ![(BitVec.ofNat 32 (grid0.coords t 0).val).toNat, _] = _
  rw [coord]; rfl
theorem index9 (t : Fin (cfgM m (ok m)).N) : ((cfgM m (ok m)).win 9).index t = ![t.val, 0] := by
  show ![(BitVec.ofNat 32 (grid0.coords t 0).val).toNat, _] = _
  rw [coord]; rfl

/-- Each of them read at an element. -/
theorem block0 (c : Dev nD) (t : Fin (cfgM m (ok m)).N) (y : S352x1024.Idx) :
    (b0 m c t : S1x352x1024.Idx → EReal) (sheet y) = at3 (n := 8) (k := 352) (l := 1024) (g m c) 0 (352 * t.val + (y 0).val) (y 1).val := by
  refine (congrFun (V_main_arg0 m c) _).trans (read3 (n := 8) (k := 352) (l := 1024) (g m c) _ ?_ ?_ ?_)
  · show ((cfgM m (ok m)).win 0).index t (0 : Fin 3) * 1 + 1 * 0 = _; rw [index0]; rfl
  · show ((cfgM m (ok m)).win 0).index t (1 : Fin 3) * 352 + 1 * (y 0).val = _; rw [index0]; show t.val * _ + _ = _; omega
  · show ((cfgM m (ok m)).win 0).index t (2 : Fin 3) * 1024 + 1 * (y 1).val = _; rw [index0]; show 0 * _ + _ = _; omega
theorem block1 (c : Dev nD) (t : Fin (cfgM m (ok m)).N) (y : S352x1024.Idx) :
    (b1 m c t : S1x352x1024.Idx → EReal) (sheet y) = at3 (n := 4) (k := 352) (l := 1024) (got m c) 0 (352 * t.val + (y 0).val) (y 1).val := by
  refine (congrFun (V_main_arg1 m c) _).trans (read3 (n := 4) (k := 352) (l := 1024) (got m c) _ ?_ ?_ ?_)
  · show ((cfgM m (ok m)).win 1).index t (0 : Fin 3) * 1 + 1 * 0 = _; rw [index1]; rfl
  · show ((cfgM m (ok m)).win 1).index t (1 : Fin 3) * 352 + 1 * (y 0).val = _; rw [index1]; show t.val * _ + _ = _; omega
  · show ((cfgM m (ok m)).win 1).index t (2 : Fin 3) * 1024 + 1 * (y 1).val = _; rw [index1]; show 0 * _ + _ = _; omega
theorem piece0 (c : Dev nD) (t : Fin (cfgM m (ok m)).N) (y : S352x1024.Idx) :
    (View.ld (b2 m c t) (Rect.unit (s := S3x352x1024) ![0, 0, 0] S1x352x1024.size inb_S3x352x1024_S1x352x1024_0_0_0) : S1x352x1024.Idx → EReal) (sheet y)
      = at3 (n := 3) (k := 352) (l := 1024) (pieces m c) 0 (352 * t.val + (y 0).val) (y 1).val := by
  refine (congrFun (V_main_arg2 m c) _).trans (read3 (n := 3) (k := 352) (l := 1024) (pieces m c) _ ?_ ?_ ?_)
  · show ((cfgM m (ok m)).win 2).index t (0 : Fin 3) * 3 + 1 * (0 + 1 * 0) = _; rw [index2]; rfl
  · show ((cfgM m (ok m)).win 2).index t (1 : Fin 3) * 352 + 1 * (0 + 1 * (y 0).val) = _; rw [index2]; show t.val * _ + _ = _; omega
  · show ((cfgM m (ok m)).win 2).index t (2 : Fin 3) * 1024 + 1 * (0 + 1 * (y 1).val) = _; rw [index2]; show 0 * _ + _ = _; omega
theorem piece1 (c : Dev nD) (t : Fin (cfgM m (ok m)).N) (y : S352x1024.Idx) :
    (View.ld (b2 m c t) (Rect.unit (s := S3x352x1024) ![1, 0, 0] S1x352x1024.size inb_S3x352x1024_S1x352x1024_1_0_0) : S1x352x1024.Idx → EReal) (sheet y)
      = at3 (n := 3) (k := 352) (l := 1024) (pieces m c) 1 (352 * t.val + (y 0).val) (y 1).val := by
  refine (congrFun (V_main_arg2 m c) _).trans (read3 (n := 3) (k := 352) (l := 1024) (pieces m c) _ ?_ ?_ ?_)
  · show ((cfgM m (ok m)).win 2).index t (0 : Fin 3) * 3 + 1 * (1 + 1 * 0) = _; rw [index2]; rfl
  · show ((cfgM m (ok m)).win 2).index t (1 : Fin 3) * 352 + 1 * (0 + 1 * (y 0).val) = _; rw [index2]; show t.val * _ + _ = _; omega
  · show ((cfgM m (ok m)).win 2).index t (2 : Fin 3) * 1024 + 1 * (0 + 1 * (y 1).val) = _; rw [index2]; show 0 * _ + _ = _; omega
theorem piece2 (c : Dev nD) (t : Fin (cfgM m (ok m)).N) (y : S352x1024.Idx) :
    (View.ld (b2 m c t) (Rect.unit (s := S3x352x1024) ![2, 0, 0] S1x352x1024.size inb_S3x352x1024_S1x352x1024_2_0_0) : S1x352x1024.Idx → EReal) (sheet y)
      = at3 (n := 3) (k := 352) (l := 1024) (pieces m c) 2 (352 * t.val + (y 0).val) (y 1).val := by
  refine (congrFun (V_main_arg2 m c) _).trans (read3 (n := 3) (k := 352) (l := 1024) (pieces m c) _ ?_ ?_ ?_)
  · show ((cfgM m (ok m)).win 2).index t (0 : Fin 3) * 3 + 1 * (2 + 1 * 0) = _; rw [index2]; rfl
  · show ((cfgM m (ok m)).win 2).index t (1 : Fin 3) * 352 + 1 * (0 + 1 * (y 0).val) = _; rw [index2]; show t.val * _ + _ = _; omega
  · show ((cfgM m (ok m)).win 2).index t (2 : Fin 3) * 1024 + 1 * (0 + 1 * (y 1).val) = _; rw [index2]; show 0 * _ + _ = _; omega

theorem block3 (c : Dev nD) (t : Fin (cfgM m (ok m)).N) (y : S352x1024.Idx) :
    (b3 m c t : S352x1024.Idx → EReal) y = at2 (n := 352) (k := 1024) (w m c) (352 * t.val + (y 0).val) (y 1).val := by
  refine (congrFun (V_main_arg3 m c) _).trans (read2 (n := 352) (k := 1024) (w m c) _ ?_ ?_)
  · show ((cfgM m (ok m)).win 3).index t (0 : Fin 2) * 352 + 1 * (y 0).val = _; rw [index3]; show t.val * _ + _ = _; omega
  · show ((cfgM m (ok m)).win 3).index t (1 : Fin 2) * 1024 + 1 * (y 1).val = _; rw [index3]; show 0 * _ + _ = _; omega
theorem block4 (c : Dev nD) (t : Fin (cfgM m (ok m)).N) (y : S352x1024.Idx) :
    (b4 m c t : S352x1024.Idx → EReal) y = at2 (n := 352) (k := 1024) (m1 m c) (352 * t.val + (y 0).val) (y 1).val := by
  refine (congrFun (V_main_arg4 m c) _).trans (read2 (n := 352) (k := 1024) (m1 m c) _ ?_ ?_)
  · show ((cfgM m (ok m)).win 4).index t (0 : Fin 2) * 352 + 1 * (y 0).val = _; rw [index4]; show t.val * _ + _ = _; omega
  · show ((cfgM m (ok m)).win 4).index t (1 : Fin 2) * 1024 + 1 * (y 1).val = _; rw [index4]; show 0 * _ + _ = _; omega
theorem block5 (c : Dev nD) (t : Fin (cfgM m (ok m)).N) (y : S352x1024.Idx) :
    (b5 m c t : S352x1024.Idx → EReal) y = at2 (n := 352) (k := 1024) (m2 m c) (352 * t.val + (y 0).val) (y 1).val := by
  refine (congrFun (V_main_arg5 m c) _).trans (read2 (n := 352) (k := 1024) (m2 m c) _ ?_ ?_)
  · show ((cfgM m (ok m)).win 5).index t (0 : Fin 2) * 352 + 1 * (y 0).val = _; rw [index5]; show t.val * _ + _ = _; omega
  · show ((cfgM m (ok m)).win 5).index t (1 : Fin 2) * 1024 + 1 * (y 1).val = _; rw [index5]; show 0 * _ + _ = _; omega

/-- The gradient's block. -/
theorem gradBlock (c : Dev nD) (t : Fin (cfgM m (ok m)).N) (y : S352x1024.Idx) :
    (k0_pay3 (F := Ideal) (b0 m c t) (b1 m c t) (View.ld (b2 m c t) (Rect.unit (s := S3x352x1024) ![0, 0, 0] S1x352x1024.size inb_S3x352x1024_S1x352x1024_0_0_0)) (View.ld (b2 m c t) (Rect.unit (s := S3x352x1024) ![1, 0, 0] S1x352x1024.size inb_S3x352x1024_S1x352x1024_1_0_0)) (View.ld (b2 m c t) (Rect.unit (s := S3x352x1024) ![2, 0, 0] S1x352x1024.size inb_S3x352x1024_S1x352x1024_2_0_0)) : S352x1024.Idx → EReal) y
      = grad (g m c) (got m c) (pieces m c) (352 * t.val + (y 0).val) (y 1).val := by
  refine (pay3_apply _ _ _ _ _ y).trans ?_
  rw [block0, block1]
  refine Eq.trans (congrArg₂ (· + ·) (congrArg₂ (· + ·) (congrArg₂ (· + ·) rfl ?_) ?_) ?_) (grad_eq (g m c) (got m c) (pieces m c) _ _)
  · exact piece0 m c t y
  · exact piece1 m c t y
  · exact piece2 m c t y

/-- The call's four results, each one array. -/
def result6 (c : Dev nD) : S352x1024.Idx → EReal := fun i => grad (g m c) (got m c) (pieces m c) (i 0).val (i 1).val
def result8 (c : Dev nD) : S352x1024.Idx → EReal := fun i => first (at2 (n := 352) (k := 1024) (m1 m c) (i 0).val (i 1).val) (grad (g m c) (got m c) (pieces m c) (i 0).val (i 1).val)
def result9 (c : Dev nD) : S352x1024.Idx → EReal := fun i => second (at2 (n := 352) (k := 1024) (m2 m c) (i 0).val (i 1).val) (grad (g m c) (got m c) (pieces m c) (i 0).val (i 1).val)
def result7 (c : Dev nD) : S352x1024.Idx → EReal := fun i => delta (at2 (n := 352) (k := 1024) (w m c) (i 0).val (i 1).val)
  (first (at2 (n := 352) (k := 1024) (m1 m c) (i 0).val (i 1).val) (grad (g m c) (got m c) (pieces m c) (i 0).val (i 1).val))
  (second (at2 (n := 352) (k := 1024) (m2 m c) (i 0).val (i 1).val) (grad (g m c) (got m c) (pieces m c) (i 0).val (i 1).val))

/-- What a point leaves, at an element of the block. -/
theorem staged6 (c : Dev nD) (t : Fin (cfgM m (ok m)).N) (y : S352x1024.Idx) : ((outsAt0 m (ok m) c t).1 : S352x1024.Idx → EReal) y
    = grad (g m c) (got m c) (pieces m c) (352 * t.val + (y 0).val) (y 1).val := by
  unfold outsAt0
  dsimp only
  exact (congrFun (out_6 _ _ _ _ _ _ _ _ _ _ _ _ _ _ _ _ _ _ _ _ _ _ _ _ _ _ _ _ _) y).trans (gradBlock m c t y)
theorem staged8 (c : Dev nD) (t : Fin (cfgM m (ok m)).N) (y : S352x1024.Idx) : ((outsAt0 m (ok m) c t).2.2.1 : S352x1024.Idx → EReal) y
    = first (at2 (n := 352) (k := 1024) (m1 m c) (352 * t.val + (y 0).val) (y 1).val)
      (grad (g m c) (got m c) (pieces m c) (352 * t.val + (y 0).val) (y 1).val) := by
  unfold outsAt0
  dsimp only
  exact (congrFun (out_8 _ _ _ _ _ _ _ _ _ _ _ _ _ _ _ _ _ _ _ _ _ _ _ _ _ _ _ _ _) y).trans ((pay4_apply (b0 m c t) (b1 m c t) _ _ _ (b4 m c t) y).trans
    (congrArg₂ first (block4 m c t y) (gradBlock m c t y)))
theorem staged9 (c : Dev nD) (t : Fin (cfgM m (ok m)).N) (y : S352x1024.Idx) : ((outsAt0 m (ok m) c t).2.2.2 : S352x1024.Idx → EReal) y
    = second (at2 (n := 352) (k := 1024) (m2 m c) (352 * t.val + (y 0).val) (y 1).val)
      (grad (g m c) (got m c) (pieces m c) (352 * t.val + (y 0).val) (y 1).val) := by
  unfold outsAt0
  dsimp only
  exact (congrFun (out_9 _ _ _ _ _ _ _ _ _ _ _ _ _ _ _ _ _ _ _ _ _ _ _ _ _ _ _ _ _) y).trans ((pay1_apply (b0 m c t) (b1 m c t) _ _ _ (b5 m c t) y).trans
    (congrArg₂ second (block5 m c t y) (gradBlock m c t y)))
theorem staged7 (c : Dev nD) (t : Fin (cfgM m (ok m)).N) (y : S352x1024.Idx) : ((outsAt0 m (ok m) c t).2.1 : S352x1024.Idx → EReal) y
    = delta (at2 (n := 352) (k := 1024) (w m c) (352 * t.val + (y 0).val) (y 1).val)
      (first (at2 (n := 352) (k := 1024) (m1 m c) (352 * t.val + (y 0).val) (y 1).val)
        (grad (g m c) (got m c) (pieces m c) (352 * t.val + (y 0).val) (y 1).val))
      (second (at2 (n := 352) (k := 1024) (m2 m c) (352 * t.val + (y 0).val) (y 1).val)
        (grad (g m c) (got m c) (pieces m c) (352 * t.val + (y 0).val) (y 1).val)) := by
  unfold outsAt0
  dsimp only
  refine (congrFun (out_7 _ _ _ _ _ _ _ _ _ _ _ _ _ _ _ _ _ _ _ _ _ _ _ _ _ _ _ _ _) y).trans ((pay2_apply (b3 m c t) _ _ _ y).trans ?_)
  refine congr (congrArg₂ delta (block3 m c t y) ((pay4_apply (b0 m c t) (b1 m c t) _ _ _ (b4 m c t) y).trans
    (congrArg₂ first (block4 m c t y) (gradBlock m c t y)))) ?_
  exact (pay1_apply (b0 m c t) (b1 m c t) _ _ _ (b5 m c t) y).trans (congrArg₂ second (block5 m c t y) (gradBlock m c t y))

/-- The gradient's array after the run. -/
theorem covers6 : ((cfgM m (ok m)).win 6).Covers :=
  ⟨(by decide : ∀ a : Fin 2, 0 < S352x1024.size a), fun β => ⟨(⟨(β (0 : Fin 2)).val, lt_of_lt_of_eq (β (0 : Fin 2)).isLt
    (show (352 + 352 - 1) / 352 = grid0.N by decide)⟩ : Fin grid0.N), flush0_6 _ _, fun a => ⟨by
    rw [index6]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed6 (c : Dev nD) (t : Fin (cfgM m (ok m)).N) :
    (dats m (ok m) 0 c).flushed 6 t = ((cfgM m (ok m)).win 6).cut (grid0.coords t) (outsAt0 m (ok m) c t).1 := by
  show ((cfgM m (ok m)).win 6).cut (grid0.coords t) ((dats m (ok m) 0 c).after 6 t) = _
  rw [after0_6]
theorem written6 (c : Dev nD) (t : Fin (cfgM m (ok m)).N) :
    (dats m (ok m) 0 c).flushed 6 t = (((cfgM m (ok m)).win 6).blk t).view.read (Elt Ideal) (result6 m c) := by
  rw [flushed6]
  funext y
  refine (staged6 m c t y).trans ?_
  have e0 : ((cfgM m (ok m)).win 6).index t (0 : Fin 2) * 352 + 1 * (y (0 : Fin 2)).val = 352 * t.val + (y (0 : Fin 2)).val := by
    rw [index6, Nat.one_mul]; exact congrArg (· + _) (Nat.mul_comm t.val 352)
  have e1 : ((cfgM m (ok m)).win 6).index t (1 : Fin 2) * 1024 + 1 * (y (1 : Fin 2)).val = (y (1 : Fin 2)).val := by
    rw [index6, Nat.one_mul]; exact (congrArg (· + _) (Nat.zero_mul 1024)).trans (Nat.zero_add _)
  rw [← e0]
  conv_lhs => rw [← e1]
  rfl
theorem final6 (c : Dev nD) : (dats m (ok m) 0 c).arrAt 6 (cfgM m (ok m)).N = result6 m c :=
  (dats m (ok m) 0 c).arrAt_eq_of_cover 6 (result6 m c) (fun t _ => written6 m c t)
    (Pipeline.Window.Covers.cover _ (covers6 m) (Memref.isWhole_whole _))

/-- The update's array after the run. -/
theorem covers7 : ((cfgM m (ok m)).win 7).Covers :=
  ⟨(by decide : ∀ a : Fin 2, 0 < S352x1024.size a), fun β => ⟨(⟨(β (0 : Fin 2)).val, lt_of_lt_of_eq (β (0 : Fin 2)).isLt
    (show (352 + 352 - 1) / 352 = grid0.N by decide)⟩ : Fin grid0.N), flush0_7 _ _, fun a => ⟨by
    rw [index7]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed7 (c : Dev nD) (t : Fin (cfgM m (ok m)).N) :
    (dats m (ok m) 0 c).flushed 7 t = ((cfgM m (ok m)).win 7).cut (grid0.coords t) (outsAt0 m (ok m) c t).2.1 := by
  show ((cfgM m (ok m)).win 7).cut (grid0.coords t) ((dats m (ok m) 0 c).after 7 t) = _
  rw [after0_7]
theorem written7 (c : Dev nD) (t : Fin (cfgM m (ok m)).N) :
    (dats m (ok m) 0 c).flushed 7 t = (((cfgM m (ok m)).win 7).blk t).view.read (Elt Ideal) (result7 m c) := by
  rw [flushed7]
  funext y
  refine (staged7 m c t y).trans ?_
  have e0 : ((cfgM m (ok m)).win 7).index t (0 : Fin 2) * 352 + 1 * (y (0 : Fin 2)).val = 352 * t.val + (y (0 : Fin 2)).val := by
    rw [index7, Nat.one_mul]; exact congrArg (· + _) (Nat.mul_comm t.val 352)
  have e1 : ((cfgM m (ok m)).win 7).index t (1 : Fin 2) * 1024 + 1 * (y (1 : Fin 2)).val = (y (1 : Fin 2)).val := by
    rw [index7, Nat.one_mul]; exact (congrArg (· + _) (Nat.zero_mul 1024)).trans (Nat.zero_add _)
  rw [← e0]
  conv_lhs => rw [← e1]
  rfl
theorem final7 (c : Dev nD) : (dats m (ok m) 0 c).arrAt 7 (cfgM m (ok m)).N = result7 m c :=
  (dats m (ok m) 0 c).arrAt_eq_of_cover 7 (result7 m c) (fun t _ => written7 m c t)
    (Pipeline.Window.Covers.cover _ (covers7 m) (Memref.isWhole_whole _))

/-- The first moment's array after the run. -/
theorem covers8 : ((cfgM m (ok m)).win 8).Covers :=
  ⟨(by decide : ∀ a : Fin 2, 0 < S352x1024.size a), fun β => ⟨(⟨(β (0 : Fin 2)).val, lt_of_lt_of_eq (β (0 : Fin 2)).isLt
    (show (352 + 352 - 1) / 352 = grid0.N by decide)⟩ : Fin grid0.N), flush0_8 _ _, fun a => ⟨by
    rw [index8]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed8 (c : Dev nD) (t : Fin (cfgM m (ok m)).N) :
    (dats m (ok m) 0 c).flushed 8 t = ((cfgM m (ok m)).win 8).cut (grid0.coords t) (outsAt0 m (ok m) c t).2.2.1 := by
  show ((cfgM m (ok m)).win 8).cut (grid0.coords t) ((dats m (ok m) 0 c).after 8 t) = _
  rw [after0_8]
theorem written8 (c : Dev nD) (t : Fin (cfgM m (ok m)).N) :
    (dats m (ok m) 0 c).flushed 8 t = (((cfgM m (ok m)).win 8).blk t).view.read (Elt Ideal) (result8 m c) := by
  rw [flushed8]
  funext y
  refine (staged8 m c t y).trans ?_
  have e0 : ((cfgM m (ok m)).win 8).index t (0 : Fin 2) * 352 + 1 * (y (0 : Fin 2)).val = 352 * t.val + (y (0 : Fin 2)).val := by
    rw [index8, Nat.one_mul]; exact congrArg (· + _) (Nat.mul_comm t.val 352)
  have e1 : ((cfgM m (ok m)).win 8).index t (1 : Fin 2) * 1024 + 1 * (y (1 : Fin 2)).val = (y (1 : Fin 2)).val := by
    rw [index8, Nat.one_mul]; exact (congrArg (· + _) (Nat.zero_mul 1024)).trans (Nat.zero_add _)
  rw [← e0]
  conv_lhs => rw [← e1]
  rfl
theorem final8 (c : Dev nD) : (dats m (ok m) 0 c).arrAt 8 (cfgM m (ok m)).N = result8 m c :=
  (dats m (ok m) 0 c).arrAt_eq_of_cover 8 (result8 m c) (fun t _ => written8 m c t)
    (Pipeline.Window.Covers.cover _ (covers8 m) (Memref.isWhole_whole _))

/-- The second moment's array after the run. -/
theorem covers9 : ((cfgM m (ok m)).win 9).Covers :=
  ⟨(by decide : ∀ a : Fin 2, 0 < S352x1024.size a), fun β => ⟨(⟨(β (0 : Fin 2)).val, lt_of_lt_of_eq (β (0 : Fin 2)).isLt
    (show (352 + 352 - 1) / 352 = grid0.N by decide)⟩ : Fin grid0.N), flush0_9 _ _, fun a => ⟨by
    rw [index9]
    match a with
    | ⟨0, _⟩ => rfl
    | ⟨1, _⟩ => exact (Nat.lt_one_iff.mp (lt_of_lt_of_eq (β (1 : Fin 2)).isLt (show (1024 + 1024 - 1) / 1024 = 1 by decide))).symm, .inl rfl⟩⟩⟩
theorem flushed9 (c : Dev nD) (t : Fin (cfgM m (ok m)).N) :
    (dats m (ok m) 0 c).flushed 9 t = ((cfgM m (ok m)).win 9).cut (grid0.coords t) (outsAt0 m (ok m) c t).2.2.2 := by
  show ((cfgM m (ok m)).win 9).cut (grid0.coords t) ((dats m (ok m) 0 c).after 9 t) = _
  rw [after0_9]
theorem written9 (c : Dev nD) (t : Fin (cfgM m (ok m)).N) :
    (dats m (ok m) 0 c).flushed 9 t = (((cfgM m (ok m)).win 9).blk t).view.read (Elt Ideal) (result9 m c) := by
  rw [flushed9]
  funext y
  refine (staged9 m c t y).trans ?_
  have e0 : ((cfgM m (ok m)).win 9).index t (0 : Fin 2) * 352 + 1 * (y (0 : Fin 2)).val = 352 * t.val + (y (0 : Fin 2)).val := by
    rw [index9, Nat.one_mul]; exact congrArg (· + _) (Nat.mul_comm t.val 352)
  have e1 : ((cfgM m (ok m)).win 9).index t (1 : Fin 2) * 1024 + 1 * (y (1 : Fin 2)).val = (y (1 : Fin 2)).val := by
    rw [index9, Nat.one_mul]; exact (congrArg (· + _) (Nat.zero_mul 1024)).trans (Nat.zero_add _)
  rw [← e0]
  conv_lhs => rw [← e1]
  rfl
theorem final9 (c : Dev nD) : (dats m (ok m) 0 c).arrAt 9 (cfgM m (ok m)).N = result9 m c :=
  (dats m (ok m) 0 c).arrAt_eq_of_cover 9 (result9 m c) (fun t _ => written9 m c t)
    (Pipeline.Window.Covers.cover _ (covers9 m) (Memref.isWhole_whole _))

/-- The results and the arguments after the run. -/
theorem run_blocks : θ_run defs (onTc (τ := τ) (main (F := Ideal))) ⟨m, fun _ => 0, ρ⟩ (fun r => ∀ c : Dev nD,
      (∀ k : Fin 10, r.2.mem ((c.tc : Thread nD τ).loc (Pipeline.arrRef spec0 k)) = (dats m (ok m) 0 c).arrAt k (cfgM m (ok m)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun k => (h.1.1 c).1 k, h.2 c⟩)
    (θ_run_and (run_main_quiescent m ρ (ok m)) (unchanged m ρ (ok m)))

end Cert.AdamDownIdeal.Sum

namespace Cert.AdamDownRefIdeal.Sum

open Cert.AdamDownRefIdeal Cert.AdamDownRefIdeal.Read Idealize.ShloMosaic Idealize.ShloMosaic.ValueIdx Step Step.Adam

variable (x0 : S8x352x1024.Idx → EReal) (x1 : S4x352x1024.Idx → EReal) (x2 : S3x352x1024.Idx → EReal) (x3 x4 x5 : S352x1024.Idx → EReal)

/-- The reference's four results, each read at an index. -/
theorem gradRef (i : S352x1024.Idx) : val_main_v7 (F := Ideal) x0 x1 x2 i = grad x0 x1 x2 (i 0).val (i 1).val := by
  have h0 : (i 0).val < 352 := (i 0).isLt
  have h1 : (i 1).val < 1024 := (i 1).isLt
  rw [val_main_v7_apply, val_main_v4_apply, val_main_v1_apply, val_main_v0_apply, val_main_v3_apply, val_main_v2_apply, val_main_v6_apply,
    val_main_cst_apply]
  refine congrArg₂ (· + ·) (congrArg₂ (· + ·) (read3 (n := 8) (k := 352) (l := 1024) x0 _ ?_ ?_ ?_) (read3 (n := 4) (k := 352) (l := 1024) x1 _ ?_ ?_ ?_)) ?_
  · rfl
  · show ((i 0).val * 1024 + (i 1).val) / 1024 % 352 = _; omega
  · show ((i 0).val * 1024 + (i 1).val) % 1024 = _; omega
  · rfl
  · show ((i 0).val * 1024 + (i 1).val) / 1024 % 352 = _; omega
  · show ((i 0).val * 1024 + (i 1).val) % 1024 = _; omega
  · show Ideal.ofBits .f32 0x00000000#32 + _ = _
    rw [Ideal.ofBits_zero_f32, zero_add]
    refine Finset.sum_congr rfl fun s _ => ?_
    rw [val_main_v5_apply]
    exact read3 (n := 3) (k := 352) (l := 1024) x2 _ rfl rfl rfl

theorem firstRef (i : S352x1024.Idx) : val_main_v12 (F := Ideal) x0 x1 x2 x4 i
    = first (at2 (n := 352) (k := 1024) x4 (i 0).val (i 1).val) (grad x0 x1 x2 (i 0).val (i 1).val) := by
  rw [← gradRef, ← eq_at2 (n := 352) (k := 1024) x4 i]
  rw [val_main_v12_apply, val_main_v11_apply, val_main_v10_apply, val_main_v9_apply, val_main_v8_apply, val_main_cst_0_apply, val_main_cst_1_apply]
  rfl

theorem secondRef (i : S352x1024.Idx) : val_main_v18 (F := Ideal) x0 x1 x2 x5 i
    = second (at2 (n := 352) (k := 1024) x5 (i 0).val (i 1).val) (grad x0 x1 x2 (i 0).val (i 1).val) := by
  rw [← gradRef, ← eq_at2 (n := 352) (k := 1024) x5 i]
  rw [val_main_v18_apply, val_main_v17_apply, val_main_v16_apply, val_main_v15_apply, val_main_v14_apply, val_main_v13_apply, val_main_cst_2_apply, val_main_cst_3_apply]
  rfl

theorem deltaRef (i : S352x1024.Idx) : val_main_v31 (F := Ideal) x0 x1 x2 x3 x4 x5 i
    = delta (at2 (n := 352) (k := 1024) x3 (i 0).val (i 1).val)
      (first (at2 (n := 352) (k := 1024) x4 (i 0).val (i 1).val) (grad x0 x1 x2 (i 0).val (i 1).val))
      (second (at2 (n := 352) (k := 1024) x5 (i 0).val (i 1).val) (grad x0 x1 x2 (i 0).val (i 1).val)) := by
  rw [← firstRef, ← secondRef, ← eq_at2 (n := 352) (k := 1024) x3 i]
  rw [val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_cst_4_apply, val_main_cst_5_apply, val_main_cst_6_apply, val_main_cst_7_apply, val_main_cst_8_apply]
  rfl

end Cert.AdamDownRefIdeal.Sum

namespace Cert.Proof

open Idealize.ShloMosaic Idealize.SL.Sem Step

/-- The call's four results are the reference's, over the extended reals. -/
theorem algebraic_AdamDown [Cert.AdamDownIdeal.Facts] [Cert.AdamDownRefIdeal.Facts] : algebraic_AdamDownIdeal_AdamDownRefIdeal := by
  intro m ρ m' ρ' _ hagree
  refine ⟨fun c => Cert.AdamDownIdeal.Sum.result6 m c, fun c => Cert.AdamDownIdeal.Sum.result7 m c, fun c => Cert.AdamDownIdeal.Sum.result8 m c,
    fun c => Cert.AdamDownIdeal.Sum.result9 m c,
    (θ_run Cert.AdamDownIdeal.defs _ _).mono
      (fun _ h c => ⟨((h c).1 6).trans (Cert.AdamDownIdeal.Sum.final6 m c), ((h c).1 7).trans (Cert.AdamDownIdeal.Sum.final7 m c),
        ((h c).1 8).trans (Cert.AdamDownIdeal.Sum.final8 m c), ((h c).1 9).trans (Cert.AdamDownIdeal.Sum.final9 m c), (h c).2⟩)
      (Cert.AdamDownIdeal.Sum.run_blocks m ρ), ?_⟩
  refine (θ_run Cert.AdamDownRefIdeal.defs _ _).mono (fun _ h c => ⟨?_, ?_, ?_, ?_, (h c).2.2.2.2⟩)
    (Cert.AdamDownRefIdeal.Value.run (F := Ideal) m' ρ')
  all_goals obtain ⟨a0, a1, a2, a3, a4, a5⟩ := hagree c
  · refine ((h c).1.trans (Cert.AdamDownRefIdeal.Read.val_main_v7_eq ..)).trans ?_
    rw [a0, a1, a2]
    funext i
    exact Cert.AdamDownRefIdeal.Sum.gradRef _ _ _ i
  · refine ((h c).2.1.trans (Cert.AdamDownRefIdeal.Read.val_main_v31_eq ..)).trans ?_
    rw [a0, a1, a2, a3, a4, a5]
    funext i
    exact Cert.AdamDownRefIdeal.Sum.deltaRef _ _ _ _ _ _ i
  · refine ((h c).2.2.1.trans (Cert.AdamDownRefIdeal.Read.val_main_v12_eq ..)).trans ?_
    rw [a0, a1, a2, a4]
    funext i
    exact Cert.AdamDownRefIdeal.Sum.firstRef _ _ _ _ i
  · refine ((h c).2.2.2.1.trans (Cert.AdamDownRefIdeal.Read.val_main_v18_eq ..)).trans ?_
    rw [a0, a1, a2, a5]
    funext i
    exact Cert.AdamDownRefIdeal.Sum.secondRef _ _ _ _ i

end Cert.Proof

end
-- ==== Proof.SmallSum.lean ====
/- The small update's sums and gradients, over the reals: the rows added up one by one are the rows' sum, the five
   gradients are read off it, and the lower bound's gradient is the softmax's. -/
module

public import proofs.«01_k».proof.Proof.SmallRun
public import proofs.«01_k».proof.Proof.Gen.SmallRefIdeal.Run
public import proofs.«01_k».proof.Proof.Gen.SmallRefIdeal.Read
public import Idealize.ShloMosaic.Lib.Pipeline.Value
public import Idealize.ShloMosaic.Lib.KernelVsHost
public import Idealize.ShloMosaic.Lib.ValueIdx
public import Idealize.ShloMosaic.Lib.Pointwise
public import proofs.«01_k».proof.Proof.Reading
public import proofs.«01_k».proof.Proof.Finite
public import proofs.«01_k».proof.Proof.Logistic

@[expose] public section

noncomputable section

namespace Step.SmallSum

open Idealize.ShloMosaic Idealize.ShloMosaic.ValueIdx Step Step.SmallRun Cert.SmallIdeal.Gen
open Cert.SmallRefIdeal.Read

/-- The gathered rows of the eight devices. -/
abbrev Gath := (⟨3, ![8, 8, 1024]⟩ : Shape).Idx → EReal
abbrev Rows := (⟨2, ![8, 1024]⟩ : Shape).Idx → EReal
abbrev Logits := (⟨2, ![2, 512]⟩ : Shape).Idx → EReal

/-! ## The sum of the eight devices' rows -/

/-- One device's rows, read out of the gathered array. -/
theorem sheet (x : Vec Ideal Cert.SmallIdeal.S8x8x1024 .f32) (s : ℕ) (hs : s < 8)
    (h : ∀ a : Fin 3, (![s, 0, 0] : Fin 3 → ℕ) a + Cert.SmallIdeal.S1x8x1024.size a ≤ Cert.SmallIdeal.S8x8x1024.size a) (j : Cert.SmallIdeal.S8x1024.Idx) :
    shapeCast Cert.SmallIdeal.S8x1024 (View.ld x (Rect.unit (s := Cert.SmallIdeal.S8x8x1024) ![s, 0, 0] Cert.SmallIdeal.S1x8x1024.size h))
      shapeCasts_S1x8x1024_S8x1024 j = x (idx_main_v0 j ⟨s, hs⟩) := by
  refine (shapeCast_apply (s := Cert.SmallIdeal.S1x8x1024) _ shapeCasts_S1x8x1024_S8x1024 j (ValueIdx.ix3 0 (j 0) (j 1)) ?_).trans ?_
  · rw [Shape.rowMajor_val_two, Shape.rowMajor_val_three]
    show (0 * 8 + (j 0).val) * 1024 + (j 1).val = (j 0).val * 1024 + (j 1).val
    rw [Nat.zero_mul, Nat.zero_add]
  · show x _ = x _
    refine congrArg x (funext fun a => Fin.ext ?_)
    match a with
    | ⟨0, _⟩ => rfl
    | ⟨1, _⟩ => exact (Nat.zero_add _).trans (Nat.one_mul _)
    | ⟨2, _⟩ => exact (Nat.zero_add _).trans (Nat.one_mul _)

/-- The rows added up one by one are their sum. -/
theorem total_eq (x : Gath) : (total (F := Ideal) x : Rows) = val_main_v0 (F := Ideal) x := by
  funext j
  rw [val_main_v0_apply, val_main_cst_apply, Fin.sum_univ_eight]
  refine Eq.trans ?_ (congrArg (· + _) Ideal.ofBits_zero_f32.symm)
  rw [zero_add]
  unfold total k0_pay2
  show _ + _ + _ + _ + _ + _ + _ + _ = _
  rw [sheet x 0 (by decide), sheet x 1 (by decide), sheet x 2 (by decide), sheet x 3 (by decide), sheet x 4 (by decide),
    sheet x 5 (by decide), sheet x 6 (by decide), sheet x 7 (by decide)]
  rfl

theorem loss (x : Gath) : lossRow (F := Ideal) x = val_main_v48 (F := Ideal) x := by
  unfold lossRow val_main_v48
  rw [total_eq]

theorem norm1 (x : Gath) : k0_pay5 (F := Ideal) (total (F := Ideal) x) = val_main_v44 (F := Ideal) x := by
  unfold k0_pay5 val_main_v44
  rw [total_eq]

theorem norm2 (x : Gath) : k0_pay6 (F := Ideal) (total (F := Ideal) x) = val_main_v45 (F := Ideal) x := by
  unfold k0_pay6 val_main_v45
  rw [total_eq]

theorem finalNorm (x : Gath) : k0_pay7 (F := Ideal) (total (F := Ideal) x) = val_main_v46 (F := Ideal) x := by
  unfold k0_pay7 val_main_v46
  rw [total_eq]

theorem gateNorm (x : Gath) : k0_pay9 (F := Ideal) (total (F := Ideal) x) = val_main_v47 (F := Ideal) x := by
  unfold k0_pay9 val_main_v47
  rw [total_eq]

/-! ## The optimiser

The small parameters' new moments and updates, as the reference writes them, are the call's at the same gradient. -/

theorem delta0 (x : Gath) (w m v : FVec Ideal Cert.SmallIdeal.S1x1024 .f32) :
    step w (mean1 m (val_main_v44 (F := Ideal) x)) (mean2 v (val_main_v44 (F := Ideal) x)) = val_main_v72 (F := Ideal) x w m v := rfl
theorem first0 (x : Gath) (m : FVec Ideal Cert.SmallIdeal.S1x1024 .f32) :
    mean1 m (val_main_v44 (F := Ideal) x) = val_main_v53 (F := Ideal) x m := rfl
theorem second0 (x : Gath) (v : FVec Ideal Cert.SmallIdeal.S1x1024 .f32) :
    mean2 v (val_main_v44 (F := Ideal) x) = val_main_v59 (F := Ideal) x v := rfl

theorem delta1 (x : Gath) (w m v : FVec Ideal Cert.SmallIdeal.S1x1024 .f32) :
    step w (mean1 m (val_main_v45 (F := Ideal) x)) (mean2 v (val_main_v45 (F := Ideal) x)) = val_main_v96 (F := Ideal) x w m v := rfl
theorem first1 (x : Gath) (m : FVec Ideal Cert.SmallIdeal.S1x1024 .f32) :
    mean1 m (val_main_v45 (F := Ideal) x) = val_main_v77 (F := Ideal) x m := rfl
theorem second1 (x : Gath) (v : FVec Ideal Cert.SmallIdeal.S1x1024 .f32) :
    mean2 v (val_main_v45 (F := Ideal) x) = val_main_v83 (F := Ideal) x v := rfl

theorem delta2 (x : Gath) (w m v : FVec Ideal Cert.SmallIdeal.S1x1024 .f32) :
    step w (mean1 m (val_main_v46 (F := Ideal) x)) (mean2 v (val_main_v46 (F := Ideal) x)) = val_main_v120 (F := Ideal) x w m v := rfl
theorem first2 (x : Gath) (m : FVec Ideal Cert.SmallIdeal.S1x1024 .f32) :
    mean1 m (val_main_v46 (F := Ideal) x) = val_main_v101 (F := Ideal) x m := rfl
theorem second2 (x : Gath) (v : FVec Ideal Cert.SmallIdeal.S1x1024 .f32) :
    mean2 v (val_main_v46 (F := Ideal) x) = val_main_v107 (F := Ideal) x v := rfl

theorem delta4 (x : Gath) (w m v : FVec Ideal Cert.SmallIdeal.S1x512 .f32) :
    step w (mean1 m (val_main_v47 (F := Ideal) x)) (mean2 v (val_main_v47 (F := Ideal) x)) = val_main_v168 (F := Ideal) x w m v := rfl
theorem first4 (x : Gath) (m : FVec Ideal Cert.SmallIdeal.S1x512 .f32) :
    mean1 m (val_main_v47 (F := Ideal) x) = val_main_v149 (F := Ideal) x m := rfl
theorem second4 (x : Gath) (v : FVec Ideal Cert.SmallIdeal.S1x512 .f32) :
    mean2 v (val_main_v47 (F := Ideal) x) = val_main_v155 (F := Ideal) x v := rfl

theorem delta3 (x : Gath) (w m v : FVec Ideal Cert.SmallIdeal.S2x512 .f32) :
    step w (mean1 m (val_main_v43 (F := Ideal) x w)) (mean2 v (val_main_v43 (F := Ideal) x w)) = val_main_v144 (F := Ideal) x w m v := rfl
theorem first3 (x : Gath) (w m : FVec Ideal Cert.SmallIdeal.S2x512 .f32) :
    mean1 m (val_main_v43 (F := Ideal) x w) = val_main_v125 (F := Ideal) x w m := rfl
theorem second3 (x : Gath) (w v : FVec Ideal Cert.SmallIdeal.S2x512 .f32) :
    mean2 v (val_main_v43 (F := Ideal) x w) = val_main_v131 (F := Ideal) x w v := rfl

/-! ## The lower bound's gradient -/

/-- The derivative of the first share of two logits, taken by the first logit: the softmax's derivative is the logistic
    function's. -/
theorem share {t z w : ℝ} :
    (t / (Real.exp z + Real.exp w) + -(t * (1 / ((Real.exp z + Real.exp w) * (Real.exp z + Real.exp w))) * Real.exp z)) * Real.exp z
      = t * (1 / (1 + Real.exp (-(z - w)))) * (1 - 1 / (1 + Real.exp (-(z - w)))) := by
  have e : Real.exp (-(z - w)) = Real.exp w / Real.exp z := by rw [← Real.exp_sub]; congr 1; ring
  have p := Real.exp_pos z
  have q := Real.exp_pos w
  rw [e]
  generalize Real.exp z = a at *
  generalize Real.exp w = b at *
  have h1 : a + b ≠ 0 := (add_pos p q).ne'
  have h2 : a ≠ 0 := p.ne'
  have h3 : 1 + b / a = (a + b) / a := by field_simp
  rw [h3]
  field_simp
  ring

/-- … and by the second. -/
theorem otherShare {t z w : ℝ} :
    (0 / (Real.exp z + Real.exp w) + -(t * (1 / ((Real.exp z + Real.exp w) * (Real.exp z + Real.exp w))) * Real.exp z)) * Real.exp w
      = 0 - t * (1 / (1 + Real.exp (-(z - w)))) * (1 - 1 / (1 + Real.exp (-(z - w)))) := by
  have e : Real.exp (-(z - w)) = Real.exp w / Real.exp z := by rw [← Real.exp_sub]; congr 1; ring
  have p := Real.exp_pos z
  have q := Real.exp_pos w
  rw [e]
  generalize Real.exp z = a at *
  generalize Real.exp w = b at *
  have h1 : a + b ≠ 0 := (add_pos p q).ne'
  have h2 : a ≠ 0 := p.ne'
  have h3 : 1 + b / a = (a + b) / a := by field_simp
  rw [h3]
  field_simp
  ring

theorem sigmoid_coe (r : ℝ) : sigmoid (r : EReal) = ((1 / (1 + Real.exp (-r)) : ℝ) : EReal) := by
  have e : (1 : EReal) + Ideal.exp (-(r : EReal)) = ((1 + Real.exp (-r) : ℝ) : EReal) := by
    rw [← EReal.coe_neg]
    show ((1 : ℝ) : EReal) + ((Real.exp (-r) : ℝ) : EReal) = _
    rw [← EReal.coe_add]
  unfold sigmoid
  rw [e, ← EReal.coe_one, div_coe]
  exact (by positivity : (0 : ℝ) < 1 + Real.exp (-r)).ne'

theorem read2 {n k : ℕ} (A : (⟨2, ![n, k]⟩ : Shape).Idx → EReal) (x : (⟨2, ![n, k]⟩ : Shape).Idx) (i j : ℕ)
    (h0 : (x 0).val = i) (h1 : (x 1).val = j) : A x = at2 A i j := by
  subst h0 h1
  exact eq_at2 A x

section Call

variable (s : Rows) (l : Logits)

/-- The logistic function's derivative by its argument, carried back from the sum's third row. -/
def slope (j : ℕ) : EReal :=
  at2 s 3 j * logistic (at2 l 0 j - at2 l 1 j) * (Ideal.ofBits .f32 0x3F800000#32 - logistic (at2 l 0 j - at2 l 1 j))

theorem difference (j : Cert.SmallIdeal.S1x512.Idx) :
    k0_pay4 (F := Ideal)
      (View.ld (l : Vec Ideal Cert.SmallIdeal.S2x512 .f32) (Rect.unit (s := Cert.SmallIdeal.S2x512) ![0, 0] Cert.SmallIdeal.S1x512.size inb_S2x512_S1x512_0_0))
      (View.ld (l : Vec Ideal Cert.SmallIdeal.S2x512 .f32) (Rect.unit (s := Cert.SmallIdeal.S2x512) ![1, 0] Cert.SmallIdeal.S1x512.size inb_S2x512_S1x512_1_0)) j
      = at2 l 0 (j 1).val - at2 l 1 (j 1).val := by
  have h0 : (j 0).val = 0 := Nat.lt_one_iff.1 (j 0).isLt
  have h1 : (j 1).val < 512 := (j 1).isLt
  unfold k0_pay4
  show l _ - l _ = _
  refine congrArg₂ (· - ·) ?_ ?_
  · refine read2 l _ 0 (j 1).val ?_ ?_
    · show 0 + 1 * (j 0).val = 0
      rw [h0]
    · exact (Nat.zero_add _).trans (Nat.one_mul _)
  · refine read2 l _ 1 (j 1).val ?_ ?_
    · show 1 + 1 * (j 0).val = 1
      rw [h0]
    · exact (Nat.zero_add _).trans (Nat.one_mul _)

/-- The slope, spread over the two rows. -/
theorem slopeRow (v : FVec Ideal Cert.SmallIdeal.S1x512 .f32) (x : Cert.SmallIdeal.S2x512.Idx) :
    broadcastTo Cert.SmallIdeal.S2x512 (shapeCast Cert.SmallIdeal.S1x512 v shapeCasts_S1x512_S1x512) broadcasts_S1x512_S2x512 x
      = v (ValueIdx.ix2 0 (x 1)) := by
  rw [shapeCast_self]
  exact broadcastTo_apply v broadcasts_S1x512_S2x512 x (ValueIdx.ix2 0 (x 1)) fun a => match a with
    | ⟨0, _⟩ => rfl
    | ⟨1, _⟩ => rfl

theorem bound_apply (x : Cert.SmallIdeal.S2x512.Idx) :
    bound (F := Ideal) s l x = if (x 0).val = 0 then slope s l (x 1).val else 0 - slope s l (x 1).val := by
  have hx : (x 0).val < 2 := (x 0).isLt
  have e : extractStridedSlice Cert.SmallIdeal.S1x512 ![3, 0] (s : FVec Ideal Cert.SmallIdeal.S8x1024 .f32) slices_S8x1024_o3_0_S1x512
      (ValueIdx.ix2 0 (x 1)) = at2 s 3 (x 1).val := by
    refine read2 s _ 3 (x 1).val rfl ?_
    exact Nat.zero_add _
  unfold bound k0_pay8
  dsimp only
  rw [select_apply, slopeRow, slopeRow]
  change Scalar.select (Scalar.cmpi .eq (BitVec.ofNat 32 (0 * 2 + (x 0).val)) 0#32)
    (_ * (half * Ideal.tanh (half * _) + half) * (_ - (half * Ideal.tanh (half * _) + half)))
    (_ - _ * (half * Ideal.tanh (half * _) + half) * (_ - (half * Ideal.tanh (half * _) + half))) = _
  rw [e, difference]
  rcases (by omega : (x 0).val = 0 ∨ (x 0).val = 1) with h | h
  · rw [h, if_pos rfl]
    rfl
  · rw [h, if_neg Nat.one_ne_zero]
    exact congrArg (· - _) Ideal.ofBits_zero_f32

end Call

/-! ## The reference's softmax and its derivative -/

theorem negInf : Ideal.ofBits .f32 0xFF800000#32 = (⊥ : EReal) := by simp [Ideal.ofBits, Ideal.ieee]

theorem IsReal.max {x y : EReal} (hx : IsReal x) (hy : IsReal y) : IsReal (max x y) := by
  rcases le_total x y with h | h
  · rwa [max_eq_right h]
  · rwa [max_eq_left h]

/-- The maximum of two real numbers, folded from minus infinity, is a real number. -/
theorem fold_real {b : EReal} (hb : b = ⊥) (f : Fin 2 → EReal) (h : ∀ k, IsReal (f k)) :
    IsReal (max b (Finset.fold max b f (Finset.univ : Finset (Fin 2)))) := by
  have e : (Finset.univ : Finset (Fin 2)) = {0, 1} := rfl
  rw [e, Finset.fold_insert (by decide), Finset.fold_singleton, hb, max_bot_left, max_bot_right]
  exact IsReal.max (h 0) (h 1)

section Reference

variable (g : Gath) (l : Logits)

/-- The larger of a column's two logits, as the reference takes it. -/
def top (j : Fin 512) : EReal := val_main_v8 (F := Ideal) l (ValueIdx.ix1 j)

theorem top_real (hl : ∀ i, IsReal (l i)) (j : Fin 512) : IsReal (top l j) := by
  unfold top
  rw [val_main_v8_apply, val_main_v7_apply, val_main_cst_2_apply]
  unfold val_main_v1
  rw [Host.reduce_eq_fold_single FloatOps.maximumf _ _ Cert.SmallRefIdeal.Gen.reducesTo_S2x512_S512_d0 (by decide) Cert.SmallRefIdeal.Gen.h_S_]
  exact fold_real negInf _ fun _ => hl _

/-- The exponentials of a column. -/
def ex (j : Fin 512) (r : Fin 2) : EReal := Ideal.exp (l (ValueIdx.ix2 r j) - top l j)

theorem exps (x : Cert.SmallRefIdeal.S2x512.Idx) : val_main_v21 (F := Ideal) l x = ex l (x 1) (x 0) := by
  rw [val_main_v21_apply, val_main_v20_apply, val_main_v19_apply, val_main_v18_apply]
  show Ideal.exp (l x - val_main_v8 (F := Ideal) l _) = _
  unfold ex top
  refine congrArg Ideal.exp (congrArg₂ (· - ·) (congrArg l (funext fun a => ?_)) (congrArg _ (funext fun a => ?_)))
  · match a with
    | ⟨0, _⟩ => rfl
    | ⟨1, _⟩ => rfl
  · match a with
    | ⟨0, _⟩ => rfl

theorem denominator (i : Cert.SmallRefIdeal.S512.Idx) : val_main_v22 (F := Ideal) l i = ex l (i 0) 0 + ex l (i 0) 1 := by
  rw [val_main_v22_apply, val_main_cst_8_apply, Fin.sum_univ_two, exps, exps]
  exact (congrArg (· + _) Ideal.ofBits_zero_f32).trans (zero_add _)

theorem denominatorRow (i : Cert.SmallRefIdeal.S1x512.Idx) : val_main_v23 (F := Ideal) l i = ex l (i 1) 0 + ex l (i 1) 1 := by
  rw [val_main_v23_apply, denominator]
  rfl

theorem inverseSquare (i : Cert.SmallRefIdeal.S1x512.Idx) : val_main_v28 (F := Ideal) l i
    = Ideal.div 1 ((ex l (i 1) 0 + ex l (i 1) 1) * (ex l (i 1) 0 + ex l (i 1) 1)) := by
  rw [val_main_v28_apply, val_main_v27_apply, val_main_cst_9_apply, val_main_v26_apply, denominatorRow]
  exact congrArg (Ideal.div · _) Ideal.ofBits_one_f32

/-- The gradient of the first share, laid over the two rows. -/
theorem shares (x : Cert.SmallRefIdeal.S2x512.Idx) :
    val_main_v31 (F := Ideal) g x = if (x 0).val = 0 then at2 (val_main_v0 (F := Ideal) g : Rows) 3 (x 1).val else 0 := by
  have hx : (x 0).val < 2 := (x 0).isLt
  rcases (by omega : (x 0).val = 0 ∨ (x 0).val = 1) with h | h
  · rw [if_pos h]
    unfold val_main_v31
    refine (pad_apply_of_inside _ _ _ _ _ Cert.SmallRefIdeal.Gen.pads_S1x512_S2x512_010_000 Cert.SmallRefIdeal.Gen.h_S_ x (ValueIdx.ix2 0 (x 1))
      fun a => ?_).trans ?_
    · match a with
      | ⟨0, _⟩ => exact h
      | ⟨1, _⟩ => exact ((Nat.zero_add _).trans (Nat.mul_one _)).symm
    · refine (val_main_v30_apply (F := Ideal) g (ValueIdx.ix2 (n0 := 1) (n1 := 512) 0 (x 1))).trans ?_
      exact read2 (val_main_v0 (F := Ideal) g : Rows) _ 3 (x 1).val rfl rfl
  · rw [if_neg (by rw [h]; exact Nat.one_ne_zero)]
    unfold val_main_v31
    refine (pad_apply_of_not_inside _ _ _ _ _ Cert.SmallRefIdeal.Gen.pads_S1x512_S2x512_010_000 Cert.SmallRefIdeal.Gen.h_S_ x 0 ?_).trans
      Ideal.ofBits_zero_f32
    rintro ⟨_, _, h2⟩
    have h3 : ((x 0).val - 0) / 1 < 1 := h2
    rw [h] at h3
    exact absurd h3 (by decide)

theorem weighted (i : Cert.SmallRefIdeal.S512.Idx) : val_main_v35 (F := Ideal) g l i
    = at2 (val_main_v0 (F := Ideal) g : Rows) 3 (i 0).val
        * Ideal.div 1 ((ex l (i 0) 0 + ex l (i 0) 1) * (ex l (i 0) 0 + ex l (i 0) 1)) * ex l (i 0) 0
      + 0 * Ideal.div 1 ((ex l (i 0) 0 + ex l (i 0) 1) * (ex l (i 0) 0 + ex l (i 0) 1)) * ex l (i 0) 1 := by
  have term : ∀ k : Fin 2, val_main_v34 (F := Ideal) g l (idx_main_v35 i k)
      = (if k.val = 0 then at2 (val_main_v0 (F := Ideal) g : Rows) 3 (i 0).val else 0)
        * Ideal.div 1 ((ex l (i 0) 0 + ex l (i 0) 1) * (ex l (i 0) 0 + ex l (i 0) 1)) * ex l (i 0) k := fun k => by
    rw [val_main_v34_apply, val_main_v33_apply, val_main_v32_apply, inverseSquare, exps, shares]
    rfl
  rw [val_main_v35_apply, val_main_cst_11_apply, Fin.sum_univ_two, term, term]
  exact (congrArg (· + _) Ideal.ofBits_zero_f32).trans (zero_add _)

theorem weightedSum (i : Cert.SmallRefIdeal.S512.Idx) : val_main_v40 (F := Ideal) g l i = -val_main_v35 (F := Ideal) g l i := by
  rw [val_main_v40_apply, val_main_cst_12_apply, Fin.sum_univ_one, val_main_v37_apply, val_main_v36_apply]
  refine (congrArg (· + _) Ideal.ofBits_zero_f32).trans ((zero_add _).trans ?_)
  refine congrArg (fun y : Cert.SmallRefIdeal.S512.Idx => -val_main_v35 (F := Ideal) g l y) (funext fun a => Fin.ext ?_)
  match a with
  | ⟨0, _⟩ => exact (congrArg (· + _) (Nat.zero_mul _)).trans (Nat.zero_add _)

theorem boundRef (x : Cert.SmallRefIdeal.S2x512.Idx) : val_main_v43 (F := Ideal) g l x
    = (Ideal.div (if (x 0).val = 0 then at2 (val_main_v0 (F := Ideal) g : Rows) 3 (x 1).val else 0) (ex l (x 1) 0 + ex l (x 1) 1)
        + -(at2 (val_main_v0 (F := Ideal) g : Rows) 3 (x 1).val
            * Ideal.div 1 ((ex l (x 1) 0 + ex l (x 1) 1) * (ex l (x 1) 0 + ex l (x 1) 1)) * ex l (x 1) 0
          + 0 * Ideal.div 1 ((ex l (x 1) 0 + ex l (x 1) 1) * (ex l (x 1) 0 + ex l (x 1) 1)) * ex l (x 1) 1))
      * ex l (x 1) (x 0) := by
  rw [val_main_v43_apply, val_main_v42_apply, val_main_v39_apply, val_main_v41_apply, weightedSum, weighted, val_main_v38_apply,
    denominatorRow, shares, exps]
  rfl

variable (hg : ∀ i, IsReal (g i)) (hl : ∀ i, IsReal (l i))
include hg hl

/-- The lower bound's gradient is the call's. -/
theorem lower : bound (F := Ideal) (total (F := Ideal) g) l = val_main_v43 (F := Ideal) g l := by
  funext x
  have hx : (x 0).val < 2 := (x 0).isLt
  obtain ⟨M, hM⟩ := top_real l hl (x 1)
  obtain ⟨z, hz⟩ := isReal_at2 l hl 0 (x 1).val
  obtain ⟨w, hw⟩ := isReal_at2 l hl 1 (x 1).val
  have hs : ∀ y, IsReal ((val_main_v0 (F := Ideal) g : Rows) y) := fun y => by
    rw [val_main_v0_apply, val_main_cst_apply]
    exact (Ideal.ofBits_zero_f32 ▸ isReal_zero : IsReal (Ideal.ofBits .f32 0x00000000#32)).add (isReal_sum _ _ fun k _ => hg _)
  obtain ⟨t, ht⟩ := isReal_at2 (val_main_v0 (F := Ideal) g : Rows) hs 3 (x 1).val
  have e0 : ex l (x 1) 0 = ((Real.exp (z - M) : ℝ) : EReal) := by
    unfold ex
    rw [read2 l (ValueIdx.ix2 0 (x 1)) 0 (x 1).val rfl rfl, hz, hM, ← EReal.coe_sub]
    rfl
  have e1 : ex l (x 1) 1 = ((Real.exp (w - M) : ℝ) : EReal) := by
    unfold ex
    rw [read2 l (ValueIdx.ix2 1 (x 1)) 1 (x 1).val rfl rfl, hw, hM, ← EReal.coe_sub]
    rfl
  have hd : z - w = (z - M) - (w - M) := by ring
  have hne : Real.exp (z - M) + Real.exp (w - M) ≠ 0 := (add_pos (Real.exp_pos _) (Real.exp_pos _)).ne'
  have hne2 : (Real.exp (z - M) + Real.exp (w - M)) * (Real.exp (z - M) + Real.exp (w - M)) ≠ 0 := mul_ne_zero hne hne
  rw [bound_apply, boundRef, total_eq]
  unfold slope
  rw [hz, hw, ht, ← EReal.coe_sub, logistic_eq (isReal_coe _), sigmoid_coe, Ideal.ofBits_one_f32, e0, e1, ← EReal.coe_add,
    ← EReal.coe_mul (Real.exp (z - M) + Real.exp (w - M)) (Real.exp (z - M) + Real.exp (w - M)), ← EReal.coe_one, div_coe _ hne2, hd]
  rcases (by omega : (x 0).val = 0 ∨ (x 0).val = 1) with h | h
  · have hx0 : x 0 = (0 : Fin 2) := Fin.ext h
    rw [if_pos h, if_pos h, div_coe _ hne, hx0, e0, zero_mul, zero_mul, add_zero]
    simp only [← EReal.coe_mul, ← EReal.coe_sub, ← EReal.coe_add, ← EReal.coe_neg]
    exact congrArg _ share.symm
  · have hx0 : x 0 = (1 : Fin 2) := Fin.ext h
    have hn : ¬(x 0).val = 0 := by rw [h]; exact Nat.one_ne_zero
    rw [if_neg hn, if_neg hn, ← EReal.coe_zero, div_coe _ hne, hx0, e1]
    simp only [← EReal.coe_mul, ← EReal.coe_sub, ← EReal.coe_add, ← EReal.coe_neg]
    rw [zero_mul, zero_mul, add_zero]
    exact congrArg _ otherShare.symm

end Reference

end Step.SmallSum

end
-- ==== Proof.SmallValue.lean ====
/- The value of the call `Small`: the loss, the five small gradients, and the optimiser's results for them.

   There is one point and every block is a whole array, so an output ends holding what the body left there. -/
module

public import proofs.«01_k».proof.Defs
public import proofs.«01_k».proof.Proof.SmallRun
public import proofs.«01_k».proof.Proof.SmallSum
public import proofs.«01_k».proof.Proof.Gen.SmallRefIdeal.Run
public import proofs.«01_k».proof.Proof.Gen.SmallRefIdeal.Read
public import proofs.«01_k».proof.Proof.Gen.Pre_small_finite
public import Idealize.ShloMosaic.Lib.Pipeline.ValueKit.Geometry
public import proofs.«01_k».proof.Proof.Finite

@[expose] public section

set_option maxRecDepth 16384

noncomputable section

namespace Cert.SmallIdeal.Sum

open Cert.SmallIdeal Cert.SmallIdeal.Gen Idealize.ShloMosaic Idealize.ShloMosaic.TcCoe Idealize.ShloMosaic.ValueIdx Step Step.SmallRun

variable (m : (ℓ : Loc nD τ sig) → Buf (Elt Ideal) ℓ)

/-! ## Every input's block is its array -/

/-- The arguments. -/
def a0 (c : Dev nD) : Vec Ideal S8x8x1024 .f32 := m ((c.tc : Thread nD τ).loc main_arg0)
def a1 (c : Dev nD) : Vec Ideal S1x1024 .f32 := m ((c.tc : Thread nD τ).loc main_arg1)
def a2 (c : Dev nD) : Vec Ideal S1x1024 .f32 := m ((c.tc : Thread nD τ).loc main_arg2)
def a3 (c : Dev nD) : Vec Ideal S1x1024 .f32 := m ((c.tc : Thread nD τ).loc main_arg3)
def a4 (c : Dev nD) : Vec Ideal S1x1024 .f32 := m ((c.tc : Thread nD τ).loc main_arg4)
def a5 (c : Dev nD) : Vec Ideal S1x1024 .f32 := m ((c.tc : Thread nD τ).loc main_arg5)
def a6 (c : Dev nD) : Vec Ideal S1x1024 .f32 := m ((c.tc : Thread nD τ).loc main_arg6)
def a7 (c : Dev nD) : Vec Ideal S1x1024 .f32 := m ((c.tc : Thread nD τ).loc main_arg7)
def a8 (c : Dev nD) : Vec Ideal S1x1024 .f32 := m ((c.tc : Thread nD τ).loc main_arg8)
def a9 (c : Dev nD) : Vec Ideal S1x1024 .f32 := m ((c.tc : Thread nD τ).loc main_arg9)
def a10 (c : Dev nD) : Vec Ideal S2x512 .f32 := m ((c.tc : Thread nD τ).loc main_arg10)
def a11 (c : Dev nD) : Vec Ideal S2x512 .f32 := m ((c.tc : Thread nD τ).loc main_arg11)
def a12 (c : Dev nD) : Vec Ideal S2x512 .f32 := m ((c.tc : Thread nD τ).loc main_arg12)
def a13 (c : Dev nD) : Vec Ideal S1x512 .f32 := m ((c.tc : Thread nD τ).loc main_arg13)
def a14 (c : Dev nD) : Vec Ideal S1x512 .f32 := m ((c.tc : Thread nD τ).loc main_arg14)
def a15 (c : Dev nD) : Vec Ideal S1x512 .f32 := m ((c.tc : Thread nD τ).loc main_arg15)

theorem block0 (c : Dev nD) (t : Fin cfg0.N) : b0 m c t = a0 m c := by
  funext y
  refine congrArg (a0 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)
  | ⟨2, _⟩ => exact (congrArg (_ + ·) (Nat.one_mul _)).trans (Nat.zero_add _)

theorem block1 (c : Dev nD) (t : Fin cfg0.N) : b1 m c t = a1 m c := by
  funext y
  refine congrArg (a1 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block2 (c : Dev nD) (t : Fin cfg0.N) : b2 m c t = a2 m c := by
  funext y
  refine congrArg (a2 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block3 (c : Dev nD) (t : Fin cfg0.N) : b3 m c t = a3 m c := by
  funext y
  refine congrArg (a3 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block4 (c : Dev nD) (t : Fin cfg0.N) : b4 m c t = a4 m c := by
  funext y
  refine congrArg (a4 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block5 (c : Dev nD) (t : Fin cfg0.N) : b5 m c t = a5 m c := by
  funext y
  refine congrArg (a5 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block6 (c : Dev nD) (t : Fin cfg0.N) : b6 m c t = a6 m c := by
  funext y
  refine congrArg (a6 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block7 (c : Dev nD) (t : Fin cfg0.N) : b7 m c t = a7 m c := by
  funext y
  refine congrArg (a7 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block8 (c : Dev nD) (t : Fin cfg0.N) : b8 m c t = a8 m c := by
  funext y
  refine congrArg (a8 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block9 (c : Dev nD) (t : Fin cfg0.N) : b9 m c t = a9 m c := by
  funext y
  refine congrArg (a9 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block10 (c : Dev nD) (t : Fin cfg0.N) : b10 m c t = a10 m c := by
  funext y
  refine congrArg (a10 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block11 (c : Dev nD) (t : Fin cfg0.N) : b11 m c t = a11 m c := by
  funext y
  refine congrArg (a11 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block12 (c : Dev nD) (t : Fin cfg0.N) : b12 m c t = a12 m c := by
  funext y
  refine congrArg (a12 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block13 (c : Dev nD) (t : Fin cfg0.N) : b13 m c t = a13 m c := by
  funext y
  refine congrArg (a13 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block14 (c : Dev nD) (t : Fin cfg0.N) : b14 m c t = a14 m c := by
  funext y
  refine congrArg (a14 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem block15 (c : Dev nD) (t : Fin cfg0.N) : b15 m c t = a15 m c := by
  funext y
  refine congrArg (a15 m c) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

/-! ## What every output ends holding -/

def out0 (c : Dev nD) : FVec Ideal S1x128 .f32 := lossRow (a0 m c)
theorem final0 (c : Dev nD) : (dats m 0 c).arrAt 16 cfg0.N = out0 m c := by
  refine (dats m 0 c).arrAt_eq_of_after_last 16 t0_0 (by decide +kernel) _ fun j => ?_
  unfold out0
  rw [← block0 m c t0_0]
  rfl

def out1 (c : Dev nD) : FVec Ideal S1x1024 .f32 := k0_pay5 (total (a0 m c))
theorem final1 (c : Dev nD) : (dats m 0 c).arrAt 17 cfg0.N = out1 m c := by
  refine (dats m 0 c).arrAt_eq_of_after_last 17 t0_0 (by decide +kernel) _ fun j => ?_
  unfold out1
  rw [← block0 m c t0_0]
  rfl

def out2 (c : Dev nD) : FVec Ideal S1x1024 .f32 := step (a1 m c) (mean1 (a2 m c) (k0_pay5 (total (a0 m c)))) (mean2 (a3 m c) (k0_pay5 (total (a0 m c))))
theorem final2 (c : Dev nD) : (dats m 0 c).arrAt 18 cfg0.N = out2 m c := by
  refine (dats m 0 c).arrAt_eq_of_after_last 18 t0_0 (by decide +kernel) _ fun j => ?_
  unfold out2
  rw [← block0 m c t0_0, ← block1 m c t0_0, ← block2 m c t0_0, ← block3 m c t0_0]
  rfl

def out3 (c : Dev nD) : FVec Ideal S1x1024 .f32 := mean1 (a2 m c) (k0_pay5 (total (a0 m c)))
theorem final3 (c : Dev nD) : (dats m 0 c).arrAt 19 cfg0.N = out3 m c := by
  refine (dats m 0 c).arrAt_eq_of_after_last 19 t0_0 (by decide +kernel) _ fun j => ?_
  unfold out3
  rw [← block0 m c t0_0, ← block2 m c t0_0]
  rfl

def out4 (c : Dev nD) : FVec Ideal S1x1024 .f32 := mean2 (a3 m c) (k0_pay5 (total (a0 m c)))
theorem final4 (c : Dev nD) : (dats m 0 c).arrAt 20 cfg0.N = out4 m c := by
  refine (dats m 0 c).arrAt_eq_of_after_last 20 t0_0 (by decide +kernel) _ fun j => ?_
  unfold out4
  rw [← block0 m c t0_0, ← block3 m c t0_0]
  rfl

def out5 (c : Dev nD) : FVec Ideal S1x1024 .f32 := k0_pay6 (total (a0 m c))
theorem final5 (c : Dev nD) : (dats m 0 c).arrAt 21 cfg0.N = out5 m c := by
  refine (dats m 0 c).arrAt_eq_of_after_last 21 t0_0 (by decide +kernel) _ fun j => ?_
  unfold out5
  rw [← block0 m c t0_0]
  rfl

def out6 (c : Dev nD) : FVec Ideal S1x1024 .f32 := step (a4 m c) (mean1 (a5 m c) (k0_pay6 (total (a0 m c)))) (mean2 (a6 m c) (k0_pay6 (total (a0 m c))))
theorem final6 (c : Dev nD) : (dats m 0 c).arrAt 22 cfg0.N = out6 m c := by
  refine (dats m 0 c).arrAt_eq_of_after_last 22 t0_0 (by decide +kernel) _ fun j => ?_
  unfold out6
  rw [← block0 m c t0_0, ← block4 m c t0_0, ← block5 m c t0_0, ← block6 m c t0_0]
  rfl

def out7 (c : Dev nD) : FVec Ideal S1x1024 .f32 := mean1 (a5 m c) (k0_pay6 (total (a0 m c)))
theorem final7 (c : Dev nD) : (dats m 0 c).arrAt 23 cfg0.N = out7 m c := by
  refine (dats m 0 c).arrAt_eq_of_after_last 23 t0_0 (by decide +kernel) _ fun j => ?_
  unfold out7
  rw [← block0 m c t0_0, ← block5 m c t0_0]
  rfl

def out8 (c : Dev nD) : FVec Ideal S1x1024 .f32 := mean2 (a6 m c) (k0_pay6 (total (a0 m c)))
theorem final8 (c : Dev nD) : (dats m 0 c).arrAt 24 cfg0.N = out8 m c := by
  refine (dats m 0 c).arrAt_eq_of_after_last 24 t0_0 (by decide +kernel) _ fun j => ?_
  unfold out8
  rw [← block0 m c t0_0, ← block6 m c t0_0]
  rfl

def out9 (c : Dev nD) : FVec Ideal S1x1024 .f32 := k0_pay7 (total (a0 m c))
theorem final9 (c : Dev nD) : (dats m 0 c).arrAt 25 cfg0.N = out9 m c := by
  refine (dats m 0 c).arrAt_eq_of_after_last 25 t0_0 (by decide +kernel) _ fun j => ?_
  unfold out9
  rw [← block0 m c t0_0]
  rfl

def out10 (c : Dev nD) : FVec Ideal S1x1024 .f32 := step (a7 m c) (mean1 (a8 m c) (k0_pay7 (total (a0 m c)))) (mean2 (a9 m c) (k0_pay7 (total (a0 m c))))
theorem final10 (c : Dev nD) : (dats m 0 c).arrAt 26 cfg0.N = out10 m c := by
  refine (dats m 0 c).arrAt_eq_of_after_last 26 t0_0 (by decide +kernel) _ fun j => ?_
  unfold out10
  rw [← block0 m c t0_0, ← block7 m c t0_0, ← block8 m c t0_0, ← block9 m c t0_0]
  rfl

def out11 (c : Dev nD) : FVec Ideal S1x1024 .f32 := mean1 (a8 m c) (k0_pay7 (total (a0 m c)))
theorem final11 (c : Dev nD) : (dats m 0 c).arrAt 27 cfg0.N = out11 m c := by
  refine (dats m 0 c).arrAt_eq_of_after_last 27 t0_0 (by decide +kernel) _ fun j => ?_
  unfold out11
  rw [← block0 m c t0_0, ← block8 m c t0_0]
  rfl

def out12 (c : Dev nD) : FVec Ideal S1x1024 .f32 := mean2 (a9 m c) (k0_pay7 (total (a0 m c)))
theorem final12 (c : Dev nD) : (dats m 0 c).arrAt 28 cfg0.N = out12 m c := by
  refine (dats m 0 c).arrAt_eq_of_after_last 28 t0_0 (by decide +kernel) _ fun j => ?_
  unfold out12
  rw [← block0 m c t0_0, ← block9 m c t0_0]
  rfl

def out13 (c : Dev nD) : FVec Ideal S2x512 .f32 := bound (total (a0 m c)) (a10 m c)
theorem final13 (c : Dev nD) : (dats m 0 c).arrAt 29 cfg0.N = out13 m c := by
  refine (dats m 0 c).arrAt_eq_of_after_last 29 t0_0 (by decide +kernel) _ fun j => ?_
  unfold out13
  rw [← block0 m c t0_0, ← block10 m c t0_0]
  rfl

def out14 (c : Dev nD) : FVec Ideal S2x512 .f32 := step (a10 m c) (mean1 (a11 m c) (bound (total (a0 m c)) (a10 m c))) (mean2 (a12 m c) (bound (total (a0 m c)) (a10 m c)))
theorem final14 (c : Dev nD) : (dats m 0 c).arrAt 30 cfg0.N = out14 m c := by
  refine (dats m 0 c).arrAt_eq_of_after_last 30 t0_0 (by decide +kernel) _ fun j => ?_
  unfold out14
  rw [← block0 m c t0_0, ← block10 m c t0_0, ← block11 m c t0_0, ← block12 m c t0_0]
  rfl

def out15 (c : Dev nD) : FVec Ideal S2x512 .f32 := mean1 (a11 m c) (bound (total (a0 m c)) (a10 m c))
theorem final15 (c : Dev nD) : (dats m 0 c).arrAt 31 cfg0.N = out15 m c := by
  refine (dats m 0 c).arrAt_eq_of_after_last 31 t0_0 (by decide +kernel) _ fun j => ?_
  unfold out15
  rw [← block0 m c t0_0, ← block10 m c t0_0, ← block11 m c t0_0]
  rfl

def out16 (c : Dev nD) : FVec Ideal S2x512 .f32 := mean2 (a12 m c) (bound (total (a0 m c)) (a10 m c))
theorem final16 (c : Dev nD) : (dats m 0 c).arrAt 32 cfg0.N = out16 m c := by
  refine (dats m 0 c).arrAt_eq_of_after_last 32 t0_0 (by decide +kernel) _ fun j => ?_
  unfold out16
  rw [← block0 m c t0_0, ← block10 m c t0_0, ← block12 m c t0_0]
  rfl

def out17 (c : Dev nD) : FVec Ideal S1x512 .f32 := k0_pay9 (total (a0 m c))
theorem final17 (c : Dev nD) : (dats m 0 c).arrAt 33 cfg0.N = out17 m c := by
  refine (dats m 0 c).arrAt_eq_of_after_last 33 t0_0 (by decide +kernel) _ fun j => ?_
  unfold out17
  rw [← block0 m c t0_0]
  rfl

def out18 (c : Dev nD) : FVec Ideal S1x512 .f32 := step (a13 m c) (mean1 (a14 m c) (k0_pay9 (total (a0 m c)))) (mean2 (a15 m c) (k0_pay9 (total (a0 m c))))
theorem final18 (c : Dev nD) : (dats m 0 c).arrAt 34 cfg0.N = out18 m c := by
  refine (dats m 0 c).arrAt_eq_of_after_last 34 t0_0 (by decide +kernel) _ fun j => ?_
  unfold out18
  rw [← block0 m c t0_0, ← block13 m c t0_0, ← block14 m c t0_0, ← block15 m c t0_0]
  rfl

def out19 (c : Dev nD) : FVec Ideal S1x512 .f32 := mean1 (a14 m c) (k0_pay9 (total (a0 m c)))
theorem final19 (c : Dev nD) : (dats m 0 c).arrAt 35 cfg0.N = out19 m c := by
  refine (dats m 0 c).arrAt_eq_of_after_last 35 t0_0 (by decide +kernel) _ fun j => ?_
  unfold out19
  rw [← block0 m c t0_0, ← block14 m c t0_0]
  rfl

def out20 (c : Dev nD) : FVec Ideal S1x512 .f32 := mean2 (a15 m c) (k0_pay9 (total (a0 m c)))
theorem final20 (c : Dev nD) : (dats m 0 c).arrAt 36 cfg0.N = out20 m c := by
  refine (dats m 0 c).arrAt_eq_of_after_last 36 t0_0 (by decide +kernel) _ fun j => ?_
  unfold out20
  rw [← block0 m c t0_0, ← block15 m c t0_0]
  rfl

end Cert.SmallIdeal.Sum

namespace Cert.Proof

open Idealize.ShloMosaic Idealize.ShloMosaic.TcCoe Idealize.ShloMosaic.ValueIdx Step Step.SmallSum
open Cert.SmallIdeal.Sum Cert.SmallRefIdeal.Read Step.SmallRun

set_option maxHeartbeats 4000000 in
/-- Over the reals, from finite gathered rows and finite logits of the lower bound, the small update's twenty-one results
    are the reference's. -/
theorem algebraic_Small [Cert.SmallIdeal.Facts] [Cert.SmallRefIdeal.Facts] [Cert.Pre_small_finite.Facts] :
    algebraic_SmallIdeal_SmallRefIdeal_pre_small_finite := by
  intro m ρ m' ρ' hpre hagree
  refine ⟨fun c => out0 m c, fun c => out1 m c, fun c => out2 m c, fun c => out3 m c, fun c => out4 m c, fun c => out5 m c, fun c => out6 m c, fun c => out7 m c, fun c => out8 m c, fun c => out9 m c, fun c => out10 m c, fun c => out11 m c, fun c => out12 m c, fun c => out13 m c, fun c => out14 m c, fun c => out15 m c, fun c => out16 m c, fun c => out17 m c, fun c => out18 m c, fun c => out19 m c, fun c => out20 m c,
    (θ_run Cert.SmallIdeal.defs _ _).mono (fun _ h c => ⟨((h c).1 16).trans (final0 m c), ((h c).1 17).trans (final1 m c), ((h c).1 18).trans (final2 m c), ((h c).1 19).trans (final3 m c), ((h c).1 20).trans (final4 m c), ((h c).1 21).trans (final5 m c), ((h c).1 22).trans (final6 m c), ((h c).1 23).trans (final7 m c), ((h c).1 24).trans (final8 m c), ((h c).1 25).trans (final9 m c), ((h c).1 26).trans (final10 m c), ((h c).1 27).trans (final11 m c), ((h c).1 28).trans (final12 m c), ((h c).1 29).trans (final13 m c), ((h c).1 30).trans (final14 m c), ((h c).1 31).trans (final15 m c), ((h c).1 32).trans (final16 m c), ((h c).1 33).trans (final17 m c), ((h c).1 34).trans (final18 m c), ((h c).1 35).trans (final19 m c), ((h c).1 36).trans (final20 m c), (h c).2⟩)
      (Step.SmallRun.run_blocks (F := Ideal) m ρ), ?_⟩
  refine (θ_run Cert.SmallRefIdeal.defs _ _).mono (fun _ h c => ⟨?_, ?_, ?_, ?_, ?_, ?_, ?_, ?_, ?_, ?_, ?_, ?_, ?_, ?_, ?_, ?_, ?_, ?_, ?_, ?_, ?_, (h c).2.2.2.2.2.2.2.2.2.2.2.2.2.2.2.2.2.2.2.2.2⟩)
    (Cert.SmallRefIdeal.Value.run (F := Ideal) m' ρ')
  all_goals
    obtain ⟨e0, e1, e2, e3, e4, e5, e6, e7, e8, e9, e10, e11, e12, e13, e14, e15⟩ := hagree c
    obtain ⟨p0, p1⟩ := hpre c
  · exact ((h c).1.trans (val_main_v48_eq ..)).trans ((congrArg (val_main_v48 (F := Ideal)) e0).trans
      (loss _).symm)
  · exact ((h c).2.1.trans (val_main_v44_eq ..)).trans ((congrArg (val_main_v44 (F := Ideal)) e0).trans
      (norm1 _).symm)
  · exact ((h c).2.2.1.trans (val_main_v72_eq ..)).trans ((congr (congr (congr (congrArg (val_main_v72 (F := Ideal)) e0) e1) e2) e3).trans
      ((congrArg (fun g => step _ (mean1 _ g) (mean2 _ g)) (norm1 _)).trans (delta0 _ _ _ _)).symm)
  · exact ((h c).2.2.2.1.trans (val_main_v53_eq ..)).trans ((congr (congrArg (val_main_v53 (F := Ideal)) e0) e2).trans
      ((congrArg (mean1 _) (norm1 _)).trans (first0 _ _)).symm)
  · exact ((h c).2.2.2.2.1.trans (val_main_v59_eq ..)).trans ((congr (congrArg (val_main_v59 (F := Ideal)) e0) e3).trans
      ((congrArg (mean2 _) (norm1 _)).trans (second0 _ _)).symm)
  · exact ((h c).2.2.2.2.2.1.trans (val_main_v45_eq ..)).trans ((congrArg (val_main_v45 (F := Ideal)) e0).trans
      (norm2 _).symm)
  · exact ((h c).2.2.2.2.2.2.1.trans (val_main_v96_eq ..)).trans ((congr (congr (congr (congrArg (val_main_v96 (F := Ideal)) e0) e4) e5) e6).trans
      ((congrArg (fun g => step _ (mean1 _ g) (mean2 _ g)) (norm2 _)).trans (delta1 _ _ _ _)).symm)
  · exact ((h c).2.2.2.2.2.2.2.1.trans (val_main_v77_eq ..)).trans ((congr (congrArg (val_main_v77 (F := Ideal)) e0) e5).trans
      ((congrArg (mean1 _) (norm2 _)).trans (first1 _ _)).symm)
  · exact ((h c).2.2.2.2.2.2.2.2.1.trans (val_main_v83_eq ..)).trans ((congr (congrArg (val_main_v83 (F := Ideal)) e0) e6).trans
      ((congrArg (mean2 _) (norm2 _)).trans (second1 _ _)).symm)
  · exact ((h c).2.2.2.2.2.2.2.2.2.1.trans (val_main_v46_eq ..)).trans ((congrArg (val_main_v46 (F := Ideal)) e0).trans
      (finalNorm _).symm)
  · exact ((h c).2.2.2.2.2.2.2.2.2.2.1.trans (val_main_v120_eq ..)).trans ((congr (congr (congr (congrArg (val_main_v120 (F := Ideal)) e0) e7) e8) e9).trans
      ((congrArg (fun g => step _ (mean1 _ g) (mean2 _ g)) (finalNorm _)).trans (delta2 _ _ _ _)).symm)
  · exact ((h c).2.2.2.2.2.2.2.2.2.2.2.1.trans (val_main_v101_eq ..)).trans ((congr (congrArg (val_main_v101 (F := Ideal)) e0) e8).trans
      ((congrArg (mean1 _) (finalNorm _)).trans (first2 _ _)).symm)
  · exact ((h c).2.2.2.2.2.2.2.2.2.2.2.2.1.trans (val_main_v107_eq ..)).trans ((congr (congrArg (val_main_v107 (F := Ideal)) e0) e9).trans
      ((congrArg (mean2 _) (finalNorm _)).trans (second2 _ _)).symm)
  · exact ((h c).2.2.2.2.2.2.2.2.2.2.2.2.2.1.trans (val_main_v43_eq ..)).trans ((congr (congrArg (val_main_v43 (F := Ideal)) e0) e10).trans
      (lower _ _ (isReal_of_ones _ _ p0) (isReal_of_ones _ _ p1)).symm)
  · exact ((h c).2.2.2.2.2.2.2.2.2.2.2.2.2.2.1.trans (val_main_v144_eq ..)).trans ((congr (congr (congr (congrArg (val_main_v144 (F := Ideal)) e0) e10) e11) e12).trans
      ((congrArg (fun g => step _ (mean1 _ g) (mean2 _ g)) (lower _ _ (isReal_of_ones _ _ p0) (isReal_of_ones _ _ p1))).trans (delta3 _ _ _ _)).symm)
  · exact ((h c).2.2.2.2.2.2.2.2.2.2.2.2.2.2.2.1.trans (val_main_v125_eq ..)).trans ((congr (congr (congrArg (val_main_v125 (F := Ideal)) e0) e10) e11).trans
      ((congrArg (mean1 _) (lower _ _ (isReal_of_ones _ _ p0) (isReal_of_ones _ _ p1))).trans (first3 _ _ _)).symm)
  · exact ((h c).2.2.2.2.2.2.2.2.2.2.2.2.2.2.2.2.1.trans (val_main_v131_eq ..)).trans ((congr (congr (congrArg (val_main_v131 (F := Ideal)) e0) e10) e12).trans
      ((congrArg (mean2 _) (lower _ _ (isReal_of_ones _ _ p0) (isReal_of_ones _ _ p1))).trans (second3 _ _ _)).symm)
  · exact ((h c).2.2.2.2.2.2.2.2.2.2.2.2.2.2.2.2.2.1.trans (val_main_v47_eq ..)).trans ((congrArg (val_main_v47 (F := Ideal)) e0).trans
      (gateNorm _).symm)
  · exact ((h c).2.2.2.2.2.2.2.2.2.2.2.2.2.2.2.2.2.2.1.trans (val_main_v168_eq ..)).trans ((congr (congr (congr (congrArg (val_main_v168 (F := Ideal)) e0) e13) e14) e15).trans
      ((congrArg (fun g => step _ (mean1 _ g) (mean2 _ g)) (gateNorm _)).trans (delta4 _ _ _ _)).symm)
  · exact ((h c).2.2.2.2.2.2.2.2.2.2.2.2.2.2.2.2.2.2.2.1.trans (val_main_v149_eq ..)).trans ((congr (congrArg (val_main_v149 (F := Ideal)) e0) e14).trans
      ((congrArg (mean1 _) (gateNorm _)).trans (first4 _ _)).symm)
  · exact ((h c).2.2.2.2.2.2.2.2.2.2.2.2.2.2.2.2.2.2.2.2.1.trans (val_main_v155_eq ..)).trans ((congr (congrArg (val_main_v155 (F := Ideal)) e0) e15).trans
      ((congrArg (mean2 _) (gateNorm _)).trans (second4 _ _)).symm)

end Cert.Proof

end
-- ==== Proof.lean ====
module

public import proofs.«01_k».proof.Defs
public import proofs.«01_k».proof.Proof.Gen.GateUp.Frame
public import proofs.«01_k».proof.Proof.Same
public import proofs.«01_k».proof.Proof.GateUpRun
public import proofs.«01_k».proof.Proof.Gen.GateUpRefIdeal.Run
public import proofs.«01_k».proof.Proof.Gen.GateUpRefIdeal.Read
public import proofs.«01_k».proof.Proof.GateUpValue
public import proofs.«01_k».proof.Proof.Gen.GwDown.Frame
public import proofs.«01_k».proof.Proof.Gen.GwDownIdeal.Value
public import proofs.«01_k».proof.Proof.Gen.GwDownRefIdeal.Run
public import proofs.«01_k».proof.Proof.Gen.GwDownRefIdeal.Read
public import proofs.«01_k».proof.Proof.GwDownValue
public import proofs.«01_k».proof.Proof.Gen.GwOut.Frame
public import proofs.«01_k».proof.Proof.Gen.GwOutIdeal.Value
public import proofs.«01_k».proof.Proof.Gen.GwOutRefIdeal.Run
public import proofs.«01_k».proof.Proof.Gen.GwOutRefIdeal.Read
public import proofs.«01_k».proof.Proof.GwOutValue
public import proofs.«01_k».proof.Proof.Gen.GwGateUp.Frame
public import proofs.«01_k».proof.Proof.Gen.GwGateUpIdeal.Value
public import proofs.«01_k».proof.Proof.Gen.GwGateUpRefIdeal.Run
public import proofs.«01_k».proof.Proof.Gen.GwGateUpRefIdeal.Read
public import proofs.«01_k».proof.Proof.GwGateUpValue
public import proofs.«01_k».proof.Proof.Gen.GwIn.Frame
public import proofs.«01_k».proof.Proof.Gen.GwInIdeal.Value
public import proofs.«01_k».proof.Proof.Gen.GwInRefIdeal.Run
public import proofs.«01_k».proof.Proof.Gen.GwInRefIdeal.Read
public import proofs.«01_k».proof.Proof.GwInValue
public import proofs.«01_k».proof.Proof.Gen.Dact.Frame
public import proofs.«01_k».proof.Proof.Gen.DactIdeal.Value
public import proofs.«01_k».proof.Proof.Gen.DactRefIdeal.Run
public import proofs.«01_k».proof.Proof.Gen.DactRefIdeal.Read
public import proofs.«01_k».proof.Proof.DactValue
public import proofs.«01_k».proof.Proof.Gen.Dgu.Frame
public import proofs.«01_k».proof.Proof.Gen.DguIdeal.Value
public import proofs.«01_k».proof.Proof.Gen.DguRefIdeal.Run
public import proofs.«01_k».proof.Proof.Gen.DguRefIdeal.Read
public import proofs.«01_k».proof.Proof.DguValue
public import proofs.«01_k».proof.Proof.Gen.DownLoss.Frame
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.DownLossValue
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProjValue
public import proofs.«01_k».proof.Proof.Gen.Din.Frame
public import proofs.«01_k».proof.Proof.Gen.DinIdeal.Value
public import proofs.«01_k».proof.Proof.Gen.DinRefIdeal.Run
public import proofs.«01_k».proof.Proof.Gen.DinRefIdeal.Read
public import proofs.«01_k».proof.Proof.DinValue
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamInRefIdeal.Read
public import proofs.«01_k».proof.Proof.AdamInValue
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamOutRefIdeal.Read
public import proofs.«01_k».proof.Proof.AdamOutValue
public import proofs.«01_k».proof.Proof.Gen.AdamGateUp.Frame
public import proofs.«01_k».proof.Proof.Gen.AdamGateUpIdeal.Frame
public import proofs.«01_k».proof.Proof.Gen.AdamGateUpRefIdeal.Run
public import proofs.«01_k».proof.Proof.Gen.AdamGateUpRefIdeal.Read
public import proofs.«01_k».proof.Proof.AdamGateUpValue
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.AdamDownRefIdeal.Read
public import proofs.«01_k».proof.Proof.AdamDownValue
public import proofs.«01_k».proof.Proof.Gen.Small.Frame
public import proofs.«01_k».proof.Proof.SmallRun
public import proofs.«01_k».proof.Proof.Gen.SmallRefIdeal.Run
public import proofs.«01_k».proof.Proof.Gen.SmallRefIdeal.Read
public import proofs.«01_k».proof.Proof.SmallValue
public import Idealize.ShloMosaic.Adequacy
public import Idealize.ShloMosaic.Init
public import Idealize.ShloMosaic.Lib.Quiescent

@[expose] public section

noncomputable section

namespace Cert.Proof

open Idealize.ShloMosaic Idealize.SL.Sem

/-- The reference of `GateUp` (the gate and up projections with the gated product and what its gradient needs): its run leaves its arguments as they were. It declares no
    semaphore, so its counters stay at zero. -/
theorem rest_GateUp : quiescent_GateUpRefIdeal := fun m ρ _ =>
  (θ_run Cert.GateUpRefIdeal.defs _ _).mono (fun r h => ⟨fun c => (h c).2.2.2.2.2, sem_eq_zero_of_no_sems (by decide) r.2⟩)
    (Cert.GateUpRefIdeal.Value.run (F := Ideal) m ρ)

/-- The reference of `GwDown` (the gradient of the down projection's weight): its run leaves its arguments as they were. It declares no
    semaphore, so its counters stay at zero. -/
theorem rest_GwDown : quiescent_GwDownRefIdeal := fun m ρ _ =>
  (θ_run Cert.GwDownRefIdeal.defs _ _).mono (fun r h => ⟨fun c => (h c).2, sem_eq_zero_of_no_sems (by decide) r.2⟩)
    (Cert.GwDownRefIdeal.Value.run (F := Ideal) m ρ)

/-- The reference of `GwOut` (the gradient of the mixer's output projection): its run leaves its arguments as they were. It declares no
    semaphore, so its counters stay at zero. -/
theorem rest_GwOut : quiescent_GwOutRefIdeal := fun m ρ _ =>
  (θ_run Cert.GwOutRefIdeal.defs _ _).mono (fun r h => ⟨fun c => (h c).2, sem_eq_zero_of_no_sems (by decide) r.2⟩)
    (Cert.GwOutRefIdeal.Value.run (F := Ideal) m ρ)

/-- The reference of `GwGateUp` (the gradient of the gate and up projections' weights, by owner): its run leaves its arguments as they were. It declares no
    semaphore, so its counters stay at zero. -/
theorem rest_GwGateUp : quiescent_GwGateUpRefIdeal := fun m ρ _ =>
  (θ_run Cert.GwGateUpRefIdeal.defs _ _).mono (fun r h => ⟨fun c => (h c).2, sem_eq_zero_of_no_sems (by decide) r.2⟩)
    (Cert.GwGateUpRefIdeal.Value.run (F := Ideal) m ρ)

/-- The reference of `GwIn` (the gradient of the input projection's weight, by owner): its run leaves its arguments as they were. It declares no
    semaphore, so its counters stay at zero. -/
theorem rest_GwIn : quiescent_GwInRefIdeal := fun m ρ _ =>
  (θ_run Cert.GwInRefIdeal.defs _ _).mono (fun r h => ⟨fun c => (h c).2, sem_eq_zero_of_no_sems (by decide) r.2⟩)
    (Cert.GwInRefIdeal.Value.run (F := Ideal) m ρ)

/-- The reference of `Dact` (the gradient of the gated product `silu(gate)·up` taken back to the two halves): its run leaves its arguments as they were. It declares no
    semaphore, so its counters stay at zero. -/
theorem rest_Dact : quiescent_DactRefIdeal := fun m ρ _ =>
  (θ_run Cert.DactRefIdeal.defs _ _).mono (fun r h => ⟨fun c => (h c).2, sem_eq_zero_of_no_sems (by decide) r.2⟩)
    (Cert.DactRefIdeal.Value.run (F := Ideal) m ρ)

/-- The reference of `Dgu` (the gradient of the second norm, with the products before and after it): its run leaves its arguments as they were. It declares no
    semaphore, so its counters stay at zero. -/
theorem rest_Dgu : quiescent_DguRefIdeal := fun m ρ _ =>
  (θ_run Cert.DguRefIdeal.defs _ _).mono (fun r h => ⟨fun c => (h c).2.2.2, sem_eq_zero_of_no_sems (by decide) r.2⟩)
    (Cert.DguRefIdeal.Value.run (F := Ideal) m ρ)

/-- The reference of `DownLoss` (the down projection, the final norm and loss, and their gradients): its run leaves its arguments as they were. It declares no
    semaphore, so its counters stay at zero. -/
theorem rest_DownLoss : quiescent_DownLossRefIdeal := fun m ρ _ =>
  (θ_run Cert.DownLossRefIdeal.defs _ _).mono (fun r h => ⟨fun c => (h c).2.2.2, sem_eq_zero_of_no_sems (by decide) r.2⟩)
    (Cert.DownLossRefIdeal.Value.run (F := Ideal) m ρ)

/-- The reference of `OutProj` (the mixer's output projection with the residual): its run leaves its arguments as they were. It declares no
    semaphore, so its counters stay at zero. -/
theorem rest_OutProj : quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

/-- The reference of `Din` (the gradient of the rotary embedding, the input projection and the first norm: the gradient of `x`): its run leaves its arguments as they were. It declares no
    semaphore, so its counters stay at zero. -/
theorem rest_Din : quiescent_DinRefIdeal := fun m ρ _ =>
  (θ_run Cert.DinRefIdeal.defs _ _).mono (fun r h => ⟨fun c => (h c).2.2.2, sem_eq_zero_of_no_sems (by decide) r.2⟩)
    (Cert.DinRefIdeal.Value.run (F := Ideal) m ρ)

/-- The reference of `AdamIn` (the optimiser on the input projection's weight, one device's shard): its run leaves its arguments as they were. It declares no
    semaphore, so its counters stay at zero. -/
theorem rest_AdamIn : quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

/-- The reference of `AdamOut` (the optimiser on the output projection's weight, one device's shard): its run leaves its arguments as they were. It declares no
    semaphore, so its counters stay at zero. -/
theorem rest_AdamOut : quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

/-- The reference of `AdamGateUp` (the optimiser on the gate and up weight, one device's shard): its run leaves its arguments as they were. It declares no
    semaphore, so its counters stay at zero. -/
theorem rest_AdamGateUp : quiescent_AdamGateUpRefIdeal := fun m ρ _ =>
  (θ_run Cert.AdamGateUpRefIdeal.defs _ _).mono (fun r h => ⟨fun c => (h c).2.2.2.2, sem_eq_zero_of_no_sems (by decide) r.2⟩)
    (Cert.AdamGateUpRefIdeal.Value.run (F := Ideal) m ρ)

/-- The reference of `AdamDown` (the optimiser on the down weight, one device's shard): its run leaves its arguments as they were. It declares no
    semaphore, so its counters stay at zero. -/
theorem rest_AdamDown : quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

/-- The reference of `Small` (the loss, the small gradients and the optimiser on the small parameters): its run leaves its arguments as they were. It declares no
    semaphore, so its counters stay at zero. -/
theorem rest_Small : quiescent_SmallRefIdeal := fun m ρ _ =>
  (θ_run Cert.SmallRefIdeal.defs _ _).mono (fun r h => ⟨fun c => (h c).2.2.2.2.2.2.2.2.2.2.2.2.2.2.2.2.2.2.2.2.2, sem_eq_zero_of_no_sems (by decide) r.2⟩)
    (Cert.SmallRefIdeal.Value.run (F := Ideal) m ρ)

/-- Everything the certificate states: the side conditions of every program, every frame, and every value. -/
theorem claim : Cert.Claim := ⟨Cert.GateUp.Gen.facts,
  Cert.GateUpIdeal.Gen.facts,
  Cert.GateUpRefIdeal.Gen.facts,
  Cert.GwDown.Gen.facts,
  Cert.GwDownIdeal.Gen.facts,
  Cert.GwDownRefIdeal.Gen.facts,
  Cert.GwOut.Gen.facts,
  Cert.GwOutIdeal.Gen.facts,
  Cert.GwOutRefIdeal.Gen.facts,
  Cert.GwGateUp.Gen.facts,
  Cert.GwGateUpIdeal.Gen.facts,
  Cert.GwGateUpRefIdeal.Gen.facts,
  Cert.GwIn.Gen.facts,
  Cert.GwInIdeal.Gen.facts,
  Cert.GwInRefIdeal.Gen.facts,
  Cert.Dact.Gen.facts,
  Cert.DactIdeal.Gen.facts,
  Cert.DactRefIdeal.Gen.facts,
  Cert.Dgu.Gen.facts,
  Cert.DguIdeal.Gen.facts,
  Cert.DguRefIdeal.Gen.facts,
  Cert.DownLoss.Gen.facts,
  Cert.DownLossIdeal.Gen.facts,
  Cert.DownLossRefIdeal.Gen.facts,
  Cert.OutProj.Gen.facts,
  Cert.OutProjIdeal.Gen.facts,
  Cert.OutProjRefIdeal.Gen.facts,
  Cert.Din.Gen.facts,
  Cert.DinIdeal.Gen.facts,
  Cert.DinRefIdeal.Gen.facts,
  Cert.AdamIn.Gen.facts,
  Cert.AdamInIdeal.Gen.facts,
  Cert.AdamInRefIdeal.Gen.facts,
  Cert.AdamOut.Gen.facts,
  Cert.AdamOutIdeal.Gen.facts,
  Cert.AdamOutRefIdeal.Gen.facts,
  Cert.AdamGateUp.Gen.facts,
  Cert.AdamGateUpIdeal.Gen.facts,
  Cert.AdamGateUpRefIdeal.Gen.facts,
  Cert.AdamDown.Gen.facts,
  Cert.AdamDownIdeal.Gen.facts,
  Cert.AdamDownRefIdeal.Gen.facts,
  Cert.Small.Gen.facts,
  Cert.SmallIdeal.Gen.facts,
  Cert.SmallRefIdeal.Gen.facts,
  Cert.Pre_gate_up_finite.Gen.facts,
  Cert.Pre_dact_finite.Gen.facts,
  Cert.Pre_dgu_finite.Gen.facts,
  Cert.Pre_down_loss_finite.Gen.facts,
  Cert.Pre_din_finite.Gen.facts,
  Cert.Pre_small_finite.Gen.facts,
  fun m ρ _ => Step.Same.GateUp.frame m ρ,
  fun m ρ _ => Step.GateUpRun.frame m ρ,
  fun m ρ _ => Step.GateUpRun.frame m ρ,
  rest_GateUp,
  fun m ρ _ => rest_GateUp m ρ _root_.trivial,
  fun m ρ _ => Cert.GwDown.Gen.frame m ρ,
  fun m ρ _ => Cert.GwDownIdeal.Gen.frame m ρ,
  rest_GwDown,
  fun m ρ _ => Cert.GwOut.Gen.frame m ρ,
  fun m ρ _ => Cert.GwOutIdeal.Gen.frame m ρ,
  rest_GwOut,
  fun m ρ _ => Cert.GwGateUp.Gen.frame m ρ,
  fun m ρ _ => Cert.GwGateUpIdeal.Gen.frame m ρ,
  rest_GwGateUp,
  fun m ρ _ => Cert.GwIn.Gen.frame m ρ,
  fun m ρ _ => Cert.GwInIdeal.Gen.frame m ρ,
  rest_GwIn,
  fun m ρ _ => Cert.Dact.Gen.frame m ρ,
  fun m ρ _ => Cert.DactIdeal.Gen.frame m ρ,
  fun m ρ _ => Cert.DactIdeal.Gen.frame m ρ,
  rest_Dact,
  fun m ρ _ => rest_Dact m ρ _root_.trivial,
  fun m ρ _ => Cert.Dgu.Gen.frame m ρ,
  fun m ρ _ => Cert.DguIdeal.Gen.frame m ρ,
  fun m ρ _ => Cert.DguIdeal.Gen.frame m ρ,
  rest_Dgu,
  fun m ρ _ => rest_Dgu m ρ _root_.trivial,
  fun m ρ _ => Cert.DownLoss.Gen.frame m ρ,
  fun m ρ _ => Cert.DownLossIdeal.Gen.frame m ρ,
  fun m ρ _ => Cert.DownLossIdeal.Gen.frame m ρ,
  rest_DownLoss,
  fun m ρ _ => rest_DownLoss m ρ _root_.trivial,
  fun m ρ _ => Cert.OutProj.Gen.frame m ρ,
  fun m ρ _ => Cert.OutProjIdeal.Gen.frame m ρ,
  rest_OutProj,
  fun m ρ _ => Cert.Din.Gen.frame m ρ,
  fun m ρ _ => Cert.DinIdeal.Gen.frame m ρ,
  fun m ρ _ => Cert.DinIdeal.Gen.frame m ρ,
  rest_Din,
  fun m ρ _ => rest_Din m ρ _root_.trivial,
  fun m ρ _ => Cert.AdamIn.Gen.frame m ρ (Cert.AdamIn.Table.ok m),
  fun m ρ _ => Cert.AdamInIdeal.Gen.frame m ρ (Cert.AdamInIdeal.Table.ok m),
  rest_AdamIn,
  fun m ρ _ => Cert.AdamOut.Gen.frame m ρ (Cert.AdamOut.Table.ok m),
  fun m ρ _ => Cert.AdamOutIdeal.Gen.frame m ρ (Cert.AdamOutIdeal.Table.ok m),
  rest_AdamOut,
  fun m ρ _ => Cert.AdamGateUp.Gen.frame m ρ (Cert.AdamGateUp.Table.ok m),
  fun m ρ _ => Cert.AdamGateUpIdeal.Gen.frame m ρ (Cert.AdamGateUpIdeal.Table.ok m),
  rest_AdamGateUp,
  fun m ρ _ => Cert.AdamDown.Gen.frame m ρ (Cert.AdamDown.Table.ok m),
  fun m ρ _ => Cert.AdamDownIdeal.Gen.frame m ρ (Cert.AdamDownIdeal.Table.ok m),
  rest_AdamDown,
  fun m ρ _ => Step.Same.Small.frame m ρ,
  fun m ρ _ => Step.SmallRun.frame m ρ,
  fun m ρ _ => Step.SmallRun.frame m ρ,
  rest_Small,
  fun m ρ _ => rest_Small m ρ _root_.trivial,
  trivial,
  algebraic_GateUp,
  trivial,
  algebraic_GwDown,
  trivial,
  algebraic_GwOut,
  trivial,
  algebraic_GwGateUp,
  trivial,
  algebraic_GwIn,
  trivial,
  algebraic_Dact,
  trivial,
  algebraic_Dgu,
  trivial,
  algebraic_DownLoss,
  trivial,
  algebraic_OutProj,
  trivial,
  algebraic_Din,
  trivial,
  algebraic_AdamIn,
  trivial,
  algebraic_AdamOut,
  trivial,
  algebraic_AdamGateUp,
  trivial,
  algebraic_AdamDown,
  trivial,
  algebraic_Small⟩

end Cert.Proof

end
